-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsReferenceIdeal (m : (ℓ : Loc Cert.WeightsReferenceIdeal.nD Cert.WeightsReferenceIdeal.τ Cert.WeightsReferenceIdeal.sig) → Buf (Elt Ideal) ℓ) : Prop :=
  True

def Pre_WeightsReference (m : (ℓ : Loc Cert.WeightsReference.nD Cert.WeightsReference.τ Cert.WeightsReference.sig) → Buf (Elt Bits) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_ModReference (m : (ℓ : Loc Cert.ModReference.nD Cert.ModReference.τ Cert.ModReference.sig) → Buf (Elt Bits) ℓ) : Prop :=
  True

def Pre_Cond (m : (ℓ : Loc Cert.Cond.nD Cert.Cond.τ Cert.Cond.sig) → Buf (Elt Bits) ℓ) : Prop :=
  True

def Pre_CondIdeal (m : (ℓ : Loc Cert.CondIdeal.nD Cert.CondIdeal.τ Cert.CondIdeal.sig) → Buf (Elt Ideal) ℓ) : Prop :=
  True

def Pre_CondReferenceIdeal (m : (ℓ : Loc Cert.CondReferenceIdeal.nD Cert.CondReferenceIdeal.τ Cert.CondReferenceIdeal.sig) → Buf (Elt Ideal) ℓ) : Prop :=
  True

def Pre_CondReference (m : (ℓ : Loc Cert.CondReference.nD Cert.CondReference.τ Cert.CondReference.sig) → Buf (Elt Bits) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjReferenceIdeal (m : (ℓ : Loc Cert.UpProjReferenceIdeal.nD Cert.UpProjReferenceIdeal.τ Cert.UpProjReferenceIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjReferenceIdeal (m : (ℓ : Loc Cert.DownProjReferenceIdeal.nD Cert.DownProjReferenceIdeal.τ Cert.DownProjReferenceIdeal.sig) → Buf (Elt Ideal) ℓ) : Prop :=
  True

def Pre_DownDgrad (m : (ℓ : Loc Cert.DownDgrad.nD Cert.DownDgrad.τ Cert.DownDgrad.sig) → Buf (Elt Bits) ℓ) : Prop :=
  True

def Pre_DownDgradIdeal (m : (ℓ : Loc Cert.DownDgradIdeal.nD Cert.DownDgradIdeal.τ Cert.DownDgradIdeal.sig) → Buf (Elt Ideal) ℓ) : Prop :=
  True

def Pre_DownDgradReferenceIdeal (m : (ℓ : Loc Cert.DownDgradReferenceIdeal.nD Cert.DownDgradReferenceIdeal.τ Cert.DownDgradReferenceIdeal.sig) → Buf (Elt Ideal) ℓ) : Prop :=
  True

def Pre_UpDgrad (m : (ℓ : Loc Cert.UpDgrad.nD Cert.UpDgrad.τ Cert.UpDgrad.sig) → Buf (Elt Bits) ℓ) : Prop :=
  True

def Pre_UpDgradIdeal (m : (ℓ : Loc Cert.UpDgradIdeal.nD Cert.UpDgradIdeal.τ Cert.UpDgradIdeal.sig) → Buf (Elt Ideal) ℓ) : Prop :=
  True

def Pre_UpDgradReferenceIdeal (m : (ℓ : Loc Cert.UpDgradReferenceIdeal.nD Cert.UpDgradReferenceIdeal.τ Cert.UpDgradReferenceIdeal.sig) → Buf (Elt Ideal) ℓ) : Prop :=
  True

def Pre_OutDgrad (m : (ℓ : Loc Cert.OutDgrad.nD Cert.OutDgrad.τ Cert.OutDgrad.sig) → Buf (Elt Bits) ℓ) : Prop :=
  True

def Pre_OutDgradIdeal (m : (ℓ : Loc Cert.OutDgradIdeal.nD Cert.OutDgradIdeal.τ Cert.OutDgradIdeal.sig) → Buf (Elt Ideal) ℓ) : Prop :=
  True

def Pre_OutDgradReferenceIdeal (m : (ℓ : Loc Cert.OutDgradReferenceIdeal.nD Cert.OutDgradReferenceIdeal.τ Cert.OutDgradReferenceIdeal.sig) → Buf (Elt Ideal) ℓ) : Prop :=
  True

def Pre_InDgrad (m : (ℓ : Loc Cert.InDgrad.nD Cert.InDgrad.τ Cert.InDgrad.sig) → Buf (Elt Bits) ℓ) : Prop :=
  True

def Pre_InDgradIdeal (m : (ℓ : Loc Cert.InDgradIdeal.nD Cert.InDgradIdeal.τ Cert.InDgradIdeal.sig) → Buf (Elt Ideal) ℓ) : Prop :=
  True

def Pre_InDgradReferenceIdeal (m : (ℓ : Loc Cert.InDgradReferenceIdeal.nD Cert.InDgradReferenceIdeal.τ Cert.InDgradReferenceIdeal.sig) → Buf (Elt Ideal) ℓ) : Prop :=
  True

def Pre_DownWgrad (m : (ℓ : Loc Cert.DownWgrad.nD Cert.DownWgrad.τ Cert.DownWgrad.sig) → Buf (Elt Bits) ℓ) : Prop :=
  True

def Pre_DownWgradIdeal (m : (ℓ : Loc Cert.DownWgradIdeal.nD Cert.DownWgradIdeal.τ Cert.DownWgradIdeal.sig) → Buf (Elt Ideal) ℓ) : Prop :=
  True

def Pre_DownWgradReferenceIdeal (m : (ℓ : Loc Cert.DownWgradReferenceIdeal.nD Cert.DownWgradReferenceIdeal.τ Cert.DownWgradReferenceIdeal.sig) → Buf (Elt Ideal) ℓ) : Prop :=
  True

def Pre_UpWgrad (m : (ℓ : Loc Cert.UpWgrad.nD Cert.UpWgrad.τ Cert.UpWgrad.sig) → Buf (Elt Bits) ℓ) : Prop :=
  True

def Pre_UpWgradIdeal (m : (ℓ : Loc Cert.UpWgradIdeal.nD Cert.UpWgradIdeal.τ Cert.UpWgradIdeal.sig) → Buf (Elt Ideal) ℓ) : Prop :=
  True

def Pre_UpWgradReferenceIdeal (m : (ℓ : Loc Cert.UpWgradReferenceIdeal.nD Cert.UpWgradReferenceIdeal.τ Cert.UpWgradReferenceIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradReferenceIdeal (m : (ℓ : Loc Cert.OutWgradReferenceIdeal.nD Cert.OutWgradReferenceIdeal.τ Cert.OutWgradReferenceIdeal.sig) → Buf (Elt Ideal) ℓ) : Prop :=
  True

def Pre_InWgrad (m : (ℓ : Loc Cert.InWgrad.nD Cert.InWgrad.τ Cert.InWgrad.sig) → Buf (Elt Bits) ℓ) : Prop :=
  True

def Pre_InWgradIdeal (m : (ℓ : Loc Cert.InWgradIdeal.nD Cert.InWgradIdeal.τ Cert.InWgradIdeal.sig) → Buf (Elt Ideal) ℓ) : Prop :=
  True

def Pre_InWgradReferenceIdeal (m : (ℓ : Loc Cert.InWgradReferenceIdeal.nD Cert.InWgradReferenceIdeal.τ Cert.InWgradReferenceIdeal.sig) → Buf (Elt Ideal) ℓ) : Prop :=
  True

def Pre_Norm1Bwd (m : (ℓ : Loc Cert.Norm1Bwd.nD Cert.Norm1Bwd.τ Cert.Norm1Bwd.sig) → Buf (Elt Bits) ℓ) : Prop :=
  True

def Pre_Norm1BwdIdeal (m : (ℓ : Loc Cert.Norm1BwdIdeal.nD Cert.Norm1BwdIdeal.τ Cert.Norm1BwdIdeal.sig) → Buf (Elt Ideal) ℓ) : Prop :=
  True

def Pre_Norm1BwdReferenceIdeal (m : (ℓ : Loc Cert.Norm1BwdReferenceIdeal.nD Cert.Norm1BwdReferenceIdeal.τ Cert.Norm1BwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3)
      ∧ r.2.mem ((c.tc : Thread Cert.SmallReferenceIdeal.nD Cert.SmallReferenceIdeal.τ).loc Cert.SmallReferenceIdeal.main_arg4) = m ((c.tc : Thread Cert.SmallReferenceIdeal.nD Cert.SmallReferenceIdeal.τ).loc Cert.SmallReferenceIdeal.main_arg4)
      ∧ r.2.mem ((c.tc : Thread Cert.SmallReferenceIdeal.nD Cert.SmallReferenceIdeal.τ).loc Cert.SmallReferenceIdeal.main_arg5) = m ((c.tc : Thread Cert.SmallReferenceIdeal.nD Cert.SmallReferenceIdeal.τ).loc Cert.SmallReferenceIdeal.main_arg5)
      ∧ r.2.mem ((c.tc : Thread Cert.SmallReferenceIdeal.nD Cert.SmallReferenceIdeal.τ).loc Cert.SmallReferenceIdeal.main_arg6) = m ((c.tc : Thread Cert.SmallReferenceIdeal.nD Cert.SmallReferenceIdeal.τ).loc Cert.SmallReferenceIdeal.main_arg6)
      ∧ r.2.mem ((c.tc : Thread Cert.SmallReferenceIdeal.nD Cert.SmallReferenceIdeal.τ).loc Cert.SmallReferenceIdeal.main_arg7) = m ((c.tc : Thread Cert.SmallReferenceIdeal.nD Cert.SmallReferenceIdeal.τ).loc Cert.SmallReferenceIdeal.main_arg7))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0))
      ∧ r.2.sem = fun _ => 0)

def quiescent_WeightsReferenceIdeal [hWeightsReferenceIdeal : Cert.WeightsReferenceIdeal.Facts] : Prop :=
  ∀ (m : (ℓ : Loc Cert.WeightsReferenceIdeal.nD Cert.WeightsReferenceIdeal.τ Cert.WeightsReferenceIdeal.sig) → Buf (Elt Ideal) ℓ) (g : Dev Cert.WeightsReferenceIdeal.nD → PrngReg), Pre_WeightsReferenceIdeal m →
    θ_run (Cert.WeightsReferenceIdeal.defs (F := Ideal)) (onTc (τ := Cert.WeightsReferenceIdeal.τ) (Cert.WeightsReferenceIdeal.main (F := Ideal))) ⟨m, fun _ => 0, g⟩ (fun r => (∀ c : Dev Cert.WeightsReferenceIdeal.nD,
      r.2.mem ((c.tc : Thread Cert.WeightsReferenceIdeal.nD Cert.WeightsReferenceIdeal.τ).loc Cert.WeightsReferenceIdeal.main_arg0) = m ((c.tc : Thread Cert.WeightsReferenceIdeal.nD Cert.WeightsReferenceIdeal.τ).loc Cert.WeightsReferenceIdeal.main_arg0))
      ∧ r.2.sem = fun _ => 0)

def quiescent_WeightsReference [hWeightsReference : Cert.WeightsReference.Facts] : Prop :=
  ∀ (m : (ℓ : Loc Cert.WeightsReference.nD Cert.WeightsReference.τ Cert.WeightsReference.sig) → Buf (Elt Bits) ℓ) (g : Dev Cert.WeightsReference.nD → PrngReg), Pre_WeightsReference m →
    θ_run (Cert.WeightsReference.defs (F := Bits)) (onTc (τ := Cert.WeightsReference.τ) (Cert.WeightsReference.main (F := Bits))) ⟨m, fun _ => 0, g⟩ (fun r => (∀ c : Dev Cert.WeightsReference.nD,
      r.2.mem ((c.tc : Thread Cert.WeightsReference.nD Cert.WeightsReference.τ).loc Cert.WeightsReference.main_arg0) = m ((c.tc : Thread Cert.WeightsReference.nD Cert.WeightsReference.τ).loc Cert.WeightsReference.main_arg0))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0))
      ∧ r.2.sem = fun _ => 0)

def quiescent_ModReference [hModReference : Cert.ModReference.Facts] : Prop :=
  ∀ (m : (ℓ : Loc Cert.ModReference.nD Cert.ModReference.τ Cert.ModReference.sig) → Buf (Elt Bits) ℓ) (g : Dev Cert.ModReference.nD → PrngReg), Pre_ModReference m →
    θ_run (Cert.ModReference.defs (F := Bits)) (onTc (τ := Cert.ModReference.τ) (Cert.ModReference.main (F := Bits))) ⟨m, fun _ => 0, g⟩ (fun r => (∀ c : Dev Cert.ModReference.nD,
      r.2.mem ((c.tc : Thread Cert.ModReference.nD Cert.ModReference.τ).loc Cert.ModReference.main_arg0) = m ((c.tc : Thread Cert.ModReference.nD Cert.ModReference.τ).loc Cert.ModReference.main_arg0))
      ∧ r.2.sem = fun _ => 0)

def quiescent_Cond [hCond : Cert.Cond.Facts] : Prop :=
  ∀ (m : (ℓ : Loc Cert.Cond.nD Cert.Cond.τ Cert.Cond.sig) → Buf (Elt Bits) ℓ) (g : Dev Cert.Cond.nD → PrngReg), Pre_Cond m →
    θ_run (Cert.Cond.defs (F := Bits)) (onTc (τ := Cert.Cond.τ) (Cert.Cond.main (F := Bits))) ⟨m, fun _ => 0, g⟩ (fun r => (∀ c : Dev Cert.Cond.nD,
      r.2.mem ((c.tc : Thread Cert.Cond.nD Cert.Cond.τ).loc Cert.Cond.main_arg0) = m ((c.tc : Thread Cert.Cond.nD Cert.Cond.τ).loc Cert.Cond.main_arg0))
      ∧ r.2.sem = fun _ => 0)

def quiescent_CondIdeal [hCondIdeal : Cert.CondIdeal.Facts] : Prop :=
  ∀ (m : (ℓ : Loc Cert.CondIdeal.nD Cert.CondIdeal.τ Cert.CondIdeal.sig) → Buf (Elt Ideal) ℓ) (g : Dev Cert.CondIdeal.nD → PrngReg), Pre_CondIdeal m →
    θ_run (Cert.CondIdeal.defs (F := Ideal)) (onTc (τ := Cert.CondIdeal.τ) (Cert.CondIdeal.main (F := Ideal))) ⟨m, fun _ => 0, g⟩ (fun r => (∀ c : Dev Cert.CondIdeal.nD,
      r.2.mem ((c.tc : Thread Cert.CondIdeal.nD Cert.CondIdeal.τ).loc Cert.CondIdeal.main_arg0) = m ((c.tc : Thread Cert.CondIdeal.nD Cert.CondIdeal.τ).loc Cert.CondIdeal.main_arg0))
      ∧ r.2.sem = fun _ => 0)

def quiescent_CondReferenceIdeal [hCondReferenceIdeal : Cert.CondReferenceIdeal.Facts] : Prop :=
  ∀ (m : (ℓ : Loc Cert.CondReferenceIdeal.nD Cert.CondReferenceIdeal.τ Cert.CondReferenceIdeal.sig) → Buf (Elt Ideal) ℓ) (g : Dev Cert.CondReferenceIdeal.nD → PrngReg), Pre_CondReferenceIdeal m →
    θ_run (Cert.CondReferenceIdeal.defs (F := Ideal)) (onTc (τ := Cert.CondReferenceIdeal.τ) (Cert.CondReferenceIdeal.main (F := Ideal))) ⟨m, fun _ => 0, g⟩ (fun r => (∀ c : Dev Cert.CondReferenceIdeal.nD,
      r.2.mem ((c.tc : Thread Cert.CondReferenceIdeal.nD Cert.CondReferenceIdeal.τ).loc Cert.CondReferenceIdeal.main_arg0) = m ((c.tc : Thread Cert.CondReferenceIdeal.nD Cert.CondReferenceIdeal.τ).loc Cert.CondReferenceIdeal.main_arg0))
      ∧ r.2.sem = fun _ => 0)

def quiescent_CondReference [hCondReference : Cert.CondReference.Facts] : Prop :=
  ∀ (m : (ℓ : Loc Cert.CondReference.nD Cert.CondReference.τ Cert.CondReference.sig) → Buf (Elt Bits) ℓ) (g : Dev Cert.CondReference.nD → PrngReg), Pre_CondReference m →
    θ_run (Cert.CondReference.defs (F := Bits)) (onTc (τ := Cert.CondReference.τ) (Cert.CondReference.main (F := Bits))) ⟨m, fun _ => 0, g⟩ (fun r => (∀ c : Dev Cert.CondReference.nD,
      r.2.mem ((c.tc : Thread Cert.CondReference.nD Cert.CondReference.τ).loc Cert.CondReference.main_arg0) = m ((c.tc : Thread Cert.CondReference.nD Cert.CondReference.τ).loc Cert.CondReference.main_arg0))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ r.2.sem = fun _ => 0)

def quiescent_UpProjReferenceIdeal [hUpProjReferenceIdeal : Cert.UpProjReferenceIdeal.Facts] : Prop :=
  ∀ (m : (ℓ : Loc Cert.UpProjReferenceIdeal.nD Cert.UpProjReferenceIdeal.τ Cert.UpProjReferenceIdeal.sig) → Buf (Elt Ideal) ℓ) (g : Dev Cert.UpProjReferenceIdeal.nD → PrngReg), Pre_UpProjReferenceIdeal m →
    θ_run (Cert.UpProjReferenceIdeal.defs (F := Ideal)) (onTc (τ := Cert.UpProjReferenceIdeal.τ) (Cert.UpProjReferenceIdeal.main (F := Ideal))) ⟨m, fun _ => 0, g⟩ (fun r => (∀ c : Dev Cert.UpProjReferenceIdeal.nD,
      r.2.mem ((c.tc : Thread Cert.UpProjReferenceIdeal.nD Cert.UpProjReferenceIdeal.τ).loc Cert.UpProjReferenceIdeal.main_arg0) = m ((c.tc : Thread Cert.UpProjReferenceIdeal.nD Cert.UpProjReferenceIdeal.τ).loc Cert.UpProjReferenceIdeal.main_arg0)
      ∧ r.2.mem ((c.tc : Thread Cert.UpProjReferenceIdeal.nD Cert.UpProjReferenceIdeal.τ).loc Cert.UpProjReferenceIdeal.main_arg1) = m ((c.tc : Thread Cert.UpProjReferenceIdeal.nD Cert.UpProjReferenceIdeal.τ).loc Cert.UpProjReferenceIdeal.main_arg1))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1))
      ∧ r.2.sem = fun _ => 0)

def quiescent_DownProjReferenceIdeal [hDownProjReferenceIdeal : Cert.DownProjReferenceIdeal.Facts] : Prop :=
  ∀ (m : (ℓ : Loc Cert.DownProjReferenceIdeal.nD Cert.DownProjReferenceIdeal.τ Cert.DownProjReferenceIdeal.sig) → Buf (Elt Ideal) ℓ) (g : Dev Cert.DownProjReferenceIdeal.nD → PrngReg), Pre_DownProjReferenceIdeal m →
    θ_run (Cert.DownProjReferenceIdeal.defs (F := Ideal)) (onTc (τ := Cert.DownProjReferenceIdeal.τ) (Cert.DownProjReferenceIdeal.main (F := Ideal))) ⟨m, fun _ => 0, g⟩ (fun r => (∀ c : Dev Cert.DownProjReferenceIdeal.nD,
      r.2.mem ((c.tc : Thread Cert.DownProjReferenceIdeal.nD Cert.DownProjReferenceIdeal.τ).loc Cert.DownProjReferenceIdeal.main_arg0) = m ((c.tc : Thread Cert.DownProjReferenceIdeal.nD Cert.DownProjReferenceIdeal.τ).loc Cert.DownProjReferenceIdeal.main_arg0)
      ∧ r.2.mem ((c.tc : Thread Cert.DownProjReferenceIdeal.nD Cert.DownProjReferenceIdeal.τ).loc Cert.DownProjReferenceIdeal.main_arg1) = m ((c.tc : Thread Cert.DownProjReferenceIdeal.nD Cert.DownProjReferenceIdeal.τ).loc Cert.DownProjReferenceIdeal.main_arg1))
      ∧ r.2.sem = fun _ => 0)

def quiescent_DownDgrad [hDownDgrad : Cert.DownDgrad.Facts] : Prop :=
  ∀ (m : (ℓ : Loc Cert.DownDgrad.nD Cert.DownDgrad.τ Cert.DownDgrad.sig) → Buf (Elt Bits) ℓ) (g : Dev Cert.DownDgrad.nD → PrngReg), Pre_DownDgrad m →
    θ_run (Cert.DownDgrad.defs (F := Bits)) (onTc (τ := Cert.DownDgrad.τ) (Cert.DownDgrad.main (F := Bits))) ⟨m, fun _ => 0, g⟩ (fun r => (∀ c : Dev Cert.DownDgrad.nD,
      r.2.mem ((c.tc : Thread Cert.DownDgrad.nD Cert.DownDgrad.τ).loc Cert.DownDgrad.main_arg0) = m ((c.tc : Thread Cert.DownDgrad.nD Cert.DownDgrad.τ).loc Cert.DownDgrad.main_arg0)
      ∧ r.2.mem ((c.tc : Thread Cert.DownDgrad.nD Cert.DownDgrad.τ).loc Cert.DownDgrad.main_arg1) = m ((c.tc : Thread Cert.DownDgrad.nD Cert.DownDgrad.τ).loc Cert.DownDgrad.main_arg1))
      ∧ r.2.sem = fun _ => 0)

def quiescent_DownDgradIdeal [hDownDgradIdeal : Cert.DownDgradIdeal.Facts] : Prop :=
  ∀ (m : (ℓ : Loc Cert.DownDgradIdeal.nD Cert.DownDgradIdeal.τ Cert.DownDgradIdeal.sig) → Buf (Elt Ideal) ℓ) (g : Dev Cert.DownDgradIdeal.nD → PrngReg), Pre_DownDgradIdeal m →
    θ_run (Cert.DownDgradIdeal.defs (F := Ideal)) (onTc (τ := Cert.DownDgradIdeal.τ) (Cert.DownDgradIdeal.main (F := Ideal))) ⟨m, fun _ => 0, g⟩ (fun r => (∀ c : Dev Cert.DownDgradIdeal.nD,
      r.2.mem ((c.tc : Thread Cert.DownDgradIdeal.nD Cert.DownDgradIdeal.τ).loc Cert.DownDgradIdeal.main_arg0) = m ((c.tc : Thread Cert.DownDgradIdeal.nD Cert.DownDgradIdeal.τ).loc Cert.DownDgradIdeal.main_arg0)
      ∧ r.2.mem ((c.tc : Thread Cert.DownDgradIdeal.nD Cert.DownDgradIdeal.τ).loc Cert.DownDgradIdeal.main_arg1) = m ((c.tc : Thread Cert.DownDgradIdeal.nD Cert.DownDgradIdeal.τ).loc Cert.DownDgradIdeal.main_arg1))
      ∧ r.2.sem = fun _ => 0)

def quiescent_DownDgradReferenceIdeal [hDownDgradReferenceIdeal : Cert.DownDgradReferenceIdeal.Facts] : Prop :=
  ∀ (m : (ℓ : Loc Cert.DownDgradReferenceIdeal.nD Cert.DownDgradReferenceIdeal.τ Cert.DownDgradReferenceIdeal.sig) → Buf (Elt Ideal) ℓ) (g : Dev Cert.DownDgradReferenceIdeal.nD → PrngReg), Pre_DownDgradReferenceIdeal m →
    θ_run (Cert.DownDgradReferenceIdeal.defs (F := Ideal)) (onTc (τ := Cert.DownDgradReferenceIdeal.τ) (Cert.DownDgradReferenceIdeal.main (F := Ideal))) ⟨m, fun _ => 0, g⟩ (fun r => (∀ c : Dev Cert.DownDgradReferenceIdeal.nD,
      r.2.mem ((c.tc : Thread Cert.DownDgradReferenceIdeal.nD Cert.DownDgradReferenceIdeal.τ).loc Cert.DownDgradReferenceIdeal.main_arg0) = m ((c.tc : Thread Cert.DownDgradReferenceIdeal.nD Cert.DownDgradReferenceIdeal.τ).loc Cert.DownDgradReferenceIdeal.main_arg0)
      ∧ r.2.mem ((c.tc : Thread Cert.DownDgradReferenceIdeal.nD Cert.DownDgradReferenceIdeal.τ).loc Cert.DownDgradReferenceIdeal.main_arg1) = m ((c.tc : Thread Cert.DownDgradReferenceIdeal.nD Cert.DownDgradReferenceIdeal.τ).loc Cert.DownDgradReferenceIdeal.main_arg1))
      ∧ r.2.sem = fun _ => 0)

def quiescent_UpDgrad [hUpDgrad : Cert.UpDgrad.Facts] : Prop :=
  ∀ (m : (ℓ : Loc Cert.UpDgrad.nD Cert.UpDgrad.τ Cert.UpDgrad.sig) → Buf (Elt Bits) ℓ) (g : Dev Cert.UpDgrad.nD → PrngReg), Pre_UpDgrad m →
    θ_run (Cert.UpDgrad.defs (F := Bits)) (onTc (τ := Cert.UpDgrad.τ) (Cert.UpDgrad.main (F := Bits))) ⟨m, fun _ => 0, g⟩ (fun r => (∀ c : Dev Cert.UpDgrad.nD,
      r.2.mem ((c.tc : Thread Cert.UpDgrad.nD Cert.UpDgrad.τ).loc Cert.UpDgrad.main_arg0) = m ((c.tc : Thread Cert.UpDgrad.nD Cert.UpDgrad.τ).loc Cert.UpDgrad.main_arg0)
      ∧ r.2.mem ((c.tc : Thread Cert.UpDgrad.nD Cert.UpDgrad.τ).loc Cert.UpDgrad.main_arg1) = m ((c.tc : Thread Cert.UpDgrad.nD Cert.UpDgrad.τ).loc Cert.UpDgrad.main_arg1))
      ∧ r.2.sem = fun _ => 0)

def quiescent_UpDgradIdeal [hUpDgradIdeal : Cert.UpDgradIdeal.Facts] : Prop :=
  ∀ (m : (ℓ : Loc Cert.UpDgradIdeal.nD Cert.UpDgradIdeal.τ Cert.UpDgradIdeal.sig) → Buf (Elt Ideal) ℓ) (g : Dev Cert.UpDgradIdeal.nD → PrngReg), Pre_UpDgradIdeal m →
    θ_run (Cert.UpDgradIdeal.defs (F := Ideal)) (onTc (τ := Cert.UpDgradIdeal.τ) (Cert.UpDgradIdeal.main (F := Ideal))) ⟨m, fun _ => 0, g⟩ (fun r => (∀ c : Dev Cert.UpDgradIdeal.nD,
      r.2.mem ((c.tc : Thread Cert.UpDgradIdeal.nD Cert.UpDgradIdeal.τ).loc Cert.UpDgradIdeal.main_arg0) = m ((c.tc : Thread Cert.UpDgradIdeal.nD Cert.UpDgradIdeal.τ).loc Cert.UpDgradIdeal.main_arg0)
      ∧ r.2.mem ((c.tc : Thread Cert.UpDgradIdeal.nD Cert.UpDgradIdeal.τ).loc Cert.UpDgradIdeal.main_arg1) = m ((c.tc : Thread Cert.UpDgradIdeal.nD Cert.UpDgradIdeal.τ).loc Cert.UpDgradIdeal.main_arg1))
      ∧ r.2.sem = fun _ => 0)

def quiescent_UpDgradReferenceIdeal [hUpDgradReferenceIdeal : Cert.UpDgradReferenceIdeal.Facts] : Prop :=
  ∀ (m : (ℓ : Loc Cert.UpDgradReferenceIdeal.nD Cert.UpDgradReferenceIdeal.τ Cert.UpDgradReferenceIdeal.sig) → Buf (Elt Ideal) ℓ) (g : Dev Cert.UpDgradReferenceIdeal.nD → PrngReg), Pre_UpDgradReferenceIdeal m →
    θ_run (Cert.UpDgradReferenceIdeal.defs (F := Ideal)) (onTc (τ := Cert.UpDgradReferenceIdeal.τ) (Cert.UpDgradReferenceIdeal.main (F := Ideal))) ⟨m, fun _ => 0, g⟩ (fun r => (∀ c : Dev Cert.UpDgradReferenceIdeal.nD,
      r.2.mem ((c.tc : Thread Cert.UpDgradReferenceIdeal.nD Cert.UpDgradReferenceIdeal.τ).loc Cert.UpDgradReferenceIdeal.main_arg0) = m ((c.tc : Thread Cert.UpDgradReferenceIdeal.nD Cert.UpDgradReferenceIdeal.τ).loc Cert.UpDgradReferenceIdeal.main_arg0)
      ∧ r.2.mem ((c.tc : Thread Cert.UpDgradReferenceIdeal.nD Cert.UpDgradReferenceIdeal.τ).loc Cert.UpDgradReferenceIdeal.main_arg1) = m ((c.tc : Thread Cert.UpDgradReferenceIdeal.nD Cert.UpDgradReferenceIdeal.τ).loc Cert.UpDgradReferenceIdeal.main_arg1))
      ∧ r.2.sem = fun _ => 0)

def quiescent_OutDgrad [hOutDgrad : Cert.OutDgrad.Facts] : Prop :=
  ∀ (m : (ℓ : Loc Cert.OutDgrad.nD Cert.OutDgrad.τ Cert.OutDgrad.sig) → Buf (Elt Bits) ℓ) (g : Dev Cert.OutDgrad.nD → PrngReg), Pre_OutDgrad m →
    θ_run (Cert.OutDgrad.defs (F := Bits)) (onTc (τ := Cert.OutDgrad.τ) (Cert.OutDgrad.main (F := Bits))) ⟨m, fun _ => 0, g⟩ (fun r => (∀ c : Dev Cert.OutDgrad.nD,
      r.2.mem ((c.tc : Thread Cert.OutDgrad.nD Cert.OutDgrad.τ).loc Cert.OutDgrad.main_arg0) = m ((c.tc : Thread Cert.OutDgrad.nD Cert.OutDgrad.τ).loc Cert.OutDgrad.main_arg0)
      ∧ r.2.mem ((c.tc : Thread Cert.OutDgrad.nD Cert.OutDgrad.τ).loc Cert.OutDgrad.main_arg1) = m ((c.tc : Thread Cert.OutDgrad.nD Cert.OutDgrad.τ).loc Cert.OutDgrad.main_arg1))
      ∧ r.2.sem = fun _ => 0)

def quiescent_OutDgradIdeal [hOutDgradIdeal : Cert.OutDgradIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg), Pre_OutDgradIdeal m →
    θ_run (Cert.OutDgradIdeal.defs (F := Ideal)) (onTc (τ := Cert.OutDgradIdeal.τ) (Cert.OutDgradIdeal.main (F := Ideal))) ⟨m, fun _ => 0, g⟩ (fun r => (∀ c : Dev Cert.OutDgradIdeal.nD,
      r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
      ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ r.2.sem = fun _ => 0)

def quiescent_OutDgradReferenceIdeal [hOutDgradReferenceIdeal : Cert.OutDgradReferenceIdeal.Facts] : Prop :=
  ∀ (m : (ℓ : Loc Cert.OutDgradReferenceIdeal.nD Cert.OutDgradReferenceIdeal.τ Cert.OutDgradReferenceIdeal.sig) → Buf (Elt Ideal) ℓ) (g : Dev Cert.OutDgradReferenceIdeal.nD → PrngReg), Pre_OutDgradReferenceIdeal m →
    θ_run (Cert.OutDgradReferenceIdeal.defs (F := Ideal)) (onTc (τ := Cert.OutDgradReferenceIdeal.τ) (Cert.OutDgradReferenceIdeal.main (F := Ideal))) ⟨m, fun _ => 0, g⟩ (fun r => (∀ c : Dev Cert.OutDgradReferenceIdeal.nD,
      r.2.mem ((c.tc : Thread Cert.OutDgradReferenceIdeal.nD Cert.OutDgradReferenceIdeal.τ).loc Cert.OutDgradReferenceIdeal.main_arg0) = m ((c.tc : Thread Cert.OutDgradReferenceIdeal.nD Cert.OutDgradReferenceIdeal.τ).loc Cert.OutDgradReferenceIdeal.main_arg0)
      ∧ r.2.mem ((c.tc : Thread Cert.OutDgradReferenceIdeal.nD Cert.OutDgradReferenceIdeal.τ).loc Cert.OutDgradReferenceIdeal.main_arg1) = m ((c.tc : Thread Cert.OutDgradReferenceIdeal.nD Cert.OutDgradReferenceIdeal.τ).loc Cert.OutDgradReferenceIdeal.main_arg1))
      ∧ r.2.sem = fun _ => 0)

def quiescent_InDgrad [hInDgrad : Cert.InDgrad.Facts] : Prop :=
  ∀ (m : (ℓ : Loc Cert.InDgrad.nD Cert.InDgrad.τ Cert.InDgrad.sig) → Buf (Elt Bits) ℓ) (g : Dev Cert.InDgrad.nD → PrngReg), Pre_InDgrad m →
    θ_run (Cert.InDgrad.defs (F := Bits)) (onTc (τ := Cert.InDgrad.τ) (Cert.InDgrad.main (F := Bits))) ⟨m, fun _ => 0, g⟩ (fun r => (∀ c : Dev Cert.InDgrad.nD,
      r.2.mem ((c.tc : Thread Cert.InDgrad.nD Cert.InDgrad.τ).loc Cert.InDgrad.main_arg0) = m ((c.tc : Thread Cert.InDgrad.nD Cert.InDgrad.τ).loc Cert.InDgrad.main_arg0)
      ∧ r.2.mem ((c.tc : Thread Cert.InDgrad.nD Cert.InDgrad.τ).loc Cert.InDgrad.main_arg1) = m ((c.tc : Thread Cert.InDgrad.nD Cert.InDgrad.τ).loc Cert.InDgrad.main_arg1))
      ∧ r.2.sem = fun _ => 0)

def quiescent_InDgradIdeal [hInDgradIdeal : Cert.InDgradIdeal.Facts] : Prop :=
  ∀ (m : (ℓ : Loc Cert.InDgradIdeal.nD Cert.InDgradIdeal.τ Cert.InDgradIdeal.sig) → Buf (Elt Ideal) ℓ) (g : Dev Cert.InDgradIdeal.nD → PrngReg), Pre_InDgradIdeal m →
    θ_run (Cert.InDgradIdeal.defs (F := Ideal)) (onTc (τ := Cert.InDgradIdeal.τ) (Cert.InDgradIdeal.main (F := Ideal))) ⟨m, fun _ => 0, g⟩ (fun r => (∀ c : Dev Cert.InDgradIdeal.nD,
      r.2.mem ((c.tc : Thread Cert.InDgradIdeal.nD Cert.InDgradIdeal.τ).loc Cert.InDgradIdeal.main_arg0) = m ((c.tc : Thread Cert.InDgradIdeal.nD Cert.InDgradIdeal.τ).loc Cert.InDgradIdeal.main_arg0)
      ∧ r.2.mem ((c.tc : Thread Cert.InDgradIdeal.nD Cert.InDgradIdeal.τ).loc Cert.InDgradIdeal.main_arg1) = m ((c.tc : Thread Cert.InDgradIdeal.nD Cert.InDgradIdeal.τ).loc Cert.InDgradIdeal.main_arg1))
      ∧ r.2.sem = fun _ => 0)

def quiescent_InDgradReferenceIdeal [hInDgradReferenceIdeal : Cert.InDgradReferenceIdeal.Facts] : Prop :=
  ∀ (m : (ℓ : Loc Cert.InDgradReferenceIdeal.nD Cert.InDgradReferenceIdeal.τ Cert.InDgradReferenceIdeal.sig) → Buf (Elt Ideal) ℓ) (g : Dev Cert.InDgradReferenceIdeal.nD → PrngReg), Pre_InDgradReferenceIdeal m →
    θ_run (Cert.InDgradReferenceIdeal.defs (F := Ideal)) (onTc (τ := Cert.InDgradReferenceIdeal.τ) (Cert.InDgradReferenceIdeal.main (F := Ideal))) ⟨m, fun _ => 0, g⟩ (fun r => (∀ c : Dev Cert.InDgradReferenceIdeal.nD,
      r.2.mem ((c.tc : Thread Cert.InDgradReferenceIdeal.nD Cert.InDgradReferenceIdeal.τ).loc Cert.InDgradReferenceIdeal.main_arg0) = m ((c.tc : Thread Cert.InDgradReferenceIdeal.nD Cert.InDgradReferenceIdeal.τ).loc Cert.InDgradReferenceIdeal.main_arg0)
      ∧ r.2.mem ((c.tc : Thread Cert.InDgradReferenceIdeal.nD Cert.InDgradReferenceIdeal.τ).loc Cert.InDgradReferenceIdeal.main_arg1) = m ((c.tc : Thread Cert.InDgradReferenceIdeal.nD Cert.InDgradReferenceIdeal.τ).loc Cert.InDgradReferenceIdeal.main_arg1))
      ∧ r.2.sem = fun _ => 0)

def quiescent_DownWgrad [hDownWgrad : Cert.DownWgrad.Facts] : Prop :=
  ∀ (m : (ℓ : Loc Cert.DownWgrad.nD Cert.DownWgrad.τ Cert.DownWgrad.sig) → Buf (Elt Bits) ℓ) (g : Dev Cert.DownWgrad.nD → PrngReg), Pre_DownWgrad m →
    θ_run (Cert.DownWgrad.defs (F := Bits)) (onTc (τ := Cert.DownWgrad.τ) (Cert.DownWgrad.main (F := Bits))) ⟨m, fun _ => 0, g⟩ (fun r => (∀ c : Dev Cert.DownWgrad.nD,
      r.2.mem ((c.tc : Thread Cert.DownWgrad.nD Cert.DownWgrad.τ).loc Cert.DownWgrad.main_arg0) = m ((c.tc : Thread Cert.DownWgrad.nD Cert.DownWgrad.τ).loc Cert.DownWgrad.main_arg0)
      ∧ r.2.mem ((c.tc : Thread Cert.DownWgrad.nD Cert.DownWgrad.τ).loc Cert.DownWgrad.main_arg1) = m ((c.tc : Thread Cert.DownWgrad.nD Cert.DownWgrad.τ).loc Cert.DownWgrad.main_arg1))
      ∧ r.2.sem = fun _ => 0)

def quiescent_DownWgradIdeal [hDownWgradIdeal : Cert.DownWgradIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg), Pre_DownWgradIdeal m →
    θ_run (Cert.DownWgradIdeal.defs (F := Ideal)) (onTc (τ := Cert.DownWgradIdeal.τ) (Cert.DownWgradIdeal.main (F := Ideal))) ⟨m, fun _ => 0, g⟩ (fun r => (∀ c : Dev Cert.DownWgradIdeal.nD,
      r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
      ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ r.2.sem = fun _ => 0)

def quiescent_DownWgradReferenceIdeal [hDownWgradReferenceIdeal : Cert.DownWgradReferenceIdeal.Facts] : Prop :=
  ∀ (m : (ℓ : Loc Cert.DownWgradReferenceIdeal.nD Cert.DownWgradReferenceIdeal.τ Cert.DownWgradReferenceIdeal.sig) → Buf (Elt Ideal) ℓ) (g : Dev Cert.DownWgradReferenceIdeal.nD → PrngReg), Pre_DownWgradReferenceIdeal m →
    θ_run (Cert.DownWgradReferenceIdeal.defs (F := Ideal)) (onTc (τ := Cert.DownWgradReferenceIdeal.τ) (Cert.DownWgradReferenceIdeal.main (F := Ideal))) ⟨m, fun _ => 0, g⟩ (fun r => (∀ c : Dev Cert.DownWgradReferenceIdeal.nD,
      r.2.mem ((c.tc : Thread Cert.DownWgradReferenceIdeal.nD Cert.DownWgradReferenceIdeal.τ).loc Cert.DownWgradReferenceIdeal.main_arg0) = m ((c.tc : Thread Cert.DownWgradReferenceIdeal.nD Cert.DownWgradReferenceIdeal.τ).loc Cert.DownWgradReferenceIdeal.main_arg0)
      ∧ r.2.mem ((c.tc : Thread Cert.DownWgradReferenceIdeal.nD Cert.DownWgradReferenceIdeal.τ).loc Cert.DownWgradReferenceIdeal.main_arg1) = m ((c.tc : Thread Cert.DownWgradReferenceIdeal.nD Cert.DownWgradReferenceIdeal.τ).loc Cert.DownWgradReferenceIdeal.main_arg1))
      ∧ r.2.sem = fun _ => 0)

def quiescent_UpWgrad [hUpWgrad : Cert.UpWgrad.Facts] : Prop :=
  ∀ (m : (ℓ : Loc Cert.UpWgrad.nD Cert.UpWgrad.τ Cert.UpWgrad.sig) → Buf (Elt Bits) ℓ) (g : Dev Cert.UpWgrad.nD → PrngReg), Pre_UpWgrad m →
    θ_run (Cert.UpWgrad.defs (F := Bits)) (onTc (τ := Cert.UpWgrad.τ) (Cert.UpWgrad.main (F := Bits))) ⟨m, fun _ => 0, g⟩ (fun r => (∀ c : Dev Cert.UpWgrad.nD,
      r.2.mem ((c.tc : Thread Cert.UpWgrad.nD Cert.UpWgrad.τ).loc Cert.UpWgrad.main_arg0) = m ((c.tc : Thread Cert.UpWgrad.nD Cert.UpWgrad.τ).loc Cert.UpWgrad.main_arg0)
      ∧ r.2.mem ((c.tc : Thread Cert.UpWgrad.nD Cert.UpWgrad.τ).loc Cert.UpWgrad.main_arg1) = m ((c.tc : Thread Cert.UpWgrad.nD Cert.UpWgrad.τ).loc Cert.UpWgrad.main_arg1))
      ∧ r.2.sem = fun _ => 0)

def quiescent_UpWgradIdeal [hUpWgradIdeal : Cert.UpWgradIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg), Pre_UpWgradIdeal m →
    θ_run (Cert.UpWgradIdeal.defs (F := Ideal)) (onTc (τ := Cert.UpWgradIdeal.τ) (Cert.UpWgradIdeal.main (F := Ideal))) ⟨m, fun _ => 0, g⟩ (fun r => (∀ c : Dev Cert.UpWgradIdeal.nD,
      r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
      ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1))
      ∧ r.2.sem = fun _ => 0)

def quiescent_UpWgradReferenceIdeal [hUpWgradReferenceIdeal : Cert.UpWgradReferenceIdeal.Facts] : Prop :=
  ∀ (m : (ℓ : Loc Cert.UpWgradReferenceIdeal.nD Cert.UpWgradReferenceIdeal.τ Cert.UpWgradReferenceIdeal.sig) → Buf (Elt Ideal) ℓ) (g : Dev Cert.UpWgradReferenceIdeal.nD → PrngReg), Pre_UpWgradReferenceIdeal m →
    θ_run (Cert.UpWgradReferenceIdeal.defs (F := Ideal)) (onTc (τ := Cert.UpWgradReferenceIdeal.τ) (Cert.UpWgradReferenceIdeal.main (F := Ideal))) ⟨m, fun _ => 0, g⟩ (fun r => (∀ c : Dev Cert.UpWgradReferenceIdeal.nD,
      r.2.mem ((c.tc : Thread Cert.UpWgradReferenceIdeal.nD Cert.UpWgradReferenceIdeal.τ).loc Cert.UpWgradReferenceIdeal.main_arg0) = m ((c.tc : Thread Cert.UpWgradReferenceIdeal.nD Cert.UpWgradReferenceIdeal.τ).loc Cert.UpWgradReferenceIdeal.main_arg0)
      ∧ r.2.mem ((c.tc : Thread Cert.UpWgradReferenceIdeal.nD Cert.UpWgradReferenceIdeal.τ).loc Cert.UpWgradReferenceIdeal.main_arg1) = m ((c.tc : Thread Cert.UpWgradReferenceIdeal.nD Cert.UpWgradReferenceIdeal.τ).loc Cert.UpWgradReferenceIdeal.main_arg1))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ r.2.sem = fun _ => 0)

def quiescent_OutWgradReferenceIdeal [hOutWgradReferenceIdeal : Cert.OutWgradReferenceIdeal.Facts] : Prop :=
  ∀ (m : (ℓ : Loc Cert.OutWgradReferenceIdeal.nD Cert.OutWgradReferenceIdeal.τ Cert.OutWgradReferenceIdeal.sig) → Buf (Elt Ideal) ℓ) (g : Dev Cert.OutWgradReferenceIdeal.nD → PrngReg), Pre_OutWgradReferenceIdeal m →
    θ_run (Cert.OutWgradReferenceIdeal.defs (F := Ideal)) (onTc (τ := Cert.OutWgradReferenceIdeal.τ) (Cert.OutWgradReferenceIdeal.main (F := Ideal))) ⟨m, fun _ => 0, g⟩ (fun r => (∀ c : Dev Cert.OutWgradReferenceIdeal.nD,
      r.2.mem ((c.tc : Thread Cert.OutWgradReferenceIdeal.nD Cert.OutWgradReferenceIdeal.τ).loc Cert.OutWgradReferenceIdeal.main_arg0) = m ((c.tc : Thread Cert.OutWgradReferenceIdeal.nD Cert.OutWgradReferenceIdeal.τ).loc Cert.OutWgradReferenceIdeal.main_arg0)
      ∧ r.2.mem ((c.tc : Thread Cert.OutWgradReferenceIdeal.nD Cert.OutWgradReferenceIdeal.τ).loc Cert.OutWgradReferenceIdeal.main_arg1) = m ((c.tc : Thread Cert.OutWgradReferenceIdeal.nD Cert.OutWgradReferenceIdeal.τ).loc Cert.OutWgradReferenceIdeal.main_arg1))
      ∧ r.2.sem = fun _ => 0)

def quiescent_InWgrad [hInWgrad : Cert.InWgrad.Facts] : Prop :=
  ∀ (m : (ℓ : Loc Cert.InWgrad.nD Cert.InWgrad.τ Cert.InWgrad.sig) → Buf (Elt Bits) ℓ) (g : Dev Cert.InWgrad.nD → PrngReg), Pre_InWgrad m →
    θ_run (Cert.InWgrad.defs (F := Bits)) (onTc (τ := Cert.InWgrad.τ) (Cert.InWgrad.main (F := Bits))) ⟨m, fun _ => 0, g⟩ (fun r => (∀ c : Dev Cert.InWgrad.nD,
      r.2.mem ((c.tc : Thread Cert.InWgrad.nD Cert.InWgrad.τ).loc Cert.InWgrad.main_arg0) = m ((c.tc : Thread Cert.InWgrad.nD Cert.InWgrad.τ).loc Cert.InWgrad.main_arg0)
      ∧ r.2.mem ((c.tc : Thread Cert.InWgrad.nD Cert.InWgrad.τ).loc Cert.InWgrad.main_arg1) = m ((c.tc : Thread Cert.InWgrad.nD Cert.InWgrad.τ).loc Cert.InWgrad.main_arg1))
      ∧ r.2.sem = fun _ => 0)

def quiescent_InWgradIdeal [hInWgradIdeal : Cert.InWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg), Pre_InWgradIdeal m →
    θ_run (Cert.InWgradIdeal.defs (F := Ideal)) (onTc (τ := Cert.InWgradIdeal.τ) (Cert.InWgradIdeal.main (F := Ideal))) ⟨m, fun _ => 0, g⟩ (fun r => (∀ c : Dev Cert.InWgradIdeal.nD,
      r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
      ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ r.2.sem = fun _ => 0)

def quiescent_InWgradReferenceIdeal [hInWgradReferenceIdeal : Cert.InWgradReferenceIdeal.Facts] : Prop :=
  ∀ (m : (ℓ : Loc Cert.InWgradReferenceIdeal.nD Cert.InWgradReferenceIdeal.τ Cert.InWgradReferenceIdeal.sig) → Buf (Elt Ideal) ℓ) (g : Dev Cert.InWgradReferenceIdeal.nD → PrngReg), Pre_InWgradReferenceIdeal m →
    θ_run (Cert.InWgradReferenceIdeal.defs (F := Ideal)) (onTc (τ := Cert.InWgradReferenceIdeal.τ) (Cert.InWgradReferenceIdeal.main (F := Ideal))) ⟨m, fun _ => 0, g⟩ (fun r => (∀ c : Dev Cert.InWgradReferenceIdeal.nD,
      r.2.mem ((c.tc : Thread Cert.InWgradReferenceIdeal.nD Cert.InWgradReferenceIdeal.τ).loc Cert.InWgradReferenceIdeal.main_arg0) = m ((c.tc : Thread Cert.InWgradReferenceIdeal.nD Cert.InWgradReferenceIdeal.τ).loc Cert.InWgradReferenceIdeal.main_arg0)
      ∧ r.2.mem ((c.tc : Thread Cert.InWgradReferenceIdeal.nD Cert.InWgradReferenceIdeal.τ).loc Cert.InWgradReferenceIdeal.main_arg1) = m ((c.tc : Thread Cert.InWgradReferenceIdeal.nD Cert.InWgradReferenceIdeal.τ).loc Cert.InWgradReferenceIdeal.main_arg1))
      ∧ r.2.sem = fun _ => 0)

def quiescent_Norm1Bwd [hNorm1Bwd : Cert.Norm1Bwd.Facts] : Prop :=
  ∀ (m : (ℓ : Loc Cert.Norm1Bwd.nD Cert.Norm1Bwd.τ Cert.Norm1Bwd.sig) → Buf (Elt Bits) ℓ) (g : Dev Cert.Norm1Bwd.nD → PrngReg), Pre_Norm1Bwd m →
    θ_run (Cert.Norm1Bwd.defs (F := Bits)) (onTc (τ := Cert.Norm1Bwd.τ) (Cert.Norm1Bwd.main (F := Bits))) ⟨m, fun _ => 0, g⟩ (fun r => (∀ c : Dev Cert.Norm1Bwd.nD,
      r.2.mem ((c.tc : Thread Cert.Norm1Bwd.nD Cert.Norm1Bwd.τ).loc Cert.Norm1Bwd.main_arg0) = m ((c.tc : Thread Cert.Norm1Bwd.nD Cert.Norm1Bwd.τ).loc Cert.Norm1Bwd.main_arg0)
      ∧ r.2.mem ((c.tc : Thread Cert.Norm1Bwd.nD Cert.Norm1Bwd.τ).loc Cert.Norm1Bwd.main_arg1) = m ((c.tc : Thread Cert.Norm1Bwd.nD Cert.Norm1Bwd.τ).loc Cert.Norm1Bwd.main_arg1)
      ∧ r.2.mem ((c.tc : Thread Cert.Norm1Bwd.nD Cert.Norm1Bwd.τ).loc Cert.Norm1Bwd.main_arg2) = m ((c.tc : Thread Cert.Norm1Bwd.nD Cert.Norm1Bwd.τ).loc Cert.Norm1Bwd.main_arg2)
      ∧ r.2.mem ((c.tc : Thread Cert.Norm1Bwd.nD Cert.Norm1Bwd.τ).loc Cert.Norm1Bwd.main_arg3) = m ((c.tc : Thread Cert.Norm1Bwd.nD Cert.Norm1Bwd.τ).loc Cert.Norm1Bwd.main_arg3)
      ∧ r.2.mem ((c.tc : Thread Cert.Norm1Bwd.nD Cert.Norm1Bwd.τ).loc Cert.Norm1Bwd.main_arg4) = m ((c.tc : Thread Cert.Norm1Bwd.nD Cert.Norm1Bwd.τ).loc Cert.Norm1Bwd.main_arg4)
      ∧ r.2.mem ((c.tc : Thread Cert.Norm1Bwd.nD Cert.Norm1Bwd.τ).loc Cert.Norm1Bwd.main_arg5) = m ((c.tc : Thread Cert.Norm1Bwd.nD Cert.Norm1Bwd.τ).loc Cert.Norm1Bwd.main_arg5))
      ∧ r.2.sem = fun _ => 0)

def quiescent_Norm1BwdIdeal [hNorm1BwdIdeal : Cert.Norm1BwdIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg), Pre_Norm1BwdIdeal m →
    θ_run (Cert.Norm1BwdIdeal.defs (F := Ideal)) (onTc (τ := Cert.Norm1BwdIdeal.τ) (Cert.Norm1BwdIdeal.main (F := Ideal))) ⟨m, fun _ => 0, g⟩ (fun r => (∀ c : Dev Cert.Norm1BwdIdeal.nD,
      r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
      ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
      ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
      ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
      ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
      ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5))
      ∧ r.2.sem = fun _ => 0)

def quiescent_Norm1BwdReferenceIdeal [hNorm1BwdReferenceIdeal : Cert.Norm1BwdReferenceIdeal.Facts] : Prop :=
  ∀ (m : (ℓ : Loc Cert.Norm1BwdReferenceIdeal.nD Cert.Norm1BwdReferenceIdeal.τ Cert.Norm1BwdReferenceIdeal.sig) → Buf (Elt Ideal) ℓ) (g : Dev Cert.Norm1BwdReferenceIdeal.nD → PrngReg), Pre_Norm1BwdReferenceIdeal m →
    θ_run (Cert.Norm1BwdReferenceIdeal.defs (F := Ideal)) (onTc (τ := Cert.Norm1BwdReferenceIdeal.τ) (Cert.Norm1BwdReferenceIdeal.main (F := Ideal))) ⟨m, fun _ => 0, g⟩ (fun r => (∀ c : Dev Cert.Norm1BwdReferenceIdeal.nD,
      r.2.mem ((c.tc : Thread Cert.Norm1BwdReferenceIdeal.nD Cert.Norm1BwdReferenceIdeal.τ).loc Cert.Norm1BwdReferenceIdeal.main_arg0) = m ((c.tc : Thread Cert.Norm1BwdReferenceIdeal.nD Cert.Norm1BwdReferenceIdeal.τ).loc Cert.Norm1BwdReferenceIdeal.main_arg0)
      ∧ r.2.mem ((c.tc : Thread Cert.Norm1BwdReferenceIdeal.nD Cert.Norm1BwdReferenceIdeal.τ).loc Cert.Norm1BwdReferenceIdeal.main_arg1) = m ((c.tc : Thread Cert.Norm1BwdReferenceIdeal.nD Cert.Norm1BwdReferenceIdeal.τ).loc Cert.Norm1BwdReferenceIdeal.main_arg1)
      ∧ r.2.mem ((c.tc : Thread Cert.Norm1BwdReferenceIdeal.nD Cert.Norm1BwdReferenceIdeal.τ).loc Cert.Norm1BwdReferenceIdeal.main_arg2) = m ((c.tc : Thread Cert.Norm1BwdReferenceIdeal.nD Cert.Norm1BwdReferenceIdeal.τ).loc Cert.Norm1BwdReferenceIdeal.main_arg2)
      ∧ r.2.mem ((c.tc : Thread Cert.Norm1BwdReferenceIdeal.nD Cert.Norm1BwdReferenceIdeal.τ).loc Cert.Norm1BwdReferenceIdeal.main_arg3) = m ((c.tc : Thread Cert.Norm1BwdReferenceIdeal.nD Cert.Norm1BwdReferenceIdeal.τ).loc Cert.Norm1BwdReferenceIdeal.main_arg3)
      ∧ r.2.mem ((c.tc : Thread Cert.Norm1BwdReferenceIdeal.nD Cert.Norm1BwdReferenceIdeal.τ).loc Cert.Norm1BwdReferenceIdeal.main_arg4) = m ((c.tc : Thread Cert.Norm1BwdReferenceIdeal.nD Cert.Norm1BwdReferenceIdeal.τ).loc Cert.Norm1BwdReferenceIdeal.main_arg4)
      ∧ r.2.mem ((c.tc : Thread Cert.Norm1BwdReferenceIdeal.nD Cert.Norm1BwdReferenceIdeal.τ).loc Cert.Norm1BwdReferenceIdeal.main_arg5) = m ((c.tc : Thread Cert.Norm1BwdReferenceIdeal.nD Cert.Norm1BwdReferenceIdeal.τ).loc Cert.Norm1BwdReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 1600, 1024]⟩ ⟨3, ![64, 1600, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1600, 1024]⟩ ⟨2, ![12800, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1600, 1024]⟩ ⟨2, ![12800, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1600, 1024]⟩ ⟨2, ![12800, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v1)) (v1 : Buf (Elt Ideal) (((0 : Dev Cert.ReferenceIdeal.nD).tc : Thread Cert.ReferenceIdeal.nD Cert.ReferenceIdeal.τ).loc Cert.ReferenceIdeal.main_v25)) (v2 : Buf (Elt Ideal) (((0 : Dev Cert.ReferenceIdeal.nD).tc : Thread Cert.ReferenceIdeal.nD Cert.ReferenceIdeal.τ).loc Cert.ReferenceIdeal.main_v6)) (v3 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = Layout.block ⟨2, ![1600, 1024]⟩ ⟨2, ![12800, 1024]⟩ 0 8 c v0
          ∧ r.2.mem ((c.tc : Thread Cert.KernelIdeal.nD Cert.KernelIdeal.τ).loc Cert.KernelIdeal.main_v2_1) = Layout.block ⟨2, ![1600, 1024]⟩ ⟨2, ![12800, 1024]⟩ 0 8 c v1
          ∧ r.2.mem ((c.tc : Thread Cert.KernelIdeal.nD Cert.KernelIdeal.τ).loc Cert.KernelIdeal.main_v2_2) = Layout.block ⟨2, ![1600, 1024]⟩ ⟨2, ![12800, 1024]⟩ 0 8 c v2
          ∧ r.2.mem ((c.tc : Thread Cert.KernelIdeal.nD Cert.KernelIdeal.τ).loc Cert.KernelIdeal.main_v2_3) = Layout.block ⟨2, ![1600, 1024]⟩ ⟨2, ![12800, 1024]⟩ 0 8 c v3
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_v25) = v1
          ∧ r.2.mem (((0 : Dev Cert.ReferenceIdeal.nD).tc : Thread Cert.ReferenceIdeal.nD Cert.ReferenceIdeal.τ).loc Cert.ReferenceIdeal.main_v6) = v2
          ∧ r.2.mem (((0 : Dev Cert.ReferenceIdeal.nD).tc : Thread Cert.ReferenceIdeal.nD Cert.ReferenceIdeal.τ).loc Cert.ReferenceIdeal.main_v12) = v3
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def preserves_Small_SmallIdeal : Prop :=
  True

def algebraic_SmallIdeal_SmallReferenceIdeal [hSmallIdeal : Cert.SmallIdeal.Facts] [hSmallReferenceIdeal : Cert.SmallReferenceIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![24, 1024]⟩ ⟨2, ![192, 1024]⟩ 0 8 c (m' (((0 : Dev Cert.SmallReferenceIdeal.nD).tc : Thread Cert.SmallReferenceIdeal.nD Cert.SmallReferenceIdeal.τ).loc Cert.SmallReferenceIdeal.main_arg0))
      ∧ m ((c.tc : Thread Cert.SmallIdeal.nD Cert.SmallIdeal.τ).loc Cert.SmallIdeal.main_arg1) = m' (((0 : Dev Cert.SmallReferenceIdeal.nD).tc : Thread Cert.SmallReferenceIdeal.nD Cert.SmallReferenceIdeal.τ).loc Cert.SmallReferenceIdeal.main_arg1)
      ∧ m ((c.tc : Thread Cert.SmallIdeal.nD Cert.SmallIdeal.τ).loc Cert.SmallIdeal.main_arg2) = m' (((0 : Dev Cert.SmallReferenceIdeal.nD).tc : Thread Cert.SmallReferenceIdeal.nD Cert.SmallReferenceIdeal.τ).loc Cert.SmallReferenceIdeal.main_arg2)
      ∧ m ((c.tc : Thread Cert.SmallIdeal.nD Cert.SmallIdeal.τ).loc Cert.SmallIdeal.main_arg3) = m' (((0 : Dev Cert.SmallReferenceIdeal.nD).tc : Thread Cert.SmallReferenceIdeal.nD Cert.SmallReferenceIdeal.τ).loc Cert.SmallReferenceIdeal.main_arg3)
      ∧ m ((c.tc : Thread Cert.SmallIdeal.nD Cert.SmallIdeal.τ).loc Cert.SmallIdeal.main_arg4) = m' (((0 : Dev Cert.SmallReferenceIdeal.nD).tc : Thread Cert.SmallReferenceIdeal.nD Cert.SmallReferenceIdeal.τ).loc Cert.SmallReferenceIdeal.main_arg4)
      ∧ m ((c.tc : Thread Cert.SmallIdeal.nD Cert.SmallIdeal.τ).loc Cert.SmallIdeal.main_arg5) = Layout.block ⟨2, ![1024, 768]⟩ ⟨2, ![1024, 6144]⟩ 1 8 c (m' (((0 : Dev Cert.SmallReferenceIdeal.nD).tc : Thread Cert.SmallReferenceIdeal.nD Cert.SmallReferenceIdeal.τ).loc Cert.SmallReferenceIdeal.main_arg5))
      ∧ m ((c.tc : Thread Cert.SmallIdeal.nD Cert.SmallIdeal.τ).loc Cert.SmallIdeal.main_arg6) = Layout.block ⟨2, ![1024, 768]⟩ ⟨2, ![1024, 6144]⟩ 1 8 c (m' (((0 : Dev Cert.SmallReferenceIdeal.nD).tc : Thread Cert.SmallReferenceIdeal.nD Cert.SmallReferenceIdeal.τ).loc Cert.SmallReferenceIdeal.main_arg6))
      ∧ m ((c.tc : Thread Cert.SmallIdeal.nD Cert.SmallIdeal.τ).loc Cert.SmallIdeal.main_arg7) = Layout.block ⟨2, ![1024, 768]⟩ ⟨2, ![1024, 6144]⟩ 1 8 c (m' (((0 : Dev Cert.SmallReferenceIdeal.nD).tc : Thread Cert.SmallReferenceIdeal.nD Cert.SmallReferenceIdeal.τ).loc Cert.SmallReferenceIdeal.main_arg7))) →
    ∃ (v0 : Buf (Elt Ideal) (((0 : Dev Cert.SmallReferenceIdeal.nD).tc : Thread Cert.SmallReferenceIdeal.nD Cert.SmallReferenceIdeal.τ).loc Cert.SmallReferenceIdeal.main_v3)) (v1 : Buf (Elt Ideal) (((0 : Dev Cert.SmallReferenceIdeal.nD).tc : Thread Cert.SmallReferenceIdeal.nD Cert.SmallReferenceIdeal.τ).loc Cert.SmallReferenceIdeal.main_v1)) (v2 : Buf (Elt Ideal) (((0 : Dev Cert.SmallReferenceIdeal.nD).tc : Thread Cert.SmallReferenceIdeal.nD Cert.SmallReferenceIdeal.τ).loc Cert.SmallReferenceIdeal.main_v32)) (v3 : Buf (Elt Ideal) (((0 : Dev Cert.SmallReferenceIdeal.nD).tc : Thread Cert.SmallReferenceIdeal.nD Cert.SmallReferenceIdeal.τ).loc Cert.SmallReferenceIdeal.main_v13)) (v4 : Buf (Elt Ideal) (((0 : Dev Cert.SmallReferenceIdeal.nD).tc : Thread Cert.SmallReferenceIdeal.nD Cert.SmallReferenceIdeal.τ).loc Cert.SmallReferenceIdeal.main_v19)) (v5 : Buf (Elt Ideal) (((0 : Dev Cert.SmallReferenceIdeal.nD).tc : Thread Cert.SmallReferenceIdeal.nD Cert.SmallReferenceIdeal.τ).loc Cert.SmallReferenceIdeal.main_v8)) (v6 : Buf (Elt Ideal) (((0 : Dev Cert.SmallReferenceIdeal.nD).tc : Thread Cert.SmallReferenceIdeal.nD Cert.SmallReferenceIdeal.τ).loc Cert.SmallReferenceIdeal.main_v56)) (v7 : Buf (Elt Ideal) (((0 : Dev Cert.SmallReferenceIdeal.nD).tc : Thread Cert.SmallReferenceIdeal.nD Cert.SmallReferenceIdeal.τ).loc Cert.SmallReferenceIdeal.main_v37)) (v8 : Buf (Elt Ideal) (((0 : Dev Cert.SmallReferenceIdeal.nD).tc : Thread Cert.SmallReferenceIdeal.nD Cert.SmallReferenceIdeal.τ).loc Cert.SmallReferenceIdeal.main_v43)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v5) = v0
          ∧ r.2.mem ((c.tc : Thread Cert.SmallIdeal.nD Cert.SmallIdeal.τ).loc Cert.SmallIdeal.main_v6_0) = v1
          ∧ r.2.mem ((c.tc : Thread Cert.SmallIdeal.nD Cert.SmallIdeal.τ).loc Cert.SmallIdeal.main_v6_1) = v2
          ∧ r.2.mem ((c.tc : Thread Cert.SmallIdeal.nD Cert.SmallIdeal.τ).loc Cert.SmallIdeal.main_v6_2) = v3
          ∧ r.2.mem ((c.tc : Thread Cert.SmallIdeal.nD Cert.SmallIdeal.τ).loc Cert.SmallIdeal.main_v6_3) = v4
          ∧ r.2.mem ((c.tc : Thread Cert.SmallIdeal.nD Cert.SmallIdeal.τ).loc Cert.SmallIdeal.main_v35) = Layout.block ⟨2, ![1024, 768]⟩ ⟨2, ![1024, 6144]⟩ 1 8 c v5
          ∧ r.2.mem ((c.tc : Thread Cert.SmallIdeal.nD Cert.SmallIdeal.τ).loc Cert.SmallIdeal.main_v36) = Layout.block ⟨2, ![1024, 768]⟩ ⟨2, ![1024, 6144]⟩ 1 8 c v6
          ∧ r.2.mem ((c.tc : Thread Cert.SmallIdeal.nD Cert.SmallIdeal.τ).loc Cert.SmallIdeal.main_v37) = Layout.block ⟨2, ![1024, 768]⟩ ⟨2, ![1024, 6144]⟩ 1 8 c v7
          ∧ r.2.mem ((c.tc : Thread Cert.SmallIdeal.nD Cert.SmallIdeal.τ).loc Cert.SmallIdeal.main_v38) = Layout.block ⟨2, ![1024, 768]⟩ ⟨2, ![1024, 6144]⟩ 1 8 c v8
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7))
      ∧ θ_run (Cert.SmallReferenceIdeal.defs (F := Ideal)) (onTc (τ := Cert.SmallReferenceIdeal.τ) (Cert.SmallReferenceIdeal.main (F := Ideal))) ⟨m', fun _ => 0, g'⟩ (fun r =>
          r.2.mem (((0 : Dev Cert.SmallReferenceIdeal.nD).tc : Thread Cert.SmallReferenceIdeal.nD Cert.SmallReferenceIdeal.τ).loc Cert.SmallReferenceIdeal.main_v3) = v0
          ∧ r.2.mem (((0 : Dev Cert.SmallReferenceIdeal.nD).tc : Thread Cert.SmallReferenceIdeal.nD Cert.SmallReferenceIdeal.τ).loc Cert.SmallReferenceIdeal.main_v1) = v1
          ∧ r.2.mem (((0 : Dev Cert.SmallReferenceIdeal.nD).tc : Thread Cert.SmallReferenceIdeal.nD Cert.SmallReferenceIdeal.τ).loc Cert.SmallReferenceIdeal.main_v32) = v2
          ∧ r.2.mem (((0 : Dev Cert.SmallReferenceIdeal.nD).tc : Thread Cert.SmallReferenceIdeal.nD Cert.SmallReferenceIdeal.τ).loc Cert.SmallReferenceIdeal.main_v13) = v3
          ∧ r.2.mem (((0 : Dev Cert.SmallReferenceIdeal.nD).tc : Thread Cert.SmallReferenceIdeal.nD Cert.SmallReferenceIdeal.τ).loc Cert.SmallReferenceIdeal.main_v19) = v4
          ∧ r.2.mem (((0 : Dev Cert.SmallReferenceIdeal.nD).tc : Thread Cert.SmallReferenceIdeal.nD Cert.SmallReferenceIdeal.τ).loc Cert.SmallReferenceIdeal.main_v8) = v5
          ∧ r.2.mem (((0 : Dev Cert.SmallReferenceIdeal.nD).tc : Thread Cert.SmallReferenceIdeal.nD Cert.SmallReferenceIdeal.τ).loc Cert.SmallReferenceIdeal.main_v56) = v6
          ∧ r.2.mem (((0 : Dev Cert.SmallReferenceIdeal.nD).tc : Thread Cert.SmallReferenceIdeal.nD Cert.SmallReferenceIdeal.τ).loc Cert.SmallReferenceIdeal.main_v37) = v7
          ∧ r.2.mem (((0 : Dev Cert.SmallReferenceIdeal.nD).tc : Thread Cert.SmallReferenceIdeal.nD Cert.SmallReferenceIdeal.τ).loc Cert.SmallReferenceIdeal.main_v43) = v8
          ∧ r.2.mem (((0 : Dev Cert.SmallReferenceIdeal.nD).tc : Thread Cert.SmallReferenceIdeal.nD Cert.SmallReferenceIdeal.τ).loc Cert.SmallReferenceIdeal.main_arg0) = m' (((0 : Dev Cert.SmallReferenceIdeal.nD).tc : Thread Cert.SmallReferenceIdeal.nD Cert.SmallReferenceIdeal.τ).loc Cert.SmallReferenceIdeal.main_arg0)
          ∧ r.2.mem (((0 : Dev Cert.SmallReferenceIdeal.nD).tc : Thread Cert.SmallReferenceIdeal.nD Cert.SmallReferenceIdeal.τ).loc Cert.SmallReferenceIdeal.main_arg1) = m' (((0 : Dev Cert.SmallReferenceIdeal.nD).tc : Thread Cert.SmallReferenceIdeal.nD Cert.SmallReferenceIdeal.τ).loc Cert.SmallReferenceIdeal.main_arg1)
          ∧ r.2.mem (((0 : Dev Cert.SmallReferenceIdeal.nD).tc : Thread Cert.SmallReferenceIdeal.nD Cert.SmallReferenceIdeal.τ).loc Cert.SmallReferenceIdeal.main_arg2) = m' (((0 : Dev Cert.SmallReferenceIdeal.nD).tc : Thread Cert.SmallReferenceIdeal.nD Cert.SmallReferenceIdeal.τ).loc Cert.SmallReferenceIdeal.main_arg2)
          ∧ r.2.mem (((0 : Dev Cert.SmallReferenceIdeal.nD).tc : Thread Cert.SmallReferenceIdeal.nD Cert.SmallReferenceIdeal.τ).loc Cert.SmallReferenceIdeal.main_arg3) = m' (((0 : Dev Cert.SmallReferenceIdeal.nD).tc : Thread Cert.SmallReferenceIdeal.nD Cert.SmallReferenceIdeal.τ).loc Cert.SmallReferenceIdeal.main_arg3)
          ∧ r.2.mem (((0 : Dev Cert.SmallReferenceIdeal.nD).tc : Thread Cert.SmallReferenceIdeal.nD Cert.SmallReferenceIdeal.τ).loc Cert.SmallReferenceIdeal.main_arg4) = m' (((0 : Dev Cert.SmallReferenceIdeal.nD).tc : Thread Cert.SmallReferenceIdeal.nD Cert.SmallReferenceIdeal.τ).loc Cert.SmallReferenceIdeal.main_arg4)
          ∧ r.2.mem (((0 : Dev Cert.SmallReferenceIdeal.nD).tc : Thread Cert.SmallReferenceIdeal.nD Cert.SmallReferenceIdeal.τ).loc Cert.SmallReferenceIdeal.main_arg5) = m' (((0 : Dev Cert.SmallReferenceIdeal.nD).tc : Thread Cert.SmallReferenceIdeal.nD Cert.SmallReferenceIdeal.τ).loc Cert.SmallReferenceIdeal.main_arg5)
          ∧ r.2.mem (((0 : Dev Cert.SmallReferenceIdeal.nD).tc : Thread Cert.SmallReferenceIdeal.nD Cert.SmallReferenceIdeal.τ).loc Cert.SmallReferenceIdeal.main_arg6) = m' (((0 : Dev Cert.SmallReferenceIdeal.nD).tc : Thread Cert.SmallReferenceIdeal.nD Cert.SmallReferenceIdeal.τ).loc Cert.SmallReferenceIdeal.main_arg6)
          ∧ r.2.mem (((0 : Dev Cert.SmallReferenceIdeal.nD).tc : Thread Cert.SmallReferenceIdeal.nD Cert.SmallReferenceIdeal.τ).loc Cert.SmallReferenceIdeal.main_arg7) = m' (((0 : Dev Cert.SmallReferenceIdeal.nD).tc : Thread Cert.SmallReferenceIdeal.nD Cert.SmallReferenceIdeal.τ).loc Cert.SmallReferenceIdeal.main_arg7))

def preserves_Weights_WeightsIdeal : Prop :=
  True

def algebraic_WeightsIdeal_WeightsReferenceIdeal [hWeightsIdeal : Cert.WeightsIdeal.Facts] [hWeightsReferenceIdeal : Cert.WeightsReferenceIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsReferenceIdeal.nD Cert.WeightsReferenceIdeal.τ Cert.WeightsReferenceIdeal.sig) → Buf (Elt Ideal) ℓ) (g' : Dev Cert.WeightsReferenceIdeal.nD → PrngReg), Pre_WeightsIdeal m →
    (∀ c : Dev Cert.WeightsIdeal.nD,
      m ((c.tc : Thread Cert.WeightsIdeal.nD Cert.WeightsIdeal.τ).loc Cert.WeightsIdeal.main_arg0) = Layout.block ⟨2, ![1584, 1024]⟩ ⟨2, ![12672, 1024]⟩ 0 8 c (m' (((0 : Dev Cert.WeightsReferenceIdeal.nD).tc : Thread Cert.WeightsReferenceIdeal.nD Cert.WeightsReferenceIdeal.τ).loc Cert.WeightsReferenceIdeal.main_arg0))) →
    ∃ (v0 : Buf (Elt Ideal) (((0 : Dev Cert.WeightsReferenceIdeal.nD).tc : Thread Cert.WeightsReferenceIdeal.nD Cert.WeightsReferenceIdeal.τ).loc Cert.WeightsReferenceIdeal.main_v0)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v1) = v0
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0))
      ∧ θ_run (Cert.WeightsReferenceIdeal.defs (F := Ideal)) (onTc (τ := Cert.WeightsReferenceIdeal.τ) (Cert.WeightsReferenceIdeal.main (F := Ideal))) ⟨m', fun _ => 0, g'⟩ (fun r =>
          r.2.mem (((0 : Dev Cert.WeightsReferenceIdeal.nD).tc : Thread Cert.WeightsReferenceIdeal.nD Cert.WeightsReferenceIdeal.τ).loc Cert.WeightsReferenceIdeal.main_v0) = v0
          ∧ r.2.mem (((0 : Dev Cert.WeightsReferenceIdeal.nD).tc : Thread Cert.WeightsReferenceIdeal.nD Cert.WeightsReferenceIdeal.τ).loc Cert.WeightsReferenceIdeal.main_arg0) = m' (((0 : Dev Cert.WeightsReferenceIdeal.nD).tc : Thread Cert.WeightsReferenceIdeal.nD Cert.WeightsReferenceIdeal.τ).loc Cert.WeightsReferenceIdeal.main_arg0))

def bitexact_Weights_WeightsReference [hWeights : Cert.Weights.Facts] [hWeightsReference : Cert.WeightsReference.Facts] : Prop :=
  ∀ (m : (ℓ : Loc Cert.Weights.nD Cert.Weights.τ Cert.Weights.sig) → Buf (Elt Bits) ℓ) (g : Dev Cert.Weights.nD → PrngReg)
    (m' : (ℓ : Loc Cert.WeightsReference.nD Cert.WeightsReference.τ Cert.WeightsReference.sig) → Buf (Elt Bits) ℓ) (g' : Dev Cert.WeightsReference.nD → PrngReg), Pre_Weights m →
    (∀ c : Dev Cert.Weights.nD,
      m ((c.tc : Thread Cert.Weights.nD Cert.Weights.τ).loc Cert.Weights.main_arg0) = Layout.block ⟨2, ![1584, 1024]⟩ ⟨2, ![12672, 1024]⟩ 0 8 c (m' (((0 : Dev Cert.WeightsReference.nD).tc : Thread Cert.WeightsReference.nD Cert.WeightsReference.τ).loc Cert.WeightsReference.main_arg0))) →
    ∃ (v0 : Buf (Elt Bits) (((0 : Dev Cert.WeightsReference.nD).tc : Thread Cert.WeightsReference.nD Cert.WeightsReference.τ).loc Cert.WeightsReference.main_v0)),
      θ_run (Cert.Weights.defs (F := Bits)) (onTc (τ := Cert.Weights.τ) (Cert.Weights.main (F := Bits))) ⟨m, fun _ => 0, g⟩ (fun r => ∀ c : Dev Cert.Weights.nD,
          r.2.mem ((c.tc : Thread Cert.Weights.nD Cert.Weights.τ).loc Cert.Weights.main_v1) = v0
          ∧ r.2.mem ((c.tc : Thread Cert.Weights.nD Cert.Weights.τ).loc Cert.Weights.main_arg0) = m ((c.tc : Thread Cert.Weights.nD Cert.Weights.τ).loc Cert.Weights.main_arg0))
      ∧ θ_run (Cert.WeightsReference.defs (F := Bits)) (onTc (τ := Cert.WeightsReference.τ) (Cert.WeightsReference.main (F := Bits))) ⟨m', fun _ => 0, g'⟩ (fun r =>
          r.2.mem (((0 : Dev Cert.WeightsReference.nD).tc : Thread Cert.WeightsReference.nD Cert.WeightsReference.τ).loc Cert.WeightsReference.main_v0) = v0
          ∧ r.2.mem (((0 : Dev Cert.WeightsReference.nD).tc : Thread Cert.WeightsReference.nD Cert.WeightsReference.τ).loc Cert.WeightsReference.main_arg0) = m' (((0 : Dev Cert.WeightsReference.nD).tc : Thread Cert.WeightsReference.nD Cert.WeightsReference.τ).loc Cert.WeightsReference.main_arg0))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m ((c.tc : Thread Cert.ModIdeal.nD Cert.ModIdeal.τ).loc Cert.ModIdeal.main_arg0) = Layout.block ⟨2, ![8, 768]⟩ ⟨2, ![64, 768]⟩ 0 8 c (m' (((0 : Dev Cert.ModReferenceIdeal.nD).tc : Thread Cert.ModReferenceIdeal.nD Cert.ModReferenceIdeal.τ).loc Cert.ModReferenceIdeal.main_arg0))) →
    ∃ (v0 : Buf (Elt Ideal) (((0 : Dev Cert.ModReferenceIdeal.nD).tc : Thread Cert.ModReferenceIdeal.nD Cert.ModReferenceIdeal.τ).loc Cert.ModReferenceIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0))
      ∧ θ_run (Cert.ModReferenceIdeal.defs (F := Ideal)) (onTc (τ := Cert.ModReferenceIdeal.τ) (Cert.ModReferenceIdeal.main (F := Ideal))) ⟨m', fun _ => 0, g'⟩ (fun r =>
          r.2.mem (((0 : Dev Cert.ModReferenceIdeal.nD).tc : Thread Cert.ModReferenceIdeal.nD Cert.ModReferenceIdeal.τ).loc Cert.ModReferenceIdeal.main_v0) = v0
          ∧ r.2.mem (((0 : Dev Cert.ModReferenceIdeal.nD).tc : Thread Cert.ModReferenceIdeal.nD Cert.ModReferenceIdeal.τ).loc Cert.ModReferenceIdeal.main_arg0) = m' (((0 : Dev Cert.ModReferenceIdeal.nD).tc : Thread Cert.ModReferenceIdeal.nD Cert.ModReferenceIdeal.τ).loc Cert.ModReferenceIdeal.main_arg0))

def bitexact_Mod_ModReference [hMod : Cert.Mod.Facts] [hModReference : Cert.ModReference.Facts] : Prop :=
  ∀ (m : (ℓ : Loc Cert.Mod.nD Cert.Mod.τ Cert.Mod.sig) → Buf (Elt Bits) ℓ) (g : Dev Cert.Mod.nD → PrngReg)
    (m' : (ℓ : Loc Cert.ModReference.nD Cert.ModReference.τ Cert.ModReference.sig) → Buf (Elt Bits) ℓ) (g' : Dev Cert.ModReference.nD → PrngReg), Pre_Mod m →
    (∀ c : Dev Cert.Mod.nD,
      m ((c.tc : Thread Cert.Mod.nD Cert.Mod.τ).loc Cert.Mod.main_arg0) = Layout.block ⟨2, ![8, 768]⟩ ⟨2, ![64, 768]⟩ 0 8 c (m' (((0 : Dev Cert.ModReference.nD).tc : Thread Cert.ModReference.nD Cert.ModReference.τ).loc Cert.ModReference.main_arg0))) →
    ∃ (v0 : Buf (Elt Bits) (((0 : Dev Cert.ModReference.nD).tc : Thread Cert.ModReference.nD Cert.ModReference.τ).loc Cert.ModReference.main_v0)),
      θ_run (Cert.Mod.defs (F := Bits)) (onTc (τ := Cert.Mod.τ) (Cert.Mod.main (F := Bits))) ⟨m, fun _ => 0, g⟩ (fun r => ∀ c : Dev Cert.Mod.nD,
          r.2.mem ((c.tc : Thread Cert.Mod.nD Cert.Mod.τ).loc Cert.Mod.main_v1) = v0
          ∧ r.2.mem ((c.tc : Thread Cert.Mod.nD Cert.Mod.τ).loc Cert.Mod.main_arg0) = m ((c.tc : Thread Cert.Mod.nD Cert.Mod.τ).loc Cert.Mod.main_arg0))
      ∧ θ_run (Cert.ModReference.defs (F := Bits)) (onTc (τ := Cert.ModReference.τ) (Cert.ModReference.main (F := Bits))) ⟨m', fun _ => 0, g'⟩ (fun r =>
          r.2.mem (((0 : Dev Cert.ModReference.nD).tc : Thread Cert.ModReference.nD Cert.ModReference.τ).loc Cert.ModReference.main_v0) = v0
          ∧ r.2.mem (((0 : Dev Cert.ModReference.nD).tc : Thread Cert.ModReference.nD Cert.ModReference.τ).loc Cert.ModReference.main_arg0) = m' (((0 : Dev Cert.ModReference.nD).tc : Thread Cert.ModReference.nD Cert.ModReference.τ).loc Cert.ModReference.main_arg0))

def preserves_Cond_CondIdeal : Prop :=
  True

def algebraic_CondIdeal_CondReferenceIdeal [hCondIdeal : Cert.CondIdeal.Facts] [hCondReferenceIdeal : Cert.CondReferenceIdeal.Facts] : Prop :=
  ∀ (m : (ℓ : Loc Cert.CondIdeal.nD Cert.CondIdeal.τ Cert.CondIdeal.sig) → Buf (Elt Ideal) ℓ) (g : Dev Cert.CondIdeal.nD → PrngReg)
    (m' : (ℓ : Loc Cert.CondReferenceIdeal.nD Cert.CondReferenceIdeal.τ Cert.CondReferenceIdeal.sig) → Buf (Elt Ideal) ℓ) (g' : Dev Cert.CondReferenceIdeal.nD → PrngReg), Pre_CondIdeal m →
    (∀ c : Dev Cert.CondIdeal.nD,
      m ((c.tc : Thread Cert.CondIdeal.nD Cert.CondIdeal.τ).loc Cert.CondIdeal.main_arg0) = Layout.block ⟨2, ![8, 512]⟩ ⟨2, ![64, 512]⟩ 0 8 c (m' (((0 : Dev Cert.CondReferenceIdeal.nD).tc : Thread Cert.CondReferenceIdeal.nD Cert.CondReferenceIdeal.τ).loc Cert.CondReferenceIdeal.main_arg0))) →
    ∃ (v0 : Buf (Elt Ideal) (((0 : Dev Cert.CondReferenceIdeal.nD).tc : Thread Cert.CondReferenceIdeal.nD Cert.CondReferenceIdeal.τ).loc Cert.CondReferenceIdeal.main_v0)),
      θ_run (Cert.CondIdeal.defs (F := Ideal)) (onTc (τ := Cert.CondIdeal.τ) (Cert.CondIdeal.main (F := Ideal))) ⟨m, fun _ => 0, g⟩ (fun r => ∀ c : Dev Cert.CondIdeal.nD,
          r.2.mem ((c.tc : Thread Cert.CondIdeal.nD Cert.CondIdeal.τ).loc Cert.CondIdeal.main_v1) = v0
          ∧ r.2.mem ((c.tc : Thread Cert.CondIdeal.nD Cert.CondIdeal.τ).loc Cert.CondIdeal.main_arg0) = m ((c.tc : Thread Cert.CondIdeal.nD Cert.CondIdeal.τ).loc Cert.CondIdeal.main_arg0))
      ∧ θ_run (Cert.CondReferenceIdeal.defs (F := Ideal)) (onTc (τ := Cert.CondReferenceIdeal.τ) (Cert.CondReferenceIdeal.main (F := Ideal))) ⟨m', fun _ => 0, g'⟩ (fun r =>
          r.2.mem (((0 : Dev Cert.CondReferenceIdeal.nD).tc : Thread Cert.CondReferenceIdeal.nD Cert.CondReferenceIdeal.τ).loc Cert.CondReferenceIdeal.main_v0) = v0
          ∧ r.2.mem (((0 : Dev Cert.CondReferenceIdeal.nD).tc : Thread Cert.CondReferenceIdeal.nD Cert.CondReferenceIdeal.τ).loc Cert.CondReferenceIdeal.main_arg0) = m' (((0 : Dev Cert.CondReferenceIdeal.nD).tc : Thread Cert.CondReferenceIdeal.nD Cert.CondReferenceIdeal.τ).loc Cert.CondReferenceIdeal.main_arg0))

def bitexact_Cond_CondReference [hCond : Cert.Cond.Facts] [hCondReference : Cert.CondReference.Facts] : Prop :=
  ∀ (m : (ℓ : Loc Cert.Cond.nD Cert.Cond.τ Cert.Cond.sig) → Buf (Elt Bits) ℓ) (g : Dev Cert.Cond.nD → PrngReg)
    (m' : (ℓ : Loc Cert.CondReference.nD Cert.CondReference.τ Cert.CondReference.sig) → Buf (Elt Bits) ℓ) (g' : Dev Cert.CondReference.nD → PrngReg), Pre_Cond m →
    (∀ c : Dev Cert.Cond.nD,
      m ((c.tc : Thread Cert.Cond.nD Cert.Cond.τ).loc Cert.Cond.main_arg0) = Layout.block ⟨2, ![8, 512]⟩ ⟨2, ![64, 512]⟩ 0 8 c (m' (((0 : Dev Cert.CondReference.nD).tc : Thread Cert.CondReference.nD Cert.CondReference.τ).loc Cert.CondReference.main_arg0))) →
    ∃ (v0 : Buf (Elt Bits) (((0 : Dev Cert.CondReference.nD).tc : Thread Cert.CondReference.nD Cert.CondReference.τ).loc Cert.CondReference.main_v0)),
      θ_run (Cert.Cond.defs (F := Bits)) (onTc (τ := Cert.Cond.τ) (Cert.Cond.main (F := Bits))) ⟨m, fun _ => 0, g⟩ (fun r => ∀ c : Dev Cert.Cond.nD,
          r.2.mem ((c.tc : Thread Cert.Cond.nD Cert.Cond.τ).loc Cert.Cond.main_v1) = v0
          ∧ r.2.mem ((c.tc : Thread Cert.Cond.nD Cert.Cond.τ).loc Cert.Cond.main_arg0) = m ((c.tc : Thread Cert.Cond.nD Cert.Cond.τ).loc Cert.Cond.main_arg0))
      ∧ θ_run (Cert.CondReference.defs (F := Bits)) (onTc (τ := Cert.CondReference.τ) (Cert.CondReference.main (F := Bits))) ⟨m', fun _ => 0, g'⟩ (fun r =>
          r.2.mem (((0 : Dev Cert.CondReference.nD).tc : Thread Cert.CondReference.nD Cert.CondReference.τ).loc Cert.CondReference.main_v0) = v0
          ∧ r.2.mem (((0 : Dev Cert.CondReference.nD).tc : Thread Cert.CondReference.nD Cert.CondReference.τ).loc Cert.CondReference.main_arg0) = m' (((0 : Dev Cert.CondReference.nD).tc : Thread Cert.CondReference.nD Cert.CondReference.τ).loc Cert.CondReference.main_arg0))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v2) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1))

def preserves_UpProj_UpProjIdeal : Prop :=
  True

def algebraic_UpProjIdeal_UpProjReferenceIdeal [hUpProjIdeal : Cert.UpProjIdeal.Facts] [hUpProjReferenceIdeal : Cert.UpProjReferenceIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjReferenceIdeal.nD Cert.UpProjReferenceIdeal.τ Cert.UpProjReferenceIdeal.sig) → Buf (Elt Ideal) ℓ) (g' : Dev Cert.UpProjReferenceIdeal.nD → PrngReg), Pre_UpProjIdeal m →
    (∀ c : Dev Cert.UpProjIdeal.nD,
      m' ((c.tc : Thread Cert.UpProjReferenceIdeal.nD Cert.UpProjReferenceIdeal.τ).loc Cert.UpProjReferenceIdeal.main_arg0) = m ((c.tc : Thread Cert.UpProjIdeal.nD Cert.UpProjIdeal.τ).loc Cert.UpProjIdeal.main_arg0)
      ∧ m' ((c.tc : Thread Cert.UpProjReferenceIdeal.nD Cert.UpProjReferenceIdeal.τ).loc Cert.UpProjReferenceIdeal.main_arg1) = m ((c.tc : Thread Cert.UpProjIdeal.nD Cert.UpProjIdeal.τ).loc Cert.UpProjIdeal.main_arg1)) →
    ∃ (v0 : (c : Dev Cert.UpProjIdeal.nD) → Buf (Elt Ideal) ((c.tc : Thread Cert.UpProjIdeal.nD Cert.UpProjIdeal.τ).loc Cert.UpProjIdeal.main_v0)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v0) = v0 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ θ_run (Cert.UpProjReferenceIdeal.defs (F := Ideal)) (onTc (τ := Cert.UpProjReferenceIdeal.τ) (Cert.UpProjReferenceIdeal.main (F := Ideal))) ⟨m', fun _ => 0, g'⟩ (fun r => ∀ c : Dev Cert.UpProjReferenceIdeal.nD,
          r.2.mem ((c.tc : Thread Cert.UpProjReferenceIdeal.nD Cert.UpProjReferenceIdeal.τ).loc Cert.UpProjReferenceIdeal.main_v2) = v0 c
          ∧ r.2.mem ((c.tc : Thread Cert.UpProjReferenceIdeal.nD Cert.UpProjReferenceIdeal.τ).loc Cert.UpProjReferenceIdeal.main_arg0) = m' ((c.tc : Thread Cert.UpProjReferenceIdeal.nD Cert.UpProjReferenceIdeal.τ).loc Cert.UpProjReferenceIdeal.main_arg0)
          ∧ r.2.mem ((c.tc : Thread Cert.UpProjReferenceIdeal.nD Cert.UpProjReferenceIdeal.τ).loc Cert.UpProjReferenceIdeal.main_arg1) = m' ((c.tc : Thread Cert.UpProjReferenceIdeal.nD Cert.UpProjReferenceIdeal.τ).loc Cert.UpProjReferenceIdeal.main_arg1))

def preserves_DownProj_DownProjIdeal : Prop :=
  True

def algebraic_DownProjIdeal_DownProjReferenceIdeal [hDownProjIdeal : Cert.DownProjIdeal.Facts] [hDownProjReferenceIdeal : Cert.DownProjReferenceIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjReferenceIdeal.nD Cert.DownProjReferenceIdeal.τ Cert.DownProjReferenceIdeal.sig) → Buf (Elt Ideal) ℓ) (g' : Dev Cert.DownProjReferenceIdeal.nD → PrngReg), Pre_DownProjIdeal m →
    (∀ c : Dev Cert.DownProjIdeal.nD,
      m' ((c.tc : Thread Cert.DownProjReferenceIdeal.nD Cert.DownProjReferenceIdeal.τ).loc Cert.DownProjReferenceIdeal.main_arg0) = m ((c.tc : Thread Cert.DownProjIdeal.nD Cert.DownProjIdeal.τ).loc Cert.DownProjIdeal.main_arg0)
      ∧ m' ((c.tc : Thread Cert.DownProjReferenceIdeal.nD Cert.DownProjReferenceIdeal.τ).loc Cert.DownProjReferenceIdeal.main_arg1) = m ((c.tc : Thread Cert.DownProjIdeal.nD Cert.DownProjIdeal.τ).loc Cert.DownProjIdeal.main_arg1)) →
    ∃ (v0 : (c : Dev Cert.DownProjIdeal.nD) → Buf (Elt Ideal) ((c.tc : Thread Cert.DownProjIdeal.nD Cert.DownProjIdeal.τ).loc Cert.DownProjIdeal.main_v0)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1))
      ∧ θ_run (Cert.DownProjReferenceIdeal.defs (F := Ideal)) (onTc (τ := Cert.DownProjReferenceIdeal.τ) (Cert.DownProjReferenceIdeal.main (F := Ideal))) ⟨m', fun _ => 0, g'⟩ (fun r => ∀ c : Dev Cert.DownProjReferenceIdeal.nD,
          r.2.mem ((c.tc : Thread Cert.DownProjReferenceIdeal.nD Cert.DownProjReferenceIdeal.τ).loc Cert.DownProjReferenceIdeal.main_v2) = v0 c
          ∧ r.2.mem ((c.tc : Thread Cert.DownProjReferenceIdeal.nD Cert.DownProjReferenceIdeal.τ).loc Cert.DownProjReferenceIdeal.main_arg0) = m' ((c.tc : Thread Cert.DownProjReferenceIdeal.nD Cert.DownProjReferenceIdeal.τ).loc Cert.DownProjReferenceIdeal.main_arg0)
          ∧ r.2.mem ((c.tc : Thread Cert.DownProjReferenceIdeal.nD Cert.DownProjReferenceIdeal.τ).loc Cert.DownProjReferenceIdeal.main_arg1) = m' ((c.tc : Thread Cert.DownProjReferenceIdeal.nD Cert.DownProjReferenceIdeal.τ).loc Cert.DownProjReferenceIdeal.main_arg1))

def preserves_DownDgrad_DownDgradIdeal : Prop :=
  True

def algebraic_DownDgradIdeal_DownDgradReferenceIdeal [hDownDgradIdeal : Cert.DownDgradIdeal.Facts] [hDownDgradReferenceIdeal : Cert.DownDgradReferenceIdeal.Facts] : Prop :=
  ∀ (m : (ℓ : Loc Cert.DownDgradIdeal.nD Cert.DownDgradIdeal.τ Cert.DownDgradIdeal.sig) → Buf (Elt Ideal) ℓ) (g : Dev Cert.DownDgradIdeal.nD → PrngReg)
    (m' : (ℓ : Loc Cert.DownDgradReferenceIdeal.nD Cert.DownDgradReferenceIdeal.τ Cert.DownDgradReferenceIdeal.sig) → Buf (Elt Ideal) ℓ) (g' : Dev Cert.DownDgradReferenceIdeal.nD → PrngReg), Pre_DownDgradIdeal m →
    (∀ c : Dev Cert.DownDgradIdeal.nD,
      m' ((c.tc : Thread Cert.DownDgradReferenceIdeal.nD Cert.DownDgradReferenceIdeal.τ).loc Cert.DownDgradReferenceIdeal.main_arg0) = m ((c.tc : Thread Cert.DownDgradIdeal.nD Cert.DownDgradIdeal.τ).loc Cert.DownDgradIdeal.main_arg0)
      ∧ m' ((c.tc : Thread Cert.DownDgradReferenceIdeal.nD Cert.DownDgradReferenceIdeal.τ).loc Cert.DownDgradReferenceIdeal.main_arg1) = m ((c.tc : Thread Cert.DownDgradIdeal.nD Cert.DownDgradIdeal.τ).loc Cert.DownDgradIdeal.main_arg1)) →
    ∃ (v0 : (c : Dev Cert.DownDgradIdeal.nD) → Buf (Elt Ideal) ((c.tc : Thread Cert.DownDgradIdeal.nD Cert.DownDgradIdeal.τ).loc Cert.DownDgradIdeal.main_v0)),
      θ_run (Cert.DownDgradIdeal.defs (F := Ideal)) (onTc (τ := Cert.DownDgradIdeal.τ) (Cert.DownDgradIdeal.main (F := Ideal))) ⟨m, fun _ => 0, g⟩ (fun r => ∀ c : Dev Cert.DownDgradIdeal.nD,
          r.2.mem ((c.tc : Thread Cert.DownDgradIdeal.nD Cert.DownDgradIdeal.τ).loc Cert.DownDgradIdeal.main_v0) = v0 c
          ∧ r.2.mem ((c.tc : Thread Cert.DownDgradIdeal.nD Cert.DownDgradIdeal.τ).loc Cert.DownDgradIdeal.main_arg0) = m ((c.tc : Thread Cert.DownDgradIdeal.nD Cert.DownDgradIdeal.τ).loc Cert.DownDgradIdeal.main_arg0)
          ∧ r.2.mem ((c.tc : Thread Cert.DownDgradIdeal.nD Cert.DownDgradIdeal.τ).loc Cert.DownDgradIdeal.main_arg1) = m ((c.tc : Thread Cert.DownDgradIdeal.nD Cert.DownDgradIdeal.τ).loc Cert.DownDgradIdeal.main_arg1))
      ∧ θ_run (Cert.DownDgradReferenceIdeal.defs (F := Ideal)) (onTc (τ := Cert.DownDgradReferenceIdeal.τ) (Cert.DownDgradReferenceIdeal.main (F := Ideal))) ⟨m', fun _ => 0, g'⟩ (fun r => ∀ c : Dev Cert.DownDgradReferenceIdeal.nD,
          r.2.mem ((c.tc : Thread Cert.DownDgradReferenceIdeal.nD Cert.DownDgradReferenceIdeal.τ).loc Cert.DownDgradReferenceIdeal.main_v2) = v0 c
          ∧ r.2.mem ((c.tc : Thread Cert.DownDgradReferenceIdeal.nD Cert.DownDgradReferenceIdeal.τ).loc Cert.DownDgradReferenceIdeal.main_arg0) = m' ((c.tc : Thread Cert.DownDgradReferenceIdeal.nD Cert.DownDgradReferenceIdeal.τ).loc Cert.DownDgradReferenceIdeal.main_arg0)
          ∧ r.2.mem ((c.tc : Thread Cert.DownDgradReferenceIdeal.nD Cert.DownDgradReferenceIdeal.τ).loc Cert.DownDgradReferenceIdeal.main_arg1) = m' ((c.tc : Thread Cert.DownDgradReferenceIdeal.nD Cert.DownDgradReferenceIdeal.τ).loc Cert.DownDgradReferenceIdeal.main_arg1))

def preserves_UpDgrad_UpDgradIdeal : Prop :=
  True

def algebraic_UpDgradIdeal_UpDgradReferenceIdeal [hUpDgradIdeal : Cert.UpDgradIdeal.Facts] [hUpDgradReferenceIdeal : Cert.UpDgradReferenceIdeal.Facts] : Prop :=
  ∀ (m : (ℓ : Loc Cert.UpDgradIdeal.nD Cert.UpDgradIdeal.τ Cert.UpDgradIdeal.sig) → Buf (Elt Ideal) ℓ) (g : Dev Cert.UpDgradIdeal.nD → PrngReg)
    (m' : (ℓ : Loc Cert.UpDgradReferenceIdeal.nD Cert.UpDgradReferenceIdeal.τ Cert.UpDgradReferenceIdeal.sig) → Buf (Elt Ideal) ℓ) (g' : Dev Cert.UpDgradReferenceIdeal.nD → PrngReg), Pre_UpDgradIdeal m →
    (∀ c : Dev Cert.UpDgradIdeal.nD,
      m' ((c.tc : Thread Cert.UpDgradReferenceIdeal.nD Cert.UpDgradReferenceIdeal.τ).loc Cert.UpDgradReferenceIdeal.main_arg0) = m ((c.tc : Thread Cert.UpDgradIdeal.nD Cert.UpDgradIdeal.τ).loc Cert.UpDgradIdeal.main_arg0)
      ∧ m' ((c.tc : Thread Cert.UpDgradReferenceIdeal.nD Cert.UpDgradReferenceIdeal.τ).loc Cert.UpDgradReferenceIdeal.main_arg1) = m ((c.tc : Thread Cert.UpDgradIdeal.nD Cert.UpDgradIdeal.τ).loc Cert.UpDgradIdeal.main_arg1)) →
    ∃ (v0 : (c : Dev Cert.UpDgradIdeal.nD) → Buf (Elt Ideal) ((c.tc : Thread Cert.UpDgradIdeal.nD Cert.UpDgradIdeal.τ).loc Cert.UpDgradIdeal.main_v0)),
      θ_run (Cert.UpDgradIdeal.defs (F := Ideal)) (onTc (τ := Cert.UpDgradIdeal.τ) (Cert.UpDgradIdeal.main (F := Ideal))) ⟨m, fun _ => 0, g⟩ (fun r => ∀ c : Dev Cert.UpDgradIdeal.nD,
          r.2.mem ((c.tc : Thread Cert.UpDgradIdeal.nD Cert.UpDgradIdeal.τ).loc Cert.UpDgradIdeal.main_v0) = v0 c
          ∧ r.2.mem ((c.tc : Thread Cert.UpDgradIdeal.nD Cert.UpDgradIdeal.τ).loc Cert.UpDgradIdeal.main_arg0) = m ((c.tc : Thread Cert.UpDgradIdeal.nD Cert.UpDgradIdeal.τ).loc Cert.UpDgradIdeal.main_arg0)
          ∧ r.2.mem ((c.tc : Thread Cert.UpDgradIdeal.nD Cert.UpDgradIdeal.τ).loc Cert.UpDgradIdeal.main_arg1) = m ((c.tc : Thread Cert.UpDgradIdeal.nD Cert.UpDgradIdeal.τ).loc Cert.UpDgradIdeal.main_arg1))
      ∧ θ_run (Cert.UpDgradReferenceIdeal.defs (F := Ideal)) (onTc (τ := Cert.UpDgradReferenceIdeal.τ) (Cert.UpDgradReferenceIdeal.main (F := Ideal))) ⟨m', fun _ => 0, g'⟩ (fun r => ∀ c : Dev Cert.UpDgradReferenceIdeal.nD,
          r.2.mem ((c.tc : Thread Cert.UpDgradReferenceIdeal.nD Cert.UpDgradReferenceIdeal.τ).loc Cert.UpDgradReferenceIdeal.main_v2) = v0 c
          ∧ r.2.mem ((c.tc : Thread Cert.UpDgradReferenceIdeal.nD Cert.UpDgradReferenceIdeal.τ).loc Cert.UpDgradReferenceIdeal.main_arg0) = m' ((c.tc : Thread Cert.UpDgradReferenceIdeal.nD Cert.UpDgradReferenceIdeal.τ).loc Cert.UpDgradReferenceIdeal.main_arg0)
          ∧ r.2.mem ((c.tc : Thread Cert.UpDgradReferenceIdeal.nD Cert.UpDgradReferenceIdeal.τ).loc Cert.UpDgradReferenceIdeal.main_arg1) = m' ((c.tc : Thread Cert.UpDgradReferenceIdeal.nD Cert.UpDgradReferenceIdeal.τ).loc Cert.UpDgradReferenceIdeal.main_arg1))

def preserves_OutDgrad_OutDgradIdeal : Prop :=
  True

def algebraic_OutDgradIdeal_OutDgradReferenceIdeal [hOutDgradIdeal : Cert.OutDgradIdeal.Facts] [hOutDgradReferenceIdeal : Cert.OutDgradReferenceIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg)
    (m' : (ℓ : Loc Cert.OutDgradReferenceIdeal.nD Cert.OutDgradReferenceIdeal.τ Cert.OutDgradReferenceIdeal.sig) → Buf (Elt Ideal) ℓ) (g' : Dev Cert.OutDgradReferenceIdeal.nD → PrngReg), Pre_OutDgradIdeal m →
    (∀ c : Dev Cert.OutDgradIdeal.nD,
      m' ((c.tc : Thread Cert.OutDgradReferenceIdeal.nD Cert.OutDgradReferenceIdeal.τ).loc Cert.OutDgradReferenceIdeal.main_arg0) = m ((c.tc : Thread Cert.OutDgradIdeal.nD Cert.OutDgradIdeal.τ).loc Cert.OutDgradIdeal.main_arg0)
      ∧ m' ((c.tc : Thread Cert.OutDgradReferenceIdeal.nD Cert.OutDgradReferenceIdeal.τ).loc Cert.OutDgradReferenceIdeal.main_arg1) = m ((c.tc : Thread Cert.OutDgradIdeal.nD Cert.OutDgradIdeal.τ).loc Cert.OutDgradIdeal.main_arg1)) →
    ∃ (v0 : (c : Dev Cert.OutDgradIdeal.nD) → Buf (Elt Ideal) ((c.tc : Thread Cert.OutDgradIdeal.nD Cert.OutDgradIdeal.τ).loc Cert.OutDgradIdeal.main_v0)),
      θ_run (Cert.OutDgradIdeal.defs (F := Ideal)) (onTc (τ := Cert.OutDgradIdeal.τ) (Cert.OutDgradIdeal.main (F := Ideal))) ⟨m, fun _ => 0, g⟩ (fun r => ∀ c : Dev Cert.OutDgradIdeal.nD,
          r.2.mem ((c.tc : Thread Cert.OutDgradIdeal.nD Cert.OutDgradIdeal.τ).loc Cert.OutDgradIdeal.main_v0) = v0 c
          ∧ r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
          ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ θ_run (Cert.OutDgradReferenceIdeal.defs (F := Ideal)) (onTc (τ := Cert.OutDgradReferenceIdeal.τ) (Cert.OutDgradReferenceIdeal.main (F := Ideal))) ⟨m', fun _ => 0, g'⟩ (fun r => ∀ c : Dev Cert.OutDgradReferenceIdeal.nD,
          r.2.mem ((c.tc : Thread Cert.OutDgradReferenceIdeal.nD Cert.OutDgradReferenceIdeal.τ).loc Cert.OutDgradReferenceIdeal.main_v2) = v0 c
          ∧ r.2.mem ((c.tc : Thread Cert.OutDgradReferenceIdeal.nD Cert.OutDgradReferenceIdeal.τ).loc Cert.OutDgradReferenceIdeal.main_arg0) = m' ((c.tc : Thread Cert.OutDgradReferenceIdeal.nD Cert.OutDgradReferenceIdeal.τ).loc Cert.OutDgradReferenceIdeal.main_arg0)
          ∧ r.2.mem ((c.tc : Thread Cert.OutDgradReferenceIdeal.nD Cert.OutDgradReferenceIdeal.τ).loc Cert.OutDgradReferenceIdeal.main_arg1) = m' ((c.tc : Thread Cert.OutDgradReferenceIdeal.nD Cert.OutDgradReferenceIdeal.τ).loc Cert.OutDgradReferenceIdeal.main_arg1))

def preserves_InDgrad_InDgradIdeal : Prop :=
  True

def algebraic_InDgradIdeal_InDgradReferenceIdeal [hInDgradIdeal : Cert.InDgradIdeal.Facts] [hInDgradReferenceIdeal : Cert.InDgradReferenceIdeal.Facts] : Prop :=
  ∀ (m : (ℓ : Loc Cert.InDgradIdeal.nD Cert.InDgradIdeal.τ Cert.InDgradIdeal.sig) → Buf (Elt Ideal) ℓ) (g : Dev Cert.InDgradIdeal.nD → PrngReg)
    (m' : (ℓ : Loc Cert.InDgradReferenceIdeal.nD Cert.InDgradReferenceIdeal.τ Cert.InDgradReferenceIdeal.sig) → Buf (Elt Ideal) ℓ) (g' : Dev Cert.InDgradReferenceIdeal.nD → PrngReg), Pre_InDgradIdeal m →
    (∀ c : Dev Cert.InDgradIdeal.nD,
      m' ((c.tc : Thread Cert.InDgradReferenceIdeal.nD Cert.InDgradReferenceIdeal.τ).loc Cert.InDgradReferenceIdeal.main_arg0) = m ((c.tc : Thread Cert.InDgradIdeal.nD Cert.InDgradIdeal.τ).loc Cert.InDgradIdeal.main_arg0)
      ∧ m' ((c.tc : Thread Cert.InDgradReferenceIdeal.nD Cert.InDgradReferenceIdeal.τ).loc Cert.InDgradReferenceIdeal.main_arg1) = m ((c.tc : Thread Cert.InDgradIdeal.nD Cert.InDgradIdeal.τ).loc Cert.InDgradIdeal.main_arg1)) →
    ∃ (v0 : (c : Dev Cert.InDgradIdeal.nD) → Buf (Elt Ideal) ((c.tc : Thread Cert.InDgradIdeal.nD Cert.InDgradIdeal.τ).loc Cert.InDgradIdeal.main_v0)),
      θ_run (Cert.InDgradIdeal.defs (F := Ideal)) (onTc (τ := Cert.InDgradIdeal.τ) (Cert.InDgradIdeal.main (F := Ideal))) ⟨m, fun _ => 0, g⟩ (fun r => ∀ c : Dev Cert.InDgradIdeal.nD,
          r.2.mem ((c.tc : Thread Cert.InDgradIdeal.nD Cert.InDgradIdeal.τ).loc Cert.InDgradIdeal.main_v0) = v0 c
          ∧ r.2.mem ((c.tc : Thread Cert.InDgradIdeal.nD Cert.InDgradIdeal.τ).loc Cert.InDgradIdeal.main_arg0) = m ((c.tc : Thread Cert.InDgradIdeal.nD Cert.InDgradIdeal.τ).loc Cert.InDgradIdeal.main_arg0)
          ∧ r.2.mem ((c.tc : Thread Cert.InDgradIdeal.nD Cert.InDgradIdeal.τ).loc Cert.InDgradIdeal.main_arg1) = m ((c.tc : Thread Cert.InDgradIdeal.nD Cert.InDgradIdeal.τ).loc Cert.InDgradIdeal.main_arg1))
      ∧ θ_run (Cert.InDgradReferenceIdeal.defs (F := Ideal)) (onTc (τ := Cert.InDgradReferenceIdeal.τ) (Cert.InDgradReferenceIdeal.main (F := Ideal))) ⟨m', fun _ => 0, g'⟩ (fun r => ∀ c : Dev Cert.InDgradReferenceIdeal.nD,
          r.2.mem ((c.tc : Thread Cert.InDgradReferenceIdeal.nD Cert.InDgradReferenceIdeal.τ).loc Cert.InDgradReferenceIdeal.main_v2) = v0 c
          ∧ r.2.mem ((c.tc : Thread Cert.InDgradReferenceIdeal.nD Cert.InDgradReferenceIdeal.τ).loc Cert.InDgradReferenceIdeal.main_arg0) = m' ((c.tc : Thread Cert.InDgradReferenceIdeal.nD Cert.InDgradReferenceIdeal.τ).loc Cert.InDgradReferenceIdeal.main_arg0)
          ∧ r.2.mem ((c.tc : Thread Cert.InDgradReferenceIdeal.nD Cert.InDgradReferenceIdeal.τ).loc Cert.InDgradReferenceIdeal.main_arg1) = m' ((c.tc : Thread Cert.InDgradReferenceIdeal.nD Cert.InDgradReferenceIdeal.τ).loc Cert.InDgradReferenceIdeal.main_arg1))

def preserves_DownWgrad_DownWgradIdeal : Prop :=
  True

def algebraic_DownWgradIdeal_DownWgradReferenceIdeal [hDownWgradIdeal : Cert.DownWgradIdeal.Facts] [hDownWgradReferenceIdeal : Cert.DownWgradReferenceIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg)
    (m' : (ℓ : Loc Cert.DownWgradReferenceIdeal.nD Cert.DownWgradReferenceIdeal.τ Cert.DownWgradReferenceIdeal.sig) → Buf (Elt Ideal) ℓ) (g' : Dev Cert.DownWgradReferenceIdeal.nD → PrngReg), Pre_DownWgradIdeal m →
    (∀ c : Dev Cert.DownWgradIdeal.nD,
      m' ((c.tc : Thread Cert.DownWgradReferenceIdeal.nD Cert.DownWgradReferenceIdeal.τ).loc Cert.DownWgradReferenceIdeal.main_arg0) = m ((c.tc : Thread Cert.DownWgradIdeal.nD Cert.DownWgradIdeal.τ).loc Cert.DownWgradIdeal.main_arg0)
      ∧ m' ((c.tc : Thread Cert.DownWgradReferenceIdeal.nD Cert.DownWgradReferenceIdeal.τ).loc Cert.DownWgradReferenceIdeal.main_arg1) = m ((c.tc : Thread Cert.DownWgradIdeal.nD Cert.DownWgradIdeal.τ).loc Cert.DownWgradIdeal.main_arg1)) →
    ∃ (v0 : (c : Dev Cert.DownWgradIdeal.nD) → Buf (Elt Ideal) ((c.tc : Thread Cert.DownWgradIdeal.nD Cert.DownWgradIdeal.τ).loc Cert.DownWgradIdeal.main_v0)),
      θ_run (Cert.DownWgradIdeal.defs (F := Ideal)) (onTc (τ := Cert.DownWgradIdeal.τ) (Cert.DownWgradIdeal.main (F := Ideal))) ⟨m, fun _ => 0, g⟩ (fun r => ∀ c : Dev Cert.DownWgradIdeal.nD,
          r.2.mem ((c.tc : Thread Cert.DownWgradIdeal.nD Cert.DownWgradIdeal.τ).loc Cert.DownWgradIdeal.main_v0) = v0 c
          ∧ r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
          ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ θ_run (Cert.DownWgradReferenceIdeal.defs (F := Ideal)) (onTc (τ := Cert.DownWgradReferenceIdeal.τ) (Cert.DownWgradReferenceIdeal.main (F := Ideal))) ⟨m', fun _ => 0, g'⟩ (fun r => ∀ c : Dev Cert.DownWgradReferenceIdeal.nD,
          r.2.mem ((c.tc : Thread Cert.DownWgradReferenceIdeal.nD Cert.DownWgradReferenceIdeal.τ).loc Cert.DownWgradReferenceIdeal.main_v3) = v0 c
          ∧ r.2.mem ((c.tc : Thread Cert.DownWgradReferenceIdeal.nD Cert.DownWgradReferenceIdeal.τ).loc Cert.DownWgradReferenceIdeal.main_arg0) = m' ((c.tc : Thread Cert.DownWgradReferenceIdeal.nD Cert.DownWgradReferenceIdeal.τ).loc Cert.DownWgradReferenceIdeal.main_arg0)
          ∧ r.2.mem ((c.tc : Thread Cert.DownWgradReferenceIdeal.nD Cert.DownWgradReferenceIdeal.τ).loc Cert.DownWgradReferenceIdeal.main_arg1) = m' ((c.tc : Thread Cert.DownWgradReferenceIdeal.nD Cert.DownWgradReferenceIdeal.τ).loc Cert.DownWgradReferenceIdeal.main_arg1))

def preserves_UpWgrad_UpWgradIdeal : Prop :=
  True

def algebraic_UpWgradIdeal_UpWgradReferenceIdeal [hUpWgradIdeal : Cert.UpWgradIdeal.Facts] [hUpWgradReferenceIdeal : Cert.UpWgradReferenceIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg)
    (m' : (ℓ : Loc Cert.UpWgradReferenceIdeal.nD Cert.UpWgradReferenceIdeal.τ Cert.UpWgradReferenceIdeal.sig) → Buf (Elt Ideal) ℓ) (g' : Dev Cert.UpWgradReferenceIdeal.nD → PrngReg), Pre_UpWgradIdeal m →
    (∀ c : Dev Cert.UpWgradIdeal.nD,
      m' ((c.tc : Thread Cert.UpWgradReferenceIdeal.nD Cert.UpWgradReferenceIdeal.τ).loc Cert.UpWgradReferenceIdeal.main_arg0) = m ((c.tc : Thread Cert.UpWgradIdeal.nD Cert.UpWgradIdeal.τ).loc Cert.UpWgradIdeal.main_arg0)
      ∧ m' ((c.tc : Thread Cert.UpWgradReferenceIdeal.nD Cert.UpWgradReferenceIdeal.τ).loc Cert.UpWgradReferenceIdeal.main_arg1) = m ((c.tc : Thread Cert.UpWgradIdeal.nD Cert.UpWgradIdeal.τ).loc Cert.UpWgradIdeal.main_arg1)) →
    ∃ (v0 : (c : Dev Cert.UpWgradIdeal.nD) → Buf (Elt Ideal) ((c.tc : Thread Cert.UpWgradIdeal.nD Cert.UpWgradIdeal.τ).loc Cert.UpWgradIdeal.main_v0)),
      θ_run (Cert.UpWgradIdeal.defs (F := Ideal)) (onTc (τ := Cert.UpWgradIdeal.τ) (Cert.UpWgradIdeal.main (F := Ideal))) ⟨m, fun _ => 0, g⟩ (fun r => ∀ c : Dev Cert.UpWgradIdeal.nD,
          r.2.mem ((c.tc : Thread Cert.UpWgradIdeal.nD Cert.UpWgradIdeal.τ).loc Cert.UpWgradIdeal.main_v0) = v0 c
          ∧ r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
          ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1))
      ∧ θ_run (Cert.UpWgradReferenceIdeal.defs (F := Ideal)) (onTc (τ := Cert.UpWgradReferenceIdeal.τ) (Cert.UpWgradReferenceIdeal.main (F := Ideal))) ⟨m', fun _ => 0, g'⟩ (fun r => ∀ c : Dev Cert.UpWgradReferenceIdeal.nD,
          r.2.mem ((c.tc : Thread Cert.UpWgradReferenceIdeal.nD Cert.UpWgradReferenceIdeal.τ).loc Cert.UpWgradReferenceIdeal.main_v3) = v0 c
          ∧ r.2.mem ((c.tc : Thread Cert.UpWgradReferenceIdeal.nD Cert.UpWgradReferenceIdeal.τ).loc Cert.UpWgradReferenceIdeal.main_arg0) = m' ((c.tc : Thread Cert.UpWgradReferenceIdeal.nD Cert.UpWgradReferenceIdeal.τ).loc Cert.UpWgradReferenceIdeal.main_arg0)
          ∧ r.2.mem ((c.tc : Thread Cert.UpWgradReferenceIdeal.nD Cert.UpWgradReferenceIdeal.τ).loc Cert.UpWgradReferenceIdeal.main_arg1) = m' ((c.tc : Thread Cert.UpWgradReferenceIdeal.nD Cert.UpWgradReferenceIdeal.τ).loc Cert.UpWgradReferenceIdeal.main_arg1))

def preserves_OutWgrad_OutWgradIdeal : Prop :=
  True

def algebraic_OutWgradIdeal_OutWgradReferenceIdeal [hOutWgradIdeal : Cert.OutWgradIdeal.Facts] [hOutWgradReferenceIdeal : Cert.OutWgradReferenceIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradReferenceIdeal.nD Cert.OutWgradReferenceIdeal.τ Cert.OutWgradReferenceIdeal.sig) → Buf (Elt Ideal) ℓ) (g' : Dev Cert.OutWgradReferenceIdeal.nD → PrngReg), Pre_OutWgradIdeal m →
    (∀ c : Dev Cert.OutWgradIdeal.nD,
      m' ((c.tc : Thread Cert.OutWgradReferenceIdeal.nD Cert.OutWgradReferenceIdeal.τ).loc Cert.OutWgradReferenceIdeal.main_arg0) = m ((c.tc : Thread Cert.OutWgradIdeal.nD Cert.OutWgradIdeal.τ).loc Cert.OutWgradIdeal.main_arg0)
      ∧ m' ((c.tc : Thread Cert.OutWgradReferenceIdeal.nD Cert.OutWgradReferenceIdeal.τ).loc Cert.OutWgradReferenceIdeal.main_arg1) = m ((c.tc : Thread Cert.OutWgradIdeal.nD Cert.OutWgradIdeal.τ).loc Cert.OutWgradIdeal.main_arg1)) →
    ∃ (v0 : (c : Dev Cert.OutWgradIdeal.nD) → Buf (Elt Ideal) ((c.tc : Thread Cert.OutWgradIdeal.nD Cert.OutWgradIdeal.τ).loc Cert.OutWgradIdeal.main_v0)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ θ_run (Cert.OutWgradReferenceIdeal.defs (F := Ideal)) (onTc (τ := Cert.OutWgradReferenceIdeal.τ) (Cert.OutWgradReferenceIdeal.main (F := Ideal))) ⟨m', fun _ => 0, g'⟩ (fun r => ∀ c : Dev Cert.OutWgradReferenceIdeal.nD,
          r.2.mem ((c.tc : Thread Cert.OutWgradReferenceIdeal.nD Cert.OutWgradReferenceIdeal.τ).loc Cert.OutWgradReferenceIdeal.main_v3) = v0 c
          ∧ r.2.mem ((c.tc : Thread Cert.OutWgradReferenceIdeal.nD Cert.OutWgradReferenceIdeal.τ).loc Cert.OutWgradReferenceIdeal.main_arg0) = m' ((c.tc : Thread Cert.OutWgradReferenceIdeal.nD Cert.OutWgradReferenceIdeal.τ).loc Cert.OutWgradReferenceIdeal.main_arg0)
          ∧ r.2.mem ((c.tc : Thread Cert.OutWgradReferenceIdeal.nD Cert.OutWgradReferenceIdeal.τ).loc Cert.OutWgradReferenceIdeal.main_arg1) = m' ((c.tc : Thread Cert.OutWgradReferenceIdeal.nD Cert.OutWgradReferenceIdeal.τ).loc Cert.OutWgradReferenceIdeal.main_arg1))

def preserves_InWgrad_InWgradIdeal : Prop :=
  True

def algebraic_InWgradIdeal_InWgradReferenceIdeal [hInWgradIdeal : Cert.InWgradIdeal.Facts] [hInWgradReferenceIdeal : Cert.InWgradReferenceIdeal.Facts] : Prop :=
  ∀ (m : (ℓ : Loc Cert.InWgradIdeal.nD Cert.InWgradIdeal.τ Cert.InWgradIdeal.sig) → Buf (Elt Ideal) ℓ) (g : Dev Cert.InWgradIdeal.nD → PrngReg)
    (m' : (ℓ : Loc Cert.InWgradReferenceIdeal.nD Cert.InWgradReferenceIdeal.τ Cert.InWgradReferenceIdeal.sig) → Buf (Elt Ideal) ℓ) (g' : Dev Cert.InWgradReferenceIdeal.nD → PrngReg), Pre_InWgradIdeal m →
    (∀ c : Dev Cert.InWgradIdeal.nD,
      m' ((c.tc : Thread Cert.InWgradReferenceIdeal.nD Cert.InWgradReferenceIdeal.τ).loc Cert.InWgradReferenceIdeal.main_arg0) = m ((c.tc : Thread Cert.InWgradIdeal.nD Cert.InWgradIdeal.τ).loc Cert.InWgradIdeal.main_arg0)
      ∧ m' ((c.tc : Thread Cert.InWgradReferenceIdeal.nD Cert.InWgradReferenceIdeal.τ).loc Cert.InWgradReferenceIdeal.main_arg1) = m ((c.tc : Thread Cert.InWgradIdeal.nD Cert.InWgradIdeal.τ).loc Cert.InWgradIdeal.main_arg1)) →
    ∃ (v0 : (c : Dev Cert.InWgradIdeal.nD) → Buf (Elt Ideal) ((c.tc : Thread Cert.InWgradIdeal.nD Cert.InWgradIdeal.τ).loc Cert.InWgradIdeal.main_v0)),
      θ_run (Cert.InWgradIdeal.defs (F := Ideal)) (onTc (τ := Cert.InWgradIdeal.τ) (Cert.InWgradIdeal.main (F := Ideal))) ⟨m, fun _ => 0, g⟩ (fun r => ∀ c : Dev Cert.InWgradIdeal.nD,
          r.2.mem ((c.tc : Thread Cert.InWgradIdeal.nD Cert.InWgradIdeal.τ).loc Cert.InWgradIdeal.main_v0) = v0 c
          ∧ r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
          ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ θ_run (Cert.InWgradReferenceIdeal.defs (F := Ideal)) (onTc (τ := Cert.InWgradReferenceIdeal.τ) (Cert.InWgradReferenceIdeal.main (F := Ideal))) ⟨m', fun _ => 0, g'⟩ (fun r => ∀ c : Dev Cert.InWgradReferenceIdeal.nD,
          r.2.mem ((c.tc : Thread Cert.InWgradReferenceIdeal.nD Cert.InWgradReferenceIdeal.τ).loc Cert.InWgradReferenceIdeal.main_v3) = v0 c
          ∧ r.2.mem ((c.tc : Thread Cert.InWgradReferenceIdeal.nD Cert.InWgradReferenceIdeal.τ).loc Cert.InWgradReferenceIdeal.main_arg0) = m' ((c.tc : Thread Cert.InWgradReferenceIdeal.nD Cert.InWgradReferenceIdeal.τ).loc Cert.InWgradReferenceIdeal.main_arg0)
          ∧ r.2.mem ((c.tc : Thread Cert.InWgradReferenceIdeal.nD Cert.InWgradReferenceIdeal.τ).loc Cert.InWgradReferenceIdeal.main_arg1) = m' ((c.tc : Thread Cert.InWgradReferenceIdeal.nD Cert.InWgradReferenceIdeal.τ).loc Cert.InWgradReferenceIdeal.main_arg1))

def preserves_Norm1Bwd_Norm1BwdIdeal : Prop :=
  True

def algebraic_Norm1BwdIdeal_Norm1BwdReferenceIdeal [hNorm1BwdIdeal : Cert.Norm1BwdIdeal.Facts] [hNorm1BwdReferenceIdeal : Cert.Norm1BwdReferenceIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg)
    (m' : (ℓ : Loc Cert.Norm1BwdReferenceIdeal.nD Cert.Norm1BwdReferenceIdeal.τ Cert.Norm1BwdReferenceIdeal.sig) → Buf (Elt Ideal) ℓ) (g' : Dev Cert.Norm1BwdReferenceIdeal.nD → PrngReg), Pre_Norm1BwdIdeal m →
    (∀ c : Dev Cert.Norm1BwdIdeal.nD,
      m' ((c.tc : Thread Cert.Norm1BwdReferenceIdeal.nD Cert.Norm1BwdReferenceIdeal.τ).loc Cert.Norm1BwdReferenceIdeal.main_arg0) = m ((c.tc : Thread Cert.Norm1BwdIdeal.nD Cert.Norm1BwdIdeal.τ).loc Cert.Norm1BwdIdeal.main_arg0)
      ∧ m' ((c.tc : Thread Cert.Norm1BwdReferenceIdeal.nD Cert.Norm1BwdReferenceIdeal.τ).loc Cert.Norm1BwdReferenceIdeal.main_arg1) = m ((c.tc : Thread Cert.Norm1BwdIdeal.nD Cert.Norm1BwdIdeal.τ).loc Cert.Norm1BwdIdeal.main_arg1)
      ∧ m' ((c.tc : Thread Cert.Norm1BwdReferenceIdeal.nD Cert.Norm1BwdReferenceIdeal.τ).loc Cert.Norm1BwdReferenceIdeal.main_arg2) = m ((c.tc : Thread Cert.Norm1BwdIdeal.nD Cert.Norm1BwdIdeal.τ).loc Cert.Norm1BwdIdeal.main_arg2)
      ∧ m' ((c.tc : Thread Cert.Norm1BwdReferenceIdeal.nD Cert.Norm1BwdReferenceIdeal.τ).loc Cert.Norm1BwdReferenceIdeal.main_arg3) = m ((c.tc : Thread Cert.Norm1BwdIdeal.nD Cert.Norm1BwdIdeal.τ).loc Cert.Norm1BwdIdeal.main_arg3)
      ∧ m' ((c.tc : Thread Cert.Norm1BwdReferenceIdeal.nD Cert.Norm1BwdReferenceIdeal.τ).loc Cert.Norm1BwdReferenceIdeal.main_arg4) = m ((c.tc : Thread Cert.Norm1BwdIdeal.nD Cert.Norm1BwdIdeal.τ).loc Cert.Norm1BwdIdeal.main_arg4)
      ∧ m' ((c.tc : Thread Cert.Norm1BwdReferenceIdeal.nD Cert.Norm1BwdReferenceIdeal.τ).loc Cert.Norm1BwdReferenceIdeal.main_arg5) = m ((c.tc : Thread Cert.Norm1BwdIdeal.nD Cert.Norm1BwdIdeal.τ).loc Cert.Norm1BwdIdeal.main_arg5)) →
    ∃ (v0 : (c : Dev Cert.Norm1BwdIdeal.nD) → Buf (Elt Ideal) ((c.tc : Thread Cert.Norm1BwdIdeal.nD Cert.Norm1BwdIdeal.τ).loc Cert.Norm1BwdIdeal.main_v0_0)) (v1 : (c : Dev Cert.Norm1BwdIdeal.nD) → Buf (Elt Ideal) ((c.tc : Thread Cert.Norm1BwdIdeal.nD Cert.Norm1BwdIdeal.τ).loc Cert.Norm1BwdIdeal.main_v0_1)) (v2 : (c : Dev Cert.Norm1BwdIdeal.nD) → Buf (Elt Ideal) ((c.tc : Thread Cert.Norm1BwdIdeal.nD Cert.Norm1BwdIdeal.τ).loc Cert.Norm1BwdIdeal.main_v0_2)) (v3 : (c : Dev Cert.Norm1BwdIdeal.nD) → Buf (Elt Ideal) ((c.tc : Thread Cert.Norm1BwdIdeal.nD Cert.Norm1BwdIdeal.τ).loc Cert.Norm1BwdIdeal.main_v0_3)),
      θ_run (Cert.Norm1BwdIdeal.defs (F := Ideal)) (onTc (τ := Cert.Norm1BwdIdeal.τ) (Cert.Norm1BwdIdeal.main (F := Ideal))) ⟨m, fun _ => 0, g⟩ (fun r => ∀ c : Dev Cert.Norm1BwdIdeal.nD,
          r.2.mem ((c.tc : Thread Cert.Norm1BwdIdeal.nD Cert.Norm1BwdIdeal.τ).loc Cert.Norm1BwdIdeal.main_v0_0) = v0 c
          ∧ r.2.mem ((c.tc : Thread Cert.Norm1BwdIdeal.nD Cert.Norm1BwdIdeal.τ).loc Cert.Norm1BwdIdeal.main_v0_1) = v1 c
          ∧ r.2.mem ((c.tc : Thread Cert.Norm1BwdIdeal.nD Cert.Norm1BwdIdeal.τ).loc Cert.Norm1BwdIdeal.main_v0_2) = v2 c
          ∧ r.2.mem ((c.tc : Thread Cert.Norm1BwdIdeal.nD Cert.Norm1BwdIdeal.τ).loc Cert.Norm1BwdIdeal.main_v0_3) = v3 c
          ∧ r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
          ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
          ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
          ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
          ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
          ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5))
      ∧ θ_run (Cert.Norm1BwdReferenceIdeal.defs (F := Ideal)) (onTc (τ := Cert.Norm1BwdReferenceIdeal.τ) (Cert.Norm1BwdReferenceIdeal.main (F := Ideal))) ⟨m', fun _ => 0, g'⟩ (fun r => ∀ c : Dev Cert.Norm1BwdReferenceIdeal.nD,
          r.2.mem ((c.tc : Thread Cert.Norm1BwdReferenceIdeal.nD Cert.Norm1BwdReferenceIdeal.τ).loc Cert.Norm1BwdReferenceIdeal.main_v48) = v0 c
          ∧ r.2.mem ((c.tc : Thread Cert.Norm1BwdReferenceIdeal.nD Cert.Norm1BwdReferenceIdeal.τ).loc Cert.Norm1BwdReferenceIdeal.main_v31) = v1 c
          ∧ r.2.mem ((c.tc : Thread Cert.Norm1BwdReferenceIdeal.nD Cert.Norm1BwdReferenceIdeal.τ).loc Cert.Norm1BwdReferenceIdeal.main_v26) = v2 c
          ∧ r.2.mem ((c.tc : Thread Cert.Norm1BwdReferenceIdeal.nD Cert.Norm1BwdReferenceIdeal.τ).loc Cert.Norm1BwdReferenceIdeal.main_v23) = v3 c
          ∧ r.2.mem ((c.tc : Thread Cert.Norm1BwdReferenceIdeal.nD Cert.Norm1BwdReferenceIdeal.τ).loc Cert.Norm1BwdReferenceIdeal.main_arg0) = m' ((c.tc : Thread Cert.Norm1BwdReferenceIdeal.nD Cert.Norm1BwdReferenceIdeal.τ).loc Cert.Norm1BwdReferenceIdeal.main_arg0)
          ∧ r.2.mem ((c.tc : Thread Cert.Norm1BwdReferenceIdeal.nD Cert.Norm1BwdReferenceIdeal.τ).loc Cert.Norm1BwdReferenceIdeal.main_arg1) = m' ((c.tc : Thread Cert.Norm1BwdReferenceIdeal.nD Cert.Norm1BwdReferenceIdeal.τ).loc Cert.Norm1BwdReferenceIdeal.main_arg1)
          ∧ r.2.mem ((c.tc : Thread Cert.Norm1BwdReferenceIdeal.nD Cert.Norm1BwdReferenceIdeal.τ).loc Cert.Norm1BwdReferenceIdeal.main_arg2) = m' ((c.tc : Thread Cert.Norm1BwdReferenceIdeal.nD Cert.Norm1BwdReferenceIdeal.τ).loc Cert.Norm1BwdReferenceIdeal.main_arg2)
          ∧ r.2.mem ((c.tc : Thread Cert.Norm1BwdReferenceIdeal.nD Cert.Norm1BwdReferenceIdeal.τ).loc Cert.Norm1BwdReferenceIdeal.main_arg3) = m' ((c.tc : Thread Cert.Norm1BwdReferenceIdeal.nD Cert.Norm1BwdReferenceIdeal.τ).loc Cert.Norm1BwdReferenceIdeal.main_arg3)
          ∧ r.2.mem ((c.tc : Thread Cert.Norm1BwdReferenceIdeal.nD Cert.Norm1BwdReferenceIdeal.τ).loc Cert.Norm1BwdReferenceIdeal.main_arg4) = m' ((c.tc : Thread Cert.Norm1BwdReferenceIdeal.nD Cert.Norm1BwdReferenceIdeal.τ).loc Cert.Norm1BwdReferenceIdeal.main_arg4)
          ∧ r.2.mem ((c.tc : Thread Cert.Norm1BwdReferenceIdeal.nD Cert.Norm1BwdReferenceIdeal.τ).loc Cert.Norm1BwdReferenceIdeal.main_arg5) = m' ((c.tc : Thread Cert.Norm1BwdReferenceIdeal.nD Cert.Norm1BwdReferenceIdeal.τ).loc Cert.Norm1BwdReferenceIdeal.main_arg5))

def Claim : Prop :=
  ∃ (hKernel : Cert.Kernel.Facts) (hKernelIdeal : Cert.KernelIdeal.Facts) (hReferenceIdeal : Cert.ReferenceIdeal.Facts) (hSmall : Cert.Small.Facts) (hSmallIdeal : Cert.SmallIdeal.Facts) (hSmallReferenceIdeal : Cert.SmallReferenceIdeal.Facts) (hWeights : Cert.Weights.Facts) (hWeightsIdeal : Cert.WeightsIdeal.Facts) (hWeightsReferenceIdeal : Cert.WeightsReferenceIdeal.Facts) (hWeightsReference : Cert.WeightsReference.Facts) (hMod : Cert.Mod.Facts) (hModIdeal : Cert.ModIdeal.Facts) (hModReferenceIdeal : Cert.ModReferenceIdeal.Facts) (hModReference : Cert.ModReference.Facts) (hCond : Cert.Cond.Facts) (hCondIdeal : Cert.CondIdeal.Facts) (hCondReferenceIdeal : Cert.CondReferenceIdeal.Facts) (hCondReference : Cert.CondReference.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hUpProj : Cert.UpProj.Facts) (hUpProjIdeal : Cert.UpProjIdeal.Facts) (hUpProjReferenceIdeal : Cert.UpProjReferenceIdeal.Facts) (hDownProj : Cert.DownProj.Facts) (hDownProjIdeal : Cert.DownProjIdeal.Facts) (hDownProjReferenceIdeal : Cert.DownProjReferenceIdeal.Facts) (hDownDgrad : Cert.DownDgrad.Facts) (hDownDgradIdeal : Cert.DownDgradIdeal.Facts) (hDownDgradReferenceIdeal : Cert.DownDgradReferenceIdeal.Facts) (hUpDgrad : Cert.UpDgrad.Facts) (hUpDgradIdeal : Cert.UpDgradIdeal.Facts) (hUpDgradReferenceIdeal : Cert.UpDgradReferenceIdeal.Facts) (hOutDgrad : Cert.OutDgrad.Facts) (hOutDgradIdeal : Cert.OutDgradIdeal.Facts) (hOutDgradReferenceIdeal : Cert.OutDgradReferenceIdeal.Facts) (hInDgrad : Cert.InDgrad.Facts) (hInDgradIdeal : Cert.InDgradIdeal.Facts) (hInDgradReferenceIdeal : Cert.InDgradReferenceIdeal.Facts) (hDownWgrad : Cert.DownWgrad.Facts) (hDownWgradIdeal : Cert.DownWgradIdeal.Facts) (hDownWgradReferenceIdeal : Cert.DownWgradReferenceIdeal.Facts) (hUpWgrad : Cert.UpWgrad.Facts) (hUpWgradIdeal : Cert.UpWgradIdeal.Facts) (hUpWgradReferenceIdeal : Cert.UpWgradReferenceIdeal.Facts) (hOutWgrad : Cert.OutWgrad.Facts) (hOutWgradIdeal : Cert.OutWgradIdeal.Facts) (hOutWgradReferenceIdeal : Cert.OutWgradReferenceIdeal.Facts) (hInWgrad : Cert.InWgrad.Facts) (hInWgradIdeal : Cert.InWgradIdeal.Facts) (hInWgradReferenceIdeal : Cert.InWgradReferenceIdeal.Facts) (hNorm1Bwd : Cert.Norm1Bwd.Facts) (hNorm1BwdIdeal : Cert.Norm1BwdIdeal.Facts) (hNorm1BwdReferenceIdeal : Cert.Norm1BwdReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Small (hSmall := hSmall)
    ∧ quiescent_SmallIdeal (hSmallIdeal := hSmallIdeal)
    ∧ quiescent_SmallReferenceIdeal (hSmallReferenceIdeal := hSmallReferenceIdeal)
    ∧ quiescent_Weights (hWeights := hWeights)
    ∧ quiescent_WeightsIdeal (hWeightsIdeal := hWeightsIdeal)
    ∧ quiescent_WeightsReferenceIdeal (hWeightsReferenceIdeal := hWeightsReferenceIdeal)
    ∧ quiescent_WeightsReference (hWeightsReference := hWeightsReference)
    ∧ quiescent_Mod (hMod := hMod)
    ∧ quiescent_ModIdeal (hModIdeal := hModIdeal)
    ∧ quiescent_ModReferenceIdeal (hModReferenceIdeal := hModReferenceIdeal)
    ∧ quiescent_ModReference (hModReference := hModReference)
    ∧ quiescent_Cond (hCond := hCond)
    ∧ quiescent_CondIdeal (hCondIdeal := hCondIdeal)
    ∧ quiescent_CondReferenceIdeal (hCondReferenceIdeal := hCondReferenceIdeal)
    ∧ quiescent_CondReference (hCondReference := hCondReference)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_UpProj (hUpProj := hUpProj)
    ∧ quiescent_UpProjIdeal (hUpProjIdeal := hUpProjIdeal)
    ∧ quiescent_UpProjReferenceIdeal (hUpProjReferenceIdeal := hUpProjReferenceIdeal)
    ∧ quiescent_DownProj (hDownProj := hDownProj)
    ∧ quiescent_DownProjIdeal (hDownProjIdeal := hDownProjIdeal)
    ∧ quiescent_DownProjReferenceIdeal (hDownProjReferenceIdeal := hDownProjReferenceIdeal)
    ∧ quiescent_DownDgrad (hDownDgrad := hDownDgrad)
    ∧ quiescent_DownDgradIdeal (hDownDgradIdeal := hDownDgradIdeal)
    ∧ quiescent_DownDgradReferenceIdeal (hDownDgradReferenceIdeal := hDownDgradReferenceIdeal)
    ∧ quiescent_UpDgrad (hUpDgrad := hUpDgrad)
    ∧ quiescent_UpDgradIdeal (hUpDgradIdeal := hUpDgradIdeal)
    ∧ quiescent_UpDgradReferenceIdeal (hUpDgradReferenceIdeal := hUpDgradReferenceIdeal)
    ∧ quiescent_OutDgrad (hOutDgrad := hOutDgrad)
    ∧ quiescent_OutDgradIdeal (hOutDgradIdeal := hOutDgradIdeal)
    ∧ quiescent_OutDgradReferenceIdeal (hOutDgradReferenceIdeal := hOutDgradReferenceIdeal)
    ∧ quiescent_InDgrad (hInDgrad := hInDgrad)
    ∧ quiescent_InDgradIdeal (hInDgradIdeal := hInDgradIdeal)
    ∧ quiescent_InDgradReferenceIdeal (hInDgradReferenceIdeal := hInDgradReferenceIdeal)
    ∧ quiescent_DownWgrad (hDownWgrad := hDownWgrad)
    ∧ quiescent_DownWgradIdeal (hDownWgradIdeal := hDownWgradIdeal)
    ∧ quiescent_DownWgradReferenceIdeal (hDownWgradReferenceIdeal := hDownWgradReferenceIdeal)
    ∧ quiescent_UpWgrad (hUpWgrad := hUpWgrad)
    ∧ quiescent_UpWgradIdeal (hUpWgradIdeal := hUpWgradIdeal)
    ∧ quiescent_UpWgradReferenceIdeal (hUpWgradReferenceIdeal := hUpWgradReferenceIdeal)
    ∧ quiescent_OutWgrad (hOutWgrad := hOutWgrad)
    ∧ quiescent_OutWgradIdeal (hOutWgradIdeal := hOutWgradIdeal)
    ∧ quiescent_OutWgradReferenceIdeal (hOutWgradReferenceIdeal := hOutWgradReferenceIdeal)
    ∧ quiescent_InWgrad (hInWgrad := hInWgrad)
    ∧ quiescent_InWgradIdeal (hInWgradIdeal := hInWgradIdeal)
    ∧ quiescent_InWgradReferenceIdeal (hInWgradReferenceIdeal := hInWgradReferenceIdeal)
    ∧ quiescent_Norm1Bwd (hNorm1Bwd := hNorm1Bwd)
    ∧ quiescent_Norm1BwdIdeal (hNorm1BwdIdeal := hNorm1BwdIdeal)
    ∧ quiescent_Norm1BwdReferenceIdeal (hNorm1BwdReferenceIdeal := hNorm1BwdReferenceIdeal)
    ∧ preserves_Kernel_KernelIdeal
    ∧ algebraic_KernelIdeal_ReferenceIdeal (hKernelIdeal := hKernelIdeal) (hReferenceIdeal := hReferenceIdeal)
    ∧ preserves_Small_SmallIdeal
    ∧ algebraic_SmallIdeal_SmallReferenceIdeal (hSmallIdeal := hSmallIdeal) (hSmallReferenceIdeal := hSmallReferenceIdeal)
    ∧ preserves_Weights_WeightsIdeal
    ∧ algebraic_WeightsIdeal_WeightsReferenceIdeal (hWeightsIdeal := hWeightsIdeal) (hWeightsReferenceIdeal := hWeightsReferenceIdeal)
    ∧ bitexact_Weights_WeightsReference (hWeights := hWeights) (hWeightsReference := hWeightsReference)
    ∧ preserves_Mod_ModIdeal
    ∧ algebraic_ModIdeal_ModReferenceIdeal (hModIdeal := hModIdeal) (hModReferenceIdeal := hModReferenceIdeal)
    ∧ bitexact_Mod_ModReference (hMod := hMod) (hModReference := hModReference)
    ∧ preserves_Cond_CondIdeal
    ∧ algebraic_CondIdeal_CondReferenceIdeal (hCondIdeal := hCondIdeal) (hCondReferenceIdeal := hCondReferenceIdeal)
    ∧ bitexact_Cond_CondReference (hCond := hCond) (hCondReference := hCondReference)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_UpProj_UpProjIdeal
    ∧ algebraic_UpProjIdeal_UpProjReferenceIdeal (hUpProjIdeal := hUpProjIdeal) (hUpProjReferenceIdeal := hUpProjReferenceIdeal)
    ∧ preserves_DownProj_DownProjIdeal
    ∧ algebraic_DownProjIdeal_DownProjReferenceIdeal (hDownProjIdeal := hDownProjIdeal) (hDownProjReferenceIdeal := hDownProjReferenceIdeal)
    ∧ preserves_DownDgrad_DownDgradIdeal
    ∧ algebraic_DownDgradIdeal_DownDgradReferenceIdeal (hDownDgradIdeal := hDownDgradIdeal) (hDownDgradReferenceIdeal := hDownDgradReferenceIdeal)
    ∧ preserves_UpDgrad_UpDgradIdeal
    ∧ algebraic_UpDgradIdeal_UpDgradReferenceIdeal (hUpDgradIdeal := hUpDgradIdeal) (hUpDgradReferenceIdeal := hUpDgradReferenceIdeal)
    ∧ preserves_OutDgrad_OutDgradIdeal
    ∧ algebraic_OutDgradIdeal_OutDgradReferenceIdeal (hOutDgradIdeal := hOutDgradIdeal) (hOutDgradReferenceIdeal := hOutDgradReferenceIdeal)
    ∧ preserves_InDgrad_InDgradIdeal
    ∧ algebraic_InDgradIdeal_InDgradReferenceIdeal (hInDgradIdeal := hInDgradIdeal) (hInDgradReferenceIdeal := hInDgradReferenceIdeal)
    ∧ preserves_DownWgrad_DownWgradIdeal
    ∧ algebraic_DownWgradIdeal_DownWgradReferenceIdeal (hDownWgradIdeal := hDownWgradIdeal) (hDownWgradReferenceIdeal := hDownWgradReferenceIdeal)
    ∧ preserves_UpWgrad_UpWgradIdeal
    ∧ algebraic_UpWgradIdeal_UpWgradReferenceIdeal (hUpWgradIdeal := hUpWgradIdeal) (hUpWgradReferenceIdeal := hUpWgradReferenceIdeal)
    ∧ preserves_OutWgrad_OutWgradIdeal
    ∧ algebraic_OutWgradIdeal_OutWgradReferenceIdeal (hOutWgradIdeal := hOutWgradIdeal) (hOutWgradReferenceIdeal := hOutWgradReferenceIdeal)
    ∧ preserves_InWgrad_InWgradIdeal
    ∧ algebraic_InWgradIdeal_InWgradReferenceIdeal (hInWgradIdeal := hInWgradIdeal) (hInWgradReferenceIdeal := hInWgradReferenceIdeal)
    ∧ preserves_Norm1Bwd_Norm1BwdIdeal
    ∧ algebraic_Norm1BwdIdeal_Norm1BwdReferenceIdeal (hNorm1BwdIdeal := hNorm1BwdIdeal) (hNorm1BwdReferenceIdeal := hNorm1BwdReferenceIdeal)
-- ==== Kernel.lean ====
abbrev S8x1600x1024 : Shape := ⟨3, ![8, 1600, 1024]⟩
abbrev S1600x1024 : Shape := ⟨2, ![1600, 1024]⟩
abbrev S7 : Shape := ⟨1, ![7]⟩
abbrev S_ : Shape := ⟨0, ![]⟩
abbrev S1x1600x1024 : Shape := ⟨3, ![1, 1600, 1024]⟩
abbrev S1 : Shape := ⟨1, ![1]⟩
abbrev S8x200x1024 : Shape := ⟨3, ![8, 200, 1024]⟩
abbrev S200x1024 : Shape := ⟨2, ![200, 1024]⟩
abbrev S1x200x1024 : Shape := ⟨3, ![1, 200, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x1600x1024, .f32⟩
  | .hbm, ⟨1, _⟩ => ⟨S1600x1024, .f32⟩
  | .hbm, ⟨2, _⟩ => ⟨S1600x1024, .f32⟩
  | .hbm, ⟨3, _⟩ => ⟨S1600x1024, .f32⟩
  | .hbm, ⟨4, _⟩ => ⟨S8x1600x1024, .f32⟩
  | .hbm, ⟨5, _⟩ => ⟨S1600x1024, .f32⟩
  | .hbm, ⟨6, _⟩ => ⟨S1600x1024, .f32⟩
  | .hbm, ⟨7, _⟩ => ⟨S1600x1024, .f32⟩
  | .hbm, ⟨8, _⟩ => ⟨S1600x1024, .f32⟩
  | .local _ .vmem, ⟨0, _⟩ => ⟨S8x200x1024, .f32⟩
  | .local _ .vmem, ⟨1, _⟩ => ⟨S8x200x1024, .f32⟩
  | .local _ .vmem, ⟨2, _⟩ => ⟨S200x1024, .f32⟩
  | .local _ .vmem, ⟨3, _⟩ => ⟨S200x1024, .f32⟩
  | .local _ .vmem, ⟨4, _⟩ => ⟨S200x1024, .f32⟩
  | .local _ .vmem, ⟨5, _⟩ => ⟨S200x1024, .f32⟩
  | .local _ .vmem, ⟨6, _⟩ => ⟨S200x1024, .f32⟩
  | .local _ .vmem, ⟨7, _⟩ => ⟨S200x1024, .f32⟩
  | .local _ .vmem, ⟨8, _⟩ => ⟨S200x1024, .f32⟩
  | .local _ .vmem, ⟨9, _⟩ => ⟨S200x1024, .f32⟩
  | .local _ .vmem, ⟨10, _⟩ => ⟨S200x1024, .f32⟩
  | .local _ .vmem, ⟨11, _⟩ => ⟨S200x1024, .f32⟩
  | .local _ .vmem, ⟨12, _⟩ => ⟨S200x1024, .f32⟩
  | .local _ .vmem, ⟨13, _⟩ => ⟨S200x1024, .f32⟩
  | .local _ .vmem, ⟨14, _⟩ => ⟨S200x1024, .f32⟩
  | .local _ .vmem, ⟨15, _⟩ => ⟨S200x1024, .f32⟩
  | _, _ => ⟨S8x1600x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem7_1 : DmaSem sig := 30

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_31 : BitVec 32 := 0#32
  ![v12.toNat, 0, 0]
def k0_off2 (d0 : Dev nD) : Fin 3 → Nat :=
  let c4_i32_6 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_6 v2
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_7 v5
  let v16 : BitVec 32 := Scalar.addi v14 v15
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let v17 : BitVec 32 := Scalar.addi v16 v13
  let c0_i32_42 : BitVec 32 := 0#32
  let c0_i32_43 : BitVec 32 := 0#32
  ![v17.toNat, 0, 0]
def k0_dev1 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v57 : BitVec 32 := Scalar.muli v2 c4_i32_36
  let v58 : BitVec 32 := Scalar.addi c0_i32_37 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v59 : BitVec 32 := Scalar.muli v5 c2_i32_38
  let v60 : BitVec 32 := Scalar.addi v58 v59
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_39 : BitVec 32 := 1#32
  let v61 : BitVec 32 := Scalar.muli v13 c1_i32_39
  let v62 : BitVec 32 := Scalar.addi v60 v61
  v62.toNat
def k0_off3 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c4_i32_9 v2
  let c2_i32_10 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let v20 : BitVec 32 := Scalar.muli c2_i32_10 v18
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.addi v21 v8
  let c0_i32_52 : BitVec 32 := 0#32
  let c0_i32_53 : BitVec 32 := 0#32
  ![v22.toNat, 0, 0]
def k0_dev2 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v71 : BitVec 32 := Scalar.muli v2 c4_i32_46
  let v72 : BitVec 32 := Scalar.addi c0_i32_47 v71
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let c2_i32_48 : BitVec 32 := 2#32
  let v73 : BitVec 32 := Scalar.muli v18 c2_i32_48
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v75 : BitVec 32 := Scalar.muli v8 c1_i32_49
  let v76 : BitVec 32 := Scalar.addi v74 v75
  v76.toNat
def k0_off4 (d0 : Dev nD) : Fin 3 → Nat :=
  let c4_i32_13 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.muli c4_i32_13 v2
  let c2_i32_14 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let v26 : BitVec 32 := Scalar.muli c2_i32_14 v23
  let v27 : BitVec 32 := Scalar.addi v25 v26
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let v28 : BitVec 32 := Scalar.addi v27 v24
  let c0_i32_62 : BitVec 32 := 0#32
  let c0_i32_63 : BitVec 32 := 0#32
  ![v28.toNat, 0, 0]
def k0_dev3 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v85 : BitVec 32 := Scalar.muli v2 c4_i32_56
  let v86 : BitVec 32 := Scalar.addi c0_i32_57 v85
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let c2_i32_58 : BitVec 32 := 2#32
  let v87 : BitVec 32 := Scalar.muli v23 c2_i32_58
  let v88 : BitVec 32 := Scalar.addi v86 v87
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let c1_i32_59 : BitVec 32 := 1#32
  let v89 : BitVec 32 := Scalar.muli v24 c1_i32_59
  let v90 : BitVec 32 := Scalar.addi v88 v89
  v90.toNat
def k0_off5 (d0 : Dev nD) : Fin 3 → Nat :=
  let c4_i32_16 : BitVec 32 := 4#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let v30 : BitVec 32 := Scalar.muli c4_i32_16 v29
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_71 : BitVec 32 := 0#32
  let c0_i32_72 : BitVec 32 := 0#32
  ![v33.toNat, 0, 0]
def k0_dev4 (d0 : Dev nD) : Nat :=
  let c0_i32_66 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let c4_i32_65 : BitVec 32 := 4#32
  let v99 : BitVec 32 := Scalar.muli v29 c4_i32_65
  let v100 : BitVec 32 := Scalar.addi c0_i32_66 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v101 : BitVec 32 := Scalar.muli v5 c2_i32_67
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v103 : BitVec 32 := Scalar.muli v8 c1_i32_68
  let v104 : BitVec 32 := Scalar.addi v102 v103
  v104.toNat
def k0_off6 (d0 : Dev nD) : Fin 3 → Nat :=
  let c4_i32_20 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let v36 : BitVec 32 := Scalar.muli c4_i32_20 v34
  let c2_i32_21 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_21 v5
  let v38 : BitVec 32 := Scalar.addi v36 v37
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let v39 : BitVec 32 := Scalar.addi v38 v35
  let c0_i32_81 : BitVec 32 := 0#32
  let c0_i32_82 : BitVec 32 := 0#32
  ![v39.toNat, 0, 0]
def k0_dev5 (d0 : Dev nD) : Nat :=
  let c0_i32_76 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let c4_i32_75 : BitVec 32 := 4#32
  let v113 : BitVec 32 := Scalar.muli v34 c4_i32_75
  let v114 : BitVec 32 := Scalar.addi c0_i32_76 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v115 : BitVec 32 := Scalar.muli v5 c2_i32_77
  let v116 : BitVec 32 := Scalar.addi v114 v115
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let c1_i32_78 : BitVec 32 := 1#32
  let v117 : BitVec 32 := Scalar.muli v35 c1_i32_78
  let v118 : BitVec 32 := Scalar.addi v116 v117
  v118.toNat
def k0_off7 (d0 : Dev nD) : Fin 3 → Nat :=
  let c4_i32_24 : BitVec 32 := 4#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let v42 : BitVec 32 := Scalar.muli c4_i32_24 v40
  let c2_i32_25 : BitVec 32 := 2#32
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let v43 : BitVec 32 := Scalar.muli c2_i32_25 v41
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.addi v44 v8
  let c0_i32_90 : BitVec 32 := 0#32
  let c0_i32_91 : BitVec 32 := 0#32
  ![v45.toNat, 0, 0]
def k0_dev6 (d0 : Dev nD) : Nat :=
  let c0_i32_85 : BitVec 32 := 0#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let c4_i32_84 : BitVec 32 := 4#32
  let v127 : BitVec 32 := Scalar.muli v40 c4_i32_84
  let v128 : BitVec 32 := Scalar.addi c0_i32_85 v127
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let c2_i32_86 : BitVec 32 := 2#32
  let v129 : BitVec 32 := Scalar.muli v41 c2_i32_86
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v131 : BitVec 32 := Scalar.muli v8 c1_i32_87
  let v132 : BitVec 32 := Scalar.addi v130 v131
  v132.toNat
def k0_off8 (d0 : Dev nD) : Fin 3 → Nat :=
  let c4_i32_29 : BitVec 32 := 4#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let v49 : BitVec 32 := Scalar.muli c4_i32_29 v46
  let c2_i32_30 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let v50 : BitVec 32 := Scalar.muli c2_i32_30 v47
  let v51 : BitVec 32 := Scalar.addi v49 v50
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let v52 : BitVec 32 := Scalar.addi v51 v48
  let c0_i32_99 : BitVec 32 := 0#32
  let c0_i32_100 : BitVec 32 := 0#32
  ![v52.toNat, 0, 0]
def k0_dev7 (d0 : Dev nD) : Nat :=
  let c0_i32_94 : BitVec 32 := 0#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let c4_i32_93 : BitVec 32 := 4#32
  let v141 : BitVec 32 := Scalar.muli v46 c4_i32_93
  let v142 : BitVec 32 := Scalar.addi c0_i32_94 v141
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let c2_i32_95 : BitVec 32 := 2#32
  let v143 : BitVec 32 := Scalar.muli v47 c2_i32_95
  let v144 : BitVec 32 := Scalar.addi v142 v143
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let c1_i32_96 : BitVec 32 := 1#32
  let v145 : BitVec 32 := Scalar.muli v48 c1_i32_96
  let v146 : BitVec 32 := Scalar.addi v144 v145
  v146.toNat
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x200x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S200x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S200x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S200x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S64x1600x1024 : Shape := ⟨3, ![64, 1600, 1024]⟩
abbrev S12800x1024 : Shape := ⟨2, ![12800, 1024]⟩
abbrev S8x12800x1024 : Shape := ⟨3, ![8, 12800, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S64x1600x1024, .f32⟩
  | .hbm, ⟨1, _⟩ => ⟨S12800x1024, .f32⟩
  | .hbm, ⟨2, _⟩ => ⟨S12800x1024, .f32⟩
  | .hbm, ⟨3, _⟩ => ⟨S12800x1024, .f32⟩
  | .hbm, ⟨4, _⟩ => ⟨S8x12800x1024, .f32⟩
  | .hbm, ⟨5, _⟩ => ⟨S_, .f32⟩
  | .hbm, ⟨6, _⟩ => ⟨S12800x1024, .f32⟩
  | .hbm, ⟨7, _⟩ => ⟨S_, .f32⟩
  | .hbm, ⟨8, _⟩ => ⟨S12800x1024, .f32⟩
  | .hbm, ⟨9, _⟩ => ⟨S12800x1024, .f32⟩
  | .hbm, ⟨10, _⟩ => ⟨S_, .f32⟩
  | .hbm, ⟨11, _⟩ => ⟨S12800x1024, .f32⟩
  | .hbm, ⟨12, _⟩ => ⟨S12800x1024, .f32⟩
  | .hbm, ⟨13, _⟩ => ⟨S12800x1024, .f32⟩
  | .hbm, ⟨14, _⟩ => ⟨S_, .f32⟩
  | .hbm, ⟨15, _⟩ => ⟨S12800x1024, .f32⟩
  | .hbm, ⟨16, _⟩ => ⟨S12800x1024, .f32⟩
  | .hbm, ⟨17, _⟩ => ⟨S12800x1024, .f32⟩
  | .hbm, ⟨18, _⟩ => ⟨S_, .f32⟩
  | .hbm, ⟨19, _⟩ => ⟨S12800x1024, .f32⟩
  | .hbm, ⟨20, _⟩ => ⟨S12800x1024, .f32⟩
  | .hbm, ⟨21, _⟩ => ⟨S12800x1024, .f32⟩
  | .hbm, ⟨22, _⟩ => ⟨S_, .f32⟩
  | .hbm, ⟨23, _⟩ => ⟨S12800x1024, .f32⟩
  | .hbm, ⟨24, _⟩ => ⟨S12800x1024, .f32⟩
  | .hbm, ⟨25, _⟩ => ⟨S_, .f32⟩
  | .hbm, ⟨26, _⟩ => ⟨S12800x1024, .f32⟩
  | .hbm, ⟨27, _⟩ => ⟨S12800x1024, .f32⟩
  | .hbm, ⟨28, _⟩ => ⟨S12800x1024, .f32⟩
  | .hbm, ⟨29, _⟩ => ⟨S_, .f32⟩
  | .hbm, ⟨30, _⟩ => ⟨S12800x1024, .f32⟩
  | .hbm, ⟨31, _⟩ => ⟨S12800x1024, .f32⟩
  | .hbm, ⟨32, _⟩ => ⟨S12800x1024, .f32⟩
  | .hbm, ⟨33, _⟩ => ⟨S_, .f32⟩
  | .hbm, ⟨34, _⟩ => ⟨S12800x1024, .f32⟩
  | .hbm, ⟨35, _⟩ => ⟨S12800x1024, .f32⟩
  | .hbm, ⟨36, _⟩ => ⟨S12800x1024, .f32⟩
  | .hbm, ⟨37, _⟩ => ⟨S_, .f32⟩
  | .hbm, ⟨38, _⟩ => ⟨S12800x1024, .f32⟩
  | .hbm, ⟨39, _⟩ => ⟨S12800x1024, .f32⟩
  | _, _ => ⟨S64x1600x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Small.lean ====
abbrev S24x1024 : Shape := ⟨2, ![24, 1024]⟩
abbrev S8x1024 : Shape := ⟨2, ![8, 1024]⟩
abbrev S1024x768 : Shape := ⟨2, ![1024, 768]⟩
abbrev S8x24x1024 : Shape := ⟨3, ![8, 24, 1024]⟩
abbrev S7 : Shape := ⟨1, ![7]⟩
abbrev S_ : Shape := ⟨0, ![]⟩
abbrev S1x24x1024 : Shape := ⟨3, ![1, 24, 1024]⟩
abbrev S1 : Shape := ⟨1, ![1]⟩
abbrev S8x24576 : Shape := ⟨2, ![8, 24576]⟩
abbrev S8x1 : Shape := ⟨2, ![8, 1]⟩
abbrev S8 : Shape := ⟨1, ![8]⟩
abbrev S16x1024 : Shape := ⟨2, ![16, 1024]⟩
abbrev S8x6144 : Shape := ⟨2, ![8, 6144]⟩
abbrev S8x8x768 : Shape := ⟨3, ![8, 8, 768]⟩
abbrev S8x1x768 : Shape := ⟨3, ![8, 1, 768]⟩
abbrev S8x768 : Shape := ⟨2, ![8, 768]⟩
abbrev S16x768 : Shape := ⟨2, ![16, 768]⟩
abbrev S1x768x1024 : Shape := ⟨3, ![1, 768, 1024]⟩
abbrev S768x1024 : Shape := ⟨2, ![768, 1024]⟩
abbrev S1x256x1024 : Shape := ⟨3, ![1, 256, 1024]⟩
abbrev S256x1024 : Shape := ⟨2, ![256, 1024]⟩

abbrev nBuf : Space → Nat
  | .hbm => 73
  | .vmem => 27
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S8x1024, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S8x24x1024, .f32⟩
  | .hbm, ⟨9, _⟩ => ⟨S8x24576, .f32⟩
  | .hbm, ⟨10, _⟩ => ⟨S8x1, .f32⟩
  | .hbm, ⟨11, _⟩ => ⟨S8, .f32⟩
  | .hbm, ⟨12, _⟩ => ⟨S_, .f32⟩
  | .hbm, ⟨13, _⟩ => ⟨S_, .f32⟩
  | .hbm, ⟨14, _⟩ => ⟨S24x1024, .f32⟩
  | .hbm, ⟨15, _⟩ => ⟨S24x1024, .f32⟩
  | .hbm, ⟨16, _⟩ => ⟨S24x1024, .f32⟩
  | .hbm, ⟨17, _⟩ => ⟨S24x1024, .f32⟩
  | .hbm, ⟨18, _⟩ => ⟨S_, .i32⟩
  | .hbm, ⟨19, _⟩ => ⟨S_, .f32⟩
  | .hbm, ⟨20, _⟩ => ⟨S16x1024, .f32⟩
  | .hbm, ⟨21, _⟩ => ⟨S8x24576, .f32⟩
  | .hbm, ⟨22, _⟩ => ⟨S8x6144, .f32⟩
  | .hbm, ⟨23, _⟩ => ⟨S8x8x768, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S8x1x768, .f32⟩
  | .hbm, ⟨56, _⟩ => ⟨S8x768, .f32⟩
  | .hbm, ⟨57, _⟩ => ⟨S_, .i32⟩
  | .hbm, ⟨58, _⟩ => ⟨S_, .f32⟩
  | .hbm, ⟨59, _⟩ => ⟨S16x768, .f32⟩
  | .hbm, ⟨60, _⟩ => ⟨S1024x768, .f32⟩
  | .hbm, ⟨61, _⟩ => ⟨S1x768x1024, .f32⟩
  | .hbm, ⟨62, _⟩ => ⟨S768x1024, .f32⟩
  | .hbm, ⟨63, _⟩ => ⟨S768x1024, .f32⟩
  | .hbm, ⟨64, _⟩ => ⟨S768x1024, .f32⟩
  | .hbm, ⟨65, _⟩ => ⟨S768x1024, .f32⟩
  | .hbm, ⟨66, _⟩ => ⟨S768x1024, .f32⟩
  | .hbm, ⟨67, _⟩ => ⟨S768x1024, .f32⟩
  | .hbm, ⟨68, _⟩ => ⟨S768x1024, .f32⟩
  | .hbm, ⟨69, _⟩ => ⟨S1024x768, .f32⟩
  | .hbm, ⟨70, _⟩ => ⟨S1024x768, .f32⟩
  | .hbm, ⟨71, _⟩ => ⟨S1024x768, .f32⟩
  | .hbm, ⟨72, _⟩ => ⟨S1024x768, .f32⟩
  | .local _ .vmem, ⟨0, _⟩ => ⟨S8x24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | .local _ .vmem, ⟨7, _⟩ => ⟨S24x1024, .f32⟩
  | .local _ .vmem, ⟨8, _⟩ => ⟨S16x1024, .f32⟩
  | .local _ .vmem, ⟨9, _⟩ => ⟨S16x768, .f32⟩
  | .local _ .vmem, ⟨10, _⟩ => ⟨S1024x768, .f32⟩
  | .local _ .vmem, ⟨11, _⟩ => ⟨S1x256x1024, .f32⟩
  | .local _ .vmem, ⟨12, _⟩ => ⟨S1x256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_c : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_c_3 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_c_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_c : Ref sig .tc := ⟨.hbm, 48, rfl⟩
abbrev main_call1_v0 : Ref sig .tc := ⟨.hbm, 49, rfl⟩
abbrev main_call1_c_0 : Ref sig .tc := ⟨.hbm, 50, rfl⟩
abbrev main_call1_v1 : Ref sig .tc := ⟨.hbm, 51, rfl⟩
abbrev main_call1_v2 : Ref sig .tc := ⟨.hbm, 52, rfl⟩
abbrev main_call1_c_1 : Ref sig .tc := ⟨.hbm, 53, rfl⟩
abbrev main_call1_c_2 : Ref sig .tc := ⟨.hbm, 54, rfl⟩
abbrev main_call1_v3 : Ref sig .tc := ⟨.hbm, 55, rfl⟩
abbrev main_v27 : Ref sig .tc := ⟨.hbm, 56, rfl⟩
abbrev main_c_8 : Ref sig .tc := ⟨.hbm, 57, rfl⟩
abbrev main_call2_v0 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34_0 : Ref sig .tc := ⟨.hbm, 65, rfl⟩
abbrev main_v34_1 : Ref sig .tc := ⟨.hbm, 66, rfl⟩
abbrev main_v34_2 : Ref sig .tc := ⟨.hbm, 67, rfl⟩
abbrev main_v34_3 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg1_1 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc3_stg3_1 : Ref sig .tc := ⟨.vmem, 18, rfl⟩
abbrev cc3_stg4_0 : Ref sig .tc := ⟨.vmem, 19, rfl⟩
abbrev cc3_stg4_1 : Ref sig .tc := ⟨.vmem, 20, rfl⟩
abbrev cc3_stg5_0 : Ref sig .tc := ⟨.vmem, 21, rfl⟩
abbrev cc3_stg5_1 : Ref sig .tc := ⟨.vmem, 22, rfl⟩
abbrev cc3_stg6_0 : Ref sig .tc := ⟨.vmem, 23, rfl⟩
abbrev cc3_stg6_1 : Ref sig .tc := ⟨.vmem, 24, rfl⟩
abbrev cc3_stg7_0 : Ref sig .tc := ⟨.vmem, 25, rfl⟩
abbrev cc3_stg7_1 : Ref sig .tc := ⟨.vmem, 26, rfl⟩
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc2_sem0_0 : DmaSem sig := 23
abbrev cc2_sem1_0 : DmaSem sig := 24
abbrev cc2_sem2_0 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc3_sem5_0 : DmaSem sig := 36
abbrev cc3_sem5_1 : DmaSem sig := 37
abbrev cc3_sem6_0 : DmaSem sig := 38
abbrev cc3_sem6_1 : DmaSem sig := 39
abbrev cc3_sem7_0 : DmaSem sig := 40
abbrev cc3_sem7_1 : DmaSem sig := 41

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_31 : BitVec 32 := 0#32
  ![v12.toNat, 0, 0]
def k0_dev1 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v55 : BitVec 32 := Scalar.muli v2 c4_i32_34
  let v56 : BitVec 32 := Scalar.addi c0_i32_35 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v57 : BitVec 32 := Scalar.muli v5 c2_i32_36
  let v58 : BitVec 32 := Scalar.addi v56 v57
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_37 : BitVec 32 := 1#32
  let v59 : BitVec 32 := Scalar.muli v13 c1_i32_37
  let v60 : BitVec 32 := Scalar.addi v58 v59
  v60.toNat
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v67 : BitVec 32 := Scalar.muli v2 c4_i32_42
  let v68 : BitVec 32 := Scalar.addi c0_i32_43 v67
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let c2_i32_44 : BitVec 32 := 2#32
  let v69 : BitVec 32 := Scalar.muli v18 c2_i32_44
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v71 : BitVec 32 := Scalar.muli v8 c1_i32_45
  let v72 : BitVec 32 := Scalar.addi v70 v71
  v72.toNat
def k0_dev3 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v79 : BitVec 32 := Scalar.muli v2 c4_i32_50
  let v80 : BitVec 32 := Scalar.addi c0_i32_51 v79
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let c2_i32_52 : BitVec 32 := 2#32
  let v81 : BitVec 32 := Scalar.muli v23 c2_i32_52
  let v82 : BitVec 32 := Scalar.addi v80 v81
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let c1_i32_53 : BitVec 32 := 1#32
  let v83 : BitVec 32 := Scalar.muli v24 c1_i32_53
  let v84 : BitVec 32 := Scalar.addi v82 v83
  v84.toNat
def k0_dev4 (d0 : Dev nD) : Nat :=
  let c0_i32_58 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let c4_i32_57 : BitVec 32 := 4#32
  let v91 : BitVec 32 := Scalar.muli v29 c4_i32_57
  let v92 : BitVec 32 := Scalar.addi c0_i32_58 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v93 : BitVec 32 := Scalar.muli v5 c2_i32_59
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v95 : BitVec 32 := Scalar.muli v8 c1_i32_60
  let v96 : BitVec 32 := Scalar.addi v94 v95
  v96.toNat
def k0_dev5 (d0 : Dev nD) : Nat :=
  let c0_i32_66 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let c4_i32_65 : BitVec 32 := 4#32
  let v103 : BitVec 32 := Scalar.muli v34 c4_i32_65
  let v104 : BitVec 32 := Scalar.addi c0_i32_66 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v105 : BitVec 32 := Scalar.muli v5 c2_i32_67
  let v106 : BitVec 32 := Scalar.addi v104 v105
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let c1_i32_68 : BitVec 32 := 1#32
  let v107 : BitVec 32 := Scalar.muli v35 c1_i32_68
  let v108 : BitVec 32 := Scalar.addi v106 v107
  v108.toNat
def k0_dev6 (d0 : Dev nD) : Nat :=
  let c0_i32_73 : BitVec 32 := 0#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let c4_i32_72 : BitVec 32 := 4#32
  let v115 : BitVec 32 := Scalar.muli v40 c4_i32_72
  let v116 : BitVec 32 := Scalar.addi c0_i32_73 v115
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let c2_i32_74 : BitVec 32 := 2#32
  let v117 : BitVec 32 := Scalar.muli v41 c2_i32_74
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v119 : BitVec 32 := Scalar.muli v8 c1_i32_75
  let v120 : BitVec 32 := Scalar.addi v118 v119
  v120.toNat
def k0_dev7 (d0 : Dev nD) : Nat :=
  let c0_i32_80 : BitVec 32 := 0#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let c4_i32_79 : BitVec 32 := 4#32
  let v127 : BitVec 32 := Scalar.muli v46 c4_i32_79
  let v128 : BitVec 32 := Scalar.addi c0_i32_80 v127
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let c2_i32_81 : BitVec 32 := 2#32
  let v129 : BitVec 32 := Scalar.muli v47 c2_i32_81
  let v130 : BitVec 32 := Scalar.addi v128 v129
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let c1_i32_82 : BitVec 32 := 1#32
  let v131 : BitVec 32 := Scalar.muli v48 c1_i32_82
  let v132 : BitVec 32 := Scalar.addi v130 v131
  v132.toNat
def k0_off2 (d0 : Dev nD) : Fin 3 → Nat :=
  let c4_i32_6 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_6 v2
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_7 v5
  let v16 : BitVec 32 := Scalar.addi v14 v15
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let v17 : BitVec 32 := Scalar.addi v16 v13
  let c0_i32_91 : BitVec 32 := 0#32
  let c0_i32_92 : BitVec 32 := 0#32
  ![v17.toNat, 0, 0]
def k0_off3 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c4_i32_9 v2
  let c2_i32_10 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let v20 : BitVec 32 := Scalar.muli c2_i32_10 v18
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.addi v21 v8
  let c0_i32_99 : BitVec 32 := 0#32
  let c0_i32_100 : BitVec 32 := 0#32
  ![v22.toNat, 0, 0]
def k0_off4 (d0 : Dev nD) : Fin 3 → Nat :=
  let c4_i32_13 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.muli c4_i32_13 v2
  let c2_i32_14 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let v26 : BitVec 32 := Scalar.muli c2_i32_14 v23
  let v27 : BitVec 32 := Scalar.addi v25 v26
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let v28 : BitVec 32 := Scalar.addi v27 v24
  let c0_i32_107 : BitVec 32 := 0#32
  let c0_i32_108 : BitVec 32 := 0#32
  ![v28.toNat, 0, 0]
def k0_off5 (d0 : Dev nD) : Fin 3 → Nat :=
  let c4_i32_16 : BitVec 32 := 4#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let v30 : BitVec 32 := Scalar.muli c4_i32_16 v29
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_115 : BitVec 32 := 0#32
  let c0_i32_116 : BitVec 32 := 0#32
  ![v33.toNat, 0, 0]
def k0_off6 (d0 : Dev nD) : Fin 3 → Nat :=
  let c4_i32_20 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let v36 : BitVec 32 := Scalar.muli c4_i32_20 v34
  let c2_i32_21 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_21 v5
  let v38 : BitVec 32 := Scalar.addi v36 v37
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let v39 : BitVec 32 := Scalar.addi v38 v35
  let c0_i32_123 : BitVec 32 := 0#32
  let c0_i32_124 : BitVec 32 := 0#32
  ![v39.toNat, 0, 0]
def k0_off7 (d0 : Dev nD) : Fin 3 → Nat :=
  let c4_i32_24 : BitVec 32 := 4#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let v42 : BitVec 32 := Scalar.muli c4_i32_24 v40
  let c2_i32_25 : BitVec 32 := 2#32
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let v43 : BitVec 32 := Scalar.muli c2_i32_25 v41
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.addi v44 v8
  let c0_i32_131 : BitVec 32 := 0#32
  let c0_i32_132 : BitVec 32 := 0#32
  ![v45.toNat, 0, 0]
def k0_off8 (d0 : Dev nD) : Fin 3 → Nat :=
  let c4_i32_29 : BitVec 32 := 4#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let v49 : BitVec 32 := Scalar.muli c4_i32_29 v46
  let c2_i32_30 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let v50 : BitVec 32 := Scalar.muli c2_i32_30 v47
  let v51 : BitVec 32 := Scalar.addi v49 v50
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let v52 : BitVec 32 := Scalar.addi v51 v48
  let c0_i32_139 : BitVec 32 := 0#32
  let c0_i32_140 : BitVec 32 := 0#32
  ![v52.toNat, 0, 0]
abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8x24x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S24x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S24x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S24x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S24x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S24x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S24x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S24x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := .none

abbrev stage2_0 : Fin 1 → Memref sig .tc .vmem S16x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨1, ![3], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1x256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== SmallReferenceIdeal.lean ====
abbrev S192x1024 : Shape := ⟨2, ![192, 1024]⟩
abbrev S24x1024 : Shape := ⟨2, ![24, 1024]⟩
abbrev S8x1024 : Shape := ⟨2, ![8, 1024]⟩
abbrev S1024x6144 : Shape := ⟨2, ![1024, 6144]⟩
abbrev S8x24x1024 : Shape := ⟨3, ![8, 24, 1024]⟩
abbrev S_ : Shape := ⟨0, ![]⟩
abbrev S1x1 : Shape := ⟨2, ![1, 1]⟩
abbrev S8x24576 : Shape := ⟨2, ![8, 24576]⟩
abbrev S8x6144 : Shape := ⟨2, ![8, 6144]⟩
abbrev S1024x8 : Shape := ⟨2, ![1024, 8]⟩

abbrev nBuf : Space → Nat
  | .hbm => 92
  | .vmem => 0
  | .smem => 0
  | _ => 0

abbrev bufTy : (tb : Table) → Fin (tcTables nBuf tb) → BufTy
  | .hbm, ⟨0, _⟩ => ⟨S192x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S8x1024, .f32⟩
  | .hbm, ⟨5, _⟩ => ⟨S1024x6144, .f32⟩
  | .hbm, ⟨6, _⟩ => ⟨S1024x6144, .f32⟩
  | .hbm, ⟨7, _⟩ => ⟨S1024x6144, .f32⟩
  | .hbm, ⟨8, _⟩ => ⟨S8x24x1024, .f32⟩
  | .hbm, ⟨9, _⟩ => ⟨S_, .f32⟩
  | .hbm, ⟨10, _⟩ => ⟨S24x1024, .f32⟩
  | .hbm, ⟨11, _⟩ => ⟨S1x1, .f32⟩
  | .hbm, ⟨12, _⟩ => ⟨S_, .f32⟩
  | .hbm, ⟨13, _⟩ => ⟨S8x24576, .f32⟩
  | .hbm, ⟨14, _⟩ => ⟨S8x6144, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S_, .f32⟩
  | .hbm, ⟨21, _⟩ => ⟨S8x1024, .f32⟩
  | .hbm, ⟨22, _⟩ => ⟨S8x1024, .f32⟩
  | .hbm, ⟨23, _⟩ => ⟨S8x1024, .f32⟩
  | .hbm, ⟨24, _⟩ => ⟨S1024x8, .f32⟩
  | .hbm, ⟨25, _⟩ => ⟨S1024x6144, .f32⟩
  | .hbm, ⟨26, _⟩ => ⟨S_, .f32⟩
  | .hbm, ⟨27, _⟩ => ⟨S24x1024, .f32⟩
  | .hbm, ⟨28, _⟩ => ⟨S24x1024, .f32⟩
  | .hbm, ⟨29, _⟩ => ⟨S_, .f32⟩
  | .hbm, ⟨30, _⟩ => ⟨S24x1024, .f32⟩
  | .hbm, ⟨31, _⟩ => ⟨S24x1024, .f32⟩
  | .hbm, ⟨32, _⟩ => ⟨S24x1024, .f32⟩
  | .hbm, ⟨33, _⟩ => ⟨S_, .f32⟩
  | .hbm, ⟨34, _⟩ => ⟨S24x1024, .f32⟩
  | .hbm, ⟨35, _⟩ => ⟨S24x1024, .f32⟩
  | .hbm, ⟨36, _⟩ => ⟨S24x1024, .f32⟩
  | .hbm, ⟨37, _⟩ => ⟨S_, .f32⟩
  | .hbm, ⟨38, _⟩ => ⟨S24x1024, .f32⟩
  | .hbm, ⟨39, _⟩ => ⟨S24x1024, .f32⟩
  | .hbm, ⟨40, _⟩ => ⟨S24x1024, .f32⟩
  | .hbm, ⟨41, _⟩ => ⟨S_, .f32⟩
  | .hbm, ⟨42, _⟩ => ⟨S24x1024, .f32⟩
  | .hbm, ⟨43, _⟩ => ⟨S24x1024, .f32⟩
  | .hbm, ⟨44, _⟩ => ⟨S_, .f32⟩
  | .hbm, ⟨45, _⟩ => ⟨S24x1024, .f32⟩
  | .hbm, ⟨46, _⟩ => ⟨S24x1024, .f32⟩
  | .hbm, ⟨47, _⟩ => ⟨S24x1024, .f32⟩
  | .hbm, ⟨48, _⟩ => ⟨S_, .f32⟩
  | .hbm, ⟨49, _⟩ => ⟨S24x1024, .f32⟩
  | .hbm, ⟨50, _⟩ => ⟨S24x1024, .f32⟩
  | .hbm, ⟨51, _⟩ => ⟨S24x1024, .f32⟩
  | .hbm, ⟨52, _⟩ => ⟨S_, .f32⟩
  | .hbm, ⟨53, _⟩ => ⟨S24x1024, .f32⟩
  | .hbm, ⟨54, _⟩ => ⟨S24x1024, .f32⟩
  | .hbm, ⟨55, _⟩ => ⟨S24x1024, .f32⟩
  | .hbm, ⟨56, _⟩ => ⟨S_, .f32⟩
  | .hbm, ⟨57, _⟩ => ⟨S24x1024, .f32⟩
  | .hbm, ⟨58, _⟩ => ⟨S24x1024, .f32⟩
  | .hbm, ⟨59, _⟩ => ⟨S_, .f32⟩
  | .hbm, ⟨60, _⟩ => ⟨S1024x6144, .f32⟩
  | .hbm, ⟨61, _⟩ => ⟨S1024x6144, .f32⟩
  | .hbm, ⟨62, _⟩ => ⟨S_, .f32⟩
  | .hbm, ⟨63, _⟩ => ⟨S1024x6144, .f32⟩
  | .hbm, ⟨64, _⟩ => ⟨S1024x6144, .f32⟩
  | .hbm, ⟨65, _⟩ => ⟨S1024x6144, .f32⟩
  | .hbm, ⟨66, _⟩ => ⟨S_, .f32⟩
  | .hbm, ⟨67, _⟩ => ⟨S1024x6144, .f32⟩
  | .hbm, ⟨68, _⟩ => ⟨S1024x6144, .f32⟩
  | .hbm, ⟨69, _⟩ => ⟨S1024x6144, .f32⟩
  | .hbm, ⟨70, _⟩ => ⟨S_, .f32⟩
  | .hbm, ⟨71, _⟩ => ⟨S1024x6144, .f32⟩
  | .hbm, ⟨72, _⟩ => ⟨S1024x6144, .f32⟩
  | .hbm, ⟨73, _⟩ => ⟨S1024x6144, .f32⟩
  | .hbm, ⟨74, _⟩ => ⟨S_, .f32⟩
  | .hbm, ⟨75, _⟩ => ⟨S1024x6144, .f32⟩
  | .hbm, ⟨76, _⟩ => ⟨S1024x6144, .f32⟩
  | .hbm, ⟨77, _⟩ => ⟨S_, .f32⟩
  | .hbm, ⟨78, _⟩ => ⟨S1024x6144, .f32⟩
  | .hbm, ⟨79, _⟩ => ⟨S1024x6144, .f32⟩
  | .hbm, ⟨80, _⟩ => ⟨S1024x6144, .f32⟩
  | .hbm, ⟨81, _⟩ => ⟨S_, .f32⟩
  | .hbm, ⟨82, _⟩ => ⟨S1024x6144, .f32⟩
  | .hbm, ⟨83, _⟩ => ⟨S1024x6144, .f32⟩
  | .hbm, ⟨84, _⟩ => ⟨S1024x6144, .f32⟩
  | .hbm, ⟨85, _⟩ => ⟨S_, .f32⟩
  | .hbm, ⟨86, _⟩ => ⟨S1024x6144, .f32⟩
  | .hbm, ⟨87, _⟩ => ⟨S1024x6144, .f32⟩
  | .hbm, ⟨88, _⟩ => ⟨S1024x6144, .f32⟩
  | .hbm, ⟨89, _⟩ => ⟨S_, .f32⟩
  | .hbm, ⟨90, _⟩ => ⟨S1024x6144, .f32⟩
  | .hbm, ⟨91, _⟩ => ⟨S1024x6144, .f32⟩
  | _, _ => ⟨S192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_8 : Ref sig .tc := ⟨.hbm, 56, rfl⟩
abbrev main_v31 : Ref sig .tc := ⟨.hbm, 57, rfl⟩
abbrev main_v32 : Ref sig .tc := ⟨.hbm, 58, rfl⟩
abbrev main_cst_9 : Ref sig .tc := ⟨.hbm, 59, rfl⟩
abbrev main_v33 : Ref sig .tc := ⟨.hbm, 60, rfl⟩
abbrev main_v34 : Ref sig .tc := ⟨.hbm, 61, rfl⟩
abbrev main_cst_10 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_11 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_12 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_13 : Ref sig .tc := ⟨.hbm, 74, rfl⟩
abbrev main_v44 : Ref sig .tc := ⟨.hbm, 75, rfl⟩
abbrev main_v45 : Ref sig .tc := ⟨.hbm, 76, rfl⟩
abbrev main_cst_14 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_15 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_16 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_17 : Ref sig .tc := ⟨.hbm, 89, rfl⟩
abbrev main_v55 : Ref sig .tc := ⟨.hbm, 90, rfl⟩
abbrev main_v56 : Ref sig .tc := ⟨.hbm, 91, rfl⟩

abbrev nD : Nat := 1
abbrev τ : Topo := Topo.v7x

variable {F : FTy → Type} [FloatOps F]
-- ==== Weights.lean ====
abbrev S1584x1024 : Shape := ⟨2, ![1584, 1024]⟩
abbrev S8x1584x1024 : Shape := ⟨3, ![8, 1584, 1024]⟩
abbrev S7 : Shape := ⟨1, ![7]⟩
abbrev S_ : Shape := ⟨0, ![]⟩
abbrev S1x1584x1024 : Shape := ⟨3, ![1, 1584, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S1584x1024, .bf16⟩
  | .hbm, ⟨1, _⟩ => ⟨S8x1584x1024, .bf16⟩
  | _, _ => ⟨S1584x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_31 : BitVec 32 := 0#32
  ![v12.toNat, 0, 0]
def k0_dev1 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v55 : BitVec 32 := Scalar.muli v2 c4_i32_34
  let v56 : BitVec 32 := Scalar.addi c0_i32_35 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v57 : BitVec 32 := Scalar.muli v5 c2_i32_36
  let v58 : BitVec 32 := Scalar.addi v56 v57
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_37 : BitVec 32 := 1#32
  let v59 : BitVec 32 := Scalar.muli v13 c1_i32_37
  let v60 : BitVec 32 := Scalar.addi v58 v59
  v60.toNat
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v67 : BitVec 32 := Scalar.muli v2 c4_i32_42
  let v68 : BitVec 32 := Scalar.addi c0_i32_43 v67
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let c2_i32_44 : BitVec 32 := 2#32
  let v69 : BitVec 32 := Scalar.muli v18 c2_i32_44
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v71 : BitVec 32 := Scalar.muli v8 c1_i32_45
  let v72 : BitVec 32 := Scalar.addi v70 v71
  v72.toNat
def k0_dev3 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v79 : BitVec 32 := Scalar.muli v2 c4_i32_50
  let v80 : BitVec 32 := Scalar.addi c0_i32_51 v79
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let c2_i32_52 : BitVec 32 := 2#32
  let v81 : BitVec 32 := Scalar.muli v23 c2_i32_52
  let v82 : BitVec 32 := Scalar.addi v80 v81
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let c1_i32_53 : BitVec 32 := 1#32
  let v83 : BitVec 32 := Scalar.muli v24 c1_i32_53
  let v84 : BitVec 32 := Scalar.addi v82 v83
  v84.toNat
def k0_dev4 (d0 : Dev nD) : Nat :=
  let c0_i32_58 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let c4_i32_57 : BitVec 32 := 4#32
  let v91 : BitVec 32 := Scalar.muli v29 c4_i32_57
  let v92 : BitVec 32 := Scalar.addi c0_i32_58 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v93 : BitVec 32 := Scalar.muli v5 c2_i32_59
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v95 : BitVec 32 := Scalar.muli v8 c1_i32_60
  let v96 : BitVec 32 := Scalar.addi v94 v95
  v96.toNat
def k0_dev5 (d0 : Dev nD) : Nat :=
  let c0_i32_66 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let c4_i32_65 : BitVec 32 := 4#32
  let v103 : BitVec 32 := Scalar.muli v34 c4_i32_65
  let v104 : BitVec 32 := Scalar.addi c0_i32_66 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v105 : BitVec 32 := Scalar.muli v5 c2_i32_67
  let v106 : BitVec 32 := Scalar.addi v104 v105
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let c1_i32_68 : BitVec 32 := 1#32
  let v107 : BitVec 32 := Scalar.muli v35 c1_i32_68
  let v108 : BitVec 32 := Scalar.addi v106 v107
  v108.toNat
def k0_dev6 (d0 : Dev nD) : Nat :=
  let c0_i32_73 : BitVec 32 := 0#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let c4_i32_72 : BitVec 32 := 4#32
  let v115 : BitVec 32 := Scalar.muli v40 c4_i32_72
  let v116 : BitVec 32 := Scalar.addi c0_i32_73 v115
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let c2_i32_74 : BitVec 32 := 2#32
  let v117 : BitVec 32 := Scalar.muli v41 c2_i32_74
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v119 : BitVec 32 := Scalar.muli v8 c1_i32_75
  let v120 : BitVec 32 := Scalar.addi v118 v119
  v120.toNat
def k0_dev7 (d0 : Dev nD) : Nat :=
  let c0_i32_80 : BitVec 32 := 0#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let c4_i32_79 : BitVec 32 := 4#32
  let v127 : BitVec 32 := Scalar.muli v46 c4_i32_79
  let v128 : BitVec 32 := Scalar.addi c0_i32_80 v127
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let c2_i32_81 : BitVec 32 := 2#32
  let v129 : BitVec 32 := Scalar.muli v47 c2_i32_81
  let v130 : BitVec 32 := Scalar.addi v128 v129
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let c1_i32_82 : BitVec 32 := 1#32
  let v131 : BitVec 32 := Scalar.muli v48 c1_i32_82
  let v132 : BitVec 32 := Scalar.addi v130 v131
  v132.toNat
def k0_off2 (d0 : Dev nD) : Fin 3 → Nat :=
  let c4_i32_6 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_6 v2
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_7 v5
  let v16 : BitVec 32 := Scalar.addi v14 v15
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let v17 : BitVec 32 := Scalar.addi v16 v13
  let c0_i32_91 : BitVec 32 := 0#32
  let c0_i32_92 : BitVec 32 := 0#32
  ![v17.toNat, 0, 0]
def k0_off3 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c4_i32_9 v2
  let c2_i32_10 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let v20 : BitVec 32 := Scalar.muli c2_i32_10 v18
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.addi v21 v8
  let c0_i32_99 : BitVec 32 := 0#32
  let c0_i32_100 : BitVec 32 := 0#32
  ![v22.toNat, 0, 0]
def k0_off4 (d0 : Dev nD) : Fin 3 → Nat :=
  let c4_i32_13 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.muli c4_i32_13 v2
  let c2_i32_14 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let v26 : BitVec 32 := Scalar.muli c2_i32_14 v23
  let v27 : BitVec 32 := Scalar.addi v25 v26
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let v28 : BitVec 32 := Scalar.addi v27 v24
  let c0_i32_107 : BitVec 32 := 0#32
  let c0_i32_108 : BitVec 32 := 0#32
  ![v28.toNat, 0, 0]
def k0_off5 (d0 : Dev nD) : Fin 3 → Nat :=
  let c4_i32_16 : BitVec 32 := 4#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let v30 : BitVec 32 := Scalar.muli c4_i32_16 v29
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_115 : BitVec 32 := 0#32
  let c0_i32_116 : BitVec 32 := 0#32
  ![v33.toNat, 0, 0]
def k0_off6 (d0 : Dev nD) : Fin 3 → Nat :=
  let c4_i32_20 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let v36 : BitVec 32 := Scalar.muli c4_i32_20 v34
  let c2_i32_21 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_21 v5
  let v38 : BitVec 32 := Scalar.addi v36 v37
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let v39 : BitVec 32 := Scalar.addi v38 v35
  let c0_i32_123 : BitVec 32 := 0#32
  let c0_i32_124 : BitVec 32 := 0#32
  ![v39.toNat, 0, 0]
def k0_off7 (d0 : Dev nD) : Fin 3 → Nat :=
  let c4_i32_24 : BitVec 32 := 4#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let v42 : BitVec 32 := Scalar.muli c4_i32_24 v40
  let c2_i32_25 : BitVec 32 := 2#32
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let v43 : BitVec 32 := Scalar.muli c2_i32_25 v41
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.addi v44 v8
  let c0_i32_131 : BitVec 32 := 0#32
  let c0_i32_132 : BitVec 32 := 0#32
  ![v45.toNat, 0, 0]
def k0_off8 (d0 : Dev nD) : Fin 3 → Nat :=
  let c4_i32_29 : BitVec 32 := 4#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let v49 : BitVec 32 := Scalar.muli c4_i32_29 v46
  let c2_i32_30 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let v50 : BitVec 32 := Scalar.muli c2_i32_30 v47
  let v51 : BitVec 32 := Scalar.addi v49 v50
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let v52 : BitVec 32 := Scalar.addi v51 v48
  let c0_i32_139 : BitVec 32 := 0#32
  let c0_i32_140 : BitVec 32 := 0#32
  ![v52.toNat, 0, 0]
-- ==== WeightsIdeal.lean ====
abbrev S1584x1024 : Shape := ⟨2, ![1584, 1024]⟩
abbrev S8x1584x1024 : Shape := ⟨3, ![8, 1584, 1024]⟩
abbrev S7 : Shape := ⟨1, ![7]⟩
abbrev S_ : Shape := ⟨0, ![]⟩
abbrev S1x1584x1024 : Shape := ⟨3, ![1, 1584, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S1584x1024, .bf16⟩
  | .hbm, ⟨1, _⟩ => ⟨S8x1584x1024, .bf16⟩
  | _, _ => ⟨S1584x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_31 : BitVec 32 := 0#32
  ![v12.toNat, 0, 0]
def k0_dev1 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v55 : BitVec 32 := Scalar.muli v2 c4_i32_34
  let v56 : BitVec 32 := Scalar.addi c0_i32_35 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v57 : BitVec 32 := Scalar.muli v5 c2_i32_36
  let v58 : BitVec 32 := Scalar.addi v56 v57
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_37 : BitVec 32 := 1#32
  let v59 : BitVec 32 := Scalar.muli v13 c1_i32_37
  let v60 : BitVec 32 := Scalar.addi v58 v59
  v60.toNat
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v67 : BitVec 32 := Scalar.muli v2 c4_i32_42
  let v68 : BitVec 32 := Scalar.addi c0_i32_43 v67
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let c2_i32_44 : BitVec 32 := 2#32
  let v69 : BitVec 32 := Scalar.muli v18 c2_i32_44
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v71 : BitVec 32 := Scalar.muli v8 c1_i32_45
  let v72 : BitVec 32 := Scalar.addi v70 v71
  v72.toNat
def k0_dev3 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v79 : BitVec 32 := Scalar.muli v2 c4_i32_50
  let v80 : BitVec 32 := Scalar.addi c0_i32_51 v79
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let c2_i32_52 : BitVec 32 := 2#32
  let v81 : BitVec 32 := Scalar.muli v23 c2_i32_52
  let v82 : BitVec 32 := Scalar.addi v80 v81
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let c1_i32_53 : BitVec 32 := 1#32
  let v83 : BitVec 32 := Scalar.muli v24 c1_i32_53
  let v84 : BitVec 32 := Scalar.addi v82 v83
  v84.toNat
def k0_dev4 (d0 : Dev nD) : Nat :=
  let c0_i32_58 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let c4_i32_57 : BitVec 32 := 4#32
  let v91 : BitVec 32 := Scalar.muli v29 c4_i32_57
  let v92 : BitVec 32 := Scalar.addi c0_i32_58 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v93 : BitVec 32 := Scalar.muli v5 c2_i32_59
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v95 : BitVec 32 := Scalar.muli v8 c1_i32_60
  let v96 : BitVec 32 := Scalar.addi v94 v95
  v96.toNat
def k0_dev5 (d0 : Dev nD) : Nat :=
  let c0_i32_66 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let c4_i32_65 : BitVec 32 := 4#32
  let v103 : BitVec 32 := Scalar.muli v34 c4_i32_65
  let v104 : BitVec 32 := Scalar.addi c0_i32_66 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v105 : BitVec 32 := Scalar.muli v5 c2_i32_67
  let v106 : BitVec 32 := Scalar.addi v104 v105
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let c1_i32_68 : BitVec 32 := 1#32
  let v107 : BitVec 32 := Scalar.muli v35 c1_i32_68
  let v108 : BitVec 32 := Scalar.addi v106 v107
  v108.toNat
def k0_dev6 (d0 : Dev nD) : Nat :=
  let c0_i32_73 : BitVec 32 := 0#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let c4_i32_72 : BitVec 32 := 4#32
  let v115 : BitVec 32 := Scalar.muli v40 c4_i32_72
  let v116 : BitVec 32 := Scalar.addi c0_i32_73 v115
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let c2_i32_74 : BitVec 32 := 2#32
  let v117 : BitVec 32 := Scalar.muli v41 c2_i32_74
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v119 : BitVec 32 := Scalar.muli v8 c1_i32_75
  let v120 : BitVec 32 := Scalar.addi v118 v119
  v120.toNat
def k0_dev7 (d0 : Dev nD) : Nat :=
  let c0_i32_80 : BitVec 32 := 0#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let c4_i32_79 : BitVec 32 := 4#32
  let v127 : BitVec 32 := Scalar.muli v46 c4_i32_79
  let v128 : BitVec 32 := Scalar.addi c0_i32_80 v127
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let c2_i32_81 : BitVec 32 := 2#32
  let v129 : BitVec 32 := Scalar.muli v47 c2_i32_81
  let v130 : BitVec 32 := Scalar.addi v128 v129
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let c1_i32_82 : BitVec 32 := 1#32
  let v131 : BitVec 32 := Scalar.muli v48 c1_i32_82
  let v132 : BitVec 32 := Scalar.addi v130 v131
  v132.toNat
def k0_off2 (d0 : Dev nD) : Fin 3 → Nat :=
  let c4_i32_6 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_6 v2
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_7 v5
  let v16 : BitVec 32 := Scalar.addi v14 v15
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let v17 : BitVec 32 := Scalar.addi v16 v13
  let c0_i32_91 : BitVec 32 := 0#32
  let c0_i32_92 : BitVec 32 := 0#32
  ![v17.toNat, 0, 0]
def k0_off3 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c4_i32_9 v2
  let c2_i32_10 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let v20 : BitVec 32 := Scalar.muli c2_i32_10 v18
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.addi v21 v8
  let c0_i32_99 : BitVec 32 := 0#32
  let c0_i32_100 : BitVec 32 := 0#32
  ![v22.toNat, 0, 0]
def k0_off4 (d0 : Dev nD) : Fin 3 → Nat :=
  let c4_i32_13 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.muli c4_i32_13 v2
  let c2_i32_14 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let v26 : BitVec 32 := Scalar.muli c2_i32_14 v23
  let v27 : BitVec 32 := Scalar.addi v25 v26
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let v28 : BitVec 32 := Scalar.addi v27 v24
  let c0_i32_107 : BitVec 32 := 0#32
  let c0_i32_108 : BitVec 32 := 0#32
  ![v28.toNat, 0, 0]
def k0_off5 (d0 : Dev nD) : Fin 3 → Nat :=
  let c4_i32_16 : BitVec 32 := 4#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let v30 : BitVec 32 := Scalar.muli c4_i32_16 v29
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_115 : BitVec 32 := 0#32
  let c0_i32_116 : BitVec 32 := 0#32
  ![v33.toNat, 0, 0]
def k0_off6 (d0 : Dev nD) : Fin 3 → Nat :=
  let c4_i32_20 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let v36 : BitVec 32 := Scalar.muli c4_i32_20 v34
  let c2_i32_21 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_21 v5
  let v38 : BitVec 32 := Scalar.addi v36 v37
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let v39 : BitVec 32 := Scalar.addi v38 v35
  let c0_i32_123 : BitVec 32 := 0#32
  let c0_i32_124 : BitVec 32 := 0#32
  ![v39.toNat, 0, 0]
def k0_off7 (d0 : Dev nD) : Fin 3 → Nat :=
  let c4_i32_24 : BitVec 32 := 4#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let v42 : BitVec 32 := Scalar.muli c4_i32_24 v40
  let c2_i32_25 : BitVec 32 := 2#32
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let v43 : BitVec 32 := Scalar.muli c2_i32_25 v41
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.addi v44 v8
  let c0_i32_131 : BitVec 32 := 0#32
  let c0_i32_132 : BitVec 32 := 0#32
  ![v45.toNat, 0, 0]
def k0_off8 (d0 : Dev nD) : Fin 3 → Nat :=
  let c4_i32_29 : BitVec 32 := 4#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let v49 : BitVec 32 := Scalar.muli c4_i32_29 v46
  let c2_i32_30 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let v50 : BitVec 32 := Scalar.muli c2_i32_30 v47
  let v51 : BitVec 32 := Scalar.addi v49 v50
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let v52 : BitVec 32 := Scalar.addi v51 v48
  let c0_i32_139 : BitVec 32 := 0#32
  let c0_i32_140 : BitVec 32 := 0#32
  ![v52.toNat, 0, 0]
-- ==== WeightsReference.lean ====
abbrev S12672x1024 : Shape := ⟨2, ![12672, 1024]⟩
abbrev S8x1584x1024 : Shape := ⟨3, ![8, 1584, 1024]⟩

abbrev nBuf : Space → Nat
  | .hbm => 2
  | .vmem => 0
  | .smem => 0
  | _ => 0

abbrev bufTy : (tb : Table) → Fin (tcTables nBuf tb) → BufTy
  | .hbm, ⟨0, _⟩ => ⟨S12672x1024, .bf16⟩
  | .hbm, ⟨1, _⟩ => ⟨S8x1584x1024, .bf16⟩
  | _, _ => ⟨S12672x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Mod.lean ====
abbrev S8x768 : Shape := ⟨2, ![8, 768]⟩
abbrev S8x8x768 : Shape := ⟨3, ![8, 8, 768]⟩
abbrev S7 : Shape := ⟨1, ![7]⟩
abbrev S_ : Shape := ⟨0, ![]⟩
abbrev S1x8x768 : Shape := ⟨3, ![1, 8, 768]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x768, .f32⟩
  | .hbm, ⟨1, _⟩ => ⟨S8x8x768, .f32⟩
  | _, _ => ⟨S8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_31 : BitVec 32 := 0#32
  ![v12.toNat, 0, 0]
def k0_dev1 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v55 : BitVec 32 := Scalar.muli v2 c4_i32_34
  let v56 : BitVec 32 := Scalar.addi c0_i32_35 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v57 : BitVec 32 := Scalar.muli v5 c2_i32_36
  let v58 : BitVec 32 := Scalar.addi v56 v57
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_37 : BitVec 32 := 1#32
  let v59 : BitVec 32 := Scalar.muli v13 c1_i32_37
  let v60 : BitVec 32 := Scalar.addi v58 v59
  v60.toNat
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v67 : BitVec 32 := Scalar.muli v2 c4_i32_42
  let v68 : BitVec 32 := Scalar.addi c0_i32_43 v67
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let c2_i32_44 : BitVec 32 := 2#32
  let v69 : BitVec 32 := Scalar.muli v18 c2_i32_44
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v71 : BitVec 32 := Scalar.muli v8 c1_i32_45
  let v72 : BitVec 32 := Scalar.addi v70 v71
  v72.toNat
def k0_dev3 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v79 : BitVec 32 := Scalar.muli v2 c4_i32_50
  let v80 : BitVec 32 := Scalar.addi c0_i32_51 v79
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let c2_i32_52 : BitVec 32 := 2#32
  let v81 : BitVec 32 := Scalar.muli v23 c2_i32_52
  let v82 : BitVec 32 := Scalar.addi v80 v81
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let c1_i32_53 : BitVec 32 := 1#32
  let v83 : BitVec 32 := Scalar.muli v24 c1_i32_53
  let v84 : BitVec 32 := Scalar.addi v82 v83
  v84.toNat
def k0_dev4 (d0 : Dev nD) : Nat :=
  let c0_i32_58 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let c4_i32_57 : BitVec 32 := 4#32
  let v91 : BitVec 32 := Scalar.muli v29 c4_i32_57
  let v92 : BitVec 32 := Scalar.addi c0_i32_58 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v93 : BitVec 32 := Scalar.muli v5 c2_i32_59
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v95 : BitVec 32 := Scalar.muli v8 c1_i32_60
  let v96 : BitVec 32 := Scalar.addi v94 v95
  v96.toNat
def k0_dev5 (d0 : Dev nD) : Nat :=
  let c0_i32_66 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let c4_i32_65 : BitVec 32 := 4#32
  let v103 : BitVec 32 := Scalar.muli v34 c4_i32_65
  let v104 : BitVec 32 := Scalar.addi c0_i32_66 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v105 : BitVec 32 := Scalar.muli v5 c2_i32_67
  let v106 : BitVec 32 := Scalar.addi v104 v105
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let c1_i32_68 : BitVec 32 := 1#32
  let v107 : BitVec 32 := Scalar.muli v35 c1_i32_68
  let v108 : BitVec 32 := Scalar.addi v106 v107
  v108.toNat
def k0_dev6 (d0 : Dev nD) : Nat :=
  let c0_i32_73 : BitVec 32 := 0#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let c4_i32_72 : BitVec 32 := 4#32
  let v115 : BitVec 32 := Scalar.muli v40 c4_i32_72
  let v116 : BitVec 32 := Scalar.addi c0_i32_73 v115
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let c2_i32_74 : BitVec 32 := 2#32
  let v117 : BitVec 32 := Scalar.muli v41 c2_i32_74
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v119 : BitVec 32 := Scalar.muli v8 c1_i32_75
  let v120 : BitVec 32 := Scalar.addi v118 v119
  v120.toNat
def k0_dev7 (d0 : Dev nD) : Nat :=
  let c0_i32_80 : BitVec 32 := 0#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let c4_i32_79 : BitVec 32 := 4#32
  let v127 : BitVec 32 := Scalar.muli v46 c4_i32_79
  let v128 : BitVec 32 := Scalar.addi c0_i32_80 v127
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let c2_i32_81 : BitVec 32 := 2#32
  let v129 : BitVec 32 := Scalar.muli v47 c2_i32_81
  let v130 : BitVec 32 := Scalar.addi v128 v129
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let c1_i32_82 : BitVec 32 := 1#32
  let v131 : BitVec 32 := Scalar.muli v48 c1_i32_82
  let v132 : BitVec 32 := Scalar.addi v130 v131
  v132.toNat
def k0_off2 (d0 : Dev nD) : Fin 3 → Nat :=
  let c4_i32_6 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_6 v2
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_7 v5
  let v16 : BitVec 32 := Scalar.addi v14 v15
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let v17 : BitVec 32 := Scalar.addi v16 v13
  let c0_i32_91 : BitVec 32 := 0#32
  let c0_i32_92 : BitVec 32 := 0#32
  ![v17.toNat, 0, 0]
def k0_off3 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c4_i32_9 v2
  let c2_i32_10 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let v20 : BitVec 32 := Scalar.muli c2_i32_10 v18
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.addi v21 v8
  let c0_i32_99 : BitVec 32 := 0#32
  let c0_i32_100 : BitVec 32 := 0#32
  ![v22.toNat, 0, 0]
def k0_off4 (d0 : Dev nD) : Fin 3 → Nat :=
  let c4_i32_13 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.muli c4_i32_13 v2
  let c2_i32_14 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let v26 : BitVec 32 := Scalar.muli c2_i32_14 v23
  let v27 : BitVec 32 := Scalar.addi v25 v26
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let v28 : BitVec 32 := Scalar.addi v27 v24
  let c0_i32_107 : BitVec 32 := 0#32
  let c0_i32_108 : BitVec 32 := 0#32
  ![v28.toNat, 0, 0]
def k0_off5 (d0 : Dev nD) : Fin 3 → Nat :=
  let c4_i32_16 : BitVec 32 := 4#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let v30 : BitVec 32 := Scalar.muli c4_i32_16 v29
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_115 : BitVec 32 := 0#32
  let c0_i32_116 : BitVec 32 := 0#32
  ![v33.toNat, 0, 0]
def k0_off6 (d0 : Dev nD) : Fin 3 → Nat :=
  let c4_i32_20 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let v36 : BitVec 32 := Scalar.muli c4_i32_20 v34
  let c2_i32_21 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_21 v5
  let v38 : BitVec 32 := Scalar.addi v36 v37
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let v39 : BitVec 32 := Scalar.addi v38 v35
  let c0_i32_123 : BitVec 32 := 0#32
  let c0_i32_124 : BitVec 32 := 0#32
  ![v39.toNat, 0, 0]
def k0_off7 (d0 : Dev nD) : Fin 3 → Nat :=
  let c4_i32_24 : BitVec 32 := 4#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let v42 : BitVec 32 := Scalar.muli c4_i32_24 v40
  let c2_i32_25 : BitVec 32 := 2#32
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let v43 : BitVec 32 := Scalar.muli c2_i32_25 v41
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.addi v44 v8
  let c0_i32_131 : BitVec 32 := 0#32
  let c0_i32_132 : BitVec 32 := 0#32
  ![v45.toNat, 0, 0]
def k0_off8 (d0 : Dev nD) : Fin 3 → Nat :=
  let c4_i32_29 : BitVec 32 := 4#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let v49 : BitVec 32 := Scalar.muli c4_i32_29 v46
  let c2_i32_30 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let v50 : BitVec 32 := Scalar.muli c2_i32_30 v47
  let v51 : BitVec 32 := Scalar.addi v49 v50
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let v52 : BitVec 32 := Scalar.addi v51 v48
  let c0_i32_139 : BitVec 32 := 0#32
  let c0_i32_140 : BitVec 32 := 0#32
  ![v52.toNat, 0, 0]
-- ==== ModIdeal.lean ====
abbrev S8x768 : Shape := ⟨2, ![8, 768]⟩
abbrev S8x8x768 : Shape := ⟨3, ![8, 8, 768]⟩
abbrev S7 : Shape := ⟨1, ![7]⟩
abbrev S_ : Shape := ⟨0, ![]⟩
abbrev S1x8x768 : Shape := ⟨3, ![1, 8, 768]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x768, .f32⟩
  | .hbm, ⟨1, _⟩ => ⟨S8x8x768, .f32⟩
  | _, _ => ⟨S8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_31 : BitVec 32 := 0#32
  ![v12.toNat, 0, 0]
def k0_dev1 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v55 : BitVec 32 := Scalar.muli v2 c4_i32_34
  let v56 : BitVec 32 := Scalar.addi c0_i32_35 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v57 : BitVec 32 := Scalar.muli v5 c2_i32_36
  let v58 : BitVec 32 := Scalar.addi v56 v57
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_37 : BitVec 32 := 1#32
  let v59 : BitVec 32 := Scalar.muli v13 c1_i32_37
  let v60 : BitVec 32 := Scalar.addi v58 v59
  v60.toNat
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v67 : BitVec 32 := Scalar.muli v2 c4_i32_42
  let v68 : BitVec 32 := Scalar.addi c0_i32_43 v67
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let c2_i32_44 : BitVec 32 := 2#32
  let v69 : BitVec 32 := Scalar.muli v18 c2_i32_44
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v71 : BitVec 32 := Scalar.muli v8 c1_i32_45
  let v72 : BitVec 32 := Scalar.addi v70 v71
  v72.toNat
def k0_dev3 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v79 : BitVec 32 := Scalar.muli v2 c4_i32_50
  let v80 : BitVec 32 := Scalar.addi c0_i32_51 v79
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let c2_i32_52 : BitVec 32 := 2#32
  let v81 : BitVec 32 := Scalar.muli v23 c2_i32_52
  let v82 : BitVec 32 := Scalar.addi v80 v81
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let c1_i32_53 : BitVec 32 := 1#32
  let v83 : BitVec 32 := Scalar.muli v24 c1_i32_53
  let v84 : BitVec 32 := Scalar.addi v82 v83
  v84.toNat
def k0_dev4 (d0 : Dev nD) : Nat :=
  let c0_i32_58 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let c4_i32_57 : BitVec 32 := 4#32
  let v91 : BitVec 32 := Scalar.muli v29 c4_i32_57
  let v92 : BitVec 32 := Scalar.addi c0_i32_58 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v93 : BitVec 32 := Scalar.muli v5 c2_i32_59
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v95 : BitVec 32 := Scalar.muli v8 c1_i32_60
  let v96 : BitVec 32 := Scalar.addi v94 v95
  v96.toNat
def k0_dev5 (d0 : Dev nD) : Nat :=
  let c0_i32_66 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let c4_i32_65 : BitVec 32 := 4#32
  let v103 : BitVec 32 := Scalar.muli v34 c4_i32_65
  let v104 : BitVec 32 := Scalar.addi c0_i32_66 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v105 : BitVec 32 := Scalar.muli v5 c2_i32_67
  let v106 : BitVec 32 := Scalar.addi v104 v105
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let c1_i32_68 : BitVec 32 := 1#32
  let v107 : BitVec 32 := Scalar.muli v35 c1_i32_68
  let v108 : BitVec 32 := Scalar.addi v106 v107
  v108.toNat
def k0_dev6 (d0 : Dev nD) : Nat :=
  let c0_i32_73 : BitVec 32 := 0#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let c4_i32_72 : BitVec 32 := 4#32
  let v115 : BitVec 32 := Scalar.muli v40 c4_i32_72
  let v116 : BitVec 32 := Scalar.addi c0_i32_73 v115
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let c2_i32_74 : BitVec 32 := 2#32
  let v117 : BitVec 32 := Scalar.muli v41 c2_i32_74
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v119 : BitVec 32 := Scalar.muli v8 c1_i32_75
  let v120 : BitVec 32 := Scalar.addi v118 v119
  v120.toNat
def k0_dev7 (d0 : Dev nD) : Nat :=
  let c0_i32_80 : BitVec 32 := 0#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let c4_i32_79 : BitVec 32 := 4#32
  let v127 : BitVec 32 := Scalar.muli v46 c4_i32_79
  let v128 : BitVec 32 := Scalar.addi c0_i32_80 v127
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let c2_i32_81 : BitVec 32 := 2#32
  let v129 : BitVec 32 := Scalar.muli v47 c2_i32_81
  let v130 : BitVec 32 := Scalar.addi v128 v129
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let c1_i32_82 : BitVec 32 := 1#32
  let v131 : BitVec 32 := Scalar.muli v48 c1_i32_82
  let v132 : BitVec 32 := Scalar.addi v130 v131
  v132.toNat
def k0_off2 (d0 : Dev nD) : Fin 3 → Nat :=
  let c4_i32_6 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_6 v2
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_7 v5
  let v16 : BitVec 32 := Scalar.addi v14 v15
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let v17 : BitVec 32 := Scalar.addi v16 v13
  let c0_i32_91 : BitVec 32 := 0#32
  let c0_i32_92 : BitVec 32 := 0#32
  ![v17.toNat, 0, 0]
def k0_off3 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c4_i32_9 v2
  let c2_i32_10 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let v20 : BitVec 32 := Scalar.muli c2_i32_10 v18
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.addi v21 v8
  let c0_i32_99 : BitVec 32 := 0#32
  let c0_i32_100 : BitVec 32 := 0#32
  ![v22.toNat, 0, 0]
def k0_off4 (d0 : Dev nD) : Fin 3 → Nat :=
  let c4_i32_13 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.muli c4_i32_13 v2
  let c2_i32_14 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let v26 : BitVec 32 := Scalar.muli c2_i32_14 v23
  let v27 : BitVec 32 := Scalar.addi v25 v26
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let v28 : BitVec 32 := Scalar.addi v27 v24
  let c0_i32_107 : BitVec 32 := 0#32
  let c0_i32_108 : BitVec 32 := 0#32
  ![v28.toNat, 0, 0]
def k0_off5 (d0 : Dev nD) : Fin 3 → Nat :=
  let c4_i32_16 : BitVec 32 := 4#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let v30 : BitVec 32 := Scalar.muli c4_i32_16 v29
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_115 : BitVec 32 := 0#32
  let c0_i32_116 : BitVec 32 := 0#32
  ![v33.toNat, 0, 0]
def k0_off6 (d0 : Dev nD) : Fin 3 → Nat :=
  let c4_i32_20 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let v36 : BitVec 32 := Scalar.muli c4_i32_20 v34
  let c2_i32_21 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_21 v5
  let v38 : BitVec 32 := Scalar.addi v36 v37
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let v39 : BitVec 32 := Scalar.addi v38 v35
  let c0_i32_123 : BitVec 32 := 0#32
  let c0_i32_124 : BitVec 32 := 0#32
  ![v39.toNat, 0, 0]
def k0_off7 (d0 : Dev nD) : Fin 3 → Nat :=
  let c4_i32_24 : BitVec 32 := 4#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let v42 : BitVec 32 := Scalar.muli c4_i32_24 v40
  let c2_i32_25 : BitVec 32 := 2#32
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let v43 : BitVec 32 := Scalar.muli c2_i32_25 v41
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.addi v44 v8
  let c0_i32_131 : BitVec 32 := 0#32
  let c0_i32_132 : BitVec 32 := 0#32
  ![v45.toNat, 0, 0]
def k0_off8 (d0 : Dev nD) : Fin 3 → Nat :=
  let c4_i32_29 : BitVec 32 := 4#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let v49 : BitVec 32 := Scalar.muli c4_i32_29 v46
  let c2_i32_30 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let v50 : BitVec 32 := Scalar.muli c2_i32_30 v47
  let v51 : BitVec 32 := Scalar.addi v49 v50
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let v52 : BitVec 32 := Scalar.addi v51 v48
  let c0_i32_139 : BitVec 32 := 0#32
  let c0_i32_140 : BitVec 32 := 0#32
  ![v52.toNat, 0, 0]
-- ==== ModReference.lean ====
abbrev S64x768 : Shape := ⟨2, ![64, 768]⟩
abbrev S8x8x768 : Shape := ⟨3, ![8, 8, 768]⟩

abbrev nBuf : Space → Nat
  | .hbm => 2
  | .vmem => 0
  | .smem => 0
  | _ => 0

abbrev bufTy : (tb : Table) → Fin (tcTables nBuf tb) → BufTy
  | .hbm, ⟨0, _⟩ => ⟨S64x768, .f32⟩
  | .hbm, ⟨1, _⟩ => ⟨S8x8x768, .f32⟩
  | _, _ => ⟨S64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Cond.lean ====
abbrev S8x512 : Shape := ⟨2, ![8, 512]⟩
abbrev S8x8x512 : Shape := ⟨3, ![8, 8, 512]⟩
abbrev S7 : Shape := ⟨1, ![7]⟩
abbrev S_ : Shape := ⟨0, ![]⟩
abbrev S1x8x512 : Shape := ⟨3, ![1, 8, 512]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x512, .f32⟩
  | .hbm, ⟨1, _⟩ => ⟨S8x8x512, .f32⟩
  | _, _ => ⟨S8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_31 : BitVec 32 := 0#32
  ![v12.toNat, 0, 0]
def k0_dev1 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v55 : BitVec 32 := Scalar.muli v2 c4_i32_34
  let v56 : BitVec 32 := Scalar.addi c0_i32_35 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v57 : BitVec 32 := Scalar.muli v5 c2_i32_36
  let v58 : BitVec 32 := Scalar.addi v56 v57
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_37 : BitVec 32 := 1#32
  let v59 : BitVec 32 := Scalar.muli v13 c1_i32_37
  let v60 : BitVec 32 := Scalar.addi v58 v59
  v60.toNat
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v67 : BitVec 32 := Scalar.muli v2 c4_i32_42
  let v68 : BitVec 32 := Scalar.addi c0_i32_43 v67
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let c2_i32_44 : BitVec 32 := 2#32
  let v69 : BitVec 32 := Scalar.muli v18 c2_i32_44
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v71 : BitVec 32 := Scalar.muli v8 c1_i32_45
  let v72 : BitVec 32 := Scalar.addi v70 v71
  v72.toNat
def k0_dev3 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v79 : BitVec 32 := Scalar.muli v2 c4_i32_50
  let v80 : BitVec 32 := Scalar.addi c0_i32_51 v79
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let c2_i32_52 : BitVec 32 := 2#32
  let v81 : BitVec 32 := Scalar.muli v23 c2_i32_52
  let v82 : BitVec 32 := Scalar.addi v80 v81
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let c1_i32_53 : BitVec 32 := 1#32
  let v83 : BitVec 32 := Scalar.muli v24 c1_i32_53
  let v84 : BitVec 32 := Scalar.addi v82 v83
  v84.toNat
def k0_dev4 (d0 : Dev nD) : Nat :=
  let c0_i32_58 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let c4_i32_57 : BitVec 32 := 4#32
  let v91 : BitVec 32 := Scalar.muli v29 c4_i32_57
  let v92 : BitVec 32 := Scalar.addi c0_i32_58 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v93 : BitVec 32 := Scalar.muli v5 c2_i32_59
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v95 : BitVec 32 := Scalar.muli v8 c1_i32_60
  let v96 : BitVec 32 := Scalar.addi v94 v95
  v96.toNat
def k0_dev5 (d0 : Dev nD) : Nat :=
  let c0_i32_66 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let c4_i32_65 : BitVec 32 := 4#32
  let v103 : BitVec 32 := Scalar.muli v34 c4_i32_65
  let v104 : BitVec 32 := Scalar.addi c0_i32_66 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v105 : BitVec 32 := Scalar.muli v5 c2_i32_67
  let v106 : BitVec 32 := Scalar.addi v104 v105
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let c1_i32_68 : BitVec 32 := 1#32
  let v107 : BitVec 32 := Scalar.muli v35 c1_i32_68
  let v108 : BitVec 32 := Scalar.addi v106 v107
  v108.toNat
def k0_dev6 (d0 : Dev nD) : Nat :=
  let c0_i32_73 : BitVec 32 := 0#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let c4_i32_72 : BitVec 32 := 4#32
  let v115 : BitVec 32 := Scalar.muli v40 c4_i32_72
  let v116 : BitVec 32 := Scalar.addi c0_i32_73 v115
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let c2_i32_74 : BitVec 32 := 2#32
  let v117 : BitVec 32 := Scalar.muli v41 c2_i32_74
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v119 : BitVec 32 := Scalar.muli v8 c1_i32_75
  let v120 : BitVec 32 := Scalar.addi v118 v119
  v120.toNat
def k0_dev7 (d0 : Dev nD) : Nat :=
  let c0_i32_80 : BitVec 32 := 0#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let c4_i32_79 : BitVec 32 := 4#32
  let v127 : BitVec 32 := Scalar.muli v46 c4_i32_79
  let v128 : BitVec 32 := Scalar.addi c0_i32_80 v127
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let c2_i32_81 : BitVec 32 := 2#32
  let v129 : BitVec 32 := Scalar.muli v47 c2_i32_81
  let v130 : BitVec 32 := Scalar.addi v128 v129
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let c1_i32_82 : BitVec 32 := 1#32
  let v131 : BitVec 32 := Scalar.muli v48 c1_i32_82
  let v132 : BitVec 32 := Scalar.addi v130 v131
  v132.toNat
def k0_off2 (d0 : Dev nD) : Fin 3 → Nat :=
  let c4_i32_6 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_6 v2
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_7 v5
  let v16 : BitVec 32 := Scalar.addi v14 v15
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let v17 : BitVec 32 := Scalar.addi v16 v13
  let c0_i32_91 : BitVec 32 := 0#32
  let c0_i32_92 : BitVec 32 := 0#32
  ![v17.toNat, 0, 0]
def k0_off3 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c4_i32_9 v2
  let c2_i32_10 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let v20 : BitVec 32 := Scalar.muli c2_i32_10 v18
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.addi v21 v8
  let c0_i32_99 : BitVec 32 := 0#32
  let c0_i32_100 : BitVec 32 := 0#32
  ![v22.toNat, 0, 0]
def k0_off4 (d0 : Dev nD) : Fin 3 → Nat :=
  let c4_i32_13 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.muli c4_i32_13 v2
  let c2_i32_14 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let v26 : BitVec 32 := Scalar.muli c2_i32_14 v23
  let v27 : BitVec 32 := Scalar.addi v25 v26
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let v28 : BitVec 32 := Scalar.addi v27 v24
  let c0_i32_107 : BitVec 32 := 0#32
  let c0_i32_108 : BitVec 32 := 0#32
  ![v28.toNat, 0, 0]
def k0_off5 (d0 : Dev nD) : Fin 3 → Nat :=
  let c4_i32_16 : BitVec 32 := 4#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let v30 : BitVec 32 := Scalar.muli c4_i32_16 v29
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_115 : BitVec 32 := 0#32
  let c0_i32_116 : BitVec 32 := 0#32
  ![v33.toNat, 0, 0]
def k0_off6 (d0 : Dev nD) : Fin 3 → Nat :=
  let c4_i32_20 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let v36 : BitVec 32 := Scalar.muli c4_i32_20 v34
  let c2_i32_21 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_21 v5
  let v38 : BitVec 32 := Scalar.addi v36 v37
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let v39 : BitVec 32 := Scalar.addi v38 v35
  let c0_i32_123 : BitVec 32 := 0#32
  let c0_i32_124 : BitVec 32 := 0#32
  ![v39.toNat, 0, 0]
def k0_off7 (d0 : Dev nD) : Fin 3 → Nat :=
  let c4_i32_24 : BitVec 32 := 4#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let v42 : BitVec 32 := Scalar.muli c4_i32_24 v40
  let c2_i32_25 : BitVec 32 := 2#32
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let v43 : BitVec 32 := Scalar.muli c2_i32_25 v41
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.addi v44 v8
  let c0_i32_131 : BitVec 32 := 0#32
  let c0_i32_132 : BitVec 32 := 0#32
  ![v45.toNat, 0, 0]
def k0_off8 (d0 : Dev nD) : Fin 3 → Nat :=
  let c4_i32_29 : BitVec 32 := 4#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let v49 : BitVec 32 := Scalar.muli c4_i32_29 v46
  let c2_i32_30 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let v50 : BitVec 32 := Scalar.muli c2_i32_30 v47
  let v51 : BitVec 32 := Scalar.addi v49 v50
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let v52 : BitVec 32 := Scalar.addi v51 v48
  let c0_i32_139 : BitVec 32 := 0#32
  let c0_i32_140 : BitVec 32 := 0#32
  ![v52.toNat, 0, 0]
-- ==== CondReference.lean ====
abbrev S64x512 : Shape := ⟨2, ![64, 512]⟩
abbrev S8x8x512 : Shape := ⟨3, ![8, 8, 512]⟩

abbrev nBuf : Space → Nat
  | .hbm => 2
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S8x8x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== InProj.lean ====
abbrev S8192x1024 : Shape := ⟨2, ![8192, 1024]⟩
abbrev S1024x3200 : Shape := ⟨2, ![1024, 3200]⟩
abbrev S8192x3200 : Shape := ⟨2, ![8192, 3200]⟩
abbrev S512x1024 : Shape := ⟨2, ![512, 1024]⟩
abbrev S1024x640 : Shape := ⟨2, ![1024, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x3200, .f32⟩
  | .local _ .vmem, ⟨0, _⟩ => ⟨S512x1024, .bf16⟩
  | .local _ .vmem, ⟨1, _⟩ => ⟨S512x1024, .bf16⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjIdeal.lean ====
abbrev S8192x1024 : Shape := ⟨2, ![8192, 1024]⟩
abbrev S1024x3200 : Shape := ⟨2, ![1024, 3200]⟩
abbrev S8192x3200 : Shape := ⟨2, ![8192, 3200]⟩
abbrev S512x1024 : Shape := ⟨2, ![512, 1024]⟩
abbrev S1024x640 : Shape := ⟨2, ![1024, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x3200, .f32⟩
  | .local _ .vmem, ⟨0, _⟩ => ⟨S512x1024, .bf16⟩
  | .local _ .vmem, ⟨1, _⟩ => ⟨S512x1024, .bf16⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjReferenceIdeal.lean ====
abbrev S8192x1024 : Shape := ⟨2, ![8192, 1024]⟩
abbrev S1024x3200 : Shape := ⟨2, ![1024, 3200]⟩
abbrev S8192x3200 : Shape := ⟨2, ![8192, 3200]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x1024, .f32⟩
  | .hbm, ⟨3, _⟩ => ⟨S1024x3200, .f32⟩
  | .hbm, ⟨4, _⟩ => ⟨S8192x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjIdeal.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpProj.lean ====
abbrev S8192x1024 : Shape := ⟨2, ![8192, 1024]⟩
abbrev S1024x5632 : Shape := ⟨2, ![1024, 5632]⟩
abbrev S8192x5632 : Shape := ⟨2, ![8192, 5632]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpProjIdeal.lean ====
abbrev S8192x1024 : Shape := ⟨2, ![8192, 1024]⟩
abbrev S1024x5632 : Shape := ⟨2, ![1024, 5632]⟩
abbrev S8192x5632 : Shape := ⟨2, ![8192, 5632]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpProjReferenceIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownProj.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S2816x512 : Shape := ⟨2, ![2816, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x512, .bf16⟩
  | .local _ .vmem, ⟨3, _⟩ => ⟨S2816x512, .bf16⟩
  | .local _ .vmem, ⟨4, _⟩ => ⟨S512x512, .f32⟩
  | .local _ .vmem, ⟨5, _⟩ => ⟨S512x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownProjIdeal.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S2816x512 : Shape := ⟨2, ![2816, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x512, .bf16⟩
  | .local _ .vmem, ⟨3, _⟩ => ⟨S2816x512, .bf16⟩
  | .local _ .vmem, ⟨4, _⟩ => ⟨S512x512, .f32⟩
  | .local _ .vmem, ⟨5, _⟩ => ⟨S512x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownProjReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownDgrad.lean ====
abbrev S8192x1024 : Shape := ⟨2, ![8192, 1024]⟩
abbrev S1024x2816 : Shape := ⟨2, ![1024, 2816]⟩
abbrev S8192x2816 : Shape := ⟨2, ![8192, 2816]⟩
abbrev S512x1024 : Shape := ⟨2, ![512, 1024]⟩
abbrev S1024x256 : Shape := ⟨2, ![1024, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S1024x256, .bf16⟩
  | .local _ .vmem, ⟨3, _⟩ => ⟨S1024x256, .bf16⟩
  | .local _ .vmem, ⟨4, _⟩ => ⟨S512x256, .f32⟩
  | .local _ .vmem, ⟨5, _⟩ => ⟨S512x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDgradIdeal.lean ====
abbrev S8192x1024 : Shape := ⟨2, ![8192, 1024]⟩
abbrev S1024x2816 : Shape := ⟨2, ![1024, 2816]⟩
abbrev S8192x2816 : Shape := ⟨2, ![8192, 2816]⟩
abbrev S512x1024 : Shape := ⟨2, ![512, 1024]⟩
abbrev S1024x256 : Shape := ⟨2, ![1024, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S1024x256, .bf16⟩
  | .local _ .vmem, ⟨3, _⟩ => ⟨S1024x256, .bf16⟩
  | .local _ .vmem, ⟨4, _⟩ => ⟨S512x256, .f32⟩
  | .local _ .vmem, ⟨5, _⟩ => ⟨S512x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDgradReferenceIdeal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x1024, .f32⟩
  | .hbm, ⟨3, _⟩ => ⟨S1024x2816, .f32⟩
  | .hbm, ⟨4, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpDgrad.lean ====
abbrev S8192x5632 : Shape := ⟨2, ![8192, 5632]⟩
abbrev S5632x1024 : Shape := ⟨2, ![5632, 1024]⟩
abbrev S8192x1024 : Shape := ⟨2, ![8192, 1024]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDgradIdeal.lean ====
abbrev S8192x5632 : Shape := ⟨2, ![8192, 5632]⟩
abbrev S5632x1024 : Shape := ⟨2, ![5632, 1024]⟩
abbrev S8192x1024 : Shape := ⟨2, ![8192, 1024]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDgradReferenceIdeal.lean ====
abbrev S8192x5632 : Shape := ⟨2, ![8192, 5632]⟩
abbrev S5632x1024 : Shape := ⟨2, ![5632, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x5632, .f32⟩
  | .hbm, ⟨3, _⟩ => ⟨S5632x1024, .f32⟩
  | .hbm, ⟨4, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutDgrad.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDgradIdeal.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDgradReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InDgrad.lean ====
abbrev S8192x3200 : Shape := ⟨2, ![8192, 3200]⟩
abbrev S3200x1024 : Shape := ⟨2, ![3200, 1024]⟩
abbrev S8192x1024 : Shape := ⟨2, ![8192, 1024]⟩
abbrev S512x3200 : Shape := ⟨2, ![512, 3200]⟩
abbrev S3200x512 : Shape := ⟨2, ![3200, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x3200, .bf16⟩
  | .hbm, ⟨1, _⟩ => ⟨S3200x1024, .bf16⟩
  | .hbm, ⟨2, _⟩ => ⟨S8192x1024, .f32⟩
  | .local _ .vmem, ⟨0, _⟩ => ⟨S512x3200, .bf16⟩
  | .local _ .vmem, ⟨1, _⟩ => ⟨S512x3200, .bf16⟩
  | .local _ .vmem, ⟨2, _⟩ => ⟨S3200x512, .bf16⟩
  | .local _ .vmem, ⟨3, _⟩ => ⟨S3200x512, .bf16⟩
  | .local _ .vmem, ⟨4, _⟩ => ⟨S512x512, .f32⟩
  | .local _ .vmem, ⟨5, _⟩ => ⟨S512x512, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3200x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDgradReferenceIdeal.lean ====
abbrev S8192x3200 : Shape := ⟨2, ![8192, 3200]⟩
abbrev S3200x1024 : Shape := ⟨2, ![3200, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S3200x1024, .bf16⟩
  | .hbm, ⟨2, _⟩ => ⟨S8192x3200, .f32⟩
  | .hbm, ⟨3, _⟩ => ⟨S3200x1024, .f32⟩
  | .hbm, ⟨4, _⟩ => ⟨S8192x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownWgrad.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWgradIdeal.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWgradReferenceIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S2816x8192, .f32⟩
  | .hbm, ⟨4, _⟩ => ⟨S8192x1024, .f32⟩
  | .hbm, ⟨5, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpWgrad.lean ====
abbrev S8192x1024 : Shape := ⟨2, ![8192, 1024]⟩
abbrev S8192x5632 : Shape := ⟨2, ![8192, 5632]⟩
abbrev S1024x5632 : Shape := ⟨2, ![1024, 5632]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWgradIdeal.lean ====
abbrev S8192x1024 : Shape := ⟨2, ![8192, 1024]⟩
abbrev S8192x5632 : Shape := ⟨2, ![8192, 5632]⟩
abbrev S1024x5632 : Shape := ⟨2, ![1024, 5632]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWgradReferenceIdeal.lean ====
abbrev S8192x1024 : Shape := ⟨2, ![8192, 1024]⟩
abbrev S8192x5632 : Shape := ⟨2, ![8192, 5632]⟩
abbrev S1024x8192 : Shape := ⟨2, ![1024, 8192]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S1024x8192, .f32⟩
  | .hbm, ⟨4, _⟩ => ⟨S8192x5632, .f32⟩
  | .hbm, ⟨5, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutWgrad.lean ====
abbrev S8192x1024 : Shape := ⟨2, ![8192, 1024]⟩
abbrev S1024x1024 : Shape := ⟨2, ![1024, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWgradIdeal.lean ====
abbrev S8192x1024 : Shape := ⟨2, ![8192, 1024]⟩
abbrev S1024x1024 : Shape := ⟨2, ![1024, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWgradReferenceIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InWgrad.lean ====
abbrev S8192x1024 : Shape := ⟨2, ![8192, 1024]⟩
abbrev S8192x3200 : Shape := ⟨2, ![8192, 3200]⟩
abbrev S1024x3200 : Shape := ⟨2, ![1024, 3200]⟩
abbrev S512x1024 : Shape := ⟨2, ![512, 1024]⟩
abbrev S512x640 : Shape := ⟨2, ![512, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S1024x3200, .f32⟩
  | .local _ .vmem, ⟨0, _⟩ => ⟨S512x1024, .bf16⟩
  | .local _ .vmem, ⟨1, _⟩ => ⟨S512x1024, .bf16⟩
  | .local _ .vmem, ⟨2, _⟩ => ⟨S512x640, .bf16⟩
  | .local _ .vmem, ⟨3, _⟩ => ⟨S512x640, .bf16⟩
  | .local _ .vmem, ⟨4, _⟩ => ⟨S1024x640, .f32⟩
  | .local _ .vmem, ⟨5, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWgradReferenceIdeal.lean ====
abbrev S8192x1024 : Shape := ⟨2, ![8192, 1024]⟩
abbrev S8192x3200 : Shape := ⟨2, ![8192, 3200]⟩
abbrev S1024x8192 : Shape := ⟨2, ![1024, 8192]⟩
abbrev S1024x3200 : Shape := ⟨2, ![1024, 3200]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S8192x1024, .f32⟩
  | .hbm, ⟨3, _⟩ => ⟨S1024x8192, .f32⟩
  | .hbm, ⟨4, _⟩ => ⟨S8192x3200, .f32⟩
  | .hbm, ⟨5, _⟩ => ⟨S1024x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Norm1Bwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Norm1BwdReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.Slots.lean ====
/-
  The eight slots of a gathered array: slot `j` of an 8 × 1600 × 1024 array is the plane whose leading index is `j`.

  A transfer of the exchange reads one slot of the sender's array and writes one slot of the receiver's, both named by a
  slice at a leading offset whose unit axis is dropped. Which elements such a view has, and what a transfer between two
  of them leaves, depends on the two leading offsets alone.
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.Scatter

open Cert.KernelIdeal Cert.KernelIdeal.Gen
open Idealize.ShloMosaic
open Idealize.ShloMosaic.TcCoe

/-- A slot of an array, named as the kernel names it: the slice at offset `off`, its unit axis dropped. -/
abbrev slot (b : Memref sig .tc .hbm S8x1600x1024 .f32) (off : Fin 3 → ℕ) (h : ∀ a, off a + S1x1600x1024.size a ≤ S8x1600x1024.size a) :
    Memref sig .tc .hbm S1600x1024 .f32 :=
  (b.slice (Rect.unit (s := S8x1600x1024) off S1x1600x1024.size h) (fun _ => rfl)).squeeze S1600x1024 squeezes_S1x1600x1024_S1600x1024

/-- The array each device sends from, and the array it gathers into. -/
abbrev sM : Memref sig .tc .hbm S8x1600x1024 .f32 := Memref.whole main_arg0
abbrev gM : Memref sig .tc .hbm S8x1600x1024 .f32 := Memref.whole main_v1

/-- The elements of slot `j`. -/
def plane (j : Fin 8) : Finset S8x1600x1024.Idx := Finset.univ.filter fun i => (i (0 : Fin 3)).val = j.val

theorem mem_plane {j : Fin 8} {i : S8x1600x1024.Idx} : i ∈ plane j ↔ (i (0 : Fin 3)).val = j.val := by
  unfold plane; rw [Finset.mem_filter]; exact ⟨fun h => h.2, fun h => ⟨Finset.mem_univ _, h⟩⟩

theorem plane_disjoint {j j' : Fin 8} (h : j ≠ j') : Disjoint (plane j) (plane j') :=
  Finset.disjoint_left.mpr fun i hi hi' => h (Fin.ext ((mem_plane.mp hi).symm.trans (mem_plane.mp hi')))

theorem plane_cover : (Finset.univ : Finset (Fin 8)).biUnion plane = Finset.univ := by
  ext i
  simp only [Finset.mem_biUnion, Finset.mem_univ, true_and, iff_true]
  exact ⟨⟨(i (0 : Fin 3)).val, (i (0 : Fin 3)).isLt⟩, mem_plane.mpr rfl⟩

/-- The index of the rectangle's element `y`, read in the array. -/
theorem rect_emb_val (off : Fin 3 → ℕ) (h : ∀ a, off a + S1x1600x1024.size a ≤ S8x1600x1024.size a) (y : S1x1600x1024.Idx) (a : Fin 3) :
    (((Rect.unit (s := S8x1600x1024) off S1x1600x1024.size h).emb y) a).val = off a + (y a).val := by
  show off a + 1 * (y a).val = _
  rw [Nat.one_mul]

theorem rect_set (j : Fin 8) (off : Fin 3 → ℕ) (h : ∀ a, off a + S1x1600x1024.size a ≤ S8x1600x1024.size a) (hoff : off = ![j.val, 0, 0]) :
    (Rect.unit (s := S8x1600x1024) off S1x1600x1024.size h).set = plane j := by
  subst hoff
  ext i
  rw [Rect.mem_set_unit, mem_plane]
  constructor
  · intro hi
    have h0 := hi (0 : Fin 3)
    have e1 : (![j.val, 0, 0] : Fin 3 → ℕ) 0 = j.val := rfl
    have e2 : S1x1600x1024.size 0 = 1 := rfl
    rw [e1, e2] at h0
    omega
  · intro hi a
    fin_cases a
    · show j.val ≤ (i (0 : Fin 3)).val ∧ (i (0 : Fin 3)).val < j.val + 1
      omega
    · exact ⟨Nat.zero_le _, by show (i (1 : Fin 3)).val < 0 + 1600; have := (i (1 : Fin 3)).isLt; exact (Nat.zero_add 1600).symm ▸ this⟩
    · exact ⟨Nat.zero_le _, by show (i (2 : Fin 3)).val < 0 + 1024; have := (i (2 : Fin 3)).isLt; exact (Nat.zero_add 1024).symm ▸ this⟩

theorem set_send (j : Fin 8) (off : Fin 3 → ℕ) (h : ∀ a, off a + S1x1600x1024.size a ≤ S8x1600x1024.size a) (hoff : off = ![j.val, 0, 0]) :
    (slot sM off h).view.set = plane j := by
  rw [Memref.set_view_squeeze]
  exact (View.set_slice_whole main_arg0 _).trans (rect_set j off h hoff)

theorem set_gather (j : Fin 8) (off : Fin 3 → ℕ) (h : ∀ a, off a + S1x1600x1024.size a ≤ S8x1600x1024.size a) (hoff : off = ![j.val, 0, 0]) :
    (slot gM off h).view.set = plane j := by
  rw [Memref.set_view_squeeze]
  exact (View.set_slice_whole main_v1 _).trans (rect_set j off h hoff)

/-- The element of slot `j` at the place of `i` in its own slot. -/
def at_ (j : Fin 8) (i : S8x1600x1024.Idx) : S8x1600x1024.Idx := Function.update i (0 : Fin 3) j

theorem at_zero (j : Fin 8) (i : S8x1600x1024.Idx) : at_ j i (0 : Fin 3) = j := Function.update_self ..
theorem at_ne (j : Fin 8) (i : S8x1600x1024.Idx) (a : Fin 3) (ha : a ≠ 0) : at_ j i a = i a := Function.update_of_ne ha _ _

variable {F : FTy → Type} [FloatOps F]

/-- What a transfer from slot `j'` of the sent array into slot `j` of the gathered one leaves there. -/
theorem landed (j j' : Fin 8) (off off' : Fin 3 → ℕ) (h : ∀ a, off a + S1x1600x1024.size a ≤ S8x1600x1024.size a)
    (h' : ∀ a, off' a + S1x1600x1024.size a ≤ S8x1600x1024.size a) (hoff : off = ![j.val, 0, 0]) (hoff' : off' = ![j'.val, 0, 0])
    (fd : S8x1600x1024.Idx → Elt F .f32) (fs : S8x1600x1024.Idx → Elt F .f32) (i : S8x1600x1024.Idx) (hi : i ∈ plane j) :
    (slot gM off h).view.write (Elt F) fd ((slot sM off' h').view.read (Elt F) fs) Finset.univ i = fs (at_ j' i) := by
  rw [← set_gather j off h hoff] at hi
  obtain ⟨y, -, rfl⟩ := Finset.mem_map.mp hi
  refine (View.write_emb_of_mem (v := (slot gM off h).view) _ _ (Finset.mem_univ y)).trans ?_
  show fs ((slot sM off' h').view.emb y) = fs (at_ j' ((slot gM off h).view.emb y))
  congr 1
  funext a
  subst hoff hoff'
  apply Fin.ext
  show (((Rect.unit (s := S8x1600x1024) ![j'.val, 0, 0] S1x1600x1024.size h').emb (Shape.reshapeEquiv squeezes_S1x1600x1024_S1600x1024.numel_eq y)) a).val
    = (at_ j' ((Rect.unit (s := S8x1600x1024) ![j.val, 0, 0] S1x1600x1024.size h).emb (Shape.reshapeEquiv squeezes_S1x1600x1024_S1600x1024.numel_eq y)) a).val
  rw [rect_emb_val]
  generalize Shape.reshapeEquiv squeezes_S1x1600x1024_S1600x1024.numel_eq y = z
  by_cases ha : a = (0 : Fin 3)
  · subst ha
    refine Eq.trans ?_ (congrArg Fin.val (at_zero j' _)).symm
    have hz : (z (0 : Fin 3)).val < 1 := (z (0 : Fin 3)).isLt
    show j'.val + (z (0 : Fin 3)).val = j'.val
    omega
  · refine Eq.trans ?_ (congrArg Fin.val (at_ne j' _ a ha)).symm
    rw [rect_emb_val]
    congr 1
    revert ha; revert a; intro (a : Fin 3) ha
    fin_cases a
    · exact absurd rfl ha
    · rfl
    · rfl

end Cert.Scatter

end
-- ==== Proof.Proto.lean ====
/-
  The protocol of the exchange.

  Eight devices, numbered 0 … 7 in the row-major order of the 2 × 2 × 2 mesh. Device `c` has seven peers; the `k`-th
  differs from it in the bits of `k + 1`. On each device fifteen semaphores, each used once:

  * send semaphore `k` — credited by the device's own transfer to its `k`-th peer once the source has been read; waited
    for by the device itself. Hands back: the slot of the sent array that was read, unchanged.
  * receive semaphore `k` — credited by the `k`-th peer's transfer once it has landed; waited for by the device itself.
    Hands over: the peer's slot of the gathered array, holding what the peer sent.
  * local semaphore — credited by the device's copy of its own slot. Hands over: the own slot of the gathered array
    and hands back the own slot of the sent one.

  A device starts every transfer before it waits for any, so at each wait it owes nobody. A transfer writes into a peer's
  slot without asking: at launch the right to write slot `c` of peer `d` belongs to device `c`.
-/
module

public import proofs.«01_k».proof.Proof.Slots

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Peers -/

theorem peer_lt (k : Fin 7) (c : Fin 8) : c.val ^^^ (k.val + 1) < 8 := by revert k c; decide

/-- The `k`-th peer of device `c`. -/
def peer (k : Fin 7) (c : Dev nD) : Dev nD := ⟨c.val ^^^ (k.val + 1), peer_lt k c⟩

theorem peer_peer (k : Fin 7) (c : Dev nD) : peer k (peer k c) = c := by revert k c; decide
theorem peer_ne (k : Fin 7) (c : Dev nD) : peer k c ≠ c := by revert k c; decide
theorem peer_inj (c : Dev nD) : Function.Injective fun k => peer k c := by
  intro k k' h; revert k k' c; decide

/-- Exchanging every device with its `k`-th peer. -/
def swap (k : Fin 7) : Dev nD ≃ Dev nD := ⟨peer k, peer k, peer_peer k, peer_peer k⟩

/-- A device and its peers are all the devices. -/
theorem univ_peers (c : Dev nD) : (Finset.univ : Finset (Dev nD)) = insert c (Finset.univ.map ⟨fun k => peer k c, peer_inj c⟩) := by
  revert c; decide

/-! ## The semaphores -/

/-- The exchange's semaphores: send `k`, receive `k`, local. -/
abbrev Sm : Type := Fin 7 ⊕ Fin 7 ⊕ Unit

abbrev snd (k : Fin 7) : Sm := .inl k
abbrev rcv (k : Fin 7) : Sm := .inr (.inl k)
abbrev own : Sm := .inr (.inr ())

/-- The place of each in the device's pool. -/
def idx : Sm → Fin 31
  | .inl k => ⟨k.val, by omega⟩
  | .inr (.inl k) => ⟨7 + k.val, by omega⟩
  | .inr (.inr _) => ⟨14, by omega⟩

theorem idx_inj : Function.Injective idx := by decide

abbrev dsem (s : Sm) : DmaSem sig := idx s
abbrev osem (s : Sm) : SemLoc sig := .dma (dsem s)
abbrev kcell (p : Dev nD × Sm) : GSem nD τ sig := ((p.1 : Thread nD τ), osem p.2)

theorem osem_inj : Function.Injective osem := fun s s' h => idx_inj (by injection h)

theorem kcell_inj : Function.Injective kcell := by
  rintro ⟨c, s⟩ ⟨c', s'⟩ h
  have h1 : c = c' := congrArg (fun g : GSem nD τ sig => g.1.1) h
  have h2 : s = s' := osem_inj (congrArg Prod.snd h)
  rw [h1, h2]

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## Contents -/

/-- What the exchange leaves in the gathered array of device `c`: slot `j` is slot `c` of what device `j` sends. -/
def gathered (c : Dev nD) : Buf (Elt F) ((c : Thread nD τ).loc main_v1) :=
  fun i : S8x1600x1024.Idx => m (((⟨(i (0 : Fin 3)).val, (i (0 : Fin 3)).isLt⟩ : Dev nD) : Thread nD τ).loc main_arg0) (at_ c i)

/-- Slot `j` of the sent array of device `c`, and of the gathered one holding `f`. -/
def srcP (c : Dev nD) (j : Fin 8) : sProp 𝕄 :=
  ((c : Thread nD τ).loc main_arg0) ↦[plane j]{fullShare} m ((c : Thread nD τ).loc main_arg0)
def dstP (c : Dev nD) (j : Fin 8) (f : Buf (Elt F) ((c : Thread nD τ).loc main_v1)) : sProp 𝕄 :=
  ((c : Thread nD τ).loc main_v1) ↦[plane j]{fullShare} f

omit [FloatOps F] in
instance srcP_storable (c : Dev nD) (j : Fin 8) : BI.Storable (upEmb : UEmb _ 𝕄) (srcP m c j) := by unfold srcP; infer_instance
omit [FloatOps F] in
instance dstP_storable (c : Dev nD) (j : Fin 8) (f) : BI.Storable (upEmb : UEmb _ 𝕄) (dstP (F := F) c j f) := by unfold dstP; infer_instance

/-- What each semaphore of device `c` hands over when its credit arrives. -/
def payAt (c : Dev nD) : Sm → sProp 𝕄
  | .inl k => srcP m c (peer k c)
  | .inr (.inl k) => dstP c (peer k c) (gathered m c)
  | .inr (.inr _) => iprop(dstP c c (gathered m c) ∗ srcP m c c)

omit [FloatOps F] in
instance payAt_storable (c : Dev nD) (s : Sm) : BI.Storable (upEmb : UEmb _ 𝕄) (payAt m c s) := by
  rcases s with k | k | k <;> (unfold payAt; infer_instance)

/-! ## The schedule -/

theorem inb0 (a : Fin 3) : (![0, 0, 0] : Fin 3 → ℕ) a + S1x1600x1024.size a ≤ S8x1600x1024.size a := by revert a; decide

/-- The credit of one transfer. -/
def N : ℕ := (slot gM ![0, 0, 0] inb0).view.dmaCredit
theorem N_pos : 0 < N := View.dmaCredit_pos _ (by decide)

open Classical in
def sched : Rounds.Schedule (GSem nD τ sig) Unit 𝕄 where
  duties g r := if r = 0 ∧ g.1.2 = .tc ∧ ∃ s, g.2 = osem s then {()} else ∅
  unitless _ := False
  amount _ _ _ := N
  payload g _ _ := if h : ∃ s, g.2 = osem s then payAt m g.1.1 h.choose else iprop(emp)
  amount_pos _ _ _ _ := N_pos

omit [FloatOps F] in
instance sched_storable (g : GSem nD τ sig) (r : ℕ) (d : Unit) : BI.Storable (upEmb : UEmb _ 𝕄) ((sched (F := F) m).payload g r d) := by
  unfold sched
  dsimp only
  split <;> infer_instance

omit [FloatOps F] in
theorem duties_cell (c : Dev nD) (s : Sm) : (sched (F := F) m).duties (kcell (c, s)) 0 = {()} := by
  dsimp only [sched]; exact if_pos ⟨rfl, rfl, s, rfl⟩
omit [FloatOps F] in
theorem duties_later (g : GSem nD τ sig) : ∀ r, 1 ≤ r → (sched (F := F) m).duties g r = ∅ :=
  fun r hr => by dsimp only [sched]; exact if_neg fun h => by omega
omit [FloatOps F] in
theorem amount_cell (g : GSem nD τ sig) (u : Unit) : (sched (F := F) m).amount g 0 u = N := rfl
omit [FloatOps F] in
theorem expect_cell (c : Dev nD) (s : Sm) : (sched (F := F) m).expect (kcell (c, s)) 0 = N := by
  unfold Schedule.expect Schedule.amountOf; rw [duties_cell, Finset.sum_singleton, amount_cell]
omit [FloatOps F] in
theorem payload_cell (c : Dev nD) (s : Sm) (u : Unit) : (sched (F := F) m).payload (kcell (c, s)) 0 u = payAt m c s := by
  have h : ∃ s', (kcell (c, s)).2 = osem s' := ⟨s, rfl⟩
  dsimp only [sched]
  rw [dif_pos h, ← osem_inj h.choose_spec]
omit [FloatOps F] in
theorem rest_cell (c : Dev nD) (s : Sm) :
    bigSep ((sched (F := F) m).duties (kcell (c, s)) 0 \ ∅) (fun u => (sched (F := F) m).payload (kcell (c, s)) 0 u) = payAt m c s := by
  rw [Finset.sdiff_empty, duties_cell, bigSep_singleton, payload_cell]

/-! ## What each device owes at launch -/

/-- The credit of the transfer to the `k`-th peer. -/
def owed (c : Dev nD) (k : Fin 7) : CellTallies nD τ sig Unit := tallyAt (kcell (peer k c, rcv k)) () N

/-- Device `c` owes each peer the credit of one transfer; the first to be paid stands last. -/
def O₀ (c : Dev nD) : CellTallies nD τ sig Unit :=
  0 + owed c 6 + owed c 5 + owed c 4 + owed c 3 + owed c 2 + owed c 1 + owed c 0

def L (g : GSem nD τ sig) : Finset Unit := if g.1.2 = .tc then {()} else ∅
def lv (_ : GSem nD τ sig) (_ : Unit) : ℕ := 0
theorem L_of_ne (g : GSem nD τ sig) (h : g.1.2 ≠ .tc) : L g = ∅ := if_neg h

/-! ## The state of a device before, and after, the exchange -/

/-- Every semaphore's invariant, and that its round is open. -/
def records (K : Dev nD × Sm → ℕ) : sProp 𝕄 :=
  iprop((bigSep Finset.univ fun p : Dev nD × Sm => cellInv ER (sched m) (K p) (kcell p))
    ∗ bigSep Finset.univ fun p : Dev nD × Sm => reached ER (kcell p) 0)
omit [FloatOps F] in
instance records_persistent (K : Dev nD × Sm → ℕ) : BI.Persistent (records m K) := by unfold records; infer_instance

omit [FloatOps F] in
theorem inv_at (K : Dev nD × Sm → ℕ) (p : Dev nD × Sm) : records m K ⊢ cellInv ER (sched m) (K p) (kcell p) := by
  unfold records
  iintro ⟨H, -⟩
  iapply (show (bigSep Finset.univ fun p : Dev nD × Sm => (cellInv ER (sched m) (K p) (kcell p) : sProp 𝕄)) ⊢ _ from bigSep_elim (Finset.mem_univ p))
  iexact H
omit [FloatOps F] in
theorem reached_at (K : Dev nD × Sm → ℕ) (p : Dev nD × Sm) : records m K ⊢ reached ER (kcell p) 0 := by
  unfold records
  iintro ⟨-, H⟩
  iapply (show (bigSep Finset.univ fun p : Dev nD × Sm => (reached ER (kcell p) 0 : sProp 𝕄)) ⊢ _ from bigSep_elim (Finset.mem_univ p))
  iexact H

/-- What device `c` needs for its `k`-th transfer: the slot to read, the peer's slot to write, and the two duties. -/
def toSend (c : Dev nD) (k : Fin 7) : sProp 𝕄 :=
  iprop(srcP m c (peer k c) ∗ (∃ f, dstP (peer k c) c f) ∗ dutyTok ER (kcell (c, snd k)) 0 () ∗ dutyTok ER (kcell (peer k c, rcv k)) 0 ())
/-- What it needs for the copy of its own slot. -/
def toCopy (c : Dev nD) : sProp 𝕄 := iprop(srcP m c c ∗ (∃ f, dstP c c f) ∗ dutyTok ER (kcell (c, own)) 0 ())

/-- Device `c` before the exchange. -/
def start (c : Dev nD) : sProp 𝕄 :=
  iprop((∃ K, records m K) ∗ toCopy m c ∗ (bigSep Finset.univ fun k => toSend m c k)
    ∗ (bigSep Finset.univ fun s => atPos ER (kcell (c, s)) 0 ∅ 0)
    ∗ bigSep Finset.univ fun k => cred (tallyAt (kcell (c, rcv k)) () N))

/-- Device `c` after it. -/
def done (c : Dev nD) : sProp 𝕄 :=
  iprop((bigSep Finset.univ fun s => payAt m c s) ∗ bigSep Finset.univ fun s => semVal (kcell (c, s)) 0)

end Cert.Scatter

end
-- ==== Proof.GatherProto.lean ====
/-
  The protocol of an exchange in which every device hands the same array to all of its peers.

  Beside the exchange of `Proto` one thing differs: a device's eight transfers all read the whole of its array at once,
  so each of them takes an eighth of the right to it and gives that eighth back. The programs that gather have different
  arrays, so what follows is stated over any array to read, any eight disjoint places to write and any fifteen
  semaphores (`Port`).
-/
module

public import proofs.«01_k».proof.Proof.Proto
public import Idealize.ShloMosaic.Lib.ShareLeaves

@[expose] public section

noncomputable section

namespace Cert.Gather

open Cert.Scatter (peer peer_peer peer_ne peer_inj swap univ_peers Sm snd rcv own)
open Idealize.ShloMosaic
open Idealize.ShloMosaic.TcCoe
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds

abbrev nD : ℕ := 8
abbrev τ : Topo := Topo.v7x

/-- What an exchange uses on each device: the array it hands to everybody, the slots it is given, its semaphores. -/
structure Port (sig : RefSig) (s : Shape) (e : EltTy) where
  x : Memref sig .tc .hbm s e
  g : Fin 8 → Memref sig .tc .hbm s e
  q : Sm → DmaSem sig
  q_inj : Function.Injective q
  N : ℕ
  N_pos : 0 < N
  credit_x : x.view.dmaCredit = N
  credit_g : ∀ j, (g j).view.dmaCredit = N

variable {sig : RefSig} {s : Shape} {e : EltTy} (P : Port sig s e)

/-! ## The semaphores -/

abbrev osem (p : Sm) : SemLoc sig := .dma (P.q p)
abbrev kcell (p : Dev nD × Sm) : GSem nD τ sig := ((p.1 : Thread nD τ), osem P p.2)

theorem osem_inj : Function.Injective (osem P) := fun s s' h => P.q_inj (by injection h)

theorem kcell_inj : Function.Injective (kcell P) := by
  rintro ⟨c, s⟩ ⟨c', s'⟩ h
  have h1 : c = c' := congrArg (fun g : GSem nD τ sig => g.1.1) h
  have h2 : s = s' := osem_inj P (congrArg Prod.snd h)
  rw [h1, h2]

variable {Val : EltTy → Type}

abbrev UU (sig : RefSig) : Type := UR sig nD τ × UR sig nD τ

local notation "𝕄" => MT nD τ sig Unit Val ℕ (UU sig) ℕ

abbrev EP : Emb (UR sig nD τ) (MT nD τ sig Unit Val ℕ (UU sig) ℕ) := embL
abbrev ER : Emb (UR sig nD τ) (MT nD τ sig Unit Val ℕ (UU sig) ℕ) := embR

variable (m : (ℓ : Loc nD τ sig) → Buf Val ℓ)

/-! ## Contents -/

/-- The `i`-th eighth of the right to the array device `c` hands out. -/
def srcP (c : Dev nD) (i : Fin 8) : sProp 𝕄 :=
  P.x.view.loc (c : Thread nD τ) ↦[P.x.view.set]{leaf 3 fullShare i} m (P.x.view.loc (c : Thread nD τ))
/-- Slot `j` of device `c`, holding `f`. -/
def dstP (c : Dev nD) (j : Fin 8) (f : Buf Val ((P.g j).view.loc (c : Thread nD τ))) : sProp 𝕄 :=
  (P.g j).view.loc (c : Thread nD τ) ↦[(P.g j).view.set]{fullShare} f
/-- Slot `j` of device `c`, filled by device `j`. -/
def filled (c : Dev nD) (j : Fin 8) : sProp 𝕄 :=
  iprop(∃ f, dstP P c j ((P.g j).view.write Val f (P.x.view.read Val (m (P.x.view.loc ((j : Dev nD) : Thread nD τ)))) Finset.univ))

instance srcP_storable (c : Dev nD) (i : Fin 8) : BI.Storable (upEmb : UEmb _ 𝕄) (srcP P m c i) := by unfold srcP; infer_instance
instance dstP_storable (c : Dev nD) (j : Fin 8) (f) : BI.Storable (upEmb : UEmb _ 𝕄) (dstP (Val := Val) P c j f) := by unfold dstP; infer_instance
instance filled_storable (c : Dev nD) (j : Fin 8) : BI.Storable (upEmb : UEmb _ 𝕄) (filled P m c j) := by unfold filled; infer_instance

/-- What each semaphore of device `c` hands over when its credit arrives. -/
def payAt (c : Dev nD) : Sm → sProp 𝕄
  | .inl k => srcP P m c (peer k c)
  | .inr (.inl k) => filled P m c (peer k c)
  | .inr (.inr _) => iprop(filled P m c c ∗ srcP P m c c)

instance payAt_storable (c : Dev nD) (p : Sm) : BI.Storable (upEmb : UEmb _ 𝕄) (payAt P m c p) := by
  rcases p with k | k | k <;> (unfold payAt; infer_instance)

/-! ## The schedule -/

open Classical in
def sched : Rounds.Schedule (GSem nD τ sig) Unit 𝕄 where
  duties g r := if r = 0 ∧ g.1.2 = .tc ∧ ∃ p, g.2 = osem P p then {()} else ∅
  unitless _ := False
  amount _ _ _ := P.N
  payload g _ _ := if h : ∃ p, g.2 = osem P p then payAt P m g.1.1 h.choose else iprop(emp)
  amount_pos _ _ _ _ := P.N_pos

instance sched_storable (g : GSem nD τ sig) (r : ℕ) (d : Unit) : BI.Storable (upEmb : UEmb _ 𝕄) ((sched P m).payload g r d) := by
  unfold sched
  dsimp only
  split <;> infer_instance

theorem duties_cell (c : Dev nD) (p : Sm) : (sched P m).duties (kcell P (c, p)) 0 = {()} := by
  dsimp only [sched]; exact if_pos ⟨rfl, rfl, p, rfl⟩
theorem duties_later (g : GSem nD τ sig) : ∀ r, 1 ≤ r → (sched P m).duties g r = ∅ :=
  fun r hr => by dsimp only [sched]; exact if_neg fun h => by omega
theorem amount_cell (g : GSem nD τ sig) (u : Unit) : (sched P m).amount g 0 u = P.N := rfl
theorem expect_cell (c : Dev nD) (p : Sm) : (sched P m).expect (kcell P (c, p)) 0 = P.N := by
  unfold Schedule.expect Schedule.amountOf; rw [duties_cell, Finset.sum_singleton, amount_cell]
theorem payload_cell (c : Dev nD) (p : Sm) (u : Unit) : (sched P m).payload (kcell P (c, p)) 0 u = payAt P m c p := by
  have h : ∃ p', (kcell P (c, p)).2 = osem P p' := ⟨p, rfl⟩
  dsimp only [sched]
  rw [dif_pos h, ← osem_inj P h.choose_spec]
theorem rest_cell (c : Dev nD) (p : Sm) :
    bigSep ((sched P m).duties (kcell P (c, p)) 0 \ ∅) (fun u => (sched P m).payload (kcell P (c, p)) 0 u) = payAt P m c p := by
  rw [Finset.sdiff_empty, duties_cell, bigSep_singleton, payload_cell]

/-! ## What each device owes at launch -/

/-- The credit of the transfer to the `k`-th peer. -/
def owed (c : Dev nD) (k : Fin 7) : CellTallies nD τ sig Unit := tallyAt (kcell P (peer k c, rcv k)) () P.N

/-- The credits of the transfers to the peers on a list; the first on it is the first to be paid. -/
def owedL (c : Dev nD) : List (Fin 7) → CellTallies nD τ sig Unit
  | [] => 0
  | k :: l => owedL c l + owed P c k

abbrev seven : List (Fin 7) := [0, 1, 2, 3, 4, 5, 6]

/-- Device `c` owes each peer the credit of one transfer. -/
def O₀ (c : Dev nD) : CellTallies nD τ sig Unit := owedL P c seven

def L (g : GSem nD τ sig) : Finset Unit := if g.1.2 = .tc then {()} else ∅
def lv (_ : GSem nD τ sig) (_ : Unit) : ℕ := 0
theorem L_of_ne (g : GSem nD τ sig) (h : g.1.2 ≠ .tc) : L g = ∅ := if_neg h

/-! ## The state of a device before, and after, the exchange -/

/-- Every semaphore's invariant, and that its round is open. -/
def records (K : Dev nD × Sm → ℕ) : sProp 𝕄 :=
  iprop((bigSep Finset.univ fun p : Dev nD × Sm => cellInv ER (sched P m) (K p) (kcell P p))
    ∗ bigSep Finset.univ fun p : Dev nD × Sm => reached ER (kcell P p) 0)
instance records_persistent (K : Dev nD × Sm → ℕ) : BI.Persistent (records P m K) := by unfold records; infer_instance

theorem inv_at (K : Dev nD × Sm → ℕ) (p : Dev nD × Sm) : records P m K ⊢ cellInv ER (sched P m) (K p) (kcell P p) := by
  unfold records
  iintro ⟨H, -⟩
  iapply (show (bigSep Finset.univ fun p : Dev nD × Sm => (cellInv ER (sched P m) (K p) (kcell P p) : sProp 𝕄)) ⊢ _ from bigSep_elim (Finset.mem_univ p))
  iexact H
theorem reached_at (K : Dev nD × Sm → ℕ) (p : Dev nD × Sm) : records P m K ⊢ reached ER (kcell P p) 0 := by
  unfold records
  iintro ⟨-, H⟩
  iapply (show (bigSep Finset.univ fun p : Dev nD × Sm => (reached ER (kcell P p) 0 : sProp 𝕄)) ⊢ _ from bigSep_elim (Finset.mem_univ p))
  iexact H

/-- What device `c` needs for its `k`-th transfer: its eighth of the array to read, the peer's slot to write, and the two duties. -/
def toSend (c : Dev nD) (k : Fin 7) : sProp 𝕄 :=
  iprop(srcP P m c (peer k c) ∗ (∃ f, dstP P (peer k c) c f) ∗ dutyTok ER (kcell P (c, snd k)) 0 () ∗ dutyTok ER (kcell P (peer k c, rcv k)) 0 ())
/-- What it needs for the copy into its own slot. -/
def toCopy (c : Dev nD) : sProp 𝕄 := iprop(srcP P m c c ∗ (∃ f, dstP P c c f) ∗ dutyTok ER (kcell P (c, own)) 0 ())

/-- Device `c` before the exchange. -/
def start (c : Dev nD) : sProp 𝕄 :=
  iprop((∃ K, records P m K) ∗ toCopy P m c ∗ (bigSep Finset.univ fun k => toSend P m c k)
    ∗ (bigSep Finset.univ fun p => atPos ER (kcell P (c, p)) 0 ∅ 0)
    ∗ bigSep Finset.univ fun k => cred (tallyAt (kcell P (c, rcv k)) () P.N))

/-- Device `c` after it. -/
def done (c : Dev nD) : sProp 𝕄 :=
  iprop((bigSep Finset.univ fun p => payAt P m c p) ∗ bigSep Finset.univ fun p => semVal (kcell P (c, p)) 0)

end Cert.Gather

end
-- ==== Proof.GatherSteps.lean ====
/-
  The steps of a gather, and its body: a device starts the copy into its own slot, starts one transfer to every peer,
  waits for every peer's transfer, for its own seven to have been read, and for the copy.
-/
module

public import proofs.«01_k».proof.Proof.GatherProto
public import Idealize.ShloMosaic.Lib.Tactic
public import Idealize.ShloMosaic.Lib.Pipeline.BigSepL

@[expose] public section

noncomputable section

namespace Cert.Gather

open Cert.Scatter (peer peer_peer peer_ne peer_inj swap univ_peers Sm snd rcv own)
open Idealize.ShloMosaic
open Idealize.ShloMosaic.TcCoe
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds

variable {sig : RefSig} {s : Shape} {e : EltTy} (P : Port sig s e) {Val : EltTy → Type} [∀ e, Nonempty (Val e)]

local notation "𝕄" => MT nD τ sig Unit Val ℕ (UU sig) ℕ

variable (m : (ℓ : Loc nD τ sig) → Buf Val ℓ) {Λ₀ : Idealize.SL.Sem.Labels} (defs₀ : Defs nD τ sig Val Λ₀)

abbrev 𝒱₀ : Variants := Variants.none

/-- Starting the transfer to the `k`-th peer. -/
theorem send_step (K : Dev nD × Sm → ℕ) (c n : Dev nD) (k : Fin 7) (hn : n = peer k c)
    (d : Memref sig .tc .hbm s e) (hd : d = P.g c)
    (qS qR : DmaSem sig) (hS : qS = P.q (snd k)) (hR : qR = P.q (rcv k))
    {hsc : (d : Memref sig (Dev.tc n : Thread nD τ).2.kind .hbm s e).view.ref.isScScratch = false}
    {hsrc : P.x.view.WordExact} {hdst : d.view.WordExact}
    {hsem : DmaTarget.Typed .hbm (.dma qR) (.remote (Dev.tc n : Thread nD τ) d (.dma qS) hsc)}
    {α : Type} {Q : α → sProp 𝕄} {kont : PUnit → Prog (TpuEff nD τ sig Val Λ₀ .tc) α}
    (O : CellTallies nD τ sig Unit) (W : Waits sig Unit) :
    iprop(records P m K ∗ toSend P m c k ∗ owes (c : Thread nD τ) (O + owed P c k) W)
      ⊢ iprop(((cred (tallyAt (kcell P (c, snd k)) () P.N) ∗ owes (c : Thread nD τ) O W) -∗ wp frame (wpE defs₀ 𝒱₀ (c : Thread nD τ) none) Set.univ (kont ⟨⟩) Q)
          -∗ wp frame (wpE defs₀ 𝒱₀ (c : Thread nD τ) none) Set.univ
              (.op (.enqueueDma P.x (.remote (Dev.tc n : Thread nD τ) d (.dma qS) hsc) (.dma qR) hsrc hdst hsem) kont) Q) := by
  subst hn hd hS hR
  unfold toSend
  iintro ⟨#HR, ⟨Hs, ⟨%f, Hd⟩, Ht1, Ht2⟩, HO⟩
  iapply (Rounds.wp_send_pointsTo 𝒱₀ ER (sched P m) (c : Thread nD τ) none (κ₁ := K (c, snd k)) (κ₂ := K (peer k c, rcv k))
    (q := leaf 3 fullShare (peer k c)) (fs := m (P.x.view.loc (c : Thread nD τ))) (fd := f) (r₁ := 0) (r₂ := 0) (d₁ := ()) (d₂ := ())
    (by rw [duties_cell P m c (snd k)]; exact Finset.mem_singleton_self _)
    (by rw [duties_cell P m (peer k c) (rcv k)]; exact Finset.mem_singleton_self _)
    () () P.N (by exact P.credit_g c) rfl rfl O rfl
    (by
      rw [payload_cell P m c (snd k)]
      show _ ⊢ srcP P m c (peer k c)
      unfold srcP
      exact Entails.refl _)
    (by
      rw [payload_cell P m (peer k c) (rcv k)]
      show _ ⊢ filled P m (peer k c) (peer k (peer k c))
      rw [peer_peer]
      unfold filled dstP
      show (_ : sProp 𝕄) ⊢ _
      iintro H
      iexists f
      iexact H)) $$ [HR Hs Hd HO Ht1 Ht2]
  isplitr; · iapply (inv_at P m K (c, snd k)); iexact HR
  isplitr; · iapply (inv_at P m K (peer k c, rcv k)); iexact HR
  isplitl [Hs]; · unfold srcP; iexact Hs
  isplitl [Hd]; · unfold dstP; iexact Hd
  isplitl [HO]; · iexact HO
  isplitl [Ht1]; · iexact Ht1
  isplitr; · iapply (reached_at P m K (c, snd k)); iexact HR
  isplitl [Ht2]; · iexact Ht2
  iapply (reached_at P m K (peer k c, rcv k)); iexact HR

/-- Starting the copy into the own slot. -/
theorem copy_step (K : Dev nD × Sm → ℕ) (c : Dev nD)
    (d : Memref sig .tc .hbm s e) (hd : d = P.g c) (q : DmaSem sig) (hq : q = P.q own)
    {hsrc : P.x.view.WordExact} {hdst : d.view.WordExact}
    {hsem : DmaTarget.Typed .hbm (.dma q) (DmaTarget.here (nD := nD) (p := (c : Thread nD τ).2) d)}
    {α : Type} {Q : α → sProp 𝕄} {kont : PUnit → Prog (TpuEff nD τ sig Val Λ₀ .tc) α} :
    iprop(records P m K ∗ toCopy P m c)
      ⊢ iprop((cred (tallyAt (kcell P (c, own)) () P.N) -∗ wp frame (wpE defs₀ 𝒱₀ (c : Thread nD τ) none) Set.univ (kont ⟨⟩) Q)
          -∗ wp frame (wpE defs₀ 𝒱₀ (c : Thread nD τ) none) Set.univ
              (.op (.enqueueDma P.x (.here d) (.dma q) hsrc hdst hsem) kont) Q) := by
  subst hd hq
  unfold toCopy
  iintro ⟨#HR, Hs, ⟨%f, Hd⟩, Ht⟩
  iapply (Rounds.wp_copy_pointsTo 𝒱₀ ER (sched P m) (c : Thread nD τ) none (κ := K (c, own))
    (q := leaf 3 fullShare c) (fs := m (P.x.view.loc (c : Thread nD τ))) (fd := f) (r := 0) (d := ())
    (by rw [duties_cell P m c own]; exact Finset.mem_singleton_self _)
    () P.N (by exact P.credit_g c) rfl
    (by
      rw [payload_cell P m c own]
      show (_ : sProp 𝕄) ⊢ iprop(filled P m c c ∗ srcP P m c c)
      unfold filled dstP srcP
      iintro ⟨H, Hs⟩
      isplitl [H]
      · iexists f; iexact H
      iexact Hs)) $$ [HR Hs Hd Ht]
  isplitr; · iapply (inv_at P m K (c, own)); iexact HR
  isplitl [Hs]; · unfold srcP; iexact Hs
  isplitl [Hd]; · unfold dstP; iexact Hd
  isplitl [Ht]; · iexact Ht
  iapply (reached_at P m K (c, own)); iexact HR

/-- A device that owes nobody, whatever it has waited for. -/
def free (c : Dev nD) : sProp 𝕄 := iprop(∃ W, owes (c : Thread nD τ) 0 W)

/-- Waiting for one semaphore: its payload comes, and its round is closed. -/
theorem wait_step (K : Dev nD × Sm → ℕ) (c : Dev nD) (p : Sm)
    (src dst : Memref sig .tc .hbm s e) (q : DmaSem sig) (hq : q = P.q p) {hs : src.view.WordExact} {hd : dst.view.WordExact}
    (hN : dst.view.dmaCredit = P.N)
    {α : Type} {Q : α → sProp 𝕄} {kont : PUnit → Prog (TpuEff nD τ sig Val Λ₀ .tc) α} :
    iprop(records P m K ∗ cred (tallyAt (kcell P (c, p)) () P.N) ∗ atPos ER (kcell P (c, p)) 0 ∅ 0 ∗ free c)
      ⊢ iprop(((payAt P m c p ∗ semVal (kcell P (c, p)) 0 ∗ free c) -∗ wp frame (wpE defs₀ 𝒱₀ (c : Thread nD τ) none) Set.univ (kont ⟨⟩) Q)
          -∗ wp frame (wpE defs₀ 𝒱₀ (c : Thread nD τ) none) Set.univ (.op (.waitDma2 q src dst hs hd) kont) Q) := by
  subst hq
  unfold free
  iintro ⟨#HR, Hc, Hat, ⟨%W, HO⟩⟩ Hk
  ihave #HI := (inv_at P m K (c, p)) $$ HR
  iapply (Rounds.wp_wait_rest_token 𝒱₀ ER (sched P m) (c : Thread nD τ) none (κ := K (c, p)) (k' := P.N)
      (fun Kt => (wpE_waitDma2_eq 𝒱₀ (c : Thread nD τ) none Set.univ Kt).trans (by rw [hN])) (Set.mem_univ _) () (O := 0) (W := W) (R := 0) (m := 0) (T := ∅)
      (by rw [Nat.zero_add]; exact (expect_cell P m c p).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_cell P m c p)) $$ Hpay
  imod (Rounds.cell_close ER (sched P m) (Set.mem_univ (K (c, p))) (fun h => h) (R := 0 + 1) (duties_later P m (kcell P (c, p)))) $$ [Hat] with Hz
  · isplitr; · iexact HI
    iexact Hat
  iapply Hk
  isplitl [Hp]; · iexact Hp
  isplitl [Hz]; · iexact Hz
  iexists _; iexact HO

/-! ## The body -/

section Body

variable (d : Memref sig .tc .hbm s e) (dev : Fin 7 → Dev nD) (r : Fin 7 → Memref sig .tc .hbm s e)
  (hsc : d.view.ref.isScScratch = false) (hx : P.x.view.WordExact) (hd : d.view.WordExact) (hr : ∀ k, (r k).view.WordExact)

/-- Starting the transfers to the peers on a list. -/
def sends (kont : PUnit.{1} → Prog (TpuEff nD τ sig Val Λ₀ .tc) PUnit) : List (Fin 7) → Prog (TpuEff nD τ sig Val Λ₀ .tc) PUnit
  | [] => kont ⟨⟩
  | k :: l => .op (.enqueueDma P.x (.remote (Dev.tc (dev k) : Thread nD τ) d (.dma (P.q (snd k))) hsc) (.dma (P.q (rcv k))) hx hd
      ⟨⟨rfl, Or.inl rfl⟩, trivial⟩) fun _ => sends kont l

/-- The array a wait names as read, and as written. -/
def waitSrc : Sm → Memref sig .tc .hbm s e
  | .inl _ => d
  | .inr _ => P.x
def waitDst : Sm → Memref sig .tc .hbm s e
  | .inl _ => P.x
  | .inr (.inl k) => r k
  | .inr (.inr _) => d

theorem waitSrc_exact (hx : P.x.view.WordExact) (hd : d.view.WordExact) (p : Sm) : (waitSrc P d p).view.WordExact := by
  rcases p with k | k | k
  · exact hd
  · exact hx
  · exact hx
theorem waitDst_exact (hx : P.x.view.WordExact) (hd : d.view.WordExact) (hr : ∀ k, (r k).view.WordExact) (p : Sm) :
    (waitDst P d r p).view.WordExact := by
  rcases p with k | k | k
  · exact hx
  · exact hr k
  · exact hd

/-- Waiting for the semaphores on a list. -/
def waits : List Sm → Prog (TpuEff nD τ sig Val Λ₀ .tc) PUnit
  | [] => .ret ⟨⟩
  | p :: l => .op (.waitDma2 (P.q p) (waitSrc P d p) (waitDst P d r p) (waitSrc_exact P d hx hd p) (waitDst_exact P d r hx hd hr p)) fun _ => waits l

/-- The order in which a device waits. -/
abbrev order : List Sm :=
  [rcv 0, rcv 1, rcv 2, rcv 3, rcv 4, rcv 5, rcv 6, snd 0, snd 1, snd 2, snd 3, snd 4, snd 5, snd 6, own]

/-- The body of the gather on a device whose own slot is `d`, whose `k`-th peer is `dev k` and that names `r k` when it
    waits for that peer. -/
def body : Prog (TpuEff nD τ sig Val Λ₀ .tc) PUnit :=
  .op (.enqueueDma P.x (.here d) (.dma (P.q own)) hx hd ⟨Or.inl rfl, trivial⟩) fun _ =>
    sends P d dev hsc hx hd (fun _ => waits P d r hx hd hr order) seven

theorem sends_spec (K : Dev nD × Sm → ℕ) (c : Dev nD) (hown : d = P.g c) (hdev : ∀ k, dev k = peer k c) (W : Waits sig Unit)
    (Q : PUnit.{1} → sProp 𝕄) (kont : PUnit.{1} → Prog (TpuEff nD τ sig Val Λ₀ .tc) PUnit) : ∀ l : List (Fin 7),
    iprop(records P m K ∗ bigSepL l (fun k => toSend P m c k) ∗ owes (c : Thread nD τ) (owedL P c l) W)
      ⊢ iprop(((bigSepL l (fun k => cred (tallyAt (kcell P (c, snd k)) () P.N)) ∗ owes (c : Thread nD τ) 0 W)
            -∗ wp frame (wpE defs₀ 𝒱₀ (c : Thread nD τ) none) Set.univ (kont ⟨⟩) Q)
          -∗ wp frame (wpE defs₀ 𝒱₀ (c : Thread nD τ) none) Set.univ (sends P d dev hsc hx hd kont l) Q)
  | [] => by
    unfold sends owedL
    iintro ⟨-, -, HO⟩ Hk
    iapply Hk
    isplitr; · rw [bigSepL_nil]; iempintro
    iexact HO
  | k :: l => by
    unfold sends owedL
    rw [bigSepL_cons', bigSepL_cons']
    iintro ⟨#HR, ⟨Hs, Hl⟩, HO⟩ Hk
    iapply (send_step P m defs₀ K c (dev k) k (hdev k) d hown _ _ rfl rfl (owedL P c l) W) $$ [Hs HO]
    · isplitr; · iexact HR
      isplitl [Hs]; · iexact Hs
      iexact HO
    iintro ⟨Hc, HO⟩
    iapply (sends_spec K c hown hdev W Q kont l) $$ [Hl HO]
    · isplitr; · iexact HR
      isplitl [Hl]; · iexact Hl
      iexact HO
    iintro ⟨Hcl, HO⟩
    iapply Hk
    isplitr [HO]
    · isplitl [Hc]; · iexact Hc
      iexact Hcl
    iexact HO

theorem waits_spec (K : Dev nD × Sm → ℕ) (c : Dev nD) (hown : d = P.g c) (hN : ∀ k, (r k).view.dmaCredit = P.N)
    (Q : PUnit.{1} → sProp 𝕄) : ∀ l : List Sm,
    iprop(records P m K ∗ bigSepL l (fun p => iprop(cred (tallyAt (kcell P (c, p)) () P.N) ∗ atPos ER (kcell P (c, p)) 0 ∅ 0)) ∗ free c)
      ⊢ iprop(((bigSepL l (fun p => iprop(payAt P m c p ∗ semVal (kcell P (c, p)) 0)) ∗ free c) -∗ Q ⟨⟩)
          -∗ wp frame (wpE defs₀ 𝒱₀ (c : Thread nD τ) none) Set.univ (waits P d r hx hd hr l) Q)
  | [] => by
    unfold waits
    iintro ⟨-, -, HF⟩ Hk
    rw [wp_ret]; imodintro
    iapply Hk
    isplitr; · rw [bigSepL_nil]; iempintro
    iexact HF
  | p :: l => by
    have hc : (waitDst P d r p).view.dmaCredit = P.N := by
      rcases p with k | k | k
      · exact P.credit_x
      · exact hN k
      · show d.view.dmaCredit = P.N
        rw [hown]; exact P.credit_g c
    unfold waits
    rw [bigSepL_cons', bigSepL_cons']
    iintro ⟨#HR, ⟨⟨Hc, Ha⟩, Hl⟩, HF⟩ Hk
    iapply (wait_step P m defs₀ K c p _ _ _ rfl hc) $$ [Hc Ha HF]
    · isplitr; · iexact HR
      isplitl [Hc]; · iexact Hc
      isplitl [Ha]; · iexact Ha
      iexact HF
    iintro ⟨Hp, Hz, HF⟩
    iapply (waits_spec K c hown hN Q l) $$ [Hl HF]
    · isplitr; · iexact HR
      isplitl [Hl]; · iexact Hl
      iexact HF
    iintro ⟨Hpl, HF⟩
    iapply Hk
    isplitr [HF]
    · isplitr [Hpl]
      · isplitl [Hp]; · iexact Hp
        iexact Hz
      iexact Hpl
    iexact HF

theorem over_seven (Φ : Fin 7 → sProp 𝕄) : bigSep Finset.univ Φ = bigSepL seven Φ :=
  bigSep_univ_eq_bigSepL seven (by decide) (by decide) Φ
theorem over_sm (Φ : Sm → sProp 𝕄) : bigSep Finset.univ Φ = bigSepL order Φ :=
  bigSep_univ_eq_bigSepL order (by decide) (by decide) Φ

/-- The whole body, from the state before the gather to the state after it. -/
theorem body_spec (c : Dev nD) (hown : d = P.g c) (hdev : ∀ k, dev k = peer k c) (hN : ∀ k, (r k).view.dmaCredit = P.N)
    (Q : PUnit.{1} → sProp 𝕄) :
    iprop((start P m c ∗ ∃ W, owes (c : Thread nD τ) (O₀ P c) W) ∗ ((done P m c ∗ free c) -∗ Q ⟨⟩))
      ⊢ wp frame (wpE defs₀ 𝒱₀ (c : Thread nD τ) none) Set.univ (body P d dev r hsc hx hd hr) Q := by
  have hw : iprop((bigSep Finset.univ fun p => atPos ER (kcell P (c, p)) 0 ∅ 0) ∗ (bigSepL seven fun k => cred (tallyAt (kcell P (c, snd k)) () P.N))
        ∗ (bigSep Finset.univ fun k => cred (tallyAt (kcell P (c, rcv k)) () P.N)) ∗ cred (tallyAt (kcell P (c, own)) () P.N))
      ⊢ (bigSepL order (fun p => iprop(cred (tallyAt (kcell P (c, p)) () P.N) ∗ atPos ER (kcell P (c, p)) 0 ∅ 0)) : sProp 𝕄) := by
    have he : (bigSep Finset.univ fun p : Sm => (cred (tallyAt (kcell P (c, p)) () P.N) : sProp 𝕄))
        = iprop((bigSep Finset.univ fun k => cred (tallyAt (kcell P (c, snd k)) () P.N))
          ∗ (bigSep Finset.univ fun k => cred (tallyAt (kcell P (c, rcv k)) () P.N)) ∗ cred (tallyAt (kcell P (c, own)) () P.N)) := by
      rw [BI.bigSep_univ_sum, BI.bigSep_univ_sum, BI.bigSep_univ_of_subsingleton (I := Unit) ()]; rfl
    rw [← over_sm, bigSep_sep', ← over_seven, he]
    show (_ : sProp 𝕄) ⊢ _
    iintro ⟨Ha, Hs, Hr, Ho⟩
    isplitr [Ha]
    · isplitl [Hs]; · iexact Hs
      isplitl [Hr]; · iexact Hr
      iexact Ho
    iexact Ha
  have hs : (bigSepL order (fun p => iprop(payAt P m c p ∗ semVal (kcell P (c, p)) 0)) : sProp 𝕄)
      = iprop((bigSep Finset.univ fun p => payAt P m c p) ∗ bigSep Finset.univ fun p => semVal (kcell P (c, p)) 0) := by
    rw [← over_sm, bigSep_sep']
  unfold start done body O₀
  rw [over_seven (fun k => toSend P m c k), ← hs]
  iintro ⟨⟨⟨⟨%K, #HR⟩, Hcopy, HS, Hat, HcR⟩, ⟨%W, HO⟩⟩, Hk⟩
  iapply (copy_step P m defs₀ K c d hown _ rfl) $$ [Hcopy]
  · isplitr; · iexact HR
    iexact Hcopy
  iintro HcO
  iapply (sends_spec P m defs₀ d dev hsc hx hd K c hown hdev W Q _ seven) $$ [HS HO]
  · isplitr; · iexact HR
    isplitl [HS]; · iexact HS
    iexact HO
  iintro ⟨HcS, HO⟩
  ihave HF := (show owes (c : Thread nD τ) 0 W ⊢ (free c : sProp 𝕄) from by unfold free; iintro H; iexists W; iexact H) $$ HO
  iapply (waits_spec P m defs₀ d r hx hd hr K c hown hN Q order) $$ [Hat HcR HcS HcO HF]
  · isplitr; · iexact HR
    isplitr [HF]
    · iapply hw
      isplitl [Hat]; · iexact Hat
      isplitl [HcS]; · iexact HcS
      isplitl [HcR]; · iexact HcR
      iexact HcO
    iexact HF
  iexact Hk

end Body

end Cert.Gather

end
-- ==== Proof.StartAll.lean ====
/-
  Starting a mesh whose first kernel region takes part in an exchange.

  The regions are entered one after the other, and a device may land its data in a peer's array before that peer has
  entered the exchange. So the invariants over the semaphore cells of the exchange must stand before the first device
  runs: they are made at the launch, out of every device's scoped semaphores at once. The theorem below therefore gives
  the certificate all that every device holds at the launch, its region boundary with it, and asks for the holdings
  `T₀ c` that device `c` starts its run with. Each run is the certificate's own.
-/
module

public import Idealize.ShloMosaic.Lib.Pipeline.Regions
public import Idealize.ShloMosaic.Lib.Pipeline.Kit
public import Idealize.ShloMosaic.Lib.Quiescent

@[expose] public section

noncomputable section

namespace Cert.StartAll

open Idealize.ShloMosaic
open Idealize.SL
open Idealize.SL.BI (sProp bigSep bigSep_sep' bigSep_mono bigSep_congr bigSep_univ_prod)
open scoped Idealize.SL.BI
open Idealize.SL.BI.BIBase Idealize.SL.BI.Laws Idealize.SL.Sem Idealize.SL.ProofMode
open Idealize.SL.RA
open Idealize.ShloMosaic.TcCoe
open Idealize.ShloMosaic.Pipeline
open Idealize.ShloMosaic.Rounds

set_option Elab.async false

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type} [Fintype P]
variable (pcs : P → PCfg sig Λ₀ Val) (a : (p : P) → (pcs p).Adm)
  (phinj : Function.Injective (Pipeline.cellOf (nD := nD) (pin pcs a)))
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)

local notation "𝔻" => Pipeline.defs pcs defs₀
local notation "𝕍" => Variants.lift 𝒱₀

/-- What device `c` holds when the launch is done: its region boundary, its arrays at their launch contents, its
    unscoped semaphores at zero, what it owes and may claim, its random register. -/
def holdings (O₀ : Dev nD → CellTallies nD τ sig Ix) (m : (ℓ : Loc nD τ sig) → Buf Val ℓ) (g : Dev nD → PrngReg) (c : Dev nD) :
    sProp 𝕄 :=
  iprop(boundary (c.tc : Thread nD τ) ∗ unscopedBufs c (fun b => m ((c.tc : Thread nD τ).loc b)) ∗ unscopedSems0 c
    ∗ owes (c.tc : Thread nD τ) (O₀ c) ∅ ∗ launchCred O₀ c ∗ prngReg c (g c))

/-- The levels a launch chooses for one device's own cells. -/
theorem levels_at_launch (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  refine (bigSep_mono fun c _ => lev_assign_cells (c.tc : Thread nD τ) L lv).trans <| (BI.bigSep_bupd _ _).trans <| BI.bupd_mono ?_
  have hnone : (bigSep Finset.univ fun d : Dev nD =>
      bigSep (Finset.univ.erase Proc.tc) fun p => (coreLevAts ((d, p) : Thread nD τ) L lv : sProp 𝕄)) = BI.emp := by
    have h1 : ∀ (d : Dev nD) (p : Proc τ), p ≠ Proc.tc → (coreLevAts ((d, p) : Thread nD τ) L lv : sProp 𝕄) = BI.emp := fun d p hp => by
      unfold coreLevAts
      rw [bigSep_congr (Ψ := fun _ : SemLoc sig => (BI.emp : sProp 𝕄)) fun sm _ => by
        rw [hL (((d, p) : Thread nD τ), sm) hp, BI.bigSep_empty], BI.bigSep_emp_const]
    rw [bigSep_congr (Ψ := fun _ : Dev nD => (BI.emp : sProp 𝕄)) fun d _ =>
      (bigSep_congr (Ψ := fun _ : Proc τ => (BI.emp : sProp 𝕄)) fun p hp => h1 d p (Finset.ne_of_mem_erase hp)).trans
        (BI.bigSep_emp_const _), BI.bigSep_emp_const]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv)]
  refine (show iprop(_) ⊢ iprop((bigSep Finset.univ fun d : Dev nD => coreLevAts (d.tc : Thread nD τ) L lv)
      ∗ bigSep Finset.univ fun d : Dev nD => bigSep (Finset.univ.erase Proc.tc) fun p => (coreLevAts ((d, p) : Thread nD τ) L lv : sProp 𝕄)) from ?_)
  rw [hnone, bigSep_sep']
  iintro ⟨-, H⟩
  isplitl [H]; · iexact H
  iempintro

include phinj in
/-- A mesh program that runs on every device from holdings `T₀ c` the certificate makes, all devices at once, of what the
    launch gives (`hinit`), to the end (`hrun`): every weakly fair execution terminates, and what the last holdings say
    of the memory (`hfin`), with every scoped cell at zero, gives the result. -/
theorem θ_run_from_launch [DecidableEq P] [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (O₀ : Dev nD → CellTallies nD τ sig Ix) (hL : ∀ g : GSem nD τ sig, g.1.2 ≠ .tc → L g = ∅)
    (G : Dev nD → sProp 𝕄) (u₀ : U)
    (hu₀ : (ownU u₀ : sProp 𝕄)
      ⊢ |={Set.univ}=> iprop(BI.own (EP (initOf (cells (pin pcs a) phinj) (launchToks (pin pcs a) phinj))) ∗ bigSep Finset.univ G))
    (T₀ Tₙ : Dev nD → sProp 𝕄)
    (hinit : iprop((bigSep Finset.univ fun c : Dev nD => holdings O₀ m g c) ∗ bigSep Finset.univ G)
      ⊢ |={Set.univ}=> bigSep Finset.univ T₀)
    (hrun : ∀ c : Dev nD, iprop(T₀ c ∗ levAts L lv ∗ ghostOn pcs a EP Finset.univ c)
      ⊢ wp frame (wpE 𝔻 𝕍 (c.tc : Thread nD τ) none) Set.univ (main c)
          fun _ => iprop(Tₙ c ∗ boundary (c.tc : Thread nD τ) ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let pre : Dev nD → sProp 𝕄 := fun c => iprop(T₀ c ∗ levAts L lv ∗ ghostOn pcs a EP Finset.univ c)
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · -- the launch
    have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => holdings O₀ m g c)
            ∗ (bigSep Finset.univ fun c : Dev nD => levels0 (Ix := Ix) (Val := Val) (Name := Name) (U := U) (Lvl := Lvl) (τ := τ) (sig := sig) c) : sProp 𝕄) := by
      refine (bigSep_mono fun c _ => (coreInit_boundary_owing O₀ m g c).trans
        (show _ ⊢ iprop(holdings O₀ m g c ∗ levels0 c) from by
          unfold holdings
          iintro ⟨Hb, Hub, Hus, HL, Hlv, Hpr, Hcr⟩
          isplitr [Hlv]
          · isplitl [Hb]; · iexact Hb
            isplitl [Hub]; · iexact Hub
            isplitl [Hus]; · iexact Hus
            isplitl [HL]; · iexact HL
            isplitl [Hcr]; · iexact Hcr
            iexact Hpr
          · iexact Hlv)).trans ?_
      rw [bigSep_sep']
      exact BI.Entails.refl _
    have hghost : iprop((bigSep Finset.univ fun c : Dev nD => bigSep Finset.univ fun p => PerCore.cellsGhost (pinD pcs fun _ => a) EP p c)
          ∗ (bigSep Finset.univ fun c : Dev nD => bigSep Finset.univ fun p => (PerCore.toksInit (pinD pcs fun _ => a) EP p c : sProp 𝕄)))
        ⊢ bigSep Finset.univ fun c : Dev nD => ghostOn pcs a EP Finset.univ c := by
      rw [← bigSep_sep']
      exact bigSep_mono fun c _ => show iprop((bigSep Finset.univ fun p => PerCore.cellsGhost (pinD pcs fun _ => a) EP p c)
            ∗ bigSep Finset.univ fun p => (PerCore.toksInit (pinD pcs fun _ => a) EP p c : sProp 𝕄)) ⊢ PerCore.ghostOn pcs (fun _ => a) EP Finset.univ c
        from Entails.of_eq (by unfold PerCore.ghostOn; rw [bigSep_sep'])
    iintro ⟨Hcores, Hu⟩
    ihave Hc := hcores $$ Hcores
    icases Hc with ⟨Hh, Hlv⟩
    imod (levels_at_launch L lv hL) $$ Hlv with #Hla
    imod hu₀ $$ Hu with ⟨HP, HG⟩
    imod (PerCore.fund_ghost (pinD pcs fun _ => a) EP phinj) $$ HP with ⟨Hg, Ht⟩
    imod hinit $$ [Hh HG] with HT
    · isplitl [Hh] <;> iassumption
    imodintro
    iexists ()
    isplitr []
    · simp only [pre, bigSep_sep']
      isplitl [HT]; · iexact HT
      isplitr; · iapply (BI.bigSep_intro_persistent (S := Finset.univ) fun (c : Dev nD) _ => (BI.Entails.refl (levAts L lv : sProp 𝕄))); iexact Hla
      iapply hghost
      isplitl [Hg] <;> iassumption
    · iempintro
  · -- one device's run
    simp only [pre]
    refine (hrun c).trans (wp_mono _ _ _ fun _ => ?_)
    unfold post; simp only [liftTc_tc, fin]
    iintro ⟨HT, Hbd, HW⟩
    isplitr [HW]
    · isplitl [HT] <;> iassumption
    iexact HW
  · -- the final memory
    iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.StartAll

end
-- ==== Proof.GatherDeal.lean ====
/-
  What the launch deals for a gather: from what each device holds at the start, and the protocol's fresh state, to every
  device ready for it. A device gives each peer the slot the peer will fill and the right to credit its receive
  semaphore, and keeps the eighths of its own array.
-/
module

public import proofs.«01_k».proof.Proof.GatherSteps
public import proofs.«01_k».proof.Proof.StartAll

@[expose] public section

noncomputable section

namespace Cert.Gather

open Cert.Scatter (peer peer_peer peer_ne peer_inj swap univ_peers Sm snd rcv own)
open Idealize.ShloMosaic
open Idealize.ShloMosaic.TcCoe
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred)

variable {sig : RefSig} {s : Shape} {e : EltTy} (P : Port sig s e) {Val : EltTy → Type} [∀ e, Nonempty (Val e)]

local notation "𝕄" => MT nD τ sig Unit Val ℕ (UU sig) ℕ

variable (m : (ℓ : Loc nD τ sig) → Buf Val ℓ) (ρ : Dev nD → PrngReg)

/-! ## The array handed out, and the slots -/

/-- Something about every device is something about one of them and its peers. -/
theorem bigSep_peers (c : Dev nD) (Φ : Dev nD → sProp 𝕄) :
    bigSep Finset.univ Φ = iprop(Φ c ∗ bigSep Finset.univ fun k => Φ (peer k c)) := by
  rw [univ_peers c, bigSep_insert (by
    intro h
    obtain ⟨k, -, hk⟩ := Finset.mem_map.mp h
    exact peer_ne k c hk), bigSep_map]
  rfl

/-- The array device `c` hands out, wholly its own. -/
def source (c : Dev nD) : sProp 𝕄 :=
  P.x.view.loc (c : Thread nD τ) ↦[P.x.view.set]{fullShare} m (P.x.view.loc (c : Thread nD τ))
/-- All slots of device `c`, as launched. -/
def slots (c : Dev nD) : sProp 𝕄 := bigSep Finset.univ fun j => dstP P c j (m ((P.g j).view.loc (c : Thread nD τ)))

theorem source_eighths (c : Dev nD) : (source P m c : sProp 𝕄) = iprop(srcP P m c c ∗ bigSep Finset.univ fun k => srcP P m c (peer k c)) :=
  (pointsTo_leaves _ _ 3 fullShare).trans (bigSep_peers c (fun j => srcP P m c j))

/-- How the holdings of a device fall apart into what the gather uses and the rest. -/
structure Parts where
  others : Dev nD → sProp 𝕄
  idle : Dev nD → sProp 𝕄
  bufs : ∀ c : Dev nD, (unscopedBufs c (fun b => m ((c : Thread nD τ).loc b)) : sProp 𝕄) = iprop(source P m c ∗ slots P m c ∗ others c)
  sems : ∀ c : Dev nD, (scopedSems0 (c : Thread nD τ) : sProp 𝕄) = iprop((bigSep Finset.univ fun p => semVal (kcell P (c, p)) 0) ∗ idle c)

variable (B : Parts P m)

/-! ## Credit -/

theorem cred_k (k : Fin 7) (c : Dev nD) :
    (launchCred (fun d => owed P d k) c : sProp 𝕄) ⊢ cred (tallyAt (kcell P (c, rcv k)) () P.N) := by
  have hval : ∀ d : Dev nD, owed P d k (kcell P (c, rcv k)) () = if d = peer k c then P.N else 0 := fun d => by
    unfold owed
    rw [tallyAt_apply]
    by_cases h : d = peer k c
    · subst h; rw [peer_peer, if_pos ⟨rfl, rfl⟩, if_pos rfl]
    · rw [if_neg (fun ⟨h1, _⟩ => h (by
        have h2 : c = peer k d := congrArg Prod.fst (kcell_inj P h1)
        rw [h2, peer_peer])), if_neg h]
  have hall : tallyOn (kcell P (c, rcv k)) (launchCredit (Pipeline.owing fun d => owed P d k) 0 (kcell P (c, rcv k)))
      = (tallyAt (kcell P (c, rcv k)) () P.N : CellTallies nD τ sig Unit) := by
    unfold tallyAt
    refine congrArg _ (Finsupp.ext fun u => ?_)
    cases u
    rw [Pipeline.launchCredit_owing, Finsupp.single_eq_same, Finset.sum_congr rfl fun d _ => hval d,
      Finset.sum_ite_eq' Finset.univ (peer k c) fun _ => P.N, if_pos (Finset.mem_univ _)]
  unfold launchCred
  rw [← hall]
  exact bigSep_elim (Finset.mem_univ (osem P (rcv k)))

theorem creds_list (c : Dev nD) : ∀ l : List (Fin 7),
    (launchCred (fun d => owedL P d l) c : sProp 𝕄) ⊢ bigSepL l fun k => cred (tallyAt (kcell P (c, rcv k)) () P.N)
  | [] => by rw [bigSepL_nil]; show (_ : sProp 𝕄) ⊢ iprop(emp); iintro -; iempintro
  | k :: l => by
    have e : (fun d => owedL P d (k :: l)) = fun d : Dev nD => (fun d => owedL P d l) d + (fun d => owed P d k) d := rfl
    rw [e, Pipeline.launchCred_add, bigSepL_cons']
    iintro ⟨Hl, H⟩
    isplitl [H]; · iapply (cred_k P k c); iexact H
    iapply (creds_list c l); iexact Hl

theorem creds (c : Dev nD) : (launchCred (O₀ P) c : sProp 𝕄) ⊢ bigSep Finset.univ fun k => cred (tallyAt (kcell P (c, rcv k)) () P.N) := by
  rw [over_seven]
  exact creds_list P c seven

/-! ## Fresh protocol state -/

def allCells : Finset (GSem nD τ sig) := Finset.univ.map ⟨kcell P, kcell_inj P⟩
def allToks : Finset (GSem nD τ sig × ℕ × Unit) :=
  Finset.univ.map ⟨fun p : Dev nD × Sm => (kcell P p, 0, ()), fun _ _ h => kcell_inj P (congrArg Prod.fst h)⟩

/-- A device's share of it. -/
def G (c : Dev nD) : sProp 𝕄 :=
  iprop((bigSep Finset.univ fun s => roundState ER (sched P m) (kcell P (c, s)) 0)
    ∗ (bigSep Finset.univ fun s => iprop(atPos ER (kcell P (c, s)) 0 ∅ 0 ∗ reached ER (kcell P (c, s)) 0))
    ∗ bigSep Finset.univ fun s => dutyTok ER (kcell P (c, s)) 0 ())

theorem fund_all : BI.own (ER (initOf (allCells P) (allToks P))) ⊢ (|==> bigSep Finset.univ (G P m) : sProp 𝕄) := by
  have hX (Φ : GSem nD τ sig → sProp 𝕄) : bigSep (allCells P) Φ = bigSep Finset.univ fun c : Dev nD => bigSep Finset.univ fun s : Sm => Φ (kcell P (c, s)) := by
    unfold allCells; rw [bigSep_map, bigSep_univ_prod]; rfl
  have hT : bigSep (allToks P) (fun x => (dutyTok ER x.1 x.2.1 x.2.2 : sProp 𝕄))
      = bigSep Finset.univ fun c : Dev nD => bigSep Finset.univ fun s : Sm => dutyTok ER (kcell P (c, s)) 0 () := by
    unfold allToks; rw [bigSep_map, bigSep_univ_prod]; rfl
  iintro HX
  imod (Rounds.fund ER (sched P m) (allCells P) (allToks P)) $$ HX with ⟨Hst, Hr, Hat, Htok⟩
  imodintro
  ihave Hst' := (Entails.of_eq (hX fun g => roundState ER (sched P m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Putting each semaphore of a device under its invariant. -/
theorem guard (c : Dev nD) :
    iprop((bigSep Finset.univ fun s => semVal (kcell P (c, s)) 0) ∗ bigSep Finset.univ fun s => roundState ER (sched P m) (kcell P (c, s)) 0)
      ⊢ (|={Set.univ}=> bigSep Finset.univ fun s => iprop(∃ κ : ℕ, cellInv ER (sched P m) κ (kcell P (c, s))) : sProp 𝕄) := by
  rw [← bigSep_sep']
  exact (bigSep_mono fun s _ => (Rounds.body_intro ER (sched P m) (kcell P (c, s))).trans inv_alloc).trans (bigSep_fupd _ _)

/-! ## Dealing -/

/-- What every device holds for each of its peers, handed to those peers. -/
theorem across (Φ : Fin 7 → Dev nD → sProp 𝕄) :
    (bigSep Finset.univ fun c : Dev nD => bigSep Finset.univ fun k => Φ k c)
      = bigSep Finset.univ fun c : Dev nD => bigSep Finset.univ fun k => Φ k (peer k c) := by
  rw [BI.bigSep_univ_comm, BI.bigSep_univ_comm (fun (c : Dev nD) k => Φ k (peer k c))]
  exact bigSep_congr fun k _ => bigSep_univ_equiv (swap k) (Φ k)

/-- The part of a device's holdings the exchange does not touch. -/
def aside (c : Dev nD) : sProp 𝕄 :=
  iprop(scopedBufs (c : Thread nD τ) ∗ B.idle c ∗ opIdle (c : Thread nD τ) ∗ owes (c : Thread nD τ) (O₀ P c) ∅
    ∗ B.others c)

/-- What a device starts with. -/
def T₀ (c : Dev nD) : sProp 𝕄 := iprop(start P m c ∗ aside P m B c)

/-- What stays with a device when the slots and rights have been sorted by peer. -/
def kept (c : Dev nD) : sProp 𝕄 :=
  iprop(srcP P m c c ∗ (∃ f, dstP P c c f) ∗ dutyTok ER (kcell P (c, own)) 0 ()
    ∗ (bigSep Finset.univ fun k => iprop(srcP P m c (peer k c) ∗ dutyTok ER (kcell P (c, snd k)) 0 ()))
    ∗ (bigSep Finset.univ fun s => atPos ER (kcell P (c, s)) 0 ∅ 0)
    ∗ (bigSep Finset.univ fun k => cred (tallyAt (kcell P (c, rcv k)) () P.N)) ∗ aside P m B c)
/-- What it gives its `k`-th peer. -/
def given (k : Fin 7) (c : Dev nD) : sProp 𝕄 := iprop((∃ f, dstP P c (peer k c) f) ∗ dutyTok ER (kcell P (c, rcv k)) 0 ())

theorem toks_sort (c : Dev nD) :
    (bigSep Finset.univ fun s : Sm => dutyTok ER (kcell P (c, s)) 0 () : sProp 𝕄)
      = iprop((bigSep Finset.univ fun k => dutyTok ER (kcell P (c, snd k)) 0 ()) ∗ (bigSep Finset.univ fun k => dutyTok ER (kcell P (c, rcv k)) 0 ())
        ∗ dutyTok ER (kcell P (c, own)) 0 ()) := by
  rw [BI.bigSep_univ_sum, BI.bigSep_univ_sum, BI.bigSep_univ_of_subsingleton (I := Unit) ()]; rfl

theorem sort (c : Dev nD) :
    iprop(Cert.StartAll.holdings (O₀ P) m ρ c ∗ G P m c)
      ⊢ (|={Set.univ}=> iprop((bigSep Finset.univ fun s => iprop(∃ κ : ℕ, cellInv ER (sched P m) κ (kcell P (c, s))))
          ∗ (bigSep Finset.univ fun s => reached ER (kcell P (c, s)) 0) ∗ kept P m B c ∗ bigSep Finset.univ fun k => given P k c) : sProp 𝕄) := by
  unfold Cert.StartAll.holdings G boundary
  rw [B.bufs, B.sems, slots, toks_sort, bigSep_sep']
  iintro ⟨⟨⟨Hsb, ⟨Hsem, Hidle⟩, Hop⟩, ⟨Harg, Hv1, Hoth⟩, -, HO, Hcr, -⟩, Hst, ⟨Hat, Hre⟩, Hts, Htr, Hto⟩
  imod (guard P m c) $$ [Hsem Hst] with HI
  · isplitl [Hsem]; · iexact Hsem
    iexact Hst
  imodintro
  isplitl [HI]; · iexact HI
  isplitl [Hre]; · iexact Hre
  ihave Hs := (Entails.of_eq (source_eighths P m c)) $$ Harg
  icases Hs with ⟨Hs0, Hs⟩
  ihave Hd := (Entails.of_eq (bigSep_peers c (fun j => dstP P c j (m ((P.g j).view.loc (c : Thread nD τ)))))) $$ Hv1
  icases Hd with ⟨Hd0, Hd⟩
  unfold kept given aside
  rw [bigSep_sep', bigSep_sep']
  isplitr [Hd Htr]
  · isplitl [Hs0]; · iexact Hs0
    isplitl [Hd0]; · iexists _; iexact Hd0
    isplitl [Hto]; · iexact Hto
    isplitl [Hs Hts]
    · isplitl [Hs]; · iexact Hs
      iexact Hts
    isplitl [Hat]; · iexact Hat
    isplitl [Hcr]; · iapply (creds P c); iexact Hcr
    isplitl [Hsb]; · iexact Hsb
    isplitl [Hidle]; · iexact Hidle
    isplitl [Hop]; · iexact Hop
    isplitl [HO]; · iexact HO
    iexact Hoth
  · isplitl [Hd]
    · iapply (show (bigSep Finset.univ fun k => dstP P c (peer k c) (m ((P.g (peer k c)).view.loc (c : Thread nD τ))) : sProp 𝕄)
          ⊢ bigSep Finset.univ fun k => iprop(∃ f, dstP P c (peer k c) f) from bigSep_mono fun k _ => show dstP P c (peer k c) (m ((P.g (peer k c)).view.loc (c : Thread nD τ))) ⊢ (iprop(∃ f, dstP P c (peer k c) f) : sProp 𝕄) from by
        iintro H; iexists _; iexact H)
      iexact Hd
    iexact Htr

/-- One device's start, from what it kept and what its peers gave it. -/
theorem ready (K : Dev nD × Sm → ℕ) (c : Dev nD) :
    iprop(records P m K ∗ kept P m B c ∗ bigSep Finset.univ fun k => given P k (peer k c)) ⊢ T₀ P m B c := by
  unfold kept given T₀ start toCopy toSend
  iintro ⟨#HR, ⟨Hs0, Hd0, Hto, Hst, Hat, Hcr, Has⟩, Hg⟩
  isplitr [Has]
  · isplitr; · iexists K; iexact HR
    isplitl [Hs0 Hd0 Hto]
    · isplitl [Hs0]; · iexact Hs0
      isplitl [Hd0]; · iexact Hd0
      iexact Hto
    isplitl [Hst Hg]
    · iapply ((Entails.of_eq (bigSep_sep' Finset.univ (fun k => iprop(srcP P m c (peer k c) ∗ dutyTok ER (kcell P (c, snd k)) 0 ()))
          (fun k => iprop((∃ f, dstP P (peer k c) (peer k (peer k c)) f) ∗ (dutyTok ER (kcell P (peer k c, rcv k)) 0 () : sProp 𝕄)))).symm).trans
        (bigSep_mono fun k _ => show iprop((srcP P m c (peer k c) ∗ dutyTok ER (kcell P (c, snd k)) 0 ())
            ∗ (∃ f, dstP P (peer k c) (peer k (peer k c)) f) ∗ dutyTok ER (kcell P (peer k c, rcv k)) 0 ())
            ⊢ iprop(srcP P m c (peer k c) ∗ (∃ f, dstP P (peer k c) c f) ∗ dutyTok ER (kcell P (c, snd k)) 0 () ∗ dutyTok ER (kcell P (peer k c, rcv k)) 0 ()) from by
          rw [peer_peer]
          iintro ⟨⟨H1, H2⟩, ⟨H3, H4⟩⟩
          isplitl [H1]; · iexact H1
          isplitl [H3]; · iexact H3
          isplitl [H2]; · iexact H2
          iexact H4))
      isplitl [Hst]; · iexact Hst
      iexact Hg
    isplitl [Hat]; · iexact Hat
    iexact Hcr
  iexact Has

theorem bigSep_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun s => iprop(∃ κ : ℕ, cellInv ER (sched P m) κ (kcell P (c, s))))
          ∗ (bigSep Finset.univ fun s => reached ER (kcell P (c, s)) 0) ∗ kept P m B c ∗ bigSep Finset.univ fun k => given P k c) : sProp 𝕄)
      ⊢ bigSep Finset.univ (T₀ P m B) := by
  rw [bigSep_sep', bigSep_sep', bigSep_sep', ← bigSep_univ_prod (fun p : Dev nD × Sm => iprop(∃ κ : ℕ, cellInv ER (sched P m) κ (kcell P p))),
    ← bigSep_univ_prod (fun p : Dev nD × Sm => (reached ER (kcell P p) 0 : sProp 𝕄)), across (given P)]
  iintro ⟨HI, #HR, Hk, Hg⟩
  ihave HK := (BI.bigSep_exists_pi Finset.univ (fun (p : Dev nD × Sm) (κ : ℕ) => (cellInv ER (sched P m) κ (kcell P p) : sProp 𝕄))) $$ HI
  icases HK with ⟨%K, #HI⟩
  iapply (bigSep_under (R := records P m K) fun c _ => ready P m B K c)
  isplitr
  · unfold records; isplitl; · iexact HI
    iexact HR
  · rw [bigSep_sep']
    isplitl [Hk]; · iexact Hk
    iexact Hg

/-- The launch's holdings and the protocol's state make every device's start. -/
theorem deal :
    iprop((bigSep Finset.univ fun c : Dev nD => Cert.StartAll.holdings (O₀ P) m ρ c) ∗ bigSep Finset.univ (G P m))
      ⊢ (|={Set.univ}=> bigSep Finset.univ (T₀ P m B) : sProp 𝕄) := by
  rw [← bigSep_sep']
  exact ((bigSep_mono fun c _ => sort P m ρ B c).trans (bigSep_fupd _ _)).trans (BI.fupd_mono (regroup P m B))

end Cert.Gather

end
-- ==== Proof.GatherRegion.lean ====
/-
  A gather as a step of a device's run: the region of the call, entered with the invariants over its semaphores already
  made. Stated for any program one of whose calls is such a gather.
-/
module

public import proofs.«01_k».proof.Proof.GatherDeal
public import Idealize.ShloMosaic.Lib.Pipeline.RegionArrays

@[expose] public section

noncomputable section

namespace Cert.Gather

open Cert.Scatter (peer peer_peer peer_ne peer_inj swap univ_peers Sm snd rcv own)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligationLoose)

variable {sig : RefSig} {s : Shape} {e : EltTy} (P : Port sig s e) {Val : EltTy → Type} [∀ e, Nonempty (Val e)]

local notation "𝕄" => MT nD τ sig Unit Val ℕ (UU sig) ℕ

variable (m : (ℓ : Loc nD τ sig) → Buf Val ℓ) (ρ : Dev nD → PrngReg)
variable {Λ₀ : Idealize.SL.Sem.Labels} {Q : Type} [Fintype Q] [DecidableEq Q] (cfgs : Q → Cfg sig Λ₀)
variable (defs₀ : Defs nD τ sig Val Λ₀) (p₀ : Q)

/-- What makes call `p₀` of a program the gather: it windows nothing and has one point, its semaphores are the port's, and
    its body takes a device from the start to the end of the protocol. -/
structure Call : Prop where
  bare : IsEmpty (Fin (cfgs p₀).W)
  once : (cfgs p₀).N = 1
  inj : Function.Injective (Pipeline.cellOf (nD := nD) (τ := τ) cfgs)
  wins : Pipeline.WinFacts (cfgs p₀).spec
  sems : Pipeline.OwnSemFacts (cfgs p₀).spec (osem P)
  body : ∀ (c : Dev nD) (t : Fin (cfgs p₀).N) (K : sProp 𝕄),
    iprop((start P m c ∗ ∃ W, owes (c : Thread nD τ) (O₀ P c) W) ∗ ((done P m c ∗ free c) -∗ K))
      ⊢ wp frame (wpE defs₀ 𝒱₀ (c : Thread nD τ) none) Set.univ (defs₀ .tc (cfgs p₀).body ((cfgs p₀).bodyArgs t ((cfgs p₀).slots t))) fun _ => K

variable {P m cfgs defs₀ p₀} (C : Call P m cfgs defs₀ p₀)
include C

theorem over_none {M : Type} [URA M] (Φ : Fin (cfgs p₀).W → sProp M) : bigSep Finset.univ Φ = BI.emp := by
  haveI := C.bare
  rw [Finset.univ_eq_empty]; rfl

/-- The scoped semaphores that are not the gather's, at zero. -/
def idle (c : Dev nD) : sProp 𝕄 :=
  iprop(Pipeline.cellsSems0 (Ix := Unit) (Name := ℕ) (U := UU sig) (Lvl := ℕ) (Val := Val) (τ := τ) cfgs p₀ c
    ∗ Pipeline.idleSems0 cfgs C.inj p₀ C.sems c)

theorem sems_split (c : Dev nD) :
    (scopedSems0 (c : Thread nD τ) : sProp 𝕄) = iprop((bigSep Finset.univ fun s => semVal (kcell P (c, s)) 0) ∗ idle C c) := by
  rw [Pipeline.scopedSems0_split cfgs C.inj p₀ C.wins.to₀ C.sems c]
  unfold idle
  refine BI.Entails.antisymm (show (_ : sProp 𝕄) ⊢ _ from ?_) (show (_ : sProp 𝕄) ⊢ _ from ?_)
  · unfold Pipeline.ownSems0
    iintro ⟨⟨H1, H2⟩, H3⟩
    isplitl [H2]; · iexact H2
    isplitl [H1]; · iexact H1
    iexact H3
  · unfold Pipeline.ownSems0
    iintro ⟨H2, H1, H3⟩
    isplitr [H3]
    · isplitl [H1]; · iexact H1
      iexact H2
    iexact H3

omit C in
/-- What a device holds before (`0`) and after the gather's one point. -/
def phase (P : Port sig s e) (m : (ℓ : Loc nD τ sig) → Buf Val ℓ) (cfgs : Q → Cfg sig Λ₀) (p₀ : Q) (c : Dev nD) : ℕ → sProp 𝕄
  | 0 => iprop(start P m c ∗ Pipeline.scopedRest (cfgs p₀).spec c)
  | _ + 1 => iprop(done P m c ∗ Pipeline.scopedRest (cfgs p₀).spec c)

omit C in
/-- What a device owes before and after it. -/
def dues (P : Port sig s e) (c : Dev nD) : ℕ → CellTallies nD τ sig Unit
  | 0 => O₀ P c
  | _ + 1 => 0

/-- The gather's proof data: before its one point the device's start, after it what the gather handed over. -/
def exDat (c : Dev nD) : Dat τ Val Unit ℕ (UU sig) ℕ (cfgs p₀) c where
  A w := C.bare.elim w
  after w _ := C.bare.elim w
  Φ t := phase P m cfgs p₀ c t.val
  q _ := fullShare
  owed t := dues P c t.val

/-- The body of the gather, at its one point. -/
theorem ex_obligation (c : Dev nD) : BodyObligationLoose (exDat C c) defs₀ 𝒱₀ () Set.univ := fun t => by
  have ht : t.val = 0 := by have := t.isLt; have e := C.once; omega
  rw [over_none C, over_none C]
  have h0 : (exDat C c).Φ t.castSucc = iprop(start P m c ∗ Pipeline.scopedRest (cfgs p₀).spec c) := by
    show phase P m cfgs p₀ c t.val = _
    rw [ht]; rfl
  have h1 : (exDat C c).Φ t.succ = iprop(done P m c ∗ Pipeline.scopedRest (cfgs p₀).spec c) := rfl
  have o0 : (exDat C c).owed t.castSucc = O₀ P c := by
    show dues P c t.val = _
    rw [ht]; rfl
  have o1 : (exDat C c).owed t.succ = 0 := rfl
  rw [h0, h1]
  unfold Dat.owesAt Pipeline.owesWithin
  rw [o0, o1]
  show (_ : sProp 𝕄) ⊢ wp frame (wpE defs₀ 𝒱₀ (c : Thread nD τ) none) Set.univ (defs₀ .tc (cfgs p₀).body ((cfgs p₀).bodyArgs t ((cfgs p₀).slots t))) _
  iintro ⟨⟨Hs, Hr⟩, ⟨%W, -, HO⟩, -⟩
  iapply (C.body c t)
  isplitl [Hs HO]
  · isplitl [Hs]; · iexact Hs
    iexists W; iexact HO
  iintro ⟨Hd, Hf⟩
  isplitl [Hd Hr]
  · isplitl [Hd]; · iexact Hd
    iexact Hr
  isplitl [Hf]
  · unfold free; icases Hf with ⟨%W', HO⟩
    iexists W'
    isplitr; · ipureintro; exact fun _ _ => Or.inl trivial
    iexact HO
  iempintro

omit C in
/-- What the gather hands over, semaphore by semaphore. -/
def handed (P : Port sig s e) (m : (ℓ : Loc nD τ sig) → Buf Val ℓ) (c : Dev nD) : sProp 𝕄 := bigSep Finset.univ fun s => payAt P m c s

omit C in
/-- The calls of the program, and that no call of it has a table. -/
abbrev calls (Val : EltTy → Type) (cfgs : Q → Cfg sig Λ₀) : Q → Pipeline.PCfg sig Λ₀ Val := fun p => (cfgs p).toPCfg
omit C in
abbrev plain (Val : EltTy → Type) (cfgs : Q → Cfg sig Λ₀) (p : Q) : (calls Val cfgs p).Adm := (cfgs p).toPCfg_adm

/-- The gather's step: from a device's start to what it handed over, every scoped semaphore at zero again. -/
theorem ex_region (pdats : (p : Q) → (c : Dev nD) → Dat τ Val Unit ℕ (UU sig) ℕ (cfgs p) c) (hp : ∀ c, pdats p₀ c = exDat C c)
    (c : Dev nD) {α : Type}
    (k : PUnit.{1} → Prog (TpuEff nD τ sig Val (Pipeline.Sig Λ₀ Q fun p => (calls Val cfgs p).Adm) .tc) α) (K : α → sProp 𝕄) :
    iprop((iprop(scopedBufs (c : Thread nD τ) ∗ scopedSems0 (c : Thread nD τ) ∗ handed P m c ∗ free c)
          -∗ wp frame (wpE (Pipeline.defs (calls Val cfgs) defs₀) (Variants.lift 𝒱₀) (c : Thread nD τ) none) Set.univ (k ⟨⟩) K)
        ∗ start P m c ∗ owes (c : Thread nD τ) (O₀ P c) ∅ ∗ scopedBufs (c : Thread nD τ) ∗ idle C c
        ∗ Pipeline.cellsGhost (Pipeline.pin (calls Val cfgs) (plain Val cfgs)) EP p₀ c ∗ Pipeline.toksInit (Pipeline.pin (calls Val cfgs) (plain Val cfgs)) EP p₀ c)
      ⊢ wp frame (wpE (Pipeline.defs (calls Val cfgs) defs₀) (Variants.lift 𝒱₀) (c : Thread nD τ) none) Set.univ (.op (.customCall (Pipeline.entry p₀) ()) k) K := by
  have hsb := Pipeline.scopedBufs_split (Ix := Unit) (Val := Val) (Name := ℕ) (U := UU sig) (Lvl := ℕ) (nD := nD) (τ := τ)
    cfgs p₀ C.wins.stage_scoped C.wins.stage_inj (fun w => C.bare.elim w) c
  have h0 : (pdats p₀ c).Φ 0 = iprop(start P m c ∗ Pipeline.scopedRest (cfgs p₀).spec c) := by rw [hp]; rfl
  have h1 : (pdats p₀ c).Φ (Fin.last (cfgs p₀).N) = iprop(done P m c ∗ Pipeline.scopedRest (cfgs p₀).spec c) := by
    rw [hp]
    show phase P m cfgs p₀ c (cfgs p₀).N = _
    rw [C.once]; rfl
  have o0 : (pdats p₀ c).owed 0 = O₀ P c := by rw [hp]; rfl
  have o1 : (pdats p₀ c).owed (Fin.last (cfgs p₀).N) = 0 := by
    rw [hp]
    show dues P c (cfgs p₀).N = _
    rw [C.once]; rfl
  have hob : BodyObligationLoose (pdats p₀ c) defs₀ 𝒱₀ () Set.univ := by rw [hp]; exact ex_obligation C c
  have hw : (iprop(emp) : sProp 𝕄) ⊢ Pipeline.cellsWaits (Pipeline.pin (calls Val cfgs) (plain Val cfgs)) pdats () p₀ c :=
    Pipeline.cellsWaits_intro (Pipeline.pin (calls Val cfgs) (plain Val cfgs)) pdats () p₀ c fun w => C.bare.elim w
  iintro ⟨Hk, Hst, HO, Hsc, Hid, Hg, Ht⟩
  unfold idle
  icases Hid with ⟨Hcells, Hidle⟩
  iapply (fupd_wp frame (wpE (Pipeline.defs (calls Val cfgs) defs₀) (Variants.lift 𝒱₀) (c : Thread nD τ) none) Set.univ _ _)
  imod (Pipeline.cellsInit_alloc (Pipeline.pin (calls Val cfgs) (plain Val cfgs)) pdats EP C.inj p₀ c) $$ [Hcells Hg] with ⟨%κ, -, Hinit⟩
  · isplitl [Hcells]; · iexact Hcells
    iexact Hg
  imodintro
  iapply (Pipeline.wp_customCall_entry_frame (calls Val cfgs) (plain Val cfgs) pdats () EP κ C.inj p₀ defs₀ 𝒱₀ (fun _ => fullShare) c Set.univ
      (fun _ _ => Set.mem_univ _) hob (fun w => C.bare.elim w) none (by simp)
      (X := start P m c) (Y := handed P m c) (R := Pipeline.scopedRest (cfgs p₀).spec c) (I := Pipeline.idleSems0 cfgs C.inj p₀ C.sems c)
      (Entails.of_eq hsb) ?_ ?_ (k := k) (Q := K)) $$ [Hst HO Hsc Hinit Ht Hidle]
  · rw [h0]
    iintro ⟨Hs, -, Hr⟩
    isplitl [Hs]; · iexact Hs
    iexact Hr
  · rw [h1, sems_split C, hsb]
    unfold done idle handed
    iintro ⟨⟨⟨Hp, Hsem⟩, Hr⟩, Hc, Hst, Hi⟩
    isplitl [Hp]; · iexact Hp
    isplitl [Hsem Hc Hi]
    · isplitl [Hsem]; · iexact Hsem
      isplitl [Hc]; · iexact Hc
      iexact Hi
    isplitl [Hst]; · iexact Hst
    iexact Hr
  · isplitl [HO Hinit Ht]
    · unfold Pipeline.EntryPre Pipeline.PerCore.EntryPre
      isplitr
      · unfold Dat.arrays; rw [over_none C]; iempintro
      isplitl [HO]
      · unfold Dat.owesAt Pipeline.owesWithin
        rw [o0]
        iexists ∅
        isplitr; · ipureintro; exact fun _ _ => Or.inl (by rw [hp]; trivial)
        iexact HO
      isplitr; · iapply hw; iempintro
      isplitl [Hinit]; · iexact Hinit
      iexact Ht
    isplitr
    · rw [Pipeline.prefHeld_of_none (calls Val cfgs p₀).pre rfl c (fun _ => fullShare) _]
      iempintro
    isplitl [Hst]; · iexact Hst
    isplitl [Hidle]; · iexact Hidle
    iexact Hsc
  · iintro ⟨HE, Hh, Hss, Hsb⟩
    unfold Pipeline.EntryPost Pipeline.PerCore.EntryPost
    icases HE with ⟨-, HO⟩
    iapply Hk
    isplitl [Hsb]; · iexact Hsb
    isplitl [Hss]; · iexact Hss
    isplitl [Hh]; · iexact Hh
    unfold Dat.owesAt Pipeline.owesWithin free
    rw [show (pdats p₀ c).owed (Fin.last (Pipeline.pin (calls Val cfgs) (plain Val cfgs) p₀).N) = 0 from o1]
    icases HO with ⟨%W, -, HO⟩
    iexists W; iexact HO

end Cert.Gather

end
-- ==== Proof.GatherSlots.lean ====
/-
  The eight slots of a gathered array of any size: slot `j` of an 8 × r × w array is the plane whose leading index is
  `j`. A gather writes each of them with one device's whole r × w array; what it leaves in the gathered array, read at
  an index, is the element of the array of the device the leading index names.
-/
module

public import proofs.«01_k».proof.Proof.GatherDeal
public import Idealize.ShloMosaic.Lib.ValueLayout

@[expose] public section

noncomputable section

namespace Cert.Gather

open Cert.Scatter (Sm)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {sig : RefSig} {e : EltTy} {r w : ℕ}

/-- The array one device hands out, the array it gathers, and one slot of that. -/
abbrev One (r w : ℕ) : Shape := ⟨2, ![r, w]⟩
abbrev All (r w : ℕ) : Shape := ⟨3, ![8, r, w]⟩
abbrev Cut (r w : ℕ) : Shape := ⟨3, ![1, r, w]⟩

/-- A slot of an array, named as the kernel names it: the slice at offset `off`, its unit axis dropped. -/
abbrev slot (G : Memref sig .tc .hbm (All r w) e) (hs : (Cut r w).Squeezes (One r w)) (off : Fin 3 → ℕ)
    (h : ∀ a, off a + (Cut r w).size a ≤ (All r w).size a) : Memref sig .tc .hbm (One r w) e :=
  (G.slice (Rect.unit (s := All r w) off (Cut r w).size h) (fun _ => rfl)).squeeze (One r w) hs

theorem inb_at (j : Fin 8) : ∀ a, (![j.val, 0, 0] : Fin 3 → ℕ) a + (Cut r w).size a ≤ (All r w).size a := fun a => by
  fin_cases a
  · show j.val + 1 ≤ 8
    omega
  · exact (Nat.zero_add r).le
  · exact (Nat.zero_add w).le

/-- Slot `j`. -/
abbrev slotAt (G : Memref sig .tc .hbm (All r w) e) (hs : (Cut r w).Squeezes (One r w)) (j : Fin 8) : Memref sig .tc .hbm (One r w) e :=
  slot G hs ![j.val, 0, 0] (inb_at j)

theorem slot_at (G : Memref sig .tc .hbm (All r w) e) (hs : (Cut r w).Squeezes (One r w)) (j : Fin 8) (off : Fin 3 → ℕ)
    (h : ∀ a, off a + (Cut r w).size a ≤ (All r w).size a) (hoff : off = ![j.val, 0, 0]) : slot G hs off h = slotAt G hs j := by
  subst hoff; rfl

/-- The elements of slot `j`. -/
def plane (j : Fin 8) : Finset (All r w).Idx := Finset.univ.filter fun i => (i (0 : Fin 3)).val = j.val

theorem mem_plane {j : Fin 8} {i : (All r w).Idx} : i ∈ plane j ↔ (i (0 : Fin 3)).val = j.val := by
  unfold plane; rw [Finset.mem_filter]; exact ⟨fun h => h.2, fun h => ⟨Finset.mem_univ _, h⟩⟩

/-- The place of the slot's element `y` in the array. -/
theorem place (j : Fin 8) (hs : (Cut r w).Squeezes (One r w)) (x : Fin r) (y : Fin w) :
    (Rect.unit (s := All r w) ![j.val, 0, 0] (Cut r w).size (inb_at j)).emb (Shape.reshapeEquiv hs.numel_eq (ValueIdx.ix2 x y))
      = (ValueIdx.ix3 j x y : (All r w).Idx) := by
  rw [ValueIdx.reshapeEquiv_ix2_1ab]
  funext a
  apply Fin.ext
  show ![j.val, 0, 0] a + 1 * ((ValueIdx.ix3 (⟨0, Nat.one_pos⟩ : Fin 1) x y : (Cut r w).Idx) a).val = ((ValueIdx.ix3 j x y : (All r w).Idx) a).val
  rw [Nat.one_mul]
  revert a; intro (a : Fin 3)
  fin_cases a
  · rfl
  · exact Nat.zero_add _
  · exact Nat.zero_add _

theorem eq_place (i : (All r w).Idx) : i = ValueIdx.ix3 (i (0 : Fin 3)) (i (1 : Fin 3)) (i (2 : Fin 3)) := ValueIdx.eq_ix3 i

theorem slot_emb (G : Memref sig .tc .hbm (All r w) e) (hs : (Cut r w).Squeezes (One r w)) (j : Fin 8) (x : Fin r) (y : Fin w) :
    (slotAt G hs j).view.emb (ValueIdx.ix2 x y) = G.view.emb (ValueIdx.ix3 j x y : (All r w).Idx) :=
  congrArg G.view.emb (place j hs x y)

theorem mem_slot (G : Memref sig .tc .hbm (All r w) e) (hs : (Cut r w).Squeezes (One r w)) (i : (All r w).Idx) :
    G.view.emb i ∈ (slotAt G hs (i (0 : Fin 3))).view.set := by
  rw [eq_place i]
  exact (slot_emb G hs (i (0 : Fin 3)) (i (1 : Fin 3)) (i (2 : Fin 3))) ▸ View.emb_mem_set _ _

theorem of_slot (G : Memref sig .tc .hbm (All r w) e) (hs : (Cut r w).Squeezes (One r w)) (j : Fin 8) {z : G.view.ty.Idx}
    (hz : z ∈ (slotAt G hs j).view.set) : ∃ i : (All r w).Idx, i (0 : Fin 3) = j ∧ z = G.view.emb i := by
  obtain ⟨y, -, rfl⟩ := Finset.mem_map.mp hz
  have hy : y = ValueIdx.ix2 (y (0 : Fin 2)) (y (1 : Fin 2)) := ValueIdx.eq_ix2 y
  refine ⟨ValueIdx.ix3 j (y (0 : Fin 2)) (y (1 : Fin 2)), rfl, ?_⟩
  exact (congrArg (slotAt G hs j).view.emb hy).trans (slot_emb G hs j _ _)

theorem slots_disjoint (G : Memref sig .tc .hbm (All r w) e) (hs : (Cut r w).Squeezes (One r w)) (j j' : Fin 8) (h : j ≠ j') :
    Disjoint (slotAt G hs j).view.set (slotAt G hs j').view.set :=
  Finset.disjoint_left.mpr fun z hz hz' => by
    obtain ⟨i, hi, rfl⟩ := of_slot G hs j hz
    obtain ⟨i', hi', he⟩ := of_slot G hs j' hz'
    have := G.view.emb.injective he
    exact h (hi.symm.trans ((congrArg (fun i : (All r w).Idx => i (0 : Fin 3)) this).trans hi'))

variable {Val : EltTy → Type}

/-- What a device's array leaves in slot `j` of the gathered one. -/
theorem landed (G : Memref sig .tc .hbm (All r w) e) (hs : (Cut r w).Squeezes (One r w)) (f : G.view.ty.Contents Val)
    (X : (One r w).Idx → Val e) (i : (All r w).Idx) :
    G.view.read Val ((slotAt G hs (i (0 : Fin 3))).view.write Val f X Finset.univ) i = X (ValueIdx.ix2 (i (1 : Fin 3)) (i (2 : Fin 3))) := by
  have hz : G.view.emb i = (slotAt G hs (i (0 : Fin 3))).view.emb (ValueIdx.ix2 (i (1 : Fin 3)) (i (2 : Fin 3))) :=
    (congrArg G.view.emb (eq_place i)).trans (slot_emb G hs _ _ _).symm
  rw [View.read_apply, hz, View.write_emb_of_mem _ _ (Finset.mem_univ _), cast_cast, cast_eq]

end Cert.Gather

end
-- ==== Proof.GatherRun.lean ====
/-
  What a gather leaves, and the whole run of a program that is one gather.

  `Arrays` is the case the programs here have: one device's r × w array is gathered into the slots of an 8 × r × w one,
  both arrays whole buffers. When the gather is over a device holds its own array as it was and all the slots, which
  together are the gathered array.
-/
module

public import proofs.«01_k».proof.Proof.GatherRegion
public import proofs.«01_k».proof.Proof.GatherSlots

@[expose] public section

noncomputable section

namespace Cert.Gather

open Cert.Scatter (peer peer_peer peer_ne peer_inj swap univ_peers Sm snd rcv own)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligationLoose)

/-- An array, the array it is gathered into on every device, and the semaphores of the transfers. -/
structure Arrays (sig : RefSig) (r w : ℕ) (e : EltTy) where
  x : Memref sig .tc .hbm (One r w) e
  G : Memref sig .tc .hbm (All r w) e
  hs : (Cut r w).Squeezes (One r w)
  q : Sm → DmaSem sig
  q_inj : Function.Injective q
  N : ℕ
  N_pos : 0 < N
  credit_x : x.view.dmaCredit = N
  credit_g : ∀ j, (slotAt G hs j).view.dmaCredit = N
  x_whole : x.view.set = Finset.univ
  G_whole : G.view.set = Finset.univ

variable {sig : RefSig} {e : EltTy} {r w : ℕ} (A : Arrays sig r w e)

def Arrays.port : Port sig (One r w) e :=
  { x := A.x, g := slotAt A.G A.hs, q := A.q, q_inj := A.q_inj, N := A.N, N_pos := A.N_pos, credit_x := A.credit_x, credit_g := A.credit_g }

variable {Val : EltTy → Type} [∀ e, Nonempty (Val e)]

local notation "𝕄" => MT nD τ sig Unit Val ℕ (UU sig) ℕ

variable (m : (ℓ : Loc nD τ sig) → Buf Val ℓ) (ρ : Dev nD → PrngReg)

/-! ## The gathered array -/

/-- The device an index of the gathered array names. -/
abbrev lead (i : (All r w).Idx) : Dev nD := i (0 : Fin 3)

/-- Element `(j, a, b)` of the gathered array is element `(a, b)` of device `j`'s array. -/
def gathered (i : (All r w).Idx) : Val e :=
  A.x.view.read Val (m (A.x.view.loc ((lead i) : Thread nD τ))) (ValueIdx.ix2 (i (1 : Fin 3)) (i (2 : Fin 3)))

/-- The gathered array of device `c`, as its buffer holds it. -/
def whole (c : Dev nD) : Buf Val (A.G.view.loc (c : Thread nD τ)) := A.G.view.write Val (m (A.G.view.loc (c : Thread nD τ))) (gathered A m) Finset.univ

theorem filled_whole (c : Dev nD) (j : Fin 8) : filled A.port m c j ⊢ (dstP A.port c j (whole A m c) : sProp 𝕄) := by
  unfold filled
  show (_ : sProp 𝕄) ⊢ _
  iintro ⟨%f, H⟩
  have he : (dstP A.port c j ((A.port.g j).view.write Val f (A.port.x.view.read Val (m (A.port.x.view.loc ((j : Dev nD) : Thread nD τ)))) Finset.univ) : sProp 𝕄)
      = dstP A.port c j (whole A m c) :=
    pointsTo_congr fun z hz => by
      obtain ⟨i, rfl, rfl⟩ := of_slot A.G A.hs j hz
      have h1 := landed (Val := Val) A.G A.hs f (A.x.view.read Val (m (A.x.view.loc ((lead i) : Thread nD τ)))) i
      have h2 : A.G.view.read Val (whole A m c) i = gathered A m i := View.read_write_of_mem _ _ (Finset.mem_univ i)
      have h3 := h1.trans h2.symm
      rw [View.read_apply, View.read_apply] at h3
      exact (cast_inj _).mp h3
  iapply (Entails.of_eq he)
  iexact H

/-- A whole array is the parts of it, when they are disjoint and cover it. -/
theorem pts_parts {ℓ : Loc nD τ sig} (S : Fin 8 → Finset (Idx ℓ)) (hd : ∀ j j', j ≠ j' → Disjoint (S j) (S j')) (hc : ∀ i, ∃ j, i ∈ S j)
    (f : Buf Val ℓ) : (ℓ ↦{fullShare} f : sProp 𝕄) = bigSep Finset.univ fun j => ℓ ↦[S j]{fullShare} f := by
  classical
  rw [← pointsTo_biUnion Finset.univ S fun j _ j' _ h => hd j j' h]
  congr 1
  exact (Finset.eq_univ_iff_forall.mpr fun i => by
    obtain ⟨j, hj⟩ := hc i
    exact Finset.mem_biUnion.mpr ⟨j, Finset.mem_univ _, hj⟩).symm

/-- The slots are the whole array. -/
theorem slots_all (c : Dev nD) (f : Buf Val (A.G.view.loc (c : Thread nD τ))) :
    (A.G.view.loc (c : Thread nD τ) ↦{fullShare} f : sProp 𝕄) = bigSep Finset.univ fun j => dstP A.port c j f :=
  pts_parts (ℓ := A.G.view.loc (c : Thread nD τ)) (fun j => (slotAt A.G A.hs j).view.set) (slots_disjoint A.G A.hs)
    (fun z => by
      have hz : z ∈ A.G.view.set := by rw [A.G_whole]; exact Finset.mem_univ z
      obtain ⟨i, -, rfl⟩ := Finset.mem_map.mp hz
      exact ⟨_, mem_slot A.G A.hs i⟩) f

theorem source_all (c : Dev nD) :
    (source A.port m c : sProp 𝕄) = (A.x.view.loc (c : Thread nD τ) ↦{fullShare} m (A.x.view.loc (c : Thread nD τ))) :=
  congrArg (fun S => (A.x.view.loc (c : Thread nD τ) ↦[S]{fullShare} m (A.x.view.loc (c : Thread nD τ)) : sProp 𝕄)) A.x_whole

/-- What the gather hands over: the device's own array as it was, and the gathered one. -/
theorem collect (c : Dev nD) :
    handed A.port m c ⊢ (iprop((A.x.view.loc (c : Thread nD τ) ↦{fullShare} m (A.x.view.loc (c : Thread nD τ)))
      ∗ (A.G.view.loc (c : Thread nD τ) ↦{fullShare} whole A m c)) : sProp 𝕄) := by
  have hh : (handed A.port m c : sProp 𝕄) = iprop((bigSep Finset.univ fun k => srcP A.port m c (peer k c))
      ∗ (bigSep Finset.univ fun k => filled A.port m c (peer k c)) ∗ filled A.port m c c ∗ srcP A.port m c c) := by
    unfold handed
    rw [BI.bigSep_univ_sum, BI.bigSep_univ_sum, BI.bigSep_univ_of_subsingleton (I := Unit) ()]
    rfl
  have hd : (bigSep Finset.univ (fun j => filled A.port m c j) : sProp 𝕄)
      = iprop(filled A.port m c c ∗ bigSep Finset.univ fun k => filled A.port m c (peer k c)) := bigSep_peers c (fun j => filled A.port m c j)
  rw [hh, ← source_all, source_eighths, slots_all]
  show (_ : sProp 𝕄) ⊢ _
  iintro ⟨Hs, Hd, Ho⟩
  icases Ho with ⟨Hdo, Hso⟩
  isplitl [Hs Hso]
  · isplitl [Hso]; · iexact Hso
    iexact Hs
  iapply (show (bigSep Finset.univ (fun j => filled A.port m c j) : sProp 𝕄) ⊢ _ from bigSep_mono fun j _ => filled_whole A m c j)
  iapply (Entails.of_eq hd.symm)
  isplitl [Hdo]; · iexact Hdo
  iexact Hd

variable {Λ₀ : Idealize.SL.Sem.Labels} {Q : Type} [Fintype Q] [DecidableEq Q] {cfgs : Q → Cfg sig Λ₀}
variable {defs₀ : Defs nD τ sig Val Λ₀} {p₀ : Q} (C : Call A.port m cfgs defs₀ p₀)

variable {A m}

/-- How the holdings of a device fall apart, given the arrays it holds beside the two. -/
def partsOf (others : Dev nD → sProp 𝕄)
    (hb : ∀ c : Dev nD, (unscopedBufs c (fun b => m ((c : Thread nD τ).loc b)) : sProp 𝕄)
      = iprop((A.x.view.loc (c : Thread nD τ) ↦{fullShare} m (A.x.view.loc (c : Thread nD τ)))
        ∗ (A.G.view.loc (c : Thread nD τ) ↦{fullShare} m (A.G.view.loc (c : Thread nD τ))) ∗ others c)) : Parts A.port m where
  others := others
  idle := idle C
  bufs c := by rw [hb, source_all, slots_all]; rfl
  sems := sems_split C

/-- The fresh state of the launch's own semaphores and of the gather's. -/
def u₀ : UU sig := (initOf (Pipeline.cells cfgs C.inj) (Pipeline.launchToks cfgs C.inj), initOf (allCells A.port) (allToks A.port))

theorem fund : (ownU (u₀ C) : sProp 𝕄)
    ⊢ |={Set.univ}=> iprop(BI.own (EP (initOf (Pipeline.cells cfgs C.inj) (Pipeline.launchToks cfgs C.inj))) ∗ bigSep Finset.univ (G A.port m)) := by
  have hu : (ownU (u₀ C) : sProp 𝕄) ⊢ iprop(BI.own (EP (initOf (Pipeline.cells cfgs C.inj) (Pipeline.launchToks cfgs C.inj)))
      ∗ BI.own (ER (initOf (allCells A.port) (allToks A.port)))) := ownU_pair _ _
  iintro Hu
  ihave Hp := hu $$ Hu
  icases Hp with ⟨HP, HR⟩
  imod (fund_all A.port m) $$ HR with HG
  imodintro
  isplitl [HP]; · iexact HP
  iexact HG

/-! ## A program that is one gather -/

section Alone

variable {cfgs₁ : Fin 1 → Cfg sig Λ₀} (C₁ : Call A.port m cfgs₁ defs₀ 0)
variable (main : Dev nD → Prog (TpuEff nD τ sig Val (Pipeline.Sig Λ₀ (Fin 1) fun p => (calls Val cfgs₁ p).Adm) .tc) PUnit.{1})

def pdats (p : Fin 1) (c : Dev nD) : Dat τ Val Unit ℕ (UU sig) ℕ (cfgs₁ p) c :=
  match p with
  | ⟨0, _⟩ => exDat C₁ c
  | ⟨_ + 1, h⟩ => absurd h (by omega)

/-- What a device holds at the end. -/
def Tₙ (A : Arrays sig r w e) (m : (ℓ : Loc nD τ sig) → Buf Val ℓ) (c : Dev nD) : sProp 𝕄 :=
  iprop((A.x.view.loc (c : Thread nD τ) ↦{fullShare} m (A.x.view.loc (c : Thread nD τ)))
    ∗ (A.G.view.loc (c : Thread nD τ) ↦{fullShare} whole A m c))

theorem ghost_split (c : Dev nD) : (Pipeline.ghostOn (calls Val cfgs₁) (plain Val cfgs₁) EP Finset.univ c : sProp 𝕄)
      = iprop((Pipeline.cellsGhost (Pipeline.pin (calls Val cfgs₁) (plain Val cfgs₁)) EP 0 c ∗ Pipeline.toksInit (Pipeline.pin (calls Val cfgs₁) (plain Val cfgs₁)) EP 0 c)
        ∗ Pipeline.ghostOn (calls Val cfgs₁) (plain Val cfgs₁) EP (Finset.univ.erase 0) c) :=
  (Pipeline.PerCore.ghostOn_erase (calls Val cfgs₁) (fun _ => plain Val cfgs₁) EP (p := 0) (S := Finset.univ) (by decide) c).symm

theorem run_device (B : Parts A.port m) (hB : B.idle = idle C₁)
    (hmain : ∀ c, main c = .op (.customCall (Pipeline.entry 0) ()) fun _ => .ret ⟨⟩) (c : Dev nD) :
    iprop(T₀ A.port m B c ∗ levAts L lv ∗ Pipeline.ghostOn (calls Val cfgs₁) (plain Val cfgs₁) EP Finset.univ c)
      ⊢ wp frame (wpE (Pipeline.defs (calls Val cfgs₁) defs₀) (Variants.lift 𝒱₀) (c : Thread nD τ) none) Set.univ (main c)
          (fun _ => iprop(Tₙ A m c ∗ boundary (c : Thread nD τ) ∗ ∃ W, owes (c : Thread nD τ) (0 : CellTallies nD τ sig Unit) W)) := by
  have hb : (boundary (c : Thread nD τ) : sProp 𝕄) = iprop(scopedBufs (c : Thread nD τ) ∗ scopedSems0 (c : Thread nD τ) ∗ opIdle (c : Thread nD τ)) := rfl
  rw [ghost_split, hmain]
  unfold T₀ aside
  rw [hB]
  iintro ⟨⟨Hst, Hsb, Hid, Hop, HO, Hoth⟩, Hlev, ⟨Hg0, Ht0⟩, -⟩
  iapply (ex_region C₁ (pdats C₁) (fun _ => rfl) c (fun _ => .ret ⟨⟩)
    (fun _ => iprop(Tₙ A m c ∗ boundary (c : Thread nD τ) ∗ ∃ W, owes (c : Thread nD τ) (0 : CellTallies nD τ sig Unit) W)))
  isplitr [Hst HO Hsb Hid Hg0 Ht0]
  · iintro ⟨Hsb, Hss, Hh, Hf⟩
    rw [wp_ret frame (wpE (Pipeline.defs (calls Val cfgs₁) defs₀) (Variants.lift 𝒱₀) (c : Thread nD τ) none) Set.univ (⟨⟩ : PUnit.{1})]
    imodintro
    isplitl [Hh]
    · unfold Tₙ
      iapply (collect A m c)
      iexact Hh
    rw [hb]
    isplitl [Hsb Hss Hop]
    · isplitl [Hsb]; · iexact Hsb
      isplitl [Hss]; · iexact Hss
      iexact Hop
    unfold free
    iexact Hf
  isplitl [Hst]; · iexact Hst
  isplitl [HO]; · iexact HO
  isplitl [Hsb]; · iexact Hsb
  isplitl [Hid]; · iexact Hid
  isplitl [Hg0]; · iexact Hg0
  iexact Ht0

theorem read_end (c : Dev nD) (s' : Phys nD τ sig Val) : iprop(Tₙ A m c ∗ SI s')
    ⊢ (|={Set.univ}=> iprop(⌜s'.mem.mem (A.x.view.loc (c : Thread nD τ)) = m (A.x.view.loc (c : Thread nD τ))
        ∧ s'.mem.mem (A.G.view.loc (c : Thread nD τ)) = whole A m c⌝ ∗ SI s') : sProp 𝕄) := by
  unfold Tₙ
  iintro ⟨⟨Hx, HG⟩, HSI⟩
  icombine HSI Hx gives %h
  icombine HSI HG gives %h'
  imodintro
  isplitr
  · ipureintro
    exact ⟨Buf.eq_of_forall_mem_univ h, Buf.eq_of_forall_mem_univ h'⟩
  iexact HSI

include C₁ in
/-- Every weakly fair execution ends with each device's own array as it was, the gathered array whole on every device and
    every semaphore at zero. -/
theorem run_alone (others : Dev nD → sProp 𝕄)
    (hb : ∀ c : Dev nD, (unscopedBufs c (fun b => m ((c : Thread nD τ).loc b)) : sProp 𝕄)
      = iprop((A.x.view.loc (c : Thread nD τ) ↦{fullShare} m (A.x.view.loc (c : Thread nD τ)))
        ∗ (A.G.view.loc (c : Thread nD τ) ↦{fullShare} m (A.G.view.loc (c : Thread nD τ))) ∗ others c))
    (hmain : ∀ c, main c = .op (.customCall (Pipeline.entry 0) ()) fun _ => .ret ⟨⟩)
    (hsc : ∀ sm : SemLoc sig, sm.isScoped .tc = true) :
    θ_run (Pipeline.defs (calls Val cfgs₁) defs₀) (onTc main) ⟨m, fun _ => 0, ρ⟩ (fun r =>
      (∀ c : Dev nD, r.2.mem (A.x.view.loc (c : Thread nD τ)) = m (A.x.view.loc (c : Thread nD τ))
        ∧ r.2.mem (A.G.view.loc (c : Thread nD τ)) = whole A m c) ∧ r.2.sem = fun _ => 0) := by
  have hB : (partsOf C₁ others hb).idle = idle C₁ := rfl
  have hrun := run_device C₁ main (partsOf C₁ others hb) hB hmain
  have hdeal := deal A.port m ρ (partsOf C₁ others hb)
  have hfund := fund (Val := Val) C₁
  refine Cert.StartAll.θ_run_from_launch (calls Val cfgs₁) (plain Val cfgs₁) C₁.inj EP defs₀ 𝒱₀ L lv m ρ main (O₀ A.port) L_of_ne (G A.port m) (u₀ C₁)
    hfund (T₀ A.port m (partsOf C₁ others hb)) (Tₙ A m) hdeal hrun
    (fun c s => s.mem (A.x.view.loc (c : Thread nD τ)) = m (A.x.view.loc (c : Thread nD τ)) ∧ s.mem (A.G.view.loc (c : Thread nD τ)) = whole A m c)
    (fun c s' => read_end c s') ?_
  exact fun s h hz => ⟨h, funext fun g => hz g (.inr (hsc g.2))⟩

end Alone

end Cert.Gather

end
-- ==== Proof.Steps.lean ====
/-
  The steps of the exchange: starting the `k`-th transfer, copying the own slot, waiting for one semaphore.
-/
module

public import proofs.«01_k».proof.Proof.Proto

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Starting the transfer to the `k`-th peer. -/
theorem send_step (K : Dev nD × Sm → ℕ) (c n : Dev nD) (k : Fin 7) (hn : n = peer k c)
    (off off' : Fin 3 → ℕ) (h : ∀ a, off a + S1x1600x1024.size a ≤ S8x1600x1024.size a) (h' : ∀ a, off' a + S1x1600x1024.size a ≤ S8x1600x1024.size a)
    (hoff : off = ![(peer k c).val, 0, 0]) (hoff' : off' = ![c.val, 0, 0])
    (qS qR : DmaSem sig) (hS : qS = dsem (snd k)) (hR : qR = dsem (rcv k))
    {hsc : (slot gM off' h' : Memref sig (Dev.tc n : Thread nD τ).2.kind .hbm S1600x1024 .f32).view.ref.isScScratch = false}
    {hsrc : (slot sM off h).view.WordExact} {hdst : (slot gM off' h').view.WordExact}
    {hsem : DmaTarget.Typed .hbm (.dma qR) (.remote (Dev.tc n : Thread nD τ) (slot gM off' h') (.dma qS) hsc)}
    {α : Type} {Q : α → sProp 𝕄} {kont : PUnit → Prog (TpuEff nD τ sig (Elt F) Λ₀ .tc) α}
    (O : CellTallies nD τ sig Unit) (W : Waits sig Unit) :
    iprop(records m K ∗ toSend m c k ∗ owes (c : Thread nD τ) (O + owed c k) W)
      ⊢ iprop(((cred (tallyAt (kcell (c, snd k)) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slot sM off h) (.remote (Dev.tc n : Thread nD τ) (slot gM off' h') (.dma qS) hsc) (.dma qR) hsrc hdst hsem) kont) Q) := by
  subst hn hS hR
  unfold toSend
  iintro ⟨#HR, ⟨Hs, ⟨%f, Hd⟩, Ht1, Ht2⟩, HO⟩
  iapply (Rounds.wp_send_pointsTo 𝒱₀ ER (sched m) (c : Thread nD τ) none (κ₁ := K (c, snd k)) (κ₂ := K (peer k c, rcv k))
    (q := fullShare) (fs := m ((c : Thread nD τ).loc main_arg0)) (fd := f) (r₁ := 0) (r₂ := 0) (d₁ := ()) (d₂ := ())
    (by rw [duties_cell m c (snd k)]; exact Finset.mem_singleton_self _)
    (by rw [duties_cell m (peer k c) (rcv k)]; exact Finset.mem_singleton_self _)
    () () N rfl rfl rfl O rfl
    (by
      rw [payload_cell m c (snd k)]
      show _ ⊢ srcP m c (peer k c)
      unfold srcP
      rw [set_send (peer k c) off h hoff])
    (by
      rw [payload_cell m (peer k c) (rcv k)]
      show _ ⊢ dstP (peer k c) (peer k (peer k c)) (gathered m (peer k c))
      rw [peer_peer, set_gather c off' h' hoff']
      unfold dstP
      refine Entails.of_eq (pointsTo_congr fun i hi => ?_)
      rw [landed c (peer k c) off' off h' h hoff' hoff _ _ i hi]
      have e : (⟨(i (0 : Fin 3)).val, (i (0 : Fin 3)).isLt⟩ : Dev nD) = c := Fin.ext (mem_plane.mp hi)
      unfold gathered
      rw [e])) $$ [HR Hs Hd HO Ht1 Ht2]
  isplitr; · iapply (inv_at m K (c, snd k)); iexact HR
  isplitr; · iapply (inv_at m K (peer k c, rcv k)); iexact HR
  isplitl [Hs]
  · rw [set_send (peer k c) off h hoff]; unfold srcP; iexact Hs
  isplitl [Hd]
  · rw [set_gather c off' h' hoff']; unfold dstP; iexact Hd
  isplitl [HO]; · iexact HO
  isplitl [Ht1]; · iexact Ht1
  isplitr; · iapply (reached_at m K (c, snd k)); iexact HR
  isplitl [Ht2]; · iexact Ht2
  iapply (reached_at m K (peer k c, rcv k)); iexact HR

/-- Starting the copy of the own slot. -/
theorem copy_step (K : Dev nD × Sm → ℕ) (c : Dev nD)
    (off : Fin 3 → ℕ) (h h' : ∀ a, off a + S1x1600x1024.size a ≤ S8x1600x1024.size a)
    (hoff : off = ![c.val, 0, 0]) (q : DmaSem sig) (hq : q = dsem own)
    {hsrc : (slot sM off h).view.WordExact} {hdst : (slot gM off h').view.WordExact}
    {hsem : DmaTarget.Typed .hbm (.dma q) (DmaTarget.here (nD := nD) (p := (c : Thread nD τ).2) (slot gM off h'))}
    {α : Type} {Q : α → sProp 𝕄} {kont : PUnit → Prog (TpuEff nD τ sig (Elt F) Λ₀ .tc) α} :
    iprop(records m K ∗ toCopy m c)
      ⊢ iprop((cred (tallyAt (kcell (c, own)) () N) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slot sM off h) (.here (slot gM off h')) (.dma q) hsrc hdst hsem) kont) Q) := by
  subst hq
  unfold toCopy
  iintro ⟨#HR, Hs, ⟨%f, Hd⟩, Ht⟩
  iapply (Rounds.wp_copy_pointsTo 𝒱₀ ER (sched m) (c : Thread nD τ) none (κ := K (c, own))
    (q := fullShare) (fs := m ((c : Thread nD τ).loc main_arg0)) (fd := f) (r := 0) (d := ())
    (by rw [duties_cell m c own]; exact Finset.mem_singleton_self _)
    () N rfl rfl
    (by
      rw [payload_cell m c own]
      show _ ⊢ iprop(dstP c c (gathered m c) ∗ srcP m c c)
      rw [set_gather c off h' hoff, set_send c off h hoff]
      unfold dstP srcP
      refine sep_mono_left (Entails.of_eq (pointsTo_congr fun i hi => ?_))
      rw [landed c c off off h' h hoff hoff _ _ i hi]
      have e : (⟨(i (0 : Fin 3)).val, (i (0 : Fin 3)).isLt⟩ : Dev nD) = c := Fin.ext (mem_plane.mp hi)
      unfold gathered
      rw [e])) $$ [HR Hs Hd Ht]
  isplitr; · iapply (inv_at m K (c, own)); iexact HR
  isplitl [Hs]
  · rw [set_send c off h hoff]; unfold srcP; iexact Hs
  isplitl [Hd]
  · rw [set_gather c off h' hoff]; unfold dstP; iexact Hd
  isplitl [Ht]; · iexact Ht
  iapply (reached_at m K (c, own)); iexact HR

/-- A device that owes nobody, whatever it has waited for. -/
def free (c : Dev nD) : sProp 𝕄 := iprop(∃ W, owes (c : Thread nD τ) 0 W)

/-- Waiting for one semaphore: its payload comes, and its round is closed. -/
theorem wait_step (K : Dev nD × Sm → ℕ) (c : Dev nD) (s : Sm)
    (src dst : Memref sig .tc .hbm S1600x1024 .f32) (q : DmaSem sig) (hq : q = dsem s) {hs : src.view.WordExact} {hd : dst.view.WordExact}
    (hN : dst.view.dmaCredit = N)
    {α : Type} {Q : α → sProp 𝕄} {kont : PUnit → Prog (TpuEff nD τ sig (Elt F) Λ₀ .tc) α} :
    iprop(records m K ∗ cred (tallyAt (kcell (c, s)) () N) ∗ atPos ER (kcell (c, s)) 0 ∅ 0 ∗ free c)
      ⊢ iprop(((payAt m c s ∗ semVal (kcell (c, s)) 0 ∗ free c) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 q src dst hs hd) kont) Q) := by
  subst hq
  unfold free
  iintro ⟨#HR, Hc, Hat, ⟨%W, HO⟩⟩ Hk
  ihave #HI := (inv_at m K (c, s)) $$ HR
  iapply (Rounds.wp_wait_rest_token 𝒱₀ ER (sched m) (c : Thread nD τ) none (κ := K (c, s)) (k' := N)
      (fun Kt => (wpE_waitDma2_eq 𝒱₀ (c : Thread nD τ) none Set.univ Kt).trans (by rw [hN])) (Set.mem_univ _) () (O := 0) (W := W) (R := 0) (m := 0) (T := ∅)
      (by rw [Nat.zero_add]; exact (expect_cell m c s).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_cell m c s)) $$ Hpay
  imod (Rounds.cell_close ER (sched m) (Set.mem_univ (K (c, s))) (fun h => h) (R := 0 + 1) (duties_later m (kcell (c, s)))) $$ [Hat] with Hz
  · isplitr; · iexact HI
    iexact Hat
  iapply Hk
  isplitl [Hp]; · iexact Hp
  isplitl [Hz]; · iexact Hz
  iexists _; iexact HO

end Cert.Scatter

end
-- ==== Proof.Body.lean ====
/-
  The exchange's body on a device: from the state before it to the state after it.
-/
module

public import proofs.«01_k».proof.Proof.Steps

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Where the body's offsets and device numbers point -/

theorem off_own (c : Dev nD) : k0_off1 c = ![c.val, 0, 0] := by rw [k0_off1_eq]; revert c; decide +kernel
theorem off_peer0 (c : Dev nD) : k0_off2 c = ![(peer 0 c).val, 0, 0] := by rw [k0_off2_eq]; revert c; decide +kernel
theorem dev_peer0 (c : Dev nD) : (⟨k0_dev1 c, k0_dev1_lt c⟩ : Dev nD) = peer 0 c := by
  apply Fin.ext; show k0_dev1 c = (peer 0 c).val; rw [k0_dev1_eq]; revert c; decide +kernel
theorem off_peer1 (c : Dev nD) : k0_off3 c = ![(peer 1 c).val, 0, 0] := by rw [k0_off3_eq]; revert c; decide +kernel
theorem dev_peer1 (c : Dev nD) : (⟨k0_dev2 c, k0_dev2_lt c⟩ : Dev nD) = peer 1 c := by
  apply Fin.ext; show k0_dev2 c = (peer 1 c).val; rw [k0_dev2_eq]; revert c; decide +kernel
theorem off_peer2 (c : Dev nD) : k0_off4 c = ![(peer 2 c).val, 0, 0] := by rw [k0_off4_eq]; revert c; decide +kernel
theorem dev_peer2 (c : Dev nD) : (⟨k0_dev3 c, k0_dev3_lt c⟩ : Dev nD) = peer 2 c := by
  apply Fin.ext; show k0_dev3 c = (peer 2 c).val; rw [k0_dev3_eq]; revert c; decide +kernel
theorem off_peer3 (c : Dev nD) : k0_off5 c = ![(peer 3 c).val, 0, 0] := by rw [k0_off5_eq]; revert c; decide +kernel
theorem dev_peer3 (c : Dev nD) : (⟨k0_dev4 c, k0_dev4_lt c⟩ : Dev nD) = peer 3 c := by
  apply Fin.ext; show k0_dev4 c = (peer 3 c).val; rw [k0_dev4_eq]; revert c; decide +kernel
theorem off_peer4 (c : Dev nD) : k0_off6 c = ![(peer 4 c).val, 0, 0] := by rw [k0_off6_eq]; revert c; decide +kernel
theorem dev_peer4 (c : Dev nD) : (⟨k0_dev5 c, k0_dev5_lt c⟩ : Dev nD) = peer 4 c := by
  apply Fin.ext; show k0_dev5 c = (peer 4 c).val; rw [k0_dev5_eq]; revert c; decide +kernel
theorem off_peer5 (c : Dev nD) : k0_off7 c = ![(peer 5 c).val, 0, 0] := by rw [k0_off7_eq]; revert c; decide +kernel
theorem dev_peer5 (c : Dev nD) : (⟨k0_dev6 c, k0_dev6_lt c⟩ : Dev nD) = peer 5 c := by
  apply Fin.ext; show k0_dev6 c = (peer 5 c).val; rw [k0_dev6_eq]; revert c; decide +kernel
theorem off_peer6 (c : Dev nD) : k0_off8 c = ![(peer 6 c).val, 0, 0] := by rw [k0_off8_eq]; revert c; decide +kernel
theorem dev_peer6 (c : Dev nD) : (⟨k0_dev7 c, k0_dev7_lt c⟩ : Dev nD) = peer 6 c := by
  apply Fin.ext; show k0_dev7 c = (peer 6 c).val; rw [k0_dev7_eq]; revert c; decide +kernel

/-- A slot's credit is the same in both arrays and wherever it lies. -/
theorem credit_send (off : Fin 3 → ℕ) (h : ∀ a, off a + S1x1600x1024.size a ≤ S8x1600x1024.size a) : (slot sM off h).view.dmaCredit = N := rfl
theorem credit_gather (off : Fin 3 → ℕ) (h : ∀ a, off a + S1x1600x1024.size a ≤ S8x1600x1024.size a) : (slot gM off h).view.dmaCredit = N := rfl

omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_sm (Φ : Sm → sProp 𝕄) : bigSep Finset.univ Φ
    = iprop(Φ (snd 0) ∗ Φ (snd 1) ∗ Φ (snd 2) ∗ Φ (snd 3) ∗ Φ (snd 4) ∗ Φ (snd 5) ∗ Φ (snd 6) ∗ Φ (rcv 0) ∗ Φ (rcv 1) ∗ Φ (rcv 2) ∗ Φ (rcv 3) ∗ Φ (rcv 4) ∗ Φ (rcv 5) ∗ Φ (rcv 6) ∗ Φ own) :=
  bigSep_univ_eq_bigSepL [snd 0, snd 1, snd 2, snd 3, snd 4, snd 5, snd 6, rcv 0, rcv 1, rcv 2, rcv 3, rcv 4, rcv 5, rcv 6, own] (by decide) (by decide) Φ

set_option maxHeartbeats 4000000 in
set_option maxRecDepth 8000 in
/-- The whole body, from the state before the exchange to the state after it. -/
theorem exchange_body (c : Dev nD) (Kt : PUnit → sProp 𝕄) :
    iprop((start m c ∗ ∃ W, owes (c : Thread nD τ) (O₀ c) W) ∗ ((done m c ∗ free c) -∗ Kt ⟨⟩))
      ⊢ wp frame (wpE (defs₀ (F := F)) 𝒱₀ (c : Thread nD τ) none) Set.univ
          (cc0_scatter_grads (Memref.whole main_arg0) (Memref.isWhole_whole _) (Memref.whole main_v1) (Memref.isWhole_whole _)
            cc0_scratch0 cc0_scratch1 cc0_scratch2) Kt := by
  simp only [cc0_scatter_grads_eq_skeleton]; unfold cc0_scatter_grads_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  unfold start done
  rw [bigSep_seven, bigSep_seven, bigSep_sm, bigSep_sm, bigSep_sm]
  iintro ⟨⟨⟨⟨%K, #HR⟩, Hcopy, ⟨HS0, HS1, HS2, HS3, HS4, HS5, HS6⟩, ⟨HaS0, HaS1, HaS2, HaS3, HaS4, HaS5, HaS6, HaR0, HaR1, HaR2, HaR3, HaR4, HaR5, HaR6, HaO⟩, HcR0, HcR1, HcR2, HcR3, HcR4, HcR5, HcR6⟩, ⟨%W, HO⟩⟩, Hk⟩
  iapply (copy_step m K c _ _ _ (off_own c) _ rfl) $$ [Hcopy]
  · isplitr; · iexact HR
    iexact Hcopy
  iintro HcO
  unfold O₀
  iapply (send_step m K c _ 0 (dev_peer0 c) _ _ _ _ (off_peer0 c) (off_own c) _ _ rfl rfl _ W) $$ [HS0 HO]
  · isplitr; · iexact HR
    isplitl [HS0]; · iexact HS0
    iexact HO
  iintro ⟨HcS0, HO⟩
  iapply (send_step m K c _ 1 (dev_peer1 c) _ _ _ _ (off_peer1 c) (off_own c) _ _ rfl rfl _ W) $$ [HS1 HO]
  · isplitr; · iexact HR
    isplitl [HS1]; · iexact HS1
    iexact HO
  iintro ⟨HcS1, HO⟩
  iapply (send_step m K c _ 2 (dev_peer2 c) _ _ _ _ (off_peer2 c) (off_own c) _ _ rfl rfl _ W) $$ [HS2 HO]
  · isplitr; · iexact HR
    isplitl [HS2]; · iexact HS2
    iexact HO
  iintro ⟨HcS2, HO⟩
  iapply (send_step m K c _ 3 (dev_peer3 c) _ _ _ _ (off_peer3 c) (off_own c) _ _ rfl rfl _ W) $$ [HS3 HO]
  · isplitr; · iexact HR
    isplitl [HS3]; · iexact HS3
    iexact HO
  iintro ⟨HcS3, HO⟩
  iapply (send_step m K c _ 4 (dev_peer4 c) _ _ _ _ (off_peer4 c) (off_own c) _ _ rfl rfl _ W) $$ [HS4 HO]
  · isplitr; · iexact HR
    isplitl [HS4]; · iexact HS4
    iexact HO
  iintro ⟨HcS4, HO⟩
  iapply (send_step m K c _ 5 (dev_peer5 c) _ _ _ _ (off_peer5 c) (off_own c) _ _ rfl rfl _ W) $$ [HS5 HO]
  · isplitr; · iexact HR
    isplitl [HS5]; · iexact HS5
    iexact HO
  iintro ⟨HcS5, HO⟩
  iapply (send_step m K c _ 6 (dev_peer6 c) _ _ _ _ (off_peer6 c) (off_own c) _ _ rfl rfl _ W) $$ [HS6 HO]
  · isplitr; · iexact HR
    isplitl [HS6]; · iexact HS6
    iexact HO
  iintro ⟨HcS6, HO⟩
  ihave HF := (show owes (c : Thread nD τ) 0 W ⊢ (free c : sProp 𝕄) from by unfold free; iintro H; iexists W; iexact H) $$ HO
  iapply (wait_step m K c (rcv 0) _ _ _ rfl (credit_gather _ _)) $$ [HcR0 HaR0 HF]
  · isplitr; · iexact HR
    isplitl [HcR0]; · iexact HcR0
    isplitl [HaR0]; · iexact HaR0
    iexact HF
  iintro ⟨HpR0, HzR0, HF⟩
  iapply (wait_step m K c (rcv 1) _ _ _ rfl (credit_gather _ _)) $$ [HcR1 HaR1 HF]
  · isplitr; · iexact HR
    isplitl [HcR1]; · iexact HcR1
    isplitl [HaR1]; · iexact HaR1
    iexact HF
  iintro ⟨HpR1, HzR1, HF⟩
  iapply (wait_step m K c (rcv 2) _ _ _ rfl (credit_gather _ _)) $$ [HcR2 HaR2 HF]
  · isplitr; · iexact HR
    isplitl [HcR2]; · iexact HcR2
    isplitl [HaR2]; · iexact HaR2
    iexact HF
  iintro ⟨HpR2, HzR2, HF⟩
  iapply (wait_step m K c (rcv 3) _ _ _ rfl (credit_gather _ _)) $$ [HcR3 HaR3 HF]
  · isplitr; · iexact HR
    isplitl [HcR3]; · iexact HcR3
    isplitl [HaR3]; · iexact HaR3
    iexact HF
  iintro ⟨HpR3, HzR3, HF⟩
  iapply (wait_step m K c (rcv 4) _ _ _ rfl (credit_gather _ _)) $$ [HcR4 HaR4 HF]
  · isplitr; · iexact HR
    isplitl [HcR4]; · iexact HcR4
    isplitl [HaR4]; · iexact HaR4
    iexact HF
  iintro ⟨HpR4, HzR4, HF⟩
  iapply (wait_step m K c (rcv 5) _ _ _ rfl (credit_gather _ _)) $$ [HcR5 HaR5 HF]
  · isplitr; · iexact HR
    isplitl [HcR5]; · iexact HcR5
    isplitl [HaR5]; · iexact HaR5
    iexact HF
  iintro ⟨HpR5, HzR5, HF⟩
  iapply (wait_step m K c (rcv 6) _ _ _ rfl (credit_gather _ _)) $$ [HcR6 HaR6 HF]
  · isplitr; · iexact HR
    isplitl [HcR6]; · iexact HcR6
    isplitl [HaR6]; · iexact HaR6
    iexact HF
  iintro ⟨HpR6, HzR6, HF⟩
  iapply (wait_step m K c (snd 0) _ _ _ rfl (credit_send _ _)) $$ [HcS0 HaS0 HF]
  · isplitr; · iexact HR
    isplitl [HcS0]; · iexact HcS0
    isplitl [HaS0]; · iexact HaS0
    iexact HF
  iintro ⟨HpS0, HzS0, HF⟩
  iapply (wait_step m K c (snd 1) _ _ _ rfl (credit_send _ _)) $$ [HcS1 HaS1 HF]
  · isplitr; · iexact HR
    isplitl [HcS1]; · iexact HcS1
    isplitl [HaS1]; · iexact HaS1
    iexact HF
  iintro ⟨HpS1, HzS1, HF⟩
  iapply (wait_step m K c (snd 2) _ _ _ rfl (credit_send _ _)) $$ [HcS2 HaS2 HF]
  · isplitr; · iexact HR
    isplitl [HcS2]; · iexact HcS2
    isplitl [HaS2]; · iexact HaS2
    iexact HF
  iintro ⟨HpS2, HzS2, HF⟩
  iapply (wait_step m K c (snd 3) _ _ _ rfl (credit_send _ _)) $$ [HcS3 HaS3 HF]
  · isplitr; · iexact HR
    isplitl [HcS3]; · iexact HcS3
    isplitl [HaS3]; · iexact HaS3
    iexact HF
  iintro ⟨HpS3, HzS3, HF⟩
  iapply (wait_step m K c (snd 4) _ _ _ rfl (credit_send _ _)) $$ [HcS4 HaS4 HF]
  · isplitr; · iexact HR
    isplitl [HcS4]; · iexact HcS4
    isplitl [HaS4]; · iexact HaS4
    iexact HF
  iintro ⟨HpS4, HzS4, HF⟩
  iapply (wait_step m K c (snd 5) _ _ _ rfl (credit_send _ _)) $$ [HcS5 HaS5 HF]
  · isplitr; · iexact HR
    isplitl [HcS5]; · iexact HcS5
    isplitl [HaS5]; · iexact HaS5
    iexact HF
  iintro ⟨HpS5, HzS5, HF⟩
  iapply (wait_step m K c (snd 6) _ _ _ rfl (credit_send _ _)) $$ [HcS6 HaS6 HF]
  · isplitr; · iexact HR
    isplitl [HcS6]; · iexact HcS6
    isplitl [HaS6]; · iexact HaS6
    iexact HF
  iintro ⟨HpS6, HzS6, HF⟩
  iapply (wait_step m K c own _ _ _ rfl (credit_gather _ _)) $$ [HcO HaO HF]
  · isplitr; · iexact HR
    isplitl [HcO]; · iexact HcO
    isplitl [HaO]; · iexact HaO
    iexact HF
  iintro ⟨HpO, HzO, HF⟩
  rw [wp_ret]; imodintro
  iapply Hk
  isplitr [HF]
  · isplitl [HpS0 HpS1 HpS2 HpS3 HpS4 HpS5 HpS6 HpR0 HpR1 HpR2 HpR3 HpR4 HpR5 HpR6 HpO]
    · isplitl [HpS0]; · iexact HpS0
      isplitl [HpS1]; · iexact HpS1
      isplitl [HpS2]; · iexact HpS2
      isplitl [HpS3]; · iexact HpS3
      isplitl [HpS4]; · iexact HpS4
      isplitl [HpS5]; · iexact HpS5
      isplitl [HpS6]; · iexact HpS6
      isplitl [HpR0]; · iexact HpR0
      isplitl [HpR1]; · iexact HpR1
      isplitl [HpR2]; · iexact HpR2
      isplitl [HpR3]; · iexact HpR3
      isplitl [HpR4]; · iexact HpR4
      isplitl [HpR5]; · iexact HpR5
      isplitl [HpR6]; · iexact HpR6
      iexact HpO
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      isplitl [HzR6]; · iexact HzR6
      iexact HzO
  · iexact HF

end Cert.Scatter

end
-- ==== Proof.GatherKit.lean ====
/-
  What the programs that are one gather have in common: where the body's offsets and device numbers point, how a device's
  buffers fall apart, and the gathered array when the devices hold the blocks of a whole one.
-/
module

public import proofs.«01_k».proof.Proof.GatherRun
public import proofs.«01_k».proof.Proof.Body
public import Idealize.ShloMosaic.Lib.Layout

@[expose] public section

noncomputable section

namespace Cert.Gather

open Cert.Scatter (peer Sm snd rcv own)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The semaphores in the order the kernels declare them. -/
def place15 : Sm → Fin 15
  | .inl k => ⟨k.val, by omega⟩
  | .inr (.inl k) => ⟨7 + k.val, by omega⟩
  | .inr (.inr _) => ⟨14, by omega⟩

theorem place15_inj : Function.Injective place15 := by decide

/-- The offset of the slot of the `k`-th peer, and the peer's number, as the body computes them. -/
def offs (c : Dev nD) : Fin 7 → Fin 3 → ℕ
  | ⟨0, _⟩ => Cert.KernelIdeal.k0_off2 c
  | ⟨1, _⟩ => Cert.KernelIdeal.k0_off3 c
  | ⟨2, _⟩ => Cert.KernelIdeal.k0_off4 c
  | ⟨3, _⟩ => Cert.KernelIdeal.k0_off5 c
  | ⟨4, _⟩ => Cert.KernelIdeal.k0_off6 c
  | ⟨5, _⟩ => Cert.KernelIdeal.k0_off7 c
  | ⟨6, _⟩ => Cert.KernelIdeal.k0_off8 c

def devs (c : Dev nD) : Fin 7 → ℕ
  | ⟨0, _⟩ => Cert.KernelIdeal.k0_dev1 c
  | ⟨1, _⟩ => Cert.KernelIdeal.k0_dev2 c
  | ⟨2, _⟩ => Cert.KernelIdeal.k0_dev3 c
  | ⟨3, _⟩ => Cert.KernelIdeal.k0_dev4 c
  | ⟨4, _⟩ => Cert.KernelIdeal.k0_dev5 c
  | ⟨5, _⟩ => Cert.KernelIdeal.k0_dev6 c
  | ⟨6, _⟩ => Cert.KernelIdeal.k0_dev7 c

theorem offs_at (c : Dev nD) : ∀ k : Fin 7, offs c k = ![(peer k c).val, 0, 0]
  | ⟨0, _⟩ => Cert.Scatter.off_peer0 c
  | ⟨1, _⟩ => Cert.Scatter.off_peer1 c
  | ⟨2, _⟩ => Cert.Scatter.off_peer2 c
  | ⟨3, _⟩ => Cert.Scatter.off_peer3 c
  | ⟨4, _⟩ => Cert.Scatter.off_peer4 c
  | ⟨5, _⟩ => Cert.Scatter.off_peer5 c
  | ⟨6, _⟩ => Cert.Scatter.off_peer6 c

theorem devs_at (c : Dev nD) : ∀ k : Fin 7, devs c k = (peer k c).val
  | ⟨0, _⟩ => congrArg Fin.val (Cert.Scatter.dev_peer0 c)
  | ⟨1, _⟩ => congrArg Fin.val (Cert.Scatter.dev_peer1 c)
  | ⟨2, _⟩ => congrArg Fin.val (Cert.Scatter.dev_peer2 c)
  | ⟨3, _⟩ => congrArg Fin.val (Cert.Scatter.dev_peer3 c)
  | ⟨4, _⟩ => congrArg Fin.val (Cert.Scatter.dev_peer4 c)
  | ⟨5, _⟩ => congrArg Fin.val (Cert.Scatter.dev_peer5 c)
  | ⟨6, _⟩ => congrArg Fin.val (Cert.Scatter.dev_peer6 c)

theorem devs_lt (c : Dev nD) (k : Fin 7) : devs c k < nD := by rw [devs_at]; exact (peer k c).isLt

section

variable {sig : RefSig} {e : EltTy} {r w : ℕ} (A : Arrays sig r w e)
variable {Val : EltTy → Type} [∀ e, Nonempty (Val e)]

local notation "𝕄" => MT nD τ sig Unit Val ℕ (UU sig) ℕ

variable (m : (ℓ : Loc nD τ sig) → Buf Val ℓ) {Λ₀ : Idealize.SL.Sem.Labels} (defs₀ : Defs nD τ sig Val Λ₀)

theorem offs_inb (c : Dev nD) (k : Fin 7) : ∀ a, offs c k a + (Cut r w).size a ≤ (All r w).size a := by
  rw [offs_at]; exact inb_at _

/-- The slot a device waits to be written by its `k`-th peer. -/
abbrev slotOf (c : Dev nD) (k : Fin 7) : Memref sig .tc .hbm (One r w) e := slot A.G A.hs (offs c k) (offs_inb c k)

theorem slotOf_at (c : Dev nD) (k : Fin 7) : slotOf A c k = slotAt A.G A.hs (peer k c) := slot_at A.G A.hs (peer k c) _ _ (offs_at c k)

/-- The printed body, from the state before the gather to the state after it. -/
theorem printed_spec (c : Dev nD) (off : Fin 3 → ℕ) (h : ∀ a, off a + (Cut r w).size a ≤ (All r w).size a)
    (hoff : off = ![c.val, 0, 0]) (hsc : (slot A.G A.hs off h).view.ref.isScScratch = false) (hx : A.x.view.WordExact)
    (hg : ∀ j, (slotAt A.G A.hs j).view.WordExact) (Q : PUnit.{1} → sProp 𝕄) :
    iprop((start A.port m c ∗ ∃ W, owes (c : Thread nD τ) (O₀ A.port c) W) ∗ ((done A.port m c ∗ free c) -∗ Q ⟨⟩))
      ⊢ wp frame (wpE defs₀ 𝒱₀ (c : Thread nD τ) none) Set.univ
          (body A.port (slot A.G A.hs off h) (fun k => ⟨devs c k, devs_lt c k⟩) (slotOf A c) hsc hx
            (by rw [slot_at A.G A.hs c off h hoff]; exact hg c) (fun k => by rw [slotOf_at]; exact hg (peer k c))) Q :=
  body_spec A.port m defs₀ (slot A.G A.hs off h) (fun k => ⟨devs c k, devs_lt c k⟩) (slotOf A c) hsc hx _ _ c
    (slot_at A.G A.hs c off h hoff) (fun k => Fin.ext (devs_at c k)) (fun k => by rw [slotOf_at]; exact A.credit_g (peer k c)) Q

/-- The buffers of a device that are neither of two. -/
def others (a b : Ref sig .tc) (c : Dev nD) : sProp 𝕄 :=
  bigSep (((Finset.univ.filter fun d : Ref sig .tc => ¬ d.isScoped).erase a).erase b) fun d => (c : Thread nD τ).loc d ↦{fullShare} m ((c : Thread nD τ).loc d)

theorem bufs_split (a b : Ref sig .tc) (ha : a ∈ Finset.univ.filter fun d : Ref sig .tc => ¬ d.isScoped)
    (hb : b ∈ (Finset.univ.filter fun d : Ref sig .tc => ¬ d.isScoped).erase a) (c : Dev nD) :
    (unscopedBufs c (fun d => m ((c : Thread nD τ).loc d)) : sProp 𝕄)
      = iprop(((c : Thread nD τ).loc a ↦{fullShare} m ((c : Thread nD τ).loc a))
        ∗ ((c : Thread nD τ).loc b ↦{fullShare} m ((c : Thread nD τ).loc b)) ∗ others m a b c) := by
  unfold unscopedBufs others
  rw [bigSep_erase (i := a) ha, bigSep_erase (i := b) (s := Finset.erase _ _) hb]
  rfl

end

/-! ## Blocks of a whole array -/

/-- The blocks of an array, one below the other, are the array: element `(j, a, b)` of the one read as 8 × r × w is
    element `(a, b)` of block `j`. -/
theorem blocks_stack {α : Type} {r n w : ℕ} (hn : n = 8 * r) (t : Layout.Tiles (One r w) ⟨2, ![n, w]⟩ 0 8)
    (hc : (⟨2, ![n, w]⟩ : Shape).ShapeCasts (All r w)) (X : (⟨2, ![n, w]⟩ : Shape).Idx → α) (i : (All r w).Idx) :
    Layout.block (One r w) ⟨2, ![n, w]⟩ 0 8 (lead i) X t (ValueIdx.ix2 (i (1 : Fin 3)) (i (2 : Fin 3))) = shapeCast (All r w) X hc i := by
  rw [Layout.block_apply]
  refine (Idealize.ShloMosaic.shapeCast_apply X _ _ _ ?_).symm
  rw [Shape.rowMajor_val_two, Shape.rowMajor_val_three]
  show (((lead i).val * r + (i (1 : Fin 3)).val) * w + (i (2 : Fin 3)).val) = ((i (0 : Fin 3)).val * r + (i (1 : Fin 3)).val) * w + (i (2 : Fin 3)).val
  rfl

/-- What a gather leaves of an array the devices hold the blocks of is the array. -/
theorem gathered_whole {α : Type} {r n w : ℕ} (hn : n = 8 * r) (t : Layout.Tiles (One r w) ⟨2, ![n, w]⟩ 0 8)
    (hc : (⟨2, ![n, w]⟩ : Shape).ShapeCasts (All r w)) (x : Dev nD → (One r w).Idx → α) (X : (⟨2, ![n, w]⟩ : Shape).Idx → α)
    (h : ∀ c, x c = Layout.block (One r w) ⟨2, ![n, w]⟩ 0 8 c X t) :
    (fun i : (All r w).Idx => x (lead i) (ValueIdx.ix2 (i (1 : Fin 3)) (i (2 : Fin 3)))) = shapeCast (All r w) X hc :=
  funext fun i => by rw [h]; exact blocks_stack hn t hc X i

end Cert.Gather

end
-- ==== Proof.WeightsGather.lean ====
/-
  The gather of the weights: every device's block of the weights in the slots of an array every device holds whole.
-/
module

public import proofs.«01_k».proof.Proof.GatherKit
public import proofs.«01_k».proof.Proof.Gen.WeightsIdeal
public import proofs.«01_k».proof.Proof.Gen.WeightsIdeal.Skeleton
public import proofs.«01_k».proof.Proof.Gen.WeightsIdeal.Launch
public import proofs.«01_k».proof.Proof.Gen.WeightsIdeal.Points

@[expose] public section

noncomputable section

namespace Cert.Gather.Weights

open Cert.WeightsIdeal Cert.WeightsIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev xM : Memref sig .tc .hbm (One 1584 1024) .bf16 := Memref.whole main_arg0
abbrev gM : Memref sig .tc .hbm (All 1584 1024) .bf16 := Memref.whole main_v1

/-- The device's block, the gathered array and the semaphores. -/
abbrev arrays : Arrays sig 1584 1024 .bf16 :=
  { x := xM, G := gM, hs := squeezes_S1x1584x1024_S1584x1024, q := place15, q_inj := place15_inj, N := xM.view.dmaCredit
    N_pos := View.dmaCredit_pos _ (by decide), credit_x := rfl, credit_g := fun j => rfl
    x_whole := View.set_whole main_arg0, G_whole := View.set_whole main_v1 }

local notation "𝕄" => MT nD τ sig Unit (Elt F) ℕ (UU sig) ℕ

variable (m : (ℓ : Loc nD τ sig) → Buf (Elt F) ℓ) (ρ : Dev nD → PrngReg)

theorem off_own (c : Dev nD) : k0_off1 c = ![c.val, 0, 0] := Cert.Scatter.off_own c

/-- Every slot lies on whole words. -/
theorem exact_at (j : Fin 8) : (slotAt gM arrays.hs j).view.WordExact := by
  have h : (slot gM arrays.hs (k0_off1 j) (k0_off1_inb j)).view.WordExact :=
    ((Memref.isWhole_whole main_v1).wordExact_slice rfl _ (k0_off1_wordsbf16 j)).reshape _ _
  rw [slot_at gM arrays.hs j _ _ (off_own j)] at h
  exact h

set_option maxHeartbeats 4000000 in
set_option maxRecDepth 8000 in
theorem printed (c : Dev nD) (Q : PUnit.{1} → sProp 𝕄) :
    iprop((start arrays.port m c ∗ ∃ W, owes (c : Thread nD τ) (O₀ arrays.port c) W) ∗ ((done arrays.port m c ∗ free c) -∗ Q ⟨⟩))
      ⊢ wp frame (wpE (defs₀ (F := F)) 𝒱₀ (c : Thread nD τ) none) Set.univ
          (cc0_gather_weights (Memref.whole main_arg0) (Memref.isWhole_whole _) (Memref.whole main_v1) (Memref.isWhole_whole _)
            cc0_scratch0 cc0_scratch1 cc0_scratch2) Q := by
  simp only [cc0_gather_weights_eq_skeleton]; unfold cc0_gather_weights_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  exact printed_spec arrays m (defs₀ (F := F)) c (k0_off1 c) (k0_off1_inb c) (off_own c) rfl
    (Memref.isWhole_whole _).wordExact exact_at Q

theorem call : Call arrays.port m cfgs (defs₀ (F := F)) 0 where
  bare := inferInstanceAs (IsEmpty (Fin 0))
  once := N_0
  inj := cellOf_inj
  wins := winFacts0
  sems := by decide
  body c t K := printed m c fun _ => K

/-- Every weakly fair execution ends with each device's block as it was, element `(j, a, b)` of the gathered array at
    element `(a, b)` of device `j`'s block, and every semaphore at zero. -/
theorem run : θ_run (defs (F := F)) (onTc (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = fun i : (All 1584 1024).Idx =>
          m ((lead i : Thread nD τ).loc main_arg0) (ValueIdx.ix2 (i (1 : Fin 3)) (i (2 : Fin 3)))) ∧ r.2.sem = fun _ => 0) := by
  have h := run_alone (ρ := ρ) (C₁ := call m) (main := main (F := F)) (others m main_arg0 main_v1)
    (fun c => bufs_split m main_arg0 main_v1 (by decide) (by decide) c) (fun c => rfl) (by decide)
  refine (θ_run _ _ _).mono (fun r h => ⟨fun c => ⟨(h.1 c).1, (h.1 c).2.trans ?_⟩, h.2⟩) h
  exact View.write_whole_univ main_v1 _ _

end Cert.Gather.Weights

end
-- ==== Proof.ModGather.lean ====
/-
  The gather of the modulation blocks: every device's block in the slots of an array every device holds whole.
-/
module

public import proofs.«01_k».proof.Proof.GatherKit
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points

@[expose] public section

noncomputable section

namespace Cert.Gather.Mod

open Cert.ModIdeal Cert.ModIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev xM : Memref sig .tc .hbm (One 8 768) .f32 := Memref.whole main_arg0
abbrev gM : Memref sig .tc .hbm (All 8 768) .f32 := Memref.whole main_v1

/-- The device's block, the gathered array and the semaphores. -/
abbrev arrays : Arrays sig 8 768 .f32 :=
  { x := xM, G := gM, hs := squeezes_S1x8x768_S8x768, q := place15, q_inj := place15_inj, N := xM.view.dmaCredit
    N_pos := View.dmaCredit_pos _ (by decide), credit_x := rfl, credit_g := fun j => rfl
    x_whole := View.set_whole main_arg0, G_whole := View.set_whole main_v1 }

local notation "𝕄" => MT nD τ sig Unit (Elt F) ℕ (UU sig) ℕ

variable (m : (ℓ : Loc nD τ sig) → Buf (Elt F) ℓ) (ρ : Dev nD → PrngReg)

theorem off_own (c : Dev nD) : k0_off1 c = ![c.val, 0, 0] := Cert.Scatter.off_own c

/-- Every slot lies on whole words. -/
theorem exact_at (j : Fin 8) : (slotAt gM arrays.hs j).view.WordExact := (View.wordExact_bits rfl).reshape _ _

set_option maxHeartbeats 4000000 in
set_option maxRecDepth 8000 in
theorem printed (c : Dev nD) (Q : PUnit.{1} → sProp 𝕄) :
    iprop((start arrays.port m c ∗ ∃ W, owes (c : Thread nD τ) (O₀ arrays.port c) W) ∗ ((done arrays.port m c ∗ free c) -∗ Q ⟨⟩))
      ⊢ wp frame (wpE (defs₀ (F := F)) 𝒱₀ (c : Thread nD τ) none) Set.univ
          (cc0_gather_mod (Memref.whole main_arg0) (Memref.isWhole_whole _) (Memref.whole main_v1) (Memref.isWhole_whole _)
            cc0_scratch0 cc0_scratch1 cc0_scratch2) Q := by
  simp only [cc0_gather_mod_eq_skeleton]; unfold cc0_gather_mod_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  exact printed_spec arrays m (defs₀ (F := F)) c (k0_off1 c) (k0_off1_inb c) (off_own c) rfl
    (Memref.isWhole_whole _).wordExact exact_at Q

theorem call : Call arrays.port m cfgs (defs₀ (F := F)) 0 where
  bare := inferInstanceAs (IsEmpty (Fin 0))
  once := N_0
  inj := cellOf_inj
  wins := winFacts0
  sems := by decide
  body c t K := printed m c fun _ => K

/-- Every weakly fair execution ends with each device's block as it was, element `(j, a, b)` of the gathered array at
    element `(a, b)` of device `j`'s block, and every semaphore at zero. -/
theorem run : θ_run (defs (F := F)) (onTc (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = fun i : (All 8 768).Idx =>
          m ((lead i : Thread nD τ).loc main_arg0) (ValueIdx.ix2 (i (1 : Fin 3)) (i (2 : Fin 3)))) ∧ r.2.sem = fun _ => 0) := by
  have h := run_alone (ρ := ρ) (C₁ := call m) (main := main (F := F)) (others m main_arg0 main_v1)
    (fun c => bufs_split m main_arg0 main_v1 (by decide) (by decide) c) (fun c => rfl) (by decide)
  refine (θ_run _ _ _).mono (fun r h => ⟨fun c => ⟨(h.1 c).1, (h.1 c).2.trans ?_⟩, h.2⟩) h
  exact View.write_whole_univ main_v1 _ _

end Cert.Gather.Mod

end
-- ==== Proof.CondGather.lean ====
/-
  The gather of the conditioning blocks: every device's block in the slots of an array every device holds whole.
-/
module

public import proofs.«01_k».proof.Proof.GatherKit
public import proofs.«01_k».proof.Proof.Gen.CondIdeal
public import proofs.«01_k».proof.Proof.Gen.CondIdeal.Skeleton
public import proofs.«01_k».proof.Proof.Gen.CondIdeal.Launch
public import proofs.«01_k».proof.Proof.Gen.CondIdeal.Points

@[expose] public section

noncomputable section

namespace Cert.Gather.Cond

open Cert.CondIdeal Cert.CondIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev xM : Memref sig .tc .hbm (One 8 512) .f32 := Memref.whole main_arg0
abbrev gM : Memref sig .tc .hbm (All 8 512) .f32 := Memref.whole main_v1

/-- The device's block, the gathered array and the semaphores. -/
abbrev arrays : Arrays sig 8 512 .f32 :=
  { x := xM, G := gM, hs := squeezes_S1x8x512_S8x512, q := place15, q_inj := place15_inj, N := xM.view.dmaCredit
    N_pos := View.dmaCredit_pos _ (by decide), credit_x := rfl, credit_g := fun j => rfl
    x_whole := View.set_whole main_arg0, G_whole := View.set_whole main_v1 }

local notation "𝕄" => MT nD τ sig Unit (Elt F) ℕ (UU sig) ℕ

variable (m : (ℓ : Loc nD τ sig) → Buf (Elt F) ℓ) (ρ : Dev nD → PrngReg)

theorem off_own (c : Dev nD) : k0_off1 c = ![c.val, 0, 0] := Cert.Scatter.off_own c

/-- Every slot lies on whole words. -/
theorem exact_at (j : Fin 8) : (slotAt gM arrays.hs j).view.WordExact := (View.wordExact_bits rfl).reshape _ _

set_option maxHeartbeats 4000000 in
set_option maxRecDepth 8000 in
theorem printed (c : Dev nD) (Q : PUnit.{1} → sProp 𝕄) :
    iprop((start arrays.port m c ∗ ∃ W, owes (c : Thread nD τ) (O₀ arrays.port c) W) ∗ ((done arrays.port m c ∗ free c) -∗ Q ⟨⟩))
      ⊢ wp frame (wpE (defs₀ (F := F)) 𝒱₀ (c : Thread nD τ) none) Set.univ
          (cc0_gather_small (Memref.whole main_arg0) (Memref.isWhole_whole _) (Memref.whole main_v1) (Memref.isWhole_whole _)
            cc0_scratch0 cc0_scratch1 cc0_scratch2) Q := by
  simp only [cc0_gather_small_eq_skeleton]; unfold cc0_gather_small_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  exact printed_spec arrays m (defs₀ (F := F)) c (k0_off1 c) (k0_off1_inb c) (off_own c) rfl
    (Memref.isWhole_whole _).wordExact exact_at Q

theorem call : Call arrays.port m cfgs (defs₀ (F := F)) 0 where
  bare := inferInstanceAs (IsEmpty (Fin 0))
  once := N_0
  inj := cellOf_inj
  wins := winFacts0
  sems := by decide
  body c t K := printed m c fun _ => K

/-- Every weakly fair execution ends with each device's block as it was, element `(j, a, b)` of the gathered array at
    element `(a, b)` of device `j`'s block, and every semaphore at zero. -/
theorem run : θ_run (defs (F := F)) (onTc (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = fun i : (All 8 512).Idx =>
          m ((lead i : Thread nD τ).loc main_arg0) (ValueIdx.ix2 (i (1 : Fin 3)) (i (2 : Fin 3)))) ∧ r.2.sem = fun _ => 0) := by
  have h := run_alone (ρ := ρ) (C₁ := call m) (main := main (F := F)) (others m main_arg0 main_v1)
    (fun c => bufs_split m main_arg0 main_v1 (by decide) (by decide) c) (fun c => rfl) (by decide)
  refine (θ_run _ _ _).mono (fun r h => ⟨fun c => ⟨(h.1 c).1, (h.1 c).2.trans ?_⟩, h.2⟩) h
  exact View.write_whole_univ main_v1 _ _

end Cert.Gather.Cond

end
-- ==== Proof.Gathers.lean ====
/-
  The claims about the three gathers: the frames and the values, from the one run of each, over any floats.
-/
module

public import proofs.«01_k».proof.Defs
public import proofs.«01_k».proof.Proof.WeightsGather
public import proofs.«01_k».proof.Proof.Gen.Weights
public import proofs.«01_k».proof.Proof.Gen.WeightsReference
public import proofs.«01_k».proof.Proof.Gen.WeightsReferenceIdeal
public import proofs.«01_k».proof.Proof.Gen.WeightsReferenceIdeal.Run
public import proofs.«01_k».proof.Proof.ModGather
public import proofs.«01_k».proof.Proof.Gen.Mod
public import proofs.«01_k».proof.Proof.Gen.ModReference
public import proofs.«01_k».proof.Proof.Gen.ModReferenceIdeal
public import proofs.«01_k».proof.Proof.Gen.ModReferenceIdeal.Run
public import proofs.«01_k».proof.Proof.CondGather
public import proofs.«01_k».proof.Proof.Gen.Cond
public import proofs.«01_k».proof.Proof.Gen.CondReference
public import proofs.«01_k».proof.Proof.Gen.CondReferenceIdeal
public import proofs.«01_k».proof.Proof.Gen.CondReferenceIdeal.Run
public import Idealize.ShloMosaic.Adequacy
public import Idealize.ShloMosaic.Init
public import Idealize.ShloMosaic.Lib.Quiescent

@[expose] public section

noncomputable section

namespace Cert.Gather

open Idealize.ShloMosaic Idealize.ShloMosaic.TcCoe Idealize.SL.Sem

/-! ## The weights -/

namespace Weights

section Same

attribute [local instance] Cert.Weights.Gen.facts Cert.WeightsIdeal.Gen.facts

theorem bodies_same : Cert.Weights.defs₀ (F := Bits) = Cert.WeightsIdeal.defs₀ (F := Bits) := by
  unfold Cert.Weights.defs₀ Cert.WeightsIdeal.defs₀
  refine congrArg Defs.onTc ?_
  funext l a
  match l with
  | 0 => rfl

theorem defs_same : Cert.Weights.defs (F := Bits) = Cert.WeightsIdeal.defs (F := Bits) := congrArg (Pipeline.defs Cert.Weights.pcfgs) bodies_same

end Same

theorem frame_kernel : @Cert.quiescent_Weights Cert.Weights.Gen.facts := by
  intro m ρ _
  rw [defs_same]
  exact (θ_run Cert.WeightsIdeal.defs _ _).mono (fun _ h => ⟨fun c => (h.1 c).1, h.2⟩) (run (F := Bits) m ρ)

theorem frame_kernelIdeal : @Cert.quiescent_WeightsIdeal Cert.WeightsIdeal.Gen.facts := fun m ρ _ =>
  (θ_run Cert.WeightsIdeal.defs _ _).mono (fun _ h => ⟨fun c => (h.1 c).1, h.2⟩) (run (F := Ideal) m ρ)

theorem frame_referenceIdeal : @Cert.quiescent_WeightsReferenceIdeal Cert.WeightsReferenceIdeal.Gen.facts := fun m ρ _ =>
  (θ_run Cert.WeightsReferenceIdeal.defs _ _).mono (fun r h => ⟨fun c => (h c).2, sem_eq_zero_of_no_sems (by decide) r.2⟩)
    (Cert.WeightsReferenceIdeal.Value.run (F := Ideal) m ρ)

theorem frame_reference : @Cert.quiescent_WeightsReference Cert.WeightsReference.Gen.facts := fun m ρ _ =>
  (θ_run Cert.WeightsReferenceIdeal.defs _ _).mono (fun r h => ⟨fun c => (h c).2, sem_eq_zero_of_no_sems (by decide) r.2⟩)
    (Cert.WeightsReferenceIdeal.Value.run (F := Bits) m ρ)

theorem values : @Cert.algebraic_WeightsIdeal_WeightsReferenceIdeal Cert.WeightsIdeal.Gen.facts Cert.WeightsReferenceIdeal.Gen.facts := by
  intro m g m' g' _ hin
  exact ⟨_, (θ_run Cert.WeightsIdeal.defs _ _).mono (fun _ h c => ⟨(h.1 c).2.trans (gathered_whole (by decide) _ _ _ _ hin), (h.1 c).1⟩) (run (F := Ideal) m g),
    (θ_run Cert.WeightsReferenceIdeal.defs _ _).mono (fun _ h => h 0) (Cert.WeightsReferenceIdeal.Value.run (F := Ideal) m' g')⟩

theorem exact : @Cert.bitexact_Weights_WeightsReference Cert.Weights.Gen.facts Cert.WeightsReference.Gen.facts := by
  intro m g m' g' _ hin
  rw [defs_same]
  exact ⟨_, (θ_run Cert.WeightsIdeal.defs _ _).mono (fun _ h c => ⟨(h.1 c).2.trans (gathered_whole (by decide) _ _ _ _ hin), (h.1 c).1⟩) (run (F := Bits) m g),
    (θ_run Cert.WeightsReferenceIdeal.defs _ _).mono (fun _ h => h 0) (Cert.WeightsReferenceIdeal.Value.run (F := Bits) m' g')⟩

end Weights

/-! ## The modulation -/

namespace Mod

section Same

attribute [local instance] Cert.Mod.Gen.facts Cert.ModIdeal.Gen.facts

theorem bodies_same : Cert.Mod.defs₀ (F := Bits) = Cert.ModIdeal.defs₀ (F := Bits) := by
  unfold Cert.Mod.defs₀ Cert.ModIdeal.defs₀
  refine congrArg Defs.onTc ?_
  funext l a
  match l with
  | 0 => rfl

theorem defs_same : Cert.Mod.defs (F := Bits) = Cert.ModIdeal.defs (F := Bits) := congrArg (Pipeline.defs Cert.Mod.pcfgs) bodies_same

end Same

theorem frame_kernel : @Cert.quiescent_Mod Cert.Mod.Gen.facts := by
  intro m ρ _
  rw [defs_same]
  exact (θ_run Cert.ModIdeal.defs _ _).mono (fun _ h => ⟨fun c => (h.1 c).1, h.2⟩) (run (F := Bits) m ρ)

theorem frame_kernelIdeal : @Cert.quiescent_ModIdeal Cert.ModIdeal.Gen.facts := fun m ρ _ =>
  (θ_run Cert.ModIdeal.defs _ _).mono (fun _ h => ⟨fun c => (h.1 c).1, h.2⟩) (run (F := Ideal) m ρ)

theorem frame_referenceIdeal : @Cert.quiescent_ModReferenceIdeal Cert.ModReferenceIdeal.Gen.facts := fun m ρ _ =>
  (θ_run Cert.ModReferenceIdeal.defs _ _).mono (fun r h => ⟨fun c => (h c).2, sem_eq_zero_of_no_sems (by decide) r.2⟩)
    (Cert.ModReferenceIdeal.Value.run (F := Ideal) m ρ)

theorem frame_reference : @Cert.quiescent_ModReference Cert.ModReference.Gen.facts := fun m ρ _ =>
  (θ_run Cert.ModReferenceIdeal.defs _ _).mono (fun r h => ⟨fun c => (h c).2, sem_eq_zero_of_no_sems (by decide) r.2⟩)
    (Cert.ModReferenceIdeal.Value.run (F := Bits) m ρ)

theorem values : @Cert.algebraic_ModIdeal_ModReferenceIdeal Cert.ModIdeal.Gen.facts Cert.ModReferenceIdeal.Gen.facts := by
  intro m g m' g' _ hin
  exact ⟨_, (θ_run Cert.ModIdeal.defs _ _).mono (fun _ h c => ⟨(h.1 c).2.trans (gathered_whole (by decide) _ _ _ _ hin), (h.1 c).1⟩) (run (F := Ideal) m g),
    (θ_run Cert.ModReferenceIdeal.defs _ _).mono (fun _ h => h 0) (Cert.ModReferenceIdeal.Value.run (F := Ideal) m' g')⟩

theorem exact : @Cert.bitexact_Mod_ModReference Cert.Mod.Gen.facts Cert.ModReference.Gen.facts := by
  intro m g m' g' _ hin
  rw [defs_same]
  exact ⟨_, (θ_run Cert.ModIdeal.defs _ _).mono (fun _ h c => ⟨(h.1 c).2.trans (gathered_whole (by decide) _ _ _ _ hin), (h.1 c).1⟩) (run (F := Bits) m g),
    (θ_run Cert.ModReferenceIdeal.defs _ _).mono (fun _ h => h 0) (Cert.ModReferenceIdeal.Value.run (F := Bits) m' g')⟩

end Mod

/-! ## The conditioning -/

namespace Cond

section Same

attribute [local instance] Cert.Cond.Gen.facts Cert.CondIdeal.Gen.facts

theorem bodies_same : Cert.Cond.defs₀ (F := Bits) = Cert.CondIdeal.defs₀ (F := Bits) := by
  unfold Cert.Cond.defs₀ Cert.CondIdeal.defs₀
  refine congrArg Defs.onTc ?_
  funext l a
  match l with
  | 0 => rfl

theorem defs_same : Cert.Cond.defs (F := Bits) = Cert.CondIdeal.defs (F := Bits) := congrArg (Pipeline.defs Cert.Cond.pcfgs) bodies_same

end Same

theorem frame_kernel : @Cert.quiescent_Cond Cert.Cond.Gen.facts := by
  intro m ρ _
  rw [defs_same]
  exact (θ_run Cert.CondIdeal.defs _ _).mono (fun _ h => ⟨fun c => (h.1 c).1, h.2⟩) (run (F := Bits) m ρ)

theorem frame_kernelIdeal : @Cert.quiescent_CondIdeal Cert.CondIdeal.Gen.facts := fun m ρ _ =>
  (θ_run Cert.CondIdeal.defs _ _).mono (fun _ h => ⟨fun c => (h.1 c).1, h.2⟩) (run (F := Ideal) m ρ)

theorem frame_referenceIdeal : @Cert.quiescent_CondReferenceIdeal Cert.CondReferenceIdeal.Gen.facts := fun m ρ _ =>
  (θ_run Cert.CondReferenceIdeal.defs _ _).mono (fun r h => ⟨fun c => (h c).2, sem_eq_zero_of_no_sems (by decide) r.2⟩)
    (Cert.CondReferenceIdeal.Value.run (F := Ideal) m ρ)

theorem frame_reference : @Cert.quiescent_CondReference Cert.CondReference.Gen.facts := fun m ρ _ =>
  (θ_run Cert.CondReferenceIdeal.defs _ _).mono (fun r h => ⟨fun c => (h c).2, sem_eq_zero_of_no_sems (by decide) r.2⟩)
    (Cert.CondReferenceIdeal.Value.run (F := Bits) m ρ)

theorem values : @Cert.algebraic_CondIdeal_CondReferenceIdeal Cert.CondIdeal.Gen.facts Cert.CondReferenceIdeal.Gen.facts := by
  intro m g m' g' _ hin
  exact ⟨_, (θ_run Cert.CondIdeal.defs _ _).mono (fun _ h c => ⟨(h.1 c).2.trans (gathered_whole (by decide) _ _ _ _ hin), (h.1 c).1⟩) (run (F := Ideal) m g),
    (θ_run Cert.CondReferenceIdeal.defs _ _).mono (fun _ h => h 0) (Cert.CondReferenceIdeal.Value.run (F := Ideal) m' g')⟩

theorem exact : @Cert.bitexact_Cond_CondReference Cert.Cond.Gen.facts Cert.CondReference.Gen.facts := by
  intro m g m' g' _ hin
  rw [defs_same]
  exact ⟨_, (θ_run Cert.CondIdeal.defs _ _).mono (fun _ h c => ⟨(h.1 c).2.trans (gathered_whole (by decide) _ _ _ _ hin), (h.1 c).1⟩) (run (F := Bits) m g),
    (θ_run Cert.CondReferenceIdeal.defs _ _).mono (fun _ h => h 0) (Cert.CondReferenceIdeal.Value.run (F := Bits) m' g')⟩

end Cond

end Cert.Gather

end
-- ==== Proof.SmallGather.lean ====
/-
  The gather of the small weights' gradients: the first call of its program, every device's block of the gradients in the
  slots of an array every device holds whole.
-/
module

public import proofs.«01_k».proof.Proof.GatherKit
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points

@[expose] public section

noncomputable section

namespace Cert.Gather.Small

open Cert.SmallIdeal Cert.SmallIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The gather's semaphores are the first fifteen of the program's. -/
def placed (p : Cert.Scatter.Sm) : Fin 42 := Fin.castLE (by decide) (place15 p)

theorem placed_inj : Function.Injective placed := (Fin.castLE_injective _).comp place15_inj

abbrev xM : Memref sig .tc .hbm (One 24 1024) .f32 := Memref.whole main_arg0
abbrev gM : Memref sig .tc .hbm (All 24 1024) .f32 := Memref.whole main_v1

/-- The device's block, the gathered array and the semaphores. -/
abbrev arrays : Arrays sig 24 1024 .f32 :=
  { x := xM, G := gM, hs := squeezes_S1x24x1024_S24x1024, q := placed, q_inj := placed_inj, N := xM.view.dmaCredit
    N_pos := View.dmaCredit_pos _ (by decide), credit_x := rfl, credit_g := fun j => rfl
    x_whole := View.set_whole main_arg0, G_whole := View.set_whole main_v1 }

local notation "𝕄" => MT nD τ sig Unit (Elt F) ℕ (UU sig) ℕ

variable (m : (ℓ : Loc nD τ sig) → Buf (Elt F) ℓ)

theorem off_own (c : Dev nD) : k0_off1 c = ![c.val, 0, 0] := Cert.Scatter.off_own c

/-- Every slot lies on whole words. -/
theorem exact_at (j : Fin 8) : (slotAt gM arrays.hs j).view.WordExact := (View.wordExact_bits rfl).reshape _ _

set_option maxHeartbeats 4000000 in
set_option maxRecDepth 8000 in
theorem printed (c : Dev nD) (Q : PUnit.{1} → sProp 𝕄) :
    iprop((start arrays.port m c ∗ ∃ W, owes (c : Thread nD τ) (O₀ arrays.port c) W) ∗ ((done arrays.port m c ∗ free c) -∗ Q ⟨⟩))
      ⊢ wp frame (wpE (defs₀ (F := F)) 𝒱₀ (c : Thread nD τ) none) Set.univ
          (cc0_gather_small_grads (Memref.whole main_arg0) (Memref.isWhole_whole _) (Memref.whole main_v1) (Memref.isWhole_whole _)
            cc0_scratch0 cc0_scratch1 cc0_scratch2) Q := by
  simp only [cc0_gather_small_grads_eq_skeleton]; unfold cc0_gather_small_grads_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  exact printed_spec arrays m (defs₀ (F := F)) c (k0_off1 c) (k0_off1_inb c) (off_own c) rfl
    (Memref.isWhole_whole _).wordExact exact_at Q

theorem call : Call arrays.port m cfgs (defs₀ (F := F)) 0 where
  bare := inferInstanceAs (IsEmpty (Fin 0))
  once := N_0
  inj := cellOf_inj
  wins := winFacts0
  sems := by decide
  body c t K := printed m c fun _ => K

end Cert.Gather.Small

end
-- ==== Proof.StepKit.lean ====
/-
  One call of an optimizer's body over a block of rows, for blocks of any size: it reads the eight gathered parts of the
  rows, the two moments and the weights, and stores four values of what it read.
-/
module

public import proofs.«01_k».proof.Proof.GatherSlots
public import Idealize.ShloMosaic.Lib.Pipeline.FrameBody
public import Idealize.ShloMosaic.Lib.Pipeline.ValueKit
public import Idealize.ShloMosaic.Lib.Tactic
public import Idealize.ShloMosaic.Lib.ValueIdx
public import Idealize.ShloMosaic.Lib.ValueLayout

@[expose] public section

set_option maxRecDepth 16384

noncomputable section

namespace Cert.Step

open Cert.Gather (One All Cut)
open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {r w : ℕ}

/-! ## The blocks -/

theorem inb_part (r w j : ℕ) (hj : j < 8) : ∀ a, (![j, 0, 0] : Fin 3 → ℕ) a + (Cut r w).size a ≤ (All r w).size a := fun a => by
  match a with
  | ⟨0, _⟩ => show j + 1 ≤ 8; omega
  | ⟨1, _⟩ => show 0 + r ≤ r; omega
  | ⟨2, _⟩ => show 0 + w ≤ w; omega

theorem inb_all (r w : ℕ) : ∀ a, (![0, 0] : Fin 2 → ℕ) a + (One r w).size a ≤ (One r w).size a := fun a => by
  match a with
  | ⟨0, _⟩ => show 0 + r ≤ r; omega
  | ⟨1, _⟩ => show 0 + w ≤ w; omega

/-- Part `j` of a block of gathered rows. -/
abbrev part (r w j : ℕ) (hj : j < 8) : Rect (All r w) := Rect.unit (s := All r w) ![j, 0, 0] (Cut r w).size (inb_part r w j hj)
/-- All of a block of rows. -/
abbrev allRows (r w : ℕ) : Rect (One r w) := Rect.unit (s := One r w) ![0, 0] (One r w).size (inb_all r w)

/-- What one call computes of what it reads. -/
structure Pays (F : FTy → Type) (r w : ℕ) where
  sum : Vec F (Cut r w) .f32 → Vec F (Cut r w) .f32 → Vec F (Cut r w) .f32 → Vec F (Cut r w) .f32 → Vec F (Cut r w) .f32 → Vec F (Cut r w) .f32
    → Vec F (Cut r w) .f32 → Vec F (Cut r w) .f32 → FVec F (One r w) .f32
  first : Vec F (Cut r w) .f32 → Vec F (Cut r w) .f32 → Vec F (Cut r w) .f32 → Vec F (Cut r w) .f32 → Vec F (Cut r w) .f32 → Vec F (Cut r w) .f32
    → Vec F (Cut r w) .f32 → Vec F (Cut r w) .f32 → Vec F (One r w) .f32 → FVec F (One r w) .f32
  second : FVec F (One r w) .f32 → Vec F (One r w) .f32 → FVec F (One r w) .f32
  change : FVec F (One r w) .f32 → FVec F (One r w) .f32 → Vec F (One r w) .f32 → Vec F (One r w) .f32 → FVec F (One r w) .f32

variable (p : Pays F r w)

/-- The sum of the eight parts. -/
def Pays.sumOf (x : Vec F (All r w) .f32) : FVec F (One r w) .f32 :=
  p.sum (View.ld x (part r w 0 (by decide))) (View.ld x (part r w 1 (by decide))) (View.ld x (part r w 2 (by decide))) (View.ld x (part r w 3 (by decide)))
    (View.ld x (part r w 4 (by decide))) (View.ld x (part r w 5 (by decide))) (View.ld x (part r w 6 (by decide))) (View.ld x (part r w 7 (by decide)))
/-- The first moment after the step. -/
def Pays.firstOf (x : Vec F (All r w) .f32) (mo : Vec F (One r w) .f32) : FVec F (One r w) .f32 :=
  p.first (View.ld x (part r w 0 (by decide))) (View.ld x (part r w 1 (by decide))) (View.ld x (part r w 2 (by decide))) (View.ld x (part r w 3 (by decide)))
    (View.ld x (part r w 4 (by decide))) (View.ld x (part r w 5 (by decide))) (View.ld x (part r w 6 (by decide))) (View.ld x (part r w 7 (by decide)))
    (View.ld mo (allRows r w))
/-- The second moment after the step. -/
def Pays.secondOf (x : Vec F (All r w) .f32) (vo : Vec F (One r w) .f32) : FVec F (One r w) .f32 := p.second (p.sumOf x) (View.ld vo (allRows r w))
/-- The change of the weights. -/
def Pays.changeOf (x : Vec F (All r w) .f32) (wt mo vo : Vec F (One r w) .f32) : FVec F (One r w) .f32 :=
  p.change (p.sumOf x) (p.firstOf x mo) (View.ld vo (allRows r w)) (View.ld wt (allRows r w))

/-- One store over all of a block's rows leaves what it stored. -/
theorem canon_all (d : Vec F (One r w) .f32) : View.canon [(⟨allRows r w, d⟩ : View.Piece (Elt F) (One r w) .f32)] = d :=
  View.canon_cons_unit_lit (S := One r w) (off := ![0, 0]) (inb_all r w) d [] (show ∀ a : Fin 2, (![0, 0] : Fin 2 → ℕ) a = 0 by decide)

omit [FloatOps F] in
/-- Such a store covers the block. -/
theorem cover_all (d : Vec F (One r w) .f32) (y : (One r w).Idx) :
    ∃ pc ∈ ([⟨allRows r w, d⟩] : List (View.Piece (Elt F) (One r w) .f32)), y ∈ pc.1.set :=
  ⟨_, List.mem_cons_self, View.mem_set_unit_zero (S := One r w) (show (![0, 0] : Fin 2 → ℕ) = fun _ => 0 by decide) (inb_all r w) y⟩

/-! ## One element -/

/-- The sum of eight parts, in order. -/
def sum8 (f : Fin 8 → F .f32) : F .f32 :=
  FloatOps.addf (FloatOps.addf (FloatOps.addf (FloatOps.addf (FloatOps.addf (FloatOps.addf (FloatOps.addf (f 0) (f 1)) (f 2)) (f 3)) (f 4)) (f 5)) (f 6)) (f 7)

/-- The first moment of a gradient `g`. -/
def mom1 (g mo : F .f32) : F .f32 :=
  FloatOps.addf (FloatOps.mulf (Scalar.ofBits .f32 0x3F666666#32) mo) (FloatOps.mulf (Scalar.ofBits .f32 0x3DCCCCCD#32) g)

/-- The second moment of a gradient `g`. -/
def mom2 (g vo : F .f32) : F .f32 :=
  FloatOps.addf (FloatOps.mulf (Scalar.ofBits .f32 0x3F7FBE77#32) vo) (FloatOps.mulf (Scalar.ofBits .f32 0x3A83126F#32) (FloatOps.mulf g g))

/-- The change of a weight with new moments `m1` and `m2`. -/
def chg (m1 m2 wt : F .f32) : F .f32 :=
  FloatOps.mulf (Scalar.ofBits .f32 0xBA83126F#32) (FloatOps.addf
    (FloatOps.divf (FloatOps.divf m1 (Scalar.ofBits .f32 0x3F26BD02#32))
      (FloatOps.addf (FloatOps.sqrt (FloatOps.divf m2 (Scalar.ofBits .f32 0x3C231ACC#32))) (Scalar.ofBits .f32 0x322BCC77#32)))
    (FloatOps.mulf (Scalar.ofBits .f32 0x3C23D70A#32) wt))

/-- The optimizer's step over eight parts, element by element. -/
abbrev adam8 (hc : (Cut r w).ShapeCasts (One r w)) (hs : (One r w).ShapeCasts (One r w)) : Pays F r w where
  sum a b c d e f g h := fun i => sum8 ![shapeCast (One r w) a hc i, shapeCast (One r w) b hc i, shapeCast (One r w) c hc i, shapeCast (One r w) d hc i,
    shapeCast (One r w) e hc i, shapeCast (One r w) f hc i, shapeCast (One r w) g hc i, shapeCast (One r w) h hc i]
  first a b c d e f g h mo := fun i => mom1 (sum8 ![shapeCast (One r w) a hc i, shapeCast (One r w) b hc i, shapeCast (One r w) c hc i, shapeCast (One r w) d hc i,
    shapeCast (One r w) e hc i, shapeCast (One r w) f hc i, shapeCast (One r w) g hc i, shapeCast (One r w) h hc i]) (shapeCast (One r w) mo hs i)
  second s vo := fun i => mom2 (s i) (shapeCast (One r w) vo hs i)
  change s m1 vo wt := fun i => chg (m1 i) (mom2 (s i) (shapeCast (One r w) vo hs i)) (shapeCast (One r w) wt hs i)

/-- A part of a block, its first axis dropped. -/
theorem part_at (x : Vec F (All r w) .f32) (j : Fin 8) (hc : (Cut r w).ShapeCasts (One r w)) (i : (One r w).Idx) :
    shapeCast (One r w) (View.ld x (part r w j.val j.isLt)) hc i = x (ValueIdx.ix3 j (i 0) (i 1)) := by
  have hi : i = ValueIdx.ix2 (i 0) (i 1) := funext fun a => match a with | ⟨0, _⟩ => rfl | ⟨1, _⟩ => rfl
  refine (congrArg (shapeCast (One r w) (View.ld x (part r w j.val j.isLt)) hc) hi).trans
    ((ValueIdx.shapeCast_1ab_ab_apply (a := r) (b := w) _ _ (i 0) (i 1)).trans (View.ld_unit_apply_of x _ _ _ _ _ fun a => ?_))
  match a with
  | ⟨0, _⟩ => rfl
  | ⟨1, _⟩ => exact (Nat.zero_add _).symm
  | ⟨2, _⟩ => exact (Nat.zero_add _).symm

theorem rows_at (x : Vec F (One r w) .f32) (hs : (One r w).ShapeCasts (One r w)) : shapeCast (One r w) (View.ld x (allRows r w)) hs = x := by
  rw [show View.ld x (allRows r w) = x from View.ld_unit_lit (S := One r w) (off := ![0, 0]) (inb_all r w) x (show ∀ a : Fin 2, (![0, 0] : Fin 2 → ℕ) a = 0 by decide)]
  exact funext fun i => congrArg x (Shape.reshapeEquiv_self _ i)

variable (hc : (Cut r w).ShapeCasts (One r w)) (hs : (One r w).ShapeCasts (One r w))

theorem sumOf_at (x : Vec F (All r w) .f32) (i : (One r w).Idx) : (adam8 hc hs).sumOf x i = sum8 fun j => x (ValueIdx.ix3 j (i 0) (i 1)) := by
  refine congrArg sum8 (funext fun j => ?_)
  match j with
  | ⟨0, h⟩ => exact part_at x ⟨0, h⟩ hc i
  | ⟨1, h⟩ => exact part_at x ⟨1, h⟩ hc i
  | ⟨2, h⟩ => exact part_at x ⟨2, h⟩ hc i
  | ⟨3, h⟩ => exact part_at x ⟨3, h⟩ hc i
  | ⟨4, h⟩ => exact part_at x ⟨4, h⟩ hc i
  | ⟨5, h⟩ => exact part_at x ⟨5, h⟩ hc i
  | ⟨6, h⟩ => exact part_at x ⟨6, h⟩ hc i
  | ⟨7, h⟩ => exact part_at x ⟨7, h⟩ hc i

theorem firstOf_at (x : Vec F (All r w) .f32) (mo : Vec F (One r w) .f32) (i : (One r w).Idx) :
    (adam8 hc hs).firstOf x mo i = mom1 ((adam8 hc hs).sumOf x i) (mo i) :=
  congrArg (fun y : Vec F (One r w) .f32 => mom1 ((adam8 hc hs).sumOf x i) (y i)) (rows_at mo hs)

theorem secondOf_at (x : Vec F (All r w) .f32) (vo : Vec F (One r w) .f32) (i : (One r w).Idx) :
    (adam8 hc hs).secondOf x vo i = mom2 ((adam8 hc hs).sumOf x i) (vo i) :=
  congrArg (fun y : Vec F (One r w) .f32 => mom2 ((adam8 hc hs).sumOf x i) (y i)) (rows_at vo hs)

theorem changeOf_at (x : Vec F (All r w) .f32) (wt mo vo : Vec F (One r w) .f32) (i : (One r w).Idx) :
    (adam8 hc hs).changeOf x wt mo vo i = chg ((adam8 hc hs).firstOf x mo i) ((adam8 hc hs).secondOf x vo i) (wt i) :=
  congrArg (fun y : Vec F (One r w) .f32 => chg ((adam8 hc hs).firstOf x mo i) ((adam8 hc hs).secondOf x vo i) (y i)) (rows_at wt hs)

/-! ## The body -/

variable {nD : ℕ} {τ : Topo} {sig : RefSig} {Ix : Type} [DecidableEq Ix] {U : Type} [URA U] {Lvl : Type} [Preorder Lvl]

variable {Λ₀ : Idealize.SL.Sem.Labels}

/-- The body's operations on the eight buffers it is given. -/
def body (arg1 : Memref sig .tc .vmem (All r w) .f32) (arg2 arg3 arg4 arg5 arg6 arg7 arg8 : Memref sig .tc .vmem (One r w) .f32)
    (h0 : 0 < (Cut r w).numel) (h1 : 0 < (One r w).numel) : Prog (TpuEff nD τ sig (Elt F) Λ₀ .tc) PUnit.{1} := do
  let v0 : Vec F (Cut r w) .f32 ← Prog.lift (.load arg1 (part r w 0 (by decide)).toLoadRect (View.loadsAt_vmem h0))
  let v2 : Vec F (Cut r w) .f32 ← Prog.lift (.load arg1 (part r w 1 (by decide)).toLoadRect (View.loadsAt_vmem h0))
  let v5 : Vec F (Cut r w) .f32 ← Prog.lift (.load arg1 (part r w 2 (by decide)).toLoadRect (View.loadsAt_vmem h0))
  let v8 : Vec F (Cut r w) .f32 ← Prog.lift (.load arg1 (part r w 3 (by decide)).toLoadRect (View.loadsAt_vmem h0))
  let v11 : Vec F (Cut r w) .f32 ← Prog.lift (.load arg1 (part r w 4 (by decide)).toLoadRect (View.loadsAt_vmem h0))
  let v14 : Vec F (Cut r w) .f32 ← Prog.lift (.load arg1 (part r w 5 (by decide)).toLoadRect (View.loadsAt_vmem h0))
  let v17 : Vec F (Cut r w) .f32 ← Prog.lift (.load arg1 (part r w 6 (by decide)).toLoadRect (View.loadsAt_vmem h0))
  let v20 : Vec F (Cut r w) .f32 ← Prog.lift (.load arg1 (part r w 7 (by decide)).toLoadRect (View.loadsAt_vmem h0))
  let v23 : Vec F (One r w) .f32 ← Prog.lift (.load arg3 (allRows r w).toLoadRect (View.loadsAt_vmem h1))
  let v30 : Vec F (One r w) .f32 ← Prog.lift (.load arg4 (allRows r w).toLoadRect (View.loadsAt_vmem h1))
  let _v42 : Vec F (One r w) .f32 ← Prog.lift (.load arg5 (allRows r w).toLoadRect (View.loadsAt_vmem h1))
  Prog.lift (.store arg5 (allRows r w) (p.sum v0 v2 v5 v8 v11 v14 v17 v20) Finset.univ (View.stores_vmem_bits_univ h1 rfl) (.inl rfl))
  let v47 : Vec F (One r w) .f32 ← Prog.lift (.load arg2 (allRows r w).toLoadRect (View.loadsAt_vmem h1))
  let _v54 : Vec F (One r w) .f32 ← Prog.lift (.load arg6 (allRows r w).toLoadRect (View.loadsAt_vmem h1))
  Prog.lift (.store arg6 (allRows r w) (p.change (p.sum v0 v2 v5 v8 v11 v14 v17 v20) (p.first v0 v2 v5 v8 v11 v14 v17 v20 v23) v30 v47) Finset.univ
    (View.stores_vmem_bits_univ h1 rfl) (.inl rfl))
  let _v55 : Vec F (One r w) .f32 ← Prog.lift (.load arg7 (allRows r w).toLoadRect (View.loadsAt_vmem h1))
  Prog.lift (.store arg7 (allRows r w) (p.first v0 v2 v5 v8 v11 v14 v17 v20 v23) Finset.univ (View.stores_vmem_bits_univ h1 rfl) (.inl rfl))
  let _v56 : Vec F (One r w) .f32 ← Prog.lift (.load arg8 (allRows r w).toLoadRect (View.loadsAt_vmem h1))
  Prog.lift (.store arg8 (allRows r w) (p.second (p.sum v0 v2 v5 v8 v11 v14 v17 v20) v30) Finset.univ (View.stores_vmem_bits_univ h1 rfl) (.inl rfl))
  pure ⟨⟩

local notation "𝕄" => MT nD τ sig Ix (Elt F) ℕ U Lvl

set_option maxHeartbeats 1000000 in
/-- One call of the body: the inputs stay, and each result's buffer is left at its value of the inputs. -/
theorem body_spec (defs₀ : Defs nD τ sig (Elt F) Λ₀) (𝒱 : Variants) (c : Dev nD) (E : Set ℕ)
    (arg1 : Memref sig .tc .vmem (All r w) .f32) (arg2 arg3 arg4 arg5 arg6 arg7 arg8 : Memref sig .tc .vmem (One r w) .f32)
    (h0 : 0 < (Cut r w).numel) (h1 : 0 < (One r w).numel)
    (x : Vec F (All r w) .f32) (wt mo vo : Vec F (One r w) .f32) (K : PUnit.{1} → sProp 𝕄) :
    iprop(owns (c : Thread nD τ) arg1 fullShare x ∗ owns (c : Thread nD τ) arg2 fullShare wt ∗ owns (c : Thread nD τ) arg3 fullShare mo ∗ owns (c : Thread nD τ) arg4 fullShare vo ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare wt ∗ owns (c : Thread nD τ) arg3 fullShare mo ∗ owns (c : Thread nD τ) arg4 fullShare vo ∗ owns (c : Thread nD τ) arg5 fullShare (p.sumOf x) ∗ owns (c : Thread nD τ) arg6 fullShare (p.changeOf x wt mo vo) ∗ owns (c : Thread nD τ) arg7 fullShare (p.firstOf x mo) ∗ owns (c : Thread nD τ) arg8 fullShare (p.secondOf x vo)) -∗ K ⟨⟩))
      ⊢ wp frame (wpE defs₀ 𝒱 (c : Thread nD τ) none) E (body p arg1 arg2 arg3 arg4 arg5 arg6 arg7 arg8 h0 h1) K := by
  unfold body owns
  iintro ⟨⟨%f1, %h1, H1⟩, ⟨%f2, %h2, H2⟩, ⟨%f3, %h3, H3⟩, ⟨%f4, %h4, H4⟩, ⟨%d5, %f5, -, H5⟩, ⟨%d6, %f6, -, H6⟩, ⟨%d7, %f7, -, H7⟩, ⟨%d8, %f8, -, H8⟩, Hk⟩
  subst h1 h2 h3 h4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (View.read_writes_eq_canon _ _ _ (cover_all _)).trans (canon_all _)
  isplitl [H6]
  · iexists _; isplitr
    swap; · iexact H6
    ipureintro
    exact (View.read_writes_eq_canon _ _ _ (cover_all _)).trans (canon_all _)
  isplitl [H7]
  · iexists _; isplitr
    swap; · iexact H7
    ipureintro
    exact (View.read_writes_eq_canon _ _ _ (cover_all _)).trans (canon_all _)
  iexists _; isplitr
  swap; · iexact H8
  ipureintro
  exact (View.read_writes_eq_canon _ _ _ (cover_all _)).trans (canon_all _)

end Cert.Step

end
-- ==== Proof.Held.lean ====
/-
  A call of a program as a step of a device's run that holds all its arrays: from any contents of them, to the contents
  the call leaves in the arrays it windows and the old contents of the rest. Stated for any program.
-/
module

public import proofs.«01_k».proof.Proof.GatherRegion

@[expose] public section

noncomputable section

namespace Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligationLoose RegionSeg)

variable {sig : RefSig} {Val : EltTy → Type} [∀ e, Nonempty (Val e)]

local notation "𝕄" => MT nD τ sig Unit Val ℕ (UU sig) ℕ

variable {Λ₀ : Idealize.SL.Sem.Labels} {Q : Type} [Fintype Q] [DecidableEq Q] {cfgs : Q → Cfg sig Λ₀}
variable {defs₀ : Defs nD τ sig Val Λ₀}
variable (pdats : (p : Q) → (c : Dev nD) → Dat τ Val Unit ℕ (UU sig) ℕ (cfgs p) c) (p : Q)
variable (V : Dev nD → Valuation τ sig Val)

/-! ## The arrays after a call -/

/-- The array of a window, on the device. -/
abbrev arrayOf (w : Fin (cfgs p).W) : DevRef τ sig := Proc.devRef .tc (Pipeline.arrRef (cfgs p).spec w)

/-- What the call leaves in it. -/
def leaves (c : Dev nD) (w : Fin (cfgs p).W) : (arrayOf (cfgs := cfgs) p w).ty.Contents Val := (pdats p c).arrAt w (cfgs p).N

open Classical in
/-- The contents after a call: what it leaves in each window's array, and the old ones elsewhere. -/
def afterCall (c : Dev nD) : Valuation τ sig Val := fun b =>
  if h : ∃ w, arrayOf (cfgs := cfgs) p w = b then h.choose_spec ▸ leaves pdats p c h.choose else V c b

variable {pdats p V}

theorem afterCall_at (kit : Pipeline.LaunchFacts (nD := nD) (τ := τ) cfgs p) (c : Dev nD) (w : Fin (cfgs p).W) :
    afterCall pdats p V c (arrayOf p w) = leaves pdats p c w := by
  have h : ∃ w', arrayOf (cfgs := cfgs) p w' = arrayOf p w := ⟨w, rfl⟩
  have key : ∀ (w' : Fin (cfgs p).W) (e : arrayOf (cfgs := cfgs) p w' = arrayOf p w), e ▸ leaves pdats p c w' = leaves pdats p c w := by
    intro w' e
    have : w' = w := kit.win.arr_inj (Proc.devRef_injective _ e)
    subst this
    rfl
  unfold afterCall
  rw [dif_pos h]
  exact key _ h.choose_spec

theorem afterCall_off (c : Dev nD) (b : DevRef τ sig) (h : ∀ w, arrayOf (cfgs := cfgs) p w ≠ b) : afterCall pdats p V c b = V c b := by
  unfold afterCall
  rw [dif_neg fun ⟨w, e⟩ => h w e]

/-! ## The call -/

/-- What makes a call's proof data start from contents `V`, borrow nothing and owe nothing. -/
structure Plain (pdats : (p : Q) → (c : Dev nD) → Dat τ Val Unit ℕ (UU sig) ℕ (cfgs p) c) (p : Q) (defs₀ : Defs nD τ sig Val Λ₀)
    (V : Dev nD → Valuation τ sig Val) : Prop where
  kit : Pipeline.LaunchFacts (nD := nD) (τ := τ) cfgs p
  body : ∀ c, BodyObligationLoose (pdats p c) defs₀ 𝒱₀ () Set.univ
  owed : ∀ c t, (pdats p c).owed t = 0
  recorded : ∀ c, (pdats p c).recorded 0 = Set.univ
  share : ∀ c w, (pdats p c).share w = fullShare
  phase : ∀ c t, (pdats p c).Φ t = iprop(Pipeline.scopedRest (cfgs p).spec c ∗ emp)
  entered : ∀ c w, (pdats p c).arrAt w 0 = V c (arrayOf p w)
  unscoped : Pipeline.arrRefs (τ := τ) (cfgs p).spec ⊆ Pipeline.ucRefs τ sig

variable (H : Plain pdats p defs₀ V)
include H

omit [∀ e, Nonempty (Val e)] H in
/-- The arrays the call windows none of, at any contents. -/
def beside (cfgs : Q → Cfg sig Λ₀) (p : Q) (V : Dev nD → Valuation τ sig Val) (c : Dev nD) : sProp 𝕄 :=
  StableHlo.held (c : Thread nD τ) (Pipeline.ucRefs τ sig \ Pipeline.arrRefs (cfgs p).spec) (V c)

/-- The call as a segment of a run. -/
def seg : RegionSeg (calls Val cfgs) (plain Val cfgs) pdats () defs₀ 𝒱₀ L lv p :=
  RegionSeg.ofHeld (calls Val cfgs) (plain Val cfgs) pdats () defs₀ 𝒱₀ L lv p (fun _ => 0) (fun _ => iprop(emp)) (fun _ => iprop(emp)) H.kit.toP rfl
    H.body H.owed H.recorded H.share (fun c => Entails.of_eq (H.phase c 0).symm) (fun c => Entails.of_eq (H.phase c _)) (fun _ => 0)
    { hι := fun c w s => by
        have h : ∀ sm : SemLoc sig, L ((c : Thread nD τ), sm) = {()} := fun _ => if_pos rfl
        exact (h _) ▸ Finset.mem_singleton_self ()
      hιb := fun _ _ _ => le_refl _
      hD := fun _ _ _ h => absurd h (lt_irrefl 0) }
    (beside cfgs p V) V (afterCall pdats p V) H.entered (fun c w => (afterCall_at H.kit c w).symm)

theorem held_before (c : Dev nD) : (StableHlo.held (c : Thread nD τ) (Pipeline.ucRefs τ sig) (V c) : sProp 𝕄)
    = iprop(StableHlo.held (c : Thread nD τ) (Pipeline.arrRefs (cfgs p).spec) (V c) ∗ beside cfgs p V c) :=
  StableHlo.held_sub_split (c : Thread nD τ) H.unscoped (V c)

theorem held_after (c : Dev nD) : (StableHlo.held (c : Thread nD τ) (Pipeline.ucRefs τ sig) (afterCall pdats p V c) : sProp 𝕄)
    = iprop(StableHlo.held (c : Thread nD τ) (Pipeline.arrRefs (cfgs p).spec) (afterCall pdats p V c) ∗ beside cfgs p V c) := by
  unfold beside
  rw [StableHlo.held_sub_split (c : Thread nD τ) H.unscoped (afterCall pdats p V c)]
  refine congrArg (fun P : sProp 𝕄 => iprop(StableHlo.held (c : Thread nD τ) (Pipeline.arrRefs (cfgs p).spec) (afterCall pdats p V c) ∗ P))
    (StableHlo.held_congr (c : Thread nD τ) fun b hb => afterCall_off c b fun w e => (Finset.mem_sdiff.mp hb).2 ?_)
  rw [← e]
  exact Finset.mem_map_of_mem _ (Finset.mem_image_of_mem _ (Finset.mem_univ w))

/-- The call, over all the arrays. -/
theorem held_region (inj : Function.Injective (Pipeline.cellOf (nD := nD) (τ := τ) cfgs)) (c : Dev nD) {α : Type}
    (k : PUnit.{1} → Prog (TpuEff nD τ sig Val (Pipeline.Sig Λ₀ Q fun p => (calls Val cfgs p).Adm) .tc) α) (K : α → sProp 𝕄) :
    iprop((iprop(StableHlo.held (c : Thread nD τ) (Pipeline.ucRefs τ sig) (afterCall pdats p V c) ∗ boundary (c : Thread nD τ) ∗ free c)
          -∗ wp frame (wpE (Pipeline.defs (calls Val cfgs) defs₀) (Variants.lift 𝒱₀) (c : Thread nD τ) none) Set.univ (k ⟨⟩) K)
        ∗ StableHlo.held (c : Thread nD τ) (Pipeline.ucRefs τ sig) (V c) ∗ boundary (c : Thread nD τ) ∗ free c ∗ levAts L lv
        ∗ Pipeline.cellsGhost (Pipeline.pin (calls Val cfgs) (plain Val cfgs)) EP p c ∗ Pipeline.toksInit (Pipeline.pin (calls Val cfgs) (plain Val cfgs)) EP p c)
      ⊢ wp frame (wpE (Pipeline.defs (calls Val cfgs) defs₀) (Variants.lift 𝒱₀) (c : Thread nD τ) none) Set.univ
          (.op (.customCall (Pipeline.entry p) ()) k) K := by
  have hpre : (seg H).pre c = iprop(StableHlo.held (c : Thread nD τ) (Pipeline.arrRefs (cfgs p).spec) (V c) ∗ emp ∗ beside cfgs p V c
      ∗ ∃ W, owes (c : Thread nD τ) (0 : CellTallies nD τ sig Unit) W) := rfl
  have hpost : (seg H).post c = iprop(StableHlo.held (c : Thread nD τ) (Pipeline.arrRefs (cfgs p).spec) (afterCall pdats p V c) ∗ emp ∗ beside cfgs p V c
      ∗ ∃ W, owes (c : Thread nD τ) (0 : CellTallies nD τ sig Unit) W) := rfl
  rw [held_before H, held_after H]
  iintro ⟨Hk, ⟨Harr, Hrest⟩, Hb, Hf, Hlev, Hg, Ht⟩
  iapply (RegionSeg.wp (calls Val cfgs) (plain Val cfgs) pdats () inj EP defs₀ 𝒱₀ L lv (seg H) c none (by simp) k K)
  rw [hpre, hpost]
  isplitl [Hk]
  · iintro ⟨Hb, Harr, -, Hrest, Hf⟩
    iapply Hk
    isplitl [Harr Hrest]
    · isplitl [Harr]; · iexact Harr
      iexact Hrest
    isplitl [Hb]; · iexact Hb
    unfold free; iexact Hf
  isplitl [Hb]; · iexact Hb
  isplitl [Harr Hrest Hf]
  · isplitl [Harr]; · iexact Harr
    isplitr; · iempintro
    isplitl [Hrest]; · iexact Hrest
    unfold free; iexact Hf
  isplitl [Hlev]; · iexact Hlev
  isplitl [Hg]; · iexact Hg
  iexact Ht

end Cert.Gather

end
-- ==== Proof.SmallStep.lean ====
/-
  The optimizer's step of the small weights as a call: one block of 24 rows, from any contents of its arrays; what it
  leaves in the four results, element by element.
-/
module

public import proofs.«01_k».proof.Proof.SmallGather
public import proofs.«01_k».proof.Proof.StepKit
public import proofs.«01_k».proof.Proof.Held
public import Idealize.ShloMosaic.Lib.Pipeline.ValueKit.Geometry
public import Idealize.ShloMosaic.Lib.Pipeline.Value

@[expose] public section

set_option maxRecDepth 16384

noncomputable section

namespace Cert.Gather.Small

open Cert.SmallIdeal Cert.SmallIdeal.Gen
open Cert.Step (Pays adam8 sum8 mom1 mom2 chg)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UU sig) ℕ

/-- The printed step is the optimizer's, over 24 rows. -/
abbrev pays : Pays F 24 1024 := adam8 shapeCasts_S1x24x1024_S24x1024 shapeCasts_S24x1024_S24x1024

theorem step_is (i : grid1.Coords) (arg1 : Memref sig .tc .vmem S8x24x1024 .f32) (harg1 : arg1.IsWhole) (arg2 : Memref sig .tc .vmem S24x1024 .f32) (harg2 : arg2.IsWhole) (arg3 : Memref sig .tc .vmem S24x1024 .f32) (harg3 : arg3.IsWhole) (arg4 : Memref sig .tc .vmem S24x1024 .f32) (harg4 : arg4.IsWhole) (arg5 : Memref sig .tc .vmem S24x1024 .f32) (harg5 : arg5.IsWhole) (arg6 : Memref sig .tc .vmem S24x1024 .f32) (harg6 : arg6.IsWhole) (arg7 : Memref sig .tc .vmem S24x1024 .f32) (harg7 : arg7.IsWhole) (arg8 : Memref sig .tc .vmem S24x1024 .f32) (harg8 : arg8.IsWhole) :
    cc1_adam_small (F := F) i arg1 harg1 arg2 harg2 arg3 harg3 arg4 harg4 arg5 harg5 arg6 harg6 arg7 harg7 arg8 harg8
      = Cert.Step.body pays arg1 arg2 arg3 arg4 arg5 arg6 arg7 arg8 h_S1x24x1024 h_S24x1024 := by
  simp only [cc1_adam_small_eq_skeleton]; unfold cc1_adam_small_skel
  simp only [k1_part1_eq_skeleton]
  rfl

variable (V : Dev nD → Valuation τ sig (Elt F))

/-! ## The pipeline's proof data -/

/-- Window `w`'s block at point `t`. -/
def rowsAt (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The step's proof data on a device: the arrays at `V`, each input's block left as it is, each result's at its value. -/
def stepDat (c : Dev nD) : Dat τ (Elt F) Unit ℕ (UU sig) ℕ cfg1 c where
  A w := V c (Proc.devRef .tc (Pipeline.arrRef spec1 w))
  after w t := match w with
    | ⟨0, _⟩ => rowsAt V c 0 t
    | ⟨1, _⟩ => rowsAt V c 1 t
    | ⟨2, _⟩ => rowsAt V c 2 t
    | ⟨3, _⟩ => rowsAt V c 3 t
    | ⟨4, _⟩ => pays.sumOf (rowsAt V c 0 t)
    | ⟨5, _⟩ => pays.changeOf (rowsAt V c 0 t) (rowsAt V c 1 t) (rowsAt V c 2 t) (rowsAt V c 3 t)
    | ⟨6, _⟩ => pays.firstOf (rowsAt V c 0 t) (rowsAt V c 2 t)
    | ⟨7, _⟩ => pays.secondOf (rowsAt V c 0 t) (rowsAt V c 3 t)
  Φ _ := iprop(Pipeline.scopedRest spec1 c ∗ emp)
  q _ := fullShare
  owed _ := 0

theorem stepDat_A (c : Dev nD) (w : Fin cfg1.W) : (stepDat V c).A w = V c (Proc.devRef .tc (Pipeline.arrRef spec1 w)) := by dsimp only [stepDat]
theorem after_0 (c : Dev nD) (t : Fin cfg1.N) : (stepDat V c).after 0 t = rowsAt V c 0 t := by dsimp only [stepDat]
theorem after_1 (c : Dev nD) (t : Fin cfg1.N) : (stepDat V c).after 1 t = rowsAt V c 1 t := by dsimp only [stepDat]
theorem after_2 (c : Dev nD) (t : Fin cfg1.N) : (stepDat V c).after 2 t = rowsAt V c 2 t := by dsimp only [stepDat]
theorem after_3 (c : Dev nD) (t : Fin cfg1.N) : (stepDat V c).after 3 t = rowsAt V c 3 t := by dsimp only [stepDat]
theorem after_4 (c : Dev nD) (t : Fin cfg1.N) : (stepDat V c).after 4 t = pays.sumOf (rowsAt V c 0 t) := by dsimp only [stepDat]
theorem after_5 (c : Dev nD) (t : Fin cfg1.N) : (stepDat V c).after 5 t = pays.changeOf (rowsAt V c 0 t) (rowsAt V c 1 t) (rowsAt V c 2 t) (rowsAt V c 3 t) := by dsimp only [stepDat]
theorem after_6 (c : Dev nD) (t : Fin cfg1.N) : (stepDat V c).after 6 t = pays.firstOf (rowsAt V c 0 t) (rowsAt V c 2 t) := by dsimp only [stepDat]
theorem after_7 (c : Dev nD) (t : Fin cfg1.N) : (stepDat V c).after 7 t = pays.secondOf (rowsAt V c 0 t) (rowsAt V c 3 t) := by dsimp only [stepDat]

/-- Each input's buffer holds its block when the body runs. -/
theorem found_0 (c : Dev nD) (t : Fin cfg1.N) (d) : (stepDat V c).before 0 t d = rowsAt V c 0 t :=
  ((stepDat V c).before_in_eq_fetched 0 rfl (fun _ => rfl) (fun _ _ _ => rfl) (fun t => by rw [after_0]; unfold Dat.blockOf rowsAt; rw [stepDat_A]; try rfl) t d).trans
    (by unfold Dat.fetched Dat.blockOf rowsAt; rw [stepDat_A]; try rfl)
theorem found_1 (c : Dev nD) (t : Fin cfg1.N) (d) : (stepDat V c).before 1 t d = rowsAt V c 1 t :=
  ((stepDat V c).before_in_eq_fetched 1 rfl (fun _ => rfl) (fun _ _ _ => rfl) (fun t => by rw [after_1]; unfold Dat.blockOf rowsAt; rw [stepDat_A]; try rfl) t d).trans
    (by unfold Dat.fetched Dat.blockOf rowsAt; rw [stepDat_A]; try rfl)
theorem found_2 (c : Dev nD) (t : Fin cfg1.N) (d) : (stepDat V c).before 2 t d = rowsAt V c 2 t :=
  ((stepDat V c).before_in_eq_fetched 2 rfl (fun _ => rfl) (fun _ _ _ => rfl) (fun t => by rw [after_2]; unfold Dat.blockOf rowsAt; rw [stepDat_A]; try rfl) t d).trans
    (by unfold Dat.fetched Dat.blockOf rowsAt; rw [stepDat_A]; try rfl)
theorem found_3 (c : Dev nD) (t : Fin cfg1.N) (d) : (stepDat V c).before 3 t d = rowsAt V c 3 t :=
  ((stepDat V c).before_in_eq_fetched 3 rfl (fun _ => rfl) (fun _ _ _ => rfl) (fun t => by rw [after_3]; unfold Dat.blockOf rowsAt; rw [stepDat_A]; try rfl) t d).trans
    (by unfold Dat.fetched Dat.blockOf rowsAt; rw [stepDat_A]; try rfl)

set_option maxHeartbeats 1000000 in
/-- The body at any point, on the buffers the pipeline hands it. -/
theorem step_point (c : Dev nD) (t : Fin cfg1.N) :
    iprop((stepDat V c).Φ t.castSucc ∗ (stepDat V c).owesAt () t.castSucc ∗ (∃ d, owns (c : Thread nD τ) (st1_0 t) fullShare ((stepDat V c).before 0 t d)) ∗ (∃ d, owns (c : Thread nD τ) (st1_1 t) fullShare ((stepDat V c).before 1 t d)) ∗ (∃ d, owns (c : Thread nD τ) (st1_2 t) fullShare ((stepDat V c).before 2 t d)) ∗ (∃ d, owns (c : Thread nD τ) (st1_3 t) fullShare ((stepDat V c).before 3 t d)) ∗ (∃ d, owns (c : Thread nD τ) (st1_4 t) fullShare ((stepDat V c).before 4 t d)) ∗ (∃ d, owns (c : Thread nD τ) (st1_5 t) fullShare ((stepDat V c).before 5 t d)) ∗ (∃ d, owns (c : Thread nD τ) (st1_6 t) fullShare ((stepDat V c).before 6 t d)) ∗ (∃ d, owns (c : Thread nD τ) (st1_7 t) fullShare ((stepDat V c).before 7 t d)))
      ⊢ wp frame (wpE (defs₀ (F := F)) 𝒱₀ c none) Set.univ (bodyAt1 t) (fun _ =>
        iprop((stepDat V c).Φ t.succ ∗ (stepDat V c).owesAt () t.succ ∗ owns (c : Thread nD τ) (st1_0 t) fullShare ((stepDat V c).after 0 t) ∗ owns (c : Thread nD τ) (st1_1 t) fullShare ((stepDat V c).after 1 t) ∗ owns (c : Thread nD τ) (st1_2 t) fullShare ((stepDat V c).after 2 t) ∗ owns (c : Thread nD τ) (st1_3 t) fullShare ((stepDat V c).after 3 t) ∗ owns (c : Thread nD τ) (st1_4 t) fullShare ((stepDat V c).after 4 t) ∗ owns (c : Thread nD τ) (st1_5 t) fullShare ((stepDat V c).after 5 t) ∗ owns (c : Thread nD τ) (st1_6 t) fullShare ((stepDat V c).after 6 t) ∗ owns (c : Thread nD τ) (st1_7 t) fullShare ((stepDat V c).after 7 t))) := by
  unfold bodyAt1
  rw [step_is]
  simp only [found_0, found_1, found_2, found_3]
  rw [show (stepDat V c).Φ t.succ = (stepDat V c).Φ t.castSucc from rfl,
    show (stepDat V c).owesAt () t.succ = (stepDat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (Cert.Step.body_spec pays (defs₀ (F := F)) 𝒱₀ c Set.univ _ _ _ _ _ _ _ _ h_S1x24x1024 h_S24x1024 (rowsAt V c 0 t) (rowsAt V c 1 t) (rowsAt V c 2 t) (rowsAt V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's call of the body at a point is the printed one. -/
theorem step_row (t : Fin cfg1.N) : defs₀ (F := F) .tc cfg1.body (cfg1.bodyArgs t (cfg1.slots t)) = bodyAt1 t := by
  unfold defs₀; rw [Defs.onTc_tc]

/-- The library's obligation of the body, at every point. -/
theorem step_obligation (c : Dev nD) : BodyObligation (stepDat (F := F) V c) (defs₀ (F := F)) 𝒱₀ () Set.univ := fun t => by
  rw [bigSep_W1, bigSep_W1, step_row]
  exact triple_restated (step_point V c t) rfl .rfl fun _ => .rfl

/-! ## The arrays after the step -/

/-- The gathered parts, the weights and the moments a device holds. -/
def partsIn (c : Dev nD) : S8x24x1024.Idx → F .f32 := V c (Proc.devRef .tc main_v1)
def wIn (c : Dev nD) : S24x1024.Idx → F .f32 := V c (Proc.devRef .tc main_arg1)
def mIn (c : Dev nD) : S24x1024.Idx → F .f32 := V c (Proc.devRef .tc main_arg2)
def vIn (c : Dev nD) : S24x1024.Idx → F .f32 := V c (Proc.devRef .tc main_arg3)

/-- The gradient: the eight parts added. -/
def grad (c : Dev nD) : S24x1024.Idx → F .f32 := fun i => sum8 fun j => partsIn V c (ValueIdx.ix3 j (i 0) (i 1))
def newM (c : Dev nD) : S24x1024.Idx → F .f32 := fun i => mom1 (grad V c i) (mIn V c i)
def newV (c : Dev nD) : S24x1024.Idx → F .f32 := fun i => mom2 (grad V c i) (vIn V c i)
def delta (c : Dev nD) : S24x1024.Idx → F .f32 := fun i => chg (newM V c i) (newV V c i) (wIn V c i)

theorem parts_emb (c : Dev nD) (t : Fin cfg1.N) (j : Fin 8) (y : S24x1024.Idx) :
    rowsAt V c 0 t (ValueIdx.ix3 j (y 0) (y 1)) = partsIn V c (ValueIdx.ix3 j (((cfg1.win 4).blk t).view.emb y 0) (((cfg1.win 4).blk t).view.emb y 1)) := by
  show partsIn V c (((cfg1.win 0).blk t).view.emb (ValueIdx.ix3 j (y 0) (y 1))) = _
  congr 1
  funext a
  apply Fin.ext
  match a with
  | ⟨0, _⟩ => blk_simp; show 0 * 8 + j.val = j.val; rw [Nat.zero_mul, Nat.zero_add]
  | ⟨1, _⟩ => blk_simp; show win1_0.index t 1 * 24 + (y 0).val = ((win1_4.blk t).view.emb y 0).val; blk_simp; rfl
  | ⟨2, _⟩ => blk_simp; show win1_0.index t 2 * 1024 + (y 1).val = ((win1_4.blk t).view.emb y 1).val; blk_simp; rfl

theorem sum_emb (c : Dev nD) (t : Fin cfg1.N) (y : S24x1024.Idx) : pays.sumOf (rowsAt V c 0 t) y = grad V c (((cfg1.win 4).blk t).view.emb y) :=
  (Cert.Step.sumOf_at _ _ (rowsAt V c 0 t) y).trans (congrArg sum8 (funext fun j => parts_emb V c t j y))

theorem first_emb (c : Dev nD) (t : Fin cfg1.N) (y : S24x1024.Idx) :
    pays.firstOf (rowsAt V c 0 t) (rowsAt V c 2 t) y = newM V c (((cfg1.win 4).blk t).view.emb y) :=
  (Cert.Step.firstOf_at _ _ (rowsAt V c 0 t) (rowsAt V c 2 t) y).trans (congrArg (fun g => mom1 g (mIn V c (((cfg1.win 4).blk t).view.emb y))) (sum_emb V c t y))

theorem second_emb (c : Dev nD) (t : Fin cfg1.N) (y : S24x1024.Idx) :
    pays.secondOf (rowsAt V c 0 t) (rowsAt V c 3 t) y = newV V c (((cfg1.win 4).blk t).view.emb y) :=
  (Cert.Step.secondOf_at _ _ (rowsAt V c 0 t) (rowsAt V c 3 t) y).trans (congrArg (fun g => mom2 g (vIn V c (((cfg1.win 4).blk t).view.emb y))) (sum_emb V c t y))

theorem change_emb (c : Dev nD) (t : Fin cfg1.N) (y : S24x1024.Idx) :
    pays.changeOf (rowsAt V c 0 t) (rowsAt V c 1 t) (rowsAt V c 2 t) (rowsAt V c 3 t) y = delta V c (((cfg1.win 4).blk t).view.emb y) :=
  (Cert.Step.changeOf_at _ _ (rowsAt V c 0 t) (rowsAt V c 1 t) (rowsAt V c 2 t) (rowsAt V c 3 t) y).trans
    (congrArg₂ (fun a b => chg a b (wIn V c (((cfg1.win 4).blk t).view.emb y))) (first_emb V c t y) (second_emb V c t y))

theorem grad_done (c : Dev nD) : (stepDat V c).arrAt 4 cfg1.N = grad V c := by
  refine (stepDat V c).arrAt_eq_of_covers 4 _ (by decide +kernel) fun t hf y => ?_
  blk_simp
  rw [after_4]
  exact sum_emb V c t y

theorem delta_done (c : Dev nD) : (stepDat V c).arrAt 5 cfg1.N = delta V c := by
  refine (stepDat V c).arrAt_eq_of_covers 5 _ (by decide +kernel) fun t hf y => ?_
  blk_simp
  rw [after_5]
  exact change_emb V c t y

theorem newM_done (c : Dev nD) : (stepDat V c).arrAt 6 cfg1.N = newM V c := by
  refine (stepDat V c).arrAt_eq_of_covers 6 _ (by decide +kernel) fun t hf y => ?_
  blk_simp
  rw [after_6]
  exact first_emb V c t y

theorem newV_done (c : Dev nD) : (stepDat V c).arrAt 7 cfg1.N = newV V c := by
  refine (stepDat V c).arrAt_eq_of_covers 7 _ (by decide +kernel) fun t hf y => ?_
  blk_simp
  rw [after_7]
  exact second_emb V c t y

end Cert.Gather.Small

end
-- ==== Proof.AdaGrad.lean ====
/-
  The modulation weights' gradient as a call: one block, from any contents of its arrays, and what it leaves in its result.
-/
module

public import proofs.«01_k».proof.Proof.SmallStep

@[expose] public section

set_option maxRecDepth 16384

noncomputable section

namespace Cert.Gather.Small

open Cert.SmallIdeal Cert.SmallIdeal.Gen
open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UU sig) ℕ

/-! ## The body -/

/-- All of a two-axis block. -/
abbrev allOf (a b : ℕ) : Rect ⟨2, ![a, b]⟩ := Cert.Step.allRows a b

/-- The product as the body computes it of the two blocks it reads. -/
def product (x : Vec F S16x1024 .f32) (d : Vec F S16x768 .f32) : FVec F S1024x768 .f32 := k2_pay1 x d

theorem ld_all {a b : ℕ} (x : Vec F ⟨2, ![a, b]⟩ .f32) : View.ld x (allOf a b) = x :=
  View.ld_unit_lit (S := ⟨2, ![a, b]⟩) (off := ![0, 0]) (Cert.Step.inb_all a b) x (show ∀ i : Fin 2, (![0, 0] : Fin 2 → ℕ) i = 0 by decide)

set_option maxHeartbeats 1000000 in
/-- One call of the body: the two inputs stay, and the result's buffer is left at their product. -/
theorem grad_body (c : Dev nD) (arg0 : Memref sig .tc .vmem S16x1024 .f32) (h0 : arg0.IsWhole) (arg1 : Memref sig .tc .vmem S16x768 .f32) (h1 : arg1.IsWhole)
    (arg2 : Memref sig .tc .vmem S1024x768 .f32) (h2 : arg2.IsWhole) (x : Vec F S16x1024 .f32) (d : Vec F S16x768 .f32) (K : PUnit.{1} → sProp 𝕄) :
    iprop(owns (c : Thread nD τ) arg0 fullShare x ∗ owns (c : Thread nD τ) arg1 fullShare d ∗ (∃ e, owns (c : Thread nD τ) arg2 fullShare e)
        ∗ (iprop(owns (c : Thread nD τ) arg0 fullShare x ∗ owns (c : Thread nD τ) arg1 fullShare d ∗ owns (c : Thread nD τ) arg2 fullShare (product x d)) -∗ K ⟨⟩))
      ⊢ wp frame (wpE (defs₀ (F := F)) 𝒱₀ (c : Thread nD τ) none) Set.univ (cc2_ada_bwd arg0 h0 arg1 h1 arg2 h2) K := by
  simp only [cc2_ada_bwd_eq_skeleton]; unfold cc2_ada_bwd_skel owns
  iintro ⟨⟨%f0, %e0, H0⟩, ⟨%f1, %e1, H1⟩, ⟨%d2, %f2, -, H2⟩, Hk⟩
  subst e0 e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (Cert.Step.cover_all _)).trans ((Cert.Step.canon_all _).trans ?_)
  exact congrArg₂ k2_pay1 (ld_all _) (ld_all _)

/-! ## The pipeline's proof data -/

variable (V : Dev nD → Valuation τ sig (Elt F))

/-- Window `w`'s block. -/
def adaAt (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The call's proof data on a device: the arrays at `V`, the inputs' blocks left as they are, the result's at the product. -/
def gradDat (c : Dev nD) : Dat τ (Elt F) Unit ℕ (UU sig) ℕ cfg2 c where
  A w := V c (Proc.devRef .tc (Pipeline.arrRef spec2 w))
  after w t := match w with
    | ⟨0, _⟩ => adaAt V c 0 t
    | ⟨1, _⟩ => adaAt V c 1 t
    | ⟨2, _⟩ => product (adaAt V c 0 t) (adaAt V c 1 t)
  Φ _ := iprop(Pipeline.scopedRest spec2 c ∗ emp)
  q _ := fullShare
  owed _ := 0

theorem gradDat_A (c : Dev nD) (w : Fin cfg2.W) : (gradDat V c).A w = V c (Proc.devRef .tc (Pipeline.arrRef spec2 w)) := by dsimp only [gradDat]
theorem gradAfter_0 (c : Dev nD) (t : Fin cfg2.N) : (gradDat V c).after 0 t = adaAt V c 0 t := by dsimp only [gradDat]
theorem gradAfter_1 (c : Dev nD) (t : Fin cfg2.N) : (gradDat V c).after 1 t = adaAt V c 1 t := by dsimp only [gradDat]
theorem gradAfter_2 (c : Dev nD) (t : Fin cfg2.N) : (gradDat V c).after 2 t = product (adaAt V c 0 t) (adaAt V c 1 t) := by dsimp only [gradDat]

theorem gradFound_0 (c : Dev nD) (t : Fin cfg2.N) (d) : (gradDat V c).before 0 t d = adaAt V c 0 t :=
  ((gradDat V c).before_in_eq_fetched 0 rfl (fun _ => rfl) (fun _ _ _ => rfl) (fun t => by rw [gradAfter_0]; unfold Dat.blockOf adaAt; rw [gradDat_A]; try rfl) t d).trans
    (by unfold Dat.fetched Dat.blockOf adaAt; rw [gradDat_A]; try rfl)
theorem gradFound_1 (c : Dev nD) (t : Fin cfg2.N) (d) : (gradDat V c).before 1 t d = adaAt V c 1 t :=
  ((gradDat V c).before_in_eq_fetched 1 rfl (fun _ => rfl) (fun _ _ _ => rfl) (fun t => by rw [gradAfter_1]; unfold Dat.blockOf adaAt; rw [gradDat_A]; try rfl) t d).trans
    (by unfold Dat.fetched Dat.blockOf adaAt; rw [gradDat_A]; try rfl)

/-- The body at the point, on the buffers the pipeline hands it. -/
theorem grad_point (c : Dev nD) (t : Fin cfg2.N) :
    iprop((gradDat V c).Φ t.castSucc ∗ (gradDat V c).owesAt () t.castSucc ∗ (∃ d, owns (c : Thread nD τ) (st2_0 t) fullShare ((gradDat V c).before 0 t d)) ∗ (∃ d, owns (c : Thread nD τ) (st2_1 t) fullShare ((gradDat V c).before 1 t d)) ∗ (∃ d, owns (c : Thread nD τ) (st2_2 t) fullShare ((gradDat V c).before 2 t d)))
      ⊢ wp frame (wpE (defs₀ (F := F)) 𝒱₀ c none) Set.univ (bodyAt2 t) (fun _ =>
        iprop((gradDat V c).Φ t.succ ∗ (gradDat V c).owesAt () t.succ ∗ owns (c : Thread nD τ) (st2_0 t) fullShare ((gradDat V c).after 0 t) ∗ owns (c : Thread nD τ) (st2_1 t) fullShare ((gradDat V c).after 1 t) ∗ owns (c : Thread nD τ) (st2_2 t) fullShare ((gradDat V c).after 2 t))) := by
  unfold bodyAt2
  simp only [gradFound_0, gradFound_1]
  rw [show (gradDat V c).Φ t.succ = (gradDat V c).Φ t.castSucc from rfl,
    show (gradDat V c).owesAt () t.succ = (gradDat V c).owesAt () t.castSucc from rfl, gradAfter_0, gradAfter_1, gradAfter_2]
  iintro ⟨HΦ, Ho, ⟨%d0, H0⟩, ⟨%d1, H1⟩, ⟨%d2, H2⟩⟩
  iapply (grad_body c _ _ _ _ _ _ (adaAt V c 0 t) (adaAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem grad_row (t : Fin cfg2.N) : defs₀ (F := F) .tc cfg2.body (cfg2.bodyArgs t (cfg2.slots t)) = bodyAt2 t := by
  unfold defs₀; rw [Defs.onTc_tc]

theorem grad_obligation (c : Dev nD) : BodyObligation (gradDat (F := F) V c) (defs₀ (F := F)) 𝒱₀ () Set.univ := fun t => by
  rw [bigSep_W2, bigSep_W2, grad_row]
  exact triple_restated (grad_point V c t) rfl .rfl fun _ => .rfl

/-! ## The result -/

/-- The conditioning, and the device's columns of the modulation's gradient, both padded to sixteen rows. -/
def condIn (c : Dev nD) : S16x1024.Idx → F .f32 := V c (Proc.devRef .tc main_v7)
def modIn (c : Dev nD) : S16x768.Idx → F .f32 := V c (Proc.devRef .tc main_v28)

theorem adaAt_0 (c : Dev nD) (t : Fin cfg2.N) : adaAt V c 0 t = condIn V c := by
  funext y
  show condIn V c (((cfg2.win 0).blk t).view.emb y) = condIn V c y
  congr 1
  funext a
  apply Fin.ext
  match a with
  | ⟨0, _⟩ => blk_simp; show 0 * 16 + (y 0).val = _; rw [Nat.zero_mul, Nat.zero_add]; rfl
  | ⟨1, _⟩ => blk_simp; show 0 * 1024 + (y 1).val = _; rw [Nat.zero_mul, Nat.zero_add]; rfl

theorem adaAt_1 (c : Dev nD) (t : Fin cfg2.N) : adaAt V c 1 t = modIn V c := by
  funext y
  show modIn V c (((cfg2.win 1).blk t).view.emb y) = modIn V c y
  congr 1
  funext a
  apply Fin.ext
  match a with
  | ⟨0, _⟩ => blk_simp; show 0 * 16 + (y 0).val = _; rw [Nat.zero_mul, Nat.zero_add]; rfl
  | ⟨1, _⟩ => blk_simp; show 0 * 768 + (y 1).val = _; rw [Nat.zero_mul, Nat.zero_add]; rfl

theorem product_done (c : Dev nD) : (gradDat V c).arrAt 2 cfg2.N = product (condIn V c) (modIn V c) := by
  refine (gradDat V c).arrAt_eq_of_covers 2 _ (by decide +kernel) fun t hf y => ?_
  rw [gradAfter_2, adaAt_0, adaAt_1]
  show product (condIn V c) (modIn V c) y = product (condIn V c) (modIn V c) (((cfg2.win 2).blk t).view.emb y)
  congr 1
  funext a
  apply Fin.ext
  match a with
  | ⟨0, _⟩ => blk_simp; show (y 0).val = 0 * 1024 + (y 0).val; rw [Nat.zero_mul, Nat.zero_add]
  | ⟨1, _⟩ => blk_simp; show (y 1).val = 0 * 768 + (y 1).val; rw [Nat.zero_mul, Nat.zero_add]

end Cert.Gather.Small

end
-- ==== Proof.AdaStep.lean ====
/-
  The optimizer's step of the modulation weights as a call: three blocks of 256 rows of one gradient, from any contents of
  its arrays; what it leaves in the four results, element by element.
-/
module

public import proofs.«01_k».proof.Proof.AdaGrad

@[expose] public section

set_option maxRecDepth 16384

noncomputable section

namespace Cert.Gather.Small

open Cert.SmallIdeal Cert.SmallIdeal.Gen
open Cert.Step (mom1 mom2 chg)
open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UU sig) ℕ

/-! ## The body -/

/-- All of the one part. -/
abbrev partRect : Rect S1x256x1024 := Rect.unit (s := S1x256x1024) ![0, 0, 0] S1x256x1024.size inb_S1x256x1024_S1x256x1024_0_0_0

/-- What the body computes of the gradient, the weights and the moments. -/
def stepGrad (x : Vec F S1x256x1024 .f32) : FVec F S256x1024 .f32 := k3_pay1 x
def stepFirst (x : Vec F S1x256x1024 .f32) (mo : Vec F S256x1024 .f32) : FVec F S256x1024 .f32 := k3_pay2 x mo
def stepSecond (x : Vec F S1x256x1024 .f32) (vo : Vec F S256x1024 .f32) : FVec F S256x1024 .f32 := k3_pay3 x vo
def stepChange (x : Vec F S1x256x1024 .f32) (wt mo vo : Vec F S256x1024 .f32) : FVec F S256x1024 .f32 := k3_pay4 x mo vo wt

theorem ld_part (x : Vec F S1x256x1024 .f32) : View.ld x partRect = x :=
  View.ld_unit_lit (S := S1x256x1024) (off := ![0, 0, 0]) inb_S1x256x1024_S1x256x1024_0_0_0 x (show ∀ i : Fin 3, (![0, 0, 0] : Fin 3 → ℕ) i = 0 by decide)

theorem cast_same (x : Vec F S256x1024 .f32) : shapeCast S256x1024 x shapeCasts_S256x1024_S256x1024 = x :=
  funext fun i => congrArg x (Shape.reshapeEquiv_self _ i)

theorem stepGrad_at (x : Vec F S1x256x1024 .f32) (i : S256x1024.Idx) : stepGrad x i = x (ValueIdx.ix3 (0 : Fin 1) (i 0) (i 1)) := by
  have hi : i = ValueIdx.ix2 (i 0) (i 1) := funext fun a => match a with | ⟨0, _⟩ => rfl | ⟨1, _⟩ => rfl
  exact (congrArg (shapeCast S256x1024 x shapeCasts_S1x256x1024_S256x1024) hi).trans (ValueIdx.shapeCast_1ab_ab_apply (a := 256) (b := 1024) _ _ (i 0) (i 1))

theorem stepFirst_at (x : Vec F S1x256x1024 .f32) (mo : Vec F S256x1024 .f32) (i : S256x1024.Idx) : stepFirst x mo i = mom1 (stepGrad x i) (mo i) :=
  congrArg (fun y : Vec F S256x1024 .f32 => mom1 (stepGrad x i) (y i)) (cast_same mo)

theorem stepSecond_at (x : Vec F S1x256x1024 .f32) (vo : Vec F S256x1024 .f32) (i : S256x1024.Idx) : stepSecond x vo i = mom2 (stepGrad x i) (vo i) :=
  congrArg (fun y : Vec F S256x1024 .f32 => mom2 (stepGrad x i) (y i)) (cast_same vo)

theorem stepChange_at (x : Vec F S1x256x1024 .f32) (wt mo vo : Vec F S256x1024 .f32) (i : S256x1024.Idx) :
    stepChange x wt mo vo i = chg (stepFirst x mo i) (stepSecond x vo i) (wt i) :=
  congrArg (fun y : Vec F S256x1024 .f32 => chg (stepFirst x mo i) (stepSecond x vo i) (y i)) (cast_same wt)

set_option maxHeartbeats 1000000 in
/-- One call of the body: the inputs stay, and each result's buffer is left at its value of the inputs. -/
theorem ada_body (c : Dev nD) (i : grid3.Coords) (arg1 : Memref sig .tc .vmem S1x256x1024 .f32) (h1 : arg1.IsWhole) (arg2 : Memref sig .tc .vmem S256x1024 .f32) (h2 : arg2.IsWhole) (arg3 : Memref sig .tc .vmem S256x1024 .f32) (h3 : arg3.IsWhole) (arg4 : Memref sig .tc .vmem S256x1024 .f32) (h4 : arg4.IsWhole) (arg5 : Memref sig .tc .vmem S256x1024 .f32) (h5 : arg5.IsWhole) (arg6 : Memref sig .tc .vmem S256x1024 .f32) (h6 : arg6.IsWhole) (arg7 : Memref sig .tc .vmem S256x1024 .f32) (h7 : arg7.IsWhole) (arg8 : Memref sig .tc .vmem S256x1024 .f32) (h8 : arg8.IsWhole)
    (x : Vec F S1x256x1024 .f32) (wt mo vo : Vec F S256x1024 .f32) (K : PUnit.{1} → sProp 𝕄) :
    iprop(owns (c : Thread nD τ) arg1 fullShare x ∗ owns (c : Thread nD τ) arg2 fullShare wt ∗ owns (c : Thread nD τ) arg3 fullShare mo ∗ owns (c : Thread nD τ) arg4 fullShare vo ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare wt ∗ owns (c : Thread nD τ) arg3 fullShare mo ∗ owns (c : Thread nD τ) arg4 fullShare vo ∗ owns (c : Thread nD τ) arg5 fullShare (stepGrad x) ∗ owns (c : Thread nD τ) arg6 fullShare (stepChange x wt mo vo) ∗ owns (c : Thread nD τ) arg7 fullShare (stepFirst x mo) ∗ owns (c : Thread nD τ) arg8 fullShare (stepSecond x vo)) -∗ K ⟨⟩))
      ⊢ wp frame (wpE (defs₀ (F := F)) 𝒱₀ (c : Thread nD τ) none) Set.univ (cc3_adam_ada i arg1 h1 arg2 h2 arg3 h3 arg4 h4 arg5 h5 arg6 h6 arg7 h7 arg8 h8) K := by
  simp only [cc3_adam_ada_eq_skeleton]; unfold cc3_adam_ada_skel
  simp only [k3_part1_eq_skeleton]; unfold k3_part1_skel owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, Hk⟩
  subst e1 e2 e3 e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (Cert.Step.cover_all _)).trans ((Cert.Step.canon_all _).trans ?_)
    exact congrArg k3_pay1 (ld_part _)
  isplitl [H6]
  · iexists _; isplitr
    swap; · iexact H6
    ipureintro
    refine (View.read_writes_eq_canon _ _ _ (Cert.Step.cover_all _)).trans ((Cert.Step.canon_all _).trans ?_)
    unfold stepChange
    exact congr (congr (congrArg₂ k3_pay4 (ld_part _) (ld_all _)) (ld_all _)) (ld_all _)
  isplitl [H7]
  · iexists _; isplitr
    swap; · iexact H7
    ipureintro
    refine (View.read_writes_eq_canon _ _ _ (Cert.Step.cover_all _)).trans ((Cert.Step.canon_all _).trans ?_)
    exact congrArg₂ k3_pay2 (ld_part _) (ld_all _)
  iexists _; isplitr
  swap; · iexact H8
  ipureintro
  refine (View.read_writes_eq_canon _ _ _ (Cert.Step.cover_all _)).trans ((Cert.Step.canon_all _).trans ?_)
  exact congrArg₂ k3_pay3 (ld_part _) (ld_all _)

/-! ## The pipeline's proof data -/

variable (V : Dev nD → Valuation τ sig (Elt F))

/-- Window `w`'s block at point `t`. -/
def stepAt (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- The step's proof data on a device: the arrays at `V`, each input's block left as it is, each result's at its value. -/
def adaDat (c : Dev nD) : Dat τ (Elt F) Unit ℕ (UU sig) ℕ cfg3 c where
  A w := V c (Proc.devRef .tc (Pipeline.arrRef spec3 w))
  after w t := match w with
    | ⟨0, _⟩ => stepAt V c 0 t
    | ⟨1, _⟩ => stepAt V c 1 t
    | ⟨2, _⟩ => stepAt V c 2 t
    | ⟨3, _⟩ => stepAt V c 3 t
    | ⟨4, _⟩ => stepGrad (stepAt V c 0 t)
    | ⟨5, _⟩ => stepChange (stepAt V c 0 t) (stepAt V c 1 t) (stepAt V c 2 t) (stepAt V c 3 t)
    | ⟨6, _⟩ => stepFirst (stepAt V c 0 t) (stepAt V c 2 t)
    | ⟨7, _⟩ => stepSecond (stepAt V c 0 t) (stepAt V c 3 t)
  Φ _ := iprop(Pipeline.scopedRest spec3 c ∗ emp)
  q _ := fullShare
  owed _ := 0

theorem adaDat_A (c : Dev nD) (w : Fin cfg3.W) : (adaDat V c).A w = V c (Proc.devRef .tc (Pipeline.arrRef spec3 w)) := by dsimp only [adaDat]
theorem adaAfter_0 (c : Dev nD) (t : Fin cfg3.N) : (adaDat V c).after 0 t = stepAt V c 0 t := by dsimp only [adaDat]
theorem adaAfter_1 (c : Dev nD) (t : Fin cfg3.N) : (adaDat V c).after 1 t = stepAt V c 1 t := by dsimp only [adaDat]
theorem adaAfter_2 (c : Dev nD) (t : Fin cfg3.N) : (adaDat V c).after 2 t = stepAt V c 2 t := by dsimp only [adaDat]
theorem adaAfter_3 (c : Dev nD) (t : Fin cfg3.N) : (adaDat V c).after 3 t = stepAt V c 3 t := by dsimp only [adaDat]
theorem adaAfter_4 (c : Dev nD) (t : Fin cfg3.N) : (adaDat V c).after 4 t = stepGrad (stepAt V c 0 t) := by dsimp only [adaDat]
theorem adaAfter_5 (c : Dev nD) (t : Fin cfg3.N) : (adaDat V c).after 5 t = stepChange (stepAt V c 0 t) (stepAt V c 1 t) (stepAt V c 2 t) (stepAt V c 3 t) := by dsimp only [adaDat]
theorem adaAfter_6 (c : Dev nD) (t : Fin cfg3.N) : (adaDat V c).after 6 t = stepFirst (stepAt V c 0 t) (stepAt V c 2 t) := by dsimp only [adaDat]
theorem adaAfter_7 (c : Dev nD) (t : Fin cfg3.N) : (adaDat V c).after 7 t = stepSecond (stepAt V c 0 t) (stepAt V c 3 t) := by dsimp only [adaDat]

/-- Each input's buffer holds its block when the body runs. -/
theorem adaFound_0 (c : Dev nD) (t : Fin cfg3.N) (d) : (adaDat V c).before 0 t d = stepAt V c 0 t :=
  ((adaDat V c).before_in_eq_fetched 0 rfl (fun _ => rfl) (fun _ _ _ => rfl) (fun t => by rw [adaAfter_0]; unfold Dat.blockOf stepAt; rw [adaDat_A]; try rfl) t d).trans
    (by unfold Dat.fetched Dat.blockOf stepAt; rw [adaDat_A]; try rfl)
theorem adaFound_1 (c : Dev nD) (t : Fin cfg3.N) (d) : (adaDat V c).before 1 t d = stepAt V c 1 t :=
  ((adaDat V c).before_in_eq_fetched 1 rfl (fun _ => rfl) (fun _ _ _ => rfl) (fun t => by rw [adaAfter_1]; unfold Dat.blockOf stepAt; rw [adaDat_A]; try rfl) t d).trans
    (by unfold Dat.fetched Dat.blockOf stepAt; rw [adaDat_A]; try rfl)
theorem adaFound_2 (c : Dev nD) (t : Fin cfg3.N) (d) : (adaDat V c).before 2 t d = stepAt V c 2 t :=
  ((adaDat V c).before_in_eq_fetched 2 rfl (fun _ => rfl) (fun _ _ _ => rfl) (fun t => by rw [adaAfter_2]; unfold Dat.blockOf stepAt; rw [adaDat_A]; try rfl) t d).trans
    (by unfold Dat.fetched Dat.blockOf stepAt; rw [adaDat_A]; try rfl)
theorem adaFound_3 (c : Dev nD) (t : Fin cfg3.N) (d) : (adaDat V c).before 3 t d = stepAt V c 3 t :=
  ((adaDat V c).before_in_eq_fetched 3 rfl (fun _ => rfl) (fun _ _ _ => rfl) (fun t => by rw [adaAfter_3]; unfold Dat.blockOf stepAt; rw [adaDat_A]; try rfl) t d).trans
    (by unfold Dat.fetched Dat.blockOf stepAt; rw [adaDat_A]; try rfl)

set_option maxHeartbeats 1000000 in
/-- The body at any point, on the buffers the pipeline hands it. -/
theorem ada_point (c : Dev nD) (t : Fin cfg3.N) :
    iprop((adaDat V c).Φ t.castSucc ∗ (adaDat V c).owesAt () t.castSucc ∗ (∃ d, owns (c : Thread nD τ) (st3_0 t) fullShare ((adaDat V c).before 0 t d)) ∗ (∃ d, owns (c : Thread nD τ) (st3_1 t) fullShare ((adaDat V c).before 1 t d)) ∗ (∃ d, owns (c : Thread nD τ) (st3_2 t) fullShare ((adaDat V c).before 2 t d)) ∗ (∃ d, owns (c : Thread nD τ) (st3_3 t) fullShare ((adaDat V c).before 3 t d)) ∗ (∃ d, owns (c : Thread nD τ) (st3_4 t) fullShare ((adaDat V c).before 4 t d)) ∗ (∃ d, owns (c : Thread nD τ) (st3_5 t) fullShare ((adaDat V c).before 5 t d)) ∗ (∃ d, owns (c : Thread nD τ) (st3_6 t) fullShare ((adaDat V c).before 6 t d)) ∗ (∃ d, owns (c : Thread nD τ) (st3_7 t) fullShare ((adaDat V c).before 7 t d)))
      ⊢ wp frame (wpE (defs₀ (F := F)) 𝒱₀ c none) Set.univ (bodyAt3 t) (fun _ =>
        iprop((adaDat V c).Φ t.succ ∗ (adaDat V c).owesAt () t.succ ∗ owns (c : Thread nD τ) (st3_0 t) fullShare ((adaDat V c).after 0 t) ∗ owns (c : Thread nD τ) (st3_1 t) fullShare ((adaDat V c).after 1 t) ∗ owns (c : Thread nD τ) (st3_2 t) fullShare ((adaDat V c).after 2 t) ∗ owns (c : Thread nD τ) (st3_3 t) fullShare ((adaDat V c).after 3 t) ∗ owns (c : Thread nD τ) (st3_4 t) fullShare ((adaDat V c).after 4 t) ∗ owns (c : Thread nD τ) (st3_5 t) fullShare ((adaDat V c).after 5 t) ∗ owns (c : Thread nD τ) (st3_6 t) fullShare ((adaDat V c).after 6 t) ∗ owns (c : Thread nD τ) (st3_7 t) fullShare ((adaDat V c).after 7 t))) := by
  unfold bodyAt3
  simp only [adaFound_0, adaFound_1, adaFound_2, adaFound_3]
  rw [show (adaDat V c).Φ t.succ = (adaDat V c).Φ t.castSucc from rfl,
    show (adaDat V c).owesAt () t.succ = (adaDat V c).owesAt () t.castSucc from rfl,
    adaAfter_0, adaAfter_1, adaAfter_2, adaAfter_3, adaAfter_4, adaAfter_5, adaAfter_6, adaAfter_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (ada_body c _ _ _ _ _ _ _ _ _ _ _ _ _ _ _ _ _ (stepAt V c 0 t) (stepAt V c 1 t) (stepAt V c 2 t) (stepAt V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem ada_row (t : Fin cfg3.N) : defs₀ (F := F) .tc cfg3.body (cfg3.bodyArgs t (cfg3.slots t)) = bodyAt3 t := by
  unfold defs₀; rw [Defs.onTc_tc]

theorem ada_obligation (c : Dev nD) : BodyObligation (adaDat (F := F) V c) (defs₀ (F := F)) 𝒱₀ () Set.univ := fun t => by
  rw [bigSep_W3, bigSep_W3, ada_row]
  exact triple_restated (ada_point V c t) rfl .rfl fun _ => .rfl

/-! ## The arrays after the step -/

/-- The gradient, the weights and the moments a device holds, laid out as the step takes them. -/
def adaIn (c : Dev nD) : S1x768x1024.Idx → F .f32 := V c (Proc.devRef .tc main_v30)
def wAda (c : Dev nD) : S768x1024.Idx → F .f32 := V c (Proc.devRef .tc main_v31)
def mAda (c : Dev nD) : S768x1024.Idx → F .f32 := V c (Proc.devRef .tc main_v32)
def vAda (c : Dev nD) : S768x1024.Idx → F .f32 := V c (Proc.devRef .tc main_v33)

/-- The gradient, its one part's axis dropped, and the new moments and change of the weights. -/
def gradAda (c : Dev nD) : S768x1024.Idx → F .f32 := fun i => adaIn V c (ValueIdx.ix3 (0 : Fin 1) (i 0) (i 1))
def firstAda (c : Dev nD) : S768x1024.Idx → F .f32 := fun i => mom1 (gradAda V c i) (mAda V c i)
def secondAda (c : Dev nD) : S768x1024.Idx → F .f32 := fun i => mom2 (gradAda V c i) (vAda V c i)
def changeAda (c : Dev nD) : S768x1024.Idx → F .f32 := fun i => chg (firstAda V c i) (secondAda V c i) (wAda V c i)

theorem gradAda_emb (c : Dev nD) (t : Fin cfg3.N) (y : S256x1024.Idx) : stepGrad (stepAt V c 0 t) y = gradAda V c (((cfg3.win 4).blk t).view.emb y) := by
  rw [stepGrad_at]
  show adaIn V c (((cfg3.win 0).blk t).view.emb (ValueIdx.ix3 (0 : Fin 1) (y 0) (y 1))) = adaIn V c (ValueIdx.ix3 (0 : Fin 1) (((cfg3.win 4).blk t).view.emb y 0) (((cfg3.win 4).blk t).view.emb y 1))
  congr 1
  funext a
  apply Fin.ext
  match a with
  | ⟨0, _⟩ => blk_simp; show 0 * 1 + 0 = 0; rfl
  | ⟨1, _⟩ => blk_simp; show win3_0.index t 1 * 256 + (y 0).val = ((win3_4.blk t).view.emb y 0).val; blk_simp; rfl
  | ⟨2, _⟩ => blk_simp; show win3_0.index t 2 * 1024 + (y 1).val = ((win3_4.blk t).view.emb y 1).val; blk_simp; rfl

theorem firstAda_emb (c : Dev nD) (t : Fin cfg3.N) (y : S256x1024.Idx) :
    stepFirst (stepAt V c 0 t) (stepAt V c 2 t) y = firstAda V c (((cfg3.win 4).blk t).view.emb y) :=
  (stepFirst_at (stepAt V c 0 t) (stepAt V c 2 t) y).trans (congrArg (fun g => mom1 g (mAda V c (((cfg3.win 4).blk t).view.emb y))) (gradAda_emb V c t y))

theorem secondAda_emb (c : Dev nD) (t : Fin cfg3.N) (y : S256x1024.Idx) :
    stepSecond (stepAt V c 0 t) (stepAt V c 3 t) y = secondAda V c (((cfg3.win 4).blk t).view.emb y) :=
  (stepSecond_at (stepAt V c 0 t) (stepAt V c 3 t) y).trans (congrArg (fun g => mom2 g (vAda V c (((cfg3.win 4).blk t).view.emb y))) (gradAda_emb V c t y))

theorem changeAda_emb (c : Dev nD) (t : Fin cfg3.N) (y : S256x1024.Idx) :
    stepChange (stepAt V c 0 t) (stepAt V c 1 t) (stepAt V c 2 t) (stepAt V c 3 t) y = changeAda V c (((cfg3.win 4).blk t).view.emb y) :=
  (stepChange_at (stepAt V c 0 t) (stepAt V c 1 t) (stepAt V c 2 t) (stepAt V c 3 t) y).trans
    (congrArg₂ (fun a b => chg a b (wAda V c (((cfg3.win 4).blk t).view.emb y))) (firstAda_emb V c t y) (secondAda_emb V c t y))

theorem gradAda_done (c : Dev nD) : (adaDat V c).arrAt 4 cfg3.N = gradAda V c := by
  refine (adaDat V c).arrAt_eq_of_covers 4 _ (by decide +kernel) fun t hf y => ?_
  blk_simp
  rw [adaAfter_4]
  exact gradAda_emb V c t y

theorem changeAda_done (c : Dev nD) : (adaDat V c).arrAt 5 cfg3.N = changeAda V c := by
  refine (adaDat V c).arrAt_eq_of_covers 5 _ (by decide +kernel) fun t hf y => ?_
  blk_simp
  rw [adaAfter_5]
  exact changeAda_emb V c t y

theorem firstAda_done (c : Dev nD) : (adaDat V c).arrAt 6 cfg3.N = firstAda V c := by
  refine (adaDat V c).arrAt_eq_of_covers 6 _ (by decide +kernel) fun t hf y => ?_
  blk_simp
  rw [adaAfter_6]
  exact firstAda_emb V c t y

theorem secondAda_done (c : Dev nD) : (adaDat V c).arrAt 7 cfg3.N = secondAda V c := by
  refine (adaDat V c).arrAt_eq_of_covers 7 _ (by decide +kernel) fun t hf y => ?_
  blk_simp
  rw [adaAfter_7]
  exact secondAda_emb V c t y

end Cert.Gather.Small

end
-- ==== Proof.GatherLed.lean ====
/-
  A program whose first operation is a gather and whose others are on all of a device's arrays: after the gather every
  device holds all its arrays, the gathered one whole and the others as they were, and runs the rest from there.
-/
module

public import proofs.«01_k».proof.Proof.GatherKit

@[expose] public section

noncomputable section

namespace Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {sig : RefSig} {e : EltTy} {r w : ℕ} {A : Arrays sig r w e} {Val : EltTy → Type} [∀ e, Nonempty (Val e)]

local notation "𝕄" => MT nD τ sig Unit Val ℕ (UU sig) ℕ

variable {m : (ℓ : Loc nD τ sig) → Buf Val ℓ} (ρ : Dev nD → PrngReg)
variable {Λ₀ : Idealize.SL.Sem.Labels} {Q : Type} [Fintype Q] [DecidableEq Q] {cfgs : Q → Cfg sig Λ₀}
variable {defs₀ : Defs nD τ sig Val Λ₀} {p₀ : Q} (C : Call A.port m cfgs defs₀ p₀)

/-- A device's arrays after the gather. -/
def gotten (A : Arrays sig r w e) (m : (ℓ : Loc nD τ sig) → Buf Val ℓ) (c : Dev nD) : Valuation τ sig Val :=
  Function.update (fun b => m (c, b)) (Proc.devRef .tc A.G.view.ref) (whole A m c)

theorem gotten_gathered (c : Dev nD) : gotten A m c (Proc.devRef .tc A.G.view.ref) = whole A m c := Function.update_self _ _ _

theorem gotten_other (c : Dev nD) (b : Ref sig .tc) (h : b ≠ A.G.view.ref) : gotten A m c (Proc.devRef .tc b) = m ((c : Thread nD τ).loc b) :=
  Function.update_of_ne (fun e => h (Proc.devRef_injective _ e)) _ _

/-- The array to be gathered and the gathered one are two of the device's arrays. -/
structure Apart (A : Arrays sig r w e) : Prop where
  x : A.x.view.ref ∈ Finset.univ.filter fun d : Ref sig .tc => ¬ d.isScoped
  G : A.G.view.ref ∈ (Finset.univ.filter fun d : Ref sig .tc => ¬ d.isScoped).erase A.x.view.ref

variable (ap : Apart A)
include ap

/-- What the gather hands over and the other arrays, put together. -/
theorem rejoin (c : Dev nD) :
    iprop(handed A.port m c ∗ others m A.x.view.ref A.G.view.ref c)
      ⊢ (StableHlo.held (c : Thread nD τ) (Pipeline.ucRefs τ sig) (gotten A m c) : sProp 𝕄) := by
  have hne : A.x.view.ref ≠ A.G.view.ref := fun e => Finset.ne_of_mem_erase ap.G e.symm
  have ho : (others m A.x.view.ref A.G.view.ref c : sProp 𝕄)
      = bigSep (((Finset.univ.filter fun d : Ref sig .tc => ¬ d.isScoped).erase A.x.view.ref).erase A.G.view.ref) fun d =>
          (c : Thread nD τ).loc d ↦{fullShare} gotten A m c (Proc.devRef .tc d) := by
    unfold others
    refine BI.bigSep_congr fun b hb => ?_
    rw [gotten_other c b (Finset.ne_of_mem_erase hb)]
  have hx : (A.x.view.loc (c : Thread nD τ) ↦{fullShare} m (A.x.view.loc (c : Thread nD τ)) : sProp 𝕄)
      = ((c : Thread nD τ).loc A.x.view.ref) ↦{fullShare} gotten A m c (Proc.devRef .tc A.x.view.ref) := by
    rw [gotten_other c _ hne]
  have hg : (A.G.view.loc (c : Thread nD τ) ↦{fullShare} whole A m c : sProp 𝕄)
      = ((c : Thread nD τ).loc A.G.view.ref) ↦{fullShare} gotten A m c (Proc.devRef .tc A.G.view.ref) := by
    rw [gotten_gathered]
  have hall : (StableHlo.held (c : Thread nD τ) (Pipeline.ucRefs τ sig) (gotten A m c) : sProp 𝕄)
      = iprop((A.x.view.loc (c : Thread nD τ) ↦{fullShare} m (A.x.view.loc (c : Thread nD τ)))
        ∗ (A.G.view.loc (c : Thread nD τ) ↦{fullShare} whole A m c) ∗ others m A.x.view.ref A.G.view.ref c) := by
    rw [← Pipeline.unscopedBufs_held, ho, hx, hg]
    unfold unscopedBufs
    rw [bigSep_erase (i := A.x.view.ref) ap.x, bigSep_erase (i := A.G.view.ref) (s := Finset.erase _ _) ap.G]
    rfl
  rw [hall]
  have h := collect A m c
  iintro ⟨Hh, Ho⟩
  ihave Hp := h $$ Hh
  icases Hp with ⟨Hx, HG⟩
  isplitl [Hx]; · iexact Hx
  isplitl [HG]; · iexact HG
  iexact Ho

/-- The holdings of a device at the start. -/
abbrev startParts : Parts A.port m := partsOf C (others m A.x.view.ref A.G.view.ref) fun c => bufs_split m _ _ ap.x ap.G c

variable (pdats : (p : Q) → (c : Dev nD) → Dat τ Val Unit ℕ (UU sig) ℕ (cfgs p) c) (hp : ∀ c, pdats p₀ c = exDat C c)
variable (main : Dev nD → Prog (TpuEff nD τ sig Val (Pipeline.Sig Λ₀ Q fun p => (calls Val cfgs p).Adm) .tc) PUnit.{1})
variable (rest : Dev nD → PUnit.{1} → Prog (TpuEff nD τ sig Val (Pipeline.Sig Λ₀ Q fun p => (calls Val cfgs p).Adm) .tc) PUnit.{1})
variable (hmain : ∀ c, main c = .op (.customCall (Pipeline.entry p₀) ()) (rest c))
variable (Vₙ : Dev nD → Valuation τ sig Val)

omit ap in
/-- How a device ends. -/
def ended (Vₙ : Dev nD → Valuation τ sig Val) (c : Dev nD) (_ : PUnit.{1}) : sProp 𝕄 :=
  iprop(StableHlo.held (c : Thread nD τ) (Pipeline.ucRefs τ sig) (Vₙ c) ∗ boundary (c : Thread nD τ) ∗ ∃ W, owes (c : Thread nD τ) (0 : CellTallies nD τ sig Unit) W)

variable (hrest : ∀ c : Dev nD, iprop(StableHlo.held (c : Thread nD τ) (Pipeline.ucRefs τ sig) (gotten A m c) ∗ boundary (c : Thread nD τ) ∗ free c ∗ levAts L lv
      ∗ Pipeline.ghostOn (calls Val cfgs) (plain Val cfgs) EP (Finset.univ.erase p₀) c)
    ⊢ wp frame (wpE (Pipeline.defs (calls Val cfgs) defs₀) (Variants.lift 𝒱₀) (c : Thread nD τ) none) Set.univ (rest c ⟨⟩) (ended Vₙ c))

include hp hmain hrest in
/-- A device's run: the gather, then the rest. -/
theorem run_led_device (c : Dev nD) :
    iprop(T₀ A.port m (startParts C ap) c ∗ levAts L lv ∗ Pipeline.ghostOn (calls Val cfgs) (plain Val cfgs) EP Finset.univ c)
      ⊢ wp frame (wpE (Pipeline.defs (calls Val cfgs) defs₀) (Variants.lift 𝒱₀) (c : Thread nD τ) none) Set.univ (main c) (ended Vₙ c) := by
  have hb : (boundary (c : Thread nD τ) : sProp 𝕄) = iprop(scopedBufs (c : Thread nD τ) ∗ scopedSems0 (c : Thread nD τ) ∗ opIdle (c : Thread nD τ)) := rfl
  have hg : (Pipeline.ghostOn (calls Val cfgs) (plain Val cfgs) EP Finset.univ c : sProp 𝕄)
      = iprop((Pipeline.cellsGhost (Pipeline.pin (calls Val cfgs) (plain Val cfgs)) EP p₀ c ∗ Pipeline.toksInit (Pipeline.pin (calls Val cfgs) (plain Val cfgs)) EP p₀ c)
        ∗ Pipeline.ghostOn (calls Val cfgs) (plain Val cfgs) EP (Finset.univ.erase p₀) c) :=
    (Pipeline.PerCore.ghostOn_erase (calls Val cfgs) (fun _ => plain Val cfgs) EP (p := p₀) (S := Finset.univ) (Finset.mem_univ p₀) c)
  have hi : (startParts C ap).idle c = idle C c := rfl
  have hot : (startParts C ap).others c = others m A.x.view.ref A.G.view.ref c := rfl
  rw [hg, hmain]
  unfold T₀ aside
  rw [hi, hot]
  iintro ⟨⟨Hst, Hsb, Hid, Hop, HO, Hoth⟩, Hlev, ⟨Hg0, Ht0⟩, Hg⟩
  iapply (ex_region C pdats hp c (rest c) (ended Vₙ c))
  isplitr [Hst HO Hsb Hid Hg0 Ht0]
  · iintro ⟨Hsb, Hss, Hh, Hf⟩
    iapply (hrest c)
    isplitl [Hh Hoth]
    · iapply (rejoin ap c)
      isplitl [Hh]; · iexact Hh
      iexact Hoth
    rw [hb]
    isplitl [Hsb Hss Hop]
    · isplitl [Hsb]; · iexact Hsb
      isplitl [Hss]; · iexact Hss
      iexact Hop
    isplitl [Hf]; · iexact Hf
    isplitl [Hlev]; · iexact Hlev
    iexact Hg
  isplitl [Hst]; · iexact Hst
  isplitl [HO]; · iexact HO
  isplitl [Hsb]; · iexact Hsb
  isplitl [Hid]; · iexact Hid
  isplitl [Hg0]; · iexact Hg0
  iexact Ht0

include hp hmain hrest in
/-- Every weakly fair execution ends, with the arrays as the rest leaves them and every semaphore at zero. -/
theorem run_led (hsc : ∀ sm : SemLoc sig, sm.isScoped .tc = true) :
    θ_run (Pipeline.defs (calls Val cfgs) defs₀) (onTc main) ⟨m, fun _ => 0, ρ⟩ (fun r =>
      (∀ c : Dev nD, ∀ b ∈ Pipeline.ucRefs τ sig, r.2.mem (c, b) = Vₙ c b) ∧ r.2.sem = fun _ => 0) := by
  have hdeal := deal A.port m ρ (startParts C ap)
  have hfund := fund (Val := Val) C
  refine Cert.StartAll.θ_run_from_launch (calls Val cfgs) (plain Val cfgs) C.inj EP defs₀ 𝒱₀ L lv m ρ main (O₀ A.port) L_of_ne (G A.port m) (u₀ C)
    hfund (T₀ A.port m (startParts C ap)) (fun c => StableHlo.held (c : Thread nD τ) (Pipeline.ucRefs τ sig) (Vₙ c)) hdeal
    (run_led_device C ap pdats hp main rest hmain Vₙ hrest)
    (fun c s => ∀ b ∈ Pipeline.ucRefs τ sig, s.mem (c, b) = Vₙ c b) (fun c s' => ?_) ?_
  · iintro ⟨HT, HSI⟩
    imodintro
    unfold StableHlo.held
    iapply (pointsTo_read_all (Pipeline.ucRefs τ sig) (fun b => (c, b)) (Vₙ c) s')
    isplitl [HT]; · iexact HT
    iexact HSI
  exact fun s h hz => ⟨h, funext fun g => hz g (.inr (hsc g.2))⟩

end Cert.Gather

end
-- ==== Proof.Chained.lean ====
/-
  A device's run through a chain of host stretches and calls, item by item: what it holds between two items, and the step
  over a run of stretches or over a call. Stated for any program.
-/
module

public import proofs.«01_k».proof.Proof.Held
public import proofs.«01_k».proof.Proof.GatherLed
public import Idealize.ShloMosaic.Lib.Pipeline.FrameSuffix

@[expose] public section

noncomputable section

namespace Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {sig : RefSig} {Val : EltTy → Type} [∀ e, Nonempty (Val e)]

local notation "𝕄" => MT nD τ sig Unit Val ℕ (UU sig) ℕ

variable {Λ₀ : Idealize.SL.Sem.Labels} {Q : Type} [Fintype Q] [DecidableEq Q] (cfgs : Q → Cfg sig Λ₀)

/-- What a device holds between two items, with the calls `S` still to come and its arrays at `V`. -/
def between (S : Finset Q) (V : Valuation τ sig Val) (c : Dev nD) : sProp 𝕄 :=
  iprop(StableHlo.held (c : Thread nD τ) (Pipeline.ucRefs τ sig) V ∗ boundary (c : Thread nD τ) ∗ free c ∗ levAts L lv
    ∗ Pipeline.ghostOn (calls Val cfgs) (plain Val cfgs) EP S c)

variable {cfgs} {defs₀ : Defs nD τ sig Val Λ₀}

/-- Over a run of stretches. -/
theorem stretches (S : Finset Q) (c : Dev nD) (opss : List (List (HloOp τ sig Val)))
    (rest : List (Prog (TpuEff nD τ sig Val (Pipeline.Sig Λ₀ Q fun p => (calls Val cfgs p).Adm) .tc) PUnit.{1}))
    (hS : ∀ ops ∈ opss, ∀ op ∈ ops, op.bufs ⊆ Pipeline.ucRefs τ sig) (hf : ∀ ops ∈ opss, ∀ op ∈ ops, op.fresh = ∅) (V : Valuation τ sig Val)
    (K : PUnit.{1} → sProp 𝕄) :
    iprop((between cfgs S (StableHlo.after opss.flatten V) c
          -∗ wp frame (wpE (Pipeline.defs (calls Val cfgs) defs₀) (Variants.lift 𝒱₀) (c : Thread nD τ) none) Set.univ (Pipeline.chain rest) K)
        ∗ between cfgs S V c)
      ⊢ wp frame (wpE (Pipeline.defs (calls Val cfgs) defs₀) (Variants.lift 𝒱₀) (c : Thread nD τ) none) Set.univ
          (Pipeline.chain (opss.map StableHlo.seq ++ rest)) K := by
  have hseq := Pipeline.wp_seqs_then (Ix := Unit) (Name := ℕ) (U := UU sig) (Lvl := ℕ) (calls Val cfgs) defs₀ 𝒱₀ c (Pipeline.ucRefs τ sig) rest (K := K) opss hS hf V
  unfold between
  iintro ⟨Hk, Hh, Hb, Hr⟩
  iapply hseq $$ [Hb Hh]
  · isplitl [Hb]; · iexact Hb
    iexact Hh
  iintro ⟨Hb, Hh⟩
  iapply Hk
  isplitl [Hh]; · iexact Hh
  isplitl [Hb]; · iexact Hb
  iexact Hr

variable {pdats : (p : Q) → (c : Dev nD) → Dat τ Val Unit ℕ (UU sig) ℕ (cfgs p) c} {p : Q} {V : Dev nD → Valuation τ sig Val}

/-- Over a call. -/
theorem entered (H : Plain pdats p defs₀ V) (S : Finset Q) (hp : p ∈ S) (c : Dev nD)
    (rest : List (Prog (TpuEff nD τ sig Val (Pipeline.Sig Λ₀ Q fun p => (calls Val cfgs p).Adm) .tc) PUnit.{1}))
    (K : PUnit.{1} → sProp 𝕄) :
    iprop((between cfgs (S.erase p) (afterCall pdats p V c) c
          -∗ wp frame (wpE (Pipeline.defs (calls Val cfgs) defs₀) (Variants.lift 𝒱₀) (c : Thread nD τ) none) Set.univ (Pipeline.chain rest) K)
        ∗ between cfgs S (V c) c)
      ⊢ wp frame (wpE (Pipeline.defs (calls Val cfgs) defs₀) (Variants.lift 𝒱₀) (c : Thread nD τ) none) Set.univ
          (Pipeline.chain (Prog.lift (.customCall (Pipeline.entry p) ()) :: rest)) K := by
  have hg : (Pipeline.ghostOn (calls Val cfgs) (plain Val cfgs) EP S c : sProp 𝕄)
      = iprop((Pipeline.cellsGhost (Pipeline.pin (calls Val cfgs) (plain Val cfgs)) EP p c ∗ Pipeline.toksInit (Pipeline.pin (calls Val cfgs) (plain Val cfgs)) EP p c)
        ∗ Pipeline.ghostOn (calls Val cfgs) (plain Val cfgs) EP (S.erase p) c) :=
    Pipeline.PerCore.ghostOn_erase (calls Val cfgs) (fun _ => plain Val cfgs) EP (p := p) (S := S) hp c
  unfold between
  rw [hg]
  iintro ⟨Hk, Hh, Hb, Hf, #Hlev, ⟨Hg, Ht⟩, Hrest⟩
  iapply (held_region H H.kit.cellOf_inj c (fun _ => Pipeline.chain rest) K)
  isplitl [Hk Hrest]
  · iintro ⟨Hh, Hb, Hf⟩
    iapply Hk
    isplitl [Hh]; · iexact Hh
    isplitl [Hb]; · iexact Hb
    isplitl [Hf]; · iexact Hf
    isplitr; · iexact Hlev
    iexact Hrest
  isplitl [Hh]; · iexact Hh
  isplitl [Hb]; · iexact Hb
  isplitl [Hf]; · iexact Hf
  isplitr; · iexact Hlev
  isplitl [Hg]; · iexact Hg
  iexact Ht

/-- At the end. -/
theorem at_end (S : Finset Q) (Vₙ : Dev nD → Valuation τ sig Val) (c : Dev nD) :
    between cfgs S (Vₙ c) c
      ⊢ wp frame (wpE (Pipeline.defs (calls Val cfgs) defs₀) (Variants.lift 𝒱₀) (c : Thread nD τ) none) Set.univ (Pipeline.chain []) (ended Vₙ c) := by
  rw [Pipeline.chain_nil, Prog.pure_eq_ret, wp_ret frame (wpE (Pipeline.defs (calls Val cfgs) defs₀) (Variants.lift 𝒱₀) (c : Thread nD τ) none) Set.univ (⟨⟩ : PUnit.{1})]
  unfold between ended free
  iintro ⟨Hh, Hb, Hf, -, -⟩
  imodintro
  isplitl [Hh]; · iexact Hh
  isplitl [Hb]; · iexact Hb
  iexact Hf

end Cert.Gather

end
-- ==== Proof.SmallRun.lean ====
/-
  The small weights' program: the gather, the loss read out of what it gathered, the optimizer's step, and then the
  modulation weights' gradient and step; what every weakly fair execution leaves in the arrays.
-/
module

public import proofs.«01_k».proof.Proof.AdaStep
public import proofs.«01_k».proof.Proof.Chained
public import proofs.«01_k».proof.Proof.Gen.SmallIdeal.Regions

@[expose] public section

set_option maxRecDepth 16384

noncomputable section

namespace Cert.Gather.Small

open Cert.SmallIdeal Cert.SmallIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UU sig) ℕ

variable (m : (ℓ : Loc nD τ sig) → Buf (Elt F) ℓ) (ρ : Dev nD → PrngReg)

theorem apart : Apart arrays := ⟨by decide, by decide⟩

/-- The proof data of the calls after the gather, from the arrays each of them finds. -/
def datsOf (A₁ A₂ A₃ : Dev nD → Valuation τ sig (Elt F)) (p : Fin 4) (c : Dev nD) : Dat τ (Elt F) Unit ℕ (UU sig) ℕ (cfgs p) c :=
  match p with
  | 0 => exDat (call m) c
  | 1 => stepDat A₁ c
  | 2 => gradDat A₂ c
  | 3 => adaDat A₃ c

/-- The arrays after the gather and the loss, -/
def V₂ (c : Dev nD) : Valuation τ sig (Elt F) := StableHlo.after hostOps1 (gotten arrays m c)
/-- after the small weights' step, -/
def V₃ (c : Dev nD) : Valuation τ sig (Elt F) := afterCall (datsOf m (V₂ m) (V₂ m) (V₂ m)) 1 (V₂ m) c
/-- with the modulation gradient's inputs laid out, -/
def V₄ (c : Dev nD) : Valuation τ sig (Elt F) :=
  StableHlo.after [hostOps2, hostOps2_1, hostOps2_2 c, hostOps2_3, hostOps2_4, hostOps2_5].flatten (V₃ m c)
/-- with that gradient, -/
def V₅ (c : Dev nD) : Valuation τ sig (Elt F) := afterCall (datsOf m (V₂ m) (V₄ m) (V₄ m)) 2 (V₄ m) c
/-- with its step's inputs laid out, -/
def V₆ (c : Dev nD) : Valuation τ sig (Elt F) := StableHlo.after hostOps3 (V₅ m c)
/-- after that step, -/
def V₇ (c : Dev nD) : Valuation τ sig (Elt F) := afterCall (datsOf m (V₂ m) (V₄ m) (V₆ m)) 3 (V₆ m) c
/-- and at the end. -/
def V₈ (c : Dev nD) : Valuation τ sig (Elt F) := StableHlo.after hostOps4 (V₇ m c)

/-- The proof data of all the calls. -/
abbrev pdats (p : Fin 4) (c : Dev nD) : Dat τ (Elt F) Unit ℕ (UU sig) ℕ (cfgs p) c := datsOf m (V₂ m) (V₄ m) (V₆ m) p c

theorem after_step (c : Dev nD) : afterCall (pdats m) 1 (V₂ m) c = V₃ m c := rfl
theorem after_grad (c : Dev nD) : afterCall (pdats m) 2 (V₄ m) c = V₅ m c := rfl

theorem stepped : Plain (pdats m) 1 (defs₀ (F := F)) (V₂ m) where
  kit := launch1
  body c := (step_obligation (V₂ m) c).loose
  owed _ _ := rfl
  recorded _ := rfl
  share c w := (pdats m 1 c).share_full (fun _ => rfl) w
  phase _ _ := rfl
  entered _ _ := rfl
  unscoped := Pipeline.arrRefs_sub_ucRefs spec1 (by decide)

theorem multiplied : Plain (pdats m) 2 (defs₀ (F := F)) (V₄ m) where
  kit := launch2
  body c := (grad_obligation (V₄ m) c).loose
  owed _ _ := rfl
  recorded _ := rfl
  share c w := (pdats m 2 c).share_full (fun _ => rfl) w
  phase _ _ := rfl
  entered _ _ := rfl
  unscoped := Pipeline.arrRefs_sub_ucRefs spec2 (by decide)

theorem adaStepped : Plain (pdats m) 3 (defs₀ (F := F)) (V₆ m) where
  kit := launch3
  body c := (ada_obligation (V₆ m) c).loose
  owed _ _ := rfl
  recorded _ := rfl
  share c w := (pdats m 3 c).share_full (fun _ => rfl) w
  phase _ _ := rfl
  entered _ _ := rfl
  unscoped := Pipeline.arrRefs_sub_ucRefs spec3 (by decide)

/-- The program's own stretches touch its arrays only, and need no fresh buffer. -/
structure Own (ops : List (HloOp τ sig (Elt F))) : Prop where
  sub : ∀ op ∈ ops, op.bufs ⊆ Pipeline.ucRefs τ sig
  fresh : ∀ op ∈ ops, op.fresh = ∅

theorem own_of {ops : List (HloOp τ sig (Elt F))} (h : ops.Forall fun op => op.bufs ⊆ StableHlo.tcRefs τ sig) (h' : ops.Forall fun op => op.fresh = ∅) : Own ops :=
  ⟨fun op ho => Pipeline.sub_ucRefs op ((List.forall_iff_forall_mem.mp h) op ho), fun op ho => (List.forall_iff_forall_mem.mp h') op ho⟩

theorem own1 : Own (F := F) hostOps1 := own_of hostOps1_sub hostOps1_fresh
theorem own3 : Own (F := F) hostOps3 := own_of hostOps3_sub hostOps3_fresh
theorem own4 : Own (F := F) hostOps4 := own_of hostOps4_sub hostOps4_fresh
theorem own2 (c : Dev nD) : ∀ ops ∈ [hostOps2, hostOps2_1, hostOps2_2 c, hostOps2_3, hostOps2_4, hostOps2_5], Own (F := F) ops :=
  List.forall_mem_cons.2 ⟨own_of hostOps2_sub hostOps2_fresh, List.forall_mem_cons.2 ⟨own_of hostOps2_1_sub hostOps2_1_fresh,
    List.forall_mem_cons.2 ⟨own_of (hostOps2_2_sub c) (hostOps2_2_fresh c), List.forall_mem_cons.2 ⟨own_of hostOps2_3_sub hostOps2_3_fresh,
      List.forall_mem_cons.2 ⟨own_of hostOps2_4_sub hostOps2_4_fresh, List.forall_mem_cons.2 ⟨own_of hostOps2_5_sub hostOps2_5_fresh,
        fun _ h => absurd h List.not_mem_nil⟩⟩⟩⟩⟩⟩

/-- What runs after the gather: the items of the program from its first stretch on. -/
abbrev items (c : Dev nD) : List (Prog (TpuEff nD τ sig (Elt F) (Pipeline.Sig Λ₀ (Fin 4) fun p => (calls (Elt F) cfgs p).Adm) .tc) PUnit.{1}) :=
  [hostOps1].map StableHlo.seq ++ Prog.lift (.customCall (Pipeline.entry 1) ())
    :: ([hostOps2, hostOps2_1, hostOps2_2 c, hostOps2_3, hostOps2_4, hostOps2_5].map StableHlo.seq ++ Prog.lift (.customCall (Pipeline.entry 2) ())
    :: ([hostOps3].map StableHlo.seq ++ Prog.lift (.customCall (Pipeline.entry 3) ()) :: ([hostOps4].map StableHlo.seq ++ [])))

/-- The rest of the program. -/
def rest (c : Dev nD) : PUnit.{1} → Prog (TpuEff nD τ sig (Elt F) (Pipeline.Sig Λ₀ (Fin 4) fun p => (calls (Elt F) cfgs p).Adm) .tc) PUnit.{1} :=
  fun _ => Pipeline.chain (items c)

theorem main_is (c : Dev nD) : main (F := F) c = .op (.customCall (Pipeline.entry 0) ()) (rest c) := main_chain c

theorem rest_spec (c : Dev nD) :
    iprop(StableHlo.held (c : Thread nD τ) (Pipeline.ucRefs τ sig) (gotten arrays m c) ∗ boundary (c : Thread nD τ) ∗ free c ∗ levAts L lv
        ∗ Pipeline.ghostOn (calls (Elt F) cfgs) (plain (Elt F) cfgs) EP (Finset.univ.erase 0) c)
      ⊢ wp frame (wpE (Pipeline.defs (calls (Elt F) cfgs) (defs₀ (F := F))) (Variants.lift 𝒱₀) (c : Thread nD τ) none) Set.univ (rest c ⟨⟩) (ended (V₈ m) c) := by
  have h1 := stretches (cfgs := cfgs) (defs₀ := defs₀ (F := F)) (Finset.univ.erase 0) c [hostOps1] (Prog.lift (.customCall (Pipeline.entry 1) ())
      :: ([hostOps2, hostOps2_1, hostOps2_2 c, hostOps2_3, hostOps2_4, hostOps2_5].map StableHlo.seq ++ Prog.lift (.customCall (Pipeline.entry 2) ())
      :: ([hostOps3].map StableHlo.seq ++ Prog.lift (.customCall (Pipeline.entry 3) ()) :: ([hostOps4].map StableHlo.seq ++ []))))
    (List.forall_mem_singleton.2 own1.sub) (List.forall_mem_singleton.2 own1.fresh) (gotten arrays m c) (ended (V₈ m) c)
  have h2 := entered (stepped m) (Finset.univ.erase 0) (by decide) c
    ([hostOps2, hostOps2_1, hostOps2_2 c, hostOps2_3, hostOps2_4, hostOps2_5].map StableHlo.seq ++ Prog.lift (.customCall (Pipeline.entry 2) ())
      :: ([hostOps3].map StableHlo.seq ++ Prog.lift (.customCall (Pipeline.entry 3) ()) :: ([hostOps4].map StableHlo.seq ++ []))) (ended (V₈ m) c)
  have h3 := stretches (cfgs := cfgs) (defs₀ := defs₀ (F := F)) ((Finset.univ.erase 0).erase 1) c [hostOps2, hostOps2_1, hostOps2_2 c, hostOps2_3, hostOps2_4, hostOps2_5]
    (Prog.lift (.customCall (Pipeline.entry 2) ())
      :: ([hostOps3].map StableHlo.seq ++ Prog.lift (.customCall (Pipeline.entry 3) ()) :: ([hostOps4].map StableHlo.seq ++ [])))
    (fun ops h => (own2 c ops h).sub) (fun ops h => (own2 c ops h).fresh) (V₃ m c) (ended (V₈ m) c)
  have h4 := entered (multiplied m) ((Finset.univ.erase 0).erase 1) (by decide) c
    ([hostOps3].map StableHlo.seq ++ Prog.lift (.customCall (Pipeline.entry 3) ()) :: ([hostOps4].map StableHlo.seq ++ [])) (ended (V₈ m) c)
  have h5 := stretches (cfgs := cfgs) (defs₀ := defs₀ (F := F)) (((Finset.univ.erase 0).erase 1).erase 2) c [hostOps3]
    (Prog.lift (.customCall (Pipeline.entry 3) ()) :: ([hostOps4].map StableHlo.seq ++ []))
    (List.forall_mem_singleton.2 own3.sub) (List.forall_mem_singleton.2 own3.fresh) (V₅ m c) (ended (V₈ m) c)
  have h6 := entered (adaStepped m) (((Finset.univ.erase 0).erase 1).erase 2) (by decide) c ([hostOps4].map StableHlo.seq ++ []) (ended (V₈ m) c)
  have h7 := stretches (cfgs := cfgs) (defs₀ := defs₀ (F := F)) ((((Finset.univ.erase 0).erase 1).erase 2).erase 3) c [hostOps4] []
    (List.forall_mem_singleton.2 own4.sub) (List.forall_mem_singleton.2 own4.fresh) (V₇ m c) (ended (V₈ m) c)
  have h8 := at_end (cfgs := cfgs) (defs₀ := defs₀ (F := F)) ((((Finset.univ.erase 0).erase 1).erase 2).erase 3) (V₈ m) c
  rw [List.flatten_singleton] at h1 h5 h7
  rw [after_step] at h2
  rw [after_grad] at h4
  unfold rest
  iintro H
  iapply h1
  isplitr [H]
  swap; · unfold between; iexact H
  iintro H
  iapply h2
  isplitr [H]
  swap; · unfold V₂; iexact H
  iintro H
  iapply h3
  isplitr [H]
  swap; · iexact H
  iintro H
  iapply h4
  isplitr [H]
  swap; · unfold V₄; iexact H
  iintro H
  iapply h5
  isplitr [H]
  swap; · iexact H
  iintro H
  iapply h6
  isplitr [H]
  swap; · unfold V₆; iexact H
  iintro H
  iapply h7
  isplitr [H]
  swap; · unfold V₇; iexact H
  iintro H
  iapply h8
  unfold V₈
  iexact H

/-- Every weakly fair execution ends, with the arrays as `V₈` says and every semaphore at zero. -/
theorem run_main : θ_run (defs (F := F)) (onTc (τ := τ) (main (F := F))) ⟨m, fun _ => 0, ρ⟩ (fun r =>
    (∀ c : Dev nD, ∀ b ∈ Pipeline.ucRefs τ sig, r.2.mem (c, b) = V₈ m c b) ∧ r.2.sem = fun _ => 0) := by
  have h := run_led (defs₀ := defs₀ (F := F)) ρ (call m) apart (pdats m) (fun _ => rfl) (main (F := F)) (rest (F := F)) main_is (V₈ m)
  refine h (fun c => ?_) regions_no_unscoped
  have hr := rest_spec m c
  convert hr using 3

end Cert.Gather.Small

end
-- ==== Proof.AdaRead.lean ====
/-
  What the small weights' program holds between its calls: the arrays its later stretches and calls leave alone, the inputs
  of the modulation weights' calls in terms of what was gathered, and their results.
-/
module

public import proofs.«01_k».proof.Proof.SmallRun

@[expose] public section

set_option maxRecDepth 16384

noncomputable section

namespace Cert.Gather.Small

open Cert.SmallIdeal Cert.SmallIdeal.Gen
open Idealize.ShloMosaic
open Idealize.ShloMosaic.TcCoe
open Idealize.SL.Sem

variable {F : FTy → Type} [FloatOps F] (m : (ℓ : Loc nD τ sig) → Buf (Elt F) ℓ)

/-! ## The gather, the loss and the step -/

/-- The gathered gradients of a device. -/
def parts (c : Dev nD) : S8x24x1024.Idx → F .f32 := gathered arrays m

theorem gotten_parts (c : Dev nD) : gotten arrays m c (Proc.devRef .tc main_v1) = parts m c :=
  (gotten_gathered (A := arrays) (m := m) c).trans (View.write_whole_univ main_v1 _ _)

theorem V₂_of (c : Dev nD) (b : Ref sig .tc) (h : b ∉ hostOps1_W) : V₂ m c (Proc.devRef .tc b) = gotten arrays m c (Proc.devRef .tc b) :=
  StableHlo.after_of_writes_sub hostOps1 _ hostOps1_writes h

theorem V₂_parts (c : Dev nD) : V₂ m c (Proc.devRef .tc main_v1) = parts m c := (V₂_of m c main_v1 (by decide)).trans (gotten_parts m c)

theorem V₂_arg (c : Dev nD) (b : Ref sig .tc) (h : b ∉ hostOps1_W) (h' : b ≠ main_v1) : V₂ m c (Proc.devRef .tc b) = m ((c : Thread nD τ).loc b) :=
  (V₂_of m c b h).trans (gotten_other (A := arrays) (m := m) c b h')

theorem V₃_off (c : Dev nD) (b : Ref sig .tc) (h : ∀ w, Pipeline.arrRef spec1 w ≠ b) : V₃ m c (Proc.devRef .tc b) = V₂ m c (Proc.devRef .tc b) :=
  afterCall_off c _ fun w e => h w (Proc.devRef_injective _ e)

theorem V₃_in (c : Dev nD) (w : Fin cfg1.W) (hw : (cfg1.win w).isOut = false) :
    V₃ m c (Proc.devRef .tc (Pipeline.arrRef spec1 w)) = V₂ m c (Proc.devRef .tc (Pipeline.arrRef spec1 w)) :=
  (afterCall_at launch1 c w).trans ((stepDat (V₂ m) c).arrAt_in w hw _)

theorem V₃_out (c : Dev nD) (w : Fin cfg1.W) : V₃ m c (Proc.devRef .tc (Pipeline.arrRef spec1 w)) = (stepDat (V₂ m) c).arrAt w cfg1.N :=
  afterCall_at launch1 c w

theorem V₃_arg (c : Dev nD) (b : Ref sig .tc) (h : ∀ w, Pipeline.arrRef spec1 w ≠ b) (h₁ : b ∉ hostOps1_W) (h₂ : b ≠ main_v1) :
    V₃ m c (Proc.devRef .tc b) = m ((c : Thread nD τ).loc b) := (V₃_off m c b h).trans (V₂_arg m c b h₁ h₂)

theorem V₃_argIn (c : Dev nD) (w : Fin cfg1.W) (hw : (cfg1.win w).isOut = false) (h₁ : Pipeline.arrRef spec1 w ∉ hostOps1_W)
    (h₂ : Pipeline.arrRef spec1 w ≠ main_v1) :
    V₃ m c (Proc.devRef .tc (Pipeline.arrRef spec1 w)) = m ((c : Thread nD τ).loc (Pipeline.arrRef spec1 w)) :=
  (V₃_in m c w hw).trans (V₂_arg m c _ h₁ h₂)

theorem V₃_parts (c : Dev nD) : V₃ m c (Proc.devRef .tc main_v1) = parts m c := (V₃_in m c 0 rfl).trans (V₂_parts m c)

/-! ## The stretches before the modulation gradient, one by one -/

/-- Two runs of operations after each other. -/
theorem after_two (l l' : List (HloOp τ sig (Elt F))) (V : Valuation τ sig (Elt F)) :
    StableHlo.after (l ++ l') V = StableHlo.after l' (StableHlo.after l V) := by
  induction l generalizing V with
  | nil => rfl
  | cons op l ih => exact ih (op.result V)

/-- The arrays after the first of the stretches, after the second, and so on. -/
def U₁ (c : Dev nD) : Valuation τ sig (Elt F) := StableHlo.after hostOps2 (V₃ m c)
def U₂ (c : Dev nD) : Valuation τ sig (Elt F) := StableHlo.after hostOps2_1 (U₁ m c)
def U₃ (c : Dev nD) : Valuation τ sig (Elt F) := StableHlo.after (hostOps2_2 c) (U₂ m c)
def U₄ (c : Dev nD) : Valuation τ sig (Elt F) := StableHlo.after hostOps2_3 (U₃ m c)
def U₅ (c : Dev nD) : Valuation τ sig (Elt F) := StableHlo.after hostOps2_4 (U₄ m c)

theorem V₄_eq (c : Dev nD) : V₄ m c = StableHlo.after hostOps2_5 (U₅ m c) := by
  unfold V₄ U₅ U₄ U₃ U₂ U₁
  rw [List.flatten_cons, after_two, List.flatten_cons, after_two, List.flatten_cons, after_two, List.flatten_cons, after_two,
    List.flatten_cons, after_two, List.flatten_cons, after_two]
  rfl

theorem U₁_of (c : Dev nD) (b : Ref sig .tc) (h : b ∉ hostOps2_W) : U₁ m c (Proc.devRef .tc b) = V₃ m c (Proc.devRef .tc b) :=
  StableHlo.after_of_writes_sub hostOps2 _ hostOps2_writes h
theorem U₂_of (c : Dev nD) (b : Ref sig .tc) (h : b ∉ hostOps2_1_W) : U₂ m c (Proc.devRef .tc b) = U₁ m c (Proc.devRef .tc b) :=
  StableHlo.after_of_writes_sub hostOps2_1 _ hostOps2_1_writes h
theorem U₃_of (c : Dev nD) (b : Ref sig .tc) (h : b ∉ hostOps2_2_W) : U₃ m c (Proc.devRef .tc b) = U₂ m c (Proc.devRef .tc b) :=
  StableHlo.after_of_writes_sub (hostOps2_2 c) _ (hostOps2_2_writes c) h
theorem U₄_of (c : Dev nD) (b : Ref sig .tc) (h : b ∉ hostOps2_3_W) : U₄ m c (Proc.devRef .tc b) = U₃ m c (Proc.devRef .tc b) :=
  StableHlo.after_of_writes_sub hostOps2_3 _ hostOps2_3_writes h
theorem U₅_of (c : Dev nD) (b : Ref sig .tc) (h : b ∉ hostOps2_4_W) : U₅ m c (Proc.devRef .tc b) = U₄ m c (Proc.devRef .tc b) :=
  StableHlo.after_of_writes_sub hostOps2_4 _ hostOps2_4_writes h
theorem V₄_step (c : Dev nD) (b : Ref sig .tc) (h : b ∉ hostOps2_5_W) : V₄ m c (Proc.devRef .tc b) = U₅ m c (Proc.devRef .tc b) := by
  rw [V₄_eq]; exact StableHlo.after_of_writes_sub hostOps2_5 _ hostOps2_5_writes h

/-- What none of them writes. -/
abbrev stretchW : List (Ref sig .tc) := hostOps2_W ++ hostOps2_1_W ++ hostOps2_2_W ++ hostOps2_3_W ++ hostOps2_4_W ++ hostOps2_5_W

theorem V₄_of (c : Dev nD) (b : Ref sig .tc) (h : b ∉ stretchW) : V₄ m c (Proc.devRef .tc b) = V₃ m c (Proc.devRef .tc b) := by
  simp only [stretchW, List.mem_append, not_or] at h
  obtain ⟨⟨⟨⟨⟨h1, h2⟩, h3⟩, h4⟩, h5⟩, h6⟩ := h
  exact (V₄_step m c b h6).trans ((U₅_of m c b h5).trans ((U₄_of m c b h4).trans ((U₃_of m c b h3).trans ((U₂_of m c b h2).trans (U₁_of m c b h1)))))

/-! ## The modulation gradient's inputs -/

/-- Rows of zeros under the conditioning, and under the modulation gradient. -/
def padCond (x : FVec F S8x1024 .f32) : FVec F S16x1024 .f32 :=
  pad S16x1024 ![0, 0] ![8, 0] ![0, 0] x (sitofp .f32 (constantI S_ 32 0#32)) pads_S8x1024_S16x1024_080_000 h_S_
def padMod (x : FVec F S8x768 .f32) : FVec F S16x768 .f32 :=
  pad S16x768 ![0, 0] ![8, 0] ![0, 0] x (sitofp .f32 (constantI S_ 32 0#32)) pads_S8x768_S16x768_080_000 h_S_

/-- The modulation gradients, eight groups of columns. -/
def groups (x : FVec F S8x24x1024 .f32) : FVec F S8x8x768 .f32 :=
  shapeCast S8x8x768 (extractStridedSlice S8x6144 ![0, 0] (shapeCast S8x24576 x shapeCasts_S8x24x1024_S8x24576) slices_S8x24576_S8x6144_0_0) shapeCasts_S8x6144_S8x8x768

/-- The device's number as the program computes it. -/
def number (c : Dev nD) : IVec S_ 32 :=
  addi (addi (muli (constantI S_ 32 4#32) (Host.remui (Host.divui (constantI S_ 32 (Dev.word c)) (constantI S_ 32 4#32)) (constantI S_ 32 2#32)))
    (muli (constantI S_ 32 2#32) (Host.remui (Host.divui (constantI S_ 32 (Dev.word c)) (constantI S_ 32 2#32)) (constantI S_ 32 2#32))))
    (Host.remui (Host.divui (constantI S_ 32 (Dev.word c)) (constantI S_ 32 1#32)) (constantI S_ 32 2#32))

/-- The group picked by a number, counted from the end if negative. -/
def pick (x : FVec F S8x8x768 .f32) (i : IVec S_ 32) : FVec F S8x768 .f32 :=
  shapeCast S8x768 (Host.dynamicSlice S8x1x768 x
    (fun k => ((![constantI S_ 32 0#32, select (cmpi .slt i (constantI S_ 32 0#32)) (addi i (constantI S_ 32 8#32)) i, constantI S_ 32 0#32] : Fin 3 → IVec S_ 32) k (Shape.Idx.first h_S_)).toInt)
    sliceFits_S8x8x768_S8x1x768) shapeCasts_S8x1x768_S8x768

theorem U₁_zero (c : Dev nD) : U₁ m c (Proc.devRef .tc main_c) = constantI S_ 32 0#32 := by
  unfold U₁
  after_results

theorem U₂_cond (c : Dev nD) : U₂ m c (Proc.devRef .tc main_v7) = padCond (V₃ m c (Proc.devRef .tc main_arg4)) := by
  rw [← U₁_of m c main_arg4 (by decide)]
  unfold padCond
  rw [← U₁_zero m c]
  unfold U₂
  after_results
  rfl

theorem U₃_groups (c : Dev nD) : U₃ m c (Proc.devRef .tc main_v10) = groups (parts m c) := by
  rw [← V₃_parts m c, ← U₁_of m c main_v1 (by decide), ← U₂_of m c main_v1 (by decide)]
  unfold U₃
  after_results
  rfl

theorem U₃_number (c : Dev nD) : U₃ m c (Proc.devRef .tc main_v26) = number c := by
  unfold U₃
  after_results
  rfl

/-- One group, at a start given axis by axis. -/
theorem group_congr (x : FVec F S8x8x768 .f32) (f g : Fin 3 → ℤ) (h : ∀ k, f k = g k) :
    shapeCast S8x768 (Host.dynamicSlice S8x1x768 x f sliceFits_S8x8x768_S8x1x768) shapeCasts_S8x1x768_S8x768
      = shapeCast S8x768 (Host.dynamicSlice S8x1x768 x g sliceFits_S8x8x768_S8x1x768) shapeCasts_S8x1x768_S8x768 := by
  rw [funext h]

/-- The picking's operations up to the slice, and the slice from any contents. -/
abbrev before : List (HloOp τ sig (Elt F)) := hostOps2_3.take 7

theorem slice_after (V : Valuation τ sig (Elt F)) :
    StableHlo.after (hostOps2_3.drop 7) V (Proc.devRef .tc main_v27)
      = shapeCast S8x768 (Host.dynamicSlice S8x1x768 (V (Proc.devRef .tc main_v10))
          (fun k => ((![V (Proc.devRef .tc main_call1_c_1), V (Proc.devRef .tc main_call1_v2), V (Proc.devRef .tc main_call1_c_2)] : Fin 3 → IVec S_ 32) k (Shape.Idx.first h_S_)).toInt)
          sliceFits_S8x8x768_S8x1x768) shapeCasts_S8x1x768_S8x768 := by
  rw [List.drop_succ_cons, List.drop_succ_cons, List.drop_succ_cons, List.drop_succ_cons, List.drop_succ_cons, List.drop_succ_cons, List.drop_succ_cons, List.drop_zero]
  after_results
  refine group_congr (V (Proc.devRef .tc main_v10)) _ _ fun k => ?_
  match k with
  | 0 => rfl
  | 1 => rfl
  | 2 => rfl

theorem before_word (V : Valuation τ sig (Elt F)) : StableHlo.after before V (Proc.devRef .tc main_call1_v2)
    = select (cmpi .slt (V (Proc.devRef .tc main_v26) : IVec S_ 32) (constantI S_ 32 0#32)) (addi (V (Proc.devRef .tc main_v26) : IVec S_ 32) (constantI S_ 32 8#32)) (V (Proc.devRef .tc main_v26) : IVec S_ 32) := by
  unfold before
  simp only [List.take_succ_cons, List.take_zero]
  after_results
  rfl

theorem before_first (V : Valuation τ sig (Elt F)) : StableHlo.after before V (Proc.devRef .tc main_call1_c_1) = constantI S_ 32 0#32 := by
  unfold before
  simp only [List.take_succ_cons, List.take_zero]
  after_results
  rfl

theorem before_last (V : Valuation τ sig (Elt F)) : StableHlo.after before V (Proc.devRef .tc main_call1_c_2) = constantI S_ 32 0#32 := by
  unfold before
  simp only [List.take_succ_cons, List.take_zero]
  after_results
  rfl

theorem before_groups (V : Valuation τ sig (Elt F)) : StableHlo.after before V (Proc.devRef .tc main_v10) = V (Proc.devRef .tc main_v10) := by
  unfold before
  simp only [List.take_succ_cons, List.take_zero]
  after_results

/-- The picking, from any contents. -/
theorem picked_after (V : Valuation τ sig (Elt F)) :
    StableHlo.after hostOps2_3 V (Proc.devRef .tc main_v27) = pick (V (Proc.devRef .tc main_v10)) (V (Proc.devRef .tc main_v26)) := by
  have h : StableHlo.after hostOps2_3 V = StableHlo.after (hostOps2_3.drop 7) (StableHlo.after before V) := by
    rw [← after_two, List.take_append_drop]
  rw [h, slice_after, before_word, before_first, before_last, before_groups]
  rfl

theorem U₄_picked (c : Dev nD) : U₄ m c (Proc.devRef .tc main_v27) = pick (groups (parts m c)) (number c) := by
  rw [← U₃_groups m c, ← U₃_number m c]
  exact picked_after (U₃ m c)

theorem V₄_cond (c : Dev nD) : condIn (V₄ m) c = padCond (V₃ m c (Proc.devRef .tc main_arg4)) :=
  (V₄_step m c main_v7 (by decide)).trans ((U₅_of m c main_v7 (by decide)).trans ((U₄_of m c main_v7 (by decide)).trans
    ((U₃_of m c main_v7 (by decide)).trans (U₂_cond m c))))

theorem U₅_zero (c : Dev nD) : U₅ m c (Proc.devRef .tc main_c_8) = constantI S_ 32 0#32 := by
  unfold U₅
  after_results

theorem V₄_mod (c : Dev nD) : modIn (V₄ m) c = padMod (pick (groups (parts m c)) (number c)) := by
  unfold padMod modIn
  rw [← U₅_zero m c, ← U₄_picked m c, ← U₅_of m c main_v27 (by decide), V₄_eq]
  after_results
  rfl

/-! ## The modulation weights' step -/

theorem V₅_off (c : Dev nD) (b : Ref sig .tc) (h : ∀ w, Pipeline.arrRef spec2 w ≠ b) : V₅ m c (Proc.devRef .tc b) = V₄ m c (Proc.devRef .tc b) :=
  afterCall_off c _ fun w e => h w (Proc.devRef_injective _ e)

theorem V₅_product (c : Dev nD) : V₅ m c (Proc.devRef .tc main_v29) = product (condIn (V₄ m) c) (modIn (V₄ m) c) :=
  (afterCall_at launch2 c 2).trans (product_done (V₄ m) c)

theorem V₆_of (c : Dev nD) (b : Ref sig .tc) (h : b ∉ hostOps3_W) : V₆ m c (Proc.devRef .tc b) = V₅ m c (Proc.devRef .tc b) :=
  StableHlo.after_of_writes_sub hostOps3 _ hostOps3_writes h

theorem V₇_off (c : Dev nD) (b : Ref sig .tc) (h : ∀ w, Pipeline.arrRef spec3 w ≠ b) : V₇ m c (Proc.devRef .tc b) = V₆ m c (Proc.devRef .tc b) :=
  afterCall_off c _ fun w e => h w (Proc.devRef_injective _ e)

theorem V₇_out (c : Dev nD) (w : Fin cfg3.W) : V₇ m c (Proc.devRef .tc (Pipeline.arrRef spec3 w)) = (adaDat (V₆ m) c).arrAt w cfg3.N :=
  afterCall_at launch3 c w

theorem V₈_of (c : Dev nD) (b : Ref sig .tc) (h : b ∉ hostOps4_W) : V₈ m c (Proc.devRef .tc b) = V₇ m c (Proc.devRef .tc b) :=
  StableHlo.after_of_writes_sub hostOps4 _ hostOps4_writes h

/-- An array that nothing after the small weights' step touches. -/
theorem V₈_kept (c : Dev nD) (b : Ref sig .tc) (h₂ : ∀ w, Pipeline.arrRef spec2 w ≠ b) (h₃ : ∀ w, Pipeline.arrRef spec3 w ≠ b)
    (h : b ∉ stretchW ++ hostOps3_W ++ hostOps4_W) : V₈ m c (Proc.devRef .tc b) = V₃ m c (Proc.devRef .tc b) := by
  rw [List.mem_append, List.mem_append, not_or, not_or] at h
  exact (V₈_of m c b h.2).trans ((V₇_off m c b h₃).trans ((V₆_of m c b h.1.2).trans ((V₅_off m c b h₂).trans (V₄_of m c b h.1.1))))

/-- The weights' arrays, and the moments', as the step's call finds them. -/
theorem V₅_arg (c : Dev nD) (b : Ref sig .tc) (h₁ : ∀ w, Pipeline.arrRef spec1 w ≠ b) (h₂ : ∀ w, Pipeline.arrRef spec2 w ≠ b)
    (h : b ∉ hostOps1_W ++ stretchW) (h' : b ≠ main_v1) : V₅ m c (Proc.devRef .tc b) = m ((c : Thread nD τ).loc b) := by
  rw [List.mem_append, not_or] at h
  exact (V₅_off m c b h₂).trans ((V₄_of m c b h.2).trans (V₃_arg m c b h₁ h.1 h'))

/-- A block of the weights, its elements in the order of the rows of the step's arrays; and back. -/
def flat {α : Type} (x : S1024x768.Idx → α) : S768x1024.Idx → α := shapeCast S768x1024 x shapeCasts_S1024x768_S768x1024
def unflat {α : Type} (x : S768x1024.Idx → α) : S1024x768.Idx → α := shapeCast S1024x768 x shapeCasts_S768x1024_S1024x768

theorem V₆_grad (c : Dev nD) : adaIn (V₆ m) c = shapeCast S1x768x1024 (product (condIn (V₄ m) c) (modIn (V₄ m) c)) shapeCasts_S1024x768_S1x768x1024 := by
  rw [← V₅_product m c]
  unfold adaIn V₆
  after_results
  rfl

theorem V₆_w (c : Dev nD) : wAda (V₆ m) c = flat (m ((c : Thread nD τ).loc main_arg5)) := by
  rw [← V₅_arg m c main_arg5 (by decide) (by decide) (by decide) (by decide)]
  unfold wAda V₆
  after_results
  rfl

theorem V₆_m (c : Dev nD) : mAda (V₆ m) c = flat (m ((c : Thread nD τ).loc main_arg6)) := by
  rw [← V₅_arg m c main_arg6 (by decide) (by decide) (by decide) (by decide)]
  unfold mAda V₆
  after_results
  rfl

theorem V₆_v (c : Dev nD) : vAda (V₆ m) c = flat (m ((c : Thread nD τ).loc main_arg7)) := by
  rw [← V₅_arg m c main_arg7 (by decide) (by decide) (by decide) (by decide)]
  unfold vAda V₆
  after_results
  rfl

theorem V₈_grad (c : Dev nD) : V₈ m c (Proc.devRef .tc main_v35) = unflat (gradAda (V₆ m) c) := by
  rw [← (V₇_out m c 4).trans (gradAda_done (V₆ m) c)]
  unfold V₈
  after_results
  rfl

theorem V₈_change (c : Dev nD) : V₈ m c (Proc.devRef .tc main_v36) = unflat (changeAda (V₆ m) c) := by
  rw [← (V₇_out m c 5).trans (changeAda_done (V₆ m) c)]
  unfold V₈
  after_results
  rfl

theorem V₈_first (c : Dev nD) : V₈ m c (Proc.devRef .tc main_v37) = unflat (firstAda (V₆ m) c) := by
  rw [← (V₇_out m c 6).trans (firstAda_done (V₆ m) c)]
  unfold V₈
  after_results
  rfl

theorem V₈_second (c : Dev nD) : V₈ m c (Proc.devRef .tc main_v38) = unflat (secondAda (V₆ m) c) := by
  rw [← (V₇_out m c 7).trans (secondAda_done (V₆ m) c)]
  unfold V₈
  after_results
  rfl

end Cert.Gather.Small

end
-- ==== Proof.StepHost.lean ====
/-
  The optimizer's step as a host program writes it, over arrays of any shape: read at an element, over the extended reals,
  it is the step of the element. And the sum over a leading axis of eight, read at an element.
-/
module

public import proofs.«01_k».proof.Proof.StepKit
public import Idealize.ShloMosaic.Lib.IdealHost

@[expose] public section

noncomputable section

namespace Cert.Step

open Cert.Gather (One All Cut)
open Idealize.ShloMosaic

abbrev Pt : Shape := ⟨0, ![]⟩

section

variable {F : FTy → Type} [FloatOps F] {S : Shape} (bc : Pt.BroadcastsInDim S ![])

/-- A constant at every element. -/
abbrev every (w : BitVec 32) : FVec F S .f32 := broadcastInDim S ![] bc (constant Pt .f32 w)
/-- The new first moment, -/
abbrev hostFirst (g mo : FVec F S .f32) : FVec F S .f32 := addf (mulf (every bc 0x3F666666#32) mo) (mulf (every bc 0x3DCCCCCD#32) g)
/-- the new second moment, -/
abbrev hostSecond (g vo : FVec F S .f32) : FVec F S .f32 := addf (mulf (every bc 0x3F7FBE77#32) vo) (mulf (every bc 0x3A83126F#32) (mulf g g))
/-- and the change of the weights. -/
abbrev hostChange (m1 m2 wt : FVec F S .f32) : FVec F S .f32 :=
  mulf (every bc 0xBA83126F#32) (addf (Host.divf (Host.divf m1 (every bc 0x3F26BD02#32)) (addf (Host.sqrt (Host.divf m2 (every bc 0x3C231ACC#32))) (every bc 0x322BCC77#32)))
    (mulf (every bc 0x3C23D70A#32) wt))

end

section

variable {S : Shape} (bc : Pt.BroadcastsInDim S ![])

theorem every_at (w : BitVec 32) (i : S.Idx) : (every bc w : FVec Ideal S .f32) i = Ideal.ofBits .f32 w :=
  ValueIdx.broadcastInDim_scalar_apply _ _ _

theorem hostFirst_eq (g mo : FVec Ideal S .f32) : hostFirst bc g mo = fun i => mom1 (F := Ideal) (g i) (mo i) := by
  funext i
  unfold mom1
  show (every (F := Ideal) bc _ _ : EReal) * _ + (every (F := Ideal) bc _ _ : EReal) * _ = _
  simp only [every_at]
  rfl

theorem hostSecond_eq (g vo : FVec Ideal S .f32) : hostSecond bc g vo = fun i => mom2 (F := Ideal) (g i) (vo i) := by
  funext i
  unfold mom2
  show (every (F := Ideal) bc _ _ : EReal) * _ + (every (F := Ideal) bc _ _ : EReal) * (_ * _) = _
  simp only [every_at]
  rfl

theorem hostChange_eq (m1 m2 wt : FVec Ideal S .f32) : hostChange bc m1 m2 wt = fun i => chg (F := Ideal) (m1 i) (m2 i) (wt i) := by
  funext i
  unfold chg
  show (every (F := Ideal) bc _ _ : EReal) * (Ideal.div (Ideal.div _ (every (F := Ideal) bc _ _ : EReal))
    (Ideal.sqrt (Ideal.div _ (every (F := Ideal) bc _ _ : EReal)) + (every (F := Ideal) bc _ _ : EReal)) + (every (F := Ideal) bc _ _ : EReal) * _) = _
  simp only [every_at]
  rfl

end

/-- Eight parts added in order are their sum. -/
theorem sum8_eq (f : Fin 8 → EReal) : sum8 (F := Ideal) f = ∑ j, f j := by
  rw [Fin.sum_univ_eight]; rfl

/-- The sum over the leading axis, at an element: the eight parts there added in order. -/
theorem hostSum_at {r w : ℕ} (x : FVec Ideal (All r w) .f32) (ht : (All r w).ReducesTo [0] (One r w)) (h : 0 < Pt.numel)
    (hr : Shape.Reduces (All r w) [0] (One r w)) (i : (One r w).Idx) :
    Host.reduceAdd x (constant Pt .f32 0x00000000#32) ht h i = sum8 (F := Ideal) fun j => x (ValueIdx.ix3 j (i 0) (i 1)) := by
  rw [sum8_eq, ValueIdx.hostReduceAdd_apply, Ideal.hostReduceAdd_single ht hr]
  rw [show (constant (F := Ideal) Pt .f32 0x00000000#32) (Shape.Idx.first h) = (0 : EReal) by simp [constant], zero_add]
  refine Finset.sum_congr rfl fun j _ => congrArg x (funext fun a => ?_)
  match a with
  | ⟨0, _⟩ => rfl
  | ⟨1, _⟩ => rfl
  | ⟨2, _⟩ => rfl

end Cert.Step

end
-- ==== Proof.SmallAgree.lean ====
/-
  The small weights' program against its reference, over the extended reals: every device has gathered all the parts, so
  its sum is the reference's, the loss is the sum's element that holds it, and the step is elementwise.
-/
module

public import proofs.«01_k».proof.Proof.AdaRead
public import proofs.«01_k».proof.Proof.StepHost
public import proofs.«01_k».proof.Proof.Gen.SmallReferenceIdeal
public import Idealize.ShloMosaic.Lib.Pointwise.Reduce

@[expose] public section

set_option maxRecDepth 16384

noncomputable section

namespace Cert.Gather.Small

open Cert.SmallIdeal Cert.SmallIdeal.Gen
open Cert.Step (sum8 mom1 mom2 chg)
open Idealize.ShloMosaic
open Idealize.ShloMosaic.TcCoe
open Idealize.SL.Sem

section Read

variable {F : FTy → Type} [FloatOps F] (m : (ℓ : Loc nD τ sig) → Buf (Elt F) ℓ) (ρ : Dev nD → PrngReg)

/-- The loss: the element behind the gradients of every part, added up. -/
def lossOf (x : FVec F S8x24x1024 .f32) : FVec F S_ .f32 :=
  Host.reduceAdd (shapeCast S8 (extractStridedSlice S8x1 ![0, 15616] (shapeCast S8x24576 x shapeCasts_S8x24x1024_S8x24576) slices_S8x24576_S8x1_0_15616) shapeCasts_S8x1_S8)
    (constant S_ .f32 0x00000000#32) reducesTo_S8_S_d0 h_S_

theorem V₂_loss (c : Dev nD) : V₂ m c (Proc.devRef .tc main_v5) = lossOf (parts m c) := by
  rw [← gotten_parts]
  unfold V₂
  after_results
  rfl

/-- What the run leaves, array by array. -/
theorem run : θ_run (defs (F := F)) (onTc (τ := τ) (main (F := F))) ⟨m, fun _ => 0, ρ⟩ fun r =>
    (∀ c : Dev nD, (r.2.mem ((c.tc : Thread nD τ).loc main_v5) = lossOf (parts m c)
      ∧ r.2.mem ((c.tc : Thread nD τ).loc main_v6_0) = grad (V₂ m) c
      ∧ r.2.mem ((c.tc : Thread nD τ).loc main_v6_1) = delta (V₂ m) c
      ∧ r.2.mem ((c.tc : Thread nD τ).loc main_v6_2) = newM (V₂ m) c
      ∧ r.2.mem ((c.tc : Thread nD τ).loc main_v6_3) = newV (V₂ m) c
      ∧ r.2.mem ((c.tc : Thread nD τ).loc main_v35) = unflat (gradAda (V₆ m) c)
      ∧ r.2.mem ((c.tc : Thread nD τ).loc main_v36) = unflat (changeAda (V₆ m) c)
      ∧ r.2.mem ((c.tc : Thread nD τ).loc main_v37) = unflat (firstAda (V₆ m) c)
      ∧ r.2.mem ((c.tc : Thread nD τ).loc main_v38) = unflat (secondAda (V₆ m) c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0 :=
  (θ_run _ _ _).mono (fun _ h => ⟨fun c =>
    ⟨⟨(h.1 c (Proc.devRef .tc main_v5) (by decide)).trans ((V₈_kept m c main_v5 (by decide) (by decide) (by decide)).trans ((V₃_off m c main_v5 (by decide)).trans (V₂_loss m c))),
      (h.1 c (Proc.devRef .tc main_v6_0) (by decide)).trans ((V₈_kept m c main_v6_0 (by decide) (by decide) (by decide)).trans ((V₃_out m c 4).trans (grad_done (V₂ m) c))),
      (h.1 c (Proc.devRef .tc main_v6_1) (by decide)).trans ((V₈_kept m c main_v6_1 (by decide) (by decide) (by decide)).trans ((V₃_out m c 5).trans (delta_done (V₂ m) c))),
      (h.1 c (Proc.devRef .tc main_v6_2) (by decide)).trans ((V₈_kept m c main_v6_2 (by decide) (by decide) (by decide)).trans ((V₃_out m c 6).trans (newM_done (V₂ m) c))),
      (h.1 c (Proc.devRef .tc main_v6_3) (by decide)).trans ((V₈_kept m c main_v6_3 (by decide) (by decide) (by decide)).trans ((V₃_out m c 7).trans (newV_done (V₂ m) c))),
      (h.1 c (Proc.devRef .tc main_v35) (by decide)).trans (V₈_grad m c),
      (h.1 c (Proc.devRef .tc main_v36) (by decide)).trans (V₈_change m c),
      (h.1 c (Proc.devRef .tc main_v37) (by decide)).trans (V₈_first m c),
      (h.1 c (Proc.devRef .tc main_v38) (by decide)).trans (V₈_second m c)⟩,
      (h.1 c (Proc.devRef .tc main_arg0) (by decide)).trans ((V₈_kept m c main_arg0 (by decide) (by decide) (by decide)).trans (V₃_arg m c main_arg0 (by decide) (by decide) (by decide))),
      (h.1 c (Proc.devRef .tc main_arg1) (by decide)).trans ((V₈_kept m c main_arg1 (by decide) (by decide) (by decide)).trans (V₃_argIn m c 1 rfl (by decide) (by decide))),
      (h.1 c (Proc.devRef .tc main_arg2) (by decide)).trans ((V₈_kept m c main_arg2 (by decide) (by decide) (by decide)).trans (V₃_argIn m c 2 rfl (by decide) (by decide))),
      (h.1 c (Proc.devRef .tc main_arg3) (by decide)).trans ((V₈_kept m c main_arg3 (by decide) (by decide) (by decide)).trans (V₃_argIn m c 3 rfl (by decide) (by decide))),
      (h.1 c (Proc.devRef .tc main_arg4) (by decide)).trans ((V₈_kept m c main_arg4 (by decide) (by decide) (by decide)).trans (V₃_arg m c main_arg4 (by decide) (by decide) (by decide))),
      (h.1 c (Proc.devRef .tc main_arg5) (by decide)).trans ((V₈_kept m c main_arg5 (by decide) (by decide) (by decide)).trans (V₃_arg m c main_arg5 (by decide) (by decide) (by decide))),
      (h.1 c (Proc.devRef .tc main_arg6) (by decide)).trans ((V₈_kept m c main_arg6 (by decide) (by decide) (by decide)).trans (V₃_arg m c main_arg6 (by decide) (by decide) (by decide))),
      (h.1 c (Proc.devRef .tc main_arg7) (by decide)).trans ((V₈_kept m c main_arg7 (by decide) (by decide) (by decide)).trans (V₃_arg m c main_arg7 (by decide) (by decide) (by decide)))⟩,
    h.2⟩) (run_main m ρ)

end Read

/-! ## The values -/

abbrev Stacked : Shape := ⟨2, ![192, 1024]⟩

theorem tiles : Layout.Tiles S24x1024 Stacked 0 8 := by decide
theorem reduces : Shape.Reduces S8x24x1024 [0] S24x1024 := by decide

/-- The sum of the parts, as the reference writes it. -/
abbrev total (X : Stacked.Idx → EReal) : FVec Ideal S24x1024 .f32 :=
  Host.reduceAdd (shapeCast S8x24x1024 X Cert.SmallReferenceIdeal.Gen.shapeCasts_S192x1024_S8x24x1024) (constant S_ .f32 0x00000000#32)
    Cert.SmallReferenceIdeal.Gen.reducesTo_S8x24x1024_S24x1024_d0 Cert.SmallReferenceIdeal.Gen.h_S_

/-- The loss, an element of that sum. -/
abbrev lossIn (g : FVec Ideal S24x1024 .f32) : FVec Ideal S_ .f32 :=
  shapeCast S_ (extractStridedSlice Cert.SmallReferenceIdeal.S1x1 ![15, 256] g Cert.SmallReferenceIdeal.Gen.slices_S24x1024_S1x1_15_256)
    Cert.SmallReferenceIdeal.Gen.shapeCasts_S1x1_S_

theorem total_at (X : Stacked.Idx → EReal) (i : S24x1024.Idx) :
    total X i = sum8 (F := Ideal) fun j =>
      shapeCast S8x24x1024 X Cert.SmallReferenceIdeal.Gen.shapeCasts_S192x1024_S8x24x1024 (ValueIdx.ix3 j (i 0) (i 1)) :=
  Cert.Step.hostSum_at _ _ _ reduces i

/-- The element the loss is at. -/
abbrev lossIdx : S24x1024.Idx := ValueIdx.ix2 (15 : Fin 24) (256 : Fin 1024)

theorem lossIn_at (g : FVec Ideal S24x1024 .f32) (i : S_.Idx) : lossIn g i = g lossIdx := by
  refine (Idealize.ShloMosaic.shapeCast_apply _ _ _ (ValueIdx.ix2 (0 : Fin 1) (0 : Fin 1)) ?_).trans ?_
  · rw [Shape.rowMajor_val_two]; exact (Nat.lt_one_iff.1 (S_.rowMajor i).isLt).symm
  · refine Idealize.ShloMosaic.extractStridedSlice_apply _ _ _ _ _ fun a => ?_
    match a with
    | ⟨0, _⟩ => rfl
    | ⟨1, _⟩ => rfl

theorem lossOf_at (x : FVec Ideal S8x24x1024 .f32) (i : S_.Idx) :
    lossOf x i = sum8 (F := Ideal) fun j => x (ValueIdx.ix3 j (lossIdx 0) (lossIdx 1)) := by
  unfold lossOf
  rw [Cert.Step.sum8_eq, ValueIdx.hostReduceAdd_apply, Ideal.hostReduceAdd_r1_a0]
  rw [show (constant (F := Ideal) S_ .f32 0x00000000#32) (Shape.Idx.first h_S_) = (0 : EReal) by simp [constant], zero_add]
  refine Finset.sum_congr rfl fun j _ => ?_
  refine (Idealize.ShloMosaic.shapeCast_apply _ _ _ (ValueIdx.ix2 j (0 : Fin 1)) ?_).trans ?_
  · rw [Shape.rowMajor_val_two, Shape.rowMajor_val_one]
    show j.val * 1 + 0 = j.val
    omega
  refine (Idealize.ShloMosaic.extractStridedSlice_apply _ _ _ _ (ValueIdx.ix2 j (15616 : Fin 24576)) fun a => ?_).trans ?_
  · match a with
    | ⟨0, _⟩ => exact (Nat.zero_add _).symm
    | ⟨1, _⟩ => rfl
  · refine Idealize.ShloMosaic.shapeCast_apply _ _ _ _ ?_
    rw [Shape.rowMajor_val_three, Shape.rowMajor_val_two]
    show (j.val * 24 + 15) * 1024 + 256 = j.val * 24576 + 15616
    omega

section Whole

variable {m : (ℓ : Loc nD τ sig) → Buf (Elt Ideal) ℓ} {X : Stacked.Idx → EReal} {w mo vo : S24x1024.Idx → EReal}

variable (m X w mo vo) in
/-- What the devices hold: their own parts, and the same weights and moments. -/
structure Share : Prop where
  x : ∀ c : Dev nD, m ((c : Thread nD τ).loc main_arg0) = Layout.block S24x1024 Stacked 0 8 c X tiles
  w : ∀ c : Dev nD, m ((c : Thread nD τ).loc main_arg1) = w
  mo : ∀ c : Dev nD, m ((c : Thread nD τ).loc main_arg2) = mo
  vo : ∀ c : Dev nD, m ((c : Thread nD τ).loc main_arg3) = vo

variable (h : Share m X w mo vo)
include h

theorem parts_whole (c : Dev nD) : parts m c = shapeCast S8x24x1024 X Cert.SmallReferenceIdeal.Gen.shapeCasts_S192x1024_S8x24x1024 :=
  gathered_whole (by decide) tiles _ _ X h.x

theorem grad_whole (c : Dev nD) : grad (V₂ m) c = total X := by
  funext i
  rw [total_at]
  unfold grad partsIn
  rw [V₂_parts, parts_whole h]

theorem loss_whole (c : Dev nD) : lossOf (parts m c) = lossIn (total X) := by
  funext i
  rw [lossOf_at, lossIn_at, total_at, parts_whole h]

theorem newM_whole (c : Dev nD) : newM (V₂ m) c = Cert.Step.hostFirst Cert.SmallReferenceIdeal.Gen.bcast_S_S24x1024 (total X) mo := by
  rw [Cert.Step.hostFirst_eq]
  unfold newM mIn
  rw [grad_whole h, V₂_arg m c main_arg2 (by decide) (by decide), h.mo]

theorem newV_whole (c : Dev nD) : newV (V₂ m) c = Cert.Step.hostSecond Cert.SmallReferenceIdeal.Gen.bcast_S_S24x1024 (total X) vo := by
  rw [Cert.Step.hostSecond_eq]
  unfold newV vIn
  rw [grad_whole h, V₂_arg m c main_arg3 (by decide) (by decide), h.vo]

theorem delta_whole (c : Dev nD) : delta (V₂ m) c = Cert.Step.hostChange Cert.SmallReferenceIdeal.Gen.bcast_S_S24x1024
    (Cert.Step.hostFirst Cert.SmallReferenceIdeal.Gen.bcast_S_S24x1024 (total X) mo)
    (Cert.Step.hostSecond Cert.SmallReferenceIdeal.Gen.bcast_S_S24x1024 (total X) vo) w := by
  rw [Cert.Step.hostChange_eq]
  unfold delta wIn
  rw [newM_whole h, newV_whole h, V₂_arg m c main_arg1 (by decide) (by decide), h.w]

end Whole

end Cert.Gather.Small

end
-- ==== Proof.AdaValue.lean ====
/-
  The modulation weights' gradient over the extended reals: the group of columns a device picks, the rows of zeros, which
  add nothing, and the product as a sum over the batch, for the kernel and for the reference.
-/
module

public import proofs.«01_k».proof.Proof.SmallAgree
public import Idealize.ShloMosaic.Lib.Pointwise.Contract
public import Idealize.ShloMosaic.Lib.StackMember
public import Idealize.ShloMosaic.Lib.KernelVsHost
public import Idealize.ShloMosaic.Lib.DynamicIndex
public import Idealize.ShloMosaic.Lib.Pointwise.Reshape

@[expose] public section

set_option maxRecDepth 16384

noncomputable section

namespace Cert.Gather.Small

open Cert.SmallIdeal Cert.SmallIdeal.Gen
open Idealize.ShloMosaic
open Idealize.ShloMosaic.TcCoe
open Idealize.SL.Sem

/-! ## The device's group of columns -/

/-- The number a device computes is its own. -/
theorem number_is : ∀ c : Dev nD, number c (Shape.Idx.first h_S_) = BitVec.ofNat 32 c.val := by decide +kernel

/-- Column `k` of group `c`. -/
def column (c : Dev nD) (k : Fin 768) : Fin 6144 := ⟨c.val * 768 + k.val, by have := c.isLt; have := k.isLt; change c.val < 8 at *; omega⟩

/-- The modulation gradients, their columns in a row. -/
abbrev tail {α : Type} (x : S8x24x1024.Idx → α) : S8x6144.Idx → α :=
  extractStridedSlice S8x6144 ![0, 0] (shapeCast S8x24576 x shapeCasts_S8x24x1024_S8x24576) slices_S8x24576_S8x6144_0_0

theorem pick_at (x : FVec Ideal S8x24x1024 .f32) (c : Dev nD) (j : Fin 8) (k : Fin 768) :
    pick (groups x) (number c) (ValueIdx.ix2 j k) = tail x (ValueIdx.ix2 j (column c k)) := by
  have hc : c.val < 8 := c.isLt
  have hn : (number c (Shape.Idx.first h_S_)).toInt = (c.val : ℤ) := by
    rw [number_is]; exact toInt_ofNat_of_lt (by omega)
  have hs : ∀ k : Fin 3, ((![constantI S_ 32 0#32, select (cmpi .slt (number c) (constantI S_ 32 0#32)) (addi (number c) (constantI S_ 32 8#32)) (number c), constantI S_ 32 0#32] : Fin 3 → IVec S_ 32) k (Shape.Idx.first h_S_)).toInt
      = ((![0, c.val, 0] : Fin 3 → ℕ) k : ℤ) := by
    intro k
    match k with
    | 0 => rfl
    | 1 =>
      show (select (cmpi .slt (number c) (constantI S_ 32 0#32)) (addi (number c) (constantI S_ 32 8#32)) (number c) (Shape.Idx.first h_S_)).toInt = (c.val : ℤ)
      rw [select_slt_zero_of_nonneg _ _ _ _ (by rw [hn]; omega), hn]
    | 2 => rfl
  have hoff : S8x8x768.Slices (![0, c.val, 0] : Fin 3 → ℕ) S8x1x768 := ⟨rfl, fun a => by
    match a with
    | ⟨0, _⟩ => exact (by decide : 0 + 8 ≤ 8)
    | ⟨1, _⟩ => exact (by omega : c.val + 1 ≤ 8)
    | ⟨2, _⟩ => exact (by decide : 0 + 768 ≤ 768)⟩
  unfold pick
  rw [Host.dynamicSlice_eq_extractStridedSlice S8x1x768 (groups x) _ (![0, c.val, 0] : Fin 3 → ℕ) sliceFits_S8x8x768_S8x1x768 hoff hs]
  refine (Idealize.ShloMosaic.shapeCast_apply _ _ _ (ValueIdx.ix3 j (0 : Fin 1) k) ?_).trans ?_
  · rw [Shape.rowMajor_val_three, Shape.rowMajor_val_two]
    show (j.val * 1 + 0) * 768 + k.val = j.val * 768 + k.val
    omega
  refine (Idealize.ShloMosaic.extractStridedSlice_apply _ _ _ _ (ValueIdx.ix3 j (⟨c.val, hc⟩ : Fin 8) k) fun a => ?_).trans ?_
  · match a with
    | ⟨0, _⟩ => exact (Nat.zero_add _).symm
    | ⟨1, _⟩ => rfl
    | ⟨2, _⟩ => exact (Nat.zero_add _).symm
  unfold groups
  refine Idealize.ShloMosaic.shapeCast_apply _ _ _ (ValueIdx.ix2 j (column c k)) ?_
  rw [Shape.rowMajor_val_three, Shape.rowMajor_val_two]
  show j.val * 6144 + (c.val * 768 + k.val) = (j.val * 8 + c.val) * 768 + k.val
  omega

/-! ## The rows of zeros -/

theorem padValue : (sitofp (F := Ideal) .f32 (constantI S_ 32 0#32) : FVec Ideal S_ .f32) (Shape.Idx.first h_S_) = (0 : EReal) := by
  show (((0#32 : BitVec 32).toInt : ℝ) : EReal) = 0
  simp

theorem padCond_top (x : FVec Ideal S8x1024 .f32) (j : Fin 8) (k : Fin 1024) :
    padCond x (ValueIdx.ix2 (Fin.castAdd 8 j : Fin (8 + 8)) k) = x (ValueIdx.ix2 j k) :=
  pad_apply_of_inside _ _ _ _ _ _ _ _ (ValueIdx.ix2 j k) fun a => by
    match a with
    | ⟨0, _⟩ => exact (by omega : j.val = 0 + j.val * (0 + 1))
    | ⟨1, _⟩ => exact (by omega : k.val = 0 + k.val * (0 + 1))

theorem padMod_top (x : FVec Ideal S8x768 .f32) (j : Fin 8) (k : Fin 768) :
    padMod x (ValueIdx.ix2 (Fin.castAdd 8 j : Fin (8 + 8)) k) = x (ValueIdx.ix2 j k) :=
  pad_apply_of_inside _ _ _ _ _ _ _ _ (ValueIdx.ix2 j k) fun a => by
    match a with
    | ⟨0, _⟩ => exact (by omega : j.val = 0 + j.val * (0 + 1))
    | ⟨1, _⟩ => exact (by omega : k.val = 0 + k.val * (0 + 1))

theorem padMod_rest (x : FVec Ideal S8x768 .f32) (j : Fin 8) (k : Fin 768) :
    padMod x (ValueIdx.ix2 (Fin.natAdd 8 j : Fin (8 + 8)) k) = (0 : EReal) := by
  refine (pad_apply_of_not_inside _ _ _ _ _ _ _ _ (0 : Fin 2) ?_).trans padValue
  rintro ⟨-, -, h⟩
  have h' : (8 + j.val - 0) / (0 + 1) < 8 := h
  omega

/-! ## The product -/

/-- A conditioning entry times its logistic function. -/
def gate (x : EReal) : EReal := x * Ideal.div (Ideal.ofBits .f32 0x3F800000#32) (Ideal.ofBits .f32 0x3F800000#32 + Ideal.exp (-x))

theorem product_at (x : FVec Ideal S16x1024 .f32) (d : FVec Ideal S16x768 .f32) (k : Fin 1024) (n : Fin 768) :
    (product (F := Ideal) x d (ValueIdx.ix2 k n) : EReal) = ∑ j : Fin 16, gate (x (ValueIdx.ix2 j k)) * d (ValueIdx.ix2 j n) := by
  unfold product k2_pay1
  rw [shapeCast_self, shapeCast_self]
  refine (Ideal.matmul_apply₁_of dot_S16x1024_S16x768_S1024x768_0_0_1_1_n_n rfl rfl _ _ _ (ValueIdx.ix2 k n)
    (fun j => ValueIdx.ix2 j k) (fun j => ValueIdx.ix2 j n) (fun j => ?_) (fun j => ?_)).trans ?_
  · funext a
    match a with
    | ⟨0, _⟩ => rfl
    | ⟨1, _⟩ => rfl
  · funext a
    match a with
    | ⟨0, _⟩ => rfl
    | ⟨1, _⟩ => rfl
  · have hz : (Ideal.ofBits .f32 0#32 : EReal) = 0 := by simp
    show Ideal.ofBits .f32 0#32 + ∑ j : Fin 16, x (ValueIdx.ix2 j k) * Ideal.div (Ideal.ofBits .f32 0x3F800000#32)
      (Ideal.ofBits .f32 0x3F800000#32 + Ideal.exp (Ideal.ofBits .f32 0#32 - x (ValueIdx.ix2 j k))) * d (ValueIdx.ix2 j n) = _
    rw [hz, zero_add]
    refine Finset.sum_congr rfl fun j _ => ?_
    rw [zero_sub]
    rfl

/-- With the rows of zeros left out. -/
theorem product_padded (x : FVec Ideal S8x1024 .f32) (d : FVec Ideal S8x768 .f32) (k : Fin 1024) (n : Fin 768) :
    (product (F := Ideal) (padCond x) (padMod d) (ValueIdx.ix2 k n) : EReal)
      = ∑ j : Fin 8, gate (x (ValueIdx.ix2 j k)) * d (ValueIdx.ix2 j n) := by
  rw [product_at]
  refine (Fin.sum_univ_add (a := 8) (b := 8) _).trans ?_
  have h : ∀ j : Fin 8, gate (padCond x (ValueIdx.ix2 (Fin.natAdd 8 j : Fin (8 + 8)) k)) * padMod d (ValueIdx.ix2 (Fin.natAdd 8 j : Fin (8 + 8)) n) = (0 : EReal) := fun j => by
    rw [padMod_rest, mul_zero]
  rw [Finset.sum_congr rfl fun j _ => h j, Finset.sum_const_zero, add_zero]
  refine Finset.sum_congr rfl fun j _ => ?_
  rw [padCond_top, padMod_top]

/-- The device's product of its conditioning and the columns it picks. -/
theorem device_grad (x : FVec Ideal S8x1024 .f32) (p : FVec Ideal S8x24x1024 .f32) (c : Dev nD) (k : Fin 1024) (n : Fin 768) :
    (product (F := Ideal) (padCond x) (padMod (pick (groups p) (number c))) (ValueIdx.ix2 k n) : EReal)
      = ∑ j : Fin 8, gate (x (ValueIdx.ix2 j k)) * tail p (ValueIdx.ix2 j (column c n)) :=
  (product_padded x _ k n).trans (Finset.sum_congr rfl fun j _ => by rw [pick_at])

end Cert.Gather.Small

namespace Cert.SmallReferenceIdeal.Value

open Cert.SmallReferenceIdeal Cert.SmallReferenceIdeal.Gen
open Idealize.ShloMosaic
open Cert.Gather.Small (gate column tail)

/-- The reference's conditioning after its activation. -/
def active (x : FVec Ideal S8x1024 .f32) : FVec Ideal S8x1024 .f32 :=
  mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))

theorem active_at (x : FVec Ideal S8x1024 .f32) (i : S8x1024.Idx) : (active x i : EReal) = gate (x i) := rfl

/-- The reference's gradient of the modulation weights. -/
def modGrad (x : FVec Ideal S8x1024 .f32) (X : FVec Ideal S192x1024 .f32) : FVec Ideal S1024x6144 .f32 :=
  Host.dotGeneral dot_S1024x8_S8x6144_S1024x6144_1_0_0_1_n_n none (transpose S1024x8 [1, 0] (active x) transposes_S8x1024_S1024x8_1_0)
    (extractStridedSlice S8x6144 ![0, 0] (shapeCast S8x24576 X shapeCasts_S192x1024_S8x24576) slices_S8x24576_S8x6144_0_0)

/-- The rows in a row, with the batch apart in between or not. -/
theorem tail_rows (X : FVec Ideal S192x1024 .f32) :
    tail (shapeCast S8x24x1024 X shapeCasts_S192x1024_S8x24x1024)
      = extractStridedSlice S8x6144 ![0, 0] (shapeCast S8x24576 X shapeCasts_S192x1024_S8x24576) slices_S8x24576_S8x6144_0_0 := by
  have h : shapeCast S8x24576 (shapeCast S8x24x1024 X shapeCasts_S192x1024_S8x24x1024) Cert.SmallIdeal.Gen.shapeCasts_S8x24x1024_S8x24576
      = shapeCast S8x24576 X shapeCasts_S192x1024_S8x24576 := shapeCast_comp X shapeCasts_S192x1024_S8x24x1024 _
  unfold tail
  rw [← h]

theorem modGrad_at (x : FVec Ideal S8x1024 .f32) (X : FVec Ideal S192x1024 .f32) (k : Fin 1024) (n : Fin 6144) :
    (modGrad x X (ValueIdx.ix2 k n) : EReal)
      = ∑ j : Fin 8, gate (x (ValueIdx.ix2 j k)) * tail (shapeCast S8x24x1024 X shapeCasts_S192x1024_S8x24x1024) (ValueIdx.ix2 j n) := by
  rw [tail_rows]
  refine (StackMember.dotGeneral_plain_apply (m := 1024) (k := 8) (n := 6144) none _ _ k n).trans ?_
  refine Finset.sum_congr rfl fun j _ => ?_
  refine congrArg₂ (· * ·) ?_ rfl
  rw [← active_at]
  refine congrArg (active x) ?_
  funext a
  match a with
  | ⟨0, _⟩ => rfl
  | ⟨1, _⟩ => rfl

end Cert.SmallReferenceIdeal.Value

end
-- ==== Proof.AdaAgree.lean ====
/-
  The modulation weights' step agrees with the reference: each device's block of the gradient, of the change and of the
  moments is the block of the reference's whole arrays.
-/
module

public import proofs.«01_k».proof.Proof.AdaValue

@[expose] public section

set_option maxRecDepth 16384

noncomputable section

namespace Cert.Gather.Small

open Cert.SmallIdeal Cert.SmallIdeal.Gen
open Idealize.ShloMosaic
open Idealize.ShloMosaic.TcCoe
open Idealize.SL.Sem
open Cert.Step (mom1 mom2 chg)
open Cert.SmallReferenceIdeal.Value (modGrad modGrad_at)

/-! ## The order of the elements -/

theorem unflat_flat {α : Type} (x : S1024x768.Idx → α) : unflat (flat x) = x := shapeCast_shapeCast _ _ _

section Flat

variable (m : (ℓ : Loc nD τ sig) → Buf (Elt Ideal) ℓ)

/-- The step's gradient is the product, its elements in the order of the step's rows. -/
theorem gradAda_eq (c : Dev nD) : gradAda (V₆ m) c = flat (product (condIn (V₄ m) c) (modIn (V₄ m) c)) := by
  funext i
  unfold gradAda
  rw [V₆_grad]
  unfold flat
  refine (Idealize.ShloMosaic.shapeCast_apply _ _ _ (Shape.reshapeEquiv shapeCasts_S1024x768_S768x1024 i) ?_).trans rfl
  rw [Shape.rowMajor_reshapeEquiv, Shape.rowMajor_val_three, Shape.rowMajor_val_two]
  show (i 0).val * 1024 + (i 1).val = (0 * 768 + (i 0).val) * 1024 + (i 1).val
  omega

end Flat

/-! ## The blocks -/

abbrev Wide : Shape := ⟨2, ![1024, 6144]⟩

theorem wideTiles : Layout.Tiles S1024x768 Wide 1 8 := by decide

abbrev piece {α : Type} (c : Dev nD) (x : Wide.Idx → α) : S1024x768.Idx → α := Layout.block S1024x768 Wide 1 8 c x wideTiles

theorem piece_at {α : Type} (c : Dev nD) (x : Wide.Idx → α) (k : Fin 1024) (n : Fin 768) :
    piece c x (ValueIdx.ix2 k n) = x (ValueIdx.ix2 k (column c n)) := by
  refine congrArg x ?_
  funext a
  match a with
  | ⟨0, _⟩ => exact Fin.ext rfl
  | ⟨1, _⟩ => exact Fin.ext rfl

section Whole

variable {m : (ℓ : Loc nD τ sig) → Buf (Elt Ideal) ℓ} {X : Stacked.Idx → EReal} {w mo vo : S24x1024.Idx → EReal}
  {C : S8x1024.Idx → EReal} {wa ma va : Wide.Idx → EReal}

variable (m C wa ma va) in
/-- What the devices hold besides: the same conditioning, and their own columns of the modulation weights and moments. -/
structure ShareAda : Prop where
  cond : ∀ c : Dev nD, m ((c : Thread nD τ).loc main_arg4) = C
  w : ∀ c : Dev nD, m ((c : Thread nD τ).loc main_arg5) = piece c wa
  mo : ∀ c : Dev nD, m ((c : Thread nD τ).loc main_arg6) = piece c ma
  vo : ∀ c : Dev nD, m ((c : Thread nD τ).loc main_arg7) = piece c va

variable (h : Share m X w mo vo) (ha : ShareAda m C wa ma va)
include h ha

theorem product_whole (c : Dev nD) : product (condIn (V₄ m) c) (modIn (V₄ m) c) = piece c (modGrad C X) := by
  funext i
  rw [V₄_cond, V₄_mod, V₃_arg m c main_arg4 (by decide) (by decide) (by decide), ha.cond, parts_whole h]
  obtain ⟨k, n, rfl⟩ : ∃ (k : Fin 1024) (n : Fin 768), i = ValueIdx.ix2 k n := ⟨i 0, i 1, ValueIdx.eq_ix2 i⟩
  exact (device_grad C _ c k n).trans ((modGrad_at C X k (column c n)).symm.trans (piece_at c _ k n).symm)

theorem gradAda_is (c : Dev nD) : gradAda (V₆ m) c = flat (piece c (modGrad C X)) := by
  rw [gradAda_eq, product_whole h ha]

theorem gradAda_whole (c : Dev nD) : unflat (gradAda (V₆ m) c) = piece c (modGrad C X) := by
  rw [gradAda_is h ha, unflat_flat]

theorem firstAda_is (c : Dev nD) : firstAda (V₆ m) c
    = flat (piece c (Cert.Step.hostFirst Cert.SmallReferenceIdeal.Gen.bcast_S_S1024x6144 (modGrad C X) ma)) := by
  rw [Cert.Step.hostFirst_eq]
  unfold firstAda
  rw [gradAda_is h ha, V₆_m, ha.mo]
  rfl

theorem secondAda_is (c : Dev nD) : secondAda (V₆ m) c
    = flat (piece c (Cert.Step.hostSecond Cert.SmallReferenceIdeal.Gen.bcast_S_S1024x6144 (modGrad C X) va)) := by
  rw [Cert.Step.hostSecond_eq]
  unfold secondAda
  rw [gradAda_is h ha, V₆_v, ha.vo]
  rfl

theorem changeAda_is (c : Dev nD) : changeAda (V₆ m) c
    = flat (piece c (Cert.Step.hostChange Cert.SmallReferenceIdeal.Gen.bcast_S_S1024x6144
        (Cert.Step.hostFirst Cert.SmallReferenceIdeal.Gen.bcast_S_S1024x6144 (modGrad C X) ma)
        (Cert.Step.hostSecond Cert.SmallReferenceIdeal.Gen.bcast_S_S1024x6144 (modGrad C X) va) wa)) := by
  rw [Cert.Step.hostChange_eq]
  unfold changeAda
  rw [firstAda_is h ha, secondAda_is h ha, V₆_w, ha.w]
  rfl

theorem firstAda_whole (c : Dev nD) : unflat (firstAda (V₆ m) c)
    = piece c (Cert.Step.hostFirst Cert.SmallReferenceIdeal.Gen.bcast_S_S1024x6144 (modGrad C X) ma) := by
  rw [firstAda_is h ha, unflat_flat]

theorem secondAda_whole (c : Dev nD) : unflat (secondAda (V₆ m) c)
    = piece c (Cert.Step.hostSecond Cert.SmallReferenceIdeal.Gen.bcast_S_S1024x6144 (modGrad C X) va) := by
  rw [secondAda_is h ha, unflat_flat]

theorem changeAda_whole (c : Dev nD) : unflat (changeAda (V₆ m) c)
    = piece c (Cert.Step.hostChange Cert.SmallReferenceIdeal.Gen.bcast_S_S1024x6144
        (Cert.Step.hostFirst Cert.SmallReferenceIdeal.Gen.bcast_S_S1024x6144 (modGrad C X) ma)
        (Cert.Step.hostSecond Cert.SmallReferenceIdeal.Gen.bcast_S_S1024x6144 (modGrad C X) va) wa) := by
  rw [changeAda_is h ha, unflat_flat]

end Whole

end Cert.Gather.Small

end
-- ==== Proof.SmallClaims.lean ====
/-
  The claims about the program of the small weights and the modulation weights: the frames and the values, from its one run over any floats.
-/
module

public import proofs.«01_k».proof.Defs
public import proofs.«01_k».proof.Proof.AdaAgree
public import proofs.«01_k».proof.Proof.Gen.Small
public import proofs.«01_k».proof.Proof.Gen.SmallReferenceIdeal.Run
public import Idealize.ShloMosaic.Adequacy
public import Idealize.ShloMosaic.Init
public import Idealize.ShloMosaic.Lib.Quiescent

@[expose] public section

noncomputable section

namespace Cert.Gather.Small

open Idealize.ShloMosaic Idealize.ShloMosaic.TcCoe Idealize.SL.Sem

section Same

attribute [local instance] Cert.Small.Gen.facts Cert.SmallIdeal.Gen.facts

set_option maxHeartbeats 4000000 in
theorem bodies_same : Cert.Small.defs₀ (F := Bits) = Cert.SmallIdeal.defs₀ (F := Bits) := by
  unfold Cert.Small.defs₀ Cert.SmallIdeal.defs₀
  refine congrArg Defs.onTc ?_
  funext l a
  match l with
  | 0 => rfl
  | 1 => rfl
  | 2 => rfl
  | 3 => rfl

set_option maxHeartbeats 4000000 in
theorem defs_same : Cert.Small.defs (F := Bits) = Cert.SmallIdeal.defs (F := Bits) := congrArg (Pipeline.defs Cert.Small.pcfgs) bodies_same

end Same

set_option maxHeartbeats 4000000 in
theorem frame_kernel : @Cert.quiescent_Small Cert.Small.Gen.facts := by
  intro m ρ _
  rw [defs_same]
  exact (θ_run Cert.SmallIdeal.defs _ _).mono (fun _ h => ⟨fun c => (h.1 c).2, h.2⟩) (run (F := Bits) m ρ)

set_option maxHeartbeats 4000000 in
theorem frame_kernelIdeal : @Cert.quiescent_SmallIdeal Cert.SmallIdeal.Gen.facts := fun m ρ _ =>
  (θ_run Cert.SmallIdeal.defs _ _).mono (fun _ h => ⟨fun c => (h.1 c).2, h.2⟩) (run (F := Ideal) m ρ)

theorem frame_referenceIdeal : @Cert.quiescent_SmallReferenceIdeal Cert.SmallReferenceIdeal.Gen.facts := fun m ρ _ =>
  (θ_run Cert.SmallReferenceIdeal.defs _ _).mono (fun r h => ⟨fun c => (h c).2.2.2.2.2.2.2.2.2, sem_eq_zero_of_no_sems (by decide) r.2⟩)
    (Cert.SmallReferenceIdeal.Value.run (F := Ideal) m ρ)

/-- The two runs agree: every device holds the reference's results, whole or its own columns. -/
theorem values : @Cert.algebraic_SmallIdeal_SmallReferenceIdeal Cert.SmallIdeal.Gen.facts Cert.SmallReferenceIdeal.Gen.facts := by
  intro m g m' g' _ hin
  have hs : Share m _ _ _ _ := ⟨fun c => (hin c).1, fun c => (hin c).2.1, fun c => (hin c).2.2.1, fun c => (hin c).2.2.2.1⟩
  have ha : ShareAda m _ _ _ _ := ⟨fun c => (hin c).2.2.2.2.1, fun c => (hin c).2.2.2.2.2.1, fun c => (hin c).2.2.2.2.2.2.1, fun c => (hin c).2.2.2.2.2.2.2⟩
  refine ⟨_, _, _, _, _, _, _, _, _, (θ_run Cert.SmallIdeal.defs _ _).mono (fun _ h c => ?_) (run (F := Ideal) m g),
    (θ_run Cert.SmallReferenceIdeal.defs _ _).mono (fun _ h => h 0) (Cert.SmallReferenceIdeal.Value.run (F := Ideal) m' g')⟩
  obtain ⟨⟨h0, h1, h2, h3, h4, h5, h6, h7, h8⟩, hk⟩ := h.1 c
  exact ⟨h0.trans (loss_whole hs c), h1.trans (grad_whole hs c), h2.trans (delta_whole hs c), h3.trans (newM_whole hs c),
    h4.trans (newV_whole hs c), h5.trans (gradAda_whole hs ha c), h6.trans (changeAda_whole hs ha c), h7.trans (firstAda_whole hs ha c),
    h8.trans (secondAda_whole hs ha c), hk⟩

end Cert.Gather.Small

end
-- ==== Proof.Products.lean ====
/-
  Products of matrices over the extended reals: a block of a product is the product of a block of rows and a block of
  columns; and what a buffer holds that is written whole from buffers that are read whole.
-/
module

public import Idealize.ShloMosaic.Lib.StackMember
public import Idealize.ShloMosaic.Lib.KernelVsHost
public import Idealize.ShloMosaic.Lib.Pointwise.Contract
public import Idealize.ShloMosaic.Lib.Pipeline.ValueKit
public import Idealize.ShloMosaic.Lib.ValueIdx

@[expose] public section

noncomputable section

namespace Cert.Products

open Idealize.ShloMosaic

/-- A matrix's shape. -/
abbrev Mat (a b : ℕ) : Shape := ⟨2, ![a, b]⟩

variable {F : FTy → Type} [FloatOps F]

/-- All of a matrix, read, is the matrix; -/
theorem read_all {a b : ℕ} {e : EltTy} (x : (Mat a b).Idx → Elt F e) (inb) :
    View.ld x (Rect.unit (s := Mat a b) ![0, 0] (Mat a b).size inb) = x :=
  View.ld_unit_lit (S := Mat a b) (off := ![0, 0]) inb x (show ∀ i : Fin 2, (![0, 0] : Fin 2 → ℕ) i = 0 by decide)

/-- written, it is what was written. -/
theorem written_all {a b : ℕ} {e : EltTy} (inb) (p : (Mat a b).Idx → Elt F e) :
    View.canon [(⟨Rect.unit (s := Mat a b) ![0, 0] (Mat a b).size inb, p⟩ : View.Piece (Elt F) (Mat a b) e)] = p :=
  View.canon_cons_unit_lit (S := Mat a b) (off := ![0, 0]) inb p [] (show ∀ a : Fin 2, (![0, 0] : Fin 2 → ℕ) a = 0 by decide)

/-- The product of two matrices. -/
def product {M K N : ℕ} (A : FVec Ideal (Mat M K) .bf16) (B : FVec Ideal (Mat K N) .bf16) : FVec Ideal (Mat M N) .f32 :=
  Host.dotGeneral (φ₁ := .bf16) (φ₂ := .bf16) (DotDims.plain M K N) none A B

/-- An element of the product of the rows `x` and the columns `y` of `A` and `B` is the element of their product in
    the same row and column. -/
theorem block_product {M K N tm tn : ℕ} (A : FVec Ideal (Mat M K) .bf16) (B : FVec Ideal (Mat K N) .bf16)
    (x : FVec Ideal (Mat tm K) .bf16) (y : FVec Ideal (Mat K tn) .bf16) (r : Fin M) (s : Fin N) (a : Fin tm) (b : Fin tn)
    (hx : ∀ k : Fin K, (x (ValueIdx.ix2 a k) : EReal) = A (ValueIdx.ix2 r k))
    (hy : ∀ k : Fin K, (y (ValueIdx.ix2 k b) : EReal) = B (ValueIdx.ix2 k s)) :
    (matmul (φ₁ := .bf16) (φ₂ := .bf16) (DotDims.plain tm K tn) none x y (constant (Mat tm tn) .f32 0x00000000#32) (ValueIdx.ix2 a b) : EReal)
      = product A B (ValueIdx.ix2 r s) := by
  unfold product
  rw [matmul_zero_eq_dotGeneral, StackMember.dotGeneral_plain_apply, StackMember.dotGeneral_plain_apply]
  exact Finset.sum_congr rfl fun k _ => by rw [hx, hy]

/-- The first block begins at the beginning. -/
theorem first_block (n k : ℕ) : 0 * n + k = k := by rw [Nat.zero_mul, Nat.zero_add]

/-- So the product of the block of rows and the block of columns that lie at block `i`, `j` is the block of the product
    that lies there. -/
theorem product_block {M K N tm tn : ℕ} (A : FVec Ideal (Mat M K) .bf16) (B : FVec Ideal (Mat K N) .bf16)
    (ea : (Mat tm K).Idx → (Mat M K).Idx) (eb : (Mat K tn).Idx → (Mat K N).Idx) (eo : (Mat tm tn).Idx → (Mat M N).Idx) (i j : ℕ)
    (ha : ∀ z, (ea z 0).val = i * tm + (z 0).val ∧ (ea z 1).val = (z 1).val)
    (hb : ∀ z, (eb z 0).val = (z 0).val ∧ (eb z 1).val = j * tn + (z 1).val)
    (ho : ∀ z, (eo z 0).val = i * tm + (z 0).val ∧ (eo z 1).val = j * tn + (z 1).val) (y : (Mat tm tn).Idx) :
    (matmul (φ₁ := .bf16) (φ₂ := .bf16) (DotDims.plain tm K tn) none (fun z => A (ea z)) (fun z => B (eb z))
      (constant (Mat tm tn) .f32 0x00000000#32) y : EReal) = product A B (eo y) := by
  obtain ⟨a, b, rfl⟩ : ∃ a b, y = ValueIdx.ix2 a b := ⟨y 0, y 1, ValueIdx.eq_ix2 y⟩
  have ho' := ho (ValueIdx.ix2 a b)
  obtain ⟨r, s, h⟩ : ∃ r s, eo (ValueIdx.ix2 a b) = ValueIdx.ix2 r s := ⟨_, _, ValueIdx.eq_ix2 _⟩
  rw [h] at ho' ⊢
  refine block_product A B _ _ r s a b (fun k => congrArg A ?_) fun k => congrArg B ?_
  · refine (ValueIdx.eq_ix2 _).trans ?_
    congr 1
    · exact Fin.ext ((ha _).1.trans ho'.1.symm)
    · exact Fin.ext (ha _).2
  · refine (ValueIdx.eq_ix2 _).trans ?_
    congr 1
    · exact Fin.ext (hb _).1
    · exact Fin.ext ((hb _).2.trans ho'.2.symm)

end Cert.Products

end
-- ==== Proof.InProduct.lean ====
/-
  The product of the activations and the input weights, block by block: the claims about it.
-/
module

public import proofs.«01_k».proof.Defs
public import proofs.«01_k».proof.Proof.Gen.InProj
public import proofs.«01_k».proof.Proof.Gen.InProjIdeal.Value
public import proofs.«01_k».proof.Proof.Gen.InProjReferenceIdeal.Run
public import proofs.«01_k».proof.Proof.Products
public import Idealize.ShloMosaic.Lib.Quiescent

@[expose] public section

set_option maxRecDepth 16384

noncomputable section

namespace Cert.Products.In

open Idealize.ShloMosaic Idealize.ShloMosaic.TcCoe Idealize.SL.Sem

section Value

open Cert.InProjIdeal Cert.InProjIdeal.Gen

variable (m : (ℓ : Loc nD τ sig) → Buf (Elt Ideal) ℓ)

/-- What the call should leave: the product of its two arguments. -/
def whole (c : Dev nD) : FVec Ideal (Mat 8192 3200) .f32 :=
  product (K := 1024) (m ((c : Thread nD τ).loc main_arg0)) (m ((c : Thread nD τ).loc main_arg1))

/-- At each step the block that is written is the product's block. -/
theorem block_at (c : Dev nD) (t : Fin cfg0.N) (y : S512x640.Idx) :
    out0_2 (iblk m c 0 t) (iblk m c 1 t) y = whole m c (((cfg0.win 2).blk t).view.emb y) := by
  refine (congrFun (written_all (a := 512) (b := 640) _ _) y).trans ?_
  rw [read_all (a := 512) (b := 1024), read_all (a := 1024) (b := 640)]
  exact product_block (M := 8192) (K := 1024) (N := 3200) (tm := 512) (tn := 640) _ _ ((cfg0.win 0).blk t).view.emb ((cfg0.win 1).blk t).view.emb
    ((cfg0.win 2).blk t).view.emb (win0_2.index t 0) (win0_2.index t 1) (fun z => ⟨by blk_simp; rfl, by blk_simp; exact first_block _ _⟩)
    (fun z => ⟨by blk_simp; exact first_block _ _, by blk_simp; rfl⟩) (fun z => ⟨by blk_simp, by blk_simp⟩) y

theorem done (c : Dev nD) : (dats m 0 c).arrAt 2 cfg0.N = whole m c := by
  refine (dats m 0 c).arrAt_eq_of_covers 2 _ (by decide +kernel) fun t hf y => ?_
  blk_simp
  rw [after0_2]
  exact block_at m c t y

end Value

section Same

attribute [local instance] Cert.InProj.Gen.facts Cert.InProjIdeal.Gen.facts

theorem bodies_same : Cert.InProj.defs₀ (F := Bits) = Cert.InProjIdeal.defs₀ (F := Bits) := by
  unfold Cert.InProj.defs₀ Cert.InProjIdeal.defs₀
  refine congrArg Defs.onTc ?_
  funext l a
  match l with
  | 0 => rfl

theorem defs_same : Cert.InProj.defs (F := Bits) = Cert.InProjIdeal.defs (F := Bits) := congrArg (Pipeline.defs Cert.InProj.pcfgs) bodies_same

end Same

theorem frame_kernel : @Cert.quiescent_InProj Cert.InProj.Gen.facts := by
  intro m ρ _
  rw [defs_same]
  exact Cert.InProjIdeal.Gen.frame (F := Bits) m ρ

theorem frame_kernelIdeal : @Cert.quiescent_InProjIdeal Cert.InProjIdeal.Gen.facts := fun m ρ _ => Cert.InProjIdeal.Gen.frame (F := Ideal) m ρ

theorem frame_reference : @Cert.quiescent_InProjReferenceIdeal Cert.InProjReferenceIdeal.Gen.facts := fun m ρ _ =>
  (θ_run Cert.InProjReferenceIdeal.defs _ _).mono (fun r h => ⟨fun c => (h c).2, sem_eq_zero_of_no_sems (by decide) r.2⟩)
    (Cert.InProjReferenceIdeal.Value.run (F := Ideal) m ρ)

/-- Both runs end with the product. -/
theorem values : @Cert.algebraic_InProjIdeal_InProjReferenceIdeal Cert.InProjIdeal.Gen.facts Cert.InProjReferenceIdeal.Gen.facts := by
  intro m g m' g' _ hin
  refine ⟨whole m, (θ_run Cert.InProjIdeal.defs _ _).mono (fun _ h c => ⟨(h c).1.trans (done m c), (h c).2⟩) (Cert.InProjIdeal.Value.run_blocks (F := Ideal) m g),
    (θ_run Cert.InProjReferenceIdeal.defs _ _).mono (fun _ h c => ⟨(h c).1.trans ?_, (h c).2⟩) (Cert.InProjReferenceIdeal.Value.run (F := Ideal) m' g')⟩
  rw [(hin c).1, (hin c).2]
  rfl

end Cert.Products.In

end
-- ==== Proof.OutProduct.lean ====
/-
  The product of the activations and the output weights, block by block: the claims about it.
-/
module

public import proofs.«01_k».proof.Defs
public import proofs.«01_k».proof.Proof.Gen.OutProj
public import proofs.«01_k».proof.Proof.Gen.OutProjIdeal.Value
public import proofs.«01_k».proof.Proof.Gen.OutProjReferenceIdeal.Run
public import proofs.«01_k».proof.Proof.Products
public import Idealize.ShloMosaic.Lib.Quiescent

@[expose] public section

set_option maxRecDepth 16384

noncomputable section

namespace Cert.Products.Out

open Idealize.ShloMosaic Idealize.ShloMosaic.TcCoe Idealize.SL.Sem

section Value

open Cert.OutProjIdeal Cert.OutProjIdeal.Gen

variable (m : (ℓ : Loc nD τ sig) → Buf (Elt Ideal) ℓ)

/-- What the call should leave: the product of its two arguments. -/
def whole (c : Dev nD) : FVec Ideal (Mat 8192 1024) .f32 :=
  product (K := 1024) (m ((c : Thread nD τ).loc main_arg0)) (m ((c : Thread nD τ).loc main_arg1))

/-- At each step the block that is written is the product's block. -/
theorem block_at (c : Dev nD) (t : Fin cfg0.N) (y : S512x512.Idx) :
    out0_2 (iblk m c 0 t) (iblk m c 1 t) y = whole m c (((cfg0.win 2).blk t).view.emb y) := by
  refine (congrFun (written_all (a := 512) (b := 512) _ _) y).trans ?_
  rw [read_all (a := 512) (b := 1024), read_all (a := 1024) (b := 512)]
  exact product_block (M := 8192) (K := 1024) (N := 1024) (tm := 512) (tn := 512) _ _ ((cfg0.win 0).blk t).view.emb ((cfg0.win 1).blk t).view.emb
    ((cfg0.win 2).blk t).view.emb (win0_2.index t 0) (win0_2.index t 1) (fun z => ⟨by blk_simp; rfl, by blk_simp; exact first_block _ _⟩)
    (fun z => ⟨by blk_simp; exact first_block _ _, by blk_simp; rfl⟩) (fun z => ⟨by blk_simp, by blk_simp⟩) y

theorem done (c : Dev nD) : (dats m 0 c).arrAt 2 cfg0.N = whole m c := by
  refine (dats m 0 c).arrAt_eq_of_covers 2 _ (by decide +kernel) fun t hf y => ?_
  blk_simp
  rw [after0_2]
  exact block_at m c t y

end Value

section Same

attribute [local instance] Cert.OutProj.Gen.facts Cert.OutProjIdeal.Gen.facts

theorem bodies_same : Cert.OutProj.defs₀ (F := Bits) = Cert.OutProjIdeal.defs₀ (F := Bits) := by
  unfold Cert.OutProj.defs₀ Cert.OutProjIdeal.defs₀
  refine congrArg Defs.onTc ?_
  funext l a
  match l with
  | 0 => rfl

theorem defs_same : Cert.OutProj.defs (F := Bits) = Cert.OutProjIdeal.defs (F := Bits) := congrArg (Pipeline.defs Cert.OutProj.pcfgs) bodies_same

end Same

theorem frame_kernel : @Cert.quiescent_OutProj Cert.OutProj.Gen.facts := by
  intro m ρ _
  rw [defs_same]
  exact Cert.OutProjIdeal.Gen.frame (F := Bits) m ρ

theorem frame_kernelIdeal : @Cert.quiescent_OutProjIdeal Cert.OutProjIdeal.Gen.facts := fun m ρ _ => Cert.OutProjIdeal.Gen.frame (F := Ideal) m ρ

theorem frame_reference : @Cert.quiescent_OutProjReferenceIdeal Cert.OutProjReferenceIdeal.Gen.facts := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

/-- Both runs end with the product. -/
theorem values : @Cert.algebraic_OutProjIdeal_OutProjReferenceIdeal Cert.OutProjIdeal.Gen.facts Cert.OutProjReferenceIdeal.Gen.facts := by
  intro m g m' g' _ hin
  refine ⟨whole m, (θ_run Cert.OutProjIdeal.defs _ _).mono (fun _ h c => ⟨(h c).1.trans (done m c), (h c).2⟩) (Cert.OutProjIdeal.Value.run_blocks (F := Ideal) m g),
    (θ_run Cert.OutProjReferenceIdeal.defs _ _).mono (fun _ h c => ⟨(h c).1.trans ?_, (h c).2⟩) (Cert.OutProjReferenceIdeal.Value.run (F := Ideal) m' g')⟩
  rw [(hin c).1, (hin c).2]
  rfl

end Cert.Products.Out

end
-- ==== Proof.UpProduct.lean ====
/-
  The product of the activations and the up-projection's weights, block by block: the claims about it.
-/
module

public import proofs.«01_k».proof.Defs
public import proofs.«01_k».proof.Proof.Gen.UpProj
public import proofs.«01_k».proof.Proof.Gen.UpProjIdeal.Value
public import proofs.«01_k».proof.Proof.Gen.UpProjReferenceIdeal.Run
public import proofs.«01_k».proof.Proof.Products
public import Idealize.ShloMosaic.Lib.Quiescent

@[expose] public section

set_option maxRecDepth 16384

noncomputable section

namespace Cert.Products.Up

open Idealize.ShloMosaic Idealize.ShloMosaic.TcCoe Idealize.SL.Sem

section Value

open Cert.UpProjIdeal Cert.UpProjIdeal.Gen

variable (m : (ℓ : Loc nD τ sig) → Buf (Elt Ideal) ℓ)

/-- What the call should leave: the product of its two arguments. -/
def whole (c : Dev nD) : FVec Ideal (Mat 8192 5632) .f32 :=
  product (K := 1024) (m ((c : Thread nD τ).loc main_arg0)) (m ((c : Thread nD τ).loc main_arg1))

/-- At each step the block that is written is the product's block. -/
theorem block_at (c : Dev nD) (t : Fin cfg0.N) (y : S512x512.Idx) :
    out0_2 (iblk m c 0 t) (iblk m c 1 t) y = whole m c (((cfg0.win 2).blk t).view.emb y) := by
  refine (congrFun (written_all (a := 512) (b := 512) _ _) y).trans ?_
  rw [read_all (a := 512) (b := 1024), read_all (a := 1024) (b := 512)]
  exact product_block (M := 8192) (K := 1024) (N := 5632) (tm := 512) (tn := 512) _ _ ((cfg0.win 0).blk t).view.emb ((cfg0.win 1).blk t).view.emb
    ((cfg0.win 2).blk t).view.emb (win0_2.index t 0) (win0_2.index t 1) (fun z => ⟨by blk_simp; rfl, by blk_simp; exact first_block _ _⟩)
    (fun z => ⟨by blk_simp; exact first_block _ _, by blk_simp; rfl⟩) (fun z => ⟨by blk_simp, by blk_simp⟩) y

theorem done (c : Dev nD) : (dats m 0 c).arrAt 2 cfg0.N = whole m c := by
  refine (dats m 0 c).arrAt_eq_of_covers 2 _ (by decide +kernel) fun t hf y => ?_
  blk_simp
  rw [after0_2]
  exact block_at m c t y

end Value

section Same

attribute [local instance] Cert.UpProj.Gen.facts Cert.UpProjIdeal.Gen.facts

theorem bodies_same : Cert.UpProj.defs₀ (F := Bits) = Cert.UpProjIdeal.defs₀ (F := Bits) := by
  unfold Cert.UpProj.defs₀ Cert.UpProjIdeal.defs₀
  refine congrArg Defs.onTc ?_
  funext l a
  match l with
  | 0 => rfl

theorem defs_same : Cert.UpProj.defs (F := Bits) = Cert.UpProjIdeal.defs (F := Bits) := congrArg (Pipeline.defs Cert.UpProj.pcfgs) bodies_same

end Same

theorem frame_kernel : @Cert.quiescent_UpProj Cert.UpProj.Gen.facts := by
  intro m ρ _
  rw [defs_same]
  exact Cert.UpProjIdeal.Gen.frame (F := Bits) m ρ

theorem frame_kernelIdeal : @Cert.quiescent_UpProjIdeal Cert.UpProjIdeal.Gen.facts := fun m ρ _ => Cert.UpProjIdeal.Gen.frame (F := Ideal) m ρ

theorem frame_reference : @Cert.quiescent_UpProjReferenceIdeal Cert.UpProjReferenceIdeal.Gen.facts := fun m ρ _ =>
  (θ_run Cert.UpProjReferenceIdeal.defs _ _).mono (fun r h => ⟨fun c => (h c).2, sem_eq_zero_of_no_sems (by decide) r.2⟩)
    (Cert.UpProjReferenceIdeal.Value.run (F := Ideal) m ρ)

/-- Both runs end with the product. -/
theorem values : @Cert.algebraic_UpProjIdeal_UpProjReferenceIdeal Cert.UpProjIdeal.Gen.facts Cert.UpProjReferenceIdeal.Gen.facts := by
  intro m g m' g' _ hin
  refine ⟨whole m, (θ_run Cert.UpProjIdeal.defs _ _).mono (fun _ h c => ⟨(h c).1.trans (done m c), (h c).2⟩) (Cert.UpProjIdeal.Value.run_blocks (F := Ideal) m g),
    (θ_run Cert.UpProjReferenceIdeal.defs _ _).mono (fun _ h c => ⟨(h c).1.trans ?_, (h c).2⟩) (Cert.UpProjReferenceIdeal.Value.run (F := Ideal) m' g')⟩
  rw [(hin c).1, (hin c).2]
  rfl

end Cert.Products.Up

end
-- ==== Proof.DownProduct.lean ====
/-
  The product of the gated activations and the down-projection's weights, block by block: the claims about it.
-/
module

public import proofs.«01_k».proof.Defs
public import proofs.«01_k».proof.Proof.Gen.DownProj
public import proofs.«01_k».proof.Proof.Gen.DownProjIdeal.Value
public import proofs.«01_k».proof.Proof.Gen.DownProjReferenceIdeal.Run
public import proofs.«01_k».proof.Proof.Products
public import Idealize.ShloMosaic.Lib.Quiescent

@[expose] public section

set_option maxRecDepth 16384

noncomputable section

namespace Cert.Products.Down

open Idealize.ShloMosaic Idealize.ShloMosaic.TcCoe Idealize.SL.Sem

section Value

open Cert.DownProjIdeal Cert.DownProjIdeal.Gen

variable (m : (ℓ : Loc nD τ sig) → Buf (Elt Ideal) ℓ)

/-- What the call should leave: the product of its two arguments. -/
def whole (c : Dev nD) : FVec Ideal (Mat 8192 1024) .f32 :=
  product (K := 2816) (m ((c : Thread nD τ).loc main_arg0)) (m ((c : Thread nD τ).loc main_arg1))

/-- At each step the block that is written is the product's block. -/
theorem block_at (c : Dev nD) (t : Fin cfg0.N) (y : S512x512.Idx) :
    out0_2 (iblk m c 0 t) (iblk m c 1 t) y = whole m c (((cfg0.win 2).blk t).view.emb y) := by
  refine (congrFun (written_all (a := 512) (b := 512) _ _) y).trans ?_
  rw [read_all (a := 512) (b := 2816), read_all (a := 2816) (b := 512)]
  exact product_block (M := 8192) (K := 2816) (N := 1024) (tm := 512) (tn := 512) _ _ ((cfg0.win 0).blk t).view.emb ((cfg0.win 1).blk t).view.emb
    ((cfg0.win 2).blk t).view.emb (win0_2.index t 0) (win0_2.index t 1) (fun z => ⟨by blk_simp; rfl, by blk_simp; exact first_block _ _⟩)
    (fun z => ⟨by blk_simp; exact first_block _ _, by blk_simp; rfl⟩) (fun z => ⟨by blk_simp, by blk_simp⟩) y

theorem done (c : Dev nD) : (dats m 0 c).arrAt 2 cfg0.N = whole m c := by
  refine (dats m 0 c).arrAt_eq_of_covers 2 _ (by decide +kernel) fun t hf y => ?_
  blk_simp
  rw [after0_2]
  exact block_at m c t y

end Value

section Same

attribute [local instance] Cert.DownProj.Gen.facts Cert.DownProjIdeal.Gen.facts

theorem bodies_same : Cert.DownProj.defs₀ (F := Bits) = Cert.DownProjIdeal.defs₀ (F := Bits) := by
  unfold Cert.DownProj.defs₀ Cert.DownProjIdeal.defs₀
  refine congrArg Defs.onTc ?_
  funext l a
  match l with
  | 0 => rfl

theorem defs_same : Cert.DownProj.defs (F := Bits) = Cert.DownProjIdeal.defs (F := Bits) := congrArg (Pipeline.defs Cert.DownProj.pcfgs) bodies_same

end Same

theorem frame_kernel : @Cert.quiescent_DownProj Cert.DownProj.Gen.facts := by
  intro m ρ _
  rw [defs_same]
  exact Cert.DownProjIdeal.Gen.frame (F := Bits) m ρ

theorem frame_kernelIdeal : @Cert.quiescent_DownProjIdeal Cert.DownProjIdeal.Gen.facts := fun m ρ _ => Cert.DownProjIdeal.Gen.frame (F := Ideal) m ρ

theorem frame_reference : @Cert.quiescent_DownProjReferenceIdeal Cert.DownProjReferenceIdeal.Gen.facts := fun m ρ _ =>
  (θ_run Cert.DownProjReferenceIdeal.defs _ _).mono (fun r h => ⟨fun c => (h c).2, sem_eq_zero_of_no_sems (by decide) r.2⟩)
    (Cert.DownProjReferenceIdeal.Value.run (F := Ideal) m ρ)

/-- Both runs end with the product. -/
theorem values : @Cert.algebraic_DownProjIdeal_DownProjReferenceIdeal Cert.DownProjIdeal.Gen.facts Cert.DownProjReferenceIdeal.Gen.facts := by
  intro m g m' g' _ hin
  refine ⟨whole m, (θ_run Cert.DownProjIdeal.defs _ _).mono (fun _ h c => ⟨(h c).1.trans (done m c), (h c).2⟩) (Cert.DownProjIdeal.Value.run_blocks (F := Ideal) m g),
    (θ_run Cert.DownProjReferenceIdeal.defs _ _).mono (fun _ h c => ⟨(h c).1.trans ?_, (h c).2⟩) (Cert.DownProjReferenceIdeal.Value.run (F := Ideal) m' g')⟩
  rw [(hin c).1, (hin c).2]
  rfl

end Cert.Products.Down

end
-- ==== Proof.DownDgrad.lean ====
/-
  The product of the output's gradient and the down-projection's weights, transposed, block by block: the claims about it.
-/
module

public import proofs.«01_k».proof.Defs
public import proofs.«01_k».proof.Proof.Gen.DownDgrad
public import proofs.«01_k».proof.Proof.Gen.DownDgradIdeal.Value
public import proofs.«01_k».proof.Proof.Gen.DownDgradReferenceIdeal.Run
public import proofs.«01_k».proof.Proof.Products
public import Idealize.ShloMosaic.Lib.Quiescent

@[expose] public section

set_option maxRecDepth 16384

noncomputable section

namespace Cert.Products.DownBack

open Idealize.ShloMosaic Idealize.ShloMosaic.TcCoe Idealize.SL.Sem

section Value

open Cert.DownDgradIdeal Cert.DownDgradIdeal.Gen

variable (m : (ℓ : Loc nD τ sig) → Buf (Elt Ideal) ℓ)

/-- What the call should leave: the product of its two arguments. -/
def whole (c : Dev nD) : FVec Ideal (Mat 8192 2816) .f32 :=
  product (K := 1024) (m ((c : Thread nD τ).loc main_arg0)) (m ((c : Thread nD τ).loc main_arg1))

/-- At each step the block that is written is the product's block. -/
theorem block_at (c : Dev nD) (t : Fin cfg0.N) (y : S512x256.Idx) :
    out0_2 (iblk m c 0 t) (iblk m c 1 t) y = whole m c (((cfg0.win 2).blk t).view.emb y) := by
  refine (congrFun (written_all (a := 512) (b := 256) _ _) y).trans ?_
  rw [read_all (a := 512) (b := 1024), read_all (a := 1024) (b := 256)]
  exact product_block (M := 8192) (K := 1024) (N := 2816) (tm := 512) (tn := 256) _ _ ((cfg0.win 0).blk t).view.emb ((cfg0.win 1).blk t).view.emb
    ((cfg0.win 2).blk t).view.emb (win0_2.index t 0) (win0_2.index t 1) (fun z => ⟨by blk_simp; rfl, by blk_simp; exact first_block _ _⟩)
    (fun z => ⟨by blk_simp; exact first_block _ _, by blk_simp; rfl⟩) (fun z => ⟨by blk_simp, by blk_simp⟩) y

theorem done (c : Dev nD) : (dats m 0 c).arrAt 2 cfg0.N = whole m c := by
  refine (dats m 0 c).arrAt_eq_of_covers 2 _ (by decide +kernel) fun t hf y => ?_
  blk_simp
  rw [after0_2]
  exact block_at m c t y

end Value

section Same

attribute [local instance] Cert.DownDgrad.Gen.facts Cert.DownDgradIdeal.Gen.facts

theorem bodies_same : Cert.DownDgrad.defs₀ (F := Bits) = Cert.DownDgradIdeal.defs₀ (F := Bits) := by
  unfold Cert.DownDgrad.defs₀ Cert.DownDgradIdeal.defs₀
  refine congrArg Defs.onTc ?_
  funext l a
  match l with
  | 0 => rfl

theorem defs_same : Cert.DownDgrad.defs (F := Bits) = Cert.DownDgradIdeal.defs (F := Bits) := congrArg (Pipeline.defs Cert.DownDgrad.pcfgs) bodies_same

end Same

theorem frame_kernel : @Cert.quiescent_DownDgrad Cert.DownDgrad.Gen.facts := by
  intro m ρ _
  rw [defs_same]
  exact Cert.DownDgradIdeal.Gen.frame (F := Bits) m ρ

theorem frame_kernelIdeal : @Cert.quiescent_DownDgradIdeal Cert.DownDgradIdeal.Gen.facts := fun m ρ _ => Cert.DownDgradIdeal.Gen.frame (F := Ideal) m ρ

theorem frame_reference : @Cert.quiescent_DownDgradReferenceIdeal Cert.DownDgradReferenceIdeal.Gen.facts := fun m ρ _ =>
  (θ_run Cert.DownDgradReferenceIdeal.defs _ _).mono (fun r h => ⟨fun c => (h c).2, sem_eq_zero_of_no_sems (by decide) r.2⟩)
    (Cert.DownDgradReferenceIdeal.Value.run (F := Ideal) m ρ)

/-- Both runs end with the product. -/
theorem values : @Cert.algebraic_DownDgradIdeal_DownDgradReferenceIdeal Cert.DownDgradIdeal.Gen.facts Cert.DownDgradReferenceIdeal.Gen.facts := by
  intro m g m' g' _ hin
  refine ⟨whole m, (θ_run Cert.DownDgradIdeal.defs _ _).mono (fun _ h c => ⟨(h c).1.trans (done m c), (h c).2⟩) (Cert.DownDgradIdeal.Value.run_blocks (F := Ideal) m g),
    (θ_run Cert.DownDgradReferenceIdeal.defs _ _).mono (fun _ h c => ⟨(h c).1.trans ?_, (h c).2⟩) (Cert.DownDgradReferenceIdeal.Value.run (F := Ideal) m' g')⟩
  rw [(hin c).1, (hin c).2]
  rfl

end Cert.Products.DownBack

end
-- ==== Proof.UpDgrad.lean ====
/-
  The product of the gradient before the convolution and the up-projection's weights, transposed, block by block: the claims about it.
-/
module

public import proofs.«01_k».proof.Defs
public import proofs.«01_k».proof.Proof.Gen.UpDgrad
public import proofs.«01_k».proof.Proof.Gen.UpDgradIdeal.Value
public import proofs.«01_k».proof.Proof.Gen.UpDgradReferenceIdeal.Run
public import proofs.«01_k».proof.Proof.Products
public import Idealize.ShloMosaic.Lib.Quiescent

@[expose] public section

set_option maxRecDepth 16384

noncomputable section

namespace Cert.Products.UpBack

open Idealize.ShloMosaic Idealize.ShloMosaic.TcCoe Idealize.SL.Sem

section Value

open Cert.UpDgradIdeal Cert.UpDgradIdeal.Gen

variable (m : (ℓ : Loc nD τ sig) → Buf (Elt Ideal) ℓ)

/-- What the call should leave: the product of its two arguments. -/
def whole (c : Dev nD) : FVec Ideal (Mat 8192 1024) .f32 :=
  product (K := 5632) (m ((c : Thread nD τ).loc main_arg0)) (m ((c : Thread nD τ).loc main_arg1))

/-- At each step the block that is written is the product's block. -/
theorem block_at (c : Dev nD) (t : Fin cfg0.N) (y : S512x512.Idx) :
    out0_2 (iblk m c 0 t) (iblk m c 1 t) y = whole m c (((cfg0.win 2).blk t).view.emb y) := by
  refine (congrFun (written_all (a := 512) (b := 512) _ _) y).trans ?_
  rw [read_all (a := 512) (b := 5632), read_all (a := 5632) (b := 512)]
  exact product_block (M := 8192) (K := 5632) (N := 1024) (tm := 512) (tn := 512) _ _ ((cfg0.win 0).blk t).view.emb ((cfg0.win 1).blk t).view.emb
    ((cfg0.win 2).blk t).view.emb (win0_2.index t 0) (win0_2.index t 1) (fun z => ⟨by blk_simp; rfl, by blk_simp; exact first_block _ _⟩)
    (fun z => ⟨by blk_simp; exact first_block _ _, by blk_simp; rfl⟩) (fun z => ⟨by blk_simp, by blk_simp⟩) y

theorem done (c : Dev nD) : (dats m 0 c).arrAt 2 cfg0.N = whole m c := by
  refine (dats m 0 c).arrAt_eq_of_covers 2 _ (by decide +kernel) fun t hf y => ?_
  blk_simp
  rw [after0_2]
  exact block_at m c t y

end Value

section Same

attribute [local instance] Cert.UpDgrad.Gen.facts Cert.UpDgradIdeal.Gen.facts

theorem bodies_same : Cert.UpDgrad.defs₀ (F := Bits) = Cert.UpDgradIdeal.defs₀ (F := Bits) := by
  unfold Cert.UpDgrad.defs₀ Cert.UpDgradIdeal.defs₀
  refine congrArg Defs.onTc ?_
  funext l a
  match l with
  | 0 => rfl

theorem defs_same : Cert.UpDgrad.defs (F := Bits) = Cert.UpDgradIdeal.defs (F := Bits) := congrArg (Pipeline.defs Cert.UpDgrad.pcfgs) bodies_same

end Same

theorem frame_kernel : @Cert.quiescent_UpDgrad Cert.UpDgrad.Gen.facts := by
  intro m ρ _
  rw [defs_same]
  exact Cert.UpDgradIdeal.Gen.frame (F := Bits) m ρ

theorem frame_kernelIdeal : @Cert.quiescent_UpDgradIdeal Cert.UpDgradIdeal.Gen.facts := fun m ρ _ => Cert.UpDgradIdeal.Gen.frame (F := Ideal) m ρ

theorem frame_reference : @Cert.quiescent_UpDgradReferenceIdeal Cert.UpDgradReferenceIdeal.Gen.facts := fun m ρ _ =>
  (θ_run Cert.UpDgradReferenceIdeal.defs _ _).mono (fun r h => ⟨fun c => (h c).2, sem_eq_zero_of_no_sems (by decide) r.2⟩)
    (Cert.UpDgradReferenceIdeal.Value.run (F := Ideal) m ρ)

/-- Both runs end with the product. -/
theorem values : @Cert.algebraic_UpDgradIdeal_UpDgradReferenceIdeal Cert.UpDgradIdeal.Gen.facts Cert.UpDgradReferenceIdeal.Gen.facts := by
  intro m g m' g' _ hin
  refine ⟨whole m, (θ_run Cert.UpDgradIdeal.defs _ _).mono (fun _ h c => ⟨(h c).1.trans (done m c), (h c).2⟩) (Cert.UpDgradIdeal.Value.run_blocks (F := Ideal) m g),
    (θ_run Cert.UpDgradReferenceIdeal.defs _ _).mono (fun _ h c => ⟨(h c).1.trans ?_, (h c).2⟩) (Cert.UpDgradReferenceIdeal.Value.run (F := Ideal) m' g')⟩
  rw [(hin c).1, (hin c).2]
  rfl

end Cert.Products.UpBack

end
-- ==== Proof.OutDgrad.lean ====
/-
  The product of the mixed output's gradient and the output weights, transposed, block by block: the claims about it.
-/
module

public import proofs.«01_k».proof.Defs
public import proofs.«01_k».proof.Proof.Gen.OutDgrad
public import proofs.«01_k».proof.Proof.Gen.OutDgradIdeal.Value
public import proofs.«01_k».proof.Proof.Gen.OutDgradReferenceIdeal.Run
public import proofs.«01_k».proof.Proof.Products
public import Idealize.ShloMosaic.Lib.Quiescent

@[expose] public section

set_option maxRecDepth 16384

noncomputable section

namespace Cert.Products.OutBack

open Idealize.ShloMosaic Idealize.ShloMosaic.TcCoe Idealize.SL.Sem

section Value

open Cert.OutDgradIdeal Cert.OutDgradIdeal.Gen

variable (m : (ℓ : Loc nD τ sig) → Buf (Elt Ideal) ℓ)

/-- What the call should leave: the product of its two arguments. -/
def whole (c : Dev nD) : FVec Ideal (Mat 8192 1024) .f32 :=
  product (K := 1024) (m ((c : Thread nD τ).loc main_arg0)) (m ((c : Thread nD τ).loc main_arg1))

/-- At each step the block that is written is the product's block. -/
theorem block_at (c : Dev nD) (t : Fin cfg0.N) (y : S512x512.Idx) :
    out0_2 (iblk m c 0 t) (iblk m c 1 t) y = whole m c (((cfg0.win 2).blk t).view.emb y) := by
  refine (congrFun (written_all (a := 512) (b := 512) _ _) y).trans ?_
  rw [read_all (a := 512) (b := 1024), read_all (a := 1024) (b := 512)]
  exact product_block (M := 8192) (K := 1024) (N := 1024) (tm := 512) (tn := 512) _ _ ((cfg0.win 0).blk t).view.emb ((cfg0.win 1).blk t).view.emb
    ((cfg0.win 2).blk t).view.emb (win0_2.index t 0) (win0_2.index t 1) (fun z => ⟨by blk_simp; rfl, by blk_simp; exact first_block _ _⟩)
    (fun z => ⟨by blk_simp; exact first_block _ _, by blk_simp; rfl⟩) (fun z => ⟨by blk_simp, by blk_simp⟩) y

theorem done (c : Dev nD) : (dats m 0 c).arrAt 2 cfg0.N = whole m c := by
  refine (dats m 0 c).arrAt_eq_of_covers 2 _ (by decide +kernel) fun t hf y => ?_
  blk_simp
  rw [after0_2]
  exact block_at m c t y

end Value

section Same

attribute [local instance] Cert.OutDgrad.Gen.facts Cert.OutDgradIdeal.Gen.facts

theorem bodies_same : Cert.OutDgrad.defs₀ (F := Bits) = Cert.OutDgradIdeal.defs₀ (F := Bits) := by
  unfold Cert.OutDgrad.defs₀ Cert.OutDgradIdeal.defs₀
  refine congrArg Defs.onTc ?_
  funext l a
  match l with
  | 0 => rfl

theorem defs_same : Cert.OutDgrad.defs (F := Bits) = Cert.OutDgradIdeal.defs (F := Bits) := congrArg (Pipeline.defs Cert.OutDgrad.pcfgs) bodies_same

end Same

theorem frame_kernel : @Cert.quiescent_OutDgrad Cert.OutDgrad.Gen.facts := by
  intro m ρ _
  rw [defs_same]
  exact Cert.OutDgradIdeal.Gen.frame (F := Bits) m ρ

theorem frame_kernelIdeal : @Cert.quiescent_OutDgradIdeal Cert.OutDgradIdeal.Gen.facts := fun m ρ _ => Cert.OutDgradIdeal.Gen.frame (F := Ideal) m ρ

theorem frame_reference : @Cert.quiescent_OutDgradReferenceIdeal Cert.OutDgradReferenceIdeal.Gen.facts := fun m ρ _ =>
  (θ_run Cert.OutDgradReferenceIdeal.defs _ _).mono (fun r h => ⟨fun c => (h c).2, sem_eq_zero_of_no_sems (by decide) r.2⟩)
    (Cert.OutDgradReferenceIdeal.Value.run (F := Ideal) m ρ)

/-- Both runs end with the product. -/
theorem values : @Cert.algebraic_OutDgradIdeal_OutDgradReferenceIdeal Cert.OutDgradIdeal.Gen.facts Cert.OutDgradReferenceIdeal.Gen.facts := by
  intro m g m' g' _ hin
  refine ⟨whole m, (θ_run Cert.OutDgradIdeal.defs _ _).mono (fun _ h c => ⟨(h c).1.trans (done m c), (h c).2⟩) (Cert.OutDgradIdeal.Value.run_blocks (F := Ideal) m g),
    (θ_run Cert.OutDgradReferenceIdeal.defs _ _).mono (fun _ h c => ⟨(h c).1.trans ?_, (h c).2⟩) (Cert.OutDgradReferenceIdeal.Value.run (F := Ideal) m' g')⟩
  rw [(hin c).1, (hin c).2]
  rfl

end Cert.Products.OutBack

end
-- ==== Proof.InDgrad.lean ====
/-
  The product of the projection's gradient and the input weights, transposed, block by block: the claims about it.
-/
module

public import proofs.«01_k».proof.Defs
public import proofs.«01_k».proof.Proof.Gen.InDgrad
public import proofs.«01_k».proof.Proof.Gen.InDgradIdeal.Value
public import proofs.«01_k».proof.Proof.Gen.InDgradReferenceIdeal.Run
public import proofs.«01_k».proof.Proof.Products
public import Idealize.ShloMosaic.Lib.Quiescent

@[expose] public section

set_option maxRecDepth 16384

noncomputable section

namespace Cert.Products.InBack

open Idealize.ShloMosaic Idealize.ShloMosaic.TcCoe Idealize.SL.Sem

section Value

open Cert.InDgradIdeal Cert.InDgradIdeal.Gen

variable (m : (ℓ : Loc nD τ sig) → Buf (Elt Ideal) ℓ)

/-- What the call should leave: the product of its two arguments. -/
def whole (c : Dev nD) : FVec Ideal (Mat 8192 1024) .f32 :=
  product (K := 3200) (m ((c : Thread nD τ).loc main_arg0)) (m ((c : Thread nD τ).loc main_arg1))

/-- At each step the block that is written is the product's block. -/
theorem block_at (c : Dev nD) (t : Fin cfg0.N) (y : S512x512.Idx) :
    out0_2 (iblk m c 0 t) (iblk m c 1 t) y = whole m c (((cfg0.win 2).blk t).view.emb y) := by
  refine (congrFun (written_all (a := 512) (b := 512) _ _) y).trans ?_
  rw [read_all (a := 512) (b := 3200), read_all (a := 3200) (b := 512)]
  exact product_block (M := 8192) (K := 3200) (N := 1024) (tm := 512) (tn := 512) _ _ ((cfg0.win 0).blk t).view.emb ((cfg0.win 1).blk t).view.emb
    ((cfg0.win 2).blk t).view.emb (win0_2.index t 0) (win0_2.index t 1) (fun z => ⟨by blk_simp; rfl, by blk_simp; exact first_block _ _⟩)
    (fun z => ⟨by blk_simp; exact first_block _ _, by blk_simp; rfl⟩) (fun z => ⟨by blk_simp, by blk_simp⟩) y

theorem done (c : Dev nD) : (dats m 0 c).arrAt 2 cfg0.N = whole m c := by
  refine (dats m 0 c).arrAt_eq_of_covers 2 _ (by decide +kernel) fun t hf y => ?_
  blk_simp
  rw [after0_2]
  exact block_at m c t y

end Value

section Same

attribute [local instance] Cert.InDgrad.Gen.facts Cert.InDgradIdeal.Gen.facts

theorem bodies_same : Cert.InDgrad.defs₀ (F := Bits) = Cert.InDgradIdeal.defs₀ (F := Bits) := by
  unfold Cert.InDgrad.defs₀ Cert.InDgradIdeal.defs₀
  refine congrArg Defs.onTc ?_
  funext l a
  match l with
  | 0 => rfl

theorem defs_same : Cert.InDgrad.defs (F := Bits) = Cert.InDgradIdeal.defs (F := Bits) := congrArg (Pipeline.defs Cert.InDgrad.pcfgs) bodies_same

end Same

theorem frame_kernel : @Cert.quiescent_InDgrad Cert.InDgrad.Gen.facts := by
  intro m ρ _
  rw [defs_same]
  exact Cert.InDgradIdeal.Gen.frame (F := Bits) m ρ

theorem frame_kernelIdeal : @Cert.quiescent_InDgradIdeal Cert.InDgradIdeal.Gen.facts := fun m ρ _ => Cert.InDgradIdeal.Gen.frame (F := Ideal) m ρ

theorem frame_reference : @Cert.quiescent_InDgradReferenceIdeal Cert.InDgradReferenceIdeal.Gen.facts := fun m ρ _ =>
  (θ_run Cert.InDgradReferenceIdeal.defs _ _).mono (fun r h => ⟨fun c => (h c).2, sem_eq_zero_of_no_sems (by decide) r.2⟩)
    (Cert.InDgradReferenceIdeal.Value.run (F := Ideal) m ρ)

/-- Both runs end with the product. -/
theorem values : @Cert.algebraic_InDgradIdeal_InDgradReferenceIdeal Cert.InDgradIdeal.Gen.facts Cert.InDgradReferenceIdeal.Gen.facts := by
  intro m g m' g' _ hin
  refine ⟨whole m, (θ_run Cert.InDgradIdeal.defs _ _).mono (fun _ h c => ⟨(h c).1.trans (done m c), (h c).2⟩) (Cert.InDgradIdeal.Value.run_blocks (F := Ideal) m g),
    (θ_run Cert.InDgradReferenceIdeal.defs _ _).mono (fun _ h c => ⟨(h c).1.trans ?_, (h c).2⟩) (Cert.InDgradReferenceIdeal.Value.run (F := Ideal) m' g')⟩
  rw [(hin c).1, (hin c).2]
  rfl

end Cert.Products.InBack

end
-- ==== Proof.Gradients.lean ====
/-
  Products over the rows of two matrices, which is what a weight's gradient is: a block of one is the sum, over the
  stretches of rows, of the products of the two blocks that lie there.
-/
module

public import proofs.«01_k».proof.Proof.Products

@[expose] public section

noncomputable section

namespace Cert.Products

open Idealize.ShloMosaic

/-- The product over the rows: an element is the sum over them of the products of the two columns' elements. -/
def overRows {S M N : ℕ} (A : FVec Ideal (Mat S M) .bf16) (B : FVec Ideal (Mat S N) .bf16) : FVec Ideal (Mat M N) .f32 :=
  fun z => (∑ l : Fin S, A (ValueIdx.ix2 l (z 0)) * B (ValueIdx.ix2 l (z 1)) : EReal)

/-- As the kernel computes it of two blocks, into zeros. -/
theorem matmul_overRows {K M N : ℕ} (wf : DotDims.WF (Mat K M) (Mat K N) (Mat M N) [0] [0] [1] [1] [] [])
    (A : FVec Ideal (Mat K M) .bf16) (B : FVec Ideal (Mat K N) .bf16) (z : (Mat M N).Idx) :
    (matmul (φ₁ := .bf16) (φ₂ := .bf16) ⟨[0], [0], [1], [1], [], [], wf⟩ none A B (constant (Mat M N) .f32 0x00000000#32) z : EReal)
      = overRows A B z := by
  refine (Ideal.matmul_apply₁_of (⟨[0], [0], [1], [1], [], [], wf⟩ : DotDims (Mat K M) (Mat K N) (Mat M N)) rfl rfl _ _ _ z
    (fun j => ValueIdx.ix2 j (z 0)) (fun j => ValueIdx.ix2 j (z 1)) (fun j => ?_) (fun j => ?_)).trans ?_
  · funext a
    match a with
    | ⟨0, _⟩ => rfl
    | ⟨1, _⟩ => rfl
  · funext a
    match a with
    | ⟨0, _⟩ => rfl
    | ⟨1, _⟩ => rfl
  · have hz : (Ideal.ofBits .f32 0#32 : EReal) = 0 := by simp
    show Ideal.ofBits .f32 0#32 + ∑ j : Fin K, A (ValueIdx.ix2 j (z 0)) * B (ValueIdx.ix2 j (z 1)) = _
    rw [hz, zero_add]
    rfl

/-- As the host computes it: the first matrix transposed, times the second. -/
theorem host_overRows {S M N : ℕ} (A : FVec Ideal (Mat S M) .bf16) (B : FVec Ideal (Mat S N) .bf16)
    (A' : FVec Ideal (Mat S M) .f32) (B' : FVec Ideal (Mat S N) .f32) (hA : ∀ i, (A' i : EReal) = A i) (hB : ∀ i, (B' i : EReal) = B i)
    (ht : (Mat S M).Transposes [1, 0] (Mat M S)) :
    Host.dotGeneral (φ₁ := .f32) (φ₂ := .f32) (DotDims.plain M S N) none (transpose (Mat M S) [1, 0] A' ht) B' = overRows A B := by
  funext z
  obtain ⟨a, b, rfl⟩ : ∃ a b, z = ValueIdx.ix2 a b := ⟨z 0, z 1, ValueIdx.eq_ix2 z⟩
  rw [StackMember.dotGeneral_plain_apply]
  refine Finset.sum_congr rfl fun l _ => ?_
  rw [hB, transpose_apply [1, 0] A' ht (ValueIdx.ix2 a l) (ValueIdx.ix2 l a) fun i => by match i with | ⟨0, _⟩ => rfl | ⟨1, _⟩ => rfl, hA]
  rfl

/-- Added up over the stretches of rows, the products of the two blocks at columns `i` and `j` are the whole product's block. -/
theorem overRows_block {J ts S M N tm tn : ℕ} (hS : S = J * ts) (A : FVec Ideal (Mat S M) .bf16) (B : FVec Ideal (Mat S N) .bf16)
    (ea : Fin J → (Mat ts tm).Idx → (Mat S M).Idx) (eb : Fin J → (Mat ts tn).Idx → (Mat S N).Idx)
    (eo : (Mat tm tn).Idx → (Mat M N).Idx) (i j : ℕ)
    (ha : ∀ s z, (ea s z 0).val = s.val * ts + (z 0).val ∧ (ea s z 1).val = i * tm + (z 1).val)
    (hb : ∀ s z, (eb s z 0).val = s.val * ts + (z 0).val ∧ (eb s z 1).val = j * tn + (z 1).val)
    (ho : ∀ z, (eo z 0).val = i * tm + (z 0).val ∧ (eo z 1).val = j * tn + (z 1).val) (y : (Mat tm tn).Idx) :
    (∑ s : Fin J, (overRows (fun z => A (ea s z)) (fun z => B (eb s z)) y : EReal)) = overRows A B (eo y) := by
  refine Fin.sum_mul_add_congr (fun s k hl => ?_) hS
  congr 1
  · refine congrArg A ((ValueIdx.eq_ix2 _).trans ?_)
    congr 1
    · exact Fin.ext (ha _ _).1
    · exact Fin.ext ((ha _ _).2.trans (ho y).1.symm)
  · refine congrArg B ((ValueIdx.eq_ix2 _).trans ?_)
    congr 1
    · exact Fin.ext (hb _ _).1
    · exact Fin.ext ((hb _ _).2.trans (ho y).2.symm)

end Cert.Products

end
-- ==== Proof.DownWgrad.lean ====
/-
  The gradient of the down-projection's weights, block by block and step by step: the claims about it.
-/
module

public import proofs.«01_k».proof.Defs
public import proofs.«01_k».proof.Proof.Gen.DownWgrad
public import proofs.«01_k».proof.Proof.Gen.DownWgradIdeal.Value
public import proofs.«01_k».proof.Proof.Gen.DownWgradReferenceIdeal.Run
public import proofs.«01_k».proof.Proof.Gradients
public import Idealize.ShloMosaic.Lib.Quiescent

@[expose] public section

set_option maxRecDepth 16384

noncomputable section

namespace Cert.Products.DownGrad

open Idealize.ShloMosaic Idealize.ShloMosaic.TcCoe Idealize.SL.Sem

section Value

open Cert.DownWgradIdeal Cert.DownWgradIdeal.Gen

variable (m : (ℓ : Loc nD τ sig) → Buf (Elt Ideal) ℓ)

/-- What the call should leave: the product of its two arguments over their rows. -/
def whole (c : Dev nD) : FVec Ideal (Mat 2816 1024) .f32 :=
  overRows (S := 8192) (m ((c : Thread nD τ).loc main_arg0)) (m ((c : Thread nD τ).loc main_arg1))

/-- One step adds the product of the two blocks at hand to what is there. -/
theorem step_at (acc : FVec Ideal (Mat 1408 1024) .f32) (x : FVec Ideal (Mat 512 1408) .bf16) (y : FVec Ideal (Mat 512 1024) .bf16)
    (z : (Mat 1408 1024).Idx) : (k0_pay2 (F := Ideal) acc x y z : EReal) = acc z + overRows x y z := by
  unfold k0_pay2
  rw [shapeCast_self]
  exact congrArg (fun v : EReal => acc z + v) (matmul_overRows dot_S512x1408_S512x1024_S1408x1024_0_0_1_1_n_n_wf x y z)

/-- The first step starts from zeros. -/
theorem start_at (z : (Mat 1408 1024).Idx) : (k0_pay1 (F := Ideal) z : EReal) = 0 := by
  show (Ideal.ofBits .f32 0#32 : EReal) = 0
  simp

/-- Where the blocks of a step lie. -/
theorem places : ∀ t : Fin cfg0.N, (win0_0.index t 0 = t.val % 16 ∧ win0_0.index t 1 = t.val / 16 % 2)
    ∧ (win0_1.index t 0 = t.val % 16 ∧ win0_1.index t 1 = t.val / 16 / 2)
    ∧ win0_2.index t 0 = t.val / 16 % 2 ∧ win0_2.index t 1 = t.val / 16 / 2 :=
  (by decide +kernel : ∀ t : Fin grid0.N, _)

/-- The block that is written back is the product's block. -/
theorem block_at (c : Dev nD) (t : Fin cfg0.N) (hf : (cfg0.win 2).flush t = true) (y : S1408x1024.Idx) :
    outsAt0 m c t.val t.isLt y = whole m c (((cfg0.win 2).blk t).view.emb y) := by
  rw [Pipeline.eq_sum_fin_of_reset_step_apply_of_flush (fun n h => outsAt0 m c n h) 16 (fun _ => (0 : EReal))
    (fun t z => overRows (iblk m c 0 t) (iblk m c 1 t) z)
    (fun t h z => by rw [outsAt0_A m c t h]; frame_out; rw [step_at, start_at])
    (fun t h z => by rw [outsAt0_B m c t h]; frame_out; rw [step_at]) t ((flush0_2 t).mp hf) y, zero_add]
  have hp := places t
  have ht := (flush0_2 t).mp hf
  have hr : ∀ s : Fin 16, (16 * (t.val / 16) + s.val) % 16 = s.val ∧ (16 * (t.val / 16) + s.val) / 16 = t.val / 16 := fun s => by omega
  let at' (s : Fin 16) : Fin cfg0.N := ⟨16 * (t.val / 16) + s.val, Pipeline.run_point_lt_of_flush t ht s⟩
  have hs : ∀ s : Fin 16, (win0_0.index (at' s) 0 = s.val ∧ win0_0.index (at' s) 1 = win0_2.index t 0)
      ∧ win0_1.index (at' s) 0 = s.val ∧ win0_1.index (at' s) 1 = win0_2.index t 1 := fun s => by
    have := places (at' s)
    rw [hp.2.2.1, hp.2.2.2]
    simp only [at', (hr s).1, (hr s).2] at this
    exact ⟨this.1, this.2.1⟩
  exact overRows_block (J := 16) (ts := 512) (S := 8192) (M := 2816) (N := 1024) (tm := 1408) (tn := 1024) rfl _ _
    (fun s => ((cfg0.win 0).blk (at' s)).view.emb) (fun s => ((cfg0.win 1).blk (at' s)).view.emb)
    ((cfg0.win 2).blk t).view.emb (win0_2.index t 0) (win0_2.index t 1)
    (fun s z => ⟨by blk_simp; rw [(hs s).1.1], by blk_simp; rw [(hs s).1.2]⟩)
    (fun s z => ⟨by blk_simp; rw [(hs s).2.1], by blk_simp; rw [(hs s).2.2]⟩)
    (fun z => ⟨by blk_simp, by blk_simp⟩) y

theorem done (c : Dev nD) : (dats m 0 c).arrAt 2 cfg0.N = whole m c := by
  refine (dats m 0 c).arrAt_eq_of_covers 2 _ (by decide +kernel) fun t hf y => ?_
  blk_simp
  rw [after0_2]
  exact block_at m c t hf y

end Value

section Same

attribute [local instance] Cert.DownWgrad.Gen.facts Cert.DownWgradIdeal.Gen.facts

theorem bodies_same : Cert.DownWgrad.defs₀ (F := Bits) = Cert.DownWgradIdeal.defs₀ (F := Bits) := by
  unfold Cert.DownWgrad.defs₀ Cert.DownWgradIdeal.defs₀
  refine congrArg Defs.onTc ?_
  funext l a
  match l with
  | 0 => rfl

theorem defs_same : Cert.DownWgrad.defs (F := Bits) = Cert.DownWgradIdeal.defs (F := Bits) := congrArg (Pipeline.defs Cert.DownWgrad.pcfgs) bodies_same

end Same

theorem frame_kernel : @Cert.quiescent_DownWgrad Cert.DownWgrad.Gen.facts := by
  intro m ρ _
  rw [defs_same]
  exact Cert.DownWgradIdeal.Gen.frame (F := Bits) m ρ

theorem frame_kernelIdeal : @Cert.quiescent_DownWgradIdeal Cert.DownWgradIdeal.Gen.facts := fun m ρ _ => Cert.DownWgradIdeal.Gen.frame (F := Ideal) m ρ

theorem frame_reference : @Cert.quiescent_DownWgradReferenceIdeal Cert.DownWgradReferenceIdeal.Gen.facts := fun m ρ _ =>
  (θ_run Cert.DownWgradReferenceIdeal.defs _ _).mono (fun r h => ⟨fun c => (h c).2, sem_eq_zero_of_no_sems (by decide) r.2⟩)
    (Cert.DownWgradReferenceIdeal.Value.run (F := Ideal) m ρ)

/-- Both runs end with the product. -/
theorem values : @Cert.algebraic_DownWgradIdeal_DownWgradReferenceIdeal Cert.DownWgradIdeal.Gen.facts Cert.DownWgradReferenceIdeal.Gen.facts := by
  intro m g m' g' _ hin
  refine ⟨whole m, (θ_run Cert.DownWgradIdeal.defs _ _).mono (fun _ h c => ⟨(h c).1.trans (done m c), (h c).2⟩) (Cert.DownWgradIdeal.Value.run_blocks (F := Ideal) m g),
    (θ_run Cert.DownWgradReferenceIdeal.defs _ _).mono (fun _ h c => ⟨(h c).1.trans ?_, (h c).2⟩) (Cert.DownWgradReferenceIdeal.Value.run (F := Ideal) m' g')⟩
  rw [(hin c).1, (hin c).2]
  exact host_overRows _ _ _ _ (fun _ => rfl) (fun _ => rfl) _

end Cert.Products.DownGrad

end
-- ==== Proof.UpWgrad.lean ====
/-
  The gradient of the up-projection's weights, block by block and step by step: the claims about it.
-/
module

public import proofs.«01_k».proof.Defs
public import proofs.«01_k».proof.Proof.Gen.UpWgrad
public import proofs.«01_k».proof.Proof.Gen.UpWgradIdeal.Value
public import proofs.«01_k».proof.Proof.Gen.UpWgradReferenceIdeal.Run
public import proofs.«01_k».proof.Proof.Gradients
public import Idealize.ShloMosaic.Lib.Quiescent

@[expose] public section

set_option maxRecDepth 16384

noncomputable section

namespace Cert.Products.UpGrad

open Idealize.ShloMosaic Idealize.ShloMosaic.TcCoe Idealize.SL.Sem

section Value

open Cert.UpWgradIdeal Cert.UpWgradIdeal.Gen

variable (m : (ℓ : Loc nD τ sig) → Buf (Elt Ideal) ℓ)

/-- What the call should leave: the product of its two arguments over their rows. -/
def whole (c : Dev nD) : FVec Ideal (Mat 1024 5632) .f32 :=
  overRows (S := 8192) (m ((c : Thread nD τ).loc main_arg0)) (m ((c : Thread nD τ).loc main_arg1))

/-- One step adds the product of the two blocks at hand to what is there. -/
theorem step_at (acc : FVec Ideal (Mat 1024 512) .f32) (x : FVec Ideal (Mat 512 1024) .bf16) (y : FVec Ideal (Mat 512 512) .bf16)
    (z : (Mat 1024 512).Idx) : (k0_pay2 (F := Ideal) acc x y z : EReal) = acc z + overRows x y z := by
  unfold k0_pay2
  rw [shapeCast_self]
  exact congrArg (fun v : EReal => acc z + v) (matmul_overRows dot_S512x1024_S512x512_S1024x512_0_0_1_1_n_n_wf x y z)

/-- The first step starts from zeros. -/
theorem start_at (z : (Mat 1024 512).Idx) : (k0_pay1 (F := Ideal) z : EReal) = 0 := by
  show (Ideal.ofBits .f32 0#32 : EReal) = 0
  simp

/-- Where the blocks of a step lie. -/
theorem places : ∀ t : Fin cfg0.N, (win0_0.index t 0 = t.val % 16 ∧ win0_0.index t 1 = t.val / 16 % 1)
    ∧ (win0_1.index t 0 = t.val % 16 ∧ win0_1.index t 1 = t.val / 16 / 1)
    ∧ win0_2.index t 0 = t.val / 16 % 1 ∧ win0_2.index t 1 = t.val / 16 / 1 :=
  (by decide +kernel : ∀ t : Fin grid0.N, _)

/-- The block that is written back is the product's block. -/
theorem block_at (c : Dev nD) (t : Fin cfg0.N) (hf : (cfg0.win 2).flush t = true) (y : S1024x512.Idx) :
    outsAt0 m c t.val t.isLt y = whole m c (((cfg0.win 2).blk t).view.emb y) := by
  rw [Pipeline.eq_sum_fin_of_reset_step_apply_of_flush (fun n h => outsAt0 m c n h) 16 (fun _ => (0 : EReal))
    (fun t z => overRows (iblk m c 0 t) (iblk m c 1 t) z)
    (fun t h z => by rw [outsAt0_A m c t h]; frame_out; rw [step_at, start_at])
    (fun t h z => by rw [outsAt0_B m c t h]; frame_out; rw [step_at]) t ((flush0_2 t).mp hf) y, zero_add]
  have hp := places t
  have ht := (flush0_2 t).mp hf
  have hr : ∀ s : Fin 16, (16 * (t.val / 16) + s.val) % 16 = s.val ∧ (16 * (t.val / 16) + s.val) / 16 = t.val / 16 := fun s => by omega
  let at' (s : Fin 16) : Fin cfg0.N := ⟨16 * (t.val / 16) + s.val, Pipeline.run_point_lt_of_flush t ht s⟩
  have hs : ∀ s : Fin 16, (win0_0.index (at' s) 0 = s.val ∧ win0_0.index (at' s) 1 = win0_2.index t 0)
      ∧ win0_1.index (at' s) 0 = s.val ∧ win0_1.index (at' s) 1 = win0_2.index t 1 := fun s => by
    have := places (at' s)
    rw [hp.2.2.1, hp.2.2.2]
    simp only [at', (hr s).1, (hr s).2] at this
    exact ⟨this.1, this.2.1⟩
  exact overRows_block (J := 16) (ts := 512) (S := 8192) (M := 1024) (N := 5632) (tm := 1024) (tn := 512) rfl _ _
    (fun s => ((cfg0.win 0).blk (at' s)).view.emb) (fun s => ((cfg0.win 1).blk (at' s)).view.emb)
    ((cfg0.win 2).blk t).view.emb (win0_2.index t 0) (win0_2.index t 1)
    (fun s z => ⟨by blk_simp; rw [(hs s).1.1], by blk_simp; rw [(hs s).1.2]⟩)
    (fun s z => ⟨by blk_simp; rw [(hs s).2.1], by blk_simp; rw [(hs s).2.2]⟩)
    (fun z => ⟨by blk_simp, by blk_simp⟩) y

theorem done (c : Dev nD) : (dats m 0 c).arrAt 2 cfg0.N = whole m c := by
  refine (dats m 0 c).arrAt_eq_of_covers 2 _ (by decide +kernel) fun t hf y => ?_
  blk_simp
  rw [after0_2]
  exact block_at m c t hf y

end Value

section Same

attribute [local instance] Cert.UpWgrad.Gen.facts Cert.UpWgradIdeal.Gen.facts

theorem bodies_same : Cert.UpWgrad.defs₀ (F := Bits) = Cert.UpWgradIdeal.defs₀ (F := Bits) := by
  unfold Cert.UpWgrad.defs₀ Cert.UpWgradIdeal.defs₀
  refine congrArg Defs.onTc ?_
  funext l a
  match l with
  | 0 => rfl

theorem defs_same : Cert.UpWgrad.defs (F := Bits) = Cert.UpWgradIdeal.defs (F := Bits) := congrArg (Pipeline.defs Cert.UpWgrad.pcfgs) bodies_same

end Same

theorem frame_kernel : @Cert.quiescent_UpWgrad Cert.UpWgrad.Gen.facts := by
  intro m ρ _
  rw [defs_same]
  exact Cert.UpWgradIdeal.Gen.frame (F := Bits) m ρ

theorem frame_kernelIdeal : @Cert.quiescent_UpWgradIdeal Cert.UpWgradIdeal.Gen.facts := fun m ρ _ => Cert.UpWgradIdeal.Gen.frame (F := Ideal) m ρ

theorem frame_reference : @Cert.quiescent_UpWgradReferenceIdeal Cert.UpWgradReferenceIdeal.Gen.facts := fun m ρ _ =>
  (θ_run Cert.UpWgradReferenceIdeal.defs _ _).mono (fun r h => ⟨fun c => (h c).2, sem_eq_zero_of_no_sems (by decide) r.2⟩)
    (Cert.UpWgradReferenceIdeal.Value.run (F := Ideal) m ρ)

/-- Both runs end with the product. -/
theorem values : @Cert.algebraic_UpWgradIdeal_UpWgradReferenceIdeal Cert.UpWgradIdeal.Gen.facts Cert.UpWgradReferenceIdeal.Gen.facts := by
  intro m g m' g' _ hin
  refine ⟨whole m, (θ_run Cert.UpWgradIdeal.defs _ _).mono (fun _ h c => ⟨(h c).1.trans (done m c), (h c).2⟩) (Cert.UpWgradIdeal.Value.run_blocks (F := Ideal) m g),
    (θ_run Cert.UpWgradReferenceIdeal.defs _ _).mono (fun _ h c => ⟨(h c).1.trans ?_, (h c).2⟩) (Cert.UpWgradReferenceIdeal.Value.run (F := Ideal) m' g')⟩
  rw [(hin c).1, (hin c).2]
  exact host_overRows _ _ _ _ (fun _ => rfl) (fun _ => rfl) _

end Cert.Products.UpGrad

end
-- ==== Proof.OutWgrad.lean ====
/-
  The gradient of the output weights, block by block and step by step: the claims about it.
-/
module

public import proofs.«01_k».proof.Defs
public import proofs.«01_k».proof.Proof.Gen.OutWgrad
public import proofs.«01_k».proof.Proof.Gen.OutWgradIdeal.Value
public import proofs.«01_k».proof.Proof.Gen.OutWgradReferenceIdeal.Run
public import proofs.«01_k».proof.Proof.Gradients
public import Idealize.ShloMosaic.Lib.Quiescent

@[expose] public section

set_option maxRecDepth 16384

noncomputable section

namespace Cert.Products.OutGrad

open Idealize.ShloMosaic Idealize.ShloMosaic.TcCoe Idealize.SL.Sem

section Value

open Cert.OutWgradIdeal Cert.OutWgradIdeal.Gen

variable (m : (ℓ : Loc nD τ sig) → Buf (Elt Ideal) ℓ)

/-- What the call should leave: the product of its two arguments over their rows. -/
def whole (c : Dev nD) : FVec Ideal (Mat 1024 1024) .f32 :=
  overRows (S := 8192) (m ((c : Thread nD τ).loc main_arg0)) (m ((c : Thread nD τ).loc main_arg1))

/-- One step adds the product of the two blocks at hand to what is there. -/
theorem step_at (acc : FVec Ideal (Mat 1024 512) .f32) (x : FVec Ideal (Mat 512 1024) .bf16) (y : FVec Ideal (Mat 512 512) .bf16)
    (z : (Mat 1024 512).Idx) : (k0_pay2 (F := Ideal) acc x y z : EReal) = acc z + overRows x y z := by
  unfold k0_pay2
  rw [shapeCast_self]
  exact congrArg (fun v : EReal => acc z + v) (matmul_overRows dot_S512x1024_S512x512_S1024x512_0_0_1_1_n_n_wf x y z)

/-- The first step starts from zeros. -/
theorem start_at (z : (Mat 1024 512).Idx) : (k0_pay1 (F := Ideal) z : EReal) = 0 := by
  show (Ideal.ofBits .f32 0#32 : EReal) = 0
  simp

/-- Where the blocks of a step lie. -/
theorem places : ∀ t : Fin cfg0.N, (win0_0.index t 0 = t.val % 16 ∧ win0_0.index t 1 = t.val / 16 % 1)
    ∧ (win0_1.index t 0 = t.val % 16 ∧ win0_1.index t 1 = t.val / 16 / 1)
    ∧ win0_2.index t 0 = t.val / 16 % 1 ∧ win0_2.index t 1 = t.val / 16 / 1 :=
  (by decide +kernel : ∀ t : Fin grid0.N, _)

/-- The block that is written back is the product's block. -/
theorem block_at (c : Dev nD) (t : Fin cfg0.N) (hf : (cfg0.win 2).flush t = true) (y : S1024x512.Idx) :
    outsAt0 m c t.val t.isLt y = whole m c (((cfg0.win 2).blk t).view.emb y) := by
  rw [Pipeline.eq_sum_fin_of_reset_step_apply_of_flush (fun n h => outsAt0 m c n h) 16 (fun _ => (0 : EReal))
    (fun t z => overRows (iblk m c 0 t) (iblk m c 1 t) z)
    (fun t h z => by rw [outsAt0_A m c t h]; frame_out; rw [step_at, start_at])
    (fun t h z => by rw [outsAt0_B m c t h]; frame_out; rw [step_at]) t ((flush0_2 t).mp hf) y, zero_add]
  have hp := places t
  have ht := (flush0_2 t).mp hf
  have hr : ∀ s : Fin 16, (16 * (t.val / 16) + s.val) % 16 = s.val ∧ (16 * (t.val / 16) + s.val) / 16 = t.val / 16 := fun s => by omega
  let at' (s : Fin 16) : Fin cfg0.N := ⟨16 * (t.val / 16) + s.val, Pipeline.run_point_lt_of_flush t ht s⟩
  have hs : ∀ s : Fin 16, (win0_0.index (at' s) 0 = s.val ∧ win0_0.index (at' s) 1 = win0_2.index t 0)
      ∧ win0_1.index (at' s) 0 = s.val ∧ win0_1.index (at' s) 1 = win0_2.index t 1 := fun s => by
    have := places (at' s)
    rw [hp.2.2.1, hp.2.2.2]
    simp only [at', (hr s).1, (hr s).2] at this
    exact ⟨this.1, this.2.1⟩
  exact overRows_block (J := 16) (ts := 512) (S := 8192) (M := 1024) (N := 1024) (tm := 1024) (tn := 512) rfl _ _
    (fun s => ((cfg0.win 0).blk (at' s)).view.emb) (fun s => ((cfg0.win 1).blk (at' s)).view.emb)
    ((cfg0.win 2).blk t).view.emb (win0_2.index t 0) (win0_2.index t 1)
    (fun s z => ⟨by blk_simp; rw [(hs s).1.1], by blk_simp; rw [(hs s).1.2]⟩)
    (fun s z => ⟨by blk_simp; rw [(hs s).2.1], by blk_simp; rw [(hs s).2.2]⟩)
    (fun z => ⟨by blk_simp, by blk_simp⟩) y

theorem done (c : Dev nD) : (dats m 0 c).arrAt 2 cfg0.N = whole m c := by
  refine (dats m 0 c).arrAt_eq_of_covers 2 _ (by decide +kernel) fun t hf y => ?_
  blk_simp
  rw [after0_2]
  exact block_at m c t hf y

end Value

section Same

attribute [local instance] Cert.OutWgrad.Gen.facts Cert.OutWgradIdeal.Gen.facts

theorem bodies_same : Cert.OutWgrad.defs₀ (F := Bits) = Cert.OutWgradIdeal.defs₀ (F := Bits) := by
  unfold Cert.OutWgrad.defs₀ Cert.OutWgradIdeal.defs₀
  refine congrArg Defs.onTc ?_
  funext l a
  match l with
  | 0 => rfl

theorem defs_same : Cert.OutWgrad.defs (F := Bits) = Cert.OutWgradIdeal.defs (F := Bits) := congrArg (Pipeline.defs Cert.OutWgrad.pcfgs) bodies_same

end Same

theorem frame_kernel : @Cert.quiescent_OutWgrad Cert.OutWgrad.Gen.facts := by
  intro m ρ _
  rw [defs_same]
  exact Cert.OutWgradIdeal.Gen.frame (F := Bits) m ρ

theorem frame_kernelIdeal : @Cert.quiescent_OutWgradIdeal Cert.OutWgradIdeal.Gen.facts := fun m ρ _ => Cert.OutWgradIdeal.Gen.frame (F := Ideal) m ρ

theorem frame_reference : @Cert.quiescent_OutWgradReferenceIdeal Cert.OutWgradReferenceIdeal.Gen.facts := fun m ρ _ =>
  (θ_run Cert.OutWgradReferenceIdeal.defs _ _).mono (fun r h => ⟨fun c => (h c).2, sem_eq_zero_of_no_sems (by decide) r.2⟩)
    (Cert.OutWgradReferenceIdeal.Value.run (F := Ideal) m ρ)

/-- Both runs end with the product. -/
theorem values : @Cert.algebraic_OutWgradIdeal_OutWgradReferenceIdeal Cert.OutWgradIdeal.Gen.facts Cert.OutWgradReferenceIdeal.Gen.facts := by
  intro m g m' g' _ hin
  refine ⟨whole m, (θ_run Cert.OutWgradIdeal.defs _ _).mono (fun _ h c => ⟨(h c).1.trans (done m c), (h c).2⟩) (Cert.OutWgradIdeal.Value.run_blocks (F := Ideal) m g),
    (θ_run Cert.OutWgradReferenceIdeal.defs _ _).mono (fun _ h c => ⟨(h c).1.trans ?_, (h c).2⟩) (Cert.OutWgradReferenceIdeal.Value.run (F := Ideal) m' g')⟩
  rw [(hin c).1, (hin c).2]
  exact host_overRows _ _ _ _ (fun _ => rfl) (fun _ => rfl) _

end Cert.Products.OutGrad

end
-- ==== Proof.InWgrad.lean ====
/-
  The gradient of the input weights, block by block and step by step: the claims about it.
-/
module

public import proofs.«01_k».proof.Defs
public import proofs.«01_k».proof.Proof.Gen.InWgrad
public import proofs.«01_k».proof.Proof.Gen.InWgradIdeal.Value
public import proofs.«01_k».proof.Proof.Gen.InWgradReferenceIdeal.Run
public import proofs.«01_k».proof.Proof.Gradients
public import Idealize.ShloMosaic.Lib.Quiescent

@[expose] public section

set_option maxRecDepth 16384

noncomputable section

namespace Cert.Products.InGrad

open Idealize.ShloMosaic Idealize.ShloMosaic.TcCoe Idealize.SL.Sem

section Value

open Cert.InWgradIdeal Cert.InWgradIdeal.Gen

variable (m : (ℓ : Loc nD τ sig) → Buf (Elt Ideal) ℓ)

/-- What the call should leave: the product of its two arguments over their rows. -/
def whole (c : Dev nD) : FVec Ideal (Mat 1024 3200) .f32 :=
  overRows (S := 8192) (m ((c : Thread nD τ).loc main_arg0)) (m ((c : Thread nD τ).loc main_arg1))

/-- One step adds the product of the two blocks at hand to what is there. -/
theorem step_at (acc : FVec Ideal (Mat 1024 640) .f32) (x : FVec Ideal (Mat 512 1024) .bf16) (y : FVec Ideal (Mat 512 640) .bf16)
    (z : (Mat 1024 640).Idx) : (k0_pay2 (F := Ideal) acc x y z : EReal) = acc z + overRows x y z := by
  unfold k0_pay2
  rw [shapeCast_self]
  exact congrArg (fun v : EReal => acc z + v) (matmul_overRows dot_S512x1024_S512x640_S1024x640_0_0_1_1_n_n_wf x y z)

/-- The first step starts from zeros. -/
theorem start_at (z : (Mat 1024 640).Idx) : (k0_pay1 (F := Ideal) z : EReal) = 0 := by
  show (Ideal.ofBits .f32 0#32 : EReal) = 0
  simp

/-- Where the blocks of a step lie. -/
theorem places : ∀ t : Fin cfg0.N, (win0_0.index t 0 = t.val % 16 ∧ win0_0.index t 1 = t.val / 16 % 1)
    ∧ (win0_1.index t 0 = t.val % 16 ∧ win0_1.index t 1 = t.val / 16 / 1)
    ∧ win0_2.index t 0 = t.val / 16 % 1 ∧ win0_2.index t 1 = t.val / 16 / 1 :=
  (by decide +kernel : ∀ t : Fin grid0.N, _)

/-- The block that is written back is the product's block. -/
theorem block_at (c : Dev nD) (t : Fin cfg0.N) (hf : (cfg0.win 2).flush t = true) (y : S1024x640.Idx) :
    outsAt0 m c t.val t.isLt y = whole m c (((cfg0.win 2).blk t).view.emb y) := by
  rw [Pipeline.eq_sum_fin_of_reset_step_apply_of_flush (fun n h => outsAt0 m c n h) 16 (fun _ => (0 : EReal))
    (fun t z => overRows (iblk m c 0 t) (iblk m c 1 t) z)
    (fun t h z => by rw [outsAt0_A m c t h]; frame_out; rw [step_at, start_at])
    (fun t h z => by rw [outsAt0_B m c t h]; frame_out; rw [step_at]) t ((flush0_2 t).mp hf) y, zero_add]
  have hp := places t
  have ht := (flush0_2 t).mp hf
  have hr : ∀ s : Fin 16, (16 * (t.val / 16) + s.val) % 16 = s.val ∧ (16 * (t.val / 16) + s.val) / 16 = t.val / 16 := fun s => by omega
  let at' (s : Fin 16) : Fin cfg0.N := ⟨16 * (t.val / 16) + s.val, Pipeline.run_point_lt_of_flush t ht s⟩
  have hs : ∀ s : Fin 16, (win0_0.index (at' s) 0 = s.val ∧ win0_0.index (at' s) 1 = win0_2.index t 0)
      ∧ win0_1.index (at' s) 0 = s.val ∧ win0_1.index (at' s) 1 = win0_2.index t 1 := fun s => by
    have := places (at' s)
    rw [hp.2.2.1, hp.2.2.2]
    simp only [at', (hr s).1, (hr s).2] at this
    exact ⟨this.1, this.2.1⟩
  exact overRows_block (J := 16) (ts := 512) (S := 8192) (M := 1024) (N := 3200) (tm := 1024) (tn := 640) rfl _ _
    (fun s => ((cfg0.win 0).blk (at' s)).view.emb) (fun s => ((cfg0.win 1).blk (at' s)).view.emb)
    ((cfg0.win 2).blk t).view.emb (win0_2.index t 0) (win0_2.index t 1)
    (fun s z => ⟨by blk_simp; rw [(hs s).1.1], by blk_simp; rw [(hs s).1.2]⟩)
    (fun s z => ⟨by blk_simp; rw [(hs s).2.1], by blk_simp; rw [(hs s).2.2]⟩)
    (fun z => ⟨by blk_simp, by blk_simp⟩) y

theorem done (c : Dev nD) : (dats m 0 c).arrAt 2 cfg0.N = whole m c := by
  refine (dats m 0 c).arrAt_eq_of_covers 2 _ (by decide +kernel) fun t hf y => ?_
  blk_simp
  rw [after0_2]
  exact block_at m c t hf y

end Value

section Same

attribute [local instance] Cert.InWgrad.Gen.facts Cert.InWgradIdeal.Gen.facts

theorem bodies_same : Cert.InWgrad.defs₀ (F := Bits) = Cert.InWgradIdeal.defs₀ (F := Bits) := by
  unfold Cert.InWgrad.defs₀ Cert.InWgradIdeal.defs₀
  refine congrArg Defs.onTc ?_
  funext l a
  match l with
  | 0 => rfl

theorem defs_same : Cert.InWgrad.defs (F := Bits) = Cert.InWgradIdeal.defs (F := Bits) := congrArg (Pipeline.defs Cert.InWgrad.pcfgs) bodies_same

end Same

theorem frame_kernel : @Cert.quiescent_InWgrad Cert.InWgrad.Gen.facts := by
  intro m ρ _
  rw [defs_same]
  exact Cert.InWgradIdeal.Gen.frame (F := Bits) m ρ

theorem frame_kernelIdeal : @Cert.quiescent_InWgradIdeal Cert.InWgradIdeal.Gen.facts := fun m ρ _ => Cert.InWgradIdeal.Gen.frame (F := Ideal) m ρ

theorem frame_reference : @Cert.quiescent_InWgradReferenceIdeal Cert.InWgradReferenceIdeal.Gen.facts := fun m ρ _ =>
  (θ_run Cert.InWgradReferenceIdeal.defs _ _).mono (fun r h => ⟨fun c => (h c).2, sem_eq_zero_of_no_sems (by decide) r.2⟩)
    (Cert.InWgradReferenceIdeal.Value.run (F := Ideal) m ρ)

/-- Both runs end with the product. -/
theorem values : @Cert.algebraic_InWgradIdeal_InWgradReferenceIdeal Cert.InWgradIdeal.Gen.facts Cert.InWgradReferenceIdeal.Gen.facts := by
  intro m g m' g' _ hin
  refine ⟨whole m, (θ_run Cert.InWgradIdeal.defs _ _).mono (fun _ h c => ⟨(h c).1.trans (done m c), (h c).2⟩) (Cert.InWgradIdeal.Value.run_blocks (F := Ideal) m g),
    (θ_run Cert.InWgradReferenceIdeal.defs _ _).mono (fun _ h c => ⟨(h c).1.trans ?_, (h c).2⟩) (Cert.InWgradReferenceIdeal.Value.run (F := Ideal) m' g')⟩
  rw [(hin c).1, (hin c).2]
  exact host_overRows _ _ _ _ (fun _ => rfl) (fun _ => rfl) _

end Cert.Products.InGrad

end
-- ==== Proof.NormRows.lean ====
/-
  The derivative of a row's normalisation and modulation, written for one row; and how the sums along and across the rows
  of a matrix, which the kernel and the host take each with their own operation, read at an element.
-/
module

public import proofs.«01_k».proof.Proof.Products
public import Idealize.ShloMosaic.Lib.IdealHost
public import Idealize.ShloMosaic.Lib.ValueLayout
public import Idealize.ShloMosaic.Lib.ValueLayoutCasts

@[expose] public section

noncomputable section

namespace Cert.NormRows

open Idealize.ShloMosaic Cert.Products

/-- A row of 1024 numbers; -/
abbrev Row := Fin 1024 → EReal

/-- a matrix's rows. -/
def row {S : ℕ} (A : FVec Ideal (Mat S 1024) .f32) (r : Fin S) : Row := fun k => A (ValueIdx.ix2 r k)

/-! ## Of one row -/

/-- The mean of the squares, and a little. -/
def power (x : Row) : EReal := FloatOps.divf (F := Ideal) (φ := .f32) (∑ k, x k * x k : EReal) (Ideal.ofBits .f32 0x44800000#32) + Ideal.ofBits .f32 0x358637BD#32

/-- The factor that normalises the row. -/
def factor (x : Row) : EReal := FloatOps.rsqrt (F := Ideal) (φ := .f32) (power x)

/-- The derivative of the factor in the power. -/
def factorSlope (x : Row) : EReal := Ideal.ofBits .f32 0xBF000000#32 * FloatOps.divf (F := Ideal) (φ := .f32) (factor x) (power x)

/-- What comes back through the modulation's scale; -/
def scaled (dh scale : Row) : Row := fun k => dh k * (Ideal.ofBits .f32 0x3F800000#32 + scale k)

/-- and through the gain. -/
def pulled (dh g scale : Row) : Row := fun k => scaled dh scale k * g k

/-- What comes back through the mean of the squares. -/
def tilt (x dh g scale : Row) : EReal :=
  FloatOps.divf (F := Ideal) (φ := .f32) ((∑ k, x k * pulled dh g scale k : EReal) * factorSlope x) (Ideal.ofBits .f32 0x44800000#32)

/-- The derivative in the row, added to what came by the other way. -/
def back (x dh dx1 g scale : Row) : Row := fun k =>
  dx1 k + (pulled dh g scale k * factor x + x k * tilt x dh g scale + tilt x dh g scale * x k)

/-- The row's part of the derivative in the gain, -/
def gainPart (x dh scale : Row) : Row := fun k => x k * factor x * scaled dh scale k

/-- and of that in the scale. -/
def scalePart (x dh g : Row) : Row := fun k => x k * factor x * g k * dh k

/-! ## Of all rows -/

/-- The parts of all rows, added up. -/
def total {S : ℕ} (f : Fin S → Row) : FVec Ideal (Mat 1 1024) .f32 := fun z => (∑ r, f r (z 1) : EReal)

theorem total_at {S : ℕ} (f : Fin S → Row) (u : Fin 1) (k : Fin 1024) : (total f (ValueIdx.ix2 u k) : EReal) = ∑ r, f r k := rfl

/-! ## Sums along and across the rows -/

theorem lift_along {S n : ℕ} (h : (Mat S n).Reduces [1] ⟨1, ![S]⟩) (r : Fin S) (k : Fin n) :
    h.lift (ValueIdx.ix1 r) k = ValueIdx.ix2 r k := by
  funext a
  match a with
  | ⟨0, _⟩ => rfl
  | ⟨1, _⟩ => rfl

theorem lift_across {S n : ℕ} (h : (Mat S n).Reduces [0] ⟨1, ![n]⟩) (k : Fin n) (r : Fin S) :
    h.lift (ValueIdx.ix1 k) r = ValueIdx.ix2 r k := by
  funext a
  match a with
  | ⟨0, _⟩ => rfl
  | ⟨1, _⟩ => rfl

/-- The kernel's sum along a row, kept as a column; -/
theorem kernel_along {S n : ℕ} (v : FVec Ideal (Mat S n) .f32) (h : (Mat S n).Reduces [1] ⟨1, ![S]⟩) (hc) (r : Fin S) :
    (shapeCast (Mat S 1) (multiReduction .add [1] ⟨1, ![S]⟩ v 0x00000000#32 h (.inl rfl) rfl) hc (ValueIdx.ix2 r 0) : EReal)
      = ∑ k : Fin n, v (ValueIdx.ix2 r k) :=
  (ValueIdx.shapeCast_a_a1_apply _ hc r 0).trans
    ((Ideal.multiReduction_add_single v _ h _ _ _).trans (Finset.sum_congr rfl fun k _ => congrArg v (lift_along h r k)))

/-- across the rows, kept as a row; -/
theorem kernel_across {S n : ℕ} (v : FVec Ideal (Mat S n) .f32) (h : (Mat S n).Reduces [0] ⟨1, ![n]⟩) (hc) (u : Fin 1) (k : Fin n) :
    (shapeCast (Mat 1 n) (multiReduction .add [0] ⟨1, ![n]⟩ v 0x00000000#32 h (.inl rfl) rfl) hc (ValueIdx.ix2 u k) : EReal)
      = ∑ r : Fin S, v (ValueIdx.ix2 r k) :=
  (ValueIdx.shapeCast_a_1a_apply _ hc u k).trans
    ((Ideal.multiReduction_add_single v _ h _ _ _).trans (Finset.sum_congr rfl fun r _ => congrArg v (lift_across h k r)))

/-- the host's along a row; -/
theorem host_along {S n : ℕ} (v : FVec Ideal (Mat S n) .f32) (h : (Mat S n).ReducesTo [1] ⟨1, ![S]⟩)
    (hr : (Mat S n).Reduces [1] ⟨1, ![S]⟩) (hu) (r : Fin S) :
    (Host.reduceAdd v (constant ⟨0, ![]⟩ .f32 0x00000000#32) h hu (ValueIdx.ix1 r) : EReal) = ∑ k : Fin n, v (ValueIdx.ix2 r k) := by
  have hz : (constant ⟨0, ![]⟩ .f32 0x00000000#32 : FVec Ideal ⟨0, ![]⟩ .f32) (Shape.Idx.first hu) = (0 : EReal) := Ideal.ofBits_zero_f32
  rw [ValueIdx.hostReduceAdd_apply, Ideal.hostReduceAdd_single h hr, hz, zero_add]
  exact Finset.sum_congr rfl fun k _ => congrArg v (lift_along hr r k)

/-- across the rows. -/
theorem host_across {S n : ℕ} (v : FVec Ideal (Mat S n) .f32) (h : (Mat S n).ReducesTo [0] ⟨1, ![n]⟩)
    (hr : (Mat S n).Reduces [0] ⟨1, ![n]⟩) (hu) (k : Fin n) :
    (Host.reduceAdd v (constant ⟨0, ![]⟩ .f32 0x00000000#32) h hu (ValueIdx.ix1 k) : EReal) = ∑ r : Fin S, v (ValueIdx.ix2 r k) := by
  have hz : (constant ⟨0, ![]⟩ .f32 0x00000000#32 : FVec Ideal ⟨0, ![]⟩ .f32) (Shape.Idx.first hu) = (0 : EReal) := Ideal.ofBits_zero_f32
  rw [ValueIdx.hostReduceAdd_apply, Ideal.hostReduceAdd_single h hr, hz, zero_add]
  exact Finset.sum_congr rfl fun r _ => congrArg v (lift_across hr k r)

/-! ## A column, and a vector as a column, repeated along the rows -/

theorem kernel_column {S n : ℕ} (v : FVec Ideal (Mat S 1) .f32) (h : (Mat S 1).Broadcasts (Mat S n)) (r : Fin S) (k : Fin n) :
    broadcastTo (Mat S n) v h (ValueIdx.ix2 r k) = v (ValueIdx.ix2 r 0) := by
  refine broadcastTo_apply v h _ _ fun a => ?_
  match a with
  | ⟨0, _⟩ =>
    show r.val = if S = 1 then 0 else r.val
    split <;> omega
  | ⟨1, _⟩ => rfl

theorem host_column {S n : ℕ} (v : FVec Ideal (Mat S 1) .f32) (h : (Mat S 1).BroadcastsInDim (Mat S n) ![0, 1]) (r : Fin S) (k : Fin n) :
    broadcastInDim (Mat S n) ![0, 1] h v (ValueIdx.ix2 r k) = v (ValueIdx.ix2 r 0) := by
  refine broadcastInDim_apply _ h v _ _ fun a => ?_
  match a with
  | ⟨0, _⟩ =>
    show r.val = if S = 1 then 0 else r.val
    split <;> omega
  | ⟨1, _⟩ => rfl

theorem host_vector {S n : ℕ} (v : FVec Ideal ⟨1, ![S]⟩ .f32) (h : (⟨1, ![S]⟩ : Shape).BroadcastsInDim (Mat S n) ![0]) (r : Fin S) (k : Fin n) :
    broadcastInDim (Mat S n) ![0] h v (ValueIdx.ix2 r k) = v (ValueIdx.ix1 r) := by
  refine broadcastInDim_apply _ h v _ _ fun a => ?_
  match a with
  | ⟨0, _⟩ =>
    show r.val = if S = 1 then 0 else r.val
    split <;> omega

/-- A row of a block of rows is a row of the whole. -/
theorem row_block {ts S : ℕ} (A : FVec Ideal (Mat S 1024) .f32) (e : (Mat ts 1024).Idx → (Mat S 1024).Idx) (s : ℕ)
    (he : ∀ z, (e z 0).val = s * ts + (z 0).val ∧ (e z 1).val = (z 1).val) (r : Fin ts) (l : Fin S) (hl : l.val = s * ts + r.val) :
    row (fun z => A (e z)) r = row A l := by
  funext k
  refine congrArg A ((ValueIdx.eq_ix2 _).trans ?_)
  congr 1
  · exact Fin.ext ((he _).1.trans hl.symm)
  · exact Fin.ext (he _).2

/-- Added up over the stretches of rows, the parts of all rows of each are those of all rows. -/
theorem total_stretches {J ts S : ℕ} (hS : S = J * ts) (f : Fin J → Fin ts → Row) (g : Fin S → Row)
    (h : ∀ (s : Fin J) (r : Fin ts) (hl : s.val * ts + r.val < S), f s r = g ⟨s.val * ts + r.val, hl⟩) (z : (Mat 1 1024).Idx) :
    (∑ s : Fin J, (total (f s) z : EReal)) = total g z :=
  Fin.sum_mul_add_congr (fun s r hl => congrFun (h s r hl) (z 1)) hS

end Cert.NormRows

end
-- ==== Proof.NormBack.lean ====
/-
  The gradient of the activations, through a row's normalisation and modulation, and what it adds to the gradients of the
  gain, the scale and the shift: the claims about it.
-/
module

public import proofs.«01_k».proof.Defs
public import proofs.«01_k».proof.Proof.Gen.Norm1Bwd
public import proofs.«01_k».proof.Proof.Gen.Norm1BwdIdeal.Value
public import proofs.«01_k».proof.Proof.Gen.Norm1BwdReferenceIdeal.Run
public import proofs.«01_k».proof.Proof.NormRows
public import Idealize.ShloMosaic.Lib.Quiescent

@[expose] public section

set_option maxRecDepth 16384

noncomputable section

namespace Cert.NormBack

open Idealize.ShloMosaic Idealize.ShloMosaic.TcCoe Idealize.SL.Sem Cert.Products Cert.NormRows

section Body

open Cert.Norm1BwdIdeal Cert.Norm1BwdIdeal.Gen

variable (x dh dx1 : FVec Ideal (Mat 512 1024) .f32) (g scale : FVec Ideal (Mat 1 1024) .f32)

/-! ## What one step computes, at a row -/

theorem power_at (r : Fin 512) : (k0_pay8 (F := Ideal) x (ValueIdx.ix2 r 0) : EReal) = power (row x r) := by
  unfold k0_pay8
  exact congrArg (fun v : EReal => FloatOps.divf (F := Ideal) (φ := .f32) v (Ideal.ofBits .f32 0x44800000#32) + Ideal.ofBits .f32 0x358637BD#32)
    (kernel_along (mulf x x) _ _ r)

theorem factor_at (r : Fin 512) : (k0_pay9 (F := Ideal) x (ValueIdx.ix2 r 0) : EReal) = factor (row x r) := by
  unfold k0_pay9
  show FloatOps.rsqrt (F := Ideal) (φ := .f32) (k0_pay8 (F := Ideal) x (ValueIdx.ix2 r 0)) = _
  rw [power_at]
  rfl

theorem factorSlope_at (r : Fin 512) : (k0_pay10 (F := Ideal) x (ValueIdx.ix2 r 0) : EReal) = factorSlope (row x r) := by
  unfold k0_pay10
  show Ideal.ofBits .f32 0xBF000000#32 * FloatOps.divf (F := Ideal) (φ := .f32) (k0_pay9 (F := Ideal) x (ValueIdx.ix2 r 0)) (k0_pay8 (F := Ideal) x (ValueIdx.ix2 r 0)) = _
  rw [power_at, factor_at]
  rfl

theorem normed_at (r : Fin 512) (k : Fin 1024) : (k0_pay11 (F := Ideal) x (ValueIdx.ix2 r k) : EReal) = row x r k * factor (row x r) := by
  unfold k0_pay11
  show x (ValueIdx.ix2 r k) * broadcastTo (Mat 512 1024) _ _ (ValueIdx.ix2 r k) = _
  rw [kernel_column, factor_at]
  rfl

theorem scaled_at (r : Fin 512) (k : Fin 1024) : (k0_pay15 (F := Ideal) dh scale (ValueIdx.ix2 r k) : EReal) = scaled (row dh r) (row scale 0) k := by
  unfold k0_pay15 k0_pay12
  show shapeCast (Mat 512 1024) dh _ (ValueIdx.ix2 r k) * broadcastTo (Mat 512 1024) _ _ (ValueIdx.ix2 r k) = _
  rw [ValueIdx.broadcastTo_1b_ab_apply, shapeCast_self]
  rfl

theorem pulled_at (r : Fin 512) (k : Fin 1024) :
    (k0_pay17 (F := Ideal) dh g scale (ValueIdx.ix2 r k) : EReal) = pulled (row dh r) (row g 0) (row scale 0) k := by
  unfold k0_pay17
  show k0_pay15 (F := Ideal) dh scale (ValueIdx.ix2 r k) * broadcastTo (Mat 512 1024) _ _ (ValueIdx.ix2 r k) = _
  rw [ValueIdx.broadcastTo_1b_ab_apply, scaled_at]
  rfl

theorem along_at (r : Fin 512) : (k0_pay18 (F := Ideal) x dh g scale (ValueIdx.ix2 r 0) : EReal)
    = ∑ k, row x r k * pulled (row dh r) (row g 0) (row scale 0) k := by
  unfold k0_pay18
  refine (kernel_along (mulf x (k0_pay17 (F := Ideal) dh g scale)) _ _ r).trans ?_
  refine Finset.sum_congr rfl fun k _ => ?_
  show x (ValueIdx.ix2 r k) * k0_pay17 (F := Ideal) dh g scale (ValueIdx.ix2 r k) = _
  rw [pulled_at]
  rfl

theorem direct_at (r : Fin 512) (k : Fin 1024) : (k0_pay19 (F := Ideal) x dh g scale (ValueIdx.ix2 r k) : EReal)
    = pulled (row dh r) (row g 0) (row scale 0) k * factor (row x r) := by
  unfold k0_pay19
  show k0_pay17 (F := Ideal) dh g scale (ValueIdx.ix2 r k) * broadcastTo (Mat 512 1024) _ _ (ValueIdx.ix2 r k) = _
  rw [kernel_column, factor_at, pulled_at]

theorem back_at (r : Fin 512) (k : Fin 1024) :
    (k0_pay1 (F := Ideal) x dx1 (k0_pay10 x) (k0_pay18 x dh g scale) (k0_pay19 x dh g scale) (ValueIdx.ix2 r k) : EReal)
      = back (row x r) (row dh r) (row dx1 r) (row g 0) (row scale 0) k := by
  unfold k0_pay1
  have ht : (FloatOps.divf (F := Ideal) (φ := .f32) (k0_pay18 (F := Ideal) x dh g scale (ValueIdx.ix2 r 0) * k0_pay10 (F := Ideal) x (ValueIdx.ix2 r 0)) (Ideal.ofBits .f32 0x44800000#32) : EReal)
      = tilt (row x r) (row dh r) (row g 0) (row scale 0) := by
    rw [along_at, factorSlope_at]
    rfl
  have hb : ∀ w : FVec Ideal (Mat 512 1) .f32, (broadcastTo (Mat 512 1024) (shapeCast (Mat 512 1) (multiReduction .add [1] S512 w 0x00000000#32
      reduces_S512x1_S512 (.inl rfl) rfl) shapeCasts_S512_S512x1) broadcasts_S512x1_S512x1024 (ValueIdx.ix2 r k) : EReal) = w (ValueIdx.ix2 r 0) := fun w =>
    (kernel_column _ _ r k).trans ((kernel_along w _ _ r).trans (Fin.sum_univ_one _))
  exact congrArg₂ (fun d v : EReal => dx1 (ValueIdx.ix2 r k) + (d + x (ValueIdx.ix2 r k) * v + v * x (ValueIdx.ix2 r k)))
    (direct_at x dh g scale r k) ((hb _).trans ht)

/-! ## What one step adds to the running sums -/

theorem gain_step (old : FVec Ideal (Mat 1 1024) .f32) (z : (Mat 1 1024).Idx) : (k0_pay5 (F := Ideal) (k0_pay16 x dh scale) old z : EReal)
    = old z + total (fun r => gainPart (row x r) (row dh r) (row scale 0)) z := by
  obtain ⟨u, k, rfl⟩ : ∃ u k, z = ValueIdx.ix2 u k := ⟨z 0, z 1, ValueIdx.eq_ix2 z⟩
  unfold k0_pay5 k0_pay16
  rw [shapeCast_self]
  refine congrArg (fun v : EReal => old (ValueIdx.ix2 u k) + v) ((kernel_across (mulf (k0_pay11 (F := Ideal) x) (k0_pay15 dh scale)) _ _ u k).trans
    (Finset.sum_congr rfl fun r _ => ?_))
  show k0_pay11 (F := Ideal) x (ValueIdx.ix2 r k) * k0_pay15 (F := Ideal) dh scale (ValueIdx.ix2 r k) = _
  rw [normed_at, scaled_at]
  rfl

theorem scale_step (old : FVec Ideal (Mat 1 1024) .f32) (z : (Mat 1 1024).Idx) : (k0_pay6 (F := Ideal) (k0_pay14 x dh g) old z : EReal)
    = old z + total (fun r => scalePart (row x r) (row dh r) (row g 0)) z := by
  obtain ⟨u, k, rfl⟩ : ∃ u k, z = ValueIdx.ix2 u k := ⟨z 0, z 1, ValueIdx.eq_ix2 z⟩
  unfold k0_pay6 k0_pay14 k0_pay12
  rw [shapeCast_self, shapeCast_self]
  refine congrArg (fun v : EReal => old (ValueIdx.ix2 u k) + v) ((kernel_across
    (mulf (mulf (k0_pay11 (F := Ideal) x) (broadcastTo (Mat 512 1024) g broadcasts_S1x1024_S512x1024)) dh) _ _ u k).trans (Finset.sum_congr rfl fun r _ => ?_))
  show k0_pay11 (F := Ideal) x (ValueIdx.ix2 r k) * broadcastTo (Mat 512 1024) g _ (ValueIdx.ix2 r k) * dh (ValueIdx.ix2 r k) = _
  rw [normed_at, ValueIdx.broadcastTo_1b_ab_apply]
  rfl

theorem shift_step (old : FVec Ideal (Mat 1 1024) .f32) (z : (Mat 1 1024).Idx) :
    (k0_pay7 (F := Ideal) (k0_pay13 dh) old z : EReal) = old z + total (fun r => row dh r) z := by
  obtain ⟨u, k, rfl⟩ : ∃ u k, z = ValueIdx.ix2 u k := ⟨z 0, z 1, ValueIdx.eq_ix2 z⟩
  unfold k0_pay7 k0_pay13
  rw [shapeCast_self]
  exact congrArg (fun v : EReal => old (ValueIdx.ix2 u k) + v) (kernel_across dh _ _ u k)

theorem gain_start (z : (Mat 1 1024).Idx) : (k0_pay2 (F := Ideal) z : EReal) = 0 := Ideal.ofBits_zero_f32
theorem scale_start (z : (Mat 1 1024).Idx) : (k0_pay3 (F := Ideal) z : EReal) = 0 := Ideal.ofBits_zero_f32
theorem shift_start (z : (Mat 1 1024).Idx) : (k0_pay4 (F := Ideal) z : EReal) = 0 := Ideal.ofBits_zero_f32

end Body

section Value

open Cert.Norm1BwdIdeal Cert.Norm1BwdIdeal.Gen

variable (m : (ℓ : Loc nD τ sig) → Buf (Elt Ideal) ℓ)

/-! ## What the call should leave -/

/-- The rows of the five arguments that the results depend on. -/
abbrev xs (c : Dev nD) : FVec Ideal (Mat 8192 1024) .f32 := m ((c : Thread nD τ).loc main_arg0)
abbrev dhs (c : Dev nD) : FVec Ideal (Mat 8192 1024) .f32 := m ((c : Thread nD τ).loc main_arg1)
abbrev dx1s (c : Dev nD) : FVec Ideal (Mat 8192 1024) .f32 := m ((c : Thread nD τ).loc main_arg2)
abbrev gains (c : Dev nD) : FVec Ideal (Mat 1 1024) .f32 := m ((c : Thread nD τ).loc main_arg3)
abbrev scales (c : Dev nD) : FVec Ideal (Mat 1 1024) .f32 := m ((c : Thread nD τ).loc main_arg4)

/-- The gradient of the activations, row by row; -/
def wholeBack (c : Dev nD) : FVec Ideal (Mat 8192 1024) .f32 := fun z =>
  back (row (xs m c) (z 0)) (row (dhs m c) (z 0)) (row (dx1s m c) (z 0)) (row (gains m c) 0) (row (scales m c) 0) (z 1)

/-- and the gradients of the gain, -/
def wholeGain (c : Dev nD) : FVec Ideal (Mat 1 1024) .f32 :=
  total fun r : Fin 8192 => gainPart (row (xs m c) r) (row (dhs m c) r) (row (scales m c) 0)

/-- of the scale -/
def wholeScale (c : Dev nD) : FVec Ideal (Mat 1 1024) .f32 :=
  total fun r : Fin 8192 => scalePart (row (xs m c) r) (row (dhs m c) r) (row (gains m c) 0)

/-- and of the shift. -/
def wholeShift (c : Dev nD) : FVec Ideal (Mat 1 1024) .f32 := total fun r : Fin 8192 => row (dhs m c) r

/-! ## What the steps see -/

/-- Where the blocks of a step lie. -/
theorem places : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_6.index t 0 = t.val ∧ win0_6.index t 1 = 0)
    ∧ (win0_7.index t 0 = 0 ∧ win0_7.index t 1 = 0) ∧ (win0_8.index t 0 = 0 ∧ win0_8.index t 1 = 0)
    ∧ win0_9.index t 0 = 0 ∧ win0_9.index t 1 = 0 :=
  (by decide +kernel : ∀ t : Fin grid0.N, _)

theorem x_rows (c : Dev nD) (t : Fin cfg0.N) (r : Fin 512) (l : Fin 8192) (hl : l.val = t.val * 512 + r.val) :
    row (iblk m c 0 t) r = row (xs m c) l :=
  row_block (xs m c) ((cfg0.win 0).blk t).view.emb t.val (fun z => ⟨by blk_simp; rw [(places t).1.1], by blk_simp; rw [(places t).1.2]; omega⟩) r l hl

theorem dh_rows (c : Dev nD) (t : Fin cfg0.N) (r : Fin 512) (l : Fin 8192) (hl : l.val = t.val * 512 + r.val) :
    row (iblk m c 1 t) r = row (dhs m c) l :=
  row_block (dhs m c) ((cfg0.win 1).blk t).view.emb t.val (fun z => ⟨by blk_simp; rw [(places t).2.1.1], by blk_simp; rw [(places t).2.1.2]; omega⟩) r l hl

theorem dx1_rows (c : Dev nD) (t : Fin cfg0.N) (r : Fin 512) (l : Fin 8192) (hl : l.val = t.val * 512 + r.val) :
    row (iblk m c 2 t) r = row (dx1s m c) l :=
  row_block (dx1s m c) ((cfg0.win 2).blk t).view.emb t.val (fun z => ⟨by blk_simp; rw [(places t).2.2.1.1], by blk_simp; rw [(places t).2.2.1.2]; omega⟩) r l hl

theorem gain_row (c : Dev nD) (t : Fin cfg0.N) : row (iblk m c 3 t) (0 : Fin 1) = row (gains m c) 0 :=
  row_block (ts := 1) (gains m c) ((cfg0.win 3).blk t).view.emb 0
    (fun z => ⟨by blk_simp; rw [(places t).2.2.2.1.1], by blk_simp; rw [(places t).2.2.2.1.2]; omega⟩) 0 0 rfl

theorem scale_row (c : Dev nD) (t : Fin cfg0.N) : row (iblk m c 4 t) (0 : Fin 1) = row (scales m c) 0 :=
  row_block (ts := 1) (scales m c) ((cfg0.win 4).blk t).view.emb 0
    (fun z => ⟨by blk_simp; rw [(places t).2.2.2.2.1.1], by blk_simp; rw [(places t).2.2.2.2.1.2]; omega⟩) 0 0 rfl

/-! ## What they leave -/

/-- A step's rows of the gradient of the activations. -/
theorem back_out (c : Dev nD) (t : Fin cfg0.N) : (outsAt0 m c t.val t.isLt).1
    = k0_pay1 (F := Ideal) (iblk m c 0 t) (iblk m c 2 t) (k0_pay10 (iblk m c 0 t)) (k0_pay18 (iblk m c 0 t) (iblk m c 1 t) (iblk m c 3 t) (iblk m c 4 t))
        (k0_pay19 (iblk m c 0 t) (iblk m c 1 t) (iblk m c 3 t) (iblk m c 4 t)) := by
  by_cases h : t.val % 16 = 0
  · rw [outsAt0_A m c t h]; frame_out
  · rw [outsAt0_B m c t h]; frame_out

theorem back_done (c : Dev nD) : (dats m 0 c).arrAt 6 cfg0.N = wholeBack m c := by
  refine (dats m 0 c).arrAt_eq_of_covers 6 _ (by decide +kernel) fun t hf y => ?_
  blk_simp
  rw [after0_6, back_out]
  have hp := (places t).2.2.2.2.2.1
  have he : (((cfg0.win 6).blk t).view.emb y 0).val = t.val * 512 + (y 0).val ∧ (((cfg0.win 6).blk t).view.emb y 1).val = (y 1).val :=
    ⟨by blk_simp; rw [hp.1], by blk_simp; rw [hp.2]; omega⟩
  refine (congrArg _ (ValueIdx.eq_ix2 y)).trans ((back_at _ _ _ _ _ (y 0) (y 1)).trans ?_)
  rw [x_rows m c t (y 0) _ he.1, dh_rows m c t (y 0) _ he.1, dx1_rows m c t (y 0) _ he.1, gain_row, scale_row]
  exact congrArg _ (Fin.ext he.2.symm)

/-- In the one run of steps, a step's stretch of rows is its own. -/
theorem stretch (t : Fin cfg0.N) (ht : t.val % 16 = 15) (s : Fin 16) (r : Fin 512) (p : Fin cfg0.N) (hp : p.val = 16 * (t.val / 16) + s.val) :
    s.val * 512 + r.val = p.val * 512 + r.val := by
  have := t.isLt
  have h : cfg0.N = 16 := rfl
  omega

/-- A row that is all of a one-row array lies in it as it is. -/
theorem one_row (f : FVec Ideal (Mat 1 1024) .f32) (y z : (Mat 1 1024).Idx) (h : (z 1).val = (y 1).val) : (f y : EReal) = f z := by
  refine congrArg f (funext fun a => Fin.ext ?_)
  match a with
  | ⟨0, _⟩ =>
    have h0 : (y 0).val < 1 := (y 0).isLt
    have h1 : (z 0).val < 1 := (z 0).isLt
    show (y 0).val = (z 0).val
    omega
  | ⟨1, _⟩ => exact h.symm

/-- A step's part in it, row by row. -/
def gainStep (c : Dev nD) (p : Fin cfg0.N) (r : Fin 512) : Row := gainPart (row (iblk m c 0 p) r) (row (iblk m c 1 p) r) (row (iblk m c 4 p) (0 : Fin 1))

theorem gain_parts (c : Dev nD) (p : Fin cfg0.N) (r : Fin 512) (l : Fin 8192) (hl : l.val = p.val * 512 + r.val) :
    gainStep m c p r = gainPart (row (xs m c) l) (row (dhs m c) l) (row (scales m c) 0) := by
  unfold gainStep
  rw [x_rows m c p r l hl, dh_rows m c p r l hl, scale_row m c p]

theorem gain_at (c : Dev nD) (t : Fin cfg0.N) (ht : t.val % 16 = 15) (y : S1x1024.Idx) : ((outsAt0 m c t.val t.isLt).2.1 y : EReal) = wholeGain m c y := by
  rw [Pipeline.eq_sum_fin_of_reset_step_apply_of_flush (fun n h => (outsAt0 m c n h).2.1) 16 (fun _ => (0 : EReal))
    (fun t z => total (fun r => gainStep m c t r) z)
    (fun t h z => by rw [outsAt0_A m c t h]; frame_out; rw [gain_step, gain_start]; simp only [gainStep])
    (fun t h z => by rw [outsAt0_B m c t h]; frame_out; rw [gain_step]; simp only [gainStep]) t ht y, zero_add]
  let at' (s : Fin 16) : Fin cfg0.N := ⟨16 * (t.val / 16) + s.val, Pipeline.run_point_lt_of_flush t ht s⟩
  have h := fun (s : Fin 16) (r : Fin 512) (hl : s.val * 512 + r.val < 8192) => gain_parts m c (at' s) r ⟨_, hl⟩ (stretch t ht s r (at' s) rfl)
  unfold wholeGain
  exact total_stretches (J := 16) (ts := 512) (S := 8192) rfl (fun s r => gainStep m c (at' s) r) _ h y

theorem gain_done (c : Dev nD) : (dats m 0 c).arrAt 7 cfg0.N = wholeGain m c := by
  refine (dats m 0 c).arrAt_eq_of_covers 7 _ (by decide +kernel) fun t hf y => ?_
  have he : (((cfg0.win 7).blk t).view.emb y 1).val = (y 1).val := by blk_simp; rw [(places t).2.2.2.2.2.2.1.2]; omega
  blk_simp
  rw [after0_7]
  exact (gain_at m c t ((flush0_7 t).mp hf) y).trans (one_row (wholeGain m c) y (((cfg0.win 7).blk t).view.emb y) he)

/-- A step's part in it, row by row. -/
def scaleStep (c : Dev nD) (p : Fin cfg0.N) (r : Fin 512) : Row := scalePart (row (iblk m c 0 p) r) (row (iblk m c 1 p) r) (row (iblk m c 3 p) (0 : Fin 1))

theorem scale_parts (c : Dev nD) (p : Fin cfg0.N) (r : Fin 512) (l : Fin 8192) (hl : l.val = p.val * 512 + r.val) :
    scaleStep m c p r = scalePart (row (xs m c) l) (row (dhs m c) l) (row (gains m c) 0) := by
  unfold scaleStep
  rw [x_rows m c p r l hl, dh_rows m c p r l hl, gain_row m c p]

theorem scale_at (c : Dev nD) (t : Fin cfg0.N) (ht : t.val % 16 = 15) (y : S1x1024.Idx) : ((outsAt0 m c t.val t.isLt).2.2.1 y : EReal) = wholeScale m c y := by
  rw [Pipeline.eq_sum_fin_of_reset_step_apply_of_flush (fun n h => (outsAt0 m c n h).2.2.1) 16 (fun _ => (0 : EReal))
    (fun t z => total (fun r => scaleStep m c t r) z)
    (fun t h z => by rw [outsAt0_A m c t h]; frame_out; rw [scale_step, scale_start]; simp only [scaleStep])
    (fun t h z => by rw [outsAt0_B m c t h]; frame_out; rw [scale_step]; simp only [scaleStep]) t ht y, zero_add]
  let at' (s : Fin 16) : Fin cfg0.N := ⟨16 * (t.val / 16) + s.val, Pipeline.run_point_lt_of_flush t ht s⟩
  have h := fun (s : Fin 16) (r : Fin 512) (hl : s.val * 512 + r.val < 8192) => scale_parts m c (at' s) r ⟨_, hl⟩ (stretch t ht s r (at' s) rfl)
  unfold wholeScale
  exact total_stretches (J := 16) (ts := 512) (S := 8192) rfl (fun s r => scaleStep m c (at' s) r) _ h y

theorem scale_done (c : Dev nD) : (dats m 0 c).arrAt 8 cfg0.N = wholeScale m c := by
  refine (dats m 0 c).arrAt_eq_of_covers 8 _ (by decide +kernel) fun t hf y => ?_
  have he : (((cfg0.win 8).blk t).view.emb y 1).val = (y 1).val := by blk_simp; rw [(places t).2.2.2.2.2.2.2.1.2]; omega
  blk_simp
  rw [after0_8]
  exact (scale_at m c t ((flush0_8 t).mp hf) y).trans (one_row (wholeScale m c) y (((cfg0.win 8).blk t).view.emb y) he)

/-- A step's part in it, row by row. -/
def shiftStep (c : Dev nD) (p : Fin cfg0.N) (r : Fin 512) : Row := row (iblk m c 1 p) r

theorem shift_parts (c : Dev nD) (p : Fin cfg0.N) (r : Fin 512) (l : Fin 8192) (hl : l.val = p.val * 512 + r.val) :
    shiftStep m c p r = row (dhs m c) l := by
  unfold shiftStep
  rw [dh_rows m c p r l hl]

theorem shift_at (c : Dev nD) (t : Fin cfg0.N) (ht : t.val % 16 = 15) (y : S1x1024.Idx) : ((outsAt0 m c t.val t.isLt).2.2.2 y : EReal) = wholeShift m c y := by
  rw [Pipeline.eq_sum_fin_of_reset_step_apply_of_flush (fun n h => (outsAt0 m c n h).2.2.2) 16 (fun _ => (0 : EReal))
    (fun t z => total (fun r => shiftStep m c t r) z)
    (fun t h z => by rw [outsAt0_A m c t h]; frame_out; rw [shift_step, shift_start]; simp only [shiftStep])
    (fun t h z => by rw [outsAt0_B m c t h]; frame_out; rw [shift_step]; simp only [shiftStep]) t ht y, zero_add]
  let at' (s : Fin 16) : Fin cfg0.N := ⟨16 * (t.val / 16) + s.val, Pipeline.run_point_lt_of_flush t ht s⟩
  have h := fun (s : Fin 16) (r : Fin 512) (hl : s.val * 512 + r.val < 8192) => shift_parts m c (at' s) r ⟨_, hl⟩ (stretch t ht s r (at' s) rfl)
  unfold wholeShift
  exact total_stretches (J := 16) (ts := 512) (S := 8192) rfl (fun s r => shiftStep m c (at' s) r) _ h y

theorem shift_done (c : Dev nD) : (dats m 0 c).arrAt 9 cfg0.N = wholeShift m c := by
  refine (dats m 0 c).arrAt_eq_of_covers 9 _ (by decide +kernel) fun t hf y => ?_
  have he : (((cfg0.win 9).blk t).view.emb y 1).val = (y 1).val := by blk_simp; rw [(places t).2.2.2.2.2.2.2.2.2]; omega
  blk_simp
  rw [after0_9]
  exact (shift_at m c t ((flush0_9 t).mp hf) y).trans (one_row (wholeShift m c) y (((cfg0.win 9).blk t).view.emb y) he)

end Value

section Reference

open Cert.Norm1BwdReferenceIdeal Cert.Norm1BwdReferenceIdeal.Gen

variable (x dh dx1 : FVec Ideal (Mat 8192 1024) .f32) (g scale : FVec Ideal (Mat 1 1024) .f32)

theorem along_axis : (Mat 8192 1024).Reduces [1] ⟨1, ![8192]⟩ := by decide
theorem along_unit : (Mat 8192 1).Reduces [1] ⟨1, ![8192]⟩ := by decide
theorem across_axis : (Mat 8192 1024).Reduces [0] ⟨1, ![1024]⟩ := by decide

/-! ## The reference's arrays, under their rows' names -/

def hostPower : FVec Ideal (Mat 8192 1) .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

def hostFactor : FVec Ideal (Mat 8192 1) .f32 := Host.rsqrt (hostPower x)

def hostFactorSlope : FVec Ideal (Mat 8192 1) .f32 :=
  mulf (broadcastInDim S8192x1 ![] bcast_S_S8192x1 (constant S_ .f32 0xBF000000#32)) (Host.divf (hostFactor x) (hostPower x))

def hostScaled : FVec Ideal (Mat 8192 1024) .f32 :=
  mulf (shapeCast _ dh shapeCasts_S8192x1024_S8192x1024) (broadcastInDim S8192x1024 ![0, 1] bcast_S1x1024_S8192x1024_0_1
    (addf (broadcastInDim S1x1024 ![] bcast_S_S1x1024 (constant S_ .f32 0x3F800000#32)) scale))

def hostPulled : FVec Ideal (Mat 8192 1024) .f32 := mulf (hostScaled dh scale) (broadcastInDim S8192x1024 ![0, 1] bcast_S1x1024_S8192x1024_0_1 g)

def hostTilt : FVec Ideal (Mat 8192 1024) .f32 :=
  broadcastInDim S8192x1024 ![0] bcast_S8192_S8192x1024_0 (Host.reduceAdd (Host.divf (mulf (shapeCast _ (Host.reduceAdd (mulf x (hostPulled dh g scale))
    (constant S_ .f32 0x00000000#32) reducesTo_S8192x1024_S8192_d1 h_S_) shapeCasts_S8192_S8192x1) (hostFactorSlope x))
    (broadcastInDim S8192x1 ![] bcast_S_S8192x1 (constant S_ .f32 0x44800000#32))) (constant S_ .f32 0x00000000#32) reducesTo_S8192x1_S8192_d1 h_S_)

def hostNormed : FVec Ideal (Mat 8192 1024) .f32 := mulf x (broadcastInDim S8192x1024 ![0, 1] bcast_S8192x1_S8192x1024_0_1 (hostFactor x))

def hostBack : FVec Ideal (Mat 8192 1024) .f32 :=
  addf dx1 (addf (addf (mulf (hostPulled dh g scale) (broadcastInDim S8192x1024 ![0, 1] bcast_S8192x1_S8192x1024_0_1 (hostFactor x)))
    (mulf x (hostTilt x dh g scale))) (mulf (hostTilt x dh g scale) x))

def hostTotal (v : FVec Ideal (Mat 8192 1024) .f32) : FVec Ideal (Mat 1 1024) .f32 :=
  shapeCast _ (Host.reduceAdd v (constant S_ .f32 0x00000000#32) reducesTo_S8192x1024_S1024_d0 h_S_) shapeCasts_S1024_S1x1024

/-! ## At a row -/

theorem hostPower_at (r : Fin 8192) : (hostPower x (ValueIdx.ix2 r 0) : EReal) = power (row x r) := by
  unfold hostPower
  exact congrArg (fun v : EReal => FloatOps.divf (F := Ideal) (φ := .f32) v (Ideal.ofBits .f32 0x44800000#32) + Ideal.ofBits .f32 0x358637BD#32)
    ((host_vector _ _ r 0).trans (host_along (mulf x x) _ along_axis _ r))

theorem hostFactor_at (r : Fin 8192) : (hostFactor x (ValueIdx.ix2 r 0) : EReal) = factor (row x r) :=
  congrArg (fun v : EReal => FloatOps.rsqrt (F := Ideal) (φ := .f32) v) (hostPower_at x r)

theorem hostFactorSlope_at (r : Fin 8192) : (hostFactorSlope x (ValueIdx.ix2 r 0) : EReal) = factorSlope (row x r) :=
  congrArg₂ (fun v w : EReal => Ideal.ofBits .f32 0xBF000000#32 * FloatOps.divf (F := Ideal) (φ := .f32) v w) (hostFactor_at x r) (hostPower_at x r)

theorem hostScaled_at (r : Fin 8192) (k : Fin 1024) : (hostScaled dh scale (ValueIdx.ix2 r k) : EReal) = scaled (row dh r) (row scale 0) k := by
  unfold hostScaled
  rw [shapeCast_self]
  exact congrArg (fun v : EReal => dh (ValueIdx.ix2 r k) * v) (broadcastInDim_oneRow_apply _ _ r k)

theorem hostPulled_at (r : Fin 8192) (k : Fin 1024) :
    (hostPulled dh g scale (ValueIdx.ix2 r k) : EReal) = pulled (row dh r) (row g 0) (row scale 0) k :=
  congrArg₂ (fun v w : EReal => v * w) (hostScaled_at dh scale r k) (broadcastInDim_oneRow_apply _ g r k)

theorem hostTilt_at (r : Fin 8192) (k : Fin 1024) :
    (hostTilt x dh g scale (ValueIdx.ix2 r k) : EReal) = tilt (row x r) (row dh r) (row g 0) (row scale 0) := by
  unfold hostTilt
  refine (host_vector _ _ r k).trans ((host_along _ _ along_unit _ r).trans ((Fin.sum_univ_one _).trans ?_))
  refine congrArg₂ (fun v w : EReal => FloatOps.divf (F := Ideal) (φ := .f32) (v * w) (Ideal.ofBits .f32 0x44800000#32)) ?_ (hostFactorSlope_at x r)
  refine (ValueIdx.shapeCast_a_a1_apply _ _ r 0).trans ((host_along (mulf x (hostPulled dh g scale)) _ along_axis _ r).trans ?_)
  exact Finset.sum_congr rfl fun k _ => congrArg (fun v : EReal => x (ValueIdx.ix2 r k) * v) (hostPulled_at dh g scale r k)

theorem hostNormed_at (r : Fin 8192) (k : Fin 1024) : (hostNormed x (ValueIdx.ix2 r k) : EReal) = row x r k * factor (row x r) :=
  congrArg (fun v : EReal => x (ValueIdx.ix2 r k) * v) ((host_column _ _ r k).trans (hostFactor_at x r))

theorem hostBack_at (r : Fin 8192) (k : Fin 1024) :
    (hostBack x dh dx1 g scale (ValueIdx.ix2 r k) : EReal) = back (row x r) (row dh r) (row dx1 r) (row g 0) (row scale 0) k := by
  have hd : (mulf (hostPulled dh g scale) (broadcastInDim S8192x1024 ![0, 1] bcast_S8192x1_S8192x1024_0_1 (hostFactor x)) (ValueIdx.ix2 r k) : EReal)
      = pulled (row dh r) (row g 0) (row scale 0) k * factor (row x r) :=
    congrArg₂ (fun v w : EReal => v * w) (hostPulled_at dh g scale r k) ((host_column _ _ r k).trans (hostFactor_at x r))
  exact congrArg₂ (fun d v : EReal => dx1 (ValueIdx.ix2 r k) + (d + x (ValueIdx.ix2 r k) * v + v * x (ValueIdx.ix2 r k))) hd (hostTilt_at x dh g scale r k)

theorem hostTotal_eq (v : FVec Ideal (Mat 8192 1024) .f32) (f : Fin 8192 → Row) (h : ∀ r k, (v (ValueIdx.ix2 r k) : EReal) = f r k) :
    hostTotal v = total f := by
  funext z
  obtain ⟨u, k, rfl⟩ : ∃ u k, z = ValueIdx.ix2 u k := ⟨z 0, z 1, ValueIdx.eq_ix2 z⟩
  unfold hostTotal
  refine (ValueIdx.shapeCast_a_1a_apply _ _ u k).trans ((host_across v _ across_axis _ k).trans ?_)
  exact Finset.sum_congr rfl fun r _ => h r k

theorem hostGain_at (r : Fin 8192) (k : Fin 1024) :
    (mulf (hostNormed x) (hostScaled dh scale) (ValueIdx.ix2 r k) : EReal) = gainPart (row x r) (row dh r) (row scale 0) k :=
  congrArg₂ (fun v w : EReal => v * w) (hostNormed_at x r k) (hostScaled_at dh scale r k)

theorem hostScale_at (r : Fin 8192) (k : Fin 1024) :
    (mulf (mulf (hostNormed x) (broadcastInDim S8192x1024 ![0, 1] bcast_S1x1024_S8192x1024_0_1 g)) (shapeCast S8192x1024 dh shapeCasts_S8192x1024_S8192x1024) (ValueIdx.ix2 r k) : EReal)
      = scalePart (row x r) (row dh r) (row g 0) k := by
  rw [shapeCast_self]
  exact congrArg₂ (fun v w : EReal => v * w * dh (ValueIdx.ix2 r k)) (hostNormed_at x r k) (broadcastInDim_oneRow_apply _ g r k)

end Reference

section Same

attribute [local instance] Cert.Norm1Bwd.Gen.facts Cert.Norm1BwdIdeal.Gen.facts

theorem bodies_same : Cert.Norm1Bwd.defs₀ (F := Bits) = Cert.Norm1BwdIdeal.defs₀ (F := Bits) := by
  unfold Cert.Norm1Bwd.defs₀ Cert.Norm1BwdIdeal.defs₀
  refine congrArg Defs.onTc ?_
  funext l a
  match l with
  | 0 => rfl

theorem defs_same : Cert.Norm1Bwd.defs (F := Bits) = Cert.Norm1BwdIdeal.defs (F := Bits) := congrArg (Pipeline.defs Cert.Norm1Bwd.pcfgs) bodies_same

end Same

theorem frame_kernel : @Cert.quiescent_Norm1Bwd Cert.Norm1Bwd.Gen.facts := by
  intro m ρ _
  rw [defs_same]
  exact Cert.Norm1BwdIdeal.Gen.frame (F := Bits) m ρ

theorem frame_kernelIdeal : @Cert.quiescent_Norm1BwdIdeal Cert.Norm1BwdIdeal.Gen.facts := fun m ρ _ => Cert.Norm1BwdIdeal.Gen.frame (F := Ideal) m ρ

theorem frame_reference : @Cert.quiescent_Norm1BwdReferenceIdeal Cert.Norm1BwdReferenceIdeal.Gen.facts := fun m ρ _ =>
  (θ_run Cert.Norm1BwdReferenceIdeal.defs _ _).mono (fun r h => ⟨fun c => (h c).2.2.2.2, sem_eq_zero_of_no_sems (by decide) r.2⟩)
    (Cert.Norm1BwdReferenceIdeal.Value.run (F := Ideal) m ρ)

/-- Both runs end with the four gradients. -/
theorem values : @Cert.algebraic_Norm1BwdIdeal_Norm1BwdReferenceIdeal Cert.Norm1BwdIdeal.Gen.facts Cert.Norm1BwdReferenceIdeal.Gen.facts := by
  intro m g m' g' _ hin
  refine ⟨wholeBack m, wholeGain m, wholeScale m, wholeShift m,
    (θ_run Cert.Norm1BwdIdeal.defs _ _).mono (fun _ h c => ⟨(h c).1.trans (back_done m c), (h c).2.1.trans (gain_done m c),
      (h c).2.2.1.trans (scale_done m c), (h c).2.2.2.1.trans (shift_done m c), (h c).2.2.2.2⟩) (Cert.Norm1BwdIdeal.Value.run_blocks (F := Ideal) m g),
    (θ_run Cert.Norm1BwdReferenceIdeal.defs _ _).mono (fun _ h c => ?_) (Cert.Norm1BwdReferenceIdeal.Value.run (F := Ideal) m' g')⟩
  obtain ⟨h0, h1, h2, h3, hk⟩ := h c
  obtain ⟨a0, a1, a2, a3, a4, a5⟩ := hin c
  refine ⟨h0.trans ?_, h1.trans ?_, h2.trans ?_, h3.trans ?_, hk⟩
  · unfold Cert.Norm1BwdReferenceIdeal.Value.res_main_v48
    rw [a0, a1, a2, a3, a4]
    funext z
    exact (congrArg _ (ValueIdx.eq_ix2 z)).trans (hostBack_at (xs m c) (dhs m c) (dx1s m c) (gains m c) (scales m c) (z 0) (z 1))
  · rw [a0, a1, a4]
    exact hostTotal_eq (mulf (hostNormed (xs m c)) (hostScaled (dhs m c) (scales m c))) _ (hostGain_at (xs m c) (dhs m c) (scales m c))
  · rw [a0, a1, a3]
    exact hostTotal_eq _ _ (hostScale_at (xs m c) (dhs m c) (gains m c))
  · rw [a1]
    exact hostTotal_eq (dhs m c) _ fun _ _ => rfl

end Cert.NormBack

end
-- ==== Proof.Deal.lean ====
/-
  What the launch deals: from what each device holds at the start, and the protocol's fresh state, to every device ready
  for the exchange. A device gives each peer the slot of its gathered array the peer will fill, and the right to credit
  its receive semaphore.
-/
module

public import proofs.«01_k».proof.Proof.Body
public import proofs.«01_k».proof.Proof.StartAll
public import proofs.«01_k».proof.Proof.Gen.KernelIdeal.Launch

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred)

variable {F : FTy → Type} [FloatOps F]

local notation "𝕄" => MT nD τ sig Unit (Elt F) ℕ UU ℕ

variable (m : (ℓ : Loc nD τ sig) → Buf (Elt F) ℓ) (ρ : Dev nD → PrngReg)

/-! ## A whole array and its slots -/

omit [FloatOps F] in
/-- Something about every device is something about one of them and its peers. -/
theorem bigSep_peers (c : Dev nD) (Φ : Dev nD → sProp 𝕄) :
    bigSep Finset.univ Φ = iprop(Φ c ∗ bigSep Finset.univ fun k => Φ (peer k c)) := by
  rw [univ_peers c, bigSep_insert (by
    intro h
    obtain ⟨k, -, hk⟩ := Finset.mem_map.mp h
    exact peer_ne k c hk), bigSep_map]
  rfl

theorem in_plane (i : S8x1600x1024.Idx) : ∃ j, i ∈ plane j :=
  ⟨⟨(i (0 : Fin 3)).val, (i (0 : Fin 3)).isLt⟩, mem_plane.mpr rfl⟩

omit [FloatOps F] in
/-- A whole array is the parts of it, when they are disjoint and cover it. -/
theorem pts_parts {ℓ : Loc nD τ sig} (S : Fin 8 → Finset (Idx ℓ)) (hd : ∀ j j', j ≠ j' → Disjoint (S j) (S j')) (hc : ∀ i, ∃ j, i ∈ S j)
    (f : Buf (Elt F) ℓ) : (ℓ ↦{fullShare} f : sProp 𝕄) = bigSep Finset.univ fun j => ℓ ↦[S j]{fullShare} f := by
  classical
  rw [← pointsTo_biUnion Finset.univ S fun j _ j' _ h => hd j j' h]
  congr 1
  exact (Finset.eq_univ_iff_forall.mpr fun i => by
    obtain ⟨j, hj⟩ := hc i
    exact Finset.mem_biUnion.mpr ⟨j, Finset.mem_univ _, hj⟩).symm

omit [FloatOps F] in
theorem src_slots (c : Dev nD) :
    (((c : Thread nD τ).loc main_arg0) ↦{fullShare} m ((c : Thread nD τ).loc main_arg0) : sProp 𝕄)
      = iprop(srcP m c c ∗ bigSep Finset.univ fun k => srcP m c (peer k c)) :=
  (pts_parts (ℓ := (c : Thread nD τ).loc main_arg0) plane (fun j j' h => plane_disjoint h) in_plane _).trans
    (bigSep_peers c (fun j => srcP m c j))

omit [FloatOps F] in
theorem dst_slots (c : Dev nD) (f : Buf (Elt F) ((c : Thread nD τ).loc main_v1)) :
    (((c : Thread nD τ).loc main_v1) ↦{fullShare} f : sProp 𝕄)
      = iprop(dstP c c f ∗ bigSep Finset.univ fun k => dstP c (peer k c) f) :=
  (pts_parts (ℓ := (c : Thread nD τ).loc main_v1) plane (fun j j' h => plane_disjoint h) in_plane _).trans
    (bigSep_peers c (fun j => dstP c j f))

/-- The other unscoped arrays. -/
def otherRefs : Finset (Ref sig .tc) := ((Finset.univ.filter fun b : Ref sig .tc => ¬ b.isScoped).erase main_arg0).erase main_v1
def others (c : Dev nD) (V : (b : Ref sig .tc) → Buf (Elt F) ((c : Thread nD τ).loc b)) : sProp 𝕄 :=
  bigSep otherRefs fun b => ((c : Thread nD τ).loc b) ↦{fullShare} V b

omit [FloatOps F] in
theorem unscoped_split (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_v1) ↦{fullShare} V main_v1) ∗ others c V) := by
  unfold unscopedBufs others otherRefs
  rw [bigSep_erase (i := main_arg0) (by decide), bigSep_erase (i := main_v1) (s := Finset.erase _ _) (by decide)]
  rfl

/-! ## The exchange's semaphores among the scoped ones -/

theorem ownSemFacts : Pipeline.OwnSemFacts cfg0.spec osem := by decide

/-- The scoped semaphores that are not the exchange's, at zero. -/
def idle (c : Dev nD) : sProp 𝕄 :=
  iprop(Pipeline.cellsSems0 (Ix := Unit) (Name := ℕ) (U := UU) (Lvl := ℕ) (Val := Elt F) (τ := τ) cfgs 0 c
    ∗ Pipeline.idleSems0 cfgs cellOf_inj 0 ownSemFacts c)

omit [FloatOps F] in
theorem sems_split (c : Dev nD) :
    (scopedSems0 (c : Thread nD τ) : sProp 𝕄) = iprop((bigSep Finset.univ fun s => semVal (kcell (c, s)) 0) ∗ idle c) := by
  rw [Pipeline.scopedSems0_split cfgs cellOf_inj 0 winFacts0.to₀ ownSemFacts c]
  unfold idle
  refine BI.Entails.antisymm (show (_ : sProp 𝕄) ⊢ _ from ?_) (show (_ : sProp 𝕄) ⊢ _ from ?_)
  · unfold Pipeline.ownSems0
    iintro ⟨⟨H1, H2⟩, H3⟩
    isplitl [H2]; · iexact H2
    isplitl [H1]; · iexact H1
    iexact H3
  · unfold Pipeline.ownSems0
    iintro ⟨H2, H1, H3⟩
    isplitr [H3]
    · isplitl [H1]; · iexact H1
      iexact H2
    iexact H3

/-! ## Credit -/

omit [FloatOps F] in
theorem cred_k (k : Fin 7) (c : Dev nD) :
    (launchCred (fun d => owed d k) c : sProp 𝕄) ⊢ cred (tallyAt (kcell (c, rcv k)) () N) := by
  have hval : ∀ d : Dev nD, owed d k (kcell (c, rcv k)) () = if d = peer k c then N else 0 := fun d => by
    unfold owed
    rw [tallyAt_apply]
    by_cases h : d = peer k c
    · subst h; rw [peer_peer, if_pos ⟨rfl, rfl⟩, if_pos rfl]
    · rw [if_neg (fun ⟨h1, _⟩ => h (by
        have h2 : c = peer k d := congrArg Prod.fst (kcell_inj h1)
        rw [h2, peer_peer])), if_neg h]
  have hall : tallyOn (kcell (c, rcv k)) (launchCredit (Pipeline.owing fun d => owed d k) 0 (kcell (c, rcv k)))
      = (tallyAt (kcell (c, rcv k)) () N : CellTallies nD τ sig Unit) := by
    unfold tallyAt
    refine congrArg _ (Finsupp.ext fun u => ?_)
    cases u
    rw [Pipeline.launchCredit_owing, Finsupp.single_eq_same, Finset.sum_congr rfl fun d _ => hval d,
      Finset.sum_ite_eq' Finset.univ (peer k c) fun _ => N, if_pos (Finset.mem_univ _)]
  unfold launchCred
  rw [← hall]
  exact bigSep_elim (Finset.mem_univ (osem (rcv k)))

omit [FloatOps F] in
theorem creds (c : Dev nD) : (launchCred O₀ c : sProp 𝕄) ⊢ bigSep Finset.univ fun k => cred (tallyAt (kcell (c, rcv k)) () N) := by
  rw [bigSep_seven]
  have e : (O₀ : Dev nD → CellTallies nD τ sig Unit)
      = fun d => (fun d => (fun d => (fun d => (fun d => (fun d => (fun d => (fun d => (0 : CellTallies nD τ sig Unit)) d + owed d 6) d + owed d 5) d + owed d 4) d
          + owed d 3) d + owed d 2) d + owed d 1) d + owed d 0 := rfl
  rw [e]
  rw [Pipeline.launchCred_add, Pipeline.launchCred_add, Pipeline.launchCred_add, Pipeline.launchCred_add, Pipeline.launchCred_add,
    Pipeline.launchCred_add, Pipeline.launchCred_add]
  iintro ⟨⟨⟨⟨⟨⟨⟨-, H6⟩, H5⟩, H4⟩, H3⟩, H2⟩, H1⟩, H0⟩
  isplitl [H0]; · iapply (cred_k 0 c); iexact H0
  isplitl [H1]; · iapply (cred_k 1 c); iexact H1
  isplitl [H2]; · iapply (cred_k 2 c); iexact H2
  isplitl [H3]; · iapply (cred_k 3 c); iexact H3
  isplitl [H4]; · iapply (cred_k 4 c); iexact H4
  isplitl [H5]; · iapply (cred_k 5 c); iexact H5
  iapply (cred_k 6 c); iexact H6

/-! ## Fresh protocol state -/

def allCells : Finset (GSem nD τ sig) := Finset.univ.map ⟨kcell, kcell_inj⟩
def allToks : Finset (GSem nD τ sig × ℕ × Unit) :=
  Finset.univ.map ⟨fun p : Dev nD × Sm => (kcell p, 0, ()), fun _ _ h => kcell_inj (congrArg Prod.fst h)⟩

def u₀ : UU := (initOf (Pipeline.cells cfgs cellOf_inj) (Pipeline.launchToks cfgs cellOf_inj), initOf allCells allToks)

/-- A device's share of it. -/
def G (c : Dev nD) : sProp 𝕄 :=
  iprop((bigSep Finset.univ fun s => roundState ER (sched m) (kcell (c, s)) 0)
    ∗ (bigSep Finset.univ fun s => iprop(atPos ER (kcell (c, s)) 0 ∅ 0 ∗ reached ER (kcell (c, s)) 0))
    ∗ bigSep Finset.univ fun s => dutyTok ER (kcell (c, s)) 0 ())

omit [FloatOps F] in
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun s : Sm => Φ (kcell (c, s)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun s : Sm => dutyTok ER (kcell (c, s)) 0 () := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- Putting each semaphore of a device under its invariant. -/
theorem guard (c : Dev nD) :
    iprop((bigSep Finset.univ fun s => semVal (kcell (c, s)) 0) ∗ bigSep Finset.univ fun s => roundState ER (sched m) (kcell (c, s)) 0)
      ⊢ (|={Set.univ}=> bigSep Finset.univ fun s => iprop(∃ κ : ℕ, cellInv ER (sched m) κ (kcell (c, s))) : sProp 𝕄) := by
  rw [← bigSep_sep']
  exact (bigSep_mono fun s _ => (Rounds.body_intro ER (sched m) (kcell (c, s))).trans inv_alloc).trans (bigSep_fupd _ _)

/-! ## Dealing -/

omit [FloatOps F] in
/-- What every device holds for each of its peers, handed to those peers. -/
theorem across (Φ : Fin 7 → Dev nD → sProp 𝕄) :
    (bigSep Finset.univ fun c : Dev nD => bigSep Finset.univ fun k => Φ k c)
      = bigSep Finset.univ fun c : Dev nD => bigSep Finset.univ fun k => Φ k (peer k c) := by
  rw [BI.bigSep_univ_comm, BI.bigSep_univ_comm (fun (c : Dev nD) k => Φ k (peer k c))]
  exact bigSep_congr fun k _ => bigSep_univ_equiv (swap k) (Φ k)

/-- The part of a device's holdings the exchange does not touch. -/
def aside (c : Dev nD) : sProp 𝕄 :=
  iprop(scopedBufs (c : Thread nD τ) ∗ idle c ∗ opIdle (c : Thread nD τ) ∗ owes (c : Thread nD τ) (O₀ c) ∅
    ∗ others c (fun b => m ((c : Thread nD τ).loc b)))

/-- What a device starts with. -/
def T₀ (c : Dev nD) : sProp 𝕄 := iprop(start m c ∗ aside m c)

/-- What stays with a device when the slots and rights have been sorted by peer. -/
def kept (c : Dev nD) : sProp 𝕄 :=
  iprop(srcP m c c ∗ (∃ f, dstP c c f) ∗ dutyTok ER (kcell (c, own)) 0 ()
    ∗ (bigSep Finset.univ fun k => iprop(srcP m c (peer k c) ∗ dutyTok ER (kcell (c, snd k)) 0 ()))
    ∗ (bigSep Finset.univ fun s => atPos ER (kcell (c, s)) 0 ∅ 0)
    ∗ (bigSep Finset.univ fun k => cred (tallyAt (kcell (c, rcv k)) () N)) ∗ aside m c)
/-- What it gives its `k`-th peer. -/
def given (k : Fin 7) (c : Dev nD) : sProp 𝕄 := iprop((∃ f, dstP c (peer k c) f) ∗ dutyTok ER (kcell (c, rcv k)) 0 ())

omit [FloatOps F] in
theorem toks_sort (c : Dev nD) :
    (bigSep Finset.univ fun s : Sm => dutyTok ER (kcell (c, s)) 0 () : sProp 𝕄)
      = iprop((bigSep Finset.univ fun k => dutyTok ER (kcell (c, snd k)) 0 ()) ∗ (bigSep Finset.univ fun k => dutyTok ER (kcell (c, rcv k)) 0 ())
        ∗ dutyTok ER (kcell (c, own)) 0 ()) := by
  rw [BI.bigSep_univ_sum, BI.bigSep_univ_sum, BI.bigSep_univ_of_subsingleton (I := Unit) ()]; rfl

omit [FloatOps F] in
theorem sort (c : Dev nD) :
    iprop(Cert.StartAll.holdings O₀ m ρ c ∗ G m c)
      ⊢ (|={Set.univ}=> iprop((bigSep Finset.univ fun s => iprop(∃ κ : ℕ, cellInv ER (sched m) κ (kcell (c, s))))
          ∗ (bigSep Finset.univ fun s => reached ER (kcell (c, s)) 0) ∗ kept m c ∗ bigSep Finset.univ fun k => given k c) : sProp 𝕄) := by
  unfold Cert.StartAll.holdings G boundary
  rw [unscoped_split, sems_split, toks_sort, bigSep_sep']
  iintro ⟨⟨⟨Hsb, ⟨Hsem, Hidle⟩, Hop⟩, ⟨Harg, Hv1, Hoth⟩, -, HO, Hcr, -⟩, Hst, ⟨Hat, Hre⟩, Hts, Htr, Hto⟩
  imod (guard m c) $$ [Hsem Hst] with HI
  · isplitl [Hsem]; · iexact Hsem
    iexact Hst
  imodintro
  isplitl [HI]; · iexact HI
  isplitl [Hre]; · iexact Hre
  ihave Hs := (Entails.of_eq (src_slots m c)) $$ Harg
  icases Hs with ⟨Hs0, Hs⟩
  ihave Hd := (Entails.of_eq (dst_slots c (m ((c : Thread nD τ).loc main_v1)))) $$ Hv1
  icases Hd with ⟨Hd0, Hd⟩
  unfold kept given aside
  rw [bigSep_sep', bigSep_sep']
  isplitr [Hd Htr]
  · isplitl [Hs0]; · iexact Hs0
    isplitl [Hd0]; · iexists _; iexact Hd0
    isplitl [Hto]; · iexact Hto
    isplitl [Hs Hts]
    · isplitl [Hs]; · iexact Hs
      iexact Hts
    isplitl [Hat]; · iexact Hat
    isplitl [Hcr]; · iapply (creds (F := F) c); iexact Hcr
    isplitl [Hsb]; · iexact Hsb
    isplitl [Hidle]; · iexact Hidle
    isplitl [Hop]; · iexact Hop
    isplitl [HO]; · iexact HO
    iexact Hoth
  · isplitl [Hd]
    · iapply (show (bigSep Finset.univ fun k => dstP c (peer k c) (m ((c : Thread nD τ).loc main_v1)) : sProp 𝕄)
          ⊢ bigSep Finset.univ fun k => iprop(∃ f, dstP c (peer k c) f) from bigSep_mono fun k _ => show dstP c (peer k c) (m ((c : Thread nD τ).loc main_v1)) ⊢ (iprop(∃ f, dstP c (peer k c) f) : sProp 𝕄) from by
        iintro H; iexists _; iexact H)
      iexact Hd
    iexact Htr

omit [FloatOps F] in
/-- One device's start, from what it kept and what its peers gave it. -/
theorem ready (K : Dev nD × Sm → ℕ) (c : Dev nD) :
    iprop(records m K ∗ kept m c ∗ bigSep Finset.univ fun k => given k (peer k c)) ⊢ T₀ m c := by
  unfold kept given T₀ start toCopy toSend
  iintro ⟨#HR, ⟨Hs0, Hd0, Hto, Hst, Hat, Hcr, Has⟩, Hg⟩
  isplitr [Has]
  · isplitr; · iexists K; iexact HR
    isplitl [Hs0 Hd0 Hto]
    · isplitl [Hs0]; · iexact Hs0
      isplitl [Hd0]; · iexact Hd0
      iexact Hto
    isplitl [Hst Hg]
    · iapply ((Entails.of_eq (bigSep_sep' Finset.univ (fun k => iprop(srcP m c (peer k c) ∗ dutyTok ER (kcell (c, snd k)) 0 ()))
          (fun k => iprop((∃ f, dstP (peer k c) (peer k (peer k c)) f) ∗ (dutyTok ER (kcell (peer k c, rcv k)) 0 () : sProp 𝕄)))).symm).trans
        (bigSep_mono fun k _ => show iprop((srcP m c (peer k c) ∗ dutyTok ER (kcell (c, snd k)) 0 ())
            ∗ (∃ f, dstP (peer k c) (peer k (peer k c)) f) ∗ dutyTok ER (kcell (peer k c, rcv k)) 0 ())
            ⊢ iprop(srcP m c (peer k c) ∗ (∃ f, dstP (peer k c) c f) ∗ dutyTok ER (kcell (c, snd k)) 0 () ∗ dutyTok ER (kcell (peer k c, rcv k)) 0 ()) from by
          rw [peer_peer]
          iintro ⟨⟨H1, H2⟩, ⟨H3, H4⟩⟩
          isplitl [H1]; · iexact H1
          isplitl [H3]; · iexact H3
          isplitl [H2]; · iexact H2
          iexact H4))
      isplitl [Hst]; · iexact Hst
      iexact Hg
    isplitl [Hat]; · iexact Hat
    iexact Hcr
  iexact Has

omit [FloatOps F] in
theorem bigSep_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun s => iprop(∃ κ : ℕ, cellInv ER (sched m) κ (kcell (c, s))))
          ∗ (bigSep Finset.univ fun s => reached ER (kcell (c, s)) 0) ∗ kept m c ∗ bigSep Finset.univ fun k => given k c) : sProp 𝕄)
      ⊢ bigSep Finset.univ (T₀ m) := by
  rw [bigSep_sep', bigSep_sep', bigSep_sep', ← bigSep_univ_prod (fun p : Dev nD × Sm => iprop(∃ κ : ℕ, cellInv ER (sched m) κ (kcell p))),
    ← bigSep_univ_prod (fun p : Dev nD × Sm => (reached ER (kcell p) 0 : sProp 𝕄)), across given]
  iintro ⟨HI, #HR, Hk, Hg⟩
  ihave HK := (BI.bigSep_exists_pi Finset.univ (fun (p : Dev nD × Sm) (κ : ℕ) => (cellInv ER (sched m) κ (kcell p) : sProp 𝕄))) $$ HI
  icases HK with ⟨%K, #HI⟩
  iapply (bigSep_under (R := records m K) fun c _ => ready m K c)
  isplitr
  · unfold records; isplitl; · iexact HI
    iexact HR
  · rw [bigSep_sep']
    isplitl [Hk]; · iexact Hk
    iexact Hg

omit [FloatOps F] in
/-- The launch's holdings and the protocol's state make every device's start. -/
theorem deal :
    iprop((bigSep Finset.univ fun c : Dev nD => Cert.StartAll.holdings O₀ m ρ c) ∗ bigSep Finset.univ (G m))
      ⊢ (|={Set.univ}=> bigSep Finset.univ (T₀ m) : sProp 𝕄) := by
  rw [← bigSep_sep']
  exact ((bigSep_mono fun c _ => sort m ρ c).trans (bigSep_fupd _ _)).trans (BI.fupd_mono (regroup m))

end Cert.Scatter

end
-- ==== Proof.Adam.lean ====
/-
  The optimizer's step on one device: from any contents of its arrays, what the call leaves in each block of rows. A
  block reads the eight gathered parts of those rows, adds them, and updates the two moments and the step from the sum.
-/
module

public import proofs.«01_k».proof.Proof.Proto
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.ValueKit
public import Idealize.ShloMosaic.Lib.Tactic

@[expose] public section

set_option maxRecDepth 16384

noncomputable section

namespace Cert.Scatter

open Cert.KernelIdeal Cert.KernelIdeal.Gen
open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (V : Dev nD → Valuation τ sig (Elt F))

/-! ## The block of rows a point reads -/

/-- Window `w`'s block at point `t`. -/
def rowsAt (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-! ## What one block leaves -/

/-- Part `j` of a block of gathered rows. -/
abbrev part0 : Rect S8x200x1024 := Rect.unit (s := S8x200x1024) ![0, 0, 0] S1x200x1024.size inb_S8x200x1024_S1x200x1024_0_0_0
abbrev part1 : Rect S8x200x1024 := Rect.unit (s := S8x200x1024) ![1, 0, 0] S1x200x1024.size inb_S8x200x1024_S1x200x1024_1_0_0
abbrev part2 : Rect S8x200x1024 := Rect.unit (s := S8x200x1024) ![2, 0, 0] S1x200x1024.size inb_S8x200x1024_S1x200x1024_2_0_0
abbrev part3 : Rect S8x200x1024 := Rect.unit (s := S8x200x1024) ![3, 0, 0] S1x200x1024.size inb_S8x200x1024_S1x200x1024_3_0_0
abbrev part4 : Rect S8x200x1024 := Rect.unit (s := S8x200x1024) ![4, 0, 0] S1x200x1024.size inb_S8x200x1024_S1x200x1024_4_0_0
abbrev part5 : Rect S8x200x1024 := Rect.unit (s := S8x200x1024) ![5, 0, 0] S1x200x1024.size inb_S8x200x1024_S1x200x1024_5_0_0
abbrev part6 : Rect S8x200x1024 := Rect.unit (s := S8x200x1024) ![6, 0, 0] S1x200x1024.size inb_S8x200x1024_S1x200x1024_6_0_0
abbrev part7 : Rect S8x200x1024 := Rect.unit (s := S8x200x1024) ![7, 0, 0] S1x200x1024.size inb_S8x200x1024_S1x200x1024_7_0_0
/-- All of a block of rows. -/
abbrev allRows : Rect S200x1024 := Rect.unit (s := S200x1024) ![0, 0] S200x1024.size inb_S200x1024_S200x1024_0_0

/-- The sum of the eight parts. -/
def sumOf (x : Vec F S8x200x1024 .f32) : FVec F S200x1024 .f32 :=
  k1_pay3 (View.ld x part0) (View.ld x part1) (View.ld x part2) (View.ld x part3) (View.ld x part4) (View.ld x part5) (View.ld x part6) (View.ld x part7)
/-- The first moment after the step. -/
def firstOf (x : Vec F S8x200x1024 .f32) (mo : Vec F S200x1024 .f32) : FVec F S200x1024 .f32 :=
  k1_pay4 (View.ld x part0) (View.ld x part1) (View.ld x part2) (View.ld x part3) (View.ld x part4) (View.ld x part5) (View.ld x part6) (View.ld x part7) (View.ld mo allRows)
/-- The second moment after the step. -/
def secondOf (x : Vec F S8x200x1024 .f32) (vo : Vec F S200x1024 .f32) : FVec F S200x1024 .f32 :=
  k1_pay1 (sumOf x) (View.ld vo allRows)
/-- The change of the weights. -/
def changeOf (x : Vec F S8x200x1024 .f32) (wt mo vo : Vec F S200x1024 .f32) : FVec F S200x1024 .f32 :=
  k1_pay2 (sumOf x) (firstOf x mo) (View.ld vo allRows) (View.ld wt allRows)

/-- One store over all of a block's rows leaves what it stored. -/
theorem canon_all (p : Vec F S200x1024 .f32) : View.canon [(⟨allRows, p⟩ : View.Piece (Elt F) S200x1024 .f32)] = p :=
  View.canon_cons_unit_lit (S := S200x1024) (off := ![0, 0]) inb_S200x1024_S200x1024_0_0 p [] (by decide)

omit [FloatOps F] in
/-- Such a store covers the block. -/
theorem cover_all (p : Vec F S200x1024 .f32) (y : S200x1024.Idx) :
    ∃ pc ∈ ([⟨allRows, p⟩] : List (View.Piece (Elt F) S200x1024 .f32)), y ∈ pc.1.set :=
  View.cover_of_tiled [⟨allRows, p⟩] S200x1024.size (by rfl) y

/-! ## The body -/

set_option maxHeartbeats 1000000 in
/-- One call of the body: the inputs stay, and each result's buffer is left at its value of the inputs. -/
theorem step_body (c : Dev nD) (E : Set ℕ) (i : grid1.Coords) (arg1 : Memref sig .tc .vmem S8x200x1024 .f32) (harg1 : arg1.IsWhole) (arg2 : Memref sig .tc .vmem S200x1024 .f32) (harg2 : arg2.IsWhole) (arg3 : Memref sig .tc .vmem S200x1024 .f32) (harg3 : arg3.IsWhole) (arg4 : Memref sig .tc .vmem S200x1024 .f32) (harg4 : arg4.IsWhole) (arg5 : Memref sig .tc .vmem S200x1024 .f32) (harg5 : arg5.IsWhole) (arg6 : Memref sig .tc .vmem S200x1024 .f32) (harg6 : arg6.IsWhole) (arg7 : Memref sig .tc .vmem S200x1024 .f32) (harg7 : arg7.IsWhole) (arg8 : Memref sig .tc .vmem S200x1024 .f32) (harg8 : arg8.IsWhole)
    (x : Vec F S8x200x1024 .f32) (wt mo vo : Vec F S200x1024 .f32) (K : PUnit → sProp 𝕄) :
    iprop(owns (c : Thread nD τ) arg1 fullShare x ∗ owns (c : Thread nD τ) arg2 fullShare wt ∗ owns (c : Thread nD τ) arg3 fullShare mo ∗ owns (c : Thread nD τ) arg4 fullShare vo ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare wt ∗ owns (c : Thread nD τ) arg3 fullShare mo ∗ owns (c : Thread nD τ) arg4 fullShare vo ∗ owns (c : Thread nD τ) arg5 fullShare (sumOf x) ∗ owns (c : Thread nD τ) arg6 fullShare (changeOf x wt mo vo) ∗ owns (c : Thread nD τ) arg7 fullShare (firstOf x mo) ∗ owns (c : Thread nD τ) arg8 fullShare (secondOf x vo)) -∗ K ⟨⟩))
      ⊢ wp frame (wpE (defs₀ (F := F)) Variants.none c none) E (cc1_adam_big i arg1 harg1 arg2 harg2 arg3 harg3 arg4 harg4 arg5 harg5 arg6 harg6 arg7 harg7 arg8 harg8) K := by
  simp only [cc1_adam_big_eq_skeleton]; unfold cc1_adam_big_skel
  simp only [k1_part1_eq_skeleton]
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩, ⟨%d7, %f7, -, H7⟩, ⟨%d8, %f8, -, H8⟩, Hk⟩
  subst h1 h2 h3 h4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine ((View.read_writes_eq_canon _ _ _ (cover_all _)).trans (canon_all _)).trans ?_
    rfl
  isplitl [H6]
  · iexists _; isplitr
    swap; · iexact H6
    ipureintro
    refine ((View.read_writes_eq_canon _ _ _ (cover_all _)).trans (canon_all _)).trans ?_
    rfl
  isplitl [H7]
  · iexists _; isplitr
    swap; · iexact H7
    ipureintro
    refine ((View.read_writes_eq_canon _ _ _ (cover_all _)).trans (canon_all _)).trans ?_
    rfl
  iexists _; isplitr
  swap; · iexact H8
  ipureintro
  refine ((View.read_writes_eq_canon _ _ _ (cover_all _)).trans (canon_all _)).trans ?_
  rfl

/-! ## The pipeline's proof data -/

/-- The step's proof data on a device: the arrays at `V`, each input's block left as it is, each result's at its value. -/
def stepDat (c : Dev nD) : Dat τ (Elt F) Unit ℕ UU ℕ cfg1 c where
  A w := V c (Proc.devRef .tc (Pipeline.arrRef spec1 w))
  after w t := match w with
    | ⟨0, _⟩ => rowsAt V c 0 t
    | ⟨1, _⟩ => rowsAt V c 1 t
    | ⟨2, _⟩ => rowsAt V c 2 t
    | ⟨3, _⟩ => rowsAt V c 3 t
    | ⟨4, _⟩ => sumOf (rowsAt V c 0 t)
    | ⟨5, _⟩ => changeOf (rowsAt V c 0 t) (rowsAt V c 1 t) (rowsAt V c 2 t) (rowsAt V c 3 t)
    | ⟨6, _⟩ => firstOf (rowsAt V c 0 t) (rowsAt V c 2 t)
    | ⟨7, _⟩ => secondOf (rowsAt V c 0 t) (rowsAt V c 3 t)
  Φ _ := iprop(Pipeline.scopedRest spec1 c ∗ emp)
  q _ := fullShare
  owed _ := 0

theorem stepDat_A (c : Dev nD) (w : Fin cfg1.W) : (stepDat V c).A w = V c (Proc.devRef .tc (Pipeline.arrRef spec1 w)) := by dsimp only [stepDat]
theorem after_0 (c : Dev nD) (t : Fin cfg1.N) : (stepDat V c).after 0 t = rowsAt V c 0 t := by dsimp only [stepDat]
theorem after_1 (c : Dev nD) (t : Fin cfg1.N) : (stepDat V c).after 1 t = rowsAt V c 1 t := by dsimp only [stepDat]
theorem after_2 (c : Dev nD) (t : Fin cfg1.N) : (stepDat V c).after 2 t = rowsAt V c 2 t := by dsimp only [stepDat]
theorem after_3 (c : Dev nD) (t : Fin cfg1.N) : (stepDat V c).after 3 t = rowsAt V c 3 t := by dsimp only [stepDat]
theorem after_4 (c : Dev nD) (t : Fin cfg1.N) : (stepDat V c).after 4 t = sumOf (rowsAt V c 0 t) := by dsimp only [stepDat]
theorem after_5 (c : Dev nD) (t : Fin cfg1.N) : (stepDat V c).after 5 t = changeOf (rowsAt V c 0 t) (rowsAt V c 1 t) (rowsAt V c 2 t) (rowsAt V c 3 t) := by dsimp only [stepDat]
theorem after_6 (c : Dev nD) (t : Fin cfg1.N) : (stepDat V c).after 6 t = firstOf (rowsAt V c 0 t) (rowsAt V c 2 t) := by dsimp only [stepDat]
theorem after_7 (c : Dev nD) (t : Fin cfg1.N) : (stepDat V c).after 7 t = secondOf (rowsAt V c 0 t) (rowsAt V c 3 t) := by dsimp only [stepDat]

/-- Each input's buffer holds its block when the body runs. -/
theorem found_0 (c : Dev nD) (t : Fin cfg1.N) (d) : (stepDat V c).before 0 t d = rowsAt V c 0 t :=
  ((stepDat V c).before_in_eq_fetched 0 rfl (fun _ => rfl) (fun _ _ _ => rfl) (fun t => by rw [after_0]; unfold Dat.blockOf rowsAt; rw [stepDat_A]; try rfl) t d).trans
    (by unfold Dat.fetched Dat.blockOf rowsAt; rw [stepDat_A]; try rfl)
theorem found_1 (c : Dev nD) (t : Fin cfg1.N) (d) : (stepDat V c).before 1 t d = rowsAt V c 1 t :=
  ((stepDat V c).before_in_eq_fetched 1 rfl (fun _ => rfl) (fun _ _ _ => rfl) (fun t => by rw [after_1]; unfold Dat.blockOf rowsAt; rw [stepDat_A]; try rfl) t d).trans
    (by unfold Dat.fetched Dat.blockOf rowsAt; rw [stepDat_A]; try rfl)
theorem found_2 (c : Dev nD) (t : Fin cfg1.N) (d) : (stepDat V c).before 2 t d = rowsAt V c 2 t :=
  ((stepDat V c).before_in_eq_fetched 2 rfl (fun _ => rfl) (fun _ _ _ => rfl) (fun t => by rw [after_2]; unfold Dat.blockOf rowsAt; rw [stepDat_A]; try rfl) t d).trans
    (by unfold Dat.fetched Dat.blockOf rowsAt; rw [stepDat_A]; try rfl)
theorem found_3 (c : Dev nD) (t : Fin cfg1.N) (d) : (stepDat V c).before 3 t d = rowsAt V c 3 t :=
  ((stepDat V c).before_in_eq_fetched 3 rfl (fun _ => rfl) (fun _ _ _ => rfl) (fun t => by rw [after_3]; unfold Dat.blockOf rowsAt; rw [stepDat_A]; try rfl) t d).trans
    (by unfold Dat.fetched Dat.blockOf rowsAt; rw [stepDat_A]; try rfl)

set_option maxHeartbeats 1000000 in
/-- The body at any point, on the buffers the pipeline hands it. -/
theorem step_point (c : Dev nD) (t : Fin cfg1.N) :
    iprop((stepDat V c).Φ t.castSucc ∗ (stepDat V c).owesAt () t.castSucc ∗ (∃ d, owns (c : Thread nD τ) (st1_0 t) fullShare ((stepDat V c).before 0 t d)) ∗ (∃ d, owns (c : Thread nD τ) (st1_1 t) fullShare ((stepDat V c).before 1 t d)) ∗ (∃ d, owns (c : Thread nD τ) (st1_2 t) fullShare ((stepDat V c).before 2 t d)) ∗ (∃ d, owns (c : Thread nD τ) (st1_3 t) fullShare ((stepDat V c).before 3 t d)) ∗ (∃ d, owns (c : Thread nD τ) (st1_4 t) fullShare ((stepDat V c).before 4 t d)) ∗ (∃ d, owns (c : Thread nD τ) (st1_5 t) fullShare ((stepDat V c).before 5 t d)) ∗ (∃ d, owns (c : Thread nD τ) (st1_6 t) fullShare ((stepDat V c).before 6 t d)) ∗ (∃ d, owns (c : Thread nD τ) (st1_7 t) fullShare ((stepDat V c).before 7 t d)))
      ⊢ wp frame (wpE (defs₀ (F := F)) Variants.none c none) Set.univ (bodyAt1 t) (fun _ =>
        iprop((stepDat V c).Φ t.succ ∗ (stepDat V c).owesAt () t.succ ∗ owns (c : Thread nD τ) (st1_0 t) fullShare ((stepDat V c).after 0 t) ∗ owns (c : Thread nD τ) (st1_1 t) fullShare ((stepDat V c).after 1 t) ∗ owns (c : Thread nD τ) (st1_2 t) fullShare ((stepDat V c).after 2 t) ∗ owns (c : Thread nD τ) (st1_3 t) fullShare ((stepDat V c).after 3 t) ∗ owns (c : Thread nD τ) (st1_4 t) fullShare ((stepDat V c).after 4 t) ∗ owns (c : Thread nD τ) (st1_5 t) fullShare ((stepDat V c).after 5 t) ∗ owns (c : Thread nD τ) (st1_6 t) fullShare ((stepDat V c).after 6 t) ∗ owns (c : Thread nD τ) (st1_7 t) fullShare ((stepDat V c).after 7 t))) := by
  unfold bodyAt1
  simp only [found_0, found_1, found_2, found_3]
  rw [show (stepDat V c).Φ t.succ = (stepDat V c).Φ t.castSucc from rfl,
    show (stepDat V c).owesAt () t.succ = (stepDat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (step_body c Set.univ (grid1.coords t) _ _ _ _ _ _ _ _ _ _ _ _ _ _ _ _ (rowsAt V c 0 t) (rowsAt V c 1 t) (rowsAt V c 2 t) (rowsAt V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's call of the body at a point is the printed one. -/
theorem step_row (t : Fin cfg1.N) : defs₀ (F := F) .tc cfg1.body (cfg1.bodyArgs t (cfg1.slots t)) = bodyAt1 t := by
  unfold defs₀; rw [Defs.onTc_tc]

/-- The library's obligation of the body, at every point. -/
theorem step_obligation (c : Dev nD) : BodyObligation (stepDat (F := F) V c) (defs₀ (F := F)) Variants.none () Set.univ := fun t => by
  rw [bigSep_W1, bigSep_W1, step_row]
  exact triple_restated (step_point V c t) rfl .rfl fun _ => .rfl

end Cert.Scatter

end
-- ==== Proof.Exchange.lean ====
/-
  The two regions of the program as steps of a device's run: the exchange, entered with the invariants over its cells
  already made, and the optimizer's step after it.
-/
module

public import proofs.«01_k».proof.Proof.Gen.KernelIdeal.Regions
public import proofs.«01_k».proof.Proof.Deal
public import proofs.«01_k».proof.Proof.Adam
public import Idealize.ShloMosaic.Lib.Pipeline.RegionArrays

@[expose] public section

set_option maxRecDepth 16384

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ UU ℕ

variable (m : (ℓ : Loc nD τ sig) → Buf (Elt F) ℓ) (ρ : Dev nD → PrngReg)

/-! ## The proof data of both regions -/

/-- The exchange windows nothing. -/
theorem over_none {M : Type} [URA M] (Φ : Fin cfg0.W → sProp M) : bigSep Finset.univ Φ = BI.emp := by
  haveI : IsEmpty (Fin cfg0.W) := ⟨fun w => Fin.elim0 w⟩
  rw [Finset.univ_eq_empty]; rfl

/-- What a device holds before (`0`) and after the exchange's one point. -/
def phase (c : Dev nD) : ℕ → sProp 𝕄
  | 0 => iprop(start m c ∗ Pipeline.scopedRest cfg0.spec c)
  | _ + 1 => iprop(done m c ∗ Pipeline.scopedRest cfg0.spec c)

/-- What a device owes before and after it. -/
def dues (c : Dev nD) : ℕ → CellTallies nD τ sig Unit
  | 0 => O₀ c
  | _ + 1 => 0

/-- The exchange's proof data: before its one point the device's start, after it what the exchange handed over. -/
def exDat (c : Dev nD) : Dat τ (Elt F) Unit ℕ UU ℕ cfg0 c where
  A w := Fin.elim0 w
  after w _ := Fin.elim0 w
  Φ t := phase m c t.val
  q _ := fullShare
  owed t := dues c t.val

/-- What the arrays hold after the exchange. -/
def V₁ (c : Dev nD) : Valuation τ sig (Elt F) :=
  Function.update (fun b => m ((c : Thread nD τ).1, b)) (Proc.devRef .tc main_v1) (gathered m c)

/-- The proof data of both regions. -/
def pdats (p : Fin 2) (c : Dev nD) : Dat τ (Elt F) Unit ℕ UU ℕ (cfgs p) c :=
  match p with
  | ⟨0, _⟩ => exDat m c
  | ⟨1, _⟩ => stepDat (V₁ m) c
  | ⟨_ + 2, h⟩ => absurd h (by omega)

/-! ## The exchange as a region -/

/-- The body of the exchange, at its one point. -/
theorem ex_obligation (c : Dev nD) : BodyObligationLoose (exDat (F := F) m c) (defs₀ (F := F)) 𝒱₀ () Set.univ := fun t => by
  have ht : t.val = 0 := by have := t.isLt; have e : cfg0.N = 1 := N_0; omega
  rw [over_none, over_none]
  obtain ⟨n, hn⟩ := t
  obtain rfl : n = 0 := ht
  have h0 : (exDat m c).Φ (Fin.castSucc ⟨0, hn⟩) = iprop(start m c ∗ Pipeline.scopedRest cfg0.spec c) := rfl
  have h1 : (exDat m c).Φ (Fin.succ ⟨0, hn⟩) = iprop(done m c ∗ Pipeline.scopedRest cfg0.spec c) := rfl
  have o0 : (exDat m c).owed (Fin.castSucc ⟨0, hn⟩) = O₀ c := rfl
  have o1 : (exDat m c).owed (Fin.succ ⟨0, hn⟩) = 0 := rfl
  rw [h0, h1]
  unfold Dat.owesAt Pipeline.owesWithin
  rw [o0, o1]
  show (_ : sProp 𝕄) ⊢ wp frame (wpE defs₀ 𝒱₀ (c : Thread nD τ) none) Set.univ (bodyAt0 ⟨0, hn⟩) _
  iintro ⟨⟨Hs, Hr⟩, ⟨%W, -, HO⟩, -⟩
  iapply (exchange_body m c)
  isplitl [Hs HO]
  · isplitl [Hs]; · iexact Hs
    iexists W; iexact HO
  iintro ⟨Hd, Hf⟩
  isplitl [Hd Hr]
  · isplitl [Hd]; · iexact Hd
    iexact Hr
  isplitl [Hf]
  · unfold free; icases Hf with ⟨%W', HO⟩
    iexists W'
    isplitr; · ipureintro; exact fun _ _ => Or.inl trivial
    iexact HO
  iempintro

/-- What the exchange hands over, slot by slot. -/
def handed (c : Dev nD) : sProp 𝕄 := bigSep Finset.univ fun s => payAt m c s

/-- The exchange's step: from a device's start to what it handed over, every scoped semaphore at zero again. -/
theorem ex_region (c : Dev nD) {α : Type}
    (k : PUnit → Prog (TpuEff nD τ sig (Elt F) (Pipeline.Sig Λ₀ (Fin 2) fun p => (pcfgs (F := F) p).Adm) .tc) α) (Q : α → sProp 𝕄) :
    iprop((iprop(scopedBufs (c : Thread nD τ) ∗ scopedSems0 (c : Thread nD τ) ∗ handed m c ∗ free c)
          -∗ wp frame (wpE (Pipeline.defs pcfgs defs₀) (Variants.lift 𝒱₀) (c : Thread nD τ) none) Set.univ (k ⟨⟩) Q)
        ∗ start m c ∗ owes (c : Thread nD τ) (O₀ c) ∅ ∗ scopedBufs (c : Thread nD τ) ∗ idle c
        ∗ Pipeline.cellsGhost (Pipeline.pin (pcfgs (F := F)) adm) EP 0 c ∗ Pipeline.toksInit (Pipeline.pin (pcfgs (F := F)) adm) EP 0 c)
      ⊢ wp frame (wpE (Pipeline.defs pcfgs defs₀) (Variants.lift 𝒱₀) (c : Thread nD τ) none) Set.univ (.op (.customCall (Pipeline.entry 0) ()) k) Q := by
  have hsb := Pipeline.scopedBufs_split (Ix := Unit) (Val := Elt F) (Name := ℕ) (U := UU) (Lvl := ℕ) (nD := nD) (τ := τ)
    cfgs 0 winFacts0.stage_scoped winFacts0.stage_inj stage_whole0 c
  have h0 : (pdats m 0 c).Φ 0 = iprop(start m c ∗ Pipeline.scopedRest cfg0.spec c) := rfl
  have h1 : (pdats m 0 c).Φ (Fin.last (cfgs 0).N) = iprop(done m c ∗ Pipeline.scopedRest cfg0.spec c) := rfl
  have hw : (iprop(emp) : sProp 𝕄) ⊢ Pipeline.cellsWaits (Pipeline.pin (pcfgs (F := F)) adm) (pdats m) () 0 c :=
    Pipeline.cellsWaits_intro (Pipeline.pin (pcfgs (F := F)) adm) (pdats m) () 0 c fun w => Fin.elim0 w
  iintro ⟨Hk, Hst, HO, Hsc, Hid, Hg, Ht⟩
  unfold idle
  icases Hid with ⟨Hcells, Hidle⟩
  iapply (fupd_wp frame (wpE (Pipeline.defs pcfgs defs₀) (Variants.lift 𝒱₀) (c : Thread nD τ) none) Set.univ _ _)
  imod (Pipeline.cellsInit_alloc (Pipeline.pin (pcfgs (F := F)) adm) (pdats m) EP cellOf_inj 0 c) $$ [Hcells Hg] with ⟨%κ, -, Hinit⟩
  · isplitl [Hcells]; · iexact Hcells
    iexact Hg
  imodintro
  iapply (Pipeline.wp_customCall_entry_frame (pcfgs (F := F)) adm (pdats m) () EP κ cellOf_inj 0 defs₀ 𝒱₀ (fun _ => fullShare) c Set.univ
      (fun _ _ => Set.mem_univ _) (ex_obligation m c) (fun w => Fin.elim0 w) none (by simp)
      (X := start m c) (Y := handed m c) (R := Pipeline.scopedRest cfg0.spec c) (I := Pipeline.idleSems0 cfgs cellOf_inj 0 ownSemFacts c)
      (Entails.of_eq hsb) ?_ ?_ (k := k) (Q := Q)) $$ [Hst HO Hsc Hinit Ht Hidle]
  · rw [h0]
    iintro ⟨Hs, -, Hr⟩
    isplitl [Hs]; · iexact Hs
    iexact Hr
  · rw [h1, sems_split, hsb]
    unfold done idle handed
    iintro ⟨⟨⟨Hp, Hsem⟩, Hr⟩, Hc, Hst, Hi⟩
    isplitl [Hp]; · iexact Hp
    isplitl [Hsem Hc Hi]
    · isplitl [Hsem]; · iexact Hsem
      isplitl [Hc]; · iexact Hc
      iexact Hi
    isplitl [Hst]; · iexact Hst
    iexact Hr
  · isplitl [HO Hinit Ht]
    · unfold Pipeline.EntryPre Pipeline.PerCore.EntryPre
      isplitr
      · unfold Dat.arrays; rw [over_none]; iempintro
      isplitl [HO]
      · unfold Dat.owesAt Pipeline.owesWithin
        rw [show (pdats m 0 c).owed 0 = O₀ c from rfl]
        iexists ∅
        isplitr; · ipureintro; exact fun _ _ => Or.inl trivial
        iexact HO
      isplitr; · iapply hw; iempintro
      isplitl [Hinit]; · iexact Hinit
      iexact Ht
    isplitr
    · rw [Pipeline.prefHeld_of_none (pcfgs (F := F) 0).pre rfl c (fun _ => fullShare) _]
      iempintro
    isplitl [Hst]; · iexact Hst
    isplitl [Hidle]; · iexact Hidle
    iexact Hsc
  · iintro ⟨HE, Hh, Hss, Hsb⟩
    unfold Pipeline.EntryPost Pipeline.PerCore.EntryPost
    icases HE with ⟨-, HO⟩
    iapply Hk
    isplitl [Hsb]; · iexact Hsb
    isplitl [Hss]; · iexact Hss
    isplitl [Hh]; · iexact Hh
    unfold Dat.owesAt Pipeline.owesWithin free
    rw [show (pdats m 0 c).owed (Fin.last (Pipeline.pin (pcfgs (F := F)) adm 0).N) = 0 from rfl]
    icases HO with ⟨%W, -, HO⟩
    iexists W; iexact HO

end Cert.Scatter

end
-- ==== Proof.Run.lean ====
/-
  A device's whole run: the exchange, then the optimizer's step over what it gathered; and every weakly fair execution
  of the program from it, with the final contents of the arrays.
-/
module

public import proofs.«01_k».proof.Proof.Exchange

@[expose] public section

set_option maxRecDepth 16384

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg)

variable {F : FTy → Type} [FloatOps F]

local notation "𝕄" => MT nD τ sig Unit (Elt F) ℕ UU ℕ

variable (m : (ℓ : Loc nD τ sig) → Buf (Elt F) ℓ) (ρ : Dev nD → PrngReg)

/-! ## The optimizer's region -/

/-- What the optimizer's step leaves in window `w`'s array. -/
def outcome (c : Dev nD) (w : Fin cfg1.W) := (stepDat (V₁ m) c).arrAt w cfg1.N

/-- What the arrays hold at the end. -/
def V₂ (c : Dev nD) : Valuation τ sig (Elt F) :=
  Function.update (Function.update (Function.update (Function.update (V₁ m c)
    (Proc.devRef .tc main_v2_0) (outcome m c 4)) (Proc.devRef .tc main_v2_1) (outcome m c 5))
    (Proc.devRef .tc main_v2_2) (outcome m c 6)) (Proc.devRef .tc main_v2_3) (outcome m c 7)

theorem V₂_other (c : Dev nD) (b : Ref sig .tc) (h0 : b ≠ main_v2_0) (h1 : b ≠ main_v2_1) (h2 : b ≠ main_v2_2) (h3 : b ≠ main_v2_3) :
    V₂ m c (Proc.devRef .tc b) = V₁ m c (Proc.devRef .tc b) := by
  have n (x y : Ref sig .tc) (h : x ≠ y) : (Proc.devRef (τ := τ) .tc x : DevRef τ sig) ≠ Proc.devRef .tc y := fun e => h (Proc.devRef_injective _ e)
  unfold V₂
  rw [Function.update_of_ne (n _ _ h3), Function.update_of_ne (n _ _ h2), Function.update_of_ne (n _ _ h1), Function.update_of_ne (n _ _ h0)]

theorem V₁_other (c : Dev nD) (b : Ref sig .tc) (h : b ≠ main_v1) : V₁ m c (Proc.devRef .tc b) = m ((c : Thread nD τ).loc b) :=
  Function.update_of_ne (fun e => h (Proc.devRef_injective _ e)) _ _

theorem V₁_gathered (c : Dev nD) : V₁ m c (Proc.devRef .tc main_v1) = gathered m c := Function.update_self _ _ _

theorem V₂_0 (c : Dev nD) : V₂ m c (Proc.devRef .tc main_v2_0) = outcome m c 4 := by
  unfold V₂
  rw [Function.update_of_ne (by decide), Function.update_of_ne (by decide), Function.update_of_ne (by decide), Function.update_self]

theorem V₂_1 (c : Dev nD) : V₂ m c (Proc.devRef .tc main_v2_1) = outcome m c 5 := by
  unfold V₂
  rw [Function.update_of_ne (by decide), Function.update_of_ne (by decide), Function.update_self]

theorem V₂_2 (c : Dev nD) : V₂ m c (Proc.devRef .tc main_v2_2) = outcome m c 6 := by
  unfold V₂
  rw [Function.update_of_ne (by decide), Function.update_self]

theorem V₂_3 (c : Dev nD) : V₂ m c (Proc.devRef .tc main_v2_3) = outcome m c 7 := Function.update_self _ _ _

theorem kept_main_v1 (c : Dev nD) : V₂ m c (Proc.devRef .tc main_v1) = V₁ m c (Proc.devRef .tc main_v1) :=
  V₂_other m c main_v1 (by decide) (by decide) (by decide) (by decide)

theorem kept_main_arg1 (c : Dev nD) : V₂ m c (Proc.devRef .tc main_arg1) = V₁ m c (Proc.devRef .tc main_arg1) :=
  V₂_other m c main_arg1 (by decide) (by decide) (by decide) (by decide)

theorem kept_main_arg2 (c : Dev nD) : V₂ m c (Proc.devRef .tc main_arg2) = V₁ m c (Proc.devRef .tc main_arg2) :=
  V₂_other m c main_arg2 (by decide) (by decide) (by decide) (by decide)

theorem kept_main_arg3 (c : Dev nD) : V₂ m c (Proc.devRef .tc main_arg3) = V₁ m c (Proc.devRef .tc main_arg3) :=
  V₂_other m c main_arg3 (by decide) (by decide) (by decide) (by decide)

theorem entered (c : Dev nD) (w : Fin cfg1.W) : (pdats m 1 c).arrAt w 0 = V₁ m c (Proc.devRef .tc (Pipeline.arrRef spec1 w)) := rfl

theorem left (c : Dev nD) (w : Fin cfg1.W) : (pdats m 1 c).arrAt w cfg1.N = V₂ m c (Proc.devRef .tc (Pipeline.arrRef spec1 w)) := by
  match w with
  | ⟨0, h⟩ => exact ((stepDat (V₁ m) c).arrAt_in ⟨0, h⟩ rfl _).trans (kept_main_v1 m c).symm
  | ⟨1, h⟩ => exact ((stepDat (V₁ m) c).arrAt_in ⟨1, h⟩ rfl _).trans (kept_main_arg1 m c).symm
  | ⟨2, h⟩ => exact ((stepDat (V₁ m) c).arrAt_in ⟨2, h⟩ rfl _).trans (kept_main_arg2 m c).symm
  | ⟨3, h⟩ => exact ((stepDat (V₁ m) c).arrAt_in ⟨3, h⟩ rfl _).trans (kept_main_arg3 m c).symm
  | ⟨4, _⟩ => exact (V₂_0 m c).symm
  | ⟨5, _⟩ => exact (V₂_1 m c).symm
  | ⟨6, _⟩ => exact (V₂_2 m c).symm
  | ⟨7, _⟩ => exact (V₂_3 m c).symm
  | ⟨_ + 8, h⟩ => exact absurd h (Nat.not_lt.2 (Nat.le_add_left 8 _))

/-- What rides beside the optimizer's arrays. -/
def beside (c : Dev nD) : sProp 𝕄 := StableHlo.held (c : Thread nD τ) (Pipeline.ucRefs τ sig \ Pipeline.arrRefs spec1) (V₁ m c)

/-- The optimizer's region. -/
def stepSeg : RegionSeg (pcfgs (F := F)) adm (pdats m) () defs₀ 𝒱₀ L lv 1 :=
  RegionSeg.ofHeld (pcfgs (F := F)) adm (pdats m) () defs₀ 𝒱₀ L lv 1 (fun _ => 0) (fun _ => iprop(emp)) (fun _ => iprop(emp)) launch1.toP rfl
    (fun c => (step_obligation (V₁ m) c).loose) (fun _ _ => rfl) (fun _ => rfl)
    (fun c => (pdats m 1 c).share_full fun _ => rfl) (fun _ => Entails.refl _) (fun _ => Entails.refl _) (fun _ => 0)
    { hι := fun c w s => by
        have h : ∀ sm : SemLoc sig, L ((c : Thread nD τ), sm) = {()} := fun _ => if_pos rfl
        exact (h _) ▸ Finset.mem_singleton_self ()
      hιb := fun _ _ _ => le_refl _
      hD := fun _ _ _ h => absurd h (lt_irrefl 0) }
    (beside m) (V₁ m) (V₂ m) (entered m) (left m)

/-! ## The whole run of a device -/

/-- What a device holds at the end. -/
def Tₙ (c : Dev nD) : sProp 𝕄 := StableHlo.held (c : Thread nD τ) (Pipeline.ucRefs τ sig) (V₂ m c)

/-- The slots handed over and the other arrays, put together: every array at its contents after the exchange. -/
theorem rejoin (c : Dev nD) :
    iprop(handed m c ∗ others c (fun b => m ((c : Thread nD τ).loc b)))
      ⊢ StableHlo.held (c : Thread nD τ) (Pipeline.ucRefs τ sig) (V₁ m c) := by
  have ho : others c (fun b => m ((c : Thread nD τ).loc b)) = (others c (fun b => V₁ m c (Proc.devRef .tc b)) : sProp 𝕄) := by
    unfold others
    refine BI.bigSep_congr fun b hb => ?_
    show (((c : Thread nD τ).loc b) ↦{fullShare} m ((c : Thread nD τ).loc b) : sProp 𝕄) = ((c : Thread nD τ).loc b) ↦{fullShare} V₁ m c (Proc.devRef .tc b)
    rw [V₁_other m c b (Finset.ne_of_mem_erase hb)]
  have hg : V₁ m c (Proc.devRef .tc main_v1) = gathered m c := V₁_gathered m c
  have ha : V₁ m c (Proc.devRef .tc main_arg0) = m ((c : Thread nD τ).loc main_arg0) := V₁_other m c main_arg0 (by decide)
  rw [← Pipeline.unscopedBufs_held, unscoped_split, ho]
  rw [hg, ha, src_slots m c, dst_slots c (gathered m c)]
  have hh : (handed m c : sProp 𝕄) = iprop((bigSep Finset.univ fun k => srcP m c (peer k c))
      ∗ (bigSep Finset.univ fun k => dstP c (peer k c) (gathered m c)) ∗ dstP c c (gathered m c) ∗ srcP m c c) := by
    unfold handed
    rw [BI.bigSep_univ_sum, BI.bigSep_univ_sum, BI.bigSep_univ_of_subsingleton (I := Unit) ()]
    rfl
  rw [hh]
  iintro ⟨⟨Hs, Hd, Ho⟩, Hr⟩
  icases Ho with ⟨Hdo, Hso⟩
  isplitl [Hs Hso]
  · isplitl [Hso]; · iexact Hso
    iexact Hs
  isplitl [Hd Hdo]
  · isplitl [Hdo]; · iexact Hdo
    iexact Hd
  iexact Hr

/-- How a device ends. -/
def ended (c : Dev nD) (_ : PUnit) : sProp 𝕄 :=
  iprop(Tₙ m c ∗ boundary (c : Thread nD τ) ∗ ∃ W, owes (c : Thread nD τ) (0 : CellTallies nD τ sig Unit) W)

/-- The optimizer's step, over what the exchange left. -/
theorem step_region (c : Dev nD) :
    iprop(StableHlo.held (c : Thread nD τ) (Pipeline.ucRefs τ sig) (V₁ m c) ∗ boundary (c : Thread nD τ) ∗ free c ∗ levAts L lv
        ∗ Pipeline.cellsGhost (Pipeline.pin (pcfgs (F := F)) adm) EP 1 c ∗ Pipeline.toksInit (Pipeline.pin (pcfgs (F := F)) adm) EP 1 c)
      ⊢ wp frame (wpE (Pipeline.defs pcfgs defs₀) (Variants.lift 𝒱₀) (c : Thread nD τ) none) Set.univ
          (.op (.customCall (Pipeline.entry 1) ()) fun _ => .ret ⟨⟩) (ended m c) := by
  have hsub : Pipeline.arrRefs spec1 ⊆ Pipeline.ucRefs τ sig := Pipeline.arrRefs_sub_ucRefs spec1 (by decide)
  have hs1 : (StableHlo.held (c : Thread nD τ) (Pipeline.ucRefs τ sig) (V₁ m c) : sProp 𝕄)
      = iprop(StableHlo.held (c : Thread nD τ) (Pipeline.arrRefs spec1) (V₁ m c) ∗ beside m c) :=
    StableHlo.held_sub_split (c : Thread nD τ) hsub (V₁ m c)
  have hs2 : (Tₙ m c : sProp 𝕄) = iprop(StableHlo.held (c : Thread nD τ) (Pipeline.arrRefs spec1) (V₂ m c) ∗ beside m c) := by
    unfold beside Tₙ
    rw [StableHlo.held_sub_split (c : Thread nD τ) hsub (V₂ m c)]
    refine congrArg (fun P : sProp 𝕄 => iprop(StableHlo.held (c : Thread nD τ) (Pipeline.arrRefs spec1) (V₂ m c) ∗ P))
      (StableHlo.held_congr (c : Thread nD τ) fun b hb => ?_)
    have hn := (Finset.mem_sdiff.mp hb).2
    have hin : ∀ w : Fin cfg1.W, (Proc.devRef .tc (Pipeline.arrRef spec1 w) : DevRef τ sig) ∈ Pipeline.arrRefs spec1 := fun w =>
      Finset.mem_map_of_mem _ (Finset.mem_image_of_mem _ (Finset.mem_univ w))
    have ne : ∀ w : Fin cfg1.W, b ≠ Proc.devRef .tc (Pipeline.arrRef spec1 w) := fun w e => hn (e ▸ hin w)
    have n4 : b ≠ Proc.devRef .tc main_v2_0 := by have h := ne ⟨4, by decide⟩; exact h
    have n5 : b ≠ Proc.devRef .tc main_v2_1 := by have h := ne ⟨5, by decide⟩; exact h
    have n6 : b ≠ Proc.devRef .tc main_v2_2 := by have h := ne ⟨6, by decide⟩; exact h
    have n7 : b ≠ Proc.devRef .tc main_v2_3 := by have h := ne ⟨7, by decide⟩; exact h
    unfold V₂
    rw [Function.update_of_ne n7, Function.update_of_ne n6, Function.update_of_ne n5, Function.update_of_ne n4]
  have hpre : (stepSeg m).pre c = iprop(StableHlo.held (c : Thread nD τ) (Pipeline.arrRefs spec1) (V₁ m c) ∗ emp ∗ beside m c
      ∗ ∃ W, owes (c : Thread nD τ) (0 : CellTallies nD τ sig Unit) W) := rfl
  have hpost : (stepSeg m).post c = iprop(StableHlo.held (c : Thread nD τ) (Pipeline.arrRefs spec1) (V₂ m c) ∗ emp ∗ beside m c
      ∗ ∃ W, owes (c : Thread nD τ) (0 : CellTallies nD τ sig Unit) W) := rfl
  rw [hs1]
  iintro ⟨⟨Harr, Hrest⟩, Hb, Hf, Hlev, Hg1, Ht1⟩
  iapply (RegionSeg.wp (pcfgs (F := F)) adm (pdats m) () cellOf_inj EP defs₀ 𝒱₀ L lv (stepSeg m) c none (by simp) (fun _ => .ret ⟨⟩) (ended m c))
  rw [hpre, hpost]
  isplitr [Hb Harr Hrest Hf Hlev Hg1 Ht1]
  · iintro ⟨Hb, Harr, -, Hrest, Hf⟩
    rw [wp_ret frame (wpE (Pipeline.defs pcfgs defs₀) (Variants.lift 𝒱₀) (c : Thread nD τ) none) Set.univ (⟨⟩ : PUnit)]
    imodintro
    unfold ended
    rw [hs2]
    isplitl [Harr Hrest]
    · isplitl [Harr]; · iexact Harr
      iexact Hrest
    isplitl [Hb]; · iexact Hb
    iexact Hf
  isplitl [Hb]; · iexact Hb
  isplitl [Harr Hrest Hf]
  · isplitl [Harr]; · iexact Harr
    isplitr; · iempintro
    isplitl [Hrest]; · iexact Hrest
    unfold free; iexact Hf
  isplitl [Hlev]; · iexact Hlev
  isplitl [Hg1]; · iexact Hg1
  iexact Ht1

theorem ghost_split (c : Dev nD) : (Pipeline.ghostOn (pcfgs (F := F)) adm EP Finset.univ c : sProp 𝕄)
      = iprop((Pipeline.cellsGhost (Pipeline.pin (pcfgs (F := F)) adm) EP 0 c ∗ Pipeline.toksInit (Pipeline.pin (pcfgs (F := F)) adm) EP 0 c)
        ∗ (Pipeline.cellsGhost (Pipeline.pin (pcfgs (F := F)) adm) EP 1 c ∗ Pipeline.toksInit (Pipeline.pin (pcfgs (F := F)) adm) EP 1 c)
        ∗ Pipeline.ghostOn (pcfgs (F := F)) adm EP ((Finset.univ.erase 0).erase 1) c) := by
  rw [← Pipeline.PerCore.ghostOn_erase (pcfgs (F := F)) (fun _ => adm) EP (p := 1) (S := Finset.univ.erase 0) (by decide) c,
    ← Pipeline.PerCore.ghostOn_erase (pcfgs (F := F)) (fun _ => adm) EP (p := 0) (S := Finset.univ) (by decide) c]

theorem main_is (c : Dev nD) : main (F := F) c
    = .op (.customCall (Pipeline.entry 0) ()) fun _ => .op (.customCall (Pipeline.entry 1) ()) fun _ => .ret ⟨⟩ := rfl

/-- A device's run. -/
theorem run_device (c : Dev nD) :
    iprop(T₀ m c ∗ levAts L lv ∗ Pipeline.ghostOn (pcfgs (F := F)) adm EP Finset.univ c)
      ⊢ wp frame (wpE (Pipeline.defs pcfgs defs₀) (Variants.lift 𝒱₀) (c : Thread nD τ) none) Set.univ (main c) (ended m c) := by
  have hb : (boundary (c : Thread nD τ) : sProp 𝕄) = iprop(scopedBufs (c : Thread nD τ) ∗ scopedSems0 (c : Thread nD τ) ∗ opIdle (c : Thread nD τ)) := rfl
  rw [ghost_split, main_is]
  unfold T₀ aside
  iintro ⟨⟨Hst, Hsb, Hid, Hop, HO, Hoth⟩, Hlev, ⟨Hg0, Ht0⟩, ⟨Hg1, Ht1⟩, -⟩
  iapply (ex_region m c (fun _ => .op (.customCall (Pipeline.entry 1) ()) fun _ => .ret ⟨⟩) (ended m c))
  isplitr [Hst HO Hsb Hid Hg0 Ht0]
  · iintro ⟨Hsb, Hss, Hh, Hf⟩
    iapply (step_region m c)
    isplitl [Hh Hoth]
    · iapply (rejoin m c)
      isplitl [Hh]; · iexact Hh
      iexact Hoth
    rw [hb]
    isplitl [Hsb Hss Hop]
    · isplitl [Hsb]; · iexact Hsb
      isplitl [Hss]; · iexact Hss
      iexact Hop
    isplitl [Hf]; · iexact Hf
    isplitl [Hlev]; · iexact Hlev
    isplitl [Hg1]; · iexact Hg1
    iexact Ht1
  isplitl [Hst]; · iexact Hst
  isplitl [HO]; · iexact HO
  isplitl [Hsb]; · iexact Hsb
  isplitl [Hid]; · iexact Hid
  isplitl [Hg0]; · iexact Hg0
  iexact Ht0

/-! ## The whole run -/

/-- Every weakly fair execution ends, with the arrays as `V₂` says and every semaphore at zero. -/
theorem run_main :
    θ_run (defs (F := F)) (onTc main) ⟨m, fun _ => 0, ρ⟩ (fun r =>
      (∀ c : Dev nD, ∀ b ∈ Pipeline.ucRefs τ sig, r.2.mem (c, b) = V₂ m c b) ∧ r.2.sem = fun _ => 0) :=
  Cert.StartAll.θ_run_from_launch (pcfgs (F := F)) adm cellOf_inj EP defs₀ 𝒱₀ L lv m ρ main O₀ L_of_ne (G m) u₀
    (by
      have hu : (ownU u₀ : sProp 𝕄) ⊢ iprop(BI.own (EP (initOf (Pipeline.cells cfgs cellOf_inj) (Pipeline.launchToks cfgs cellOf_inj)))
          ∗ BI.own (ER (initOf allCells allToks))) := ownU_pair _ _
      iintro Hu
      ihave Hp := hu $$ Hu
      icases Hp with ⟨HP, HR⟩
      imod (fund_all m) $$ HR with HG
      imodintro
      isplitl [HP]; · iexact HP
      iexact HG)
    (T₀ m) (Tₙ m) (deal m ρ) (run_device m)
    (fun c s => ∀ b ∈ Pipeline.ucRefs τ sig, s.mem (c, b) = V₂ m c b)
    (fun c s' => by
      iintro ⟨HT, HSI⟩
      imodintro
      unfold Tₙ StableHlo.held
      iapply (pointsTo_read_all (Pipeline.ucRefs τ sig) (fun b => (c, b)) (V₂ m c) s')
      isplitl [HT]; · iexact HT
      iexact HSI)
    (fun s h hz => ⟨h, funext fun g => hz g (.inr (regions_no_unscoped g.2))⟩)

end Cert.Scatter

end
-- ==== Proof.Rows.lean ====
/-
  What the optimizer's step leaves, element by element: every result array is a function of the weights, the moments and
  the eight gathered parts at that element.
-/
module

public import proofs.«01_k».proof.Proof.Run
public import Idealize.ShloMosaic.Lib.Pipeline.ValueKit.Geometry
public import Idealize.ShloMosaic.Lib.Pipeline.Value
public import Idealize.ShloMosaic.Lib.ValueIdx
public import Idealize.ShloMosaic.Lib.ValueLayout

@[expose] public section

set_option maxRecDepth 16384

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ UU ℕ

/-! ## One element -/

/-- The sum of eight parts, in order. -/
def sum8 (f : Fin 8 → F .f32) : F .f32 :=
  FloatOps.addf (FloatOps.addf (FloatOps.addf (FloatOps.addf (FloatOps.addf (FloatOps.addf (FloatOps.addf (f 0) (f 1)) (f 2)) (f 3)) (f 4)) (f 5)) (f 6)) (f 7)

/-- The first moment of a gradient `g`. -/
def mom1 (g mo : F .f32) : F .f32 :=
  FloatOps.addf (FloatOps.mulf (Scalar.ofBits .f32 0x3F666666#32) mo) (FloatOps.mulf (Scalar.ofBits .f32 0x3DCCCCCD#32) g)

/-- The second moment of a gradient `g`. -/
def mom2 (g vo : F .f32) : F .f32 :=
  FloatOps.addf (FloatOps.mulf (Scalar.ofBits .f32 0x3F7FBE77#32) vo) (FloatOps.mulf (Scalar.ofBits .f32 0x3A83126F#32) (FloatOps.mulf g g))

/-- The change of a weight with new moments `m1` and `m2`. -/
def chg (m1 m2 wt : F .f32) : F .f32 :=
  FloatOps.mulf (Scalar.ofBits .f32 0xBA83126F#32) (FloatOps.addf
    (FloatOps.divf (FloatOps.divf m1 (Scalar.ofBits .f32 0x3F26BD02#32))
      (FloatOps.addf (FloatOps.sqrt (FloatOps.divf m2 (Scalar.ofBits .f32 0x3C231ACC#32))) (Scalar.ofBits .f32 0x322BCC77#32)))
    (FloatOps.mulf (Scalar.ofBits .f32 0x3C23D70A#32) wt))

/-! ## A block's values at an element -/

/-- A part of a block, its first axis dropped. -/
theorem part_at (x : Vec F S8x200x1024 .f32) (j : Fin 8) (off : Fin 3 → ℕ) (hoff : off = ![j.val, 0, 0]) (inb : ∀ a, off a + S1x200x1024.size a ≤ S8x200x1024.size a)
    (p : Fin 200) (q : Fin 1024) :
    shapeCast S200x1024 (View.ld x (Rect.unit (s := S8x200x1024) off S1x200x1024.size inb)) shapeCasts_S1x200x1024_S200x1024 (ValueIdx.ix2 p q) = x (ValueIdx.ix3 j p q) := by
  subst hoff
  refine (ValueIdx.shapeCast_1ab_ab_apply (a := 200) (b := 1024) _ _ p q).trans (View.ld_unit_apply_of x _ _ _ _ _ fun a => ?_)
  match a with
  | ⟨0, _⟩ => rfl
  | ⟨1, _⟩ => exact (Nat.zero_add _).symm
  | ⟨2, _⟩ => exact (Nat.zero_add _).symm

theorem rows_at (x : Vec F S200x1024 .f32) : shapeCast S200x1024 (View.ld x allRows) shapeCasts_S200x1024_S200x1024 = x := by
  rw [show View.ld x allRows = x from View.ld_unit_lit (S := S200x1024) (off := ![0, 0]) inb_S200x1024_S200x1024_0_0 x (by decide)]
  exact funext fun i => congrArg x (Shape.reshapeEquiv_self _ i)

theorem sumOf_at (x : Vec F S8x200x1024 .f32) (p : Fin 200) (q : Fin 1024) : sumOf x (ValueIdx.ix2 p q) = sum8 fun j => x (ValueIdx.ix3 j p q) := by
  unfold sumOf k1_pay3 sum8
  dsimp only [Idealize.ShloMosaic.addf]
  rw [part_at x 0 ![0, 0, 0] rfl, part_at x 1 ![1, 0, 0] rfl, part_at x 2 ![2, 0, 0] rfl, part_at x 3 ![3, 0, 0] rfl, part_at x 4 ![4, 0, 0] rfl,
    part_at x 5 ![5, 0, 0] rfl, part_at x 6 ![6, 0, 0] rfl, part_at x 7 ![7, 0, 0] rfl]

theorem firstOf_at (x : Vec F S8x200x1024 .f32) (mo : Vec F S200x1024 .f32) (y : S200x1024.Idx) : firstOf x mo y = mom1 (sumOf x y) (mo y) := by
  unfold firstOf k1_pay4
  rw [rows_at mo]
  rfl

theorem secondOf_at (x : Vec F S8x200x1024 .f32) (vo : Vec F S200x1024 .f32) (y : S200x1024.Idx) : secondOf x vo y = mom2 (sumOf x y) (vo y) := by
  unfold secondOf k1_pay1
  rw [rows_at vo]
  rfl

theorem changeOf_at (x : Vec F S8x200x1024 .f32) (wt mo vo : Vec F S200x1024 .f32) (y : S200x1024.Idx) :
    changeOf x wt mo vo y = chg (firstOf x mo y) (secondOf x vo y) (wt y) := by
  unfold changeOf k1_pay2
  rw [rows_at wt]
  rfl

/-! ## The arrays -/

variable (V : Dev nD → Valuation τ sig (Elt F))

/-- The gathered parts, the weights and the moments a device holds. -/
def partsIn (c : Dev nD) : S8x1600x1024.Idx → F .f32 := V c (Proc.devRef .tc main_v1)
def wIn (c : Dev nD) : S1600x1024.Idx → F .f32 := V c (Proc.devRef .tc main_arg1)
def mIn (c : Dev nD) : S1600x1024.Idx → F .f32 := V c (Proc.devRef .tc main_arg2)
def vIn (c : Dev nD) : S1600x1024.Idx → F .f32 := V c (Proc.devRef .tc main_arg3)

/-- The gradient: the eight parts added. -/
def grad (c : Dev nD) : S1600x1024.Idx → F .f32 := fun i => sum8 fun j => partsIn V c (ValueIdx.ix3 j (i 0) (i 1))
def newM (c : Dev nD) : S1600x1024.Idx → F .f32 := fun i => mom1 (grad V c i) (mIn V c i)
def newV (c : Dev nD) : S1600x1024.Idx → F .f32 := fun i => mom2 (grad V c i) (vIn V c i)
def delta (c : Dev nD) : S1600x1024.Idx → F .f32 := fun i => chg (newM V c i) (newV V c i) (wIn V c i)

/-! ## Where a block's element lies -/

theorem parts_emb (c : Dev nD) (t : Fin cfg1.N) (j : Fin 8) (y : S200x1024.Idx) :
    rowsAt V c 0 t (ValueIdx.ix3 j (y 0) (y 1)) = partsIn V c (ValueIdx.ix3 j (((cfg1.win 4).blk t).view.emb y 0) (((cfg1.win 4).blk t).view.emb y 1)) := by
  show partsIn V c (((cfg1.win 0).blk t).view.emb (ValueIdx.ix3 j (y 0) (y 1))) = _
  congr 1
  funext a
  apply Fin.ext
  match a with
  | ⟨0, _⟩ => blk_simp; show 0 * 8 + j.val = j.val; rw [Nat.zero_mul, Nat.zero_add]
  | ⟨1, _⟩ => blk_simp; show win1_0.index t 1 * 200 + (y 0).val = ((win1_4.blk t).view.emb y 0).val; blk_simp; rfl
  | ⟨2, _⟩ => blk_simp; show win1_0.index t 2 * 1024 + (y 1).val = ((win1_4.blk t).view.emb y 1).val; blk_simp; rfl

theorem sum_emb (c : Dev nD) (t : Fin cfg1.N) (y : S200x1024.Idx) :
    sumOf (rowsAt V c 0 t) y = grad V c (((cfg1.win 4).blk t).view.emb y) := by
  have hy : y = ValueIdx.ix2 (y 0) (y 1) := funext fun a => match a with | ⟨0, _⟩ => rfl | ⟨1, _⟩ => rfl
  exact (congrArg (sumOf (rowsAt V c 0 t)) hy).trans
    ((sumOf_at (rowsAt V c 0 t) (y 0) (y 1)).trans (congrArg sum8 (funext fun j => parts_emb V c t j y)))

theorem m_emb (c : Dev nD) (t : Fin cfg1.N) (y : S200x1024.Idx) : rowsAt V c 2 t y = mIn V c (((cfg1.win 4).blk t).view.emb y) := rfl
theorem v_emb (c : Dev nD) (t : Fin cfg1.N) (y : S200x1024.Idx) : rowsAt V c 3 t y = vIn V c (((cfg1.win 4).blk t).view.emb y) := rfl
theorem w_emb (c : Dev nD) (t : Fin cfg1.N) (y : S200x1024.Idx) : rowsAt V c 1 t y = wIn V c (((cfg1.win 4).blk t).view.emb y) := rfl

theorem first_emb (c : Dev nD) (t : Fin cfg1.N) (y : S200x1024.Idx) :
    firstOf (rowsAt V c 0 t) (rowsAt V c 2 t) y = newM V c (((cfg1.win 4).blk t).view.emb y) := by
  rw [firstOf_at, sum_emb, m_emb]; rfl

theorem second_emb (c : Dev nD) (t : Fin cfg1.N) (y : S200x1024.Idx) :
    secondOf (rowsAt V c 0 t) (rowsAt V c 3 t) y = newV V c (((cfg1.win 4).blk t).view.emb y) := by
  rw [secondOf_at, sum_emb, v_emb]; rfl

theorem change_emb (c : Dev nD) (t : Fin cfg1.N) (y : S200x1024.Idx) :
    changeOf (rowsAt V c 0 t) (rowsAt V c 1 t) (rowsAt V c 2 t) (rowsAt V c 3 t) y = delta V c (((cfg1.win 4).blk t).view.emb y) := by
  rw [changeOf_at, first_emb, second_emb, w_emb]; rfl

/-! ## The result arrays -/

theorem grad_done (c : Dev nD) : (stepDat V c).arrAt 4 cfg1.N = grad V c := by
  refine (stepDat V c).arrAt_eq_of_covers 4 _ (by decide +kernel) fun t hf y => ?_
  blk_simp
  rw [after_4]
  exact sum_emb V c t y

theorem delta_done (c : Dev nD) : (stepDat V c).arrAt 5 cfg1.N = delta V c := by
  refine (stepDat V c).arrAt_eq_of_covers 5 _ (by decide +kernel) fun t hf y => ?_
  blk_simp
  rw [after_5]
  exact change_emb V c t y

theorem newM_done (c : Dev nD) : (stepDat V c).arrAt 6 cfg1.N = newM V c := by
  refine (stepDat V c).arrAt_eq_of_covers 6 _ (by decide +kernel) fun t hf y => ?_
  blk_simp
  rw [after_6]
  exact first_emb V c t y

theorem newV_done (c : Dev nD) : (stepDat V c).arrAt 7 cfg1.N = newV V c := by
  refine (stepDat V c).arrAt_eq_of_covers 7 _ (by decide +kernel) fun t hf y => ?_
  blk_simp
  rw [after_7]
  exact second_emb V c t y

end Cert.Scatter

end
-- ==== Proof.Whole.lean ====
/-
  The reference's run, on one device over the whole arrays: its four results as functions of its arguments, and each of
  them read at an element.
-/
module

public import Idealize.ShloMosaic.Lib.StableHlo.Run
public import Idealize.ShloMosaic.Lib.IdealHost
public import Idealize.ShloMosaic.Lib.ValueIdx
public import Idealize.ShloMosaic.Lib.ValueLayout
public import proofs.«01_k».proof.Proof.Gen.ReferenceIdeal

@[expose] public section

noncomputable section

namespace Cert.Whole

open Cert.ReferenceIdeal Cert.ReferenceIdeal.Gen
open Idealize.ShloMosaic Idealize.ShloMosaic.TcCoe Idealize.ShloMosaic.StableHlo Idealize.SL.Sem

variable {F : FTy → Type} [FloatOps F]

/-- A constant over every row. -/
abbrev all (w : BitVec 32) : FVec F S12800x1024 .f32 := broadcastInDim S12800x1024 ![] bcast_S_S12800x1024 (constant S_ .f32 w)

/-- The gradient: the sum over the eight devices' parts. -/
def gradR (x : FVec F S64x1600x1024 .f32) : FVec F S12800x1024 .f32 :=
  Host.reduceAdd (shapeCast S8x12800x1024 x shapeCasts_S64x1600x1024_S8x12800x1024) (constant S_ .f32 0x00000000#32) reducesTo_S8x12800x1024_S12800x1024_d0 h_S_
/-- The new first moment, -/
def mR (g mo : FVec F S12800x1024 .f32) : FVec F S12800x1024 .f32 := addf (mulf (all 0x3F666666#32) mo) (mulf (all 0x3DCCCCCD#32) g)
/-- the new second moment, -/
def vR (g vo : FVec F S12800x1024 .f32) : FVec F S12800x1024 .f32 := addf (mulf (all 0x3F7FBE77#32) vo) (mulf (all 0x3A83126F#32) (mulf g g))
/-- and the change of the weights. -/
def dR (m1 m2 wt : FVec F S12800x1024 .f32) : FVec F S12800x1024 .f32 :=
  mulf (all 0xBA83126F#32) (addf (Host.divf (Host.divf m1 (all 0x3F26BD02#32)) (addf (Host.sqrt (Host.divf m2 (all 0x3C231ACC#32))) (all 0x322BCC77#32)))
    (mulf (all 0x3C23D70A#32) wt))

/-- The operations of @main, in order. -/
abbrev ops : List (HloOp τ sig (Elt F)) :=
  [ StableHlo.reshape main_arg0 main_v0 (rfl : (.f32 : EltTy) = .f32) shapeCasts_S64x1600x1024_S8x12800x1024,
    StableHlo.nullary main_cst (constant S_ .f32 0x00000000#32),
    StableHlo.binary main_v0 main_cst main_v1 ((fun x v => Host.reduceAdd x v reducesTo_S8x12800x1024_S12800x1024_d0 h_S_) : (⟨S8x12800x1024, .f32⟩ : BufTy).Contents (Elt F) → (⟨S_, .f32⟩ : BufTy).Contents (Elt F) → (⟨S12800x1024, .f32⟩ : BufTy).Contents (Elt F)),
    StableHlo.nullary main_cst_0 (constant S_ .f32 0x3F666666#32),
    StableHlo.unary main_cst_0 main_v2 (broadcastInDim S12800x1024 ![] bcast_S_S12800x1024 : (⟨S_, .f32⟩ : BufTy).Contents (Elt F) → (⟨S12800x1024, .f32⟩ : BufTy).Contents (Elt F)),
    StableHlo.binary main_v2 main_arg2 main_v3 (mulf : (⟨S12800x1024, .f32⟩ : BufTy).Contents (Elt F) → (⟨S12800x1024, .f32⟩ : BufTy).Contents (Elt F) → (⟨S12800x1024, .f32⟩ : BufTy).Contents (Elt F)),
    StableHlo.nullary main_cst_1 (constant S_ .f32 0x3DCCCCCD#32),
    StableHlo.unary main_cst_1 main_v4 (broadcastInDim S12800x1024 ![] bcast_S_S12800x1024 : (⟨S_, .f32⟩ : BufTy).Contents (Elt F) → (⟨S12800x1024, .f32⟩ : BufTy).Contents (Elt F)),
    StableHlo.binary main_v4 main_v1 main_v5 (mulf : (⟨S12800x1024, .f32⟩ : BufTy).Contents (Elt F) → (⟨S12800x1024, .f32⟩ : BufTy).Contents (Elt F) → (⟨S12800x1024, .f32⟩ : BufTy).Contents (Elt F)),
    StableHlo.binary main_v3 main_v5 main_v6 (addf : (⟨S12800x1024, .f32⟩ : BufTy).Contents (Elt F) → (⟨S12800x1024, .f32⟩ : BufTy).Contents (Elt F) → (⟨S12800x1024, .f32⟩ : BufTy).Contents (Elt F)),
    StableHlo.nullary main_cst_2 (constant S_ .f32 0x3F7FBE77#32),
    StableHlo.unary main_cst_2 main_v7 (broadcastInDim S12800x1024 ![] bcast_S_S12800x1024 : (⟨S_, .f32⟩ : BufTy).Contents (Elt F) → (⟨S12800x1024, .f32⟩ : BufTy).Contents (Elt F)),
    StableHlo.binary main_v7 main_arg3 main_v8 (mulf : (⟨S12800x1024, .f32⟩ : BufTy).Contents (Elt F) → (⟨S12800x1024, .f32⟩ : BufTy).Contents (Elt F) → (⟨S12800x1024, .f32⟩ : BufTy).Contents (Elt F)),
    StableHlo.binary main_v1 main_v1 main_v9 (mulf : (⟨S12800x1024, .f32⟩ : BufTy).Contents (Elt F) → (⟨S12800x1024, .f32⟩ : BufTy).Contents (Elt F) → (⟨S12800x1024, .f32⟩ : BufTy).Contents (Elt F)),
    StableHlo.nullary main_cst_3 (constant S_ .f32 0x3A83126F#32),
    StableHlo.unary main_cst_3 main_v10 (broadcastInDim S12800x1024 ![] bcast_S_S12800x1024 : (⟨S_, .f32⟩ : BufTy).Contents (Elt F) → (⟨S12800x1024, .f32⟩ : BufTy).Contents (Elt F)),
    StableHlo.binary main_v10 main_v9 main_v11 (mulf : (⟨S12800x1024, .f32⟩ : BufTy).Contents (Elt F) → (⟨S12800x1024, .f32⟩ : BufTy).Contents (Elt F) → (⟨S12800x1024, .f32⟩ : BufTy).Contents (Elt F)),
    StableHlo.binary main_v8 main_v11 main_v12 (addf : (⟨S12800x1024, .f32⟩ : BufTy).Contents (Elt F) → (⟨S12800x1024, .f32⟩ : BufTy).Contents (Elt F) → (⟨S12800x1024, .f32⟩ : BufTy).Contents (Elt F)),
    StableHlo.nullary main_cst_4 (constant S_ .f32 0x3F26BD02#32),
    StableHlo.unary main_cst_4 main_v13 (broadcastInDim S12800x1024 ![] bcast_S_S12800x1024 : (⟨S_, .f32⟩ : BufTy).Contents (Elt F) → (⟨S12800x1024, .f32⟩ : BufTy).Contents (Elt F)),
    StableHlo.binary main_v6 main_v13 main_v14 (Host.divf : (⟨S12800x1024, .f32⟩ : BufTy).Contents (Elt F) → (⟨S12800x1024, .f32⟩ : BufTy).Contents (Elt F) → (⟨S12800x1024, .f32⟩ : BufTy).Contents (Elt F)),
    StableHlo.nullary main_cst_5 (constant S_ .f32 0x3C231ACC#32),
    StableHlo.unary main_cst_5 main_v15 (broadcastInDim S12800x1024 ![] bcast_S_S12800x1024 : (⟨S_, .f32⟩ : BufTy).Contents (Elt F) → (⟨S12800x1024, .f32⟩ : BufTy).Contents (Elt F)),
    StableHlo.binary main_v12 main_v15 main_v16 (Host.divf : (⟨S12800x1024, .f32⟩ : BufTy).Contents (Elt F) → (⟨S12800x1024, .f32⟩ : BufTy).Contents (Elt F) → (⟨S12800x1024, .f32⟩ : BufTy).Contents (Elt F)),
    StableHlo.unary main_v16 main_v17 (Host.sqrt : (⟨S12800x1024, .f32⟩ : BufTy).Contents (Elt F) → (⟨S12800x1024, .f32⟩ : BufTy).Contents (Elt F)),
    StableHlo.nullary main_cst_6 (constant S_ .f32 0x322BCC77#32),
    StableHlo.unary main_cst_6 main_v18 (broadcastInDim S12800x1024 ![] bcast_S_S12800x1024 : (⟨S_, .f32⟩ : BufTy).Contents (Elt F) → (⟨S12800x1024, .f32⟩ : BufTy).Contents (Elt F)),
    StableHlo.binary main_v17 main_v18 main_v19 (addf : (⟨S12800x1024, .f32⟩ : BufTy).Contents (Elt F) → (⟨S12800x1024, .f32⟩ : BufTy).Contents (Elt F) → (⟨S12800x1024, .f32⟩ : BufTy).Contents (Elt F)),
    StableHlo.binary main_v14 main_v19 main_v20 (Host.divf : (⟨S12800x1024, .f32⟩ : BufTy).Contents (Elt F) → (⟨S12800x1024, .f32⟩ : BufTy).Contents (Elt F) → (⟨S12800x1024, .f32⟩ : BufTy).Contents (Elt F)),
    StableHlo.nullary main_cst_7 (constant S_ .f32 0x3C23D70A#32),
    StableHlo.unary main_cst_7 main_v21 (broadcastInDim S12800x1024 ![] bcast_S_S12800x1024 : (⟨S_, .f32⟩ : BufTy).Contents (Elt F) → (⟨S12800x1024, .f32⟩ : BufTy).Contents (Elt F)),
    StableHlo.binary main_v21 main_arg1 main_v22 (mulf : (⟨S12800x1024, .f32⟩ : BufTy).Contents (Elt F) → (⟨S12800x1024, .f32⟩ : BufTy).Contents (Elt F) → (⟨S12800x1024, .f32⟩ : BufTy).Contents (Elt F)),
    StableHlo.binary main_v20 main_v22 main_v23 (addf : (⟨S12800x1024, .f32⟩ : BufTy).Contents (Elt F) → (⟨S12800x1024, .f32⟩ : BufTy).Contents (Elt F) → (⟨S12800x1024, .f32⟩ : BufTy).Contents (Elt F)),
    StableHlo.nullary main_cst_8 (constant S_ .f32 0xBA83126F#32),
    StableHlo.unary main_cst_8 main_v24 (broadcastInDim S12800x1024 ![] bcast_S_S12800x1024 : (⟨S_, .f32⟩ : BufTy).Contents (Elt F) → (⟨S12800x1024, .f32⟩ : BufTy).Contents (Elt F)),
    StableHlo.binary main_v24 main_v23 main_v25 (mulf : (⟨S12800x1024, .f32⟩ : BufTy).Contents (Elt F) → (⟨S12800x1024, .f32⟩ : BufTy).Contents (Elt F) → (⟨S12800x1024, .f32⟩ : BufTy).Contents (Elt F)) ]

theorem main_eq (c : Dev nD) : main (F := F) c = seq ops := rfl

variable (V : Valuation τ sig (Elt F))

theorem g_eq : after ops V (main_v1 : DevRef τ sig) = gradR (V (main_arg0 : DevRef τ sig)) := by
  after_results
  rfl
theorem m_eq : after ops V (main_v6 : DevRef τ sig) = mR (gradR (V (main_arg0 : DevRef τ sig))) (V (main_arg2 : DevRef τ sig)) := by
  after_results
  rfl
theorem v_eq : after ops V (main_v12 : DevRef τ sig) = vR (gradR (V (main_arg0 : DevRef τ sig))) (V (main_arg3 : DevRef τ sig)) := by
  after_results
  rfl
theorem d_eq : after ops V (main_v25 : DevRef τ sig)
    = dR (mR (gradR (V (main_arg0 : DevRef τ sig))) (V (main_arg2 : DevRef τ sig))) (vR (gradR (V (main_arg0 : DevRef τ sig))) (V (main_arg3 : DevRef τ sig))) (V (main_arg1 : DevRef τ sig)) := by
  after_results
  rfl
theorem arg0_eq : after ops V (main_arg0 : DevRef τ sig) = V (main_arg0 : DevRef τ sig) := by after_results
theorem arg1_eq : after ops V (main_arg1 : DevRef τ sig) = V (main_arg1 : DevRef τ sig) := by after_results
theorem arg2_eq : after ops V (main_arg2 : DevRef τ sig) = V (main_arg2 : DevRef τ sig) := by after_results
theorem arg3_eq : after ops V (main_arg3 : DevRef τ sig) = V (main_arg3 : DevRef τ sig) := by after_results

theorem no_scoped_refs : (Finset.univ.filter fun b : Ref sig .tc => b.isScoped) = ∅ := by decide
theorem no_scoped_sems : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

variable (m : (ℓ : Loc nD τ sig) → Buf (Elt F) ℓ) (ρ : Dev nD → PrngReg)

/-- A device's arrays at the start. -/
abbrev at0 (c : Dev nD) (b : Ref sig .tc) : Buf (Elt F) ((c.tc : Thread nD τ).loc b) := m ((c.tc : Thread nD τ).loc b)

/-- The reference's run. -/
theorem run_main : θ_run defs (onTc (τ := τ) (main (F := F))) ⟨m, fun _ => 0, ρ⟩ fun r => ∀ c : Dev nD,
    r.2.mem ((c.tc : Thread nD τ).loc main_v1) = gradR (at0 m c main_arg0)
    ∧ r.2.mem ((c.tc : Thread nD τ).loc main_v25) = dR (mR (gradR (at0 m c main_arg0)) (at0 m c main_arg2)) (vR (gradR (at0 m c main_arg0)) (at0 m c main_arg3)) (at0 m c main_arg1)
    ∧ r.2.mem ((c.tc : Thread nD τ).loc main_v6) = mR (gradR (at0 m c main_arg0)) (at0 m c main_arg2)
    ∧ r.2.mem ((c.tc : Thread nD τ).loc main_v12) = vR (gradR (at0 m c main_arg0)) (at0 m c main_arg3)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c main_v1).trans (g_eq _), (h c main_v25).trans (d_eq _), (h c main_v6).trans (m_eq _),
      (h c main_v12).trans (v_eq _), (h c main_arg0).trans (arg0_eq _), (h c main_arg1).trans (arg1_eq _), (h c main_arg2).trans (arg2_eq _),
      (h c main_arg3).trans (arg3_eq _)⟩)
    (run_seq no_scoped_refs no_scoped_sems defs main (fun _ => ops) main_eq (fun _ => ops_sub) m ρ)

/-! ## At an element, over the extended reals -/

theorem all_at (w : BitVec 32) (i : S12800x1024.Idx) : (all w : FVec Ideal S12800x1024 .f32) i = Ideal.ofBits .f32 w :=
  ValueIdx.broadcastInDim_scalar_apply _ _ _

theorem reduces_rows : Shape.Reduces S8x12800x1024 [0] S12800x1024 := by decide

/-- Element `i` of the gradient: the sum of the eight parts there. -/
theorem gradR_at (x : FVec Ideal S64x1600x1024 .f32) (i : S12800x1024.Idx) :
    gradR x i = ∑ j : Fin 8, shapeCast S8x12800x1024 x shapeCasts_S64x1600x1024_S8x12800x1024 (ValueIdx.ix3 j (i 0) (i 1)) := by
  unfold gradR
  rw [ValueIdx.hostReduceAdd_apply, Ideal.hostReduceAdd_single reducesTo_S8x12800x1024_S12800x1024_d0 reduces_rows]
  rw [show (constant (F := Ideal) S_ .f32 0x00000000#32) (Shape.Idx.first h_S_) = (0 : EReal) by simp [constant], zero_add]
  refine Finset.sum_congr rfl fun j _ => congrArg _ (funext fun a => ?_)
  match a with
  | ⟨0, _⟩ => rfl
  | ⟨1, _⟩ => rfl
  | ⟨2, _⟩ => rfl

end Cert.Whole

end
-- ==== Proof.Agree.lean ====
/-
  The kernel's results against the reference's, element by element over the extended reals: device `c`'s gathered parts
  are its rows of every device's gradient, so their sum is its rows of the whole sum, and the step is elementwise.
-/
module

public import proofs.«01_k».proof.Proof.Rows
public import proofs.«01_k».proof.Proof.Whole
public import Idealize.ShloMosaic.Lib.Layout

@[expose] public section

noncomputable section

namespace Cert.Agree

open Idealize.ShloMosaic Idealize.ShloMosaic.TcCoe
open Cert.KernelIdeal Cert.Scatter

/-- Eight parts added in order are their sum. -/
theorem sum8_eq (f : Fin 8 → EReal) : Cert.Scatter.sum8 (F := Ideal) f = ∑ j, f j := by
  rw [Fin.sum_univ_eight]; rfl

abbrev WholeRows : Shape := ⟨2, ![12800, 1024]⟩
abbrev WholeParts : Shape := ⟨3, ![64, 1600, 1024]⟩

theorem tiles : Layout.Tiles S1600x1024 WholeRows 0 8 := by decide
theorem tilesParts : Layout.Tiles S8x1600x1024 WholeParts 0 8 := by decide

variable (m : (ℓ : Loc nD τ sig) → Buf (Elt Ideal) ℓ)

/-- The gathered parts at an element of the sum. -/
theorem parts_eq (x : WholeParts.Idx → EReal)
    (hx : ∀ c : Dev nD, m ((c : Thread nD τ).loc main_arg0) = Layout.block S8x1600x1024 WholeParts 0 8 c x tilesParts)
    (c : Dev nD) (j : Fin 8) (i : S1600x1024.Idx) :
    gathered m c (ValueIdx.ix3 j (i 0) (i 1))
      = shapeCast ⟨3, ![8, 12800, 1024]⟩ x Cert.ReferenceIdeal.Gen.shapeCasts_S64x1600x1024_S8x12800x1024
          (ValueIdx.ix3 j (tiles.idx c i 0) (tiles.idx c i 1)) := by
  unfold gathered
  rw [hx]
  refine (Idealize.ShloMosaic.shapeCast_apply x _ _ _ ?_).symm
  rw [Shape.rowMajor_val_three, Shape.rowMajor_val_three]
  show ((j.val * 8 + c.val) * 1600 + (i 0).val) * 1024 + (i 1).val = (j.val * 12800 + (c.val * 1600 + (i 0).val)) * 1024 + (i 1).val
  ring

variable (x : WholeParts.Idx → EReal) (w mo vo : WholeRows.Idx → EReal)

/-- What the devices hold of the whole arrays. -/
structure Cut : Prop where
  x : ∀ c : Dev nD, m ((c : Thread nD τ).loc main_arg0) = Layout.block S8x1600x1024 WholeParts 0 8 c x tilesParts
  w : ∀ c : Dev nD, m ((c : Thread nD τ).loc main_arg1) = Layout.block S1600x1024 WholeRows 0 8 c w tiles
  mo : ∀ c : Dev nD, m ((c : Thread nD τ).loc main_arg2) = Layout.block S1600x1024 WholeRows 0 8 c mo tiles
  vo : ∀ c : Dev nD, m ((c : Thread nD τ).loc main_arg3) = Layout.block S1600x1024 WholeRows 0 8 c vo tiles

variable {m x w mo vo} (h : Cut m x w mo vo)
include h

theorem grad_block (c : Dev nD) : grad (V₁ m) c = Layout.block S1600x1024 WholeRows 0 8 c (Cert.Whole.gradR x) tiles := by
  funext i
  rw [Layout.block_apply, Cert.Whole.gradR_at]
  unfold grad
  rw [sum8_eq]
  refine Finset.sum_congr rfl fun j _ => ?_
  unfold partsIn
  rw [V₁_gathered]
  exact parts_eq m x h.x c j i

theorem newM_block (c : Dev nD) : newM (V₁ m) c = Layout.block S1600x1024 WholeRows 0 8 c (Cert.Whole.mR (Cert.Whole.gradR x) mo) tiles := by
  funext i
  unfold newM mIn
  rw [grad_block h, V₁_other m c main_arg2 (by decide), h.mo]
  simp only [Layout.block_apply]
  unfold Cert.Whole.mR mom1
  show _ = Cert.Whole.all _ _ * _ + Cert.Whole.all _ _ * _
  rw [Cert.Whole.all_at, Cert.Whole.all_at]
  rfl

theorem newV_block (c : Dev nD) : newV (V₁ m) c = Layout.block S1600x1024 WholeRows 0 8 c (Cert.Whole.vR (Cert.Whole.gradR x) vo) tiles := by
  funext i
  unfold newV vIn
  rw [grad_block h, V₁_other m c main_arg3 (by decide), h.vo]
  simp only [Layout.block_apply]
  unfold Cert.Whole.vR mom2
  show _ = Cert.Whole.all _ _ * _ + Cert.Whole.all _ _ * (_ * _)
  rw [Cert.Whole.all_at, Cert.Whole.all_at]
  rfl

theorem delta_block (c : Dev nD) : delta (V₁ m) c = Layout.block S1600x1024 WholeRows 0 8 c
    (Cert.Whole.dR (Cert.Whole.mR (Cert.Whole.gradR x) mo) (Cert.Whole.vR (Cert.Whole.gradR x) vo) w) tiles := by
  funext i
  unfold delta wIn
  rw [newM_block h, newV_block h, V₁_other m c main_arg1 (by decide), h.w]
  simp only [Layout.block_apply]
  unfold Cert.Whole.dR chg
  show _ = (Cert.Whole.all (F := Ideal) _ _ : EReal) * (Ideal.div (Ideal.div _ (Cert.Whole.all (F := Ideal) _ _ : EReal)) (Ideal.sqrt (Ideal.div _ (Cert.Whole.all (F := Ideal) _ _ : EReal)) + (Cert.Whole.all (F := Ideal) _ _ : EReal)) + (Cert.Whole.all (F := Ideal) _ _ : EReal) * _)
  simp only [Cert.Whole.all_at]
  rfl

end Cert.Agree

end
-- ==== Proof.lean ====
/-
  The claims, put together: the two frames from the kernel's one run, the reference's frame from its own, and the values
  from both runs.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gathers
public import proofs.«01_k».proof.Proof.SmallClaims
public import proofs.«01_k».proof.Proof.InProduct
public import proofs.«01_k».proof.Proof.OutProduct
public import proofs.«01_k».proof.Proof.UpProduct
public import proofs.«01_k».proof.Proof.DownProduct
public import proofs.«01_k».proof.Proof.DownDgrad
public import proofs.«01_k».proof.Proof.UpDgrad
public import proofs.«01_k».proof.Proof.OutDgrad
public import proofs.«01_k».proof.Proof.InDgrad
public import proofs.«01_k».proof.Proof.DownWgrad
public import proofs.«01_k».proof.Proof.UpWgrad
public import proofs.«01_k».proof.Proof.OutWgrad
public import proofs.«01_k».proof.Proof.InWgrad
public import proofs.«01_k».proof.Proof.NormBack
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

section Run

open Cert.KernelIdeal Cert.Scatter

variable {F : FTy → Type} [FloatOps F] (m : (ℓ : Loc nD τ sig) → Buf (Elt F) ℓ)

/-- An argument is as it was. -/
theorem arg_kept (c : Dev nD) (b : Ref sig .tc) (h0 : b ≠ main_v2_0) (h1 : b ≠ main_v2_1) (h2 : b ≠ main_v2_2)
    (h3 : b ≠ main_v2_3) (h : b ≠ main_v1) : V₂ m c (Proc.devRef .tc b) = m ((c : Thread nD τ).loc b) :=
  (V₂_other m c b h0 h1 h2 h3).trans (V₁_other m c b h)

/-- What the kernel's run leaves, buffer by buffer. -/
theorem kernel_run (ρ : Dev nD → PrngReg) : θ_run (Cert.KernelIdeal.defs (F := F)) (onTc (τ := τ) (main (F := F))) ⟨m, fun _ => 0, ρ⟩ fun r =>
    (∀ c : Dev nD, (r.2.mem ((c.tc : Thread nD τ).loc main_v2_0) = grad (V₁ m) c
      ∧ r.2.mem ((c.tc : Thread nD τ).loc main_v2_1) = delta (V₁ m) c
      ∧ r.2.mem ((c.tc : Thread nD τ).loc main_v2_2) = newM (V₁ m) c
      ∧ r.2.mem ((c.tc : Thread nD τ).loc main_v2_3) = newV (V₁ m) c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  (θ_run _ _ _).mono (fun _ h => ⟨fun c =>
    ⟨⟨(h.1 c (Proc.devRef .tc main_v2_0) (by decide)).trans ((V₂_0 m c).trans (grad_done (V₁ m) c)),
      (h.1 c (Proc.devRef .tc main_v2_1) (by decide)).trans ((V₂_1 m c).trans (delta_done (V₁ m) c)),
      (h.1 c (Proc.devRef .tc main_v2_2) (by decide)).trans ((V₂_2 m c).trans (newM_done (V₁ m) c)),
      (h.1 c (Proc.devRef .tc main_v2_3) (by decide)).trans ((V₂_3 m c).trans (newV_done (V₁ m) c))⟩,
      (h.1 c (Proc.devRef .tc main_arg0) (by decide)).trans (arg_kept m c main_arg0 (by decide) (by decide) (by decide) (by decide) (by decide)),
      (h.1 c (Proc.devRef .tc main_arg1) (by decide)).trans (arg_kept m c main_arg1 (by decide) (by decide) (by decide) (by decide) (by decide)),
      (h.1 c (Proc.devRef .tc main_arg2) (by decide)).trans (arg_kept m c main_arg2 (by decide) (by decide) (by decide) (by decide) (by decide)),
      (h.1 c (Proc.devRef .tc main_arg3) (by decide)).trans (arg_kept m c main_arg3 (by decide) (by decide) (by decide) (by decide) (by decide))⟩,
    h.2⟩) (run_main m ρ)

end Run

section Same

attribute [local instance] Cert.Kernel.Gen.facts Cert.KernelIdeal.Gen.facts

/-- Both printed kernels have the same bodies, -/
theorem bodies_same : Cert.Kernel.defs₀ (F := Bits) = Cert.KernelIdeal.defs₀ (F := Bits) := by
  unfold Cert.Kernel.defs₀ Cert.KernelIdeal.defs₀
  refine congrArg Defs.onTc ?_
  funext l a
  match l with
  | 0 => rfl
  | 1 => rfl

/-- so the same procedures. -/
theorem defs_same : Cert.Kernel.defs (F := Bits) = Cert.KernelIdeal.defs (F := Bits) :=
  congrArg (Pipeline.defs Cert.Kernel.pcfgs) bodies_same

end Same

theorem frame_kernel : @Cert.quiescent_Kernel Cert.Kernel.Gen.facts := by
  intro m ρ _
  rw [defs_same]
  exact (θ_run Cert.KernelIdeal.defs _ _).mono (fun _ h => ⟨fun c => (h.1 c).2, h.2⟩) (kernel_run (F := Bits) m ρ)

theorem frame_kernelIdeal : @Cert.quiescent_KernelIdeal Cert.KernelIdeal.Gen.facts := fun m ρ _ =>
  (θ_run Cert.KernelIdeal.defs _ _).mono (fun _ h => ⟨fun c => (h.1 c).2, h.2⟩) (kernel_run (F := Ideal) m ρ)

theorem frame_reference : @Cert.quiescent_ReferenceIdeal Cert.ReferenceIdeal.Gen.facts := fun m ρ _ =>
  (θ_run Cert.ReferenceIdeal.defs _ _).mono (fun r h => ⟨fun c => (h c).2.2.2.2, sem_eq_zero_of_no_sems (by decide) r.2⟩)
    (Cert.Whole.run_main (F := Ideal) m ρ)

/-- The two runs agree: every device holds its rows of the reference's results. -/
theorem values : @Cert.algebraic_KernelIdeal_ReferenceIdeal Cert.KernelIdeal.Gen.facts Cert.ReferenceIdeal.Gen.facts := by
  intro m g m' g' _ hin
  have hc : Cert.Agree.Cut m (Cert.Whole.at0 m' 0 Cert.ReferenceIdeal.main_arg0) (Cert.Whole.at0 m' 0 Cert.ReferenceIdeal.main_arg1)
      (Cert.Whole.at0 m' 0 Cert.ReferenceIdeal.main_arg2) (Cert.Whole.at0 m' 0 Cert.ReferenceIdeal.main_arg3) :=
    ⟨fun c => (hin c).1, fun c => (hin c).2.1, fun c => (hin c).2.2.1, fun c => (hin c).2.2.2⟩
  refine ⟨_, _, _, _, (θ_run Cert.KernelIdeal.defs _ _).mono (fun _ h c => ?_) (kernel_run (F := Ideal) m g),
    (θ_run Cert.ReferenceIdeal.defs _ _).mono (fun _ h => h 0) (Cert.Whole.run_main (F := Ideal) m' g')⟩
  obtain ⟨⟨h0, h1, h2, h3⟩, hk⟩ := h.1 c
  exact ⟨h0.trans (Cert.Agree.grad_block hc c), h1.trans (Cert.Agree.delta_block hc c), h2.trans (Cert.Agree.newM_block hc c),
    h3.trans (Cert.Agree.newV_block hc c), hk⟩

theorem claim : Cert.Claim := ⟨Cert.Kernel.Gen.facts, Cert.KernelIdeal.Gen.facts, Cert.ReferenceIdeal.Gen.facts,
  Cert.Small.Gen.facts, Cert.SmallIdeal.Gen.facts, Cert.SmallReferenceIdeal.Gen.facts,
  Cert.Weights.Gen.facts, Cert.WeightsIdeal.Gen.facts, Cert.WeightsReferenceIdeal.Gen.facts, Cert.WeightsReference.Gen.facts,
  Cert.Mod.Gen.facts, Cert.ModIdeal.Gen.facts, Cert.ModReferenceIdeal.Gen.facts, Cert.ModReference.Gen.facts,
  Cert.Cond.Gen.facts, Cert.CondIdeal.Gen.facts, Cert.CondReferenceIdeal.Gen.facts, Cert.CondReference.Gen.facts,
  Cert.InProj.Gen.facts, Cert.InProjIdeal.Gen.facts, Cert.InProjReferenceIdeal.Gen.facts,
  Cert.OutProj.Gen.facts, Cert.OutProjIdeal.Gen.facts, Cert.OutProjReferenceIdeal.Gen.facts,
  Cert.UpProj.Gen.facts, Cert.UpProjIdeal.Gen.facts, Cert.UpProjReferenceIdeal.Gen.facts,
  Cert.DownProj.Gen.facts, Cert.DownProjIdeal.Gen.facts, Cert.DownProjReferenceIdeal.Gen.facts,
  Cert.DownDgrad.Gen.facts, Cert.DownDgradIdeal.Gen.facts, Cert.DownDgradReferenceIdeal.Gen.facts,
  Cert.UpDgrad.Gen.facts, Cert.UpDgradIdeal.Gen.facts, Cert.UpDgradReferenceIdeal.Gen.facts,
  Cert.OutDgrad.Gen.facts, Cert.OutDgradIdeal.Gen.facts, Cert.OutDgradReferenceIdeal.Gen.facts,
  Cert.InDgrad.Gen.facts, Cert.InDgradIdeal.Gen.facts, Cert.InDgradReferenceIdeal.Gen.facts,
  Cert.DownWgrad.Gen.facts, Cert.DownWgradIdeal.Gen.facts, Cert.DownWgradReferenceIdeal.Gen.facts,
  Cert.UpWgrad.Gen.facts, Cert.UpWgradIdeal.Gen.facts, Cert.UpWgradReferenceIdeal.Gen.facts,
  Cert.OutWgrad.Gen.facts, Cert.OutWgradIdeal.Gen.facts, Cert.OutWgradReferenceIdeal.Gen.facts,
  Cert.InWgrad.Gen.facts, Cert.InWgradIdeal.Gen.facts, Cert.InWgradReferenceIdeal.Gen.facts,
  Cert.Norm1Bwd.Gen.facts, Cert.Norm1BwdIdeal.Gen.facts, Cert.Norm1BwdReferenceIdeal.Gen.facts,
  frame_kernel, frame_kernelIdeal, frame_reference,
  Cert.Gather.Small.frame_kernel, Cert.Gather.Small.frame_kernelIdeal, Cert.Gather.Small.frame_referenceIdeal,
  Cert.Gather.Weights.frame_kernel, Cert.Gather.Weights.frame_kernelIdeal, Cert.Gather.Weights.frame_referenceIdeal, Cert.Gather.Weights.frame_reference,
  Cert.Gather.Mod.frame_kernel, Cert.Gather.Mod.frame_kernelIdeal, Cert.Gather.Mod.frame_referenceIdeal, Cert.Gather.Mod.frame_reference,
  Cert.Gather.Cond.frame_kernel, Cert.Gather.Cond.frame_kernelIdeal, Cert.Gather.Cond.frame_referenceIdeal, Cert.Gather.Cond.frame_reference,
  Cert.Products.In.frame_kernel, Cert.Products.In.frame_kernelIdeal, Cert.Products.In.frame_reference,
  Cert.Products.Out.frame_kernel, Cert.Products.Out.frame_kernelIdeal, Cert.Products.Out.frame_reference,
  Cert.Products.Up.frame_kernel, Cert.Products.Up.frame_kernelIdeal, Cert.Products.Up.frame_reference,
  Cert.Products.Down.frame_kernel, Cert.Products.Down.frame_kernelIdeal, Cert.Products.Down.frame_reference,
  Cert.Products.DownBack.frame_kernel, Cert.Products.DownBack.frame_kernelIdeal, Cert.Products.DownBack.frame_reference,
  Cert.Products.UpBack.frame_kernel, Cert.Products.UpBack.frame_kernelIdeal, Cert.Products.UpBack.frame_reference,
  Cert.Products.OutBack.frame_kernel, Cert.Products.OutBack.frame_kernelIdeal, Cert.Products.OutBack.frame_reference,
  Cert.Products.InBack.frame_kernel, Cert.Products.InBack.frame_kernelIdeal, Cert.Products.InBack.frame_reference,
  Cert.Products.DownGrad.frame_kernel, Cert.Products.DownGrad.frame_kernelIdeal, Cert.Products.DownGrad.frame_reference,
  Cert.Products.UpGrad.frame_kernel, Cert.Products.UpGrad.frame_kernelIdeal, Cert.Products.UpGrad.frame_reference,
  Cert.Products.OutGrad.frame_kernel, Cert.Products.OutGrad.frame_kernelIdeal, Cert.Products.OutGrad.frame_reference,
  Cert.Products.InGrad.frame_kernel, Cert.Products.InGrad.frame_kernelIdeal, Cert.Products.InGrad.frame_reference,
  Cert.NormBack.frame_kernel, Cert.NormBack.frame_kernelIdeal, Cert.NormBack.frame_reference,
  trivial, values,
  trivial, Cert.Gather.Small.values,
  trivial, Cert.Gather.Weights.values, Cert.Gather.Weights.exact,
  trivial, Cert.Gather.Mod.values, Cert.Gather.Mod.exact,
  trivial, Cert.Gather.Cond.values, Cert.Gather.Cond.exact,
  trivial, Cert.Products.In.values,
  trivial, Cert.Products.Out.values,
  trivial, Cert.Products.Up.values,
  trivial, Cert.Products.Down.values,
  trivial, Cert.Products.DownBack.values,
  trivial, Cert.Products.UpBack.values,
  trivial, Cert.Products.OutBack.values,
  trivial, Cert.Products.InBack.values,
  trivial, Cert.Products.DownGrad.values,
  trivial, Cert.Products.UpGrad.values,
  trivial, Cert.Products.OutGrad.values,
  trivial, Cert.Products.InGrad.values,
  trivial, Cert.NormBack.values⟩

end Cert.Proof

end
